-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_finite_ffnin [hPre_finite_ffnin : Cert.Pre_finite_ffnin.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_finite_ffnin.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_finite_ffnin [hPre_finite_ffnin : Cert.Pre_finite_ffnin.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_finite_ffnin.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4))) = (fun _ => 1#1)

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_finite_mixin [hPre_finite_mixin : Cert.Pre_finite_mixin.Facts] (m : (ℓ : Loc Cert.MixInIdeal.nD Cert.MixInIdeal.τ Cert.MixInIdeal.sig) → Buf (Elt Ideal) ℓ) : Prop :=
  ∀ c : Dev Cert.MixInIdeal.nD,
    (Cert.Pre_finite_mixin.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4))) = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_finite_mixin [hPre_finite_mixin : Cert.Pre_finite_mixin.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_finite_mixin.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4))) = (fun _ => 1#1)

def Pre_FoxBwd (m : (ℓ : Loc Cert.FoxBwd.nD Cert.FoxBwd.τ Cert.FoxBwd.sig) → Buf (Elt Bits) ℓ) : Prop :=
  True

def Pre_FoxBwdIdeal (m : (ℓ : Loc Cert.FoxBwdIdeal.nD Cert.FoxBwdIdeal.τ Cert.FoxBwdIdeal.sig) → Buf (Elt Ideal) ℓ) : Prop :=
  True

def Pre_FoxBwdIdeal_finite_foxbwd [hPre_finite_foxbwd : Cert.Pre_finite_foxbwd.Facts] (m : (ℓ : Loc Cert.FoxBwdIdeal.nD Cert.FoxBwdIdeal.τ Cert.FoxBwdIdeal.sig) → Buf (Elt Ideal) ℓ) : Prop :=
  ∀ c : Dev Cert.FoxBwdIdeal.nD,
    (Cert.Pre_finite_foxbwd.fn (F := Ideal) (m ((c.tc : Thread Cert.FoxBwdIdeal.nD Cert.FoxBwdIdeal.τ).loc Cert.FoxBwdIdeal.main_arg0)) (m ((c.tc : Thread Cert.FoxBwdIdeal.nD Cert.FoxBwdIdeal.τ).loc Cert.FoxBwdIdeal.main_arg1)) (m ((c.tc : Thread Cert.FoxBwdIdeal.nD Cert.FoxBwdIdeal.τ).loc Cert.FoxBwdIdeal.main_arg2)) (m ((c.tc : Thread Cert.FoxBwdIdeal.nD Cert.FoxBwdIdeal.τ).loc Cert.FoxBwdIdeal.main_arg3)) (m ((c.tc : Thread Cert.FoxBwdIdeal.nD Cert.FoxBwdIdeal.τ).loc Cert.FoxBwdIdeal.main_arg4)) (m ((c.tc : Thread Cert.FoxBwdIdeal.nD Cert.FoxBwdIdeal.τ).loc Cert.FoxBwdIdeal.main_arg5))) = (fun _ => 1#1)

def Pre_FoxBwdRefIdeal (m : (ℓ : Loc Cert.FoxBwdRefIdeal.nD Cert.FoxBwdRefIdeal.τ Cert.FoxBwdRefIdeal.sig) → Buf (Elt Ideal) ℓ) : Prop :=
  True

def Pre_FoxBwdRefIdeal_finite_foxbwd [hPre_finite_foxbwd : Cert.Pre_finite_foxbwd.Facts] (m : (ℓ : Loc Cert.FoxBwdRefIdeal.nD Cert.FoxBwdRefIdeal.τ Cert.FoxBwdRefIdeal.sig) → Buf (Elt Ideal) ℓ) : Prop :=
  ∀ c : Dev Cert.FoxBwdRefIdeal.nD,
    (Cert.Pre_finite_foxbwd.fn (F := Ideal) (m ((c.tc : Thread Cert.FoxBwdRefIdeal.nD Cert.FoxBwdRefIdeal.τ).loc Cert.FoxBwdRefIdeal.main_arg0)) (m ((c.tc : Thread Cert.FoxBwdRefIdeal.nD Cert.FoxBwdRefIdeal.τ).loc Cert.FoxBwdRefIdeal.main_arg1)) (m ((c.tc : Thread Cert.FoxBwdRefIdeal.nD Cert.FoxBwdRefIdeal.τ).loc Cert.FoxBwdRefIdeal.main_arg2)) (m ((c.tc : Thread Cert.FoxBwdRefIdeal.nD Cert.FoxBwdRefIdeal.τ).loc Cert.FoxBwdRefIdeal.main_arg3)) (m ((c.tc : Thread Cert.FoxBwdRefIdeal.nD Cert.FoxBwdRefIdeal.τ).loc Cert.FoxBwdRefIdeal.main_arg4)) (m ((c.tc : Thread Cert.FoxBwdRefIdeal.nD Cert.FoxBwdRefIdeal.τ).loc Cert.FoxBwdRefIdeal.main_arg5))) = (fun _ => 1#1)

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidIdeal_finite_ffnmid [hPre_finite_ffnmid : Cert.Pre_finite_ffnmid.Facts] (m : (ℓ : Loc Cert.FfnMidIdeal.nD Cert.FfnMidIdeal.τ Cert.FfnMidIdeal.sig) → Buf (Elt Ideal) ℓ) : Prop :=
  ∀ c : Dev Cert.FfnMidIdeal.nD,
    (Cert.Pre_finite_ffnmid.fn (F := Ideal) (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1)) (m ((c.tc : Thread Cert.FfnMidIdeal.nD Cert.FfnMidIdeal.τ).loc Cert.FfnMidIdeal.main_arg2)) (m ((c.tc : Thread Cert.FfnMidIdeal.nD Cert.FfnMidIdeal.τ).loc Cert.FfnMidIdeal.main_arg3))) = (fun _ => 1#1)

def Pre_FfnMidRefIdeal (m : (ℓ : Loc Cert.FfnMidRefIdeal.nD Cert.FfnMidRefIdeal.τ Cert.FfnMidRefIdeal.sig) → Buf (Elt Ideal) ℓ) : Prop :=
  True

def Pre_FfnMidRefIdeal_finite_ffnmid [hPre_finite_ffnmid : Cert.Pre_finite_ffnmid.Facts] (m : (ℓ : Loc Cert.FfnMidRefIdeal.nD Cert.FfnMidRefIdeal.τ Cert.FfnMidRefIdeal.sig) → Buf (Elt Ideal) ℓ) : Prop :=
  ∀ c : Dev Cert.FfnMidRefIdeal.nD,
    (Cert.Pre_finite_ffnmid.fn (F := Ideal) (m ((c.tc : Thread Cert.FfnMidRefIdeal.nD Cert.FfnMidRefIdeal.τ).loc Cert.FfnMidRefIdeal.main_arg0)) (m ((c.tc : Thread Cert.FfnMidRefIdeal.nD Cert.FfnMidRefIdeal.τ).loc Cert.FfnMidRefIdeal.main_arg1)) (m ((c.tc : Thread Cert.FfnMidRefIdeal.nD Cert.FfnMidRefIdeal.τ).loc Cert.FfnMidRefIdeal.main_arg2)) (m ((c.tc : Thread Cert.FfnMidRefIdeal.nD Cert.FfnMidRefIdeal.τ).loc Cert.FfnMidRefIdeal.main_arg3))) = (fun _ => 1#1)

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_MmRes (m : (ℓ : Loc Cert.MmRes.nD Cert.MmRes.τ Cert.MmRes.sig) → Buf (Elt Bits) ℓ) : Prop :=
  True

def Pre_MmResIdeal (m : (ℓ : Loc Cert.MmResIdeal.nD Cert.MmResIdeal.τ Cert.MmResIdeal.sig) → Buf (Elt Ideal) ℓ) : Prop :=
  True

def Pre_MmResRefIdeal (m : (ℓ : Loc Cert.MmResRefIdeal.nD Cert.MmResRefIdeal.τ Cert.MmResRefIdeal.sig) → Buf (Elt Ideal) ℓ) : Prop :=
  True

def Pre_Mm (m : (ℓ : Loc Cert.Mm.nD Cert.Mm.τ Cert.Mm.sig) → Buf (Elt Bits) ℓ) : Prop :=
  True

def Pre_MmIdeal (m : (ℓ : Loc Cert.MmIdeal.nD Cert.MmIdeal.τ Cert.MmIdeal.sig) → Buf (Elt Ideal) ℓ) : Prop :=
  True

def Pre_MmRefIdeal (m : (ℓ : Loc Cert.MmRefIdeal.nD Cert.MmRefIdeal.τ Cert.MmRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInIdeal_pre_finite_ffnin [hFfnInIdeal : Cert.FfnInIdeal.Facts] [hPre_finite_ffnin : Cert.Pre_finite_ffnin.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_finite_ffnin m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4))
      ∧ r.2.sem = fun _ => 0)

def quiescent_FfnInRefIdeal_pre_finite_ffnin [hFfnInRefIdeal : Cert.FfnInRefIdeal.Facts] [hPre_finite_ffnin : Cert.Pre_finite_ffnin.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_finite_ffnin m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInIdeal_pre_finite_mixin [hMixInIdeal : Cert.MixInIdeal.Facts] [hPre_finite_mixin : Cert.Pre_finite_mixin.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_finite_mixin m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_MixInRefIdeal_pre_finite_mixin [hMixInRefIdeal : Cert.MixInRefIdeal.Facts] [hPre_finite_mixin : Cert.Pre_finite_mixin.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_finite_mixin m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_FoxBwd [hFoxBwd : Cert.FoxBwd.Facts] : Prop :=
  ∀ (m : (ℓ : Loc Cert.FoxBwd.nD Cert.FoxBwd.τ Cert.FoxBwd.sig) → Buf (Elt Bits) ℓ) (g : Dev Cert.FoxBwd.nD → PrngReg), Pre_FoxBwd m →
    θ_run (Cert.FoxBwd.defs (F := Bits)) (onTc (τ := Cert.FoxBwd.τ) (Cert.FoxBwd.main (F := Bits))) ⟨m, fun _ => 0, g⟩ (fun r => (∀ c : Dev Cert.FoxBwd.nD,
      r.2.mem ((c.tc : Thread Cert.FoxBwd.nD Cert.FoxBwd.τ).loc Cert.FoxBwd.main_arg0) = m ((c.tc : Thread Cert.FoxBwd.nD Cert.FoxBwd.τ).loc Cert.FoxBwd.main_arg0)
      ∧ r.2.mem ((c.tc : Thread Cert.FoxBwd.nD Cert.FoxBwd.τ).loc Cert.FoxBwd.main_arg1) = m ((c.tc : Thread Cert.FoxBwd.nD Cert.FoxBwd.τ).loc Cert.FoxBwd.main_arg1)
      ∧ r.2.mem ((c.tc : Thread Cert.FoxBwd.nD Cert.FoxBwd.τ).loc Cert.FoxBwd.main_arg2) = m ((c.tc : Thread Cert.FoxBwd.nD Cert.FoxBwd.τ).loc Cert.FoxBwd.main_arg2)
      ∧ r.2.mem ((c.tc : Thread Cert.FoxBwd.nD Cert.FoxBwd.τ).loc Cert.FoxBwd.main_arg3) = m ((c.tc : Thread Cert.FoxBwd.nD Cert.FoxBwd.τ).loc Cert.FoxBwd.main_arg3)
      ∧ r.2.mem ((c.tc : Thread Cert.FoxBwd.nD Cert.FoxBwd.τ).loc Cert.FoxBwd.main_arg4) = m ((c.tc : Thread Cert.FoxBwd.nD Cert.FoxBwd.τ).loc Cert.FoxBwd.main_arg4)
      ∧ r.2.mem ((c.tc : Thread Cert.FoxBwd.nD Cert.FoxBwd.τ).loc Cert.FoxBwd.main_arg5) = m ((c.tc : Thread Cert.FoxBwd.nD Cert.FoxBwd.τ).loc Cert.FoxBwd.main_arg5))
      ∧ r.2.sem = fun _ => 0)

def quiescent_FoxBwdIdeal [hFoxBwdIdeal : Cert.FoxBwdIdeal.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4)
      ∧ r.2.mem ((c.tc : Thread Cert.FoxBwdIdeal.nD Cert.FoxBwdIdeal.τ).loc Cert.FoxBwdIdeal.main_arg5) = m ((c.tc : Thread Cert.FoxBwdIdeal.nD Cert.FoxBwdIdeal.τ).loc Cert.FoxBwdIdeal.main_arg5))
      ∧ r.2.sem = fun _ => 0)

def quiescent_FoxBwdIdeal_pre_finite_foxbwd [hFoxBwdIdeal : Cert.FoxBwdIdeal.Facts] [hPre_finite_foxbwd : Cert.Pre_finite_foxbwd.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg), Pre_FoxBwdIdeal_finite_foxbwd m →
    θ_run (Cert.FoxBwdIdeal.defs (F := Ideal)) (onTc (τ := Cert.FoxBwdIdeal.τ) (Cert.FoxBwdIdeal.main (F := Ideal))) ⟨m, fun _ => 0, g⟩ (fun r => (∀ c : Dev Cert.FoxBwdIdeal.nD,
      r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
      ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
      ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
      ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
      ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4)
      ∧ r.2.mem ((c.tc : Thread Cert.FoxBwdIdeal.nD Cert.FoxBwdIdeal.τ).loc Cert.FoxBwdIdeal.main_arg5) = m ((c.tc : Thread Cert.FoxBwdIdeal.nD Cert.FoxBwdIdeal.τ).loc Cert.FoxBwdIdeal.main_arg5))
      ∧ r.2.sem = fun _ => 0)

def quiescent_FoxBwdRefIdeal [hFoxBwdRefIdeal : Cert.FoxBwdRefIdeal.Facts] : Prop :=
  ∀ (m : (ℓ : Loc Cert.FoxBwdRefIdeal.nD Cert.FoxBwdRefIdeal.τ Cert.FoxBwdRefIdeal.sig) → Buf (Elt Ideal) ℓ) (g : Dev Cert.FoxBwdRefIdeal.nD → PrngReg), Pre_FoxBwdRefIdeal m →
    θ_run (Cert.FoxBwdRefIdeal.defs (F := Ideal)) (onTc (τ := Cert.FoxBwdRefIdeal.τ) (Cert.FoxBwdRefIdeal.main (F := Ideal))) ⟨m, fun _ => 0, g⟩ (fun r => (∀ c : Dev Cert.FoxBwdRefIdeal.nD,
      r.2.mem ((c.tc : Thread Cert.FoxBwdRefIdeal.nD Cert.FoxBwdRefIdeal.τ).loc Cert.FoxBwdRefIdeal.main_arg0) = m ((c.tc : Thread Cert.FoxBwdRefIdeal.nD Cert.FoxBwdRefIdeal.τ).loc Cert.FoxBwdRefIdeal.main_arg0)
      ∧ r.2.mem ((c.tc : Thread Cert.FoxBwdRefIdeal.nD Cert.FoxBwdRefIdeal.τ).loc Cert.FoxBwdRefIdeal.main_arg1) = m ((c.tc : Thread Cert.FoxBwdRefIdeal.nD Cert.FoxBwdRefIdeal.τ).loc Cert.FoxBwdRefIdeal.main_arg1)
      ∧ r.2.mem ((c.tc : Thread Cert.FoxBwdRefIdeal.nD Cert.FoxBwdRefIdeal.τ).loc Cert.FoxBwdRefIdeal.main_arg2) = m ((c.tc : Thread Cert.FoxBwdRefIdeal.nD Cert.FoxBwdRefIdeal.τ).loc Cert.FoxBwdRefIdeal.main_arg2)
      ∧ r.2.mem ((c.tc : Thread Cert.FoxBwdRefIdeal.nD Cert.FoxBwdRefIdeal.τ).loc Cert.FoxBwdRefIdeal.main_arg3) = m ((c.tc : Thread Cert.FoxBwdRefIdeal.nD Cert.FoxBwdRefIdeal.τ).loc Cert.FoxBwdRefIdeal.main_arg3)
      ∧ r.2.mem ((c.tc : Thread Cert.FoxBwdRefIdeal.nD Cert.FoxBwdRefIdeal.τ).loc Cert.FoxBwdRefIdeal.main_arg4) = m ((c.tc : Thread Cert.FoxBwdRefIdeal.nD Cert.FoxBwdRefIdeal.τ).loc Cert.FoxBwdRefIdeal.main_arg4)
      ∧ r.2.mem ((c.tc : Thread Cert.FoxBwdRefIdeal.nD Cert.FoxBwdRefIdeal.τ).loc Cert.FoxBwdRefIdeal.main_arg5) = m ((c.tc : Thread Cert.FoxBwdRefIdeal.nD Cert.FoxBwdRefIdeal.τ).loc Cert.FoxBwdRefIdeal.main_arg5))
      ∧ r.2.sem = fun _ => 0)

def quiescent_FoxBwdRefIdeal_pre_finite_foxbwd [hFoxBwdRefIdeal : Cert.FoxBwdRefIdeal.Facts] [hPre_finite_foxbwd : Cert.Pre_finite_foxbwd.Facts] : Prop :=
  ∀ (m : (ℓ : Loc Cert.FoxBwdRefIdeal.nD Cert.FoxBwdRefIdeal.τ Cert.FoxBwdRefIdeal.sig) → Buf (Elt Ideal) ℓ) (g : Dev Cert.FoxBwdRefIdeal.nD → PrngReg), Pre_FoxBwdRefIdeal_finite_foxbwd m →
    θ_run (Cert.FoxBwdRefIdeal.defs (F := Ideal)) (onTc (τ := Cert.FoxBwdRefIdeal.τ) (Cert.FoxBwdRefIdeal.main (F := Ideal))) ⟨m, fun _ => 0, g⟩ (fun r => (∀ c : Dev Cert.FoxBwdRefIdeal.nD,
      r.2.mem ((c.tc : Thread Cert.FoxBwdRefIdeal.nD Cert.FoxBwdRefIdeal.τ).loc Cert.FoxBwdRefIdeal.main_arg0) = m ((c.tc : Thread Cert.FoxBwdRefIdeal.nD Cert.FoxBwdRefIdeal.τ).loc Cert.FoxBwdRefIdeal.main_arg0)
      ∧ r.2.mem ((c.tc : Thread Cert.FoxBwdRefIdeal.nD Cert.FoxBwdRefIdeal.τ).loc Cert.FoxBwdRefIdeal.main_arg1) = m ((c.tc : Thread Cert.FoxBwdRefIdeal.nD Cert.FoxBwdRefIdeal.τ).loc Cert.FoxBwdRefIdeal.main_arg1)
      ∧ r.2.mem ((c.tc : Thread Cert.FoxBwdRefIdeal.nD Cert.FoxBwdRefIdeal.τ).loc Cert.FoxBwdRefIdeal.main_arg2) = m ((c.tc : Thread Cert.FoxBwdRefIdeal.nD Cert.FoxBwdRefIdeal.τ).loc Cert.FoxBwdRefIdeal.main_arg2)
      ∧ r.2.mem ((c.tc : Thread Cert.FoxBwdRefIdeal.nD Cert.FoxBwdRefIdeal.τ).loc Cert.FoxBwdRefIdeal.main_arg3) = m ((c.tc : Thread Cert.FoxBwdRefIdeal.nD Cert.FoxBwdRefIdeal.τ).loc Cert.FoxBwdRefIdeal.main_arg3)
      ∧ r.2.mem ((c.tc : Thread Cert.FoxBwdRefIdeal.nD Cert.FoxBwdRefIdeal.τ).loc Cert.FoxBwdRefIdeal.main_arg4) = m ((c.tc : Thread Cert.FoxBwdRefIdeal.nD Cert.FoxBwdRefIdeal.τ).loc Cert.FoxBwdRefIdeal.main_arg4)
      ∧ r.2.mem ((c.tc : Thread Cert.FoxBwdRefIdeal.nD Cert.FoxBwdRefIdeal.τ).loc Cert.FoxBwdRefIdeal.main_arg5) = m ((c.tc : Thread Cert.FoxBwdRefIdeal.nD Cert.FoxBwdRefIdeal.τ).loc Cert.FoxBwdRefIdeal.main_arg5))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3))
      ∧ r.2.sem = fun _ => 0)

def quiescent_FfnMidIdeal_pre_finite_ffnmid [hFfnMidIdeal : Cert.FfnMidIdeal.Facts] [hPre_finite_ffnmid : Cert.Pre_finite_ffnmid.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal_finite_ffnmid m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3))
      ∧ r.2.sem = fun _ => 0)

def quiescent_FfnMidRefIdeal_pre_finite_ffnmid [hFfnMidRefIdeal : Cert.FfnMidRefIdeal.Facts] [hPre_finite_ffnmid : Cert.Pre_finite_ffnmid.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal_finite_ffnmid m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4)
      ∧ r.2.mem ((c.tc : Thread Cert.GateBwd.nD Cert.GateBwd.τ).loc Cert.GateBwd.main_arg5) = m ((c.tc : Thread Cert.GateBwd.nD Cert.GateBwd.τ).loc Cert.GateBwd.main_arg5)
      ∧ r.2.mem ((c.tc : Thread Cert.GateBwd.nD Cert.GateBwd.τ).loc Cert.GateBwd.main_arg6) = m ((c.tc : Thread Cert.GateBwd.nD Cert.GateBwd.τ).loc Cert.GateBwd.main_arg6))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
      ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5)
      ∧ r.2.mem ((c.tc : Thread Cert.GateBwdIdeal.nD Cert.GateBwdIdeal.τ).loc Cert.GateBwdIdeal.main_arg6) = m ((c.tc : Thread Cert.GateBwdIdeal.nD Cert.GateBwdIdeal.τ).loc Cert.GateBwdIdeal.main_arg6))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3)
      ∧ r.2.mem ((c.tc : Thread Cert.GateBwdRefIdeal.nD Cert.GateBwdRefIdeal.τ).loc Cert.GateBwdRefIdeal.main_arg4) = m ((c.tc : Thread Cert.GateBwdRefIdeal.nD Cert.GateBwdRefIdeal.τ).loc Cert.GateBwdRefIdeal.main_arg4)
      ∧ r.2.mem ((c.tc : Thread Cert.GateBwdRefIdeal.nD Cert.GateBwdRefIdeal.τ).loc Cert.GateBwdRefIdeal.main_arg5) = m ((c.tc : Thread Cert.GateBwdRefIdeal.nD Cert.GateBwdRefIdeal.τ).loc Cert.GateBwdRefIdeal.main_arg5)
      ∧ r.2.mem ((c.tc : Thread Cert.GateBwdRefIdeal.nD Cert.GateBwdRefIdeal.τ).loc Cert.GateBwdRefIdeal.main_arg6) = m ((c.tc : Thread Cert.GateBwdRefIdeal.nD Cert.GateBwdRefIdeal.τ).loc Cert.GateBwdRefIdeal.main_arg6))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4)
      ∧ r.2.mem ((c.tc : Thread Cert.GateFwd.nD Cert.GateFwd.τ).loc Cert.GateFwd.main_arg5) = m ((c.tc : Thread Cert.GateFwd.nD Cert.GateFwd.τ).loc Cert.GateFwd.main_arg5)
      ∧ r.2.mem ((c.tc : Thread Cert.GateFwd.nD Cert.GateFwd.τ).loc Cert.GateFwd.main_arg6) = m ((c.tc : Thread Cert.GateFwd.nD Cert.GateFwd.τ).loc Cert.GateFwd.main_arg6))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4)
      ∧ r.2.mem ((c.tc : Thread Cert.GateFwdIdeal.nD Cert.GateFwdIdeal.τ).loc Cert.GateFwdIdeal.main_arg5) = m ((c.tc : Thread Cert.GateFwdIdeal.nD Cert.GateFwdIdeal.τ).loc Cert.GateFwdIdeal.main_arg5)
      ∧ r.2.mem ((c.tc : Thread Cert.GateFwdIdeal.nD Cert.GateFwdIdeal.τ).loc Cert.GateFwdIdeal.main_arg6) = m ((c.tc : Thread Cert.GateFwdIdeal.nD Cert.GateFwdIdeal.τ).loc Cert.GateFwdIdeal.main_arg6))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3)
      ∧ r.2.mem ((c.tc : Thread Cert.GateFwdRefIdeal.nD Cert.GateFwdRefIdeal.τ).loc Cert.GateFwdRefIdeal.main_arg4) = m ((c.tc : Thread Cert.GateFwdRefIdeal.nD Cert.GateFwdRefIdeal.τ).loc Cert.GateFwdRefIdeal.main_arg4)
      ∧ r.2.mem ((c.tc : Thread Cert.GateFwdRefIdeal.nD Cert.GateFwdRefIdeal.τ).loc Cert.GateFwdRefIdeal.main_arg5) = m ((c.tc : Thread Cert.GateFwdRefIdeal.nD Cert.GateFwdRefIdeal.τ).loc Cert.GateFwdRefIdeal.main_arg5)
      ∧ r.2.mem ((c.tc : Thread Cert.GateFwdRefIdeal.nD Cert.GateFwdRefIdeal.τ).loc Cert.GateFwdRefIdeal.main_arg6) = m ((c.tc : Thread Cert.GateFwdRefIdeal.nD Cert.GateFwdRefIdeal.τ).loc Cert.GateFwdRefIdeal.main_arg6))
      ∧ r.2.sem = fun _ => 0)

def quiescent_MmRes [hMmRes : Cert.MmRes.Facts] : Prop :=
  ∀ (m : (ℓ : Loc Cert.MmRes.nD Cert.MmRes.τ Cert.MmRes.sig) → Buf (Elt Bits) ℓ) (g : Dev Cert.MmRes.nD → PrngReg), Pre_MmRes m →
    θ_run (Cert.MmRes.defs (F := Bits)) (onTc (τ := Cert.MmRes.τ) (Cert.MmRes.main (F := Bits))) ⟨m, fun _ => 0, g⟩ (fun r => (∀ c : Dev Cert.MmRes.nD,
      r.2.mem ((c.tc : Thread Cert.MmRes.nD Cert.MmRes.τ).loc Cert.MmRes.main_arg0) = m ((c.tc : Thread Cert.MmRes.nD Cert.MmRes.τ).loc Cert.MmRes.main_arg0)
      ∧ r.2.mem ((c.tc : Thread Cert.MmRes.nD Cert.MmRes.τ).loc Cert.MmRes.main_arg1) = m ((c.tc : Thread Cert.MmRes.nD Cert.MmRes.τ).loc Cert.MmRes.main_arg1)
      ∧ r.2.mem ((c.tc : Thread Cert.MmRes.nD Cert.MmRes.τ).loc Cert.MmRes.main_arg2) = m ((c.tc : Thread Cert.MmRes.nD Cert.MmRes.τ).loc Cert.MmRes.main_arg2))
      ∧ r.2.sem = fun _ => 0)

def quiescent_MmResIdeal [hMmResIdeal : Cert.MmResIdeal.Facts] : Prop :=
  ∀ (m : (ℓ : Loc Cert.MmResIdeal.nD Cert.MmResIdeal.τ Cert.MmResIdeal.sig) → Buf (Elt Ideal) ℓ) (g : Dev Cert.MmResIdeal.nD → PrngReg), Pre_MmResIdeal m →
    θ_run (Cert.MmResIdeal.defs (F := Ideal)) (onTc (τ := Cert.MmResIdeal.τ) (Cert.MmResIdeal.main (F := Ideal))) ⟨m, fun _ => 0, g⟩ (fun r => (∀ c : Dev Cert.MmResIdeal.nD,
      r.2.mem ((c.tc : Thread Cert.MmResIdeal.nD Cert.MmResIdeal.τ).loc Cert.MmResIdeal.main_arg0) = m ((c.tc : Thread Cert.MmResIdeal.nD Cert.MmResIdeal.τ).loc Cert.MmResIdeal.main_arg0)
      ∧ r.2.mem ((c.tc : Thread Cert.MmResIdeal.nD Cert.MmResIdeal.τ).loc Cert.MmResIdeal.main_arg1) = m ((c.tc : Thread Cert.MmResIdeal.nD Cert.MmResIdeal.τ).loc Cert.MmResIdeal.main_arg1)
      ∧ r.2.mem ((c.tc : Thread Cert.MmResIdeal.nD Cert.MmResIdeal.τ).loc Cert.MmResIdeal.main_arg2) = m ((c.tc : Thread Cert.MmResIdeal.nD Cert.MmResIdeal.τ).loc Cert.MmResIdeal.main_arg2))
      ∧ r.2.sem = fun _ => 0)

def quiescent_MmResRefIdeal [hMmResRefIdeal : Cert.MmResRefIdeal.Facts] : Prop :=
  ∀ (m : (ℓ : Loc Cert.MmResRefIdeal.nD Cert.MmResRefIdeal.τ Cert.MmResRefIdeal.sig) → Buf (Elt Ideal) ℓ) (g : Dev Cert.MmResRefIdeal.nD → PrngReg), Pre_MmResRefIdeal m →
    θ_run (Cert.MmResRefIdeal.defs (F := Ideal)) (onTc (τ := Cert.MmResRefIdeal.τ) (Cert.MmResRefIdeal.main (F := Ideal))) ⟨m, fun _ => 0, g⟩ (fun r => (∀ c : Dev Cert.MmResRefIdeal.nD,
      r.2.mem ((c.tc : Thread Cert.MmResRefIdeal.nD Cert.MmResRefIdeal.τ).loc Cert.MmResRefIdeal.main_arg0) = m ((c.tc : Thread Cert.MmResRefIdeal.nD Cert.MmResRefIdeal.τ).loc Cert.MmResRefIdeal.main_arg0)
      ∧ r.2.mem ((c.tc : Thread Cert.MmResRefIdeal.nD Cert.MmResRefIdeal.τ).loc Cert.MmResRefIdeal.main_arg1) = m ((c.tc : Thread Cert.MmResRefIdeal.nD Cert.MmResRefIdeal.τ).loc Cert.MmResRefIdeal.main_arg1)
      ∧ r.2.mem ((c.tc : Thread Cert.MmResRefIdeal.nD Cert.MmResRefIdeal.τ).loc Cert.MmResRefIdeal.main_arg2) = m ((c.tc : Thread Cert.MmResRefIdeal.nD Cert.MmResRefIdeal.τ).loc Cert.MmResRefIdeal.main_arg2))
      ∧ r.2.sem = fun _ => 0)

def quiescent_Mm [hMm : Cert.Mm.Facts] : Prop :=
  ∀ (m : (ℓ : Loc Cert.Mm.nD Cert.Mm.τ Cert.Mm.sig) → Buf (Elt Bits) ℓ) (g : Dev Cert.Mm.nD → PrngReg), Pre_Mm m →
    θ_run (Cert.Mm.defs (F := Bits)) (onTc (τ := Cert.Mm.τ) (Cert.Mm.main (F := Bits))) ⟨m, fun _ => 0, g⟩ (fun r => (∀ c : Dev Cert.Mm.nD,
      r.2.mem ((c.tc : Thread Cert.Mm.nD Cert.Mm.τ).loc Cert.Mm.main_arg0) = m ((c.tc : Thread Cert.Mm.nD Cert.Mm.τ).loc Cert.Mm.main_arg0)
      ∧ r.2.mem ((c.tc : Thread Cert.Mm.nD Cert.Mm.τ).loc Cert.Mm.main_arg1) = m ((c.tc : Thread Cert.Mm.nD Cert.Mm.τ).loc Cert.Mm.main_arg1)
      ∧ r.2.mem ((c.tc : Thread Cert.Mm.nD Cert.Mm.τ).loc Cert.Mm.main_arg2) = m ((c.tc : Thread Cert.Mm.nD Cert.Mm.τ).loc Cert.Mm.main_arg2))
      ∧ r.2.sem = fun _ => 0)

def quiescent_MmIdeal [hMmIdeal : Cert.MmIdeal.Facts] : Prop :=
  ∀ (m : (ℓ : Loc Cert.MmIdeal.nD Cert.MmIdeal.τ Cert.MmIdeal.sig) → Buf (Elt Ideal) ℓ) (g : Dev Cert.MmIdeal.nD → PrngReg), Pre_MmIdeal m →
    θ_run (Cert.MmIdeal.defs (F := Ideal)) (onTc (τ := Cert.MmIdeal.τ) (Cert.MmIdeal.main (F := Ideal))) ⟨m, fun _ => 0, g⟩ (fun r => (∀ c : Dev Cert.MmIdeal.nD,
      r.2.mem ((c.tc : Thread Cert.MmIdeal.nD Cert.MmIdeal.τ).loc Cert.MmIdeal.main_arg0) = m ((c.tc : Thread Cert.MmIdeal.nD Cert.MmIdeal.τ).loc Cert.MmIdeal.main_arg0)
      ∧ r.2.mem ((c.tc : Thread Cert.MmIdeal.nD Cert.MmIdeal.τ).loc Cert.MmIdeal.main_arg1) = m ((c.tc : Thread Cert.MmIdeal.nD Cert.MmIdeal.τ).loc Cert.MmIdeal.main_arg1)
      ∧ r.2.mem ((c.tc : Thread Cert.MmIdeal.nD Cert.MmIdeal.τ).loc Cert.MmIdeal.main_arg2) = m ((c.tc : Thread Cert.MmIdeal.nD Cert.MmIdeal.τ).loc Cert.MmIdeal.main_arg2))
      ∧ r.2.sem = fun _ => 0)

def quiescent_MmRefIdeal [hMmRefIdeal : Cert.MmRefIdeal.Facts] : Prop :=
  ∀ (m : (ℓ : Loc Cert.MmRefIdeal.nD Cert.MmRefIdeal.τ Cert.MmRefIdeal.sig) → Buf (Elt Ideal) ℓ) (g : Dev Cert.MmRefIdeal.nD → PrngReg), Pre_MmRefIdeal m →
    θ_run (Cert.MmRefIdeal.defs (F := Ideal)) (onTc (τ := Cert.MmRefIdeal.τ) (Cert.MmRefIdeal.main (F := Ideal))) ⟨m, fun _ => 0, g⟩ (fun r => (∀ c : Dev Cert.MmRefIdeal.nD,
      r.2.mem ((c.tc : Thread Cert.MmRefIdeal.nD Cert.MmRefIdeal.τ).loc Cert.MmRefIdeal.main_arg0) = m ((c.tc : Thread Cert.MmRefIdeal.nD Cert.MmRefIdeal.τ).loc Cert.MmRefIdeal.main_arg0)
      ∧ r.2.mem ((c.tc : Thread Cert.MmRefIdeal.nD Cert.MmRefIdeal.τ).loc Cert.MmRefIdeal.main_arg1) = m ((c.tc : Thread Cert.MmRefIdeal.nD Cert.MmRefIdeal.τ).loc Cert.MmRefIdeal.main_arg1)
      ∧ r.2.mem ((c.tc : Thread Cert.MmRefIdeal.nD Cert.MmRefIdeal.τ).loc Cert.MmRefIdeal.main_arg2) = m ((c.tc : Thread Cert.MmRefIdeal.nD Cert.MmRefIdeal.τ).loc Cert.MmRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v16) = v0 c
          ∧ r.2.mem ((c.tc : Thread Cert.LossRefIdeal.nD Cert.LossRefIdeal.τ).loc Cert.LossRefIdeal.main_v17) = v1 c
          ∧ r.2.mem ((c.tc : Thread Cert.LossRefIdeal.nD Cert.LossRefIdeal.τ).loc Cert.LossRefIdeal.main_v18) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_FfnIn_FfnInIdeal : Prop :=
  True

def algebraic_FfnInIdeal_FfnInRefIdeal_pre_finite_ffnin [hFfnInIdeal : Cert.FfnInIdeal.Facts] [hFfnInRefIdeal : Cert.FfnInRefIdeal.Facts] [hPre_finite_ffnin : Cert.Pre_finite_ffnin.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_finite_ffnin m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)) →
    ∃ (v0 : (c : Dev Cert.FfnInIdeal.nD) → Buf (Elt Ideal) ((c.tc : Thread Cert.FfnInIdeal.nD Cert.FfnInIdeal.τ).loc Cert.FfnInIdeal.main_v8_0)) (v1 : (c : Dev Cert.FfnInIdeal.nD) → Buf (Elt Ideal) ((c.tc : Thread Cert.FfnInIdeal.nD Cert.FfnInIdeal.τ).loc Cert.FfnInIdeal.main_v8_1)) (v2 : (c : Dev Cert.FfnInIdeal.nD) → Buf (Elt Ideal) ((c.tc : Thread Cert.FfnInIdeal.nD Cert.FfnInIdeal.τ).loc Cert.FfnInIdeal.main_v8_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v8_0) = v0 c
          ∧ r.2.mem ((c.tc : Thread Cert.FfnInIdeal.nD Cert.FfnInIdeal.τ).loc Cert.FfnInIdeal.main_v8_1) = v1 c
          ∧ r.2.mem ((c.tc : Thread Cert.FfnInIdeal.nD Cert.FfnInIdeal.τ).loc Cert.FfnInIdeal.main_v8_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v38) = v0 c
          ∧ r.2.mem ((c.tc : Thread Cert.FfnInRefIdeal.nD Cert.FfnInRefIdeal.τ).loc Cert.FfnInRefIdeal.main_v39) = v1 c
          ∧ r.2.mem ((c.tc : Thread Cert.FfnInRefIdeal.nD Cert.FfnInRefIdeal.τ).loc Cert.FfnInRefIdeal.main_v41) = v2 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4))

def preserves_MixIn_MixInIdeal : Prop :=
  True

def algebraic_MixInIdeal_MixInRefIdeal_pre_finite_mixin [hMixInIdeal : Cert.MixInIdeal.Facts] [hMixInRefIdeal : Cert.MixInRefIdeal.Facts] [hPre_finite_mixin : Cert.Pre_finite_mixin.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal_finite_mixin m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)) →
    ∃ (v0 : (c : Dev Cert.MixInIdeal.nD) → Buf (Elt Ideal) ((c.tc : Thread Cert.MixInIdeal.nD Cert.MixInIdeal.τ).loc Cert.MixInIdeal.main_v15_0)) (v1 : (c : Dev Cert.MixInIdeal.nD) → Buf (Elt Ideal) ((c.tc : Thread Cert.MixInIdeal.nD Cert.MixInIdeal.τ).loc Cert.MixInIdeal.main_v15_1)) (v2 : (c : Dev Cert.MixInIdeal.nD) → Buf (Elt Ideal) ((c.tc : Thread Cert.MixInIdeal.nD Cert.MixInIdeal.τ).loc Cert.MixInIdeal.main_v15_2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v15_0) = v0 c
          ∧ r.2.mem ((c.tc : Thread Cert.MixInIdeal.nD Cert.MixInIdeal.τ).loc Cert.MixInIdeal.main_v15_1) = v1 c
          ∧ r.2.mem ((c.tc : Thread Cert.MixInIdeal.nD Cert.MixInIdeal.τ).loc Cert.MixInIdeal.main_v15_2) = v2 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v38) = v0 c
          ∧ r.2.mem ((c.tc : Thread Cert.MixInRefIdeal.nD Cert.MixInRefIdeal.τ).loc Cert.MixInRefIdeal.main_v39) = v1 c
          ∧ r.2.mem ((c.tc : Thread Cert.MixInRefIdeal.nD Cert.MixInRefIdeal.τ).loc Cert.MixInRefIdeal.main_v41) = v2 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4))

def preserves_FoxBwd_FoxBwdIdeal : Prop :=
  IdealRules.named_const.Statement Cert.FoxBwdIdeal.κ "mask" .f32 0xF149F2CA#32 ⊥

def algebraic_FoxBwdIdeal_FoxBwdRefIdeal_pre_finite_foxbwd [hFoxBwdIdeal : Cert.FoxBwdIdeal.Facts] [hFoxBwdRefIdeal : Cert.FoxBwdRefIdeal.Facts] [hPre_finite_foxbwd : Cert.Pre_finite_foxbwd.Facts] : Prop :=
  ∀ (m : (ℓ : Loc Cert.FoxBwdIdeal.nD Cert.FoxBwdIdeal.τ Cert.FoxBwdIdeal.sig) → Buf (Elt Ideal) ℓ) (g : Dev Cert.FoxBwdIdeal.nD → PrngReg)
    (m' : (ℓ : Loc Cert.FoxBwdRefIdeal.nD Cert.FoxBwdRefIdeal.τ Cert.FoxBwdRefIdeal.sig) → Buf (Elt Ideal) ℓ) (g' : Dev Cert.FoxBwdRefIdeal.nD → PrngReg), Pre_FoxBwdIdeal_finite_foxbwd m →
    (∀ c : Dev Cert.FoxBwdIdeal.nD,
      m' ((c.tc : Thread Cert.FoxBwdRefIdeal.nD Cert.FoxBwdRefIdeal.τ).loc Cert.FoxBwdRefIdeal.main_arg0) = m ((c.tc : Thread Cert.FoxBwdIdeal.nD Cert.FoxBwdIdeal.τ).loc Cert.FoxBwdIdeal.main_arg0)
      ∧ m' ((c.tc : Thread Cert.FoxBwdRefIdeal.nD Cert.FoxBwdRefIdeal.τ).loc Cert.FoxBwdRefIdeal.main_arg1) = m ((c.tc : Thread Cert.FoxBwdIdeal.nD Cert.FoxBwdIdeal.τ).loc Cert.FoxBwdIdeal.main_arg1)
      ∧ m' ((c.tc : Thread Cert.FoxBwdRefIdeal.nD Cert.FoxBwdRefIdeal.τ).loc Cert.FoxBwdRefIdeal.main_arg2) = m ((c.tc : Thread Cert.FoxBwdIdeal.nD Cert.FoxBwdIdeal.τ).loc Cert.FoxBwdIdeal.main_arg2)
      ∧ m' ((c.tc : Thread Cert.FoxBwdRefIdeal.nD Cert.FoxBwdRefIdeal.τ).loc Cert.FoxBwdRefIdeal.main_arg3) = m ((c.tc : Thread Cert.FoxBwdIdeal.nD Cert.FoxBwdIdeal.τ).loc Cert.FoxBwdIdeal.main_arg3)
      ∧ m' ((c.tc : Thread Cert.FoxBwdRefIdeal.nD Cert.FoxBwdRefIdeal.τ).loc Cert.FoxBwdRefIdeal.main_arg4) = m ((c.tc : Thread Cert.FoxBwdIdeal.nD Cert.FoxBwdIdeal.τ).loc Cert.FoxBwdIdeal.main_arg4)
      ∧ m' ((c.tc : Thread Cert.FoxBwdRefIdeal.nD Cert.FoxBwdRefIdeal.τ).loc Cert.FoxBwdRefIdeal.main_arg5) = m ((c.tc : Thread Cert.FoxBwdIdeal.nD Cert.FoxBwdIdeal.τ).loc Cert.FoxBwdIdeal.main_arg5)) →
    ∃ (v0 : (c : Dev Cert.FoxBwdIdeal.nD) → Buf (Elt Ideal) ((c.tc : Thread Cert.FoxBwdIdeal.nD Cert.FoxBwdIdeal.τ).loc Cert.FoxBwdIdeal.main_v64_0)) (v1 : (c : Dev Cert.FoxBwdIdeal.nD) → Buf (Elt Ideal) ((c.tc : Thread Cert.FoxBwdIdeal.nD Cert.FoxBwdIdeal.τ).loc Cert.FoxBwdIdeal.main_v64_1)) (v2 : (c : Dev Cert.FoxBwdIdeal.nD) → Buf (Elt Ideal) ((c.tc : Thread Cert.FoxBwdIdeal.nD Cert.FoxBwdIdeal.τ).loc Cert.FoxBwdIdeal.main_v64_2)) (v3 : (c : Dev Cert.FoxBwdIdeal.nD) → Buf (Elt Ideal) ((c.tc : Thread Cert.FoxBwdIdeal.nD Cert.FoxBwdIdeal.τ).loc Cert.FoxBwdIdeal.main_v64_3)) (v4 : (c : Dev Cert.FoxBwdIdeal.nD) → Buf (Elt Ideal) ((c.tc : Thread Cert.FoxBwdIdeal.nD Cert.FoxBwdIdeal.τ).loc Cert.FoxBwdIdeal.main_v64_4)),
      θ_run (Cert.FoxBwdIdeal.defs (F := Ideal)) (onTc (τ := Cert.FoxBwdIdeal.τ) (Cert.FoxBwdIdeal.main (F := Ideal))) ⟨m, fun _ => 0, g⟩ (fun r => ∀ c : Dev Cert.FoxBwdIdeal.nD,
          r.2.mem ((c.tc : Thread Cert.FoxBwdIdeal.nD Cert.FoxBwdIdeal.τ).loc Cert.FoxBwdIdeal.main_v64_0) = v0 c
          ∧ r.2.mem ((c.tc : Thread Cert.FoxBwdIdeal.nD Cert.FoxBwdIdeal.τ).loc Cert.FoxBwdIdeal.main_v64_1) = v1 c
          ∧ r.2.mem ((c.tc : Thread Cert.FoxBwdIdeal.nD Cert.FoxBwdIdeal.τ).loc Cert.FoxBwdIdeal.main_v64_2) = v2 c
          ∧ r.2.mem ((c.tc : Thread Cert.FoxBwdIdeal.nD Cert.FoxBwdIdeal.τ).loc Cert.FoxBwdIdeal.main_v64_3) = v3 c
          ∧ r.2.mem ((c.tc : Thread Cert.FoxBwdIdeal.nD Cert.FoxBwdIdeal.τ).loc Cert.FoxBwdIdeal.main_v64_4) = v4 c
          ∧ r.2.mem ((c.tc : Thread Cert.FoxBwdIdeal.nD Cert.FoxBwdIdeal.τ).loc Cert.FoxBwdIdeal.main_arg0) = m ((c.tc : Thread Cert.FoxBwdIdeal.nD Cert.FoxBwdIdeal.τ).loc Cert.FoxBwdIdeal.main_arg0)
          ∧ r.2.mem ((c.tc : Thread Cert.FoxBwdIdeal.nD Cert.FoxBwdIdeal.τ).loc Cert.FoxBwdIdeal.main_arg1) = m ((c.tc : Thread Cert.FoxBwdIdeal.nD Cert.FoxBwdIdeal.τ).loc Cert.FoxBwdIdeal.main_arg1)
          ∧ r.2.mem ((c.tc : Thread Cert.FoxBwdIdeal.nD Cert.FoxBwdIdeal.τ).loc Cert.FoxBwdIdeal.main_arg2) = m ((c.tc : Thread Cert.FoxBwdIdeal.nD Cert.FoxBwdIdeal.τ).loc Cert.FoxBwdIdeal.main_arg2)
          ∧ r.2.mem ((c.tc : Thread Cert.FoxBwdIdeal.nD Cert.FoxBwdIdeal.τ).loc Cert.FoxBwdIdeal.main_arg3) = m ((c.tc : Thread Cert.FoxBwdIdeal.nD Cert.FoxBwdIdeal.τ).loc Cert.FoxBwdIdeal.main_arg3)
          ∧ r.2.mem ((c.tc : Thread Cert.FoxBwdIdeal.nD Cert.FoxBwdIdeal.τ).loc Cert.FoxBwdIdeal.main_arg4) = m ((c.tc : Thread Cert.FoxBwdIdeal.nD Cert.FoxBwdIdeal.τ).loc Cert.FoxBwdIdeal.main_arg4)
          ∧ r.2.mem ((c.tc : Thread Cert.FoxBwdIdeal.nD Cert.FoxBwdIdeal.τ).loc Cert.FoxBwdIdeal.main_arg5) = m ((c.tc : Thread Cert.FoxBwdIdeal.nD Cert.FoxBwdIdeal.τ).loc Cert.FoxBwdIdeal.main_arg5))
      ∧ θ_run (Cert.FoxBwdRefIdeal.defs (F := Ideal)) (onTc (τ := Cert.FoxBwdRefIdeal.τ) (Cert.FoxBwdRefIdeal.main (F := Ideal))) ⟨m', fun _ => 0, g'⟩ (fun r => ∀ c : Dev Cert.FoxBwdRefIdeal.nD,
          r.2.mem ((c.tc : Thread Cert.FoxBwdRefIdeal.nD Cert.FoxBwdRefIdeal.τ).loc Cert.FoxBwdRefIdeal.main_v97) = v0 c
          ∧ r.2.mem ((c.tc : Thread Cert.FoxBwdRefIdeal.nD Cert.FoxBwdRefIdeal.τ).loc Cert.FoxBwdRefIdeal.main_v99) = v1 c
          ∧ r.2.mem ((c.tc : Thread Cert.FoxBwdRefIdeal.nD Cert.FoxBwdRefIdeal.τ).loc Cert.FoxBwdRefIdeal.main_v100) = v2 c
          ∧ r.2.mem ((c.tc : Thread Cert.FoxBwdRefIdeal.nD Cert.FoxBwdRefIdeal.τ).loc Cert.FoxBwdRefIdeal.main_v101) = v3 c
          ∧ r.2.mem ((c.tc : Thread Cert.FoxBwdRefIdeal.nD Cert.FoxBwdRefIdeal.τ).loc Cert.FoxBwdRefIdeal.main_v104) = v4 c
          ∧ r.2.mem ((c.tc : Thread Cert.FoxBwdRefIdeal.nD Cert.FoxBwdRefIdeal.τ).loc Cert.FoxBwdRefIdeal.main_arg0) = m' ((c.tc : Thread Cert.FoxBwdRefIdeal.nD Cert.FoxBwdRefIdeal.τ).loc Cert.FoxBwdRefIdeal.main_arg0)
          ∧ r.2.mem ((c.tc : Thread Cert.FoxBwdRefIdeal.nD Cert.FoxBwdRefIdeal.τ).loc Cert.FoxBwdRefIdeal.main_arg1) = m' ((c.tc : Thread Cert.FoxBwdRefIdeal.nD Cert.FoxBwdRefIdeal.τ).loc Cert.FoxBwdRefIdeal.main_arg1)
          ∧ r.2.mem ((c.tc : Thread Cert.FoxBwdRefIdeal.nD Cert.FoxBwdRefIdeal.τ).loc Cert.FoxBwdRefIdeal.main_arg2) = m' ((c.tc : Thread Cert.FoxBwdRefIdeal.nD Cert.FoxBwdRefIdeal.τ).loc Cert.FoxBwdRefIdeal.main_arg2)
          ∧ r.2.mem ((c.tc : Thread Cert.FoxBwdRefIdeal.nD Cert.FoxBwdRefIdeal.τ).loc Cert.FoxBwdRefIdeal.main_arg3) = m' ((c.tc : Thread Cert.FoxBwdRefIdeal.nD Cert.FoxBwdRefIdeal.τ).loc Cert.FoxBwdRefIdeal.main_arg3)
          ∧ r.2.mem ((c.tc : Thread Cert.FoxBwdRefIdeal.nD Cert.FoxBwdRefIdeal.τ).loc Cert.FoxBwdRefIdeal.main_arg4) = m' ((c.tc : Thread Cert.FoxBwdRefIdeal.nD Cert.FoxBwdRefIdeal.τ).loc Cert.FoxBwdRefIdeal.main_arg4)
          ∧ r.2.mem ((c.tc : Thread Cert.FoxBwdRefIdeal.nD Cert.FoxBwdRefIdeal.τ).loc Cert.FoxBwdRefIdeal.main_arg5) = m' ((c.tc : Thread Cert.FoxBwdRefIdeal.nD Cert.FoxBwdRefIdeal.τ).loc Cert.FoxBwdRefIdeal.main_arg5))

def preserves_FfnMid_FfnMidIdeal : Prop :=
  True

def algebraic_FfnMidIdeal_FfnMidRefIdeal_pre_finite_ffnmid [hFfnMidIdeal : Cert.FfnMidIdeal.Facts] [hFfnMidRefIdeal : Cert.FfnMidRefIdeal.Facts] [hPre_finite_ffnmid : Cert.Pre_finite_ffnmid.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal_finite_ffnmid m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)) →
    ∃ (v0 : (c : Dev Cert.FfnMidIdeal.nD) → Buf (Elt Ideal) ((c.tc : Thread Cert.FfnMidIdeal.nD Cert.FfnMidIdeal.τ).loc Cert.FfnMidIdeal.main_v9)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v9) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v20) = v0 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)
      ∧ m' ((c.tc : Thread Cert.GateBwdRefIdeal.nD Cert.GateBwdRefIdeal.τ).loc Cert.GateBwdRefIdeal.main_arg4) = m ((c.tc : Thread Cert.GateBwdIdeal.nD Cert.GateBwdIdeal.τ).loc Cert.GateBwdIdeal.main_arg4)
      ∧ m' ((c.tc : Thread Cert.GateBwdRefIdeal.nD Cert.GateBwdRefIdeal.τ).loc Cert.GateBwdRefIdeal.main_arg5) = m ((c.tc : Thread Cert.GateBwdIdeal.nD Cert.GateBwdIdeal.τ).loc Cert.GateBwdIdeal.main_arg5)
      ∧ m' ((c.tc : Thread Cert.GateBwdRefIdeal.nD Cert.GateBwdRefIdeal.τ).loc Cert.GateBwdRefIdeal.main_arg6) = m ((c.tc : Thread Cert.GateBwdIdeal.nD Cert.GateBwdIdeal.τ).loc Cert.GateBwdIdeal.main_arg6)) →
    ∃ (v0 : (c : Dev Cert.GateBwdIdeal.nD) → Buf (Elt Ideal) ((c.tc : Thread Cert.GateBwdIdeal.nD Cert.GateBwdIdeal.τ).loc Cert.GateBwdIdeal.main_v14_0)) (v1 : (c : Dev Cert.GateBwdIdeal.nD) → Buf (Elt Ideal) ((c.tc : Thread Cert.GateBwdIdeal.nD Cert.GateBwdIdeal.τ).loc Cert.GateBwdIdeal.main_v14_1)) (v2 : (c : Dev Cert.GateBwdIdeal.nD) → Buf (Elt Ideal) ((c.tc : Thread Cert.GateBwdIdeal.nD Cert.GateBwdIdeal.τ).loc Cert.GateBwdIdeal.main_v14_2)) (v3 : (c : Dev Cert.GateBwdIdeal.nD) → Buf (Elt Ideal) ((c.tc : Thread Cert.GateBwdIdeal.nD Cert.GateBwdIdeal.τ).loc Cert.GateBwdIdeal.main_v14_3)) (v4 : (c : Dev Cert.GateBwdIdeal.nD) → Buf (Elt Ideal) ((c.tc : Thread Cert.GateBwdIdeal.nD Cert.GateBwdIdeal.τ).loc Cert.GateBwdIdeal.main_v14_4)) (v5 : (c : Dev Cert.GateBwdIdeal.nD) → Buf (Elt Ideal) ((c.tc : Thread Cert.GateBwdIdeal.nD Cert.GateBwdIdeal.τ).loc Cert.GateBwdIdeal.main_v14_5)) (v6 : (c : Dev Cert.GateBwdIdeal.nD) → Buf (Elt Ideal) ((c.tc : Thread Cert.GateBwdIdeal.nD Cert.GateBwdIdeal.τ).loc Cert.GateBwdIdeal.main_v14_6)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v14_0) = v0 c
          ∧ r.2.mem ((c.tc : Thread Cert.GateBwdIdeal.nD Cert.GateBwdIdeal.τ).loc Cert.GateBwdIdeal.main_v14_1) = v1 c
          ∧ r.2.mem ((c.tc : Thread Cert.GateBwdIdeal.nD Cert.GateBwdIdeal.τ).loc Cert.GateBwdIdeal.main_v14_2) = v2 c
          ∧ r.2.mem ((c.tc : Thread Cert.GateBwdIdeal.nD Cert.GateBwdIdeal.τ).loc Cert.GateBwdIdeal.main_v14_3) = v3 c
          ∧ r.2.mem ((c.tc : Thread Cert.GateBwdIdeal.nD Cert.GateBwdIdeal.τ).loc Cert.GateBwdIdeal.main_v14_4) = v4 c
          ∧ r.2.mem ((c.tc : Thread Cert.GateBwdIdeal.nD Cert.GateBwdIdeal.τ).loc Cert.GateBwdIdeal.main_v14_5) = v5 c
          ∧ r.2.mem ((c.tc : Thread Cert.GateBwdIdeal.nD Cert.GateBwdIdeal.τ).loc Cert.GateBwdIdeal.main_v14_6) = v6 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4)
          ∧ r.2.mem ((c.tc : Thread Cert.GateBwdIdeal.nD Cert.GateBwdIdeal.τ).loc Cert.GateBwdIdeal.main_arg5) = m ((c.tc : Thread Cert.GateBwdIdeal.nD Cert.GateBwdIdeal.τ).loc Cert.GateBwdIdeal.main_arg5)
          ∧ r.2.mem ((c.tc : Thread Cert.GateBwdIdeal.nD Cert.GateBwdIdeal.τ).loc Cert.GateBwdIdeal.main_arg6) = m ((c.tc : Thread Cert.GateBwdIdeal.nD Cert.GateBwdIdeal.τ).loc Cert.GateBwdIdeal.main_arg6))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v36) = v0 c
          ∧ r.2.mem ((c.tc : Thread Cert.GateBwdRefIdeal.nD Cert.GateBwdRefIdeal.τ).loc Cert.GateBwdRefIdeal.main_v37) = v1 c
          ∧ r.2.mem ((c.tc : Thread Cert.GateBwdRefIdeal.nD Cert.GateBwdRefIdeal.τ).loc Cert.GateBwdRefIdeal.main_v38) = v2 c
          ∧ r.2.mem ((c.tc : Thread Cert.GateBwdRefIdeal.nD Cert.GateBwdRefIdeal.τ).loc Cert.GateBwdRefIdeal.main_v39) = v3 c
          ∧ r.2.mem ((c.tc : Thread Cert.GateBwdRefIdeal.nD Cert.GateBwdRefIdeal.τ).loc Cert.GateBwdRefIdeal.main_v35) = v4 c
          ∧ r.2.mem ((c.tc : Thread Cert.GateBwdRefIdeal.nD Cert.GateBwdRefIdeal.τ).loc Cert.GateBwdRefIdeal.main_v41) = v5 c
          ∧ r.2.mem ((c.tc : Thread Cert.GateBwdRefIdeal.nD Cert.GateBwdRefIdeal.τ).loc Cert.GateBwdRefIdeal.main_v34) = v6 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3)
          ∧ r.2.mem ((c.tc : Thread Cert.GateBwdRefIdeal.nD Cert.GateBwdRefIdeal.τ).loc Cert.GateBwdRefIdeal.main_arg4) = m' ((c.tc : Thread Cert.GateBwdRefIdeal.nD Cert.GateBwdRefIdeal.τ).loc Cert.GateBwdRefIdeal.main_arg4)
          ∧ r.2.mem ((c.tc : Thread Cert.GateBwdRefIdeal.nD Cert.GateBwdRefIdeal.τ).loc Cert.GateBwdRefIdeal.main_arg5) = m' ((c.tc : Thread Cert.GateBwdRefIdeal.nD Cert.GateBwdRefIdeal.τ).loc Cert.GateBwdRefIdeal.main_arg5)
          ∧ r.2.mem ((c.tc : Thread Cert.GateBwdRefIdeal.nD Cert.GateBwdRefIdeal.τ).loc Cert.GateBwdRefIdeal.main_arg6) = m' ((c.tc : Thread Cert.GateBwdRefIdeal.nD Cert.GateBwdRefIdeal.τ).loc Cert.GateBwdRefIdeal.main_arg6))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v1_0)) (v1 : (c : Dev Cert.RmsFwdIdeal.nD) → Buf (Elt Ideal) ((c.tc : Thread Cert.RmsFwdIdeal.nD Cert.RmsFwdIdeal.τ).loc Cert.RmsFwdIdeal.main_v1_1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v1_0) = v0 c
          ∧ r.2.mem ((c.tc : Thread Cert.RmsFwdIdeal.nD Cert.RmsFwdIdeal.τ).loc Cert.RmsFwdIdeal.main_v1_1) = v1 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v13) = v0 c
          ∧ r.2.mem ((c.tc : Thread Cert.RmsFwdRefIdeal.nD Cert.RmsFwdRefIdeal.τ).loc Cert.RmsFwdRefIdeal.main_v15) = v1 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)) →
    ∃ (v0 : (c : Dev Cert.FfnFwdIdeal.nD) → Buf (Elt Ideal) ((c.tc : Thread Cert.FfnFwdIdeal.nD Cert.FfnFwdIdeal.τ).loc Cert.FfnFwdIdeal.main_v2_0)) (v1 : (c : Dev Cert.FfnFwdIdeal.nD) → Buf (Elt Ideal) ((c.tc : Thread Cert.FfnFwdIdeal.nD Cert.FfnFwdIdeal.τ).loc Cert.FfnFwdIdeal.main_v2_1)) (v2 : (c : Dev Cert.FfnFwdIdeal.nD) → Buf (Elt Ideal) ((c.tc : Thread Cert.FfnFwdIdeal.nD Cert.FfnFwdIdeal.τ).loc Cert.FfnFwdIdeal.main_v2_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v2_0) = v0 c
          ∧ r.2.mem ((c.tc : Thread Cert.FfnFwdIdeal.nD Cert.FfnFwdIdeal.τ).loc Cert.FfnFwdIdeal.main_v2_1) = v1 c
          ∧ r.2.mem ((c.tc : Thread Cert.FfnFwdIdeal.nD Cert.FfnFwdIdeal.τ).loc Cert.FfnFwdIdeal.main_v2_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v8) = v0 c
          ∧ r.2.mem ((c.tc : Thread Cert.FfnFwdRefIdeal.nD Cert.FfnFwdRefIdeal.τ).loc Cert.FfnFwdRefIdeal.main_v9) = v1 c
          ∧ r.2.mem ((c.tc : Thread Cert.FfnFwdRefIdeal.nD Cert.FfnFwdRefIdeal.τ).loc Cert.FfnFwdRefIdeal.main_v11) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)
      ∧ m' ((c.tc : Thread Cert.GateFwdRefIdeal.nD Cert.GateFwdRefIdeal.τ).loc Cert.GateFwdRefIdeal.main_arg4) = m ((c.tc : Thread Cert.GateFwdIdeal.nD Cert.GateFwdIdeal.τ).loc Cert.GateFwdIdeal.main_arg4)
      ∧ m' ((c.tc : Thread Cert.GateFwdRefIdeal.nD Cert.GateFwdRefIdeal.τ).loc Cert.GateFwdRefIdeal.main_arg5) = m ((c.tc : Thread Cert.GateFwdIdeal.nD Cert.GateFwdIdeal.τ).loc Cert.GateFwdIdeal.main_arg5)
      ∧ m' ((c.tc : Thread Cert.GateFwdRefIdeal.nD Cert.GateFwdRefIdeal.τ).loc Cert.GateFwdRefIdeal.main_arg6) = m ((c.tc : Thread Cert.GateFwdIdeal.nD Cert.GateFwdIdeal.τ).loc Cert.GateFwdIdeal.main_arg6)) →
    ∃ (v0 : (c : Dev Cert.GateFwdIdeal.nD) → Buf (Elt Ideal) ((c.tc : Thread Cert.GateFwdIdeal.nD Cert.GateFwdIdeal.τ).loc Cert.GateFwdIdeal.main_v11_0)) (v1 : (c : Dev Cert.GateFwdIdeal.nD) → Buf (Elt Ideal) ((c.tc : Thread Cert.GateFwdIdeal.nD Cert.GateFwdIdeal.τ).loc Cert.GateFwdIdeal.main_v11_1)) (v2 : (c : Dev Cert.GateFwdIdeal.nD) → Buf (Elt Ideal) ((c.tc : Thread Cert.GateFwdIdeal.nD Cert.GateFwdIdeal.τ).loc Cert.GateFwdIdeal.main_v11_2)) (v3 : (c : Dev Cert.GateFwdIdeal.nD) → Buf (Elt Ideal) ((c.tc : Thread Cert.GateFwdIdeal.nD Cert.GateFwdIdeal.τ).loc Cert.GateFwdIdeal.main_v11_3)) (v4 : (c : Dev Cert.GateFwdIdeal.nD) → Buf (Elt Ideal) ((c.tc : Thread Cert.GateFwdIdeal.nD Cert.GateFwdIdeal.τ).loc Cert.GateFwdIdeal.main_v11_4)) (v5 : (c : Dev Cert.GateFwdIdeal.nD) → Buf (Elt Ideal) ((c.tc : Thread Cert.GateFwdIdeal.nD Cert.GateFwdIdeal.τ).loc Cert.GateFwdIdeal.main_v11_5)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v11_0) = v0 c
          ∧ r.2.mem ((c.tc : Thread Cert.GateFwdIdeal.nD Cert.GateFwdIdeal.τ).loc Cert.GateFwdIdeal.main_v11_1) = v1 c
          ∧ r.2.mem ((c.tc : Thread Cert.GateFwdIdeal.nD Cert.GateFwdIdeal.τ).loc Cert.GateFwdIdeal.main_v11_2) = v2 c
          ∧ r.2.mem ((c.tc : Thread Cert.GateFwdIdeal.nD Cert.GateFwdIdeal.τ).loc Cert.GateFwdIdeal.main_v11_3) = v3 c
          ∧ r.2.mem ((c.tc : Thread Cert.GateFwdIdeal.nD Cert.GateFwdIdeal.τ).loc Cert.GateFwdIdeal.main_v11_4) = v4 c
          ∧ r.2.mem ((c.tc : Thread Cert.GateFwdIdeal.nD Cert.GateFwdIdeal.τ).loc Cert.GateFwdIdeal.main_v11_5) = v5 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4)
          ∧ r.2.mem ((c.tc : Thread Cert.GateFwdIdeal.nD Cert.GateFwdIdeal.τ).loc Cert.GateFwdIdeal.main_arg5) = m ((c.tc : Thread Cert.GateFwdIdeal.nD Cert.GateFwdIdeal.τ).loc Cert.GateFwdIdeal.main_arg5)
          ∧ r.2.mem ((c.tc : Thread Cert.GateFwdIdeal.nD Cert.GateFwdIdeal.τ).loc Cert.GateFwdIdeal.main_arg6) = m ((c.tc : Thread Cert.GateFwdIdeal.nD Cert.GateFwdIdeal.τ).loc Cert.GateFwdIdeal.main_arg6))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v21) = v0 c
          ∧ r.2.mem ((c.tc : Thread Cert.GateFwdRefIdeal.nD Cert.GateFwdRefIdeal.τ).loc Cert.GateFwdRefIdeal.main_v23) = v1 c
          ∧ r.2.mem ((c.tc : Thread Cert.GateFwdRefIdeal.nD Cert.GateFwdRefIdeal.τ).loc Cert.GateFwdRefIdeal.main_v24) = v2 c
          ∧ r.2.mem ((c.tc : Thread Cert.GateFwdRefIdeal.nD Cert.GateFwdRefIdeal.τ).loc Cert.GateFwdRefIdeal.main_v25) = v3 c
          ∧ r.2.mem ((c.tc : Thread Cert.GateFwdRefIdeal.nD Cert.GateFwdRefIdeal.τ).loc Cert.GateFwdRefIdeal.main_v27) = v4 c
          ∧ r.2.mem ((c.tc : Thread Cert.GateFwdRefIdeal.nD Cert.GateFwdRefIdeal.τ).loc Cert.GateFwdRefIdeal.main_v29) = v5 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3)
          ∧ r.2.mem ((c.tc : Thread Cert.GateFwdRefIdeal.nD Cert.GateFwdRefIdeal.τ).loc Cert.GateFwdRefIdeal.main_arg4) = m' ((c.tc : Thread Cert.GateFwdRefIdeal.nD Cert.GateFwdRefIdeal.τ).loc Cert.GateFwdRefIdeal.main_arg4)
          ∧ r.2.mem ((c.tc : Thread Cert.GateFwdRefIdeal.nD Cert.GateFwdRefIdeal.τ).loc Cert.GateFwdRefIdeal.main_arg5) = m' ((c.tc : Thread Cert.GateFwdRefIdeal.nD Cert.GateFwdRefIdeal.τ).loc Cert.GateFwdRefIdeal.main_arg5)
          ∧ r.2.mem ((c.tc : Thread Cert.GateFwdRefIdeal.nD Cert.GateFwdRefIdeal.τ).loc Cert.GateFwdRefIdeal.main_arg6) = m' ((c.tc : Thread Cert.GateFwdRefIdeal.nD Cert.GateFwdRefIdeal.τ).loc Cert.GateFwdRefIdeal.main_arg6))

def preserves_MmRes_MmResIdeal : Prop :=
  True

def algebraic_MmResIdeal_MmResRefIdeal [hMmResIdeal : Cert.MmResIdeal.Facts] [hMmResRefIdeal : Cert.MmResRefIdeal.Facts] : Prop :=
  ∀ (m : (ℓ : Loc Cert.MmResIdeal.nD Cert.MmResIdeal.τ Cert.MmResIdeal.sig) → Buf (Elt Ideal) ℓ) (g : Dev Cert.MmResIdeal.nD → PrngReg)
    (m' : (ℓ : Loc Cert.MmResRefIdeal.nD Cert.MmResRefIdeal.τ Cert.MmResRefIdeal.sig) → Buf (Elt Ideal) ℓ) (g' : Dev Cert.MmResRefIdeal.nD → PrngReg), Pre_MmResIdeal m →
    (∀ c : Dev Cert.MmResIdeal.nD,
      m' ((c.tc : Thread Cert.MmResRefIdeal.nD Cert.MmResRefIdeal.τ).loc Cert.MmResRefIdeal.main_arg0) = m ((c.tc : Thread Cert.MmResIdeal.nD Cert.MmResIdeal.τ).loc Cert.MmResIdeal.main_arg0)
      ∧ m' ((c.tc : Thread Cert.MmResRefIdeal.nD Cert.MmResRefIdeal.τ).loc Cert.MmResRefIdeal.main_arg1) = m ((c.tc : Thread Cert.MmResIdeal.nD Cert.MmResIdeal.τ).loc Cert.MmResIdeal.main_arg1)
      ∧ m' ((c.tc : Thread Cert.MmResRefIdeal.nD Cert.MmResRefIdeal.τ).loc Cert.MmResRefIdeal.main_arg2) = m ((c.tc : Thread Cert.MmResIdeal.nD Cert.MmResIdeal.τ).loc Cert.MmResIdeal.main_arg2)) →
    ∃ (v0 : (c : Dev Cert.MmResIdeal.nD) → Buf (Elt Ideal) ((c.tc : Thread Cert.MmResIdeal.nD Cert.MmResIdeal.τ).loc Cert.MmResIdeal.main_v2)),
      θ_run (Cert.MmResIdeal.defs (F := Ideal)) (onTc (τ := Cert.MmResIdeal.τ) (Cert.MmResIdeal.main (F := Ideal))) ⟨m, fun _ => 0, g⟩ (fun r => ∀ c : Dev Cert.MmResIdeal.nD,
          r.2.mem ((c.tc : Thread Cert.MmResIdeal.nD Cert.MmResIdeal.τ).loc Cert.MmResIdeal.main_v2) = v0 c
          ∧ r.2.mem ((c.tc : Thread Cert.MmResIdeal.nD Cert.MmResIdeal.τ).loc Cert.MmResIdeal.main_arg0) = m ((c.tc : Thread Cert.MmResIdeal.nD Cert.MmResIdeal.τ).loc Cert.MmResIdeal.main_arg0)
          ∧ r.2.mem ((c.tc : Thread Cert.MmResIdeal.nD Cert.MmResIdeal.τ).loc Cert.MmResIdeal.main_arg1) = m ((c.tc : Thread Cert.MmResIdeal.nD Cert.MmResIdeal.τ).loc Cert.MmResIdeal.main_arg1)
          ∧ r.2.mem ((c.tc : Thread Cert.MmResIdeal.nD Cert.MmResIdeal.τ).loc Cert.MmResIdeal.main_arg2) = m ((c.tc : Thread Cert.MmResIdeal.nD Cert.MmResIdeal.τ).loc Cert.MmResIdeal.main_arg2))
      ∧ θ_run (Cert.MmResRefIdeal.defs (F := Ideal)) (onTc (τ := Cert.MmResRefIdeal.τ) (Cert.MmResRefIdeal.main (F := Ideal))) ⟨m', fun _ => 0, g'⟩ (fun r => ∀ c : Dev Cert.MmResRefIdeal.nD,
          r.2.mem ((c.tc : Thread Cert.MmResRefIdeal.nD Cert.MmResRefIdeal.τ).loc Cert.MmResRefIdeal.main_v3) = v0 c
          ∧ r.2.mem ((c.tc : Thread Cert.MmResRefIdeal.nD Cert.MmResRefIdeal.τ).loc Cert.MmResRefIdeal.main_arg0) = m' ((c.tc : Thread Cert.MmResRefIdeal.nD Cert.MmResRefIdeal.τ).loc Cert.MmResRefIdeal.main_arg0)
          ∧ r.2.mem ((c.tc : Thread Cert.MmResRefIdeal.nD Cert.MmResRefIdeal.τ).loc Cert.MmResRefIdeal.main_arg1) = m' ((c.tc : Thread Cert.MmResRefIdeal.nD Cert.MmResRefIdeal.τ).loc Cert.MmResRefIdeal.main_arg1)
          ∧ r.2.mem ((c.tc : Thread Cert.MmResRefIdeal.nD Cert.MmResRefIdeal.τ).loc Cert.MmResRefIdeal.main_arg2) = m' ((c.tc : Thread Cert.MmResRefIdeal.nD Cert.MmResRefIdeal.τ).loc Cert.MmResRefIdeal.main_arg2))

def preserves_Mm_MmIdeal : Prop :=
  True

def algebraic_MmIdeal_MmRefIdeal [hMmIdeal : Cert.MmIdeal.Facts] [hMmRefIdeal : Cert.MmRefIdeal.Facts] : Prop :=
  ∀ (m : (ℓ : Loc Cert.MmIdeal.nD Cert.MmIdeal.τ Cert.MmIdeal.sig) → Buf (Elt Ideal) ℓ) (g : Dev Cert.MmIdeal.nD → PrngReg)
    (m' : (ℓ : Loc Cert.MmRefIdeal.nD Cert.MmRefIdeal.τ Cert.MmRefIdeal.sig) → Buf (Elt Ideal) ℓ) (g' : Dev Cert.MmRefIdeal.nD → PrngReg), Pre_MmIdeal m →
    (∀ c : Dev Cert.MmIdeal.nD,
      m' ((c.tc : Thread Cert.MmRefIdeal.nD Cert.MmRefIdeal.τ).loc Cert.MmRefIdeal.main_arg0) = m ((c.tc : Thread Cert.MmIdeal.nD Cert.MmIdeal.τ).loc Cert.MmIdeal.main_arg0)
      ∧ m' ((c.tc : Thread Cert.MmRefIdeal.nD Cert.MmRefIdeal.τ).loc Cert.MmRefIdeal.main_arg1) = m ((c.tc : Thread Cert.MmIdeal.nD Cert.MmIdeal.τ).loc Cert.MmIdeal.main_arg1)
      ∧ m' ((c.tc : Thread Cert.MmRefIdeal.nD Cert.MmRefIdeal.τ).loc Cert.MmRefIdeal.main_arg2) = m ((c.tc : Thread Cert.MmIdeal.nD Cert.MmIdeal.τ).loc Cert.MmIdeal.main_arg2)) →
    ∃ (v0 : (c : Dev Cert.MmIdeal.nD) → Buf (Elt Ideal) ((c.tc : Thread Cert.MmIdeal.nD Cert.MmIdeal.τ).loc Cert.MmIdeal.main_v5)),
      θ_run (Cert.MmIdeal.defs (F := Ideal)) (onTc (τ := Cert.MmIdeal.τ) (Cert.MmIdeal.main (F := Ideal))) ⟨m, fun _ => 0, g⟩ (fun r => ∀ c : Dev Cert.MmIdeal.nD,
          r.2.mem ((c.tc : Thread Cert.MmIdeal.nD Cert.MmIdeal.τ).loc Cert.MmIdeal.main_v5) = v0 c
          ∧ r.2.mem ((c.tc : Thread Cert.MmIdeal.nD Cert.MmIdeal.τ).loc Cert.MmIdeal.main_arg0) = m ((c.tc : Thread Cert.MmIdeal.nD Cert.MmIdeal.τ).loc Cert.MmIdeal.main_arg0)
          ∧ r.2.mem ((c.tc : Thread Cert.MmIdeal.nD Cert.MmIdeal.τ).loc Cert.MmIdeal.main_arg1) = m ((c.tc : Thread Cert.MmIdeal.nD Cert.MmIdeal.τ).loc Cert.MmIdeal.main_arg1)
          ∧ r.2.mem ((c.tc : Thread Cert.MmIdeal.nD Cert.MmIdeal.τ).loc Cert.MmIdeal.main_arg2) = m ((c.tc : Thread Cert.MmIdeal.nD Cert.MmIdeal.τ).loc Cert.MmIdeal.main_arg2))
      ∧ θ_run (Cert.MmRefIdeal.defs (F := Ideal)) (onTc (τ := Cert.MmRefIdeal.τ) (Cert.MmRefIdeal.main (F := Ideal))) ⟨m', fun _ => 0, g'⟩ (fun r => ∀ c : Dev Cert.MmRefIdeal.nD,
          r.2.mem ((c.tc : Thread Cert.MmRefIdeal.nD Cert.MmRefIdeal.τ).loc Cert.MmRefIdeal.main_v3) = v0 c
          ∧ r.2.mem ((c.tc : Thread Cert.MmRefIdeal.nD Cert.MmRefIdeal.τ).loc Cert.MmRefIdeal.main_arg0) = m' ((c.tc : Thread Cert.MmRefIdeal.nD Cert.MmRefIdeal.τ).loc Cert.MmRefIdeal.main_arg0)
          ∧ r.2.mem ((c.tc : Thread Cert.MmRefIdeal.nD Cert.MmRefIdeal.τ).loc Cert.MmRefIdeal.main_arg1) = m' ((c.tc : Thread Cert.MmRefIdeal.nD Cert.MmRefIdeal.τ).loc Cert.MmRefIdeal.main_arg1)
          ∧ r.2.mem ((c.tc : Thread Cert.MmRefIdeal.nD Cert.MmRefIdeal.τ).loc Cert.MmRefIdeal.main_arg2) = m' ((c.tc : Thread Cert.MmRefIdeal.nD Cert.MmRefIdeal.τ).loc Cert.MmRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v23) = v0 c
          ∧ r.2.mem ((c.tc : Thread Cert.AdamRefIdeal.nD Cert.AdamRefIdeal.τ).loc Cert.AdamRefIdeal.main_v4) = v1 c
          ∧ r.2.mem ((c.tc : Thread Cert.AdamRefIdeal.nD Cert.AdamRefIdeal.τ).loc Cert.AdamRefIdeal.main_v10) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def Claim : Prop :=
  ∃ (hLoss : Cert.Loss.Facts) (hLossIdeal : Cert.LossIdeal.Facts) (hLossRefIdeal : Cert.LossRefIdeal.Facts) (hFfnIn : Cert.FfnIn.Facts) (hFfnInIdeal : Cert.FfnInIdeal.Facts) (hFfnInRefIdeal : Cert.FfnInRefIdeal.Facts) (hMixIn : Cert.MixIn.Facts) (hMixInIdeal : Cert.MixInIdeal.Facts) (hMixInRefIdeal : Cert.MixInRefIdeal.Facts) (hFoxBwd : Cert.FoxBwd.Facts) (hFoxBwdIdeal : Cert.FoxBwdIdeal.Facts) (hFoxBwdRefIdeal : Cert.FoxBwdRefIdeal.Facts) (hFfnMid : Cert.FfnMid.Facts) (hFfnMidIdeal : Cert.FfnMidIdeal.Facts) (hFfnMidRefIdeal : Cert.FfnMidRefIdeal.Facts) (hGateBwd : Cert.GateBwd.Facts) (hGateBwdIdeal : Cert.GateBwdIdeal.Facts) (hGateBwdRefIdeal : Cert.GateBwdRefIdeal.Facts) (hRmsFwd : Cert.RmsFwd.Facts) (hRmsFwdIdeal : Cert.RmsFwdIdeal.Facts) (hRmsFwdRefIdeal : Cert.RmsFwdRefIdeal.Facts) (hFfnFwd : Cert.FfnFwd.Facts) (hFfnFwdIdeal : Cert.FfnFwdIdeal.Facts) (hFfnFwdRefIdeal : Cert.FfnFwdRefIdeal.Facts) (hGateFwd : Cert.GateFwd.Facts) (hGateFwdIdeal : Cert.GateFwdIdeal.Facts) (hGateFwdRefIdeal : Cert.GateFwdRefIdeal.Facts) (hMmRes : Cert.MmRes.Facts) (hMmResIdeal : Cert.MmResIdeal.Facts) (hMmResRefIdeal : Cert.MmResRefIdeal.Facts) (hMm : Cert.Mm.Facts) (hMmIdeal : Cert.MmIdeal.Facts) (hMmRefIdeal : Cert.MmRefIdeal.Facts) (hAdam : Cert.Adam.Facts) (hAdamIdeal : Cert.AdamIdeal.Facts) (hAdamRefIdeal : Cert.AdamRefIdeal.Facts) (hPre_finite_ffnin : Cert.Pre_finite_ffnin.Facts) (hPre_finite_mixin : Cert.Pre_finite_mixin.Facts) (hPre_finite_foxbwd : Cert.Pre_finite_foxbwd.Facts) (hPre_finite_ffnmid : Cert.Pre_finite_ffnmid.Facts),
    quiescent_Loss (hLoss := hLoss)
    ∧ quiescent_LossIdeal (hLossIdeal := hLossIdeal)
    ∧ quiescent_LossRefIdeal (hLossRefIdeal := hLossRefIdeal)
    ∧ quiescent_FfnIn (hFfnIn := hFfnIn)
    ∧ quiescent_FfnInIdeal (hFfnInIdeal := hFfnInIdeal)
    ∧ quiescent_FfnInIdeal_pre_finite_ffnin (hFfnInIdeal := hFfnInIdeal) (hPre_finite_ffnin := hPre_finite_ffnin)
    ∧ quiescent_FfnInRefIdeal (hFfnInRefIdeal := hFfnInRefIdeal)
    ∧ quiescent_FfnInRefIdeal_pre_finite_ffnin (hFfnInRefIdeal := hFfnInRefIdeal) (hPre_finite_ffnin := hPre_finite_ffnin)
    ∧ quiescent_MixIn (hMixIn := hMixIn)
    ∧ quiescent_MixInIdeal (hMixInIdeal := hMixInIdeal)
    ∧ quiescent_MixInIdeal_pre_finite_mixin (hMixInIdeal := hMixInIdeal) (hPre_finite_mixin := hPre_finite_mixin)
    ∧ quiescent_MixInRefIdeal (hMixInRefIdeal := hMixInRefIdeal)
    ∧ quiescent_MixInRefIdeal_pre_finite_mixin (hMixInRefIdeal := hMixInRefIdeal) (hPre_finite_mixin := hPre_finite_mixin)
    ∧ quiescent_FoxBwd (hFoxBwd := hFoxBwd)
    ∧ quiescent_FoxBwdIdeal (hFoxBwdIdeal := hFoxBwdIdeal)
    ∧ quiescent_FoxBwdIdeal_pre_finite_foxbwd (hFoxBwdIdeal := hFoxBwdIdeal) (hPre_finite_foxbwd := hPre_finite_foxbwd)
    ∧ quiescent_FoxBwdRefIdeal (hFoxBwdRefIdeal := hFoxBwdRefIdeal)
    ∧ quiescent_FoxBwdRefIdeal_pre_finite_foxbwd (hFoxBwdRefIdeal := hFoxBwdRefIdeal) (hPre_finite_foxbwd := hPre_finite_foxbwd)
    ∧ quiescent_FfnMid (hFfnMid := hFfnMid)
    ∧ quiescent_FfnMidIdeal (hFfnMidIdeal := hFfnMidIdeal)
    ∧ quiescent_FfnMidIdeal_pre_finite_ffnmid (hFfnMidIdeal := hFfnMidIdeal) (hPre_finite_ffnmid := hPre_finite_ffnmid)
    ∧ quiescent_FfnMidRefIdeal (hFfnMidRefIdeal := hFfnMidRefIdeal)
    ∧ quiescent_FfnMidRefIdeal_pre_finite_ffnmid (hFfnMidRefIdeal := hFfnMidRefIdeal) (hPre_finite_ffnmid := hPre_finite_ffnmid)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_MmRes (hMmRes := hMmRes)
    ∧ quiescent_MmResIdeal (hMmResIdeal := hMmResIdeal)
    ∧ quiescent_MmResRefIdeal (hMmResRefIdeal := hMmResRefIdeal)
    ∧ quiescent_Mm (hMm := hMm)
    ∧ quiescent_MmIdeal (hMmIdeal := hMmIdeal)
    ∧ quiescent_MmRefIdeal (hMmRefIdeal := hMmRefIdeal)
    ∧ quiescent_Adam (hAdam := hAdam)
    ∧ quiescent_AdamIdeal (hAdamIdeal := hAdamIdeal)
    ∧ quiescent_AdamRefIdeal (hAdamRefIdeal := hAdamRefIdeal)
    ∧ preserves_Loss_LossIdeal
    ∧ algebraic_LossIdeal_LossRefIdeal (hLossIdeal := hLossIdeal) (hLossRefIdeal := hLossRefIdeal)
    ∧ preserves_FfnIn_FfnInIdeal
    ∧ algebraic_FfnInIdeal_FfnInRefIdeal_pre_finite_ffnin (hFfnInIdeal := hFfnInIdeal) (hFfnInRefIdeal := hFfnInRefIdeal) (hPre_finite_ffnin := hPre_finite_ffnin)
    ∧ preserves_MixIn_MixInIdeal
    ∧ algebraic_MixInIdeal_MixInRefIdeal_pre_finite_mixin (hMixInIdeal := hMixInIdeal) (hMixInRefIdeal := hMixInRefIdeal) (hPre_finite_mixin := hPre_finite_mixin)
    ∧ preserves_FoxBwd_FoxBwdIdeal
    ∧ algebraic_FoxBwdIdeal_FoxBwdRefIdeal_pre_finite_foxbwd (hFoxBwdIdeal := hFoxBwdIdeal) (hFoxBwdRefIdeal := hFoxBwdRefIdeal) (hPre_finite_foxbwd := hPre_finite_foxbwd)
    ∧ preserves_FfnMid_FfnMidIdeal
    ∧ algebraic_FfnMidIdeal_FfnMidRefIdeal_pre_finite_ffnmid (hFfnMidIdeal := hFfnMidIdeal) (hFfnMidRefIdeal := hFfnMidRefIdeal) (hPre_finite_ffnmid := hPre_finite_ffnmid)
    ∧ preserves_GateBwd_GateBwdIdeal
    ∧ algebraic_GateBwdIdeal_GateBwdRefIdeal (hGateBwdIdeal := hGateBwdIdeal) (hGateBwdRefIdeal := hGateBwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_GateFwd_GateFwdIdeal
    ∧ algebraic_GateFwdIdeal_GateFwdRefIdeal (hGateFwdIdeal := hGateFwdIdeal) (hGateFwdRefIdeal := hGateFwdRefIdeal)
    ∧ preserves_MmRes_MmResIdeal
    ∧ algebraic_MmResIdeal_MmResRefIdeal (hMmResIdeal := hMmResIdeal) (hMmResRefIdeal := hMmResRefIdeal)
    ∧ preserves_Mm_MmIdeal
    ∧ algebraic_MmIdeal_MmRefIdeal (hMmIdeal := hMmIdeal) (hMmRefIdeal := hMmRefIdeal)
    ∧ preserves_Adam_AdamIdeal
    ∧ algebraic_AdamIdeal_AdamRefIdeal (hAdamIdeal := hAdamIdeal) (hAdamRefIdeal := hAdamRefIdeal)
-- ==== Pre_finite_ffnin.lean ====
abbrev S4224x1024 : Shape := ⟨2, ![4224, 1024]⟩
abbrev S1024 : Shape := ⟨1, ![1024]⟩
abbrev S1024x5632 : Shape := ⟨2, ![1024, 5632]⟩
abbrev S4224x5632 : Shape := ⟨2, ![4224, 5632]⟩
abbrev S_ : Shape := ⟨0, ![]⟩

class Facts : Prop where
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S4224x5632 : S_.BroadcastsInDim S4224x5632 (![] : Fin 0 → Fin S4224x5632.rank)
  reducesTo_S4224x5632_S_d0_1 : S4224x5632.ReducesTo [0, 1] S_

variable [Facts]

def fn_part1 {F : FTy → Type} [FloatOps F] (main_v13 : IVec S_ 1) (main_v16 : IVec S4224x5632 1) : IVec S_ 1 :=
  let main_c_5 : IVec S_ 1 := constantI S_ 1 1#1
  let main_v17 : IVec S_ 1 := (fun x v => Host.reduce IntOp.andi x v reducesTo_S4224x5632_S_d0_1 h_S_) main_v16 main_c_5
  let main_v18 : IVec S_ 1 := andi main_v13 main_v17
  main_v18

def fn {F : FTy → Type} [FloatOps F] (main_arg0 : FVec F S4224x1024 .f32) (main_arg1 : FVec F S1024 .f32) (main_arg2 : FVec F S1024x5632 .f32) (main_arg3 : FVec F S4224x5632 .f32) (main_arg4 : FVec F S4224x1024 .f32) : IVec S_ 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_c : IVec S_ 1 := constantI S_ 1 1#1
  let main_v3 : IVec S_ 1 := (fun x v => Host.reduce IntOp.andi x v reducesTo_S4224x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S4224x5632 .f32 := Host.absf main_arg3
  let main_cst_4 : FVec F S_ .f32 := constant S_ .f32 0x7F800000#32
  let main_v15 : FVec F S4224x5632 .f32 := broadcastInDim S4224x5632 ![] bcast_S_S4224x5632 main_cst_4
  let main_v16 : IVec S4224x5632 1 := cmpf .olt main_v14 main_v15
  fn_part1 (F := F) main_v13 main_v16
-- ==== Pre_finite_ffnmid.lean ====
abbrev S4224x1024 : Shape := ⟨2, ![4224, 1024]⟩
abbrev S1024x5632 : Shape := ⟨2, ![1024, 5632]⟩
abbrev S2816x1024 : Shape := ⟨2, ![2816, 1024]⟩
abbrev S_ : Shape := ⟨0, ![]⟩

class Facts : Prop where
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S4224x1024 1) : IVec S_ 1 :=
  let main_c_5 : IVec S_ 1 := constantI S_ 1 1#1
  let main_v17 : IVec S_ 1 := (fun x v => Host.reduce IntOp.andi x v reducesTo_S4224x1024_S_d0_1 h_S_) main_v16 main_c_5
  let main_v18 : IVec S_ 1 := andi main_v13 main_v17
  main_v18

def fn {F : FTy → Type} [FloatOps F] (main_arg0 : FVec F S4224x1024 .f32) (main_arg1 : FVec F S1024x5632 .f32) (main_arg2 : FVec F S2816x1024 .f32) (main_arg3 : FVec F S4224x1024 .f32) : IVec S_ 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_c : IVec S_ 1 := constantI S_ 1 1#1
  let main_v3 : IVec S_ 1 := (fun x v => Host.reduce IntOp.andi x v reducesTo_S4224x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4224x1024 .f32 := Host.absf main_arg3
  let main_cst_4 : FVec F S_ .f32 := constant S_ .f32 0x7F800000#32
  let main_v15 : FVec F S4224x1024 .f32 := broadcastInDim S4224x1024 ![] bcast_S_S4224x1024 main_cst_4
  let main_v16 : IVec S4224x1024 1 := cmpf .olt main_v14 main_v15
  fn_part1 (F := F) main_v13 main_v16
-- ==== Pre_finite_foxbwd.lean ====
abbrev S4224x8x64 : Shape := ⟨3, ![4224, 8, 64]⟩
abbrev S4224x8 : Shape := ⟨2, ![4224, 8]⟩
abbrev S4112x512 : Shape := ⟨2, ![4112, 512]⟩
abbrev S_ : Shape := ⟨0, ![]⟩

class Facts : Prop where
  bcast_S_S4224x8x64 : S_.BroadcastsInDim S4224x8x64 (![] : Fin 0 → Fin S4224x8x64.rank)
  reducesTo_S4224x8x64_S_d0_1_2 : S4224x8x64.ReducesTo [0, 1, 2] S_
  h_S_ : 0 < S_.numel
  bcast_S_S4224x8 : S_.BroadcastsInDim S4224x8 (![] : Fin 0 → Fin S4224x8.rank)
  reducesTo_S4224x8_S_d0_1 : S4224x8.ReducesTo [0, 1] S_
  bcast_S_S4112x512 : S_.BroadcastsInDim S4112x512 (![] : Fin 0 → Fin S4112x512.rank)
  reducesTo_S4112x512_S_d0_1 : S4112x512.ReducesTo [0, 1] S_

variable [Facts]

def fn_part1 {F : FTy → Type} [FloatOps F] (main_arg4 : FVec F S4224x8 .f32) (main_arg5 : FVec F S4112x512 .f32) (main_v13 : IVec S_ 1) (main_v16 : IVec S4224x8 1) : IVec S_ 1 :=
  let main_c_5 : IVec S_ 1 := constantI S_ 1 1#1
  let main_v17 : IVec S_ 1 := (fun x v => Host.reduce IntOp.andi x v reducesTo_S4224x8_S_d0_1 h_S_) main_v16 main_c_5
  let main_v18 : IVec S_ 1 := andi main_v13 main_v17
  let main_v19 : FVec F S4224x8 .f32 := Host.absf main_arg4
  let main_cst_6 : FVec F S_ .f32 := constant S_ .f32 0x7F800000#32
  let main_v20 : FVec F S4224x8 .f32 := broadcastInDim S4224x8 ![] bcast_S_S4224x8 main_cst_6
  let main_v21 : IVec S4224x8 1 := cmpf .olt main_v19 main_v20
  let main_c_7 : IVec S_ 1 := constantI S_ 1 1#1
  let main_v22 : IVec S_ 1 := (fun x v => Host.reduce IntOp.andi x v reducesTo_S4224x8_S_d0_1 h_S_) main_v21 main_c_7
  let main_v23 : IVec S_ 1 := andi main_v18 main_v22
  let main_v24 : FVec F S4112x512 .f32 := Host.absf main_arg5
  let main_cst_8 : FVec F S_ .f32 := constant S_ .f32 0x7F800000#32
  let main_v25 : FVec F S4112x512 .f32 := broadcastInDim S4112x512 ![] bcast_S_S4112x512 main_cst_8
  let main_v26 : IVec S4112x512 1 := cmpf .olt main_v24 main_v25
  let main_c_9 : IVec S_ 1 := constantI S_ 1 1#1
  let main_v27 : IVec S_ 1 := (fun x v => Host.reduce IntOp.andi x v reducesTo_S4112x512_S_d0_1 h_S_) main_v26 main_c_9
  let main_v28 : IVec S_ 1 := andi main_v23 main_v27
  main_v28

def fn {F : FTy → Type} [FloatOps F] (main_arg0 : FVec F S4224x8x64 .f32) (main_arg1 : FVec F S4224x8x64 .f32) (main_arg2 : FVec F S4224x8x64 .f32) (main_arg3 : FVec F S4224x8 .f32) (main_arg4 : FVec F S4224x8 .f32) (main_arg5 : FVec F S4112x512 .f32) : IVec S_ 1 :=
  let main_v0 : FVec F S4224x8x64 .f32 := Host.absf main_arg0
  let main_cst : FVec F S_ .f32 := constant S_ .f32 0x7F800000#32
  let main_v1 : FVec F S4224x8x64 .f32 := broadcastInDim S4224x8x64 ![] bcast_S_S4224x8x64 main_cst
  let main_v2 : IVec S4224x8x64 1 := cmpf .olt main_v0 main_v1
  let main_c : IVec S_ 1 := constantI S_ 1 1#1
  let main_v3 : IVec S_ 1 := (fun x v => Host.reduce IntOp.andi x v reducesTo_S4224x8x64_S_d0_1_2 h_S_) main_v2 main_c
  let main_v4 : FVec F S4224x8x64 .f32 := Host.absf main_arg1
  let main_cst_0 : FVec F S_ .f32 := constant S_ .f32 0x7F800000#32
  let main_v5 : FVec F S4224x8x64 .f32 := broadcastInDim S4224x8x64 ![] bcast_S_S4224x8x64 main_cst_0
  let main_v6 : IVec S4224x8x64 1 := cmpf .olt main_v4 main_v5
  let main_c_1 : IVec S_ 1 := constantI S_ 1 1#1
  let main_v7 : IVec S_ 1 := (fun x v => Host.reduce IntOp.andi x v reducesTo_S4224x8x64_S_d0_1_2 h_S_) main_v6 main_c_1
  let main_v8 : IVec S_ 1 := andi main_v3 main_v7
  let main_v9 : FVec F S4224x8x64 .f32 := Host.absf main_arg2
  let main_cst_2 : FVec F S_ .f32 := constant S_ .f32 0x7F800000#32
  let main_v10 : FVec F S4224x8x64 .f32 := broadcastInDim S4224x8x64 ![] bcast_S_S4224x8x64 main_cst_2
  let main_v11 : IVec S4224x8x64 1 := cmpf .olt main_v9 main_v10
  let main_c_3 : IVec S_ 1 := constantI S_ 1 1#1
  let main_v12 : IVec S_ 1 := (fun x v => Host.reduce IntOp.andi x v reducesTo_S4224x8x64_S_d0_1_2 h_S_) main_v11 main_c_3
  let main_v13 : IVec S_ 1 := andi main_v8 main_v12
  let main_v14 : FVec F S4224x8 .f32 := Host.absf main_arg3
  let main_cst_4 : FVec F S_ .f32 := constant S_ .f32 0x7F800000#32
  let main_v15 : FVec F S4224x8 .f32 := broadcastInDim S4224x8 ![] bcast_S_S4224x8 main_cst_4
  let main_v16 : IVec S4224x8 1 := cmpf .olt main_v14 main_v15
  fn_part1 (F := F) main_arg4 main_arg5 main_v13 main_v16
-- ==== Pre_finite_mixin.lean ====
abbrev S4224x1024 : Shape := ⟨2, ![4224, 1024]⟩
abbrev S1024 : Shape := ⟨1, ![1024]⟩
abbrev S1024x4360 : Shape := ⟨2, ![1024, 4360]⟩
abbrev S4224x4360 : Shape := ⟨2, ![4224, 4360]⟩
abbrev S_ : Shape := ⟨0, ![]⟩

class Facts : Prop where
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4360 : S_.BroadcastsInDim S1024x4360 (![] : Fin 0 → Fin S1024x4360.rank)
  reducesTo_S1024x4360_S_d0_1 : S1024x4360.ReducesTo [0, 1] S_
  bcast_S_S4224x4360 : S_.BroadcastsInDim S4224x4360 (![] : Fin 0 → Fin S4224x4360.rank)
  reducesTo_S4224x4360_S_d0_1 : S4224x4360.ReducesTo [0, 1] S_

variable [Facts]

def fn_part1 {F : FTy → Type} [FloatOps F] (main_v13 : IVec S_ 1) (main_v16 : IVec S4224x4360 1) : IVec S_ 1 :=
  let main_c_5 : IVec S_ 1 := constantI S_ 1 1#1
  let main_v17 : IVec S_ 1 := (fun x v => Host.reduce IntOp.andi x v reducesTo_S4224x4360_S_d0_1 h_S_) main_v16 main_c_5
  let main_v18 : IVec S_ 1 := andi main_v13 main_v17
  main_v18

def fn {F : FTy → Type} [FloatOps F] (main_arg0 : FVec F S4224x1024 .f32) (main_arg1 : FVec F S1024 .f32) (main_arg2 : FVec F S1024x4360 .f32) (main_arg3 : FVec F S4224x4360 .f32) (main_arg4 : FVec F S4224x1024 .f32) : IVec S_ 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_c : IVec S_ 1 := constantI S_ 1 1#1
  let main_v3 : IVec S_ 1 := (fun x v => Host.reduce IntOp.andi x v reducesTo_S4224x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4360 .f32 := Host.absf main_arg2
  let main_cst_2 : FVec F S_ .f32 := constant S_ .f32 0x7F800000#32
  let main_v10 : FVec F S1024x4360 .f32 := broadcastInDim S1024x4360 ![] bcast_S_S1024x4360 main_cst_2
  let main_v11 : IVec S1024x4360 1 := cmpf .olt main_v9 main_v10
  let main_c_3 : IVec S_ 1 := constantI S_ 1 1#1
  let main_v12 : IVec S_ 1 := (fun x v => Host.reduce IntOp.andi x v reducesTo_S1024x4360_S_d0_1 h_S_) main_v11 main_c_3
  let main_v13 : IVec S_ 1 := andi main_v8 main_v12
  let main_v14 : FVec F S4224x4360 .f32 := Host.absf main_arg3
  let main_cst_4 : FVec F S_ .f32 := constant S_ .f32 0x7F800000#32
  let main_v15 : FVec F S4224x4360 .f32 := broadcastInDim S4224x4360 ![] bcast_S_S4224x4360 main_cst_4
  let main_v16 : IVec S4224x4360 1 := cmpf .olt main_v14 main_v15
  fn_part1 (F := F) main_v13 main_v16
-- ==== Loss.lean ====
abbrev S4224x1024 : Shape := ⟨2, ![4224, 1024]⟩
abbrev S4096x1024 : Shape := ⟨2, ![4096, 1024]⟩
abbrev S8x128 : Shape := ⟨2, ![8, 128]⟩
abbrev S384x1024 : Shape := ⟨2, ![384, 1024]⟩
abbrev S128x1024 : Shape := ⟨2, ![128, 1024]⟩
abbrev S1x128x1024 : Shape := ⟨3, ![1, 128, 1024]⟩
abbrev S1 : Shape := ⟨1, ![1]⟩
abbrev S1x1x1 : Shape := ⟨3, ![1, 1, 1]⟩

abbrev nBuf : Space → Nat
  | .hbm => 5
  | .vmem => 13
  | .smem => 0
  | _ => 0

abbrev bufTy : (tb : Table) → Fin (tcTables nBuf tb) → BufTy
  | .hbm, ⟨0, _⟩ => ⟨S4224x1024, .f32⟩
  | .hbm, ⟨1, _⟩ => ⟨S4096x1024, .f32⟩
  | .hbm, ⟨2, _⟩ => ⟨S4224x1024, .f32⟩
  | .hbm, ⟨3, _⟩ => ⟨S4224x1024, .bf16⟩
  | .hbm, ⟨4, _⟩ => ⟨S8x128, .f32⟩
  | .local _ .vmem, ⟨0, _⟩ => ⟨S384x1024, .f32⟩
  | .local _ .vmem, ⟨1, _⟩ => ⟨S384x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .bf16⟩
  | .local _ .vmem, ⟨11, _⟩ => ⟨S384x1024, .bf16⟩
  | .local _ .vmem, ⟨12, _⟩ => ⟨S8x128, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.muli arg0 c3_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c3_i32 : BitVec 32 := 3#32
  let v0 : BitVec 32 := Scalar.muli arg0 c3_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c3_i32 : BitVec 32 := 3#32
  let v0 : BitVec 32 := Scalar.muli arg0 c3_i32
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4224x1024 : Shape := ⟨2, ![4224, 1024]⟩
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 30
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4224x1024, .f32⟩
  | .hbm, ⟨28, _⟩ => ⟨S4224x1024, .bf16⟩
  | .hbm, ⟨29, _⟩ => ⟨S8x128, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== FfnIn.lean ====
abbrev S4224x1024 : Shape := ⟨2, ![4224, 1024]⟩
abbrev S1024 : Shape := ⟨1, ![1024]⟩
abbrev S1024x5632 : Shape := ⟨2, ![1024, 5632]⟩
abbrev S4224x5632 : Shape := ⟨2, ![4224, 5632]⟩
abbrev S4224x2816 : Shape := ⟨2, ![4224, 2816]⟩
abbrev S1x4224x2816 : Shape := ⟨3, ![1, 4224, 2816]⟩
abbrev S2x4224x2816 : Shape := ⟨3, ![2, 4224, 2816]⟩
abbrev S1x1024 : Shape := ⟨2, ![1, 1024]⟩
abbrev S8x1024 : Shape := ⟨2, ![8, 1024]⟩
abbrev S2x384x2816 : Shape := ⟨3, ![2, 384, 2816]⟩
abbrev S1024x2816 : Shape := ⟨2, ![1024, 2816]⟩
abbrev S384x1024 : Shape := ⟨2, ![384, 1024]⟩
abbrev S1x384x2816 : Shape := ⟨3, ![1, 384, 2816]⟩
abbrev S384x2816 : Shape := ⟨2, ![384, 2816]⟩
abbrev S384 : Shape := ⟨1, ![384]⟩
abbrev S384x1 : Shape := ⟨2, ![384, 1]⟩

abbrev nBuf : Space → Nat
  | .hbm => 16
  | .vmem => 14
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x5632, .f32⟩
  | .hbm, ⟨3, _⟩ => ⟨S4224x5632, .f32⟩
  | .hbm, ⟨4, _⟩ => ⟨S4224x1024, .f32⟩
  | .hbm, ⟨5, _⟩ => ⟨S4224x2816, .f32⟩
  | .hbm, ⟨6, _⟩ => ⟨S4224x2816, .f32⟩
  | .hbm, ⟨7, _⟩ => ⟨S1x4224x2816, .f32⟩
  | .hbm, ⟨8, _⟩ => ⟨S1x4224x2816, .f32⟩
  | .hbm, ⟨9, _⟩ => ⟨S2x4224x2816, .f32⟩
  | .hbm, ⟨10, _⟩ => ⟨S2x4224x2816, .bf16⟩
  | .hbm, ⟨11, _⟩ => ⟨S1024x5632, .bf16⟩
  | .hbm, ⟨12, _⟩ => ⟨S1x1024, .f32⟩
  | .hbm, ⟨13, _⟩ => ⟨S4224x1024, .f32⟩
  | .hbm, ⟨14, _⟩ => ⟨S4224x1024, .bf16⟩
  | .hbm, ⟨15, _⟩ => ⟨S8x1024, .f32⟩
  | .local _ .vmem, ⟨0, _⟩ => ⟨S2x384x2816, .bf16⟩
  | .local _ .vmem, ⟨1, _⟩ => ⟨S2x384x2816, .bf16⟩
  | .local _ .vmem, ⟨2, _⟩ => ⟨S1024x2816, .bf16⟩
  | .local _ .vmem, ⟨3, _⟩ => ⟨S1024x2816, .bf16⟩
  | .local _ .vmem, ⟨4, _⟩ => ⟨S384x1024, .f32⟩
  | .local _ .vmem, ⟨5, _⟩ => ⟨S384x1024, .f32⟩
  | .local _ .vmem, ⟨6, _⟩ => ⟨S1x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .bf16⟩
  | .local _ .vmem, ⟨12, _⟩ => ⟨S384x1024, .bf16⟩
  | .local _ .vmem, ⟨13, _⟩ => ⟨S8x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnInRefIdeal.lean ====
abbrev S4224x1024 : Shape := ⟨2, ![4224, 1024]⟩
abbrev S1024 : Shape := ⟨1, ![1024]⟩
abbrev S1024x5632 : Shape := ⟨2, ![1024, 5632]⟩
abbrev S4224x5632 : Shape := ⟨2, ![4224, 5632]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x5632, .f32⟩
  | .hbm, ⟨3, _⟩ => ⟨S4224x5632, .f32⟩
  | .hbm, ⟨4, _⟩ => ⟨S4224x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S1x1024, .f32⟩
  | .hbm, ⟨23, _⟩ => ⟨S4224x1024, .f32⟩
  | .hbm, ⟨24, _⟩ => ⟨S4224x1024, .f32⟩
  | .hbm, ⟨25, _⟩ => ⟨S4224x5632, .f32⟩
  | .hbm, ⟨26, _⟩ => ⟨S4224x1024, .f32⟩
  | .hbm, ⟨27, _⟩ => ⟨S4224x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4224x1024, .f32⟩
  | .hbm, ⟨32, _⟩ => ⟨S4224x1024, .f32⟩
  | .hbm, ⟨33, _⟩ => ⟨S_, .f32⟩
  | .hbm, ⟨34, _⟩ => ⟨S1024, .f32⟩
  | .hbm, ⟨35, _⟩ => ⟨S4224x1024, .f32⟩
  | .hbm, ⟨36, _⟩ => ⟨S_, .f32⟩
  | .hbm, ⟨37, _⟩ => ⟨S4224, .f32⟩
  | .hbm, ⟨38, _⟩ => ⟨S4224x1, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S4224x1, .f32⟩
  | .hbm, ⟨43, _⟩ => ⟨S_, .f32⟩
  | .hbm, ⟨44, _⟩ => ⟨S4224x1, .f32⟩
  | .hbm, ⟨45, _⟩ => ⟨S4224x1, .f32⟩
  | .hbm, ⟨46, _⟩ => ⟨S_, .f32⟩
  | .hbm, ⟨47, _⟩ => ⟨S4224, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S4224x1024, .f32⟩
  | .hbm, ⟨53, _⟩ => ⟨S4224x1024, .bf16⟩
  | .hbm, ⟨54, _⟩ => ⟨S1x1024, .f32⟩
  | .hbm, ⟨55, _⟩ => ⟨S_, .i32⟩
  | .hbm, ⟨56, _⟩ => ⟨S_, .f32⟩
  | .hbm, ⟨57, _⟩ => ⟨S8x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== MixIn.lean ====
abbrev S4224x1024 : Shape := ⟨2, ![4224, 1024]⟩
abbrev S1024 : Shape := ⟨1, ![1024]⟩
abbrev S1024x4360 : Shape := ⟨2, ![1024, 4360]⟩
abbrev S4224x4360 : Shape := ⟨2, ![4224, 4360]⟩
abbrev S4224x2048 : Shape := ⟨2, ![4224, 2048]⟩
abbrev S4224x1536 : Shape := ⟨2, ![4224, 1536]⟩
abbrev S4224x768 : Shape := ⟨2, ![4224, 768]⟩
abbrev S4224x8 : Shape := ⟨2, ![4224, 8]⟩
abbrev S_ : Shape := ⟨0, ![]⟩
abbrev S4224x120 : Shape := ⟨2, ![4224, 120]⟩
abbrev S4224x4480 : Shape := ⟨2, ![4224, 4480]⟩
abbrev S1024x2048 : Shape := ⟨2, ![1024, 2048]⟩
abbrev S1024x1536 : Shape := ⟨2, ![1024, 1536]⟩
abbrev S1024x768 : Shape := ⟨2, ![1024, 768]⟩
abbrev S1024x8 : Shape := ⟨2, ![1024, 8]⟩
abbrev S1024x120 : Shape := ⟨2, ![1024, 120]⟩
abbrev S1024x4480 : Shape := ⟨2, ![1024, 4480]⟩
abbrev S1x1024 : Shape := ⟨2, ![1, 1024]⟩
abbrev S8x1024 : Shape := ⟨2, ![8, 1024]⟩
abbrev S384x4480 : Shape := ⟨2, ![384, 4480]⟩
abbrev S384x1024 : Shape := ⟨2, ![384, 1024]⟩
abbrev S384 : Shape := ⟨1, ![384]⟩
abbrev S384x1 : Shape := ⟨2, ![384, 1]⟩

abbrev nBuf : Space → Nat
  | .hbm => 25
  | .vmem => 13
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x4360, .f32⟩
  | .hbm, ⟨3, _⟩ => ⟨S4224x4360, .f32⟩
  | .hbm, ⟨4, _⟩ => ⟨S4224x1024, .f32⟩
  | .hbm, ⟨5, _⟩ => ⟨S4224x2048, .f32⟩
  | .hbm, ⟨6, _⟩ => ⟨S4224x1536, .f32⟩
  | .hbm, ⟨7, _⟩ => ⟨S4224x768, .f32⟩
  | .hbm, ⟨8, _⟩ => ⟨S4224x8, .f32⟩
  | .hbm, ⟨9, _⟩ => ⟨S_, .f32⟩
  | .hbm, ⟨10, _⟩ => ⟨S4224x120, .f32⟩
  | .hbm, ⟨11, _⟩ => ⟨S4224x4480, .f32⟩
  | .hbm, ⟨12, _⟩ => ⟨S4224x4480, .bf16⟩
  | .hbm, ⟨13, _⟩ => ⟨S1024x2048, .f32⟩
  | .hbm, ⟨14, _⟩ => ⟨S1024x1536, .f32⟩
  | .hbm, ⟨15, _⟩ => ⟨S1024x768, .f32⟩
  | .hbm, ⟨16, _⟩ => ⟨S1024x8, .f32⟩
  | .hbm, ⟨17, _⟩ => ⟨S_, .f32⟩
  | .hbm, ⟨18, _⟩ => ⟨S1024x120, .f32⟩
  | .hbm, ⟨19, _⟩ => ⟨S1024x4480, .f32⟩
  | .hbm, ⟨20, _⟩ => ⟨S1024x4480, .bf16⟩
  | .hbm, ⟨21, _⟩ => ⟨S1x1024, .f32⟩
  | .hbm, ⟨22, _⟩ => ⟨S4224x1024, .f32⟩
  | .hbm, ⟨23, _⟩ => ⟨S4224x1024, .bf16⟩
  | .hbm, ⟨24, _⟩ => ⟨S8x1024, .f32⟩
  | .local _ .vmem, ⟨0, _⟩ => ⟨S384x4480, .bf16⟩
  | .local _ .vmem, ⟨1, _⟩ => ⟨S384x4480, .bf16⟩
  | .local _ .vmem, ⟨2, _⟩ => ⟨S1024x4480, .bf16⟩
  | .local _ .vmem, ⟨3, _⟩ => ⟨S384x1024, .f32⟩
  | .local _ .vmem, ⟨4, _⟩ => ⟨S384x1024, .f32⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .bf16⟩
  | .local _ .vmem, ⟨11, _⟩ => ⟨S384x1024, .bf16⟩
  | .local _ .vmem, ⟨12, _⟩ => ⟨S8x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x4480 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4480 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixInRefIdeal.lean ====
abbrev S4224x1024 : Shape := ⟨2, ![4224, 1024]⟩
abbrev S1024 : Shape := ⟨1, ![1024]⟩
abbrev S1024x4360 : Shape := ⟨2, ![1024, 4360]⟩
abbrev S4224x4360 : Shape := ⟨2, ![4224, 4360]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1024x4360, .f32⟩
  | .hbm, ⟨3, _⟩ => ⟨S4224x4360, .f32⟩
  | .hbm, ⟨4, _⟩ => ⟨S4224x1024, .f32⟩
  | .hbm, ⟨5, _⟩ => ⟨S4224x1024, .f32⟩
  | .hbm, ⟨6, _⟩ => ⟨S_, .f32⟩
  | .hbm, ⟨7, _⟩ => ⟨S4224, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S_, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S_, .f32⟩
  | .hbm, ⟨18, _⟩ => ⟨S4224x1, .f32⟩
  | .hbm, ⟨19, _⟩ => ⟨S4224x1, .f32⟩
  | .hbm, ⟨20, _⟩ => ⟨S4224x1024, .f32⟩
  | .hbm, ⟨21, _⟩ => ⟨S4224x1024, .f32⟩
  | .hbm, ⟨22, _⟩ => ⟨S1x1024, .f32⟩
  | .hbm, ⟨23, _⟩ => ⟨S4224x1024, .f32⟩
  | .hbm, ⟨24, _⟩ => ⟨S4224x1024, .f32⟩
  | .hbm, ⟨25, _⟩ => ⟨S4224x4360, .f32⟩
  | .hbm, ⟨26, _⟩ => ⟨S4224x1024, .f32⟩
  | .hbm, ⟨27, _⟩ => ⟨S4224x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4224x1024, .f32⟩
  | .hbm, ⟨32, _⟩ => ⟨S4224x1024, .f32⟩
  | .hbm, ⟨33, _⟩ => ⟨S_, .f32⟩
  | .hbm, ⟨34, _⟩ => ⟨S1024, .f32⟩
  | .hbm, ⟨35, _⟩ => ⟨S4224x1024, .f32⟩
  | .hbm, ⟨36, _⟩ => ⟨S_, .f32⟩
  | .hbm, ⟨37, _⟩ => ⟨S4224, .f32⟩
  | .hbm, ⟨38, _⟩ => ⟨S4224x1, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S4224x1, .f32⟩
  | .hbm, ⟨43, _⟩ => ⟨S_, .f32⟩
  | .hbm, ⟨44, _⟩ => ⟨S4224x1, .f32⟩
  | .hbm, ⟨45, _⟩ => ⟨S4224x1, .f32⟩
  | .hbm, ⟨46, _⟩ => ⟨S_, .f32⟩
  | .hbm, ⟨47, _⟩ => ⟨S4224, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S4224x1024, .f32⟩
  | .hbm, ⟨53, _⟩ => ⟨S4224x1024, .bf16⟩
  | .hbm, ⟨54, _⟩ => ⟨S1x1024, .f32⟩
  | .hbm, ⟨55, _⟩ => ⟨S_, .i32⟩
  | .hbm, ⟨56, _⟩ => ⟨S_, .f32⟩
  | .hbm, ⟨57, _⟩ => ⟨S8x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c : Ref sig .tc := ⟨.hbm, 55, rfl⟩
abbrev main_call0_v0 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== FoxBwd.lean ====
abbrev S4224x8x64 : Shape := ⟨3, ![4224, 8, 64]⟩
abbrev S4224x8 : Shape := ⟨2, ![4224, 8]⟩
abbrev S4112x512 : Shape := ⟨2, ![4112, 512]⟩
abbrev S66 : Shape := ⟨1, ![66]⟩
abbrev S4112x8x64 : Shape := ⟨3, ![4112, 8, 64]⟩
abbrev S4112x8 : Shape := ⟨2, ![4112, 8]⟩
abbrev S8x4112x4224 : Shape := ⟨3, ![8, 4112, 4224]⟩
abbrev S_ : Shape := ⟨0, ![]⟩
abbrev S8x4112 : Shape := ⟨2, ![8, 4112]⟩
abbrev S8x4112x1 : Shape := ⟨3, ![8, 4112, 1]⟩
abbrev S8x4224 : Shape := ⟨2, ![8, 4224]⟩
abbrev S8x1x4224 : Shape := ⟨3, ![8, 1, 4224]⟩
abbrev S4112 : Shape := ⟨1, ![4112]⟩
abbrev S4224 : Shape := ⟨1, ![4224]⟩
abbrev S1x4224 : Shape := ⟨2, ![1, 4224]⟩
abbrev S4112x1 : Shape := ⟨2, ![4112, 1]⟩
abbrev S4112x4224 : Shape := ⟨2, ![4112, 4224]⟩
abbrev S1x4112x4224 : Shape := ⟨3, ![1, 4112, 4224]⟩
abbrev S8x64x4112 : Shape := ⟨3, ![8, 64, 4112]⟩
abbrev S4224x512 : Shape := ⟨2, ![4224, 512]⟩
abbrev S512x4224 : Shape := ⟨2, ![512, 4224]⟩
abbrev S4224x128 : Shape := ⟨2, ![4224, 128]⟩
abbrev S384x128 : Shape := ⟨2, ![384, 128]⟩
abbrev S1 : Shape := ⟨1, ![1]⟩
abbrev S128x384 : Shape := ⟨2, ![128, 384]⟩
abbrev S8x384 : Shape := ⟨2, ![8, 384]⟩
abbrev S2x384x128 : Shape := ⟨3, ![2, 384, 128]⟩
abbrev S11x128x384 : Shape := ⟨3, ![11, 128, 384]⟩
abbrev S1x128 : Shape := ⟨2, ![1, 128]⟩
abbrev S128x1 : Shape := ⟨2, ![128, 1]⟩
abbrev S384 : Shape := ⟨1, ![384]⟩
abbrev S384x1 : Shape := ⟨2, ![384, 1]⟩
abbrev S1x384x128 : Shape := ⟨3, ![1, 384, 128]⟩
abbrev S16x384 : Shape := ⟨2, ![16, 384]⟩
abbrev S1x384 : Shape := ⟨2, ![1, 384]⟩
abbrev S384x384 : Shape := ⟨2, ![384, 384]⟩
abbrev S8x1 : Shape := ⟨2, ![8, 1]⟩
abbrev S144x384 : Shape := ⟨2, ![144, 384]⟩
abbrev S384x256 : Shape := ⟨2, ![384, 256]⟩
abbrev S1x128x384 : Shape := ⟨3, ![1, 128, 384]⟩
abbrev S1x8x384 : Shape := ⟨3, ![1, 8, 384]⟩
abbrev S128x128 : Shape := ⟨2, ![128, 128]⟩

abbrev nBuf : Space → Nat
  | .hbm => 93
  | .vmem => 38
  | .smem => 2
  | _ => 0

abbrev bufTy : (tb : Table) → Fin (tcTables nBuf tb) → BufTy
  | .hbm, ⟨0, _⟩ => ⟨S4224x8x64, .f32⟩
  | .hbm, ⟨1, _⟩ => ⟨S4224x8x64, .f32⟩
  | .hbm, ⟨2, _⟩ => ⟨S4224x8x64, .f32⟩
  | .hbm, ⟨3, _⟩ => ⟨S4224x8, .f32⟩
  | .hbm, ⟨4, _⟩ => ⟨S4224x8, .f32⟩
  | .hbm, ⟨5, _⟩ => ⟨S4112x512, .f32⟩
  | .hbm, ⟨6, _⟩ => ⟨S4112x8x64, .f32⟩
  | .hbm, ⟨7, _⟩ => ⟨S4112x8, .f32⟩
  | .hbm, ⟨8, _⟩ => ⟨S8x4112x4224, .f32⟩
  | .hbm, ⟨9, _⟩ => ⟨S_, .f32⟩
  | .hbm, ⟨10, _⟩ => ⟨S8x4112x4224, .f32⟩
  | .hbm, ⟨11, _⟩ => ⟨S8x4112x4224, .f32⟩
  | .hbm, ⟨12, _⟩ => ⟨S8x4112, .f32⟩
  | .hbm, ⟨13, _⟩ => ⟨S8x4112x1, .f32⟩
  | .hbm, ⟨14, _⟩ => ⟨S8x4112x4224, .f32⟩
  | .hbm, ⟨15, _⟩ => ⟨S8x4112x4224, .f32⟩
  | .hbm, ⟨16, _⟩ => ⟨S8x4224, .f32⟩
  | .hbm, ⟨17, _⟩ => ⟨S8x1x4224, .f32⟩
  | .hbm, ⟨18, _⟩ => ⟨S8x4112x4224, .f32⟩
  | .hbm, ⟨19, _⟩ => ⟨S8x4112x4224, .f32⟩
  | .hbm, ⟨20, _⟩ => ⟨S4112, .i32⟩
  | .hbm, ⟨21, _⟩ => ⟨S_, .i32⟩
  | .hbm, ⟨22, _⟩ => ⟨S4112, .i32⟩
  | .hbm, ⟨23, _⟩ => ⟨S4112, .i32⟩
  | .hbm, ⟨24, _⟩ => ⟨S4224, .i32⟩
  | .hbm, ⟨25, _⟩ => ⟨S1x4224, .i32⟩
  | .hbm, ⟨26, _⟩ => ⟨S4112x1, .i32⟩
  | .hbm, ⟨27, _⟩ => ⟨S4112x4224, .i32⟩
  | .hbm, ⟨28, _⟩ => ⟨S4112x4224, .i32⟩
  | .hbm, ⟨29, _⟩ => ⟨S4112x4224, .i1⟩
  | .hbm, ⟨30, _⟩ => ⟨S_, .i32⟩
  | .hbm, ⟨31, _⟩ => ⟨S4224, .i32⟩
  | .hbm, ⟨32, _⟩ => ⟨S4224, .i1⟩
  | .hbm, ⟨33, _⟩ => ⟨S1x4224, .i1⟩
  | .hbm, ⟨34, _⟩ => ⟨S4112x4224, .i1⟩
  | .hbm, ⟨35, _⟩ => ⟨S4112x4224, .i1⟩
  | .hbm, ⟨36, _⟩ => ⟨S1x4112x4224, .i1⟩
  | .hbm, ⟨37, _⟩ => ⟨S_, .f32⟩
  | .hbm, ⟨38, _⟩ => ⟨S_, .f32⟩
  | .hbm, ⟨39, _⟩ => ⟨S8x4112x4224, .i1⟩
  | .hbm, ⟨40, _⟩ => ⟨S8x4112x4224, .f32⟩
  | .hbm, ⟨41, _⟩ => ⟨S8x4112x4224, .f32⟩
  | .hbm, ⟨42, _⟩ => ⟨S_, .f32⟩
  | .hbm, ⟨43, _⟩ => ⟨S8x4112, .f32⟩
  | .hbm, ⟨44, _⟩ => ⟨S8x4112x1, .f32⟩
  | .hbm, ⟨45, _⟩ => ⟨S8x4112x4224, .f32⟩
  | .hbm, ⟨46, _⟩ => ⟨S8x4112x4224, .f32⟩
  | .hbm, ⟨47, _⟩ => ⟨S8x4112x4224, .f32⟩
  | .hbm, ⟨48, _⟩ => ⟨S_, .f32⟩
  | .hbm, ⟨49, _⟩ => ⟨S8x4112, .f32⟩
  | .hbm, ⟨50, _⟩ => ⟨S8x4112x1, .f32⟩
  | .hbm, ⟨51, _⟩ => ⟨S8x4112x4224, .f32⟩
  | .hbm, ⟨52, _⟩ => ⟨S8x4112x4224, .f32⟩
  | .hbm, ⟨53, _⟩ => ⟨S8x64x4112, .f32⟩
  | .hbm, ⟨54, _⟩ => ⟨S4112x8x64, .f32⟩
  | .hbm, ⟨55, _⟩ => ⟨S4112x512, .f32⟩
  | .hbm, ⟨56, _⟩ => ⟨S8x4112x1, .f32⟩
  | .hbm, ⟨57, _⟩ => ⟨S8x4112x1, .f32⟩
  | .hbm, ⟨58, _⟩ => ⟨S8x4112, .f32⟩
  | .hbm, ⟨59, _⟩ => ⟨S4112x8, .f32⟩
  | .hbm, ⟨60, _⟩ => ⟨S4112x8x64, .f32⟩
  | .hbm, ⟨61, _⟩ => ⟨S4112x512, .f32⟩
  | .hbm, ⟨62, _⟩ => ⟨S_, .i32⟩
  | .hbm, ⟨63, _⟩ => ⟨S_, .f32⟩
  | .hbm, ⟨64, _⟩ => ⟨S4224x512, .f32⟩
  | .hbm, ⟨65, _⟩ => ⟨S_, .i32⟩
  | .hbm, ⟨66, _⟩ => ⟨S_, .f32⟩
  | .hbm, ⟨67, _⟩ => ⟨S4224x512, .f32⟩
  | .hbm, ⟨68, _⟩ => ⟨S_, .i32⟩
  | .hbm, ⟨69, _⟩ => ⟨S_, .f32⟩
  | .hbm, ⟨70, _⟩ => ⟨S4224x512, .f32⟩
  | .hbm, ⟨71, _⟩ => ⟨S_, .f32⟩
  | .hbm, ⟨72, _⟩ => ⟨S4224x8x64, .f32⟩
  | .hbm, ⟨73, _⟩ => ⟨S4224x8x64, .f32⟩
  | .hbm, ⟨74, _⟩ => ⟨S4224x512, .f32⟩
  | .hbm, ⟨75, _⟩ => ⟨S4224x512, .bf16⟩
  | .hbm, ⟨76, _⟩ => ⟨S4224x512, .f32⟩
  | .hbm, ⟨77, _⟩ => ⟨S4224x512, .bf16⟩
  | .hbm, ⟨78, _⟩ => ⟨S4224x512, .f32⟩
  | .hbm, ⟨79, _⟩ => ⟨S4224x512, .bf16⟩
  | .hbm, ⟨80, _⟩ => ⟨S512x4224, .bf16⟩
  | .hbm, ⟨81, _⟩ => ⟨S_, .i32⟩
  | .hbm, ⟨82, _⟩ => ⟨S_, .f32⟩
  | .hbm, ⟨83, _⟩ => ⟨S4224x128, .f32⟩
  | .hbm, ⟨84, _⟩ => ⟨S8x4224, .f32⟩
  | .hbm, ⟨85, _⟩ => ⟨S4224x512, .bf16⟩
  | .hbm, ⟨86, _⟩ => ⟨S512x4224, .f32⟩
  | .hbm, ⟨87, _⟩ => ⟨S512x4224, .bf16⟩
  | .hbm, ⟨88, _⟩ => ⟨S4224x512, .f32⟩
  | .hbm, ⟨89, _⟩ => ⟨S4224x512, .f32⟩
  | .hbm, ⟨90, _⟩ => ⟨S4224x512, .f32⟩
  | .hbm, ⟨91, _⟩ => ⟨S4224x512, .f32⟩
  | .hbm, ⟨92, _⟩ => ⟨S4224x512, .f32⟩
  | .local _ .vmem, ⟨0, _⟩ => ⟨S384x128, .bf16⟩
  | .local _ .vmem, ⟨1, _⟩ => ⟨S384x128, .bf16⟩
  | .local _ .vmem, ⟨2, _⟩ => ⟨S128x384, .bf16⟩
  | .local _ .vmem, ⟨3, _⟩ => ⟨S128x384, .bf16⟩
  | .local _ .vmem, ⟨4, _⟩ => ⟨S384x128, .bf16⟩
  | .local _ .vmem, ⟨5, _⟩ => ⟨S384x128, .bf16⟩
  | .local _ .vmem, ⟨6, _⟩ => ⟨S384x128, .bf16⟩
  | .local _ .vmem, ⟨7, _⟩ => ⟨S384x128, .bf16⟩
  | .local _ .vmem, ⟨8, _⟩ => ⟨S384x128, .f32⟩
  | .local _ .vmem, ⟨9, _⟩ => ⟨S384x128, .f32⟩
  | .local _ .vmem, ⟨10, _⟩ => ⟨S8x384, .f32⟩
  | .local _ .vmem, ⟨11, _⟩ => ⟨S8x384, .f32⟩
  | .local _ .vmem, ⟨12, _⟩ => ⟨S384x128, .bf16⟩
  | .local _ .vmem, ⟨13, _⟩ => ⟨S384x128, .bf16⟩
  | .local _ .vmem, ⟨14, _⟩ => ⟨S384x128, .f32⟩
  | .local _ .vmem, ⟨15, _⟩ => ⟨S384x128, .f32⟩
  | .local _ .vmem, ⟨16, _⟩ => ⟨S384x128, .f32⟩
  | .local _ .vmem, ⟨17, _⟩ => ⟨S384x128, .f32⟩
  | .local _ .vmem, ⟨18, _⟩ => ⟨S128x384, .bf16⟩
  | .local _ .vmem, ⟨19, _⟩ => ⟨S128x384, .bf16⟩
  | .local _ .vmem, ⟨20, _⟩ => ⟨S384x128, .f32⟩
  | .local _ .vmem, ⟨21, _⟩ => ⟨S384x128, .f32⟩
  | .local _ .vmem, ⟨22, _⟩ => ⟨S384x128, .f32⟩
  | .local _ .vmem, ⟨23, _⟩ => ⟨S384x128, .f32⟩
  | .local _ .vmem, ⟨24, _⟩ => ⟨S4224x128, .f32⟩
  | .local _ .vmem, ⟨25, _⟩ => ⟨S4224x128, .f32⟩
  | .local _ .vmem, ⟨26, _⟩ => ⟨S4224x128, .f32⟩
  | .local _ .vmem, ⟨27, _⟩ => ⟨S4224x128, .f32⟩
  | .local _ .vmem, ⟨28, _⟩ => ⟨S4224x128, .f32⟩
  | .local _ .vmem, ⟨29, _⟩ => ⟨S4224x128, .f32⟩
  | .local _ .vmem, ⟨30, _⟩ => ⟨S2x384x128, .f32⟩
  | .local _ .vmem, ⟨31, _⟩ => ⟨S2x384x128, .f32⟩
  | .local _ .vmem, ⟨32, _⟩ => ⟨S2x384x128, .f32⟩
  | .local _ .vmem, ⟨33, _⟩ => ⟨S384x128, .f32⟩
  | .local _ .vmem, ⟨34, _⟩ => ⟨S2x384x128, .f32⟩
  | .local _ .vmem, ⟨35, _⟩ => ⟨S11x128x384, .f32⟩
  | .local _ .vmem, ⟨36, _⟩ => ⟨S11x128x384, .f32⟩
  | .local _ .vmem, ⟨37, _⟩ => ⟨S11x128x384, .f32⟩
  | .local _ .smem, ⟨0, _⟩ => ⟨S66, .i32⟩
  | .local _ .smem, ⟨1, _⟩ => ⟨S66, .i32⟩
  | _, _ => ⟨S4224x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_6 : Ref sig .tc := ⟨.hbm, 62, rfl⟩
abbrev main_call1_v0 : Ref sig .tc := ⟨.hbm, 63, rfl⟩
abbrev main_v47 : Ref sig .tc := ⟨.hbm, 64, rfl⟩
abbrev main_c_7 : Ref sig .tc := ⟨.hbm, 65, rfl⟩
abbrev main_call2_v0 : Ref sig .tc := ⟨.hbm, 66, rfl⟩
abbrev main_v48 : Ref sig .tc := ⟨.hbm, 67, rfl⟩
abbrev main_c_8 : Ref sig .tc := ⟨.hbm, 68, rfl⟩
abbrev main_call3_v0 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_10 : Ref sig .tc := ⟨.hbm, 81, rfl⟩
abbrev main_call4_v0 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64_0 : Ref sig .tc := ⟨.hbm, 88, rfl⟩
abbrev main_v64_1 : Ref sig .tc := ⟨.hbm, 89, rfl⟩
abbrev main_v64_2 : Ref sig .tc := ⟨.hbm, 90, rfl⟩
abbrev main_v64_3 : Ref sig .tc := ⟨.hbm, 91, rfl⟩
abbrev main_v64_4 : Ref sig .tc := ⟨.hbm, 92, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_scratch6 : Ref sig .tc := ⟨.vmem, 36, rfl⟩
abbrev cc0_scratch7 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 66], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (v3 : BitVec 32) : Fin 3 → Nat :=
  let v257 : Index := Scalar.indexCast v3
  let c0_77 : Index := 0#32
  let c0_78 : Index := 0#32
  ![v257.toNat, 0, 0]
def k0_cond3 (v1 : BitVec 32) (v3 : BitVec 32) : BitVec 1 :=
  let v16 : BitVec 1 := Scalar.cmpi .eq v3 v1
  let c0_i32_4 : BitVec 32 := 0#32
  let v17 : BitVec 1 := Scalar.cmpi .eq v3 c0_i32_4
  let v18 : BitVec 1 := Scalar.ori v16 v17
  let v19 : BitVec 32 := Scalar.extui v18
  let c0_i32_5 : BitVec 32 := 0#32
  let v20 : BitVec 1 := Scalar.cmpi .ne v19 c0_i32_5
  v20

def k0_off3 (v3 : BitVec 32) : Fin 3 → Nat :=
  let v277 : Index := Scalar.indexCast v3
  let c0_85 : Index := 0#32
  let c0_86 : Index := 0#32
  ![v277.toNat, 0, 0]
def k0_off4 (v3 : BitVec 32) : Fin 3 → Nat :=
  let v224 : Index := Scalar.indexCast v3
  let c0_70 : Index := 0#32
  let c0_71 : Index := 0#32
  ![v224.toNat, 0, 0]
def k0_cond4 (v1 : BitVec 32) (v3 : BitVec 32) : BitVec 1 :=
  let v16 : BitVec 1 := Scalar.cmpi .eq v3 v1
  let c0_i32_4 : BitVec 32 := 0#32
  let v17 : BitVec 1 := Scalar.cmpi .eq v3 c0_i32_4
  let v18 : BitVec 1 := Scalar.ori v16 v17
  let v_true : BitVec 1 := 1#1
  let v21 : BitVec 1 := Scalar.xori v18 v_true
  let v22 : BitVec 32 := Scalar.extui v21
  let c0_i32_6 : BitVec 32 := 0#32
  let v23 : BitVec 1 := Scalar.cmpi .ne v22 c0_i32_6
  v23

def k0_off5 (v3 : BitVec 32) : Fin 3 → Nat :=
  let v244 : Index := Scalar.indexCast v3
  let c0_78 : Index := 0#32
  let c0_79 : Index := 0#32
  ![v244.toNat, 0, 0]

def k0_chk1 (v1 : BitVec 32) (v3 : BitVec 32) : Prop :=
  (∀ (k0_h3 : k0_cond3 v1 v3 = 1#1), ∀ a, (k0_off2 v3) a + S1x128x384.size a ≤ S11x128x384.size a) ∧
  (∀ (k0_h3 : k0_cond3 v1 v3 = 1#1), ∀ a, (k0_off3 v3) a + S1x8x384.size a ≤ S11x128x384.size a) ∧
  (∀ (k0_h4 : k0_cond4 v1 v3 = 1#1), ∀ a, (k0_off4 v3) a + S1x128x384.size a ≤ S11x128x384.size a) ∧
  (∀ (k0_h4 : k0_cond4 v1 v3 = 1#1), ∀ a, (k0_off5 v3) a + S1x8x384.size a ≤ S11x128x384.size a)
theorem k0_off2_inb : ∀ (v1 : BitVec 32) (v3 : BitVec 32) (k0_hw1 : k0_chk1 v1 v3), ∀ (k0_h3 : k0_cond3 v1 v3 = 1#1), ∀ a, (k0_off2 v3) a + S1x128x384.size a ≤ S11x128x384.size a := fun v1 v3 k0_hw1 k0_h3 => k0_hw1.1 k0_h3
theorem k0_off3_inb : ∀ (v1 : BitVec 32) (v3 : BitVec 32) (k0_hw1 : k0_chk1 v1 v3), ∀ (k0_h3 : k0_cond3 v1 v3 = 1#1), ∀ a, (k0_off3 v3) a + S1x8x384.size a ≤ S11x128x384.size a := fun v1 v3 k0_hw1 k0_h3 => k0_hw1.2.1 k0_h3
theorem k0_off4_inb : ∀ (v1 : BitVec 32) (v3 : BitVec 32) (k0_hw1 : k0_chk1 v1 v3), ∀ (k0_h4 : k0_cond4 v1 v3 = 1#1), ∀ a, (k0_off4 v3) a + S1x128x384.size a ≤ S11x128x384.size a := fun v1 v3 k0_hw1 k0_h4 => k0_hw1.2.2.1 k0_h4
theorem k0_off5_inb : ∀ (v1 : BitVec 32) (v3 : BitVec 32) (k0_hw1 : k0_chk1 v1 v3), ∀ (k0_h4 : k0_cond4 v1 v3 = 1#1), ∀ a, (k0_off5 v3) a + S1x8x384.size a ≤ S11x128x384.size a := fun v1 v3 k0_hw1 k0_h4 => k0_hw1.2.2.2 k0_h4

def k0_cond5 (v1 : BitVec 32) (v3 : BitVec 32) : BitVec 1 :=
  let v24 : BitVec 1 := Scalar.cmpi .eq v3 v1
  let v25 : BitVec 32 := Scalar.extui v24
  let c0_i32_7 : BitVec 32 := 0#32
  let v26 : BitVec 1 := Scalar.cmpi .ne v25 c0_i32_7
  v26

def k0_cond6 (i : grid0.Coords) : BitVec 1 :=
  let arg1 : BitVec 32 := BitVec.ofNat 32 (i 1).val
  let c65_i32 : BitVec 32 := 65#32
  let v27 : BitVec 1 := Scalar.cmpi .eq arg1 c65_i32
  let v28 : BitVec 32 := Scalar.extui v27
  let c0_i32_8 : BitVec 32 := 0#32
  let v29 : BitVec 1 := Scalar.cmpi .ne v28 c0_i32_8
  v29

def cc0_transform_0 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S66) ![v0.toNat] S1.size (k0_off1_inb i)) numel1_S1
  let c0_i32 : BitVec 32 := 0#32
  ![v1.toNat, arg0.toNat]

def cc0_transform_1 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S66) ![v0.toNat] S1.size (k0_off1_inb i)) numel1_S1
  let c0_i32 : BitVec 32 := 0#32
  ![arg0.toNat, v1.toNat]

def cc0_transform_2 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S66) ![v0.toNat] S1.size (k0_off1_inb i)) numel1_S1
  let c0_i32 : BitVec 32 := 0#32
  ![v1.toNat, arg0.toNat]

def cc0_transform_3 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S66) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S66) ![v0.toNat] S1.size (k0_off1_inb i)) numel1_S1
  let c0_i32 : BitVec 32 := 0#32
  let c0_i32_0 : BitVec 32 := 0#32
  ![v1.toNat, c0_i32.toNat]

def cc0_transform_5 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S66) ![v0.toNat] S1.size (k0_off1_inb i)) numel1_S1
  let c0_i32 : BitVec 32 := 0#32
  let c0_i32_0 : BitVec 32 := 0#32
  ![c0_i32.toNat, v1.toNat]

def cc0_transform_6 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S66) ![v0.toNat] S1.size (k0_off1_inb i)) numel1_S1
  let c0_i32 : BitVec 32 := 0#32
  ![v1.toNat, arg0.toNat]

def cc0_transform_7 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S66) ![v0.toNat] S1.size (k0_off1_inb i)) numel1_S1
  let c0_i32 : BitVec 32 := 0#32
  ![v1.toNat, arg0.toNat]

def cc0_transform_8 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S66) ![v0.toNat] S1.size (k0_off1_inb i)) numel1_S1
  let c0_i32 : BitVec 32 := 0#32
  ![v1.toNat, arg0.toNat]

def cc0_transform_9 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S66) ![v0.toNat] S1.size (k0_off1_inb i)) numel1_S1
  let c0_i32 : BitVec 32 := 0#32
  ![arg0.toNat, v1.toNat]

def cc0_transform_10 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S66) ![v0.toNat] S1.size (k0_off1_inb i)) numel1_S1
  let c0_i32 : BitVec 32 := 0#32
  ![v1.toNat, arg0.toNat]

def cc0_transform_11 (k0_off1_inb : ∀ i : grid0.Coords, ∀ a, (k0_off1 i) a + S1.size a ≤ S66.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S66) ![v0.toNat] S1.size (k0_off1_inb i)) numel1_S1
  let c0_i32 : BitVec 32 := 0#32
  ![v1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S8x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S384x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S384x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S384x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4224x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S4224x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S4224x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FoxBwdIdeal.lean ====
variable {F : FTy → Type} [FloatOps F] [Named F]
def κ : String → Option EReal := fun
  | "mask" => some ⊥
  | _ => none
-- ==== FoxBwdRefIdeal.lean ====
abbrev S4224x8x64 : Shape := ⟨3, ![4224, 8, 64]⟩
abbrev S4224x8 : Shape := ⟨2, ![4224, 8]⟩
abbrev S4112x512 : Shape := ⟨2, ![4112, 512]⟩
abbrev S4112x8x64 : Shape := ⟨3, ![4112, 8, 64]⟩
abbrev S4112x8 : Shape := ⟨2, ![4112, 8]⟩
abbrev S8x4112x4224 : Shape := ⟨3, ![8, 4112, 4224]⟩
abbrev S_ : Shape := ⟨0, ![]⟩
abbrev S8x4112 : Shape := ⟨2, ![8, 4112]⟩
abbrev S8x4112x1 : Shape := ⟨3, ![8, 4112, 1]⟩
abbrev S8x4224 : Shape := ⟨2, ![8, 4224]⟩
abbrev S8x1x4224 : Shape := ⟨3, ![8, 1, 4224]⟩
abbrev S4112 : Shape := ⟨1, ![4112]⟩
abbrev S4224 : Shape := ⟨1, ![4224]⟩
abbrev S1x4224 : Shape := ⟨2, ![1, 4224]⟩
abbrev S4112x1 : Shape := ⟨2, ![4112, 1]⟩
abbrev S4112x4224 : Shape := ⟨2, ![4112, 4224]⟩
abbrev S1x4112x4224 : Shape := ⟨3, ![1, 4112, 4224]⟩
abbrev S8x64x4112 : Shape := ⟨3, ![8, 64, 4112]⟩
abbrev S8x64x4224 : Shape := ⟨3, ![8, 64, 4224]⟩
abbrev S8x4224x64 : Shape := ⟨3, ![8, 4224, 64]⟩
abbrev S8x4112x64 : Shape := ⟨3, ![8, 4112, 64]⟩
abbrev S4224x512 : Shape := ⟨2, ![4224, 512]⟩

abbrev nBuf : Space → Nat
  | .hbm => 142
  | .vmem => 0
  | .smem => 0
  | _ => 0

abbrev hbmTy0_0 (i : Nat) : BufTy := match i % 128 with
  | 0 => ⟨S4224x8x64, .f32⟩
  | 1 => ⟨S4224x8x64, .f32⟩
  | 2 => ⟨S4224x8x64, .f32⟩
  | 3 => ⟨S4224x8, .f32⟩
  | 4 => ⟨S4224x8, .f32⟩
  | 5 => ⟨S4112x512, .f32⟩
  | 6 => ⟨S4112x8x64, .f32⟩
  | 7 => ⟨S4112x8, .f32⟩
  | 8 => ⟨S8x4112x4224, .f32⟩
  | 9 => ⟨S_, .f32⟩
  | 10 => ⟨S8x4112x4224, .f32⟩
  | 11 => ⟨S8x4112x4224, .f32⟩
  | 12 => ⟨S8x4112, .f32⟩
  | 13 => ⟨S8x4112x1, .f32⟩
  | 14 => ⟨S8x4112x4224, .f32⟩
  | 15 => ⟨S8x4112x4224, .f32⟩
  | 16 => ⟨S8x4224, .f32⟩
  | 17 => ⟨S8x1x4224, .f32⟩
  | 18 => ⟨S8x4112x4224, .f32⟩
  | 19 => ⟨S8x4112x4224, .f32⟩
  | 20 => ⟨S4112, .i32⟩
  | 21 => ⟨S_, .i32⟩
  | 22 => ⟨S4112, .i32⟩
  | 23 => ⟨S4112, .i32⟩
  | 24 => ⟨S4224, .i32⟩
  | 25 => ⟨S1x4224, .i32⟩
  | 26 => ⟨S4112x1, .i32⟩
  | 27 => ⟨S4112x4224, .i32⟩
  | 28 => ⟨S4112x4224, .i32⟩
  | 29 => ⟨S4112x4224, .i1⟩
  | 30 => ⟨S_, .i32⟩
  | 31 => ⟨S4224, .i32⟩
  | 32 => ⟨S4224, .i1⟩
  | 33 => ⟨S1x4224, .i1⟩
  | 34 => ⟨S4112x4224, .i1⟩
  | 35 => ⟨S4112x4224, .i1⟩
  | 36 => ⟨S1x4112x4224, .i1⟩
  | 37 => ⟨S_, .f32⟩
  | 38 => ⟨S_, .f32⟩
  | 39 => ⟨S8x4112x4224, .i1⟩
  | 40 => ⟨S8x4112x4224, .f32⟩
  | 41 => ⟨S8x4112x4224, .f32⟩
  | 42 => ⟨S_, .f32⟩
  | 43 => ⟨S8x4112x4224, .f32⟩
  | 44 => ⟨S_, .f32⟩
  | 45 => ⟨S8x4112, .f32⟩
  | 46 => ⟨S8x4112x1, .f32⟩
  | 47 => ⟨S8x4112x4224, .f32⟩
  | 48 => ⟨S8x4112x4224, .i1⟩
  | 49 => ⟨S8x4112x4224, .f32⟩
  | 50 => ⟨S_, .f32⟩
  | 51 => ⟨S8x4112, .f32⟩
  | 52 => ⟨S_, .f32⟩
  | 53 => ⟨S8x4112, .f32⟩
  | 54 => ⟨S8x4112, .f32⟩
  | 55 => ⟨S_, .f32⟩
  | 56 => ⟨S8x4112, .f32⟩
  | 57 => ⟨S8x4112, .i1⟩
  | 58 => ⟨S_, .f32⟩
  | 59 => ⟨S8x4112, .f32⟩
  | 60 => ⟨S8x4112, .i1⟩
  | 61 => ⟨S_, .f32⟩
  | 62 => ⟨S8x4112, .f32⟩
  | 63 => ⟨S_, .f32⟩
  | 64 => ⟨S8x4112, .f32⟩
  | 65 => ⟨S_, .f32⟩
  | 66 => ⟨S8x4112, .f32⟩
  | 67 => ⟨S8x4112, .f32⟩
  | 68 => ⟨S8x4112, .f32⟩
  | 69 => ⟨S8x4112x1, .f32⟩
  | 70 => ⟨S8x4112x4224, .f32⟩
  | 71 => ⟨S8x4112x4224, .f32⟩
  | 72 => ⟨S8x4112x4224, .f32⟩
  | 73 => ⟨S_, .f32⟩
  | 74 => ⟨S8x4112, .f32⟩
  | 75 => ⟨S8x4112x1, .f32⟩
  | 76 => ⟨S8x4112x4224, .f32⟩
  | 77 => ⟨S8x4112x4224, .f32⟩
  | 78 => ⟨S8x4112x1, .f32⟩
  | 79 => ⟨S_, .f32⟩
  | 80 => ⟨S8x4112x1, .f32⟩
  | 81 => ⟨S8x4112x1, .f32⟩
  | 82 => ⟨S8x64x4112, .f32⟩
  | 83 => ⟨S4112x8x64, .f32⟩
  | 84 => ⟨S4112x512, .f32⟩
  | 85 => ⟨S4112x8x64, .f32⟩
  | 86 => ⟨S8x64x4112, .f32⟩
  | 87 => ⟨S8x4112x4224, .f32⟩
  | 88 => ⟨S8x64x4224, .f32⟩
  | 89 => ⟨S4224x8x64, .f32⟩
  | 90 => ⟨S8x4112x4224, .f32⟩
  | 91 => ⟨S8x4112x4224, .f32⟩
  | 92 => ⟨S8x4112x4224, .f32⟩
  | 93 => ⟨S_, .f32⟩
  | 94 => ⟨S8x4112, .f32⟩
  | 95 => ⟨S8x4112x1, .f32⟩
  | 96 => ⟨S8x4112x1, .f32⟩
  | 97 => ⟨S8x4112x4224, .f32⟩
  | 98 => ⟨S8x4112x4224, .f32⟩
  | 99 => ⟨S_, .f32⟩
  | 100 => ⟨S8x4112, .f32⟩
  | 101 => ⟨S8x4112x4224, .f32⟩
  | 102 => ⟨S8x4112x4224, .f32⟩
  | 103 => ⟨S8x4112x4224, .f32⟩
  | 104 => ⟨S_, .f32⟩
  | 105 => ⟨S8x4112x4224, .f32⟩
  | 106 => ⟨S8x4112x4224, .f32⟩
  | 107 => ⟨S8x4112x4224, .f32⟩
  | 108 => ⟨S_, .f32⟩
  | 109 => ⟨S8x4224, .f32⟩
  | 110 => ⟨S8x1x4224, .f32⟩
  | 111 => ⟨S_, .f32⟩
  | 112 => ⟨S8x4224, .f32⟩
  | 113 => ⟨S4224x8, .f32⟩
  | 114 => ⟨S_, .f32⟩
  | 115 => ⟨S8x4112, .f32⟩
  | 116 => ⟨S8x4112x1, .f32⟩
  | 117 => ⟨S_, .f32⟩
  | 118 => ⟨S8x4112, .f32⟩
  | 119 => ⟨S4112x8, .f32⟩
  | 120 => ⟨S_, .f32⟩
  | 121 => ⟨S8x4112x4224, .f32⟩
  | 122 => ⟨S8x4112x4224, .f32⟩
  | 123 => ⟨S8x4224x64, .f32⟩
  | 124 => ⟨S4224x8x64, .f32⟩
  | 125 => ⟨S8x4112x64, .f32⟩
  | 126 => ⟨S4112x8x64, .f32⟩
  | 127 => ⟨S_, .f32⟩
  | _ => ⟨S4224x8x64, .f32⟩

abbrev hbmTy0_1 (i : Nat) : BufTy := match i % 128 with
  | 0 => ⟨S4224x8, .f32⟩
  | 1 => ⟨S_, .f32⟩
  | 2 => ⟨S4224x8x64, .f32⟩
  | 3 => ⟨S_, .f32⟩
  | 4 => ⟨S4224x8x64, .f32⟩
  | 5 => ⟨S4224x8x64, .f32⟩
  | 6 => ⟨S4224x512, .f32⟩
  | 7 => ⟨S4224x8x64, .f32⟩
  | 8 => ⟨S4224x512, .f32⟩
  | 9 => ⟨S4224x512, .f32⟩
  | 10 => ⟨S4224x512, .f32⟩
  | 11 => ⟨S4224x8, .f32⟩
  | 12 => ⟨S4224x8x64, .f32⟩
  | 13 => ⟨S4224x512, .f32⟩
  | _ => ⟨S4224x8x64, .f32⟩

abbrev hbmTy (i : Nat) : BufTy := match i / 128 with
  | 0 => hbmTy0_0 i
  | 1 => hbmTy0_1 i
  | _ => ⟨S4224x8x64, .f32⟩

abbrev bufTy : (tb : Table) → Fin (tcTables nBuf tb) → BufTy
  | .hbm, ⟨i, _⟩ => hbmTy i
  | _, _ => ⟨S4224x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_call0_v0 : Ref sig .tc := ⟨.hbm, 38, rfl⟩
abbrev main_v28_1 : Ref sig .tc := ⟨.hbm, 39, rfl⟩
abbrev main_call0_v2 : Ref sig .tc := ⟨.hbm, 40, rfl⟩
abbrev main_v28_0 : Ref sig .tc := ⟨.hbm, 41, rfl⟩
abbrev main_call0_cst : Ref sig .tc := ⟨.hbm, 42, rfl⟩
abbrev main_v28_2 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_11 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_12 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_call1_cst : Ref sig .tc := ⟨.hbm, 104, rfl⟩
abbrev main_call1_v0 : Ref sig .tc := ⟨.hbm, 105, rfl⟩
abbrev main_v77 : Ref sig .tc := ⟨.hbm, 106, rfl⟩
abbrev main_v78 : Ref sig .tc := ⟨.hbm, 107, rfl⟩
abbrev main_cst_14 : Ref sig .tc := ⟨.hbm, 108, rfl⟩
abbrev main_v79 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_v86 : Ref sig .tc := ⟨.hbm, 119, rfl⟩
abbrev main_cst_18 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_cst_20 : Ref sig .tc := ⟨.hbm, 129, rfl⟩
abbrev main_v94 : Ref sig .tc := ⟨.hbm, 130, rfl⟩
abbrev main_cst_21 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩

abbrev nD : Nat := 1
abbrev τ : Topo := Topo.v7x

variable {F : FTy → Type} [FloatOps F]
-- ==== FfnMid.lean ====
abbrev S4224x1024 : Shape := ⟨2, ![4224, 1024]⟩
abbrev S1024x5632 : Shape := ⟨2, ![1024, 5632]⟩
abbrev S2816x1024 : Shape := ⟨2, ![2816, 1024]⟩
abbrev S4224x5632 : Shape := ⟨2, ![4224, 5632]⟩
abbrev S4224x2816 : Shape := ⟨2, ![4224, 2816]⟩
abbrev S1x4224x2816 : Shape := ⟨3, ![1, 4224, 2816]⟩
abbrev S2x4224x2816 : Shape := ⟨3, ![2, 4224, 2816]⟩
abbrev S384x1024 : Shape := ⟨2, ![384, 1024]⟩
abbrev S1408x1024 : Shape := ⟨2, ![1408, 1024]⟩
abbrev S2x384x1408 : Shape := ⟨3, ![2, 384, 1408]⟩
abbrev S384x1408 : Shape := ⟨2, ![384, 1408]⟩
abbrev S1x384x1408 : Shape := ⟨3, ![1, 384, 1408]⟩

abbrev nBuf : Space → Nat
  | .hbm => 14
  | .vmem => 8
  | .smem => 0
  | _ => 0

abbrev bufTy : (tb : Table) → Fin (tcTables nBuf tb) → BufTy
  | .hbm, ⟨0, _⟩ => ⟨S4224x1024, .f32⟩
  | .hbm, ⟨1, _⟩ => ⟨S1024x5632, .f32⟩
  | .hbm, ⟨2, _⟩ => ⟨S2816x1024, .f32⟩
  | .hbm, ⟨3, _⟩ => ⟨S4224x1024, .f32⟩
  | .hbm, ⟨4, _⟩ => ⟨S4224x5632, .f32⟩
  | .hbm, ⟨5, _⟩ => ⟨S4224x2816, .f32⟩
  | .hbm, ⟨6, _⟩ => ⟨S4224x2816, .f32⟩
  | .hbm, ⟨7, _⟩ => ⟨S1x4224x2816, .f32⟩
  | .hbm, ⟨8, _⟩ => ⟨S1x4224x2816, .f32⟩
  | .hbm, ⟨9, _⟩ => ⟨S2x4224x2816, .f32⟩
  | .hbm, ⟨10, _⟩ => ⟨S2x4224x2816, .bf16⟩
  | .hbm, ⟨11, _⟩ => ⟨S4224x1024, .bf16⟩
  | .hbm, ⟨12, _⟩ => ⟨S2816x1024, .bf16⟩
  | .hbm, ⟨13, _⟩ => ⟨S2x4224x2816, .bf16⟩
  | .local _ .vmem, ⟨0, _⟩ => ⟨S384x1024, .bf16⟩
  | .local _ .vmem, ⟨1, _⟩ => ⟨S384x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2x384x1408, .bf16⟩
  | .local _ .vmem, ⟨5, _⟩ => ⟨S2x384x1408, .bf16⟩
  | .local _ .vmem, ⟨6, _⟩ => ⟨S2x384x1408, .bf16⟩
  | .local _ .vmem, ⟨7, _⟩ => ⟨S2x384x1408, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x384x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x384x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnMidRefIdeal.lean ====
abbrev S4224x1024 : Shape := ⟨2, ![4224, 1024]⟩
abbrev S1024x5632 : Shape := ⟨2, ![1024, 5632]⟩
abbrev S2816x1024 : Shape := ⟨2, ![2816, 1024]⟩
abbrev S4224x5632 : Shape := ⟨2, ![4224, 5632]⟩
abbrev S4224x2816 : Shape := ⟨2, ![4224, 2816]⟩
abbrev S_ : Shape := ⟨0, ![]⟩
abbrev S1x4224x2816 : Shape := ⟨3, ![1, 4224, 2816]⟩
abbrev S2x4224x2816 : Shape := ⟨3, ![2, 4224, 2816]⟩

abbrev nBuf : Space → Nat
  | .hbm => 42
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x5632, .f32⟩
  | .hbm, ⟨2, _⟩ => ⟨S2816x1024, .f32⟩
  | .hbm, ⟨3, _⟩ => ⟨S4224x1024, .f32⟩
  | .hbm, ⟨4, _⟩ => ⟨S4224x5632, .f32⟩
  | .hbm, ⟨5, _⟩ => ⟨S4224x2816, .f32⟩
  | .hbm, ⟨6, _⟩ => ⟨S4224x2816, .f32⟩
  | .hbm, ⟨7, _⟩ => ⟨S4224x2816, .f32⟩
  | .hbm, ⟨8, _⟩ => ⟨S4224x2816, .f32⟩
  | .hbm, ⟨9, _⟩ => ⟨S_, .f32⟩
  | .hbm, ⟨10, _⟩ => ⟨S4224x2816, .f32⟩
  | .hbm, ⟨11, _⟩ => ⟨S4224x2816, .f32⟩
  | .hbm, ⟨12, _⟩ => ⟨S_, .f32⟩
  | .hbm, ⟨13, _⟩ => ⟨S4224x2816, .f32⟩
  | .hbm, ⟨14, _⟩ => ⟨S4224x2816, .f32⟩
  | .hbm, ⟨15, _⟩ => ⟨S_, .f32⟩
  | .hbm, ⟨16, _⟩ => ⟨S4224x2816, .f32⟩
  | .hbm, ⟨17, _⟩ => ⟨S4224x2816, .f32⟩
  | .hbm, ⟨18, _⟩ => ⟨S4224x2816, .f32⟩
  | .hbm, ⟨19, _⟩ => ⟨S4224x2816, .f32⟩
  | .hbm, ⟨20, _⟩ => ⟨S4224x2816, .f32⟩
  | .hbm, ⟨21, _⟩ => ⟨S4224x1024, .f32⟩
  | .hbm, ⟨22, _⟩ => ⟨S_, .f32⟩
  | .hbm, ⟨23, _⟩ => ⟨S4224x1024, .f32⟩
  | .hbm, ⟨24, _⟩ => ⟨S4224x1024, .f32⟩
  | .hbm, ⟨25, _⟩ => ⟨S_, .f32⟩
  | .hbm, ⟨26, _⟩ => ⟨S4224x1024, .f32⟩
  | .hbm, ⟨27, _⟩ => ⟨S4224x1024, .f32⟩
  | .hbm, ⟨28, _⟩ => ⟨S4224x2816, .f32⟩
  | .hbm, ⟨29, _⟩ => ⟨S4224x2816, .f32⟩
  | .hbm, ⟨30, _⟩ => ⟨S4224x2816, .f32⟩
  | .hbm, ⟨31, _⟩ => ⟨S4224x2816, .f32⟩
  | .hbm, ⟨32, _⟩ => ⟨S4224x2816, .f32⟩
  | .hbm, ⟨33, _⟩ => ⟨S4224x2816, .f32⟩
  | .hbm, ⟨34, _⟩ => ⟨S4224x2816, .f32⟩
  | .hbm, ⟨35, _⟩ => ⟨S4224x5632, .f32⟩
  | .hbm, ⟨36, _⟩ => ⟨S4224x2816, .f32⟩
  | .hbm, ⟨37, _⟩ => ⟨S4224x2816, .f32⟩
  | .hbm, ⟨38, _⟩ => ⟨S1x4224x2816, .f32⟩
  | .hbm, ⟨39, _⟩ => ⟨S1x4224x2816, .f32⟩
  | .hbm, ⟨40, _⟩ => ⟨S2x4224x2816, .f32⟩
  | .hbm, ⟨41, _⟩ => ⟨S2x4224x2816, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]
-- ==== GateBwd.lean ====
abbrev S4224x4360 : Shape := ⟨2, ![4224, 4360]⟩
abbrev S4224x512 : Shape := ⟨2, ![4224, 512]⟩
abbrev S512x1024 : Shape := ⟨2, ![512, 1024]⟩
abbrev S1024x1024 : Shape := ⟨2, ![1024, 1024]⟩
abbrev S4224x1024 : Shape := ⟨2, ![4224, 1024]⟩
abbrev S4224x2048 : Shape := ⟨2, ![4224, 2048]⟩
abbrev S4224x1536 : Shape := ⟨2, ![4224, 1536]⟩
abbrev S4224x768 : Shape := ⟨2, ![4224, 768]⟩
abbrev S4224x8 : Shape := ⟨2, ![4224, 8]⟩
abbrev S_ : Shape := ⟨0, ![]⟩
abbrev S4224x120 : Shape := ⟨2, ![4224, 120]⟩
abbrev S4224x4480 : Shape := ⟨2, ![4224, 4480]⟩
abbrev S512x4224 : Shape := ⟨2, ![512, 4224]⟩
abbrev S384x1024 : Shape := ⟨2, ![384, 1024]⟩
abbrev S384x512 : Shape := ⟨2, ![384, 512]⟩
abbrev S512x384 : Shape := ⟨2, ![512, 384]⟩

abbrev nBuf : Space → Nat
  | .hbm => 29
  | .vmem => 27
  | .smem => 0
  | _ => 0

abbrev bufTy : (tb : Table) → Fin (tcTables nBuf tb) → BufTy
  | .hbm, ⟨0, _⟩ => ⟨S4224x4360, .f32⟩
  | .hbm, ⟨1, _⟩ => ⟨S4224x512, .f32⟩
  | .hbm, ⟨2, _⟩ => ⟨S4224x512, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S4224x1024, .f32⟩
  | .hbm, ⟨7, _⟩ => ⟨S4224x1024, .f32⟩
  | .hbm, ⟨8, _⟩ => ⟨S4224x1024, .bf16⟩
  | .hbm, ⟨9, _⟩ => ⟨S4224x1024, .f32⟩
  | .hbm, ⟨10, _⟩ => ⟨S4224x1024, .bf16⟩
  | .hbm, ⟨11, _⟩ => ⟨S4224x1024, .bf16⟩
  | .hbm, ⟨12, _⟩ => ⟨S1024x1024, .bf16⟩
  | .hbm, ⟨13, _⟩ => ⟨S4224x2048, .f32⟩
  | .hbm, ⟨14, _⟩ => ⟨S4224x1536, .f32⟩
  | .hbm, ⟨15, _⟩ => ⟨S4224x768, .f32⟩
  | .hbm, ⟨16, _⟩ => ⟨S4224x8, .f32⟩
  | .hbm, ⟨17, _⟩ => ⟨S_, .f32⟩
  | .hbm, ⟨18, _⟩ => ⟨S4224x120, .f32⟩
  | .hbm, ⟨19, _⟩ => ⟨S4224x4480, .f32⟩
  | .hbm, ⟨20, _⟩ => ⟨S512x1024, .bf16⟩
  | .hbm, ⟨21, _⟩ => ⟨S512x1024, .bf16⟩
  | .hbm, ⟨22, _⟩ => ⟨S4224x1024, .bf16⟩
  | .hbm, ⟨23, _⟩ => ⟨S4224x1024, .bf16⟩
  | .hbm, ⟨24, _⟩ => ⟨S4224x1024, .bf16⟩
  | .hbm, ⟨25, _⟩ => ⟨S4224x1024, .bf16⟩
  | .hbm, ⟨26, _⟩ => ⟨S4224x512, .f32⟩
  | .hbm, ⟨27, _⟩ => ⟨S512x4224, .bf16⟩
  | .hbm, ⟨28, _⟩ => ⟨S4224x512, .f32⟩
  | .local _ .vmem, ⟨0, _⟩ => ⟨S384x1024, .bf16⟩
  | .local _ .vmem, ⟨1, _⟩ => ⟨S384x1024, .bf16⟩
  | .local _ .vmem, ⟨2, _⟩ => ⟨S1024x1024, .bf16⟩
  | .local _ .vmem, ⟨3, _⟩ => ⟨S384x1024, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .bf16⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S512x1024, .bf16⟩
  | .local _ .vmem, ⟨12, _⟩ => ⟨S512x1024, .bf16⟩
  | .local _ .vmem, ⟨13, _⟩ => ⟨S384x1024, .bf16⟩
  | .local _ .vmem, ⟨14, _⟩ => ⟨S384x1024, .bf16⟩
  | .local _ .vmem, ⟨15, _⟩ => ⟨S384x1024, .bf16⟩
  | .local _ .vmem, ⟨16, _⟩ => ⟨S384x1024, .bf16⟩
  | .local _ .vmem, ⟨17, _⟩ => ⟨S384x1024, .bf16⟩
  | .local _ .vmem, ⟨18, _⟩ => ⟨S384x1024, .bf16⟩
  | .local _ .vmem, ⟨19, _⟩ => ⟨S384x1024, .bf16⟩
  | .local _ .vmem, ⟨20, _⟩ => ⟨S384x1024, .bf16⟩
  | .local _ .vmem, ⟨21, _⟩ => ⟨S384x512, .f32⟩
  | .local _ .vmem, ⟨22, _⟩ => ⟨S384x512, .f32⟩
  | .local _ .vmem, ⟨23, _⟩ => ⟨S512x384, .bf16⟩
  | .local _ .vmem, ⟨24, _⟩ => ⟨S512x384, .bf16⟩
  | .local _ .vmem, ⟨25, _⟩ => ⟨S384x512, .f32⟩
  | .local _ .vmem, ⟨26, _⟩ => ⟨S384x512, .f32⟩
  | _, _ => ⟨S4224x4360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v14_5 : Ref sig .tc := ⟨.hbm, 27, rfl⟩
abbrev main_v14_6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S384x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== GateBwdRefIdeal.lean ====
abbrev S4224x4360 : Shape := ⟨2, ![4224, 4360]⟩
abbrev S4224x512 : Shape := ⟨2, ![4224, 512]⟩
abbrev S512x1024 : Shape := ⟨2, ![512, 1024]⟩
abbrev S1024x1024 : Shape := ⟨2, ![1024, 1024]⟩
abbrev S4224x1024 : Shape := ⟨2, ![4224, 1024]⟩
abbrev S4224x2048 : Shape := ⟨2, ![4224, 2048]⟩
abbrev S_ : Shape := ⟨0, ![]⟩
abbrev S512x4224 : Shape := ⟨2, ![512, 4224]⟩

abbrev nBuf : Space → Nat
  | .hbm => 55
  | .vmem => 0
  | .smem => 0
  | _ => 0

abbrev bufTy : (tb : Table) → Fin (tcTables nBuf tb) → BufTy
  | .hbm, ⟨0, _⟩ => ⟨S4224x4360, .f32⟩
  | .hbm, ⟨1, _⟩ => ⟨S4224x512, .f32⟩
  | .hbm, ⟨2, _⟩ => ⟨S4224x512, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S4224x1024, .f32⟩
  | .hbm, ⟨7, _⟩ => ⟨S4224x1024, .f32⟩
  | .hbm, ⟨8, _⟩ => ⟨S4224x1024, .f32⟩
  | .hbm, ⟨9, _⟩ => ⟨S4224x2048, .f32⟩
  | .hbm, ⟨10, _⟩ => ⟨S4224x1024, .f32⟩
  | .hbm, ⟨11, _⟩ => ⟨S4224x1024, .f32⟩
  | .hbm, ⟨12, _⟩ => ⟨S4224x1024, .f32⟩
  | .hbm, ⟨13, _⟩ => ⟨S4224x1024, .f32⟩
  | .hbm, ⟨14, _⟩ => ⟨S_, .f32⟩
  | .hbm, ⟨15, _⟩ => ⟨S4224x1024, .f32⟩
  | .hbm, ⟨16, _⟩ => ⟨S4224x1024, .f32⟩
  | .hbm, ⟨17, _⟩ => ⟨S_, .f32⟩
  | .hbm, ⟨18, _⟩ => ⟨S4224x1024, .f32⟩
  | .hbm, ⟨19, _⟩ => ⟨S4224x1024, .f32⟩
  | .hbm, ⟨20, _⟩ => ⟨S_, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S4224x1024, .f32⟩
  | .hbm, ⟨26, _⟩ => ⟨S4224x1024, .f32⟩
  | .hbm, ⟨27, _⟩ => ⟨S_, .f32⟩
  | .hbm, ⟨28, _⟩ => ⟨S4224x1024, .f32⟩
  | .hbm, ⟨29, _⟩ => ⟨S4224x1024, .f32⟩
  | .hbm, ⟨30, _⟩ => ⟨S_, .f32⟩
  | .hbm, ⟨31, _⟩ => ⟨S4224x1024, .f32⟩
  | .hbm, ⟨32, _⟩ => ⟨S4224x1024, .f32⟩
  | .hbm, ⟨33, _⟩ => ⟨S_, .f32⟩
  | .hbm, ⟨34, _⟩ => ⟨S4224x1024, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S4224x1024, .f32⟩
  | .hbm, ⟨40, _⟩ => ⟨S4224x1024, .f32⟩
  | .hbm, ⟨41, _⟩ => ⟨S4224x1024, .f32⟩
  | .hbm, ⟨42, _⟩ => ⟨S4224x1024, .f32⟩
  | .hbm, ⟨43, _⟩ => ⟨S4224x1024, .f32⟩
  | .hbm, ⟨44, _⟩ => ⟨S4224x1024, .f32⟩
  | .hbm, ⟨45, _⟩ => ⟨S4224x1024, .f32⟩
  | .hbm, ⟨46, _⟩ => ⟨S4224x1024, .f32⟩
  | .hbm, ⟨47, _⟩ => ⟨S4224x512, .f32⟩
  | .hbm, ⟨48, _⟩ => ⟨S4224x512, .f32⟩
  | .hbm, ⟨49, _⟩ => ⟨S4224x1024, .bf16⟩
  | .hbm, ⟨50, _⟩ => ⟨S4224x1024, .bf16⟩
  | .hbm, ⟨51, _⟩ => ⟨S4224x1024, .bf16⟩
  | .hbm, ⟨52, _⟩ => ⟨S4224x1024, .bf16⟩
  | .hbm, ⟨53, _⟩ => ⟨S512x4224, .f32⟩
  | .hbm, ⟨54, _⟩ => ⟨S512x4224, .bf16⟩
  | _, _ => ⟨S4224x4360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== RmsFwd.lean ====
abbrev S4224x1024 : Shape := ⟨2, ![4224, 1024]⟩
abbrev S1024 : Shape := ⟨1, ![1024]⟩
abbrev S1x1024 : Shape := ⟨2, ![1, 1024]⟩
abbrev S1024x4224 : Shape := ⟨2, ![1024, 4224]⟩
abbrev S384x1024 : Shape := ⟨2, ![384, 1024]⟩
abbrev S1024x384 : Shape := ⟨2, ![1024, 384]⟩
abbrev S384 : Shape := ⟨1, ![384]⟩
abbrev S384x1 : Shape := ⟨2, ![384, 1]⟩

abbrev nBuf : Space → Nat
  | .hbm => 5
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1x1024, .f32⟩
  | .hbm, ⟨3, _⟩ => ⟨S4224x1024, .bf16⟩
  | .hbm, ⟨4, _⟩ => ⟨S1024x4224, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S384x1024, .bf16⟩
  | .local _ .vmem, ⟨4, _⟩ => ⟨S384x1024, .bf16⟩
  | .local _ .vmem, ⟨5, _⟩ => ⟨S1024x384, .bf16⟩
  | .local _ .vmem, ⟨6, _⟩ => ⟨S1024x384, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsFwdRefIdeal.lean ====
abbrev S4224x1024 : Shape := ⟨2, ![4224, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S1024x4224 : Shape := ⟨2, ![1024, 4224]⟩

abbrev nBuf : Space → Nat
  | .hbm => 21
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S4224x1024, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x1024, .f32⟩
  | .hbm, ⟨14, _⟩ => ⟨S4224x1024, .f32⟩
  | .hbm, ⟨15, _⟩ => ⟨S1x1024, .f32⟩
  | .hbm, ⟨16, _⟩ => ⟨S4224x1024, .f32⟩
  | .hbm, ⟨17, _⟩ => ⟨S4224x1024, .f32⟩
  | .hbm, ⟨18, _⟩ => ⟨S4224x1024, .bf16⟩
  | .hbm, ⟨19, _⟩ => ⟨S1024x4224, .f32⟩
  | .hbm, ⟨20, _⟩ => ⟨S1024x4224, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== FfnFwd.lean ====
abbrev S4224x1024 : Shape := ⟨2, ![4224, 1024]⟩
abbrev S1024x5632 : Shape := ⟨2, ![1024, 5632]⟩
abbrev S2x4224x2816 : Shape := ⟨3, ![2, 4224, 2816]⟩
abbrev S4224x2816 : Shape := ⟨2, ![4224, 2816]⟩
abbrev S2816x4224 : Shape := ⟨2, ![2816, 4224]⟩
abbrev S384x1024 : Shape := ⟨2, ![384, 1024]⟩
abbrev S1024x1408 : Shape := ⟨2, ![1024, 1408]⟩
abbrev S2x384x1408 : Shape := ⟨3, ![2, 384, 1408]⟩
abbrev S384x1408 : Shape := ⟨2, ![384, 1408]⟩
abbrev S1408x384 : Shape := ⟨2, ![1408, 384]⟩
abbrev S1x384x1408 : Shape := ⟨3, ![1, 384, 1408]⟩

abbrev nBuf : Space → Nat
  | .hbm => 7
  | .vmem => 12
  | .smem => 0
  | _ => 0

abbrev bufTy : (tb : Table) → Fin (tcTables nBuf tb) → BufTy
  | .hbm, ⟨0, _⟩ => ⟨S4224x1024, .f32⟩
  | .hbm, ⟨1, _⟩ => ⟨S1024x5632, .f32⟩
  | .hbm, ⟨2, _⟩ => ⟨S4224x1024, .bf16⟩
  | .hbm, ⟨3, _⟩ => ⟨S1024x5632, .bf16⟩
  | .hbm, ⟨4, _⟩ => ⟨S2x4224x2816, .bf16⟩
  | .hbm, ⟨5, _⟩ => ⟨S4224x2816, .bf16⟩
  | .hbm, ⟨6, _⟩ => ⟨S2816x4224, .bf16⟩
  | .local _ .vmem, ⟨0, _⟩ => ⟨S384x1024, .bf16⟩
  | .local _ .vmem, ⟨1, _⟩ => ⟨S384x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S2x384x1408, .bf16⟩
  | .local _ .vmem, ⟨7, _⟩ => ⟨S2x384x1408, .bf16⟩
  | .local _ .vmem, ⟨8, _⟩ => ⟨S384x1408, .bf16⟩
  | .local _ .vmem, ⟨9, _⟩ => ⟨S384x1408, .bf16⟩
  | .local _ .vmem, ⟨10, _⟩ => ⟨S1408x384, .bf16⟩
  | .local _ .vmem, ⟨11, _⟩ => ⟨S1408x384, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x384x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1408x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnFwdRefIdeal.lean ====
abbrev S4224x1024 : Shape := ⟨2, ![4224, 1024]⟩
abbrev S1024x5632 : Shape := ⟨2, ![1024, 5632]⟩
abbrev S4224x5632 : Shape := ⟨2, ![4224, 5632]⟩
abbrev S4224x2816 : Shape := ⟨2, ![4224, 2816]⟩
abbrev S_ : Shape := ⟨0, ![]⟩
abbrev S1x4224x2816 : Shape := ⟨3, ![1, 4224, 2816]⟩
abbrev S2x4224x2816 : Shape := ⟨3, ![2, 4224, 2816]⟩
abbrev S2816x4224 : Shape := ⟨2, ![2816, 4224]⟩

abbrev nBuf : Space → Nat
  | .hbm => 22
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x5632, .f32⟩
  | .hbm, ⟨2, _⟩ => ⟨S4224x5632, .f32⟩
  | .hbm, ⟨3, _⟩ => ⟨S4224x2816, .f32⟩
  | .hbm, ⟨4, _⟩ => ⟨S4224x2816, .f32⟩
  | .hbm, ⟨5, _⟩ => ⟨S4224x2816, .f32⟩
  | .hbm, ⟨6, _⟩ => ⟨S4224x2816, .f32⟩
  | .hbm, ⟨7, _⟩ => ⟨S_, .f32⟩
  | .hbm, ⟨8, _⟩ => ⟨S4224x2816, .f32⟩
  | .hbm, ⟨9, _⟩ => ⟨S4224x2816, .f32⟩
  | .hbm, ⟨10, _⟩ => ⟨S_, .f32⟩
  | .hbm, ⟨11, _⟩ => ⟨S4224x2816, .f32⟩
  | .hbm, ⟨12, _⟩ => ⟨S4224x2816, .f32⟩
  | .hbm, ⟨13, _⟩ => ⟨S4224x2816, .f32⟩
  | .hbm, ⟨14, _⟩ => ⟨S4224x2816, .f32⟩
  | .hbm, ⟨15, _⟩ => ⟨S1x4224x2816, .f32⟩
  | .hbm, ⟨16, _⟩ => ⟨S1x4224x2816, .f32⟩
  | .hbm, ⟨17, _⟩ => ⟨S2x4224x2816, .f32⟩
  | .hbm, ⟨18, _⟩ => ⟨S2x4224x2816, .bf16⟩
  | .hbm, ⟨19, _⟩ => ⟨S4224x2816, .bf16⟩
  | .hbm, ⟨20, _⟩ => ⟨S2816x4224, .f32⟩
  | .hbm, ⟨21, _⟩ => ⟨S2816x4224, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== GateFwd.lean ====
abbrev S4224x4360 : Shape := ⟨2, ![4224, 4360]⟩
abbrev S4224x512 : Shape := ⟨2, ![4224, 512]⟩
abbrev S512x1024 : Shape := ⟨2, ![512, 1024]⟩
abbrev S1024x1024 : Shape := ⟨2, ![1024, 1024]⟩
abbrev S4224x1024 : Shape := ⟨2, ![4224, 1024]⟩
abbrev S4224x2048 : Shape := ⟨2, ![4224, 2048]⟩
abbrev S4224x1536 : Shape := ⟨2, ![4224, 1536]⟩
abbrev S4224x768 : Shape := ⟨2, ![4224, 768]⟩
abbrev S4224x8 : Shape := ⟨2, ![4224, 8]⟩
abbrev S_ : Shape := ⟨0, ![]⟩
abbrev S4224x120 : Shape := ⟨2, ![4224, 120]⟩
abbrev S4224x4480 : Shape := ⟨2, ![4224, 4480]⟩
abbrev S1024x4224 : Shape := ⟨2, ![1024, 4224]⟩
abbrev S512x4224 : Shape := ⟨2, ![512, 4224]⟩
abbrev S384x512 : Shape := ⟨2, ![384, 512]⟩
abbrev S384x1024 : Shape := ⟨2, ![384, 1024]⟩
abbrev S1024x384 : Shape := ⟨2, ![1024, 384]⟩
abbrev S512x384 : Shape := ⟨2, ![512, 384]⟩

abbrev nBuf : Space → Nat
  | .hbm => 25
  | .vmem => 25
  | .smem => 0
  | _ => 0

abbrev bufTy : (tb : Table) → Fin (tcTables nBuf tb) → BufTy
  | .hbm, ⟨0, _⟩ => ⟨S4224x4360, .f32⟩
  | .hbm, ⟨1, _⟩ => ⟨S4224x512, .f32⟩
  | .hbm, ⟨2, _⟩ => ⟨S4224x512, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S4224x1024, .f32⟩
  | .hbm, ⟨7, _⟩ => ⟨S4224x512, .bf16⟩
  | .hbm, ⟨8, _⟩ => ⟨S4224x512, .bf16⟩
  | .hbm, ⟨9, _⟩ => ⟨S512x1024, .bf16⟩
  | .hbm, ⟨10, _⟩ => ⟨S512x1024, .bf16⟩
  | .hbm, ⟨11, _⟩ => ⟨S4224x2048, .f32⟩
  | .hbm, ⟨12, _⟩ => ⟨S4224x1536, .f32⟩
  | .hbm, ⟨13, _⟩ => ⟨S4224x768, .f32⟩
  | .hbm, ⟨14, _⟩ => ⟨S4224x8, .f32⟩
  | .hbm, ⟨15, _⟩ => ⟨S_, .f32⟩
  | .hbm, ⟨16, _⟩ => ⟨S4224x120, .f32⟩
  | .hbm, ⟨17, _⟩ => ⟨S4224x4480, .f32⟩
  | .hbm, ⟨18, _⟩ => ⟨S1024x1024, .bf16⟩
  | .hbm, ⟨19, _⟩ => ⟨S4224x1024, .f32⟩
  | .hbm, ⟨20, _⟩ => ⟨S1024x4224, .bf16⟩
  | .hbm, ⟨21, _⟩ => ⟨S4224x1024, .bf16⟩
  | .hbm, ⟨22, _⟩ => ⟨S4224x1024, .bf16⟩
  | .hbm, ⟨23, _⟩ => ⟨S512x4224, .bf16⟩
  | .hbm, ⟨24, _⟩ => ⟨S512x4224, .bf16⟩
  | .local _ .vmem, ⟨0, _⟩ => ⟨S384x512, .bf16⟩
  | .local _ .vmem, ⟨1, _⟩ => ⟨S384x512, .bf16⟩
  | .local _ .vmem, ⟨2, _⟩ => ⟨S384x512, .bf16⟩
  | .local _ .vmem, ⟨3, _⟩ => ⟨S384x512, .bf16⟩
  | .local _ .vmem, ⟨4, _⟩ => ⟨S512x1024, .bf16⟩
  | .local _ .vmem, ⟨5, _⟩ => ⟨S512x1024, .bf16⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S1024x1024, .bf16⟩
  | .local _ .vmem, ⟨11, _⟩ => ⟨S384x1024, .f32⟩
  | .local _ .vmem, ⟨12, _⟩ => ⟨S384x1024, .f32⟩
  | .local _ .vmem, ⟨13, _⟩ => ⟨S384x1024, .f32⟩
  | .local _ .vmem, ⟨14, _⟩ => ⟨S384x1024, .f32⟩
  | .local _ .vmem, ⟨15, _⟩ => ⟨S1024x384, .bf16⟩
  | .local _ .vmem, ⟨16, _⟩ => ⟨S1024x384, .bf16⟩
  | .local _ .vmem, ⟨17, _⟩ => ⟨S384x1024, .bf16⟩
  | .local _ .vmem, ⟨18, _⟩ => ⟨S384x1024, .bf16⟩
  | .local _ .vmem, ⟨19, _⟩ => ⟨S384x1024, .bf16⟩
  | .local _ .vmem, ⟨20, _⟩ => ⟨S384x1024, .bf16⟩
  | .local _ .vmem, ⟨21, _⟩ => ⟨S512x384, .bf16⟩
  | .local _ .vmem, ⟨22, _⟩ => ⟨S512x384, .bf16⟩
  | .local _ .vmem, ⟨23, _⟩ => ⟨S512x384, .bf16⟩
  | .local _ .vmem, ⟨24, _⟩ => ⟨S512x384, .bf16⟩
  | _, _ => ⟨S4224x4360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x384 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== GateFwdRefIdeal.lean ====
abbrev S4224x4360 : Shape := ⟨2, ![4224, 4360]⟩
abbrev S4224x512 : Shape := ⟨2, ![4224, 512]⟩
abbrev S512x1024 : Shape := ⟨2, ![512, 1024]⟩
abbrev S1024x1024 : Shape := ⟨2, ![1024, 1024]⟩
abbrev S4224x1024 : Shape := ⟨2, ![4224, 1024]⟩
abbrev S4224x2048 : Shape := ⟨2, ![4224, 2048]⟩
abbrev S_ : Shape := ⟨0, ![]⟩
abbrev S1024x4224 : Shape := ⟨2, ![1024, 4224]⟩
abbrev S512x4224 : Shape := ⟨2, ![512, 4224]⟩

abbrev nBuf : Space → Nat
  | .hbm => 41
  | .vmem => 0
  | .smem => 0
  | _ => 0

abbrev bufTy : (tb : Table) → Fin (tcTables nBuf tb) → BufTy
  | .hbm, ⟨0, _⟩ => ⟨S4224x4360, .f32⟩
  | .hbm, ⟨1, _⟩ => ⟨S4224x512, .f32⟩
  | .hbm, ⟨2, _⟩ => ⟨S4224x512, .f32⟩
  | .hbm, ⟨3, _⟩ => ⟨S512x1024, .f32⟩
  | .hbm, ⟨4, _⟩ => ⟨S512x1024, .f32⟩
  | .hbm, ⟨5, _⟩ => ⟨S1024x1024, .f32⟩
  | .hbm, ⟨6, _⟩ => ⟨S4224x1024, .f32⟩
  | .hbm, ⟨7, _⟩ => ⟨S4224x2048, .f32⟩
  | .hbm, ⟨8, _⟩ => ⟨S4224x1024, .f32⟩
  | .hbm, ⟨9, _⟩ => ⟨S4224x1024, .f32⟩
  | .hbm, ⟨10, _⟩ => ⟨S4224x1024, .f32⟩
  | .hbm, ⟨11, _⟩ => ⟨S4224x1024, .f32⟩
  | .hbm, ⟨12, _⟩ => ⟨S4224x1024, .f32⟩
  | .hbm, ⟨13, _⟩ => ⟨S4224x1024, .f32⟩
  | .hbm, ⟨14, _⟩ => ⟨S_, .f32⟩
  | .hbm, ⟨15, _⟩ => ⟨S4224x1024, .f32⟩
  | .hbm, ⟨16, _⟩ => ⟨S4224x1024, .f32⟩
  | .hbm, ⟨17, _⟩ => ⟨S_, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S_, .f32⟩
  | .hbm, ⟨24, _⟩ => ⟨S4224x1024, .f32⟩
  | .hbm, ⟨25, _⟩ => ⟨S4224x1024, .f32⟩
  | .hbm, ⟨26, _⟩ => ⟨S_, .f32⟩
  | .hbm, ⟨27, _⟩ => ⟨S4224x1024, .f32⟩
  | .hbm, ⟨28, _⟩ => ⟨S4224x1024, .f32⟩
  | .hbm, ⟨29, _⟩ => ⟨S4224x1024, .f32⟩
  | .hbm, ⟨30, _⟩ => ⟨S4224x1024, .f32⟩
  | .hbm, ⟨31, _⟩ => ⟨S4224x1024, .f32⟩
  | .hbm, ⟨32, _⟩ => ⟨S4224x1024, .f32⟩
  | .hbm, ⟨33, _⟩ => ⟨S1024x4224, .f32⟩
  | .hbm, ⟨34, _⟩ => ⟨S1024x4224, .bf16⟩
  | .hbm, ⟨35, _⟩ => ⟨S4224x1024, .bf16⟩
  | .hbm, ⟨36, _⟩ => ⟨S4224x1024, .bf16⟩
  | .hbm, ⟨37, _⟩ => ⟨S512x4224, .f32⟩
  | .hbm, ⟨38, _⟩ => ⟨S512x4224, .bf16⟩
  | .hbm, ⟨39, _⟩ => ⟨S512x4224, .f32⟩
  | .hbm, ⟨40, _⟩ => ⟨S512x4224, .bf16⟩
  | _, _ => ⟨S4224x4360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== MmRes.lean ====
abbrev S4224x2816 : Shape := ⟨2, ![4224, 2816]⟩
abbrev S2816x1024 : Shape := ⟨2, ![2816, 1024]⟩
abbrev S4224x1024 : Shape := ⟨2, ![4224, 1024]⟩
abbrev S384x2816 : Shape := ⟨2, ![384, 2816]⟩
abbrev S384x1024 : Shape := ⟨2, ![384, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4224x2816, .f32⟩
  | .hbm, ⟨1, _⟩ => ⟨S2816x1024, .f32⟩
  | .hbm, ⟨2, _⟩ => ⟨S4224x1024, .f32⟩
  | .hbm, ⟨3, _⟩ => ⟨S4224x2816, .bf16⟩
  | .hbm, ⟨4, _⟩ => ⟨S2816x1024, .bf16⟩
  | .hbm, ⟨5, _⟩ => ⟨S4224x1024, .f32⟩
  | .local _ .vmem, ⟨0, _⟩ => ⟨S384x2816, .bf16⟩
  | .local _ .vmem, ⟨1, _⟩ => ⟨S384x2816, .bf16⟩
  | .local _ .vmem, ⟨2, _⟩ => ⟨S2816x1024, .bf16⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | _, _ => ⟨S4224x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S384x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MmResRefIdeal.lean ====
abbrev S4224x2816 : Shape := ⟨2, ![4224, 2816]⟩
abbrev S2816x1024 : Shape := ⟨2, ![2816, 1024]⟩
abbrev S4224x1024 : Shape := ⟨2, ![4224, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4224x2816, .f32⟩
  | .hbm, ⟨1, _⟩ => ⟨S2816x1024, .f32⟩
  | .hbm, ⟨2, _⟩ => ⟨S4224x1024, .f32⟩
  | .hbm, ⟨3, _⟩ => ⟨S4224x1024, .f32⟩
  | .hbm, ⟨4, _⟩ => ⟨S_, .f32⟩
  | .hbm, ⟨5, _⟩ => ⟨S4224x1024, .f32⟩
  | .hbm, ⟨6, _⟩ => ⟨S4224x1024, .f32⟩
  | .hbm, ⟨7, _⟩ => ⟨S4224x1024, .f32⟩
  | _, _ => ⟨S4224x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Mm.lean ====
abbrev S4224x1024 : Shape := ⟨2, ![4224, 1024]⟩
abbrev S1024x5632 : Shape := ⟨2, ![1024, 5632]⟩
abbrev S4224x5632 : Shape := ⟨2, ![4224, 5632]⟩
abbrev S1024x4224 : Shape := ⟨2, ![1024, 4224]⟩
abbrev S4224x2x2816 : Shape := ⟨3, ![4224, 2, 2816]⟩
abbrev S2x4224x2816 : Shape := ⟨3, ![2, 4224, 2816]⟩
abbrev S1x4224x256 : Shape := ⟨3, ![1, 4224, 256]⟩
abbrev S1024x256 : Shape := ⟨2, ![1024, 256]⟩
abbrev S4224x256 : Shape := ⟨2, ![4224, 256]⟩

abbrev nBuf : Space → Nat
  | .hbm => 9
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x5632, .f32⟩
  | .hbm, ⟨2, _⟩ => ⟨S4224x5632, .f32⟩
  | .hbm, ⟨3, _⟩ => ⟨S1024x4224, .f32⟩
  | .hbm, ⟨4, _⟩ => ⟨S1024x4224, .bf16⟩
  | .hbm, ⟨5, _⟩ => ⟨S4224x2x2816, .f32⟩
  | .hbm, ⟨6, _⟩ => ⟨S2x4224x2816, .f32⟩
  | .hbm, ⟨7, _⟩ => ⟨S2x4224x2816, .bf16⟩
  | .hbm, ⟨8, _⟩ => ⟨S1024x5632, .bf16⟩
  | .local _ .vmem, ⟨0, _⟩ => ⟨S1024x4224, .bf16⟩
  | .local _ .vmem, ⟨1, _⟩ => ⟨S1x4224x256, .bf16⟩
  | .local _ .vmem, ⟨2, _⟩ => ⟨S1x4224x256, .bf16⟩
  | .local _ .vmem, ⟨3, _⟩ => ⟨S1024x256, .bf16⟩
  | .local _ .vmem, ⟨4, _⟩ => ⟨S1024x256, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4224 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmRefIdeal.lean ====
abbrev S4224x1024 : Shape := ⟨2, ![4224, 1024]⟩
abbrev S1024x5632 : Shape := ⟨2, ![1024, 5632]⟩
abbrev S4224x5632 : Shape := ⟨2, ![4224, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x5632, .f32⟩
  | .hbm, ⟨2, _⟩ => ⟨S4224x5632, .f32⟩
  | .hbm, ⟨3, _⟩ => ⟨S4224x5632, .f32⟩
  | .hbm, ⟨4, _⟩ => ⟨S5632x1024, .f32⟩
  | .hbm, ⟨5, _⟩ => ⟨S1024x5632, .f32⟩
  | .hbm, ⟨6, _⟩ => ⟨S1024x5632, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Adam.lean ====
abbrev S2x1024x1408 : Shape := ⟨3, ![2, 1024, 1408]⟩
abbrev S1x256x1408 : Shape := ⟨3, ![1, 256, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamRefIdeal.lean ====
abbrev S2x1024x1408 : Shape := ⟨3, ![2, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Common.lean ====
/- Facts about extended reals, sums and single operations that several of the proofs use. -/
module

public import Idealize.ShloMosaic.Lib.Pipeline.ValueKit.Point
public import Idealize.ShloMosaic.PureOps.Ideal.Laws
public import Idealize.ShloMosaic.Lib.WritesUnit
public import Idealize.ShloMosaic.Lib.Pipeline.ReadBack
public import Idealize.ShloMosaic.Lib.Pipeline.Frame

@[expose] public section

set_option maxRecDepth 16384

noncomputable section

namespace Cert.Common

open Idealize.ShloMosaic

/-! ### Float words -/

theorem one_1024 : Ideal.ofBits .f32 0x3A800000#32 = ((1 / 1024 : ℝ) : EReal) := by
  simp [Ideal.ofBits, Ideal.ieee, -EReal.coe_mul]; norm_num
theorem half_1024 : Ideal.ofBits .f32 0x3A000000#32 = ((1 / 2048 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem k1024 : Ideal.ofBits .f32 0x44800000#32 = ((1024 : ℝ) : EReal) := by
  simp [Ideal.ofBits, Ideal.ieee, -EReal.coe_mul]; norm_num

/-! ### Sums -/

/-- A square is not negative, at the infinities neither. -/
theorem mul_self_nonneg (x : EReal) : 0 ≤ x * x := by
  rcases le_total 0 x with h | h
  · exact mul_nonneg h h
  · have := mul_nonneg (EReal.neg_nonneg.mpr h) (EReal.neg_nonneg.mpr h)
    rwa [neg_mul_neg] at this

/-- A factor goes into a sum of terms that are not negative. -/
theorem mul_sum_of_nonneg {ι : Type*} (s : Finset ι) (c : EReal) (f : ι → EReal) (h : ∀ i ∈ s, 0 ≤ f i) :
    c * ∑ i ∈ s, f i = ∑ i ∈ s, c * f i := by
  classical
  induction s using Finset.induction_on with
  | empty => simp
  | insert a s ha ih =>
    rw [Finset.sum_insert ha, Finset.sum_insert ha, ← ih fun i hi => h i (Finset.mem_insert_of_mem hi)]
    exact EReal.left_distrib_of_nonneg (h a (Finset.mem_insert_self a s))
      (Finset.sum_nonneg fun i hi => h i (Finset.mem_insert_of_mem hi))

/-- The sum over a whole two-axis block, as a body takes it: cast to three axes, reduced over the last two, and read out. -/
theorem total_apply {n0 n1 : ℕ} (v : FVec Ideal (⟨2, ![n0, n1]⟩ : Shape) .f32)
    (h1 : (⟨2, ![n0, n1]⟩ : Shape).ShapeCasts ⟨3, ![1, n0, n1]⟩) (h2 : (⟨3, ![1, n0, n1]⟩ : Shape).Reduces [1, 2] ⟨1, ![1]⟩)
    (h3 : (⟨1, ![1]⟩ : Shape).ShapeCasts ⟨3, ![1, 1, 1]⟩) (hφ : FKind.Formats .f32) (ha : (0x00000000#32 : BitVec 32) = FKind.add.neutral .f32 hφ)
    (j : (⟨3, ![1, 1, 1]⟩ : Shape).Idx) :
    shapeCast ⟨3, ![1, 1, 1]⟩ (multiReduction .add [1, 2] ⟨1, ![1]⟩ (shapeCast ⟨3, ![1, n0, n1]⟩ v h1) 0x00000000#32 h2 hφ ha) h3 j
      = ∑ p : Fin n0, ∑ l : Fin n1, v (ix2 p l) := by
  unfold shapeCast
  rw [Ideal.multiReduction_add_total _ _ _ (fun b => by fin_cases b; rfl)]
  rw [Equiv.sum_comp (Shape.reshapeEquiv h1) v, sum_idx2]

/-! ### A store into the first row of a block -/

section Row0

variable {sig : RefSig} {κ : Kind} {sp : Space} {e : EltTy} {Val : EltTy → Type} {n0 n1 : ℕ}

theorem row0_read (v : View sig κ sp (⟨2, ![n0, n1]⟩ : Shape) e) (f : v.ty.Contents Val)
    (inb : ∀ a, (![0, 0] : Fin 2 → ℕ) a + (![1, n1] : Fin 2 → ℕ) a ≤ (⟨2, ![n0, n1]⟩ : Shape).size a)
    (w : (⟨2, ![1, n1]⟩ : Shape).Idx → Val e) (L : List (View.Piece Val (⟨2, ![n0, n1]⟩ : Shape) e)) (a : Fin n0) (l : Fin n1) :
    v.read Val (v.writes Val f ((⟨Rect.unit (s := ⟨2, ![n0, n1]⟩) ![0, 0] ![1, n1] inb, w⟩ : View.Piece Val (⟨2, ![n0, n1]⟩ : Shape) e) :: L)) (ix2 a l)
      = if a.val = 0 then w (ix2 0 l) else v.read Val (v.writes Val f L) (ix2 a l) := by
  by_cases h : a.val = 0
  · rw [if_pos h]
    exact View.read_writes_cons_rows_of_mem v f inb w L (ix2 a l) (ix2 0 l) rfl h rfl
  · rw [if_neg h]
    exact View.read_writes_cons_rows_of_not_mem (o := 0) (W := 1) v f inb w L (ix2 a l) rfl rfl (Or.inr (by show 0 + 1 ≤ a.val; omega))

/-- After a fill of the whole block. -/
theorem row0_fill [∀ e, Nonempty (Val e)] (v : View sig κ sp (⟨2, ![n0, n1]⟩ : Shape) e)
    (inb : ∀ a, (![0, 0] : Fin 2 → ℕ) a + (![1, n1] : Fin 2 → ℕ) a ≤ (⟨2, ![n0, n1]⟩ : Shape).size a)
    (inb' : ∀ a, (![0, 0] : Fin 2 → ℕ) a + (![n0, n1] : Fin 2 → ℕ) a ≤ (⟨2, ![n0, n1]⟩ : Shape).size a)
    (w : (⟨2, ![1, n1]⟩ : Shape).Idx → Val e) (z : (⟨2, ![n0, n1]⟩ : Shape).Idx → Val e) (a : Fin n0) (l : Fin n1) :
    View.canon (Val := Val) [⟨Rect.unit (s := ⟨2, ![n0, n1]⟩) ![0, 0] ![1, n1] inb, w⟩, ⟨Rect.unit (s := ⟨2, ![n0, n1]⟩) ![0, 0] ![n0, n1] inb', z⟩] (ix2 a l)
      = if a.val = 0 then w (ix2 0 l) else z (ix2 a l) := by
  rw [← View.read_writes_junk_eq_canon v, row0_read]
  congr 1
  exact View.read_writes_cons_rows_of_mem (o := 0) v _ inb' z [] (ix2 a l) (ix2 a l) rfl (Nat.zero_add _).symm rfl

/-- Over what the block held. -/
theorem row0_over [∀ e, Nonempty (Val e)] (M : Memref sig κ sp (⟨2, ![n0, n1]⟩ : Shape) e) (hM : M.IsWhole) (X : (⟨2, ![n0, n1]⟩ : Shape).Idx → Val e)
    (inb : ∀ a, (![0, 0] : Fin 2 → ℕ) a + (![1, n1] : Fin 2 → ℕ) a ≤ (⟨2, ![n0, n1]⟩ : Shape).size a)
    (w : (⟨2, ![1, n1]⟩ : Shape).Idx → Val e) (a : Fin n0) (l : Fin n1) :
    M.view.read Val (M.view.writes Val (hM.unread X) [⟨Rect.unit (s := ⟨2, ![n0, n1]⟩) ![0, 0] ![1, n1] inb, w⟩]) (ix2 a l)
      = if a.val = 0 then w (ix2 0 l) else X (ix2 a l) := by
  rw [row0_read]
  congr 1
  exact congrFun (Memref.IsWhole.read_unread hM X) _

/-- The first row loaded. -/
theorem ld_row0 (X : (⟨2, ![n0, n1]⟩ : Shape).Idx → Val e)
    (inb : ∀ a, (![0, 0] : Fin 2 → ℕ) a + (![1, n1] : Fin 2 → ℕ) a ≤ (⟨2, ![n0, n1]⟩ : Shape).size a) (h0 : 0 < n0) (l : Fin n1) :
    View.ld X (Rect.unit (s := ⟨2, ![n0, n1]⟩) ![0, 0] ![1, n1] inb) (ix2 0 l) = X (ix2 ⟨0, h0⟩ l) :=
  View.ld_unit_apply_of _ _ _ _ _ (ix2 ⟨0, h0⟩ l) (by intro a; fin_cases a <;> simp)

end Row0

/-! ### Padding -/

/-- Rows added below and above a two-axis array: inside, the array. -/
theorem pad_rows_in {α : Type} {n0 n1 m0 : ℕ} (lo hi : ℕ) (x : (⟨2, ![n0, n1]⟩ : Shape).Idx → α) {u : Shape} (v : u.Idx → α)
    (h : (⟨2, ![n0, n1]⟩ : Shape).Pads ![lo, 0] ![hi, 0] ![0, 0] ⟨2, ![m0, n1]⟩) (hu : 0 < u.numel)
    (r : Fin m0) (l : Fin n1) (h1 : lo ≤ r.val) (h2 : r.val - lo < n0) :
    pad ⟨2, ![m0, n1]⟩ ![lo, 0] ![hi, 0] ![0, 0] x v h hu (ix2 r l) = x (ix2 ⟨r.val - lo, h2⟩ l) := by
  unfold pad
  rw [dif_pos (by
    intro a
    fin_cases a
    · exact ⟨h1, Nat.mod_one _, (Nat.div_one _).symm ▸ h2⟩
    · exact ⟨Nat.zero_le _, Nat.mod_one _, (Nat.div_one _).symm ▸ l.isLt⟩)]
  refine congrArg x ?_
  funext a
  fin_cases a
  · exact Fin.ext (Nat.div_one _)
  · exact Fin.ext (Nat.div_one _)

/-- Rows added below and above a two-axis array: outside, the padding. -/
theorem pad_rows_out {α : Type} {n0 n1 m0 : ℕ} (lo hi : ℕ) (x : (⟨2, ![n0, n1]⟩ : Shape).Idx → α) {u : Shape} (v : u.Idx → α)
    (h : (⟨2, ![n0, n1]⟩ : Shape).Pads ![lo, 0] ![hi, 0] ![0, 0] ⟨2, ![m0, n1]⟩) (hu : 0 < u.numel)
    (r : Fin m0) (l : Fin n1) (h1 : r.val < lo ∨ n0 ≤ r.val - lo) :
    pad ⟨2, ![m0, n1]⟩ ![lo, 0] ![hi, 0] ![0, 0] x v h hu (ix2 r l) = v (Shape.Idx.first hu) := by
  unfold pad
  rw [dif_neg fun hin => by
    have a := (hin 0).1
    have b := (hin 0).2.2
    rw [show (![0, 0] : Fin 2 → ℕ) 0 + 1 = 1 from rfl, Nat.div_one] at b
    have a' : lo ≤ r.val := a
    have b' : r.val - lo < n0 := b
    omega]

end Cert.Common
end
-- ==== Proof.LossValue.lean ====
/- The loss and its gradient: what the kernel's three results hold, as sums over the arguments. -/
module

public import proofs.«01_k».proof.Proof.Gen.LossIdeal.Value
public import proofs.«01_k».proof.Proof.Common

@[expose] public section

set_option maxRecDepth 2000

noncomputable section

namespace Cert.LossIdeal.Value

open Cert.LossIdeal Cert.LossIdeal.Gen Cert.Common Idealize.ShloMosaic Idealize.ShloMosaic.TcCoe Idealize.SL.Sem

variable (m : (ℓ : Loc nD τ sig) → Buf (Elt Ideal) ℓ) (ρ : Dev nD → PrngReg)

/-- The error at row `r`, column `l`: zero on the first 128 rows (the padding and the meta tokens), then the output less the target. -/
def err (h : S4224x1024.Idx → EReal) (tg : S4096x1024.Idx → EReal) (r : Fin 4224) (l : Fin 1024) : EReal :=
  if hr : r.val < 128 then 0 else h (ix2 r l) - tg (ix2 ⟨r.val - 128, by omega⟩ l)

theorem pt (t : Fin cfg0.N) : t.val < 11 := Nat.lt_of_lt_of_eq t.isLt N_0

/-- Row `q` of the block of grid point `t`. -/
def row (t : Fin cfg0.N) (q : Fin 384) : Fin 4224 := ⟨384 * t.val + q.val, by have := pt t; omega⟩

theorem idx0 : ∀ t : Fin cfg0.N, win0_0.index t = ![t.val, 0] := (by decide +kernel : ∀ t : Fin grid0.N, _)
theorem idx1 : ∀ t : Fin cfg0.N, win0_1.index t = ![3 * t.val + 0 - 1, 0] := (by decide +kernel : ∀ t : Fin grid0.N, _)
theorem idx2 : ∀ t : Fin cfg0.N, win0_2.index t = ![3 * t.val + 1 - 1, 0] := (by decide +kernel : ∀ t : Fin grid0.N, _)
theorem idx3 : ∀ t : Fin cfg0.N, win0_3.index t = ![3 * t.val + 2 - 1, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem coord0 : ∀ t : Fin cfg0.N, (grid0.coords t 0).val = t.val := (by decide +kernel : ∀ t : Fin grid0.N, _)

/-- The body's test that a 128-row block lies below the first one, at point `n` and block `b` of its three. -/
theorem test (n : ℕ) (hn : n < 11) (b : ℕ) (hb : b < 3) :
    Scalar.cmpi .sgt (Scalar.addi (Scalar.muli (BitVec.ofNat 32 n) 3#32) (BitVec.ofNat 32 b)) 0#32 = if 3 * n + b = 0 then 0#1 else 1#1 :=
  (by decide +kernel : ∀ (n : Fin 11) (b : Fin 3),
    Scalar.cmpi .sgt (Scalar.addi (Scalar.muli (BitVec.ofNat 32 n.val) 3#32) (BitVec.ofNat 32 b.val)) 0#32 = if 3 * n.val + b.val = 0 then 0#1 else 1#1)
    ⟨n, hn⟩ ⟨b, hb⟩

/-- One block's error, chosen by the body's test, is `err` at its row. -/
theorem sel_err (h : S4224x1024.Idx → EReal) (tg : S4096x1024.Idx → EReal) (t : Fin cfg0.N) (b : ℕ) (hb : b < 3) (p : Fin 128) (l : Fin 1024) (x y : EReal)
    (hx : x = h (ix2 (row t ⟨128 * b + p.val, by omega⟩) l))
    (hy : y = tg (ix2 ⟨128 * (3 * t.val + b - 1) + p.val, by have := pt t; omega⟩ l)) :
    Scalar.select (Scalar.cmpi .sgt (Scalar.addi (Scalar.muli (BitVec.ofNat 32 (grid0.coords t 0).val) 3#32) (BitVec.ofNat 32 b)) 0#32) (x - y) 0
      = err h tg (row t ⟨128 * b + p.val, by omega⟩) l := by
  have ht := pt t
  rw [coord0, test _ ht _ hb, hx, hy]
  unfold err row
  by_cases h0 : 3 * t.val + b = 0
  · rw [if_pos h0, dif_pos (by dsimp only; omega)]; rfl
  · rw [if_neg h0, dif_neg (by dsimp only; omega)]
    have e : (⟨128 * (3 * t.val + b - 1) + p.val, by omega⟩ : Fin 4096) = ⟨384 * t.val + (128 * b + p.val) - 128, by omega⟩ :=
      Fin.ext (by dsimp only; omega)
    exact congrArg (fun q : Fin 4096 => h _ - tg (ix2 q l)) e

/-- The sum of the squared errors of block `b` at point `t`. -/
def tot (h : S4224x1024.Idx → EReal) (tg : S4096x1024.Idx → EReal) (t : Fin cfg0.N) : EReal :=
  ∑ b : Fin 3, ∑ p : Fin 128, ∑ l : Fin 1024,
    err h tg (row t ⟨128 * b.val + p.val, by omega⟩) l * err h tg (row t ⟨128 * b.val + p.val, by omega⟩) l

abbrev argH (c : Dev nD) : S4224x1024.Idx → EReal := m ((c : Thread nD τ).loc main_arg0)
abbrev argT (c : Dev nD) : S4096x1024.Idx → EReal := m ((c : Thread nD τ).loc main_arg1)

/-! ### What the three stores of a point write -/

variable (c : Dev nD) (t : Fin cfg0.N)

abbrev errAt (t : Fin cfg0.N) (b : ℕ) (hb : b < 3) (p : Fin 128) (l : Fin 1024) : EReal :=
  err (argH m c) (argT m c) (row t ⟨128 * b + p.val, by omega⟩) l

theorem pay3_eq (p : Fin 128) (l : Fin 1024) :
    k0_pay3 (F := Ideal) (grid0.coords t) (View.ld (iblk m c 0 t) (Rect.unit ![0, 0] ![128, 1024] inb_S384x1024_S128x1024_0_0)) (iblk m c 1 t) (ix2 p l)
      = errAt m c t 0 (by decide) p l := by
  have ht := pt t
  pointwise [k0_pay3]
  refine sel_err _ _ t 0 (by decide) p l _ _ ?_ ?_
  · blk_ext! [iblk, V, idx0, row]
  · blk_ext! [iblk, V, idx1]

theorem pay7_eq (p : Fin 128) (l : Fin 1024) :
    k0_pay7 (F := Ideal) (grid0.coords t) (View.ld (iblk m c 0 t) (Rect.unit ![128, 0] ![128, 1024] inb_S384x1024_S128x1024_128_0)) (iblk m c 2 t) (ix2 p l)
      = errAt m c t 1 (by decide) p l := by
  have ht := pt t
  pointwise [k0_pay7]
  refine sel_err _ _ t 1 (by decide) p l _ _ ?_ ?_
  · blk_ext! [iblk, V, idx0, row]
  · blk_ext! [iblk, V, idx2]

theorem pay11_eq (p : Fin 128) (l : Fin 1024) :
    k0_pay11 (F := Ideal) (BitVec.ofNat 32 (grid0.coords t 0)) (View.ld (iblk m c 0 t) (Rect.unit ![256, 0] ![128, 1024] inb_S384x1024_S128x1024_256_0)) (iblk m c 3 t) (ix2 p l)
      = errAt m c t 2 (by decide) p l := by
  have ht := pt t
  pointwise [k0_pay11]
  refine sel_err _ _ t 2 (by decide) p l _ _ ?_ ?_
  · blk_ext! [iblk, V, idx0, row]
  · blk_ext! [iblk, V, idx3]

theorem errAt_eq (b : ℕ) (hb : b < 3) (x : S128x1024.Idx) (y : S384x1024.Idx) (h0 : (y 0 : ℕ) = 128 * b + (x 0 : ℕ)) (h1 : (y 1 : ℕ) = x 1) :
    errAt m c t b hb (x 0) (x 1) = err (argH m c) (argT m c) (row t (y 0)) (y 1) := by
  have e0 : (⟨128 * b + (x 0).val, by have : (x 0).val < 128 := (x 0).isLt; omega⟩ : Fin 384) = y 0 := Fin.ext h0.symm
  have e1 : (x 1 : Fin 1024) = y 1 := Fin.ext h1.symm
  unfold errAt
  rw [← e0, ← e1]

theorem scaled3 (x : S128x1024.Idx) (e : EReal)
    (h : k0_pay3 (F := Ideal) (grid0.coords t) (View.ld (iblk m c 0 t) (Rect.unit ![0, 0] ![128, 1024] inb_S384x1024_S128x1024_0_0)) (iblk m c 1 t) x = e) :
    k0_pay5 (F := Ideal) (grid0.coords t) (View.ld (iblk m c 0 t) (Rect.unit ![0, 0] ![128, 1024] inb_S384x1024_S128x1024_0_0)) (iblk m c 1 t) x
      = e * ((1 / 1024 : ℝ) : EReal) := by
  subst h; rw [← one_1024]; rfl

theorem scaled7 (v : FVec Ideal S128x1024 .f32) (x : S128x1024.Idx) : k0_pay9 (F := Ideal) v x = v x * ((1 / 1024 : ℝ) : EReal) := by
  rw [← one_1024]; rfl

theorem scaled11 (a : BitVec 32) (v w : Vec Ideal S128x1024 .f32) (x : S128x1024.Idx) :
    k0_pay12 (F := Ideal) a v w x = k0_pay11 (F := Ideal) a v w x * ((1 / 1024 : ℝ) : EReal) := by
  rw [← one_1024]; rfl

/-- The gradient: the error over the row's length. -/
def grad (h : S4224x1024.Idx → EReal) (tg : S4096x1024.Idx → EReal) : S4224x1024.Idx → EReal :=
  fun i => err h tg (i 0) (i 1) * ((1 / 1024 : ℝ) : EReal)

/-- The place in the result of index `y` of point `t`'s block. -/
def place (t : Fin cfg0.N) (y : S384x1024.Idx) : S4224x1024.Idx := ix2 (row t (y 0)) (y 1)

/-- The three stores into the gradient's block, read back at an index. -/
theorem stores_eq (y : S384x1024.Idx) :
    View.canon (Val := Elt Ideal) (e := .f32)
      [⟨Rect.unit ![256, 0] ![128, 1024] inb_S384x1024_S128x1024_256_0,
          k0_pay12 (BitVec.ofNat 32 (grid0.coords t 0))
            (View.ld (iblk m c 0 t) (Rect.unit ![256, 0] ![128, 1024] inb_S384x1024_S128x1024_256_0)) (iblk m c 3 t)⟩,
        ⟨Rect.unit ![128, 0] ![128, 1024] inb_S384x1024_S128x1024_128_0,
          k0_pay9
            (k0_pay7 (grid0.coords t)
              (View.ld (iblk m c 0 t) (Rect.unit ![128, 0] ![128, 1024] inb_S384x1024_S128x1024_128_0))
              (iblk m c 2 t))⟩,
        ⟨Rect.unit ![0, 0] ![128, 1024] inb_S384x1024_S128x1024_0_0,
          k0_pay5 (grid0.coords t) (View.ld (iblk m c 0 t) (Rect.unit ![0, 0] ![128, 1024] inb_S384x1024_S128x1024_0_0))
            (iblk m c 1 t)⟩]
      y = grad (argH m c) (argT m c) (place t y) := by
  show _ = err _ _ (row t (y 0)) (y 1) * _
  canon_tiles x h
  · refine (scaled11 _ _ _ x).trans (congrArg (· * _) ?_)
    exact ((congrArg _ (eq_ix2 x)).trans (pay11_eq m c t _ _)).trans (errAt_eq m c t 2 (by decide) x y (by omega) h1)
  · refine (scaled7 _ x).trans (congrArg (· * _) ?_)
    exact ((congrArg _ (eq_ix2 x)).trans (pay7_eq m c t _ _)).trans (errAt_eq m c t 1 (by decide) x y (by omega) h1)
  · refine scaled3 m c t x _ ?_
    exact ((congrArg _ (eq_ix2 x)).trans (pay3_eq m c t _ _)).trans (errAt_eq m c t 0 (by decide) x y (by omega) h1)

/-- The same stores in the narrower format: the same numbers. -/
theorem stores_bf16_eq (y : S384x1024.Idx) :
    View.canon (Val := Elt Ideal) (e := .bf16)
      [⟨Rect.unit ![256, 0] ![128, 1024] inb_S384x1024_S128x1024_256_0,
          k0_pay13 (BitVec.ofNat 32 (grid0.coords t 0))
            (View.ld (iblk m c 0 t) (Rect.unit ![256, 0] ![128, 1024] inb_S384x1024_S128x1024_256_0)) (iblk m c 3 t)⟩,
        ⟨Rect.unit ![128, 0] ![128, 1024] inb_S384x1024_S128x1024_128_0,
          k0_pay10
            (k0_pay7 (grid0.coords t)
              (View.ld (iblk m c 0 t) (Rect.unit ![128, 0] ![128, 1024] inb_S384x1024_S128x1024_128_0))
              (iblk m c 2 t))⟩,
        ⟨Rect.unit ![0, 0] ![128, 1024] inb_S384x1024_S128x1024_0_0,
          k0_pay6 (grid0.coords t) (View.ld (iblk m c 0 t) (Rect.unit ![0, 0] ![128, 1024] inb_S384x1024_S128x1024_0_0))
            (iblk m c 1 t)⟩]
      y = grad (argH m c) (argT m c) (place t y) :=
  stores_eq m c t y

theorem place4 (y : S384x1024.Idx) : ((cfg0.win 4).blk t).view.emb y = place t y := by
  blk_ext [idx4, place, row]

theorem place5 (y : S384x1024.Idx) : ((cfg0.win 5).blk t).view.emb y = place t y := by
  blk_ext [idx5, place, row]

theorem final4 : (dats m 0 c).arrAt 4 cfg0.N = grad (argH m c) (argT m c) := by
  refine (dats m 0 c).arrAt_eq_of_covers 4 _ (by decide +kernel) fun t hf y => ?_
  rw [place4]
  blk_simp
  rw [after0_4]
  by_cases h0 : t.val % 11 = 0
  · rw [outsAt0_A m c t h0]
    frame_out
    exact stores_eq m c t y
  · rw [outsAt0_B m c t h0]
    frame_out
    exact stores_eq m c t y

theorem final5 : (dats m 0 c).arrAt 5 cfg0.N = grad (argH m c) (argT m c) := by
  refine (dats m 0 c).arrAt_eq_of_covers 5 _ (by decide +kernel) fun t hf y => ?_
  rw [place5]
  blk_simp
  rw [after0_5]
  by_cases h0 : t.val % 11 = 0
  · rw [outsAt0_A m c t h0]
    frame_out
    exact stores_bf16_eq m c t y
  · rw [outsAt0_B m c t h0]
    frame_out
    exact stores_bf16_eq m c t y

/-! ### The accumulated loss -/

theorem pay15_apply (a : BitVec 32) (x : EReal) (u : FVec Ideal S128x1024 .f32) (v w : Vec Ideal S128x1024 .f32) (j : S8x128.Idx) :
    k0_pay15 (F := Ideal) a x u v w j = ((1 / 2048 : ℝ) : EReal) * (x + (∑ p : Fin 128, ∑ l : Fin 1024, u (ix2 p l))
      + ∑ p : Fin 128, ∑ l : Fin 1024, k0_pay11 (F := Ideal) a v w (ix2 p l) * k0_pay11 (F := Ideal) a v w (ix2 p l)) := by
  rw [← half_1024]
  unfold k0_pay15
  dsimp only
  refine congrArg (fun z : EReal => Ideal.ofBits .f32 0x3A000000#32 * z) ?_
  exact congrArg₂ (fun y z : EReal => x + y + z) (total_apply _ _ _ _ _ _ _) (total_apply _ _ _ _ _ _ _)

theorem pay4_apply (v w : Vec Ideal S128x1024 .f32) :
    k0_pay4 (F := Ideal) (grid0.coords t) v w
      = ∑ p : Fin 128, ∑ l : Fin 1024, k0_pay3 (F := Ideal) (grid0.coords t) v w (ix2 p l) * k0_pay3 (F := Ideal) (grid0.coords t) v w (ix2 p l) := by
  unfold k0_pay4
  dsimp only
  refine (congrArg₂ (fun y z : EReal => y + z) (Ideal.ofBits_zero .f32) (total_apply _ _ _ _ _ _ _)).trans (zero_add _)

/-- What a point adds to the loss: its payload at an index. -/
theorem part_eq (j : S8x128.Idx) :
    k0_pay15 (F := Ideal) (BitVec.ofNat 32 (grid0.coords t 0))
      (k0_pay4 (grid0.coords t) (View.ld (iblk m c 0 t) (Rect.unit ![0, 0] ![128, 1024] inb_S384x1024_S128x1024_0_0)) (iblk m c 1 t))
      (k0_pay8 (grid0.coords t) (View.ld (iblk m c 0 t) (Rect.unit ![128, 0] ![128, 1024] inb_S384x1024_S128x1024_128_0)) (iblk m c 2 t))
      (View.ld (iblk m c 0 t) (Rect.unit ![256, 0] ![128, 1024] inb_S384x1024_S128x1024_256_0)) (iblk m c 3 t) j
      = ((1 / 2048 : ℝ) : EReal) * tot (argH m c) (argT m c) t := by
  refine (pay15_apply _ _ _ _ _ _).trans (congrArg (_ * ·) ?_)
  unfold tot
  rw [Fin.sum_univ_three, pay4_apply]
  refine congrArg₂ (· + ·) (congrArg₂ (· + ·) ?_ ?_) ?_
  · exact Finset.sum_congr rfl fun p _ => Finset.sum_congr rfl fun l _ => congrArg₂ (· * ·) (pay3_eq m c t p l) (pay3_eq m c t p l)
  · exact Finset.sum_congr rfl fun p _ => Finset.sum_congr rfl fun l _ => congrArg₂ (· * ·) (pay7_eq m c t p l) (pay7_eq m c t p l)
  · exact Finset.sum_congr rfl fun p _ => Finset.sum_congr rfl fun l _ => congrArg₂ (· * ·) (pay11_eq m c t p l) (pay11_eq m c t p l)

/-- The loss, at every place of its block: the points' shares added up. -/
def total (h : S4224x1024.Idx → EReal) (tg : S4096x1024.Idx → EReal) : S8x128.Idx → EReal :=
  fun _ => ∑ t : Fin cfg0.N, ((1 / 2048 : ℝ) : EReal) * tot h tg t

theorem final6 : (dats m 0 c).arrAt 6 cfg0.N
    = total (argH m c) (argT m c) := by
  refine (dats m 0 c).arrAt_eq_of_after_last 6 t0_10 (by decide +kernel) _ fun j => ?_
  blk_simp
  rw [after0_6, Pipeline.eq_sum_fin_of_reset_step_apply_last (fun n h => (outsAt0 m c n h).2.2) 11 (fun _ => (0 : EReal))
    (fun t _ => ((1 / 2048 : ℝ) : EReal) * tot (argH m c) (argT m c) t) ?_ ?_ (le_of_eq N_0) t0_10 rfl j, zero_add]
  · rfl
  · intro t h j
    rw [outsAt0_A m c t h]
    frame_out
    exact congrArg₂ (fun y z : EReal => y + z) (Ideal.ofBits_zero .f32) (part_eq m c t j)
  · intro t h j
    rw [outsAt0_B m c t h]
    frame_out
    exact congrArg₂ (fun y z : EReal => y + z) (congrFun (shapeCast_self _ _) j) (part_eq m c t j)

end Cert.LossIdeal.Value
end
-- ==== Proof.LossMatch.lean ====
/- The loss and its gradient: the reference's three results are the kernel's. -/
module

public import proofs.«01_k».proof.Proof.LossValue
public import proofs.«01_k».proof.Proof.Gen.LossRefIdeal.Run
public import proofs.«01_k».proof.Proof.Gen.LossRefIdeal.Read
public import proofs.«01_k».proof.Defs
public import Idealize.ShloMosaic.Lib.Claim

@[expose] public section

set_option maxRecDepth 2000

noncomputable section

namespace Cert.LossMatch

open Cert.Common Idealize.ShloMosaic Idealize.ShloMosaic.TcCoe Idealize.SL.Sem
open Cert.LossRefIdeal.Read
open Cert.LossIdeal.Value (err grad tot total row)

variable (h : (⟨2, ![4224, 1024]⟩ : Shape).Idx → EReal) (tg : (⟨2, ![4096, 1024]⟩ : Shape).Idx → EReal)

theorem err_low (r : Fin 4224) (l : Fin 1024) (hr : r.val < 128) : err h tg r l = 0 := dif_pos hr

theorem err_high (q : Fin 4096) (l : Fin 1024) :
    err h tg ⟨128 + q.val, by omega⟩ l = h (ix2 ⟨128 + q.val, by omega⟩ l) - tg (ix2 q l) := by
  unfold err
  rw [dif_neg (by dsimp only; omega)]
  exact congrArg (fun z : Fin 4096 => h _ - tg (ix2 z l)) (Fin.ext (by dsimp only; omega))

/-- The difference of output and target at a token. -/
theorem v1_apply (q : Fin 4096) (l : Fin 1024) : val_main_v1 (F := Ideal) h tg (ix2 q l) = err h tg ⟨128 + q.val, by omega⟩ l := by
  rw [err_high, val_main_v1_apply, val_main_v0_apply]
  refine congrArg (fun z => h z - tg (ix2 q l)) ?_
  funext a; fin_cases a <;> rfl

theorem scale_eq (x : EReal) : Ideal.div (Ideal.ofBits .f32 0x3F000000#32 * Ideal.ofBits .f32 0x3F800000#32) (Ideal.ofBits .f32 0x44800000#32)
    * (Ideal.ofBits .f32 0x40000000#32 * x) = x * ((1 / 1024 : ℝ) : EReal) := by
  rw [half, two, k1024, Ideal.ofBits_one_f32, mul_one, Ideal.div_coe (by norm_num), ← mul_assoc, ← EReal.coe_mul, ← EReal.coe_mul, mul_comm]
  norm_num

theorem v15_apply (q : Fin 4096) (l : Fin 1024) :
    val_main_v15 (F := Ideal) h tg (ix2 q l) = err h tg ⟨128 + q.val, by omega⟩ l * ((1 / 1024 : ℝ) : EReal) := by
  rw [← scale_eq, ← v1_apply]
  rfl

theorem v16_apply (r : Fin 4224) (l : Fin 1024) : val_main_v16 (F := Ideal) h tg (ix2 r l) = err h tg r l * ((1 / 1024 : ℝ) : EReal) := by
  unfold val_main_v16
  by_cases hr : r.val < 128
  · refine (pad_rows_out 128 0 _ _ _ _ r l (Or.inl hr)).trans ?_
    rw [err_low h tg _ _ hr, zero_mul]
    exact Ideal.ofBits_zero .f32
  · refine (pad_rows_in 128 0 _ _ _ _ r l (by omega) (by omega)).trans ((v15_apply h tg _ _).trans ?_)
    exact congrArg (fun z : Fin 4224 => err h tg z l * _) (Fin.ext (by dsimp only; omega))

theorem v16_eq : val_main_v16 (F := Ideal) h tg = grad h tg := by
  funext i
  exact (congrArg _ (eq_ix2 i)).trans (v16_apply h tg (i 0) (i 1))

/-! ### The loss -/

/-- A row's sum of squared errors. -/
def sq (r : Fin 4224) : EReal := ∑ l : Fin 1024, err h tg r l * err h tg r l

theorem sq_nonneg (r : Fin 4224) : 0 ≤ sq h tg r := Finset.sum_nonneg fun _ _ => mul_self_nonneg _

theorem tot_nonneg (t : Fin Cert.LossIdeal.cfg0.N) : 0 ≤ tot h tg t :=
  Finset.sum_nonneg fun _ _ => Finset.sum_nonneg fun _ _ => Finset.sum_nonneg fun _ _ => mul_self_nonneg _

/-- The points' sums together are the rows' sums. -/
theorem tot_sum : ∑ t : Fin Cert.LossIdeal.cfg0.N, tot h tg t = ∑ r : Fin 4224, sq h tg r := by
  have e : ∀ t : Fin 11, tot h tg t = ∑ q : Fin 384, sq h tg ⟨t.val * 384 + q.val, by omega⟩ := fun t => by
    unfold tot
    refine Fin.sum_mul_add_congr (f := fun q : Fin 384 => sq h tg ⟨t.val * 384 + q.val, by omega⟩) fun s k hl => ?_
    refine Finset.sum_congr rfl fun l _ => ?_
    have : row t ⟨128 * s.val + k.val, by omega⟩ = ⟨t.val * 384 + (s.val * 128 + k.val), by omega⟩ := Fin.ext (by unfold row; dsimp only; omega)
    rw [this]
  refine (Finset.sum_congr rfl fun t _ => e t).trans (Fin.sum_mul_add_fin 11 384 (sq h tg))

/-- The first 128 rows add nothing. -/
theorem sq_sum : ∑ r : Fin 4224, sq h tg r = ∑ q : Fin 4096, sq h tg ⟨128 + q.val, by omega⟩ := by
  refine (Fin.sum_univ_add (a := 128) (b := 4096) (fun r : Fin (128 + 4096) => sq h tg r)).trans ?_
  refine (congrArg₂ (· + ·) (Finset.sum_eq_zero fun q _ => ?_) rfl).trans (zero_add _)
  refine Finset.sum_eq_zero fun l _ => ?_
  rw [err_low h tg _ _ (by show q.val < 128; omega), zero_mul]

theorem v7_apply (q : Fin 4096) : val_main_v7 (F := Ideal) h tg (ix1 q) = ((1 / 1024 : ℝ) : EReal) * sq h tg ⟨128 + q.val, by omega⟩ := by
  have e : val_main_v5 (F := Ideal) h tg (ix1 q) = sq h tg ⟨128 + q.val, by omega⟩ := by
    rw [val_main_v5_apply]
    refine (congrArg₂ (· + ·) (Ideal.ofBits_zero .f32) (Finset.sum_congr rfl fun l _ => ?_)).trans (zero_add _)
    have : idx_main_v5 (ix1 q) l = ix2 q l := by funext a; fin_cases a <;> rfl
    rw [this, val_main_v2_apply, v1_apply]
    rfl
  rw [val_main_v7_apply, e, mul_comm, ← Ideal.div_coe (by norm_num), ← k1024]
  rfl

theorem v9_eq (j : Cert.LossRefIdeal.S_.Idx) : val_main_v9 (F := Ideal) h tg j = ∑ t : Fin Cert.LossIdeal.cfg0.N, ((1 / 2048 : ℝ) : EReal) * tot h tg t := by
  rw [← mul_sum_of_nonneg _ _ _ fun t _ => tot_nonneg h tg t, tot_sum, sq_sum]
  rw [val_main_v9_apply, val_main_v8_apply]
  have e : ∑ j : Cert.LossRefIdeal.S4096.Idx, val_main_v7 (F := Ideal) h tg j = ∑ q : Fin 4096, ((1 / 1024 : ℝ) : EReal) * sq h tg ⟨128 + q.val, by omega⟩ := by
    refine Fintype.sum_equiv (Equiv.piUnique _) _ _ fun i => ?_
    have : i = ix1 (i 0) := by funext a; fin_cases a; rfl
    refine (congrArg (val_main_v7 (F := Ideal) h tg) this).trans (v7_apply h tg (i 0))
  rw [e, ← mul_sum_of_nonneg _ _ _ fun q _ => sq_nonneg h tg _]
  show Ideal.ofBits .f32 0x3F000000#32 * (Ideal.ofBits .f32 0#32 + _) = _
  rw [half, Ideal.ofBits_zero .f32, zero_add, ← mul_assoc, ← EReal.coe_mul]
  norm_num

theorem v18_eq : val_main_v18 (F := Ideal) h tg = total h tg := by
  funext i
  rw [val_main_v18_apply, v9_eq]
  rfl

/-! ### The claims -/

set_option maxRecDepth 65536 in
theorem frame_ref : Cert.quiescent_LossRefIdeal := fun m ρ _ =>
  (θ_run Cert.LossRefIdeal.defs _ _).mono (fun _ h => ⟨fun c => (h c).2.2.2, sem_eq_zero_of_no_sems (by decide) _⟩)
    (Cert.LossRefIdeal.Value.run m ρ)

set_option maxRecDepth 65536 in
open Cert.LossIdeal.Value in
theorem algebraic : Cert.algebraic_LossIdeal_LossRefIdeal := by
  intro m g m' g' _ hagree
  refine ⟨fun c => grad (argH m c) (argT m c), fun c => grad (argH m c) (argT m c),
    fun c => total (argH m c) (argT m c),
    (θ_run Cert.LossIdeal.defs _ _).mono (fun r h c => ?_) (run_blocks m g),
    (θ_run Cert.LossRefIdeal.defs _ _).mono (fun r h c => ?_) (Cert.LossRefIdeal.Value.run m' g')⟩
  · obtain ⟨h4, h5, h6, ha⟩ := h c
    exact ⟨h4.trans (final4 m c), h5.trans (final5 m c), h6.trans (final6 m c), ha⟩
  · obtain ⟨h4, h5, h6, ha⟩ := h c
    obtain ⟨e0, e1⟩ := hagree c
    have q4 : val_main_v16 (F := Ideal) (m' ((c.tc : Thread _ _).loc Cert.LossRefIdeal.main_arg0)) (m' ((c.tc : Thread _ _).loc Cert.LossRefIdeal.main_arg1))
        = grad (argH m c) (argT m c) := by rw [v16_eq, e0, e1]
    have q6 : val_main_v18 (F := Ideal) (m' ((c.tc : Thread _ _).loc Cert.LossRefIdeal.main_arg0)) (m' ((c.tc : Thread _ _).loc Cert.LossRefIdeal.main_arg1))
        = total (argH m c) (argT m c) := by rw [v18_eq, e0, e1]
    exact ⟨h4.trans ((val_main_v16_eq _ _).trans q4), h5.trans ((val_main_v17_eq _ _).trans q4), h6.trans ((val_main_v18_eq _ _).trans q6), ha⟩

end Cert.LossMatch
end
-- ==== Proof.Norm.lean ====
/- The gradient of a row's root-mean-square normalisation, over the extended reals: the form a kernel computes, and the form the derivative
   of the forward lines has. -/
module

public import proofs.«01_k».proof.Proof.Common

@[expose] public section

set_option maxRecDepth 16384

noncomputable section

namespace Cert.Norm

open Idealize.ShloMosaic Cert.Common

/-- The small number added to the mean square. -/
abbrev eps : EReal := Ideal.ofBits .f32 0x358637BD#32
abbrev len : EReal := Ideal.ofBits .f32 0x44800000#32
abbrev minusHalf : EReal := Ideal.ofBits .f32 0xBF000000#32

theorem eps_pos : ∃ e : ℝ, 0 < e ∧ eps = (e : EReal) := by
  refine ⟨(2 ^ 23 + 407485) / 2 ^ 43, by positivity, ?_⟩
  simp [eps, Ideal.ofBits, Ideal.ieee, -EReal.coe_mul]; norm_num

theorem minusHalf_eq : minusHalf = ((-1 / 2 : ℝ) : EReal) := by
  simp [minusHalf, Ideal.ofBits, Ideal.ieee, -EReal.coe_mul]; norm_num

/-- The mean square of a row, and the small number. -/
def ms (x : Fin 1024 → EReal) : EReal := Ideal.div (∑ l, x l * x l) len + eps

/-- A row's factor: one over the root of its mean square. -/
def inv (x : Fin 1024 → EReal) : EReal := Ideal.rsqrt (ms x)

/-- The gradient at `x`, `g` the scale, `d` the product's cotangent, `res` what the residual adds. -/
def rowGrad (x g d : Fin 1024 → EReal) (res : EReal) (l : Fin 1024) : EReal :=
  res + inv x * (d l * g l - x l * inv x * Ideal.div (∑ k, d k * g k * (x k * inv x)) len)

/-- The derivative's share through the mean square, half of it. -/
def share (x g d : Fin 1024 → EReal) : EReal :=
  Ideal.div ((∑ k, x k * (d k * g k)) * (minusHalf * Ideal.div (inv x) (ms x))) len

/-- Every entry is a real number. -/
def Real1 {n : ℕ} (x : Fin n → EReal) : Prop := ∀ l, ∃ r : ℝ, x l = r

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The derivative of the forward lines is the kernel's form, on real rows. -/
theorem grad_eq (x g d : Fin 1024 → EReal) (hx : Real1 x) (hg : Real1 g) (hd : Real1 d) (res : EReal) (l : Fin 1024) :
    res + d l * g l * inv x + x l * share x g d + share x g d * x l = rowGrad x g d res l := by
  choose X hX using hx
  choose G hG using hg
  choose D hD using hd
  obtain rfl : x = fun k => (X k : EReal) := funext hX
  obtain rfl : g = fun k => (G k : EReal) := funext hG
  obtain rfl : d = fun k => (D k : EReal) := funext hD
  obtain ⟨e, he, hE⟩ := eps_pos
  have hms : ms (fun k => (X k : EReal)) = (((∑ k, X k * X k) * (1 / 1024) + e : ℝ) : EReal) := by
    unfold ms len
    rw [hE, k1024, Ideal.div_coe (by norm_num)]
    simp only [← EReal.coe_mul, coe_sum, ← EReal.coe_add]
  set a : ℝ := (∑ k, X k * X k) * (1 / 1024) + e with ha
  have hpos : 0 < a := by
    have : 0 ≤ ∑ k, X k * X k := Finset.sum_nonneg fun k _ => _root_.mul_self_nonneg _
    positivity
  have hinv : inv (fun k => (X k : EReal)) = (((Real.sqrt a)⁻¹ : ℝ) : EReal) := by
    unfold inv
    rw [hms, Ideal.rsqrt_coe, if_neg (not_lt.mpr hpos.le), if_neg hpos.ne']
  unfold rowGrad share
  rw [hinv, hms, minusHalf_eq]
  unfold len
  rw [k1024, Ideal.div_coe hpos.ne', Ideal.div_coe (by norm_num), Ideal.div_coe (by norm_num)]
  simp only [← EReal.coe_mul, coe_sum]
  rw [add_assoc, add_assoc, ← EReal.coe_sub, ← EReal.coe_mul, ← EReal.coe_add, ← EReal.coe_add]
  refine congrArg (res + ·) (congrArg _ ?_)
  have hs : (Real.sqrt a)⁻¹ * (Real.sqrt a)⁻¹ = 1 / a := by
    rw [← mul_inv, Real.mul_self_sqrt hpos.le, one_div]
  have hsum : ∑ k, D k * G k * (X k * (Real.sqrt a)⁻¹) = (∑ k, X k * (D k * G k)) * (Real.sqrt a)⁻¹ := by
    rw [Finset.sum_mul]
    exact Finset.sum_congr rfl fun k _ => by ring
  rw [hsum]
  set r := (Real.sqrt a)⁻¹
  rw [← hs]
  ring

end Cert.Norm
end
-- ==== Proof.FfnInValue.lean ====
/- The gradient of the normalised rows times a matrix, with the residual's gradient added: what the kernel's three results hold. -/
module

public import proofs.«01_k».proof.Proof.Gen.FfnInIdeal.Value
public import proofs.«01_k».proof.Proof.Norm
public import Idealize.ShloMosaic.Lib.Claim

@[expose] public section

set_option maxRecDepth 2000

noncomputable section

namespace Cert.FfnInIdeal.Value

open Cert.FfnInIdeal Cert.FfnInIdeal.Gen Cert.Common Cert.Norm Idealize.ShloMosaic Idealize.ShloMosaic.TcCoe Idealize.SL.Sem

variable (m : (ℓ : Loc nD τ sig) → Buf (Elt Ideal) ℓ) (ρ : Dev nD → PrngReg)

theorem pt (t : Fin cfg0.N) : t.val < 11 := Nat.lt_of_lt_of_eq t.isLt N_0

def row (t : Fin cfg0.N) (q : Fin 384) : Fin 4224 := ⟨384 * t.val + q.val, by have := pt t; omega⟩

theorem idx0 : ∀ t : Fin cfg0.N, win0_0.index t = ![0, t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 1] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

variable (c : Dev nD) (t : Fin cfg0.N)

/-! ### The payloads at an index -/

theorem pay5_apply (a : Vec Ideal S1x384x2816 .bf16) (w : Vec Ideal S1024x2816 .bf16) (b : Vec Ideal S1x384x2816 .bf16) (u : Vec Ideal S1024x2816 .bf16)
    (p : Fin 384) (l : Fin 1024) : k0_pay5 (F := Ideal) a w b u (ix2 p l)
      = (∑ k : Fin 2816, a (ix3 0 p k) * w (ix2 l k)) + ∑ k : Fin 2816, b (ix3 0 p k) * u (ix2 l k) := by
  pointwise [k0_pay5]

theorem pay6_apply (x : Vec Ideal S384x1024 .f32) (p : Fin 384) (z : Fin 1) :
    k0_pay6 (F := Ideal) x (ix2 p z) = inv fun l => x (ix2 p l) := by
  pointwise [k0_pay6]
  rfl

theorem pay1_apply (a : Vec Ideal S1x384x2816 .bf16) (w : Vec Ideal S1024x2816 .bf16) (b : Vec Ideal S1x384x2816 .bf16) (u : Vec Ideal S1024x2816 .bf16)
    (x : Vec Ideal S384x1024 .f32) (g : Vec Ideal S1x1024 .f32) (r : Vec Ideal S384x1024 .f32) (p : Fin 384) (l : Fin 1024) :
    k0_pay1 (F := Ideal) r (k0_pay8 (F := Ideal) a w b u x g) (k0_pay9 (F := Ideal) x) (ix2 p l)
      = rowGrad (fun k => x (ix2 p k)) (fun k => g (ix2 0 k)) (fun k => k0_pay5 (F := Ideal) a w b u (ix2 p k)) (r (ix2 p l)) l := by
  pointwise [k0_pay1, k0_pay8, k0_pay9, k0_pay7]
  rw [pay6_apply]
  rfl

theorem pay4_apply (d : FVec Ideal S384x1024 .f32) (x : Vec Ideal S384x1024 .f32) (o : Vec Ideal S1x1024 .f32) (l : Fin 1024) :
    k0_pay4 (F := Ideal) d (k0_pay7 (F := Ideal) x) o (ix2 0 l) = o (ix2 0 l) + ∑ p : Fin 384, d (ix2 p l) * (x (ix2 p l) * inv fun k => x (ix2 p k)) := by
  pointwise [k0_pay4, k0_pay7]
  simp only [pay6_apply]

/-! ### The blocks a point reads -/

abbrev argH : S4224x1024.Idx → EReal := m ((c : Thread nD τ).loc main_arg0)
abbrev argG : S1024.Idx → EReal := m ((c : Thread nD τ).loc main_arg1)
abbrev argW : S1024x5632.Idx → EReal := m ((c : Thread nD τ).loc main_arg2)
abbrev argD : S4224x5632.Idx → EReal := m ((c : Thread nD τ).loc main_arg3)
abbrev argR : S4224x1024.Idx → EReal := m ((c : Thread nD τ).loc main_arg4)

theorem V5_apply (s : Fin 2) (r : Fin 4224) (k : Fin 2816) : V m c main_v5 (ix3 s r k) = argD m c (ix2 r ⟨s.val * 2816 + k.val, by omega⟩) := by
  entry_read
  pointwise
  have hs : s.val < 2 := s.isLt
  split
  · exact congrArg (fun z => argD m c (ix2 r z)) (Fin.ext (by show k.val = s.val * 2816 + k.val; omega))
  · exact congrArg (fun z => argD m c (ix2 r z)) (Fin.ext (by show 2816 + k.val = s.val * 2816 + k.val; omega))

theorem V6_apply (l : Fin 1024) (k : Fin 5632) : V m c main_v6 (ix2 l k) = argW m c (ix2 l k) := by
  entry_read
  rfl

theorem V7_apply (l : Fin 1024) : V m c main_v7 (ix2 0 l) = argG m c (ix1 l) := by
  entry_read
  pointwise

theorem b0 (s : Fin 2) (p : Fin 384) (k : Fin 2816) : iblk m c 0 t (ix3 s p k) = argD m c (ix2 (row t p) ⟨s.val * 2816 + k.val, by omega⟩) :=
  (congrArg (V m c main_v5) (by blk_ext [idx0, row] : ((cfg0.win 0).blk t).view.emb (ix3 s p k) = ix3 s (row t p) k)).trans (V5_apply m c s _ k)

theorem b1 (l : Fin 1024) (k : Fin 2816) : iblk m c 1 t (ix2 l k) = argW m c (ix2 l ⟨k.val, by omega⟩) :=
  (congrArg (V m c main_v6) (by blk_ext [idx1] : ((cfg0.win 1).blk t).view.emb (ix2 l k) = ix2 l ⟨k.val, by omega⟩)).trans (V6_apply m c l _)

theorem b2 (l : Fin 1024) (k : Fin 2816) : iblk m c 2 t (ix2 l k) = argW m c (ix2 l ⟨2816 + k.val, by omega⟩) :=
  (congrArg (V m c main_v6) (by blk_ext [idx2] : ((cfg0.win 2).blk t).view.emb (ix2 l k) = ix2 l ⟨2816 + k.val, by omega⟩)).trans (V6_apply m c l _)

theorem b3 (p : Fin 384) (l : Fin 1024) : iblk m c 3 t (ix2 p l) = argH m c (ix2 (row t p) l) := by
  blk_ext! [iblk, V, idx3, row]

theorem b4 (l : Fin 1024) : iblk m c 4 t (ix2 0 l) = argG m c (ix1 l) :=
  (congrArg (V m c main_v7) (by blk_ext [idx4] : ((cfg0.win 4).blk t).view.emb (ix2 0 l) = ix2 0 l)).trans (V7_apply m c l)

theorem b5 (p : Fin 384) (l : Fin 1024) : iblk m c 5 t (ix2 p l) = argR m c (ix2 (row t p) l) := by
  blk_ext! [iblk, V, idx5, row]

/-! ### The results -/

/-- The cotangent of the normalised rows: the product's cotangent times the matrix. -/
def dP (r : Fin 4224) (l : Fin 1024) : EReal := ∑ k : Fin 5632, argD m c (ix2 r k) * argW m c (ix2 l k)

def gradH : S4224x1024.Idx → EReal := fun i =>
  rowGrad (fun k => argH m c (ix2 (i 0) k)) (fun k => argG m c (ix1 k)) (dP m c (i 0)) (argR m c (ix2 (i 0) (i 1))) (i 1)

def gradG : S8x1024.Idx → EReal := fun i =>
  if (i 0).val = 0 then ∑ r : Fin 4224, dP m c r (i 1) * (argH m c (ix2 r (i 1)) * inv fun k => argH m c (ix2 r k)) else 0

def place (y : S384x1024.Idx) : S4224x1024.Idx := ix2 (row t (y 0)) (y 1)
theorem place6 (y : S384x1024.Idx) : ((cfg0.win 6).blk t).view.emb y = place t y := by
  blk_ext [idx6, place, row]
theorem place7 (y : S384x1024.Idx) : ((cfg0.win 7).blk t).view.emb y = place t y := by
  blk_ext [idx7, place, row]

/-- The product's cotangent at a point. -/
abbrev dPt : FVec Ideal S384x1024 .f32 := k0_pay5 (F := Ideal)
  (View.ld (iblk m c 0 t) (Rect.unit ![0, 0, 0] ![1, 384, 2816] inb_S2x384x2816_S1x384x2816_0_0_0)) (iblk m c 1 t)
  (View.ld (iblk m c 0 t) (Rect.unit ![1, 0, 0] ![1, 384, 2816] inb_S2x384x2816_S1x384x2816_1_0_0)) (iblk m c 2 t)

theorem dPt_eq (p : Fin 384) (l : Fin 1024) : dPt m c t (ix2 p l) = dP m c (row t p) l := by
  refine (pay5_apply _ _ _ _ p l).trans ?_
  unfold dP
  refine Eq.trans ?_ (Fin.sum_univ_add (a := 2816) (b := 2816) fun k : Fin (2816 + 2816) => argD m c (ix2 (row t p) k) * argW m c (ix2 l k)).symm
  refine congrArg₂ (· + ·) (Finset.sum_congr rfl fun k _ => congrArg₂ (· * ·) ?_ ?_) (Finset.sum_congr rfl fun k _ => congrArg₂ (· * ·) ?_ ?_)
  · refine (View.ld_unit_apply_of _ _ _ _ _ (ix3 0 p k) (by intro a; fin_cases a <;> simp)).trans ((b0 m c t 0 p k).trans ?_)
    exact congrArg (fun z => argD m c (ix2 (row t p) z)) (Fin.ext (by simp))
  · exact b1 m c t l k
  · refine (View.ld_unit_apply_of _ _ _ _ _ (ix3 1 p k) (by intro a; fin_cases a <;> simp)).trans ((b0 m c t 1 p k).trans ?_)
    exact congrArg (fun z => argD m c (ix2 (row t p) z)) (Fin.ext (by simp; omega))
  · exact b2 m c t l k

theorem grad_at (y : S384x1024.Idx) : k0_pay1 (F := Ideal) (iblk m c 5 t) (k0_pay8 (F := Ideal)
      (View.ld (iblk m c 0 t) (Rect.unit ![0, 0, 0] ![1, 384, 2816] inb_S2x384x2816_S1x384x2816_0_0_0)) (iblk m c 1 t)
      (View.ld (iblk m c 0 t) (Rect.unit ![1, 0, 0] ![1, 384, 2816] inb_S2x384x2816_S1x384x2816_1_0_0)) (iblk m c 2 t)
      (iblk m c 3 t) (iblk m c 4 t)) (k0_pay9 (F := Ideal) (iblk m c 3 t)) y = gradH m c (place t y) := by
  refine (congrArg _ (eq_ix2 y)).trans ((pay1_apply _ _ _ _ _ _ _ _ _).trans ?_)
  unfold gradH place
  refine congr (congr (congr (congr (congrArg rowGrad ?_) ?_) ?_) ?_) rfl
  · exact funext fun k => b3 m c t _ k
  · exact funext fun k => b4 m c t k
  · exact funext fun k => dPt_eq m c t _ k
  · exact b5 m c t _ _

theorem final6 : (dats m 0 c).arrAt 6 cfg0.N = gradH m c := by
  refine (dats m 0 c).arrAt_eq_of_covers 6 _ (by decide +kernel) fun t hf y => ?_
  rw [place6]
  blk_simp
  rw [after0_6]
  by_cases h0 : t.val % 11 = 0
  · rw [outsAt0_A m c t h0]
    frame_out
    exact grad_at m c t y
  · rw [outsAt0_B m c t h0]
    frame_out
    exact grad_at m c t y

theorem final7 : (dats m 0 c).arrAt 7 cfg0.N = gradH m c := by
  refine (dats m 0 c).arrAt_eq_of_covers 7 _ (by decide +kernel) fun t hf y => ?_
  rw [place7]
  blk_simp
  rw [after0_7]
  by_cases h0 : t.val % 11 = 0
  · rw [outsAt0_A m c t h0]
    frame_out
    exact grad_at m c t y
  · rw [outsAt0_B m c t h0]
    frame_out
    exact grad_at m c t y

/-- What a point adds to the scale's gradient. -/
def partG (t : Fin cfg0.N) (l : Fin 1024) : EReal :=
  ∑ p : Fin 384, dP m c (row t p) l * (argH m c (ix2 (row t p) l) * inv fun k => argH m c (ix2 (row t p) k))

theorem part_eq (o : Vec Ideal S1x1024 .f32) (l : Fin 1024) :
    k0_pay4 (F := Ideal) (dPt m c t) (k0_pay7 (F := Ideal) (iblk m c 3 t)) o (ix2 0 l) = o (ix2 0 l) + partG m c t l := by
  refine (pay4_apply _ _ _ _).trans (congrArg (o (ix2 0 l) + ·) (Finset.sum_congr rfl fun p _ => ?_))
  refine congrArg₂ (· * ·) (dPt_eq m c t p l) (congrArg₂ (· * ·) (b3 m c t p l) (congrArg inv (funext fun k => b3 m c t p k)))

/-- What a point adds at an index of the scale's gradient's block: its first row alone changes. -/
def termG (t : Fin cfg0.N) (i : S8x1024.Idx) : EReal := if (i 0).val = 0 then partG m c t (i 1) else 0

theorem stepA (h0 : t.val % 11 = 0) (i : S8x1024.Idx) : (outsAt0 m c t.val t.isLt).2.2 i = (0 : EReal) + termG m c t i := by
  rw [outsAt0_A m c t h0]
  frame_out
  refine (congrArg _ (eq_ix2 i)).trans ((row0_fill (ms0_8 t).view _ _ _ _ (i 0) (i 1)).trans ?_)
  unfold termG
  split
  · refine (part_eq m c t _ (i 1)).trans (congrArg (· + partG m c t (i 1)) ?_)
    rw [View.readCov_fill _ _ _ _ _ (by decide)]
    exact (ld_row0 _ _ (by decide) _).trans (Ideal.ofBits_zero .f32)
  · exact (Ideal.ofBits_zero .f32).trans (add_zero _).symm

theorem stepB (h0 : ¬t.val % 11 = 0) (i : S8x1024.Idx) :
    (outsAt0 m c t.val t.isLt).2.2 i = (outsAt0 m c (t.val - 1) (Nat.lt_of_le_of_lt (Nat.sub_le _ _) t.isLt)).2.2 i + termG m c t i := by
  rw [outsAt0_B m c t h0]
  frame_out
  refine (congrArg _ (eq_ix2 i)).trans ((row0_over (ms0_8 t) _ _ _ _ (i 0) (i 1)).trans ?_)
  unfold termG
  split
  · rename_i h
    refine (part_eq m c t _ (i 1)).trans (congrArg (· + partG m c t (i 1)) ?_)
    refine (ld_row0 _ _ (by decide) _).trans (congrArg _ ?_)
    refine (congrArg (fun z => ix2 z (i 1)) (Fin.ext h.symm)).trans (eq_ix2 i).symm
  · rw [add_zero]
    exact (congrArg _ (eq_ix2 i)).symm

theorem sumG (l : Fin 1024) : ∑ t : Fin cfg0.N, partG m c t l
    = ∑ r : Fin 4224, dP m c r l * (argH m c (ix2 r l) * inv fun k => argH m c (ix2 r k)) := by
  refine Fin.sum_mul_add_congr (S := 11) (n := 384) (f := fun r : Fin 4224 => dP m c r l * (argH m c (ix2 r l) * inv fun k => argH m c (ix2 r k)))
    fun s k hl => ?_
  have : row s k = ⟨s.val * 384 + k.val, hl⟩ := Fin.ext (by unfold row; dsimp only; omega)
  rw [this]

theorem final8 : (dats m 0 c).arrAt 8 cfg0.N = gradG m c := by
  refine (dats m 0 c).arrAt_eq_of_after_last 8 t0_10 (by decide +kernel) _ fun j => ?_
  blk_simp
  rw [after0_8, Pipeline.eq_sum_fin_of_reset_step_apply_last (fun n h => (outsAt0 m c n h).2.2) 11 (fun _ => (0 : EReal))
    (fun t => termG m c t) (fun t h j => stepA m c t h j) (fun t h j => stepB m c t h j) (le_of_eq N_0) t0_10 rfl j, zero_add]
  unfold termG
  show _ = gradG m c j
  unfold gradG
  split
  · exact sumG m c (j 1)
  · exact Finset.sum_const_zero

end Cert.FfnInIdeal.Value
end
-- ==== Proof.Finite.lean ====
/- What a precondition `all(abs(x) < inf)` says of an array of extended reals: every entry is a real number. -/
module

public import Idealize.ShloMosaic.Lib.ReduceAll
public import Idealize.ShloMosaic.PureOps.Ideal
public import Idealize.ShloMosaic.Lib.Claim

@[expose] public section

namespace Cert.Finite

open Idealize.ShloMosaic

theorem inf_word : Ideal.ofBits .f32 0x7F800000#32 = (⊤ : EReal) := by
  simp [Ideal.ofBits, Ideal.ieee]

theorem real_of_abs_lt (x : EReal) (h : max x (-x) < ⊤) : ∃ r : ℝ, x = r := by
  induction x with
  | bot => simp at h
  | top => simp at h
  | coe r => exact ⟨r, rfl⟩

theorem and_one (a b : BitVec 1) : IntOp.andi a b = 1#1 → a = 1#1 ∧ b = 1#1 := by revert a b; decide

/-- The check of one array, all ones, makes every entry a real number. -/
theorem real_of_all {s t u : Shape} {axes : List (Fin s.rank)} [Subsingleton t.Idx] (x b : FVec Ideal s .f32) (hb : ∀ i, b i = Ideal.ofBits .f32 0x7F800000#32)
    (init : IVec u 1) (h : s.ReducesTo axes t) (hu : 0 < u.numel) (j : t.Idx)
    (e : Host.reduce IntOp.andi (cmpf .olt (Host.absf x) b) init h hu j = 1#1) (i : s.Idx) : ∃ r : ℝ, x i = r := by
  have h1 := Host.reduce_andi_all _ _ _ _ j e i
  have h2 : (FloatOps.cmpf .olt (max (x i) (-x i) : Ideal .f32) (b i) : BitVec 1) = 1#1 := h1
  rw [hb, inf_word] at h2
  refine real_of_abs_lt _ ?_
  by_contra hc
  simp [FloatOps.cmpf, Ideal.cmp, hc] at h2

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem real_sum {ι : Type*} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    rw [Finset.sum_insert ha]
    exact real_add (h a (Finset.mem_insert_self ..)) (ih fun i hi => h i (Finset.mem_insert_of_mem hi))

end Cert.Finite
end
-- ==== Proof.FfnInMatch.lean ====
/- The gradient of the normalised rows times a matrix: the reference's three results are the kernel's. -/
module

public import proofs.«01_k».proof.Proof.FfnInValue
public import proofs.«01_k».proof.Proof.Finite
public import proofs.«01_k».proof.Proof.Gen.Pre_finite_ffnin
public import proofs.«01_k».proof.Proof.Gen.FfnInRefIdeal.Run
public import proofs.«01_k».proof.Proof.Gen.FfnInRefIdeal.Read
public import proofs.«01_k».proof.Defs
public import Idealize.ShloMosaic.Lib.Claim

@[expose] public section

set_option maxRecDepth 2000

noncomputable section

namespace Cert.FfnInMatch

open Cert.FfnInRefIdeal Cert.FfnInRefIdeal.Read Cert.Common Cert.Norm Cert.Finite Idealize.ShloMosaic Idealize.ShloMosaic.TcCoe Idealize.SL.Sem

variable (h : S4224x1024.Idx → EReal) (g : S1024.Idx → EReal) (w : S1024x5632.Idx → EReal) (d : S4224x5632.Idx → EReal) (res : S4224x1024.Idx → EReal)

/-- A row of the rows, and the product's cotangent there. -/
abbrev hrow (r : Fin 4224) : Fin 1024 → EReal := fun k => h (ix2 r k)
abbrev gv : Fin 1024 → EReal := fun k => g (ix1 k)
def cot (r : Fin 4224) (l : Fin 1024) : EReal := ∑ k : Fin 5632, d (ix2 r k) * w (ix2 l k)

theorem v6_apply (r : Fin 4224) (z : Fin 1) : val_main_v6 (F := Ideal) h (ix2 r z) = ms (hrow h r) := by
  rw [val_main_v6_apply, val_main_v4_apply, val_main_v2_apply, val_main_v1_apply, val_main_v5_apply, val_main_v3_apply, val_main_cst_0_apply, val_main_cst_1_apply]
  refine congrArg₂ (· + ·) (congrArg₂ Ideal.div ((congrArg₂ (· + ·) (Ideal.ofBits_zero .f32) (Finset.sum_congr rfl fun k _ => ?_)).trans (zero_add _)) rfl) rfl
  have : idx_main_v1 (idx_main_v2 (ix2 r z)) k = ix2 r k := by funext a; fin_cases a <;> rfl
  rw [this]
  rfl

theorem v7_apply (r : Fin 4224) (z : Fin 1) : val_main_v7 (F := Ideal) h (ix2 r z) = inv (hrow h r) := by
  rw [val_main_v7_apply, v6_apply]
  rfl

theorem v10_apply (r : Fin 4224) (z : Fin 1) :
    val_main_v10 (F := Ideal) h (ix2 r z) = minusHalf * Ideal.div (inv (hrow h r)) (ms (hrow h r)) := by
  rw [val_main_v10_apply, val_main_v8_apply, v7_apply, v6_apply]
  rfl

theorem v17_apply (r : Fin 4224) (l : Fin 1024) : val_main_v17 (F := Ideal) w d (ix2 r l) = cot w d r l := by
  rw [val_main_v17_apply]
  refine Finset.sum_congr rfl fun k _ => congrArg₂ (· * ·) (congrArg d ?_) (congrArg w ?_)
  · funext a; fin_cases a <;> rfl
  · funext a; fin_cases a <;> rfl

theorem v22_apply (r : Fin 4224) (l : Fin 1024) : val_main_v22 (F := Ideal) g w d (ix2 r l) = cot w d r l * gv g l := by
  rw [val_main_v22_apply, v17_apply, val_main_v21_apply, val_main_v13_apply]
  refine congrArg (cot w d r l * ·) (congrArg g ?_)
  funext a; fin_cases a; rfl

theorem v34_apply (r : Fin 4224) (l : Fin 1024) : val_main_v34 (F := Ideal) h g w d (ix2 r l) = share (hrow h r) (gv g) (cot w d r) := by
  rw [val_main_v34_apply, val_main_v33_apply]
  refine ((congrArg₂ (· + ·) (Ideal.ofBits_zero .f32) (Fin.sum_univ_one _)).trans (zero_add _)).trans ?_
  have : idx_main_v33 (idx_main_v34 (ix2 r l)) 0 = ix2 r 0 := by funext a; fin_cases a <;> rfl
  rw [this, val_main_v32_apply, val_main_v30_apply, v10_apply, val_main_v26_apply, val_main_v25_apply]
  refine congrArg₂ Ideal.div (congrArg₂ (· * ·) ((congrArg₂ (· + ·) (Ideal.ofBits_zero .f32) (Finset.sum_congr rfl fun k _ => ?_)).trans (zero_add _)) rfl) rfl
  have : idx_main_v25 (idx_main_v26 (ix2 r 0)) k = ix2 r k := by
    funext a; fin_cases a
    · exact Fin.ext (by simp [idx_main_v25, idx_main_v26])
    · rfl
  rw [this, val_main_v24_apply, v22_apply]
  rfl

theorem v38_apply (hh : ∀ i, ∃ r : ℝ, h i = r) (hg : ∀ i, ∃ r : ℝ, g i = r) (hw : ∀ i, ∃ r : ℝ, w i = r) (hd : ∀ i, ∃ r : ℝ, d i = r)
    (r : Fin 4224) (l : Fin 1024) :
    val_main_v38 (F := Ideal) h g w d res (ix2 r l) = rowGrad (hrow h r) (gv g) (cot w d r) (res (ix2 r l)) l := by
  rw [val_main_v38_apply, val_main_v36_apply, val_main_v37_apply, val_main_v35_apply, val_main_v29_apply, val_main_v28_apply, v34_apply, v22_apply,
    val_main_v27_apply]
  have : idx_main_v27 (ix2 r l) = ix2 r 0 := by funext a; fin_cases a <;> rfl
  rw [this, v7_apply]
  exact grad_eq (hrow h r) (gv g) (cot w d r) (fun k => hh _) (fun k => hg _) (fun k => real_sum _ _ fun q _ => real_mul (hd _) (hw _)) _ l

theorem v41_apply (r : Fin 8) (l : Fin 1024) :
    val_main_v41 (F := Ideal) h w d (ix2 r l) = if r.val = 0 then ∑ q : Fin 4224, cot w d q l * (h (ix2 q l) * inv (hrow h q)) else 0 := by
  unfold val_main_v41
  split
  · next hr =>
    refine (pad_rows_in 0 7 _ _ _ _ r l (Nat.zero_le _) (by omega)).trans ?_
    rw [val_main_v40_apply, val_main_v23_apply]
    refine ((congrArg₂ (· + ·) (Ideal.ofBits_zero .f32) (Fin.sum_univ_one _)).trans (zero_add _)).trans ?_
    rw [val_main_v20_apply, val_main_v19_apply]
    refine (congrArg₂ (· + ·) (Ideal.ofBits_zero .f32) (Finset.sum_congr rfl fun q _ => ?_)).trans (zero_add _)
    have e : ∀ z : Fin 1, idx_main_v19 (idx_main_v20 (idx_main_v23 (idx_main_v40 (ix2 z l)) 0)) q = ix2 q l := by
      intro z; funext a; fin_cases a
      · rfl
      · exact Fin.ext (by simp [idx_main_v19, idx_main_v20, idx_main_v23, idx_main_v40])
    rw [e, val_main_v18_apply, val_main_v12_apply, v17_apply, val_main_v11_apply]
    have : idx_main_v11 (ix2 q l) = ix2 q 0 := by funext a; fin_cases a <;> rfl
    rw [this, v7_apply]
    exact mul_comm _ _
  · next hr =>
    refine (pad_rows_out 0 7 _ _ _ _ r l (Or.inr (by omega))).trans ?_
    rw [val_main_call0_v0_apply]
    show ((((0#32 : BitVec 32).toInt : ℝ)) : EReal) = 0
    simp

/-! ### The claims -/

theorem frame_ref : Cert.quiescent_FfnInRefIdeal := fun m ρ _ =>
  (θ_run Cert.FfnInRefIdeal.defs _ _).mono (fun _ h => ⟨fun c => (h c).2.2.2, sem_eq_zero_of_no_sems (by decide) _⟩)
    (Cert.FfnInRefIdeal.Value.run m ρ)

theorem frame_ref_pre : Cert.quiescent_FfnInRefIdeal_pre_finite_ffnin := fun m ρ _ => frame_ref m ρ trivial

/-- The precondition: rows, scale, matrix and cotangent are real numbers. -/
theorem real_of_pre (m : (ℓ : Loc Cert.FfnInIdeal.nD Cert.FfnInIdeal.τ Cert.FfnInIdeal.sig) → Buf (Elt Ideal) ℓ) (hp : Cert.Pre_FfnInIdeal_finite_ffnin m)
    (c : Dev Cert.FfnInIdeal.nD) :
    (∀ i, ∃ r : ℝ, Cert.FfnInIdeal.Value.argH m c i = r) ∧ (∀ i, ∃ r : ℝ, Cert.FfnInIdeal.Value.argG m c i = r)
      ∧ (∀ i, ∃ r : ℝ, Cert.FfnInIdeal.Value.argW m c i = r) ∧ (∀ i, ∃ r : ℝ, Cert.FfnInIdeal.Value.argD m c i = r) := by
  have h := congrFun (hp c) (fun a => a.elim0)
  dsimp only [Cert.Pre_finite_ffnin.fn, Cert.Pre_finite_ffnin.fn_part1] at h
  obtain ⟨h, h4⟩ := and_one _ _ h
  obtain ⟨h, h3⟩ := and_one _ _ h
  obtain ⟨h1, h2⟩ := and_one _ _ h
  haveI : Subsingleton Cert.Pre_finite_ffnin.S_.Idx := ⟨fun a b => funext fun i => i.elim0⟩
  exact ⟨real_of_all _ _ (fun _ => rfl) _ _ _ _ h1, real_of_all _ _ (fun _ => rfl) _ _ _ _ h2, real_of_all _ _ (fun _ => rfl) _ _ _ _ h3,
    real_of_all _ _ (fun _ => rfl) _ _ _ _ h4⟩

set_option maxRecDepth 65536 in
open Cert.FfnInIdeal.Value in
theorem algebraic : Cert.algebraic_FfnInIdeal_FfnInRefIdeal_pre_finite_ffnin := by
  intro m g m' g' hp hagree
  refine ⟨fun c => gradH m c, fun c => gradH m c, fun c => gradG m c,
    (θ_run Cert.FfnInIdeal.defs _ _).mono (fun r h c => ?_) (run_blocks m g),
    (θ_run Cert.FfnInRefIdeal.defs _ _).mono (fun r h c => ?_) (Cert.FfnInRefIdeal.Value.run m' g')⟩
  · obtain ⟨h6, h7, h8, ha⟩ := h c
    exact ⟨h6.trans (final6 m c), h7.trans (final7 m c), h8.trans (final8 m c), ha⟩
  · obtain ⟨h6, h7, h8, ha⟩ := h c
    obtain ⟨e0, e1, e2, e3, e4⟩ := hagree c
    obtain ⟨r0, r1, r2, r3⟩ := real_of_pre m hp c
    have q6 : val_main_v38 (F := Ideal) (argH m c) (argG m c) (argW m c) (argD m c) (argR m c) = gradH m c := by
      funext i
      exact (congrArg _ (eq_ix2 i)).trans (v38_apply _ _ _ _ _ r0 r1 r2 r3 (i 0) (i 1))
    have q8 : val_main_v41 (F := Ideal) (argH m c) (argW m c) (argD m c) = gradG m c := by
      funext i
      exact (congrArg _ (eq_ix2 i)).trans (v41_apply _ _ _ (i 0) (i 1))
    refine ⟨h6.trans ((val_main_v38_eq _ _).trans ?_), h7.trans ((val_main_v39_eq _ _).trans ?_), h8.trans ((val_main_v41_eq _ _ _).trans ?_), ha⟩
    · rw [e0, e1, e2, e3, e4]; exact q6
    · rw [e0, e1, e2, e3, e4]; exact q6
    · rw [e0, e2, e3]; exact q8

end Cert.FfnInMatch
end
-- ==== Proof.Mixed.lean ====
/- The mixer's columns in the kernel's order: the gates first, then the fox heads', the sliding windows', the forget gates', and zeros. -/
module

public import proofs.«01_k».proof.Proof.Common
public import Idealize.ShloMosaic.Lib.Pipeline.Value

@[expose] public section

noncomputable section

namespace Cert.Mixed

open Idealize.ShloMosaic

def mixed (f : Fin 4360 → EReal) (k : Fin 4480) : EReal :=
  if h0 : k.val < 2048 then f ⟨2312 + k.val, by omega⟩
  else if h1 : k.val - 2048 < 1536 then f ⟨k.val - 2048, by omega⟩
  else if h2 : k.val - 2048 - 1536 < 768 then f ⟨1544 + (k.val - 2048 - 1536), by omega⟩
  else if h3 : k.val - 2048 - 1536 - 768 < 8 then f ⟨1536 + (k.val - 2048 - 1536 - 768), by omega⟩
  else 0

theorem mixed_mul (f g : Fin 4360 → EReal) (k : Fin 4480) : mixed f k * mixed g k = mixed (fun q => f q * g q) k := by
  unfold mixed
  split
  · rfl
  split
  · rfl
  split
  · rfl
  split
  · rfl
  exact zero_mul _

/-- The order of the columns is nothing to a sum over them. -/
theorem sum_mixed (f g : Fin 4360 → EReal) : ∑ k, mixed f k * mixed g k = ∑ q, f q * g q := by
  simp only [mixed_mul]
  generalize (fun q => f q * g q) = h
  have s1 := Fin.sum_univ_add (a := 2048) (b := 2432) fun k : Fin (2048 + 2432) => mixed h k
  have s2 := Fin.sum_univ_add (a := 1536) (b := 896) fun k : Fin (1536 + 896) => mixed h (Fin.natAdd 2048 k)
  have s3 := Fin.sum_univ_add (a := 768) (b := 128) fun k : Fin (768 + 128) => mixed h (Fin.natAdd 2048 (Fin.natAdd 1536 k))
  have s4 := Fin.sum_univ_add (a := 8) (b := 120) fun k : Fin (8 + 120) => mixed h (Fin.natAdd 2048 (Fin.natAdd 1536 (Fin.natAdd 768 k)))
  have t1 := Fin.sum_univ_add (a := 1536) (b := 2824) fun k : Fin (1536 + 2824) => h k
  have t2 := Fin.sum_univ_add (a := 8) (b := 2816) fun k : Fin (8 + 2816) => h (Fin.natAdd 1536 k)
  have t3 := Fin.sum_univ_add (a := 768) (b := 2048) fun k : Fin (768 + 2048) => h (Fin.natAdd 1536 (Fin.natAdd 8 k))
  refine (s1.trans (congrArg₂ (fun a b : EReal => a + b) rfl (s2.trans (congrArg₂ (fun a b : EReal => a + b) rfl
    (s3.trans (congrArg₂ (fun a b : EReal => a + b) rfl s4)))))).trans (Eq.trans ?_
    (t1.trans (congrArg₂ (fun a b : EReal => a + b) rfl (t2.trans (congrArg₂ (fun a b : EReal => a + b) rfl t3)))).symm)
  have e0 : ∑ k : Fin 2048, mixed h (Fin.castAdd 2432 k) = ∑ k : Fin 2048, h (Fin.natAdd 1536 (Fin.natAdd 8 (Fin.natAdd 768 k))) :=
    Finset.sum_congr rfl fun k _ => (dif_pos (by simp)).trans (congrArg h (Fin.ext (by simp; omega)))
  have e1 : ∑ k : Fin 1536, mixed h (Fin.natAdd 2048 (Fin.castAdd 896 k)) = ∑ k : Fin 1536, h (Fin.castAdd 2824 k) :=
    Finset.sum_congr rfl fun k _ => by
      unfold mixed
      rw [dif_neg (by simp), dif_pos (by simp)]
      exact congrArg h (Fin.ext (by simp))
  have e2 : ∑ k : Fin 768, mixed h (Fin.natAdd 2048 (Fin.natAdd 1536 (Fin.castAdd 128 k)))
      = ∑ k : Fin 768, h (Fin.natAdd 1536 (Fin.natAdd 8 (Fin.castAdd 2048 k))) :=
    Finset.sum_congr rfl fun k _ => by
      unfold mixed
      rw [dif_neg (by simp), dif_neg (by simp), dif_pos (by simp <;> omega)]
      exact congrArg h (Fin.ext (by simp <;> omega))
  have e3 : ∑ k : Fin 8, mixed h (Fin.natAdd 2048 (Fin.natAdd 1536 (Fin.natAdd 768 (Fin.castAdd 120 k))))
      = ∑ k : Fin 8, h (Fin.natAdd 1536 (Fin.castAdd 2816 k)) :=
    Finset.sum_congr rfl fun k _ => by
      unfold mixed
      rw [dif_neg (by simp), dif_neg (by simp), dif_neg (by simp <;> omega), dif_pos (by simp <;> omega)]
      exact congrArg h (Fin.ext (by simp <;> omega))
  have e4 : ∑ k : Fin 120, mixed h (Fin.natAdd 2048 (Fin.natAdd 1536 (Fin.natAdd 768 (Fin.natAdd 8 k)))) = 0 :=
    Finset.sum_eq_zero fun k _ => by
      unfold mixed
      rw [dif_neg (by simp), dif_neg (by simp), dif_neg (by simp <;> omega), dif_neg (by simp <;> omega)]
  rw [e0, e1, e2, e3, e4, add_zero]
  abel

/-- Five pieces laid side by side, read at a column. -/
theorem concat_mixed {n : ℕ} (x0 : (⟨2, ![n, 2048]⟩ : Shape).Idx → EReal) (x1 : (⟨2, ![n, 1536]⟩ : Shape).Idx → EReal)
    (x2 : (⟨2, ![n, 768]⟩ : Shape).Idx → EReal) (x3 : (⟨2, ![n, 8]⟩ : Shape).Idx → EReal) (x4 : (⟨2, ![n, 120]⟩ : Shape).Idx → EReal)
    (h : Shape.Concatenates [⟨2, ![n, 2048]⟩, ⟨2, ![n, 1536]⟩, ⟨2, ![n, 768]⟩, ⟨2, ![n, 8]⟩, ⟨2, ![n, 120]⟩] ⟨2, ![n, 4480]⟩ 1)
    (f : Fin 4360 → EReal) (r : Fin n)
    (h0 : ∀ k : Fin 2048, x0 (ix2 r k) = f ⟨2312 + k.val, by omega⟩) (h1 : ∀ k : Fin 1536, x1 (ix2 r k) = f ⟨k.val, by omega⟩)
    (h2 : ∀ k : Fin 768, x2 (ix2 r k) = f ⟨1544 + k.val, by omega⟩) (h3 : ∀ k : Fin 8, x3 (ix2 r k) = f ⟨1536 + k.val, by omega⟩)
    (h4 : ∀ k : Fin 120, x4 (ix2 r k) = 0) (k : Fin 4480) :
    concatenate ⟨2, ![n, 4480]⟩ 1 [⟨_, x0⟩, ⟨_, x1⟩, ⟨_, x2⟩, ⟨_, x3⟩, ⟨_, x4⟩] h (ix2 r k) = mixed f k := by
  have hk : k.val < 4480 := k.isLt
  unfold mixed
  split
  · next a0 =>
    refine (concatenate_apply_piece (t := ⟨2, ![n, 4480]⟩) 1 [⟨_, x0⟩, ⟨_, x1⟩, ⟨_, x2⟩, ⟨_, x3⟩, ⟨_, x4⟩] h (ix2 r k) 0 (by simp) _ x0 rfl rfl 0 rfl (ix2 r ⟨k.val, a0⟩) ?_ ?_).trans (h0 _)
    · intro b hb; fin_cases b
      · rfl
      · exact absurd rfl hb
    · exact Nat.zero_add _
  split
  · next a0 a1 =>
    refine (concatenate_apply_piece (t := ⟨2, ![n, 4480]⟩) 1 [⟨_, x0⟩, ⟨_, x1⟩, ⟨_, x2⟩, ⟨_, x3⟩, ⟨_, x4⟩] h (ix2 r k) 1 (by simp) _ x1 rfl rfl 2048 rfl (ix2 r ⟨k.val - 2048, a1⟩) ?_ ?_).trans (h1 _)
    · intro b hb; fin_cases b
      · rfl
      · exact absurd rfl hb
    · show 2048 + (k.val - 2048) = k.val; omega
  split
  · next a0 a1 a2 =>
    refine (concatenate_apply_piece (t := ⟨2, ![n, 4480]⟩) 1 [⟨_, x0⟩, ⟨_, x1⟩, ⟨_, x2⟩, ⟨_, x3⟩, ⟨_, x4⟩] h (ix2 r k) 2 (by simp) _ x2 rfl rfl 3584 rfl (ix2 r ⟨k.val - 2048 - 1536, a2⟩) ?_ ?_).trans (h2 _)
    · intro b hb; fin_cases b
      · rfl
      · exact absurd rfl hb
    · show 3584 + (k.val - 2048 - 1536) = k.val; omega
  split
  · next a0 a1 a2 a3 =>
    refine (concatenate_apply_piece (t := ⟨2, ![n, 4480]⟩) 1 [⟨_, x0⟩, ⟨_, x1⟩, ⟨_, x2⟩, ⟨_, x3⟩, ⟨_, x4⟩] h (ix2 r k) 3 (by simp) _ x3 rfl rfl 4352 rfl
      (ix2 r ⟨k.val - 2048 - 1536 - 768, a3⟩) ?_ ?_).trans (h3 _)
    · intro b hb; fin_cases b
      · rfl
      · exact absurd rfl hb
    · show 4352 + (k.val - 2048 - 1536 - 768) = k.val; omega
  · next a0 a1 a2 a3 =>
    refine (concatenate_apply_piece (t := ⟨2, ![n, 4480]⟩) 1 [⟨_, x0⟩, ⟨_, x1⟩, ⟨_, x2⟩, ⟨_, x3⟩, ⟨_, x4⟩] h (ix2 r k) 4 (by simp) _ x4 rfl rfl 4360 rfl (ix2 r ⟨k.val - 4360, by omega⟩) ?_ ?_).trans (h4 _)
    · intro b hb; fin_cases b
      · rfl
      · exact absurd rfl hb
    · show 4360 + (k.val - 4360) = k.val; omega

end Cert.Mixed
end
-- ==== Proof.MixInValue.lean ====
/- The gradient of the normalised rows times a matrix, with the residual's gradient added: what the kernel's three results hold. -/
module

public import proofs.«01_k».proof.Proof.Gen.MixInIdeal.Value
public import proofs.«01_k».proof.Proof.Norm
public import proofs.«01_k».proof.Proof.Mixed
public import Idealize.ShloMosaic.Lib.Claim
public import Idealize.ShloMosaic.Lib.StableHlo.RunRead

@[expose] public section

set_option maxRecDepth 2000

noncomputable section

namespace Cert.MixInIdeal.Value

open Cert.MixInIdeal Cert.MixInIdeal.Gen Cert.Mixed Cert.Common Cert.Norm Idealize.ShloMosaic Idealize.ShloMosaic.TcCoe Idealize.SL.Sem

variable (m : (ℓ : Loc nD τ sig) → Buf (Elt Ideal) ℓ) (ρ : Dev nD → PrngReg)

theorem pt (t : Fin cfg0.N) : t.val < 11 := Nat.lt_of_lt_of_eq t.isLt N_0

def row (t : Fin cfg0.N) (q : Fin 384) : Fin 4224 := ⟨384 * t.val + q.val, by have := pt t; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

variable (c : Dev nD) (t : Fin cfg0.N)

/-! ### The payloads at an index -/

theorem pay3_apply (a : Vec Ideal S384x4480 .bf16) (w : Vec Ideal S1024x4480 .bf16) (p : Fin 384) (l : Fin 1024) :
    k0_pay3 (F := Ideal) a w (ix2 p l) = ∑ k : Fin 4480, a (ix2 p k) * w (ix2 l k) := by
  pointwise [k0_pay3]

theorem pay4_apply (x : Vec Ideal S384x1024 .f32) (p : Fin 384) (z : Fin 1) :
    k0_pay4 (F := Ideal) x (ix2 p z) = inv fun l => x (ix2 p l) := by
  pointwise [k0_pay4]
  rfl

theorem pay6_apply (a : Vec Ideal S384x4480 .bf16) (w : Vec Ideal S1024x4480 .bf16)
    (x : Vec Ideal S384x1024 .f32) (g : Vec Ideal S1x1024 .f32) (r : Vec Ideal S384x1024 .f32) (p : Fin 384) (l : Fin 1024) :
    k0_pay6 (F := Ideal) a w x g r (ix2 p l)
      = rowGrad (fun k => x (ix2 p k)) (fun k => g (ix2 0 k)) (fun k => k0_pay3 (F := Ideal) a w (ix2 p k)) (r (ix2 p l)) l := by
  pointwise [k0_pay6, k0_pay5]
  rw [pay4_apply]
  rfl

theorem pay2_apply (d : FVec Ideal S384x1024 .f32) (x : Vec Ideal S384x1024 .f32) (o : Vec Ideal S1x1024 .f32) (l : Fin 1024) :
    k0_pay2 (F := Ideal) d (k0_pay5 (F := Ideal) x) o (ix2 0 l) = o (ix2 0 l) + ∑ p : Fin 384, d (ix2 p l) * (x (ix2 p l) * inv fun k => x (ix2 p k)) := by
  pointwise [k0_pay2, k0_pay5]
  simp only [pay4_apply]

/-! ### The blocks a point reads -/

abbrev argH : S4224x1024.Idx → EReal := m ((c : Thread nD τ).loc main_arg0)
abbrev argG : S1024.Idx → EReal := m ((c : Thread nD τ).loc main_arg1)
abbrev argW : S1024x4360.Idx → EReal := m ((c : Thread nD τ).loc main_arg2)
abbrev argD : S4224x4360.Idx → EReal := m ((c : Thread nD τ).loc main_arg3)
abbrev argR : S4224x1024.Idx → EReal := m ((c : Thread nD τ).loc main_arg4)

theorem V6_apply (r : Fin 4224) (k : Fin 4480) : V m c main_v6 (ix2 r k) = mixed (fun q => argD m c (ix2 r q)) k := by
  unfold V
  after_reads_simp
  refine concat_mixed _ _ _ _ _ concatenates_S4224x2048_S4224x1536_S4224x768_S4224x8_S4224x120_S4224x4480_d1 _ _ ?_ ?_ ?_ ?_ ?_ k <;> intro q
  · show StableHlo.upto hostOps0 (fun b => m (c, b)) 6 (Proc.devRef .tc main_v0) (ix2 r q) = _
    after_reads_simp
    exact congrArg (argD m c) (funext fun a => by fin_cases a <;> exact Fin.ext (by simp))
  · show StableHlo.upto hostOps0 (fun b => m (c, b)) 6 (Proc.devRef .tc main_v1) (ix2 r q) = _
    after_reads_simp
    exact congrArg (argD m c) (funext fun a => by fin_cases a <;> exact Fin.ext (by simp))
  · show StableHlo.upto hostOps0 (fun b => m (c, b)) 6 (Proc.devRef .tc main_v2) (ix2 r q) = _
    after_reads_simp
    exact congrArg (argD m c) (funext fun a => by fin_cases a <;> exact Fin.ext (by simp))
  · show StableHlo.upto hostOps0 (fun b => m (c, b)) 6 (Proc.devRef .tc main_v3) (ix2 r q) = _
    after_reads_simp
    exact congrArg (argD m c) (funext fun a => by fin_cases a <;> exact Fin.ext (by simp))
  · show StableHlo.upto hostOps0 (fun b => m (c, b)) 6 (Proc.devRef .tc main_v4) (ix2 r q) = _
    after_reads_simp
    exact Ideal.ofBits_zero .f32

theorem V13_apply (l : Fin 1024) (k : Fin 4480) : V m c main_v13 (ix2 l k) = mixed (fun q => argW m c (ix2 l q)) k := by
  unfold V
  after_reads_simp
  refine concat_mixed _ _ _ _ _ concatenates_S1024x2048_S1024x1536_S1024x768_S1024x8_S1024x120_S1024x4480_d1 _ _ ?_ ?_ ?_ ?_ ?_ k <;> intro q
  · show StableHlo.upto hostOps0 (fun b => m (c, b)) 14 (Proc.devRef .tc main_v7) (ix2 l q) = _
    after_reads_simp
    exact congrArg (argW m c) (funext fun a => by fin_cases a <;> exact Fin.ext (by simp))
  · show StableHlo.upto hostOps0 (fun b => m (c, b)) 14 (Proc.devRef .tc main_v8) (ix2 l q) = _
    after_reads_simp
    exact congrArg (argW m c) (funext fun a => by fin_cases a <;> exact Fin.ext (by simp))
  · show StableHlo.upto hostOps0 (fun b => m (c, b)) 14 (Proc.devRef .tc main_v9) (ix2 l q) = _
    after_reads_simp
    exact congrArg (argW m c) (funext fun a => by fin_cases a <;> exact Fin.ext (by simp))
  · show StableHlo.upto hostOps0 (fun b => m (c, b)) 14 (Proc.devRef .tc main_v10) (ix2 l q) = _
    after_reads_simp
    exact congrArg (argW m c) (funext fun a => by fin_cases a <;> exact Fin.ext (by simp))
  · show StableHlo.upto hostOps0 (fun b => m (c, b)) 14 (Proc.devRef .tc main_v11) (ix2 l q) = _
    after_reads_simp
    exact Ideal.ofBits_zero .f32

theorem V14_apply (l : Fin 1024) : V m c main_v14 (ix2 0 l) = argG m c (ix1 l) := by
  entry_read
  pointwise

theorem b0 (p : Fin 384) (k : Fin 4480) : iblk m c 0 t (ix2 p k) = mixed (fun q => argD m c (ix2 (row t p) q)) k :=
  (congrArg (V m c main_v6) (by blk_ext [idx0, row] : ((cfg0.win 0).blk t).view.emb (ix2 p k) = ix2 (row t p) k)).trans (V6_apply m c _ k)

theorem b1 (l : Fin 1024) (k : Fin 4480) : iblk m c 1 t (ix2 l k) = mixed (fun q => argW m c (ix2 l q)) k :=
  (congrArg (V m c main_v13) (by blk_ext [idx1] : ((cfg0.win 1).blk t).view.emb (ix2 l k) = ix2 l k)).trans (V13_apply m c l _)

theorem b2 (p : Fin 384) (l : Fin 1024) : iblk m c 2 t (ix2 p l) = argH m c (ix2 (row t p) l) := by
  blk_ext! [iblk, V, idx2, row]

theorem b3 (l : Fin 1024) : iblk m c 3 t (ix2 0 l) = argG m c (ix1 l) :=
  (congrArg (V m c main_v14) (by blk_ext [idx3] : ((cfg0.win 3).blk t).view.emb (ix2 0 l) = ix2 0 l)).trans (V14_apply m c l)

theorem b4 (p : Fin 384) (l : Fin 1024) : iblk m c 4 t (ix2 p l) = argR m c (ix2 (row t p) l) := by
  blk_ext! [iblk, V, idx4, row]

/-! ### The results -/

/-- The cotangent of the normalised rows: the product's cotangent times the matrix. -/
def dP (r : Fin 4224) (l : Fin 1024) : EReal := ∑ k : Fin 4360, argD m c (ix2 r k) * argW m c (ix2 l k)

def gradH : S4224x1024.Idx → EReal := fun i =>
  rowGrad (fun k => argH m c (ix2 (i 0) k)) (fun k => argG m c (ix1 k)) (dP m c (i 0)) (argR m c (ix2 (i 0) (i 1))) (i 1)

def gradG : S8x1024.Idx → EReal := fun i =>
  if (i 0).val = 0 then ∑ r : Fin 4224, dP m c r (i 1) * (argH m c (ix2 r (i 1)) * inv fun k => argH m c (ix2 r k)) else 0

def place (y : S384x1024.Idx) : S4224x1024.Idx := ix2 (row t (y 0)) (y 1)
theorem place5 (y : S384x1024.Idx) : ((cfg0.win 5).blk t).view.emb y = place t y := by
  blk_ext [idx5, place, row]
theorem place6 (y : S384x1024.Idx) : ((cfg0.win 6).blk t).view.emb y = place t y := by
  blk_ext [idx6, place, row]

theorem dPt_eq (p : Fin 384) (l : Fin 1024) : k0_pay3 (F := Ideal) (iblk m c 0 t) (iblk m c 1 t) (ix2 p l) = dP m c (row t p) l := by
  refine (pay3_apply _ _ p l).trans ((Finset.sum_congr rfl fun k _ => congrArg₂ (fun a b : EReal => a * b) (b0 m c t p k) (b1 m c t l k)).trans ?_)
  exact sum_mixed _ _

theorem grad_at (y : S384x1024.Idx) : k0_pay6 (F := Ideal) (iblk m c 0 t) (iblk m c 1 t) (iblk m c 2 t) (iblk m c 3 t) (iblk m c 4 t) y
    = gradH m c (place t y) := by
  refine (congrArg _ (eq_ix2 y)).trans ((pay6_apply _ _ _ _ _ _ _).trans ?_)
  unfold gradH place
  refine congr (congr (congr (congr (congrArg rowGrad ?_) ?_) ?_) ?_) rfl
  · exact funext fun k => b2 m c t _ k
  · exact funext fun k => b3 m c t k
  · exact funext fun k => dPt_eq m c t _ k
  · exact b4 m c t _ _

theorem final5 : (dats m 0 c).arrAt 5 cfg0.N = gradH m c := by
  refine (dats m 0 c).arrAt_eq_of_covers 5 _ (by decide +kernel) fun t hf y => ?_
  rw [place5]
  blk_simp
  rw [after0_5]
  by_cases h0 : t.val % 11 = 0
  · rw [outsAt0_A m c t h0]
    frame_out
    exact grad_at m c t y
  · rw [outsAt0_B m c t h0]
    frame_out
    exact grad_at m c t y

theorem final6 : (dats m 0 c).arrAt 6 cfg0.N = gradH m c := by
  refine (dats m 0 c).arrAt_eq_of_covers 6 _ (by decide +kernel) fun t hf y => ?_
  rw [place6]
  blk_simp
  rw [after0_6]
  by_cases h0 : t.val % 11 = 0
  · rw [outsAt0_A m c t h0]
    frame_out
    exact grad_at m c t y
  · rw [outsAt0_B m c t h0]
    frame_out
    exact grad_at m c t y

/-- What a point adds to the scale's gradient. -/
def partG (t : Fin cfg0.N) (l : Fin 1024) : EReal :=
  ∑ p : Fin 384, dP m c (row t p) l * (argH m c (ix2 (row t p) l) * inv fun k => argH m c (ix2 (row t p) k))

theorem part_eq (o : Vec Ideal S1x1024 .f32) (l : Fin 1024) :
    k0_pay2 (F := Ideal) (k0_pay3 (F := Ideal) (iblk m c 0 t) (iblk m c 1 t)) (k0_pay5 (F := Ideal) (iblk m c 2 t)) o (ix2 0 l) = o (ix2 0 l) + partG m c t l := by
  refine (pay2_apply _ _ _ _).trans (congrArg (o (ix2 0 l) + ·) (Finset.sum_congr rfl fun p _ => ?_))
  refine congrArg₂ (· * ·) (dPt_eq m c t p l) (congrArg₂ (· * ·) (b2 m c t p l) (congrArg inv (funext fun k => b2 m c t p k)))

/-- What a point adds at an index of the scale's gradient's block: its first row alone changes. -/
def termG (t : Fin cfg0.N) (i : S8x1024.Idx) : EReal := if (i 0).val = 0 then partG m c t (i 1) else 0

theorem stepA (h0 : t.val % 11 = 0) (i : S8x1024.Idx) : (outsAt0 m c t.val t.isLt).2.2 i = (0 : EReal) + termG m c t i := by
  rw [outsAt0_A m c t h0]
  frame_out
  refine (congrArg _ (eq_ix2 i)).trans ((row0_fill (ms0_7 t).view _ _ _ _ (i 0) (i 1)).trans ?_)
  unfold termG
  split
  · refine (part_eq m c t _ (i 1)).trans (congrArg (· + partG m c t (i 1)) ?_)
    rw [View.readCov_fill _ _ _ _ _ (by decide)]
    exact (ld_row0 _ _ (by decide) _).trans (Ideal.ofBits_zero .f32)
  · exact (Ideal.ofBits_zero .f32).trans (add_zero _).symm

theorem stepB (h0 : ¬t.val % 11 = 0) (i : S8x1024.Idx) :
    (outsAt0 m c t.val t.isLt).2.2 i = (outsAt0 m c (t.val - 1) (Nat.lt_of_le_of_lt (Nat.sub_le _ _) t.isLt)).2.2 i + termG m c t i := by
  rw [outsAt0_B m c t h0]
  frame_out
  refine (congrArg _ (eq_ix2 i)).trans ((row0_over (ms0_7 t) _ _ _ _ (i 0) (i 1)).trans ?_)
  unfold termG
  split
  · rename_i h
    refine (part_eq m c t _ (i 1)).trans (congrArg (· + partG m c t (i 1)) ?_)
    refine (ld_row0 _ _ (by decide) _).trans (congrArg _ ?_)
    refine (congrArg (fun z => ix2 z (i 1)) (Fin.ext h.symm)).trans (eq_ix2 i).symm
  · rw [add_zero]
    exact (congrArg _ (eq_ix2 i)).symm

theorem sumG (l : Fin 1024) : ∑ t : Fin cfg0.N, partG m c t l
    = ∑ r : Fin 4224, dP m c r l * (argH m c (ix2 r l) * inv fun k => argH m c (ix2 r k)) := by
  refine Fin.sum_mul_add_congr (S := 11) (n := 384) (f := fun r : Fin 4224 => dP m c r l * (argH m c (ix2 r l) * inv fun k => argH m c (ix2 r k)))
    fun s k hl => ?_
  have : row s k = ⟨s.val * 384 + k.val, hl⟩ := Fin.ext (by unfold row; dsimp only; omega)
  rw [this]

theorem final7 : (dats m 0 c).arrAt 7 cfg0.N = gradG m c := by
  refine (dats m 0 c).arrAt_eq_of_after_last 7 t0_10 (by decide +kernel) _ fun j => ?_
  blk_simp
  rw [after0_7, Pipeline.eq_sum_fin_of_reset_step_apply_last (fun n h => (outsAt0 m c n h).2.2) 11 (fun _ => (0 : EReal))
    (fun t => termG m c t) (fun t h j => stepA m c t h j) (fun t h j => stepB m c t h j) (le_of_eq N_0) t0_10 rfl j, zero_add]
  unfold termG
  show _ = gradG m c j
  unfold gradG
  split
  · exact sumG m c (j 1)
  · exact Finset.sum_const_zero

end Cert.MixInIdeal.Value
end
-- ==== Proof.MixInMatch.lean ====
/- The gradient of the normalised rows times the mixer's matrix: the reference's three results are the kernel's. -/
module

public import proofs.«01_k».proof.Proof.MixInValue
public import proofs.«01_k».proof.Proof.FfnInMatch
public import proofs.«01_k».proof.Proof.Gen.Pre_finite_mixin
public import proofs.«01_k».proof.Proof.Gen.MixInRefIdeal.Run
public import proofs.«01_k».proof.Proof.Gen.MixInRefIdeal.Read
public import proofs.«01_k».proof.Defs
public import Idealize.ShloMosaic.Lib.Claim

@[expose] public section

set_option maxRecDepth 2000

noncomputable section

namespace Cert.MixInMatch

open Cert.FfnInMatch (hrow gv)
open Cert.MixInRefIdeal Cert.MixInRefIdeal.Read Cert.Common Cert.Norm Cert.Finite Idealize.ShloMosaic Idealize.ShloMosaic.TcCoe Idealize.SL.Sem

variable (h : S4224x1024.Idx → EReal) (g : S1024.Idx → EReal) (w : S1024x4360.Idx → EReal) (d : S4224x4360.Idx → EReal) (res : S4224x1024.Idx → EReal)

/-- The product's cotangent at a row. -/
def cot (r : Fin 4224) (l : Fin 1024) : EReal := ∑ k : Fin 4360, d (ix2 r k) * w (ix2 l k)

/-! What depends on the rows alone is the other norm's, line for line. -/

theorem v7_apply (r : Fin 4224) (z : Fin 1) : val_main_v7 (F := Ideal) h (ix2 r z) = inv (hrow h r) := Cert.FfnInMatch.v7_apply h r z

theorem v10_apply (r : Fin 4224) (z : Fin 1) :
    val_main_v10 (F := Ideal) h (ix2 r z) = minusHalf * Ideal.div (inv (hrow h r)) (ms (hrow h r)) := Cert.FfnInMatch.v10_apply h r z

theorem v17_apply (r : Fin 4224) (l : Fin 1024) : val_main_v17 (F := Ideal) w d (ix2 r l) = cot w d r l := by
  rw [val_main_v17_apply]
  refine Finset.sum_congr rfl fun k _ => congrArg₂ (· * ·) (congrArg d ?_) (congrArg w ?_)
  · funext a; fin_cases a <;> rfl
  · funext a; fin_cases a <;> rfl

theorem v22_apply (r : Fin 4224) (l : Fin 1024) : val_main_v22 (F := Ideal) g w d (ix2 r l) = cot w d r l * gv g l := by
  rw [val_main_v22_apply, v17_apply, val_main_v21_apply, val_main_v13_apply]
  refine congrArg (cot w d r l * ·) (congrArg g ?_)
  funext a; fin_cases a; rfl

theorem v34_apply (r : Fin 4224) (l : Fin 1024) : val_main_v34 (F := Ideal) h g w d (ix2 r l) = share (hrow h r) (gv g) (cot w d r) := by
  rw [val_main_v34_apply, val_main_v33_apply]
  refine ((congrArg₂ (· + ·) (Ideal.ofBits_zero .f32) (Fin.sum_univ_one _)).trans (zero_add _)).trans ?_
  have : idx_main_v33 (idx_main_v34 (ix2 r l)) 0 = ix2 r 0 := by funext a; fin_cases a <;> rfl
  rw [this, val_main_v32_apply, val_main_v30_apply, v10_apply, val_main_v26_apply, val_main_v25_apply]
  refine congrArg₂ Ideal.div (congrArg₂ (· * ·) ((congrArg₂ (· + ·) (Ideal.ofBits_zero .f32) (Finset.sum_congr rfl fun k _ => ?_)).trans (zero_add _)) rfl) rfl
  have : idx_main_v25 (idx_main_v26 (ix2 r 0)) k = ix2 r k := by
    funext a; fin_cases a
    · exact Fin.ext (by simp [idx_main_v25, idx_main_v26])
    · rfl
  rw [this, val_main_v24_apply, v22_apply]
  rfl

theorem v38_apply (hh : ∀ i, ∃ r : ℝ, h i = r) (hg : ∀ i, ∃ r : ℝ, g i = r) (hw : ∀ i, ∃ r : ℝ, w i = r) (hd : ∀ i, ∃ r : ℝ, d i = r)
    (r : Fin 4224) (l : Fin 1024) :
    val_main_v38 (F := Ideal) h g w d res (ix2 r l) = rowGrad (hrow h r) (gv g) (cot w d r) (res (ix2 r l)) l := by
  rw [val_main_v38_apply, val_main_v36_apply, val_main_v37_apply, val_main_v35_apply, val_main_v29_apply, val_main_v28_apply, v34_apply, v22_apply,
    val_main_v27_apply]
  have : idx_main_v27 (ix2 r l) = ix2 r 0 := by funext a; fin_cases a <;> rfl
  rw [this, v7_apply]
  exact grad_eq (hrow h r) (gv g) (cot w d r) (fun k => hh _) (fun k => hg _) (fun k => real_sum _ _ fun q _ => real_mul (hd _) (hw _)) _ l

theorem v41_apply (r : Fin 8) (l : Fin 1024) :
    val_main_v41 (F := Ideal) h w d (ix2 r l) = if r.val = 0 then ∑ q : Fin 4224, cot w d q l * (h (ix2 q l) * inv (hrow h q)) else 0 := by
  unfold val_main_v41
  split
  · next hr =>
    refine (pad_rows_in 0 7 _ _ _ _ r l (Nat.zero_le _) (by omega)).trans ?_
    rw [val_main_v40_apply, val_main_v23_apply]
    refine ((congrArg₂ (· + ·) (Ideal.ofBits_zero .f32) (Fin.sum_univ_one _)).trans (zero_add _)).trans ?_
    rw [val_main_v20_apply, val_main_v19_apply]
    refine (congrArg₂ (· + ·) (Ideal.ofBits_zero .f32) (Finset.sum_congr rfl fun q _ => ?_)).trans (zero_add _)
    have e : ∀ z : Fin 1, idx_main_v19 (idx_main_v20 (idx_main_v23 (idx_main_v40 (ix2 z l)) 0)) q = ix2 q l := by
      intro z; funext a; fin_cases a
      · rfl
      · exact Fin.ext (by simp [idx_main_v19, idx_main_v20, idx_main_v23, idx_main_v40])
    rw [e, val_main_v18_apply, val_main_v12_apply, v17_apply, val_main_v11_apply]
    have : idx_main_v11 (ix2 q l) = ix2 q 0 := by funext a; fin_cases a <;> rfl
    rw [this, v7_apply]
    exact mul_comm _ _
  · next hr =>
    refine (pad_rows_out 0 7 _ _ _ _ r l (Or.inr (by omega))).trans ?_
    rw [val_main_call0_v0_apply]
    show ((((0#32 : BitVec 32).toInt : ℝ)) : EReal) = 0
    simp

/-! ### The claims -/

theorem frame_ref : Cert.quiescent_MixInRefIdeal := fun m ρ _ =>
  (θ_run Cert.MixInRefIdeal.defs _ _).mono (fun _ h => ⟨fun c => (h c).2.2.2, sem_eq_zero_of_no_sems (by decide) _⟩)
    (Cert.MixInRefIdeal.Value.run m ρ)

theorem frame_ref_pre : Cert.quiescent_MixInRefIdeal_pre_finite_mixin := fun m ρ _ => frame_ref m ρ trivial

/-- The precondition: rows, scale, matrix and cotangent are real numbers. -/
theorem real_of_pre (m : (ℓ : Loc Cert.MixInIdeal.nD Cert.MixInIdeal.τ Cert.MixInIdeal.sig) → Buf (Elt Ideal) ℓ) (hp : Cert.Pre_MixInIdeal_finite_mixin m)
    (c : Dev Cert.MixInIdeal.nD) :
    (∀ i, ∃ r : ℝ, Cert.MixInIdeal.Value.argH m c i = r) ∧ (∀ i, ∃ r : ℝ, Cert.MixInIdeal.Value.argG m c i = r)
      ∧ (∀ i, ∃ r : ℝ, Cert.MixInIdeal.Value.argW m c i = r) ∧ (∀ i, ∃ r : ℝ, Cert.MixInIdeal.Value.argD m c i = r) := by
  have h := congrFun (hp c) (fun a => a.elim0)
  dsimp only [Cert.Pre_finite_mixin.fn, Cert.Pre_finite_mixin.fn_part1] at h
  obtain ⟨h, h4⟩ := and_one _ _ h
  obtain ⟨h, h3⟩ := and_one _ _ h
  obtain ⟨h1, h2⟩ := and_one _ _ h
  haveI : Subsingleton Cert.Pre_finite_mixin.S_.Idx := ⟨fun a b => funext fun i => i.elim0⟩
  exact ⟨real_of_all _ _ (fun _ => rfl) _ _ _ _ h1, real_of_all _ _ (fun _ => rfl) _ _ _ _ h2, real_of_all _ _ (fun _ => rfl) _ _ _ _ h3,
    real_of_all _ _ (fun _ => rfl) _ _ _ _ h4⟩

set_option maxRecDepth 65536 in
open Cert.MixInIdeal.Value in
theorem algebraic : Cert.algebraic_MixInIdeal_MixInRefIdeal_pre_finite_mixin := by
  intro m g m' g' hp hagree
  refine ⟨fun c => gradH m c, fun c => gradH m c, fun c => gradG m c,
    (θ_run Cert.MixInIdeal.defs _ _).mono (fun r h c => ?_) (run_blocks m g),
    (θ_run Cert.MixInRefIdeal.defs _ _).mono (fun r h c => ?_) (Cert.MixInRefIdeal.Value.run m' g')⟩
  · obtain ⟨h6, h7, h8, ha⟩ := h c
    exact ⟨h6.trans (final5 m c), h7.trans (final6 m c), h8.trans (final7 m c), ha⟩
  · obtain ⟨h6, h7, h8, ha⟩ := h c
    obtain ⟨e0, e1, e2, e3, e4⟩ := hagree c
    obtain ⟨r0, r1, r2, r3⟩ := real_of_pre m hp c
    have q6 : val_main_v38 (F := Ideal) (argH m c) (argG m c) (argW m c) (argD m c) (argR m c) = gradH m c := by
      funext i
      exact (congrArg _ (eq_ix2 i)).trans (v38_apply _ _ _ _ _ r0 r1 r2 r3 (i 0) (i 1))
    have q8 : val_main_v41 (F := Ideal) (argH m c) (argW m c) (argD m c) = gradG m c := by
      funext i
      exact (congrArg _ (eq_ix2 i)).trans (v41_apply _ _ _ (i 0) (i 1))
    refine ⟨h6.trans ((val_main_v38_eq _ _).trans ?_), h7.trans ((val_main_v39_eq _ _).trans ?_), h8.trans ((val_main_v41_eq _ _ _).trans ?_), ha⟩
    · rw [e0, e1, e2, e3, e4]; exact q6
    · rw [e0, e1, e2, e3, e4]; exact q6
    · rw [e0, e2, e3]; exact q8

end Cert.MixInMatch
end
-- ==== Proof.FoxGrid.lean ====
/- The grid of the forgetting attention's gradient: a pair of heads, then the steps of the triangle of blocks, whose row block and
   column block two prefetched tables name. -/
module

public import proofs.«01_k».proof.Proof.Gen.FoxBwdIdeal
public import proofs.«01_k».proof.Proof.Gen.FoxBwdIdeal.Launch
public import Idealize.ShloMosaic.Lib.Pipeline.Kit
public import Idealize.ShloMosaic.Lib.Affine
public import Idealize.ShloMosaic.Lib.Tactic

@[expose] public section

set_option maxRecDepth 16384
set_option Elab.async false

noncomputable section

namespace Cert.Fox

open Cert.FoxBwdIdeal Cert.FoxBwdIdeal.Gen
open Idealize.ShloMosaic
open Idealize.ShloMosaic.TcCoe

variable {F : FTy → Type} [FloatOps F] [Named F]

/-- The tables: the row block and the column block of every step. -/
def tab0 : S66.Idx → BitVec 32 := fun i => lit0 (S66.rowMajor i)
def tab1 : S66.Idx → BitVec 32 := fun i => lit1 (S66.rowMajor i)

/-- Step `n`'s row block and column block. -/
def qi (n : Fin 66) : Nat := (lit0 n).toNat
def kj (n : Fin 66) : Nat := (lit1 n).toNat

/-- The tables' contents as the pipeline takes them. -/
def pfT : pre0.Contents (Elt F) := fun | ⟨0, _⟩ => tab0 | ⟨1, _⟩ => tab1 | ⟨_ + 2, h⟩ => absurd h (by simp)

/-- The word of a table that a step reads. -/
abbrev wordAt (T : S66.Idx → BitVec 32) (i : grid0.Coords) : BitVec 32 :=
  T ((Rect.unit (s := S66) (k0_off1 i) S1.size (k0_off1_inb i)).emb (Shape.Idx.first (numel1_S1.symm ▸ Nat.one_pos)))

theorem word0 : ∀ i : grid0.Coords, wordAt tab0 i = lit0 (i 1) := by decide +kernel
theorem word1 : ∀ i : grid0.Coords, wordAt tab1 i = lit1 (i 1) := by decide +kernel

theorem qi_lt : ∀ n, qi n < 11 := by decide +kernel
theorem kj_le : ∀ n, kj n ≤ qi n := by decide +kernel
theorem kj_lt (n : Fin 66) : kj n < 11 := (kj_le n).trans_lt (qi_lt n)

theorem coord0 : ∀ i : grid0.Coords, (BitVec.ofNat 32 (i 0).val).toNat = (i 0).val := by decide +kernel

/-! The block of every window at a point. -/

theorem tr0 (i : grid0.Coords) : cc0_transform_0 k0_off1_inb numel1_S1 (pfT (F := F)) i = ![qi (i 1), (i 0).val] := by
  show ![(wordAt tab0 i).toNat, (BitVec.ofNat 32 (i 0).val).toNat] = _
  rw [word0, coord0]; rfl
theorem tr1 (i : grid0.Coords) : cc0_transform_1 k0_off1_inb numel1_S1 (pfT (F := F)) i = ![(i 0).val, qi (i 1)] := by
  show ![(BitVec.ofNat 32 (i 0).val).toNat, (wordAt tab0 i).toNat] = _
  rw [word0, coord0]; rfl
theorem tr2 (i : grid0.Coords) : cc0_transform_2 k0_off1_inb numel1_S1 (pfT (F := F)) i = ![kj (i 1), (i 0).val] := by
  show ![(wordAt tab1 i).toNat, (BitVec.ofNat 32 (i 0).val).toNat] = _
  rw [word1, coord0]; rfl
theorem tr3 (i : grid0.Coords) : cc0_transform_3 k0_off1_inb numel1_S1 (pfT (F := F)) i = ![kj (i 1), (i 0).val] := tr2 i
theorem tr4 (i : grid0.Coords) : cc0_transform_4 k0_off1_inb numel1_S1 (pfT (F := F)) i = ![qi (i 1), 0] := by
  show ![(wordAt tab0 i).toNat, 0] = _
  rw [word0]; rfl
theorem tr5 (i : grid0.Coords) : cc0_transform_5 k0_off1_inb numel1_S1 (pfT (F := F)) i = ![0, kj (i 1)] := by
  show ![0, (wordAt tab1 i).toNat] = _
  rw [word1]; rfl
theorem tr6 (i : grid0.Coords) : cc0_transform_6 k0_off1_inb numel1_S1 (pfT (F := F)) i = ![qi (i 1), (i 0).val] := tr0 i
theorem tr7 (i : grid0.Coords) : cc0_transform_7 k0_off1_inb numel1_S1 (pfT (F := F)) i = ![qi (i 1), (i 0).val] := tr0 i
theorem tr8 (i : grid0.Coords) : cc0_transform_8 k0_off1_inb numel1_S1 (pfT (F := F)) i = ![qi (i 1), (i 0).val] := tr0 i
theorem tr9 (i : grid0.Coords) : cc0_transform_9 k0_off1_inb numel1_S1 (pfT (F := F)) i = ![(i 0).val, qi (i 1)] := tr1 i
theorem tr10 (i : grid0.Coords) : cc0_transform_10 k0_off1_inb numel1_S1 (pfT (F := F)) i = ![qi (i 1), (i 0).val] := tr0 i
theorem tr11 (i : grid0.Coords) : cc0_transform_11 k0_off1_inb numel1_S1 (pfT (F := F)) i = ![qi (i 1), (i 0).val] := tr0 i

theorem p_lt (i : grid0.Coords) : (i 0).val < 4 := (i 0).isLt

/-- Every block lies in its array, and is made of whole words. -/
theorem ok_pfT : ok0 (pfT (F := F)) := by
  have hq := fun i : grid0.Coords => qi_lt (i 1)
  have hk := fun i : grid0.Coords => kj_lt (i 1)
  have hp := p_lt
  refine ⟨fun i => ?_, fun i => ?_, fun i => ?_, fun i => ?_, fun i => ?_, fun i => ?_, fun i => ?_, fun i => ?_, fun i => ?_,
    fun i => ?_, fun i => ?_, fun i => ?_⟩ <;> have hq := hq i <;> have hk := hk i <;> have hp := hp i
  · refine ⟨fun a => ?_, .inr (Affine.block_words_dvd (by decide) (by decide))⟩
    rw [tr0]; fin_cases a <;> simp [S384x128, S4224x512] <;> omega
  · refine ⟨fun a => ?_, .inr (Affine.block_words_dvd (by decide) (by decide))⟩
    rw [tr1]; fin_cases a <;> simp [S128x384, S512x4224] <;> omega
  · refine ⟨fun a => ?_, .inr (Affine.block_words_dvd (by decide) (by decide))⟩
    rw [tr2]; fin_cases a <;> simp [S384x128, S4224x512] <;> omega
  · refine ⟨fun a => ?_, .inr (Affine.block_words_dvd (by decide) (by decide))⟩
    rw [tr3]; fin_cases a <;> simp [S384x128, S4224x512] <;> omega
  · refine ⟨fun a => ?_, .inl rfl⟩
    rw [tr4]; fin_cases a <;> simp [S384x128, S4224x128] <;> omega
  · refine ⟨fun a => ?_, .inl rfl⟩
    rw [tr5]; fin_cases a <;> simp [S8x384, S8x4224] <;> omega
  · refine ⟨fun a => ?_, .inr (Affine.block_words_dvd (by decide) (by decide))⟩
    rw [tr6]; fin_cases a <;> simp [S384x128, S4224x512] <;> omega
  · refine ⟨fun a => ?_, .inl rfl⟩
    rw [tr7]; fin_cases a <;> simp [S384x128, S4224x512] <;> omega
  · refine ⟨fun a => ?_, .inl rfl⟩
    rw [tr8]; fin_cases a <;> simp [S384x128, S4224x512] <;> omega
  · refine ⟨fun a => ?_, .inr (Affine.block_words_dvd (by decide) (by decide))⟩
    rw [tr9]; fin_cases a <;> simp [S128x384, S512x4224] <;> omega
  · refine ⟨fun a => ?_, .inl rfl⟩
    rw [tr10]; fin_cases a <;> simp [S384x128, S4224x512] <;> omega
  · refine ⟨fun a => ?_, .inl rfl⟩
    rw [tr11]; fin_cases a <;> simp [S384x128, S4224x512] <;> omega

/-- The tables the call is launched with. -/
def adm : (pcfg0 (F := F)).Adm := ⟨pfT, ok_pfT⟩
abbrev cfg : Pipeline.Cfg sig Λ₀ := cfg0 (F := F) adm

/-! The body's decisions at a point. -/

theorem chk_ok : ∀ i : grid0.Coords, k0_chk1 (wordAt tab0 i) (wordAt tab1 i) := fun i => by
  rw [word0, word1]; revert i
  have : ∀ n : Fin 66, k0_chk1 (lit0 n) (lit1 n) := by decide +kernel
  exact fun i => this (i 1)

theorem cond1 : ∀ n : Fin 66, (Scalar.cmpi .ne (Scalar.extui (Scalar.cmpi .eq (BitVec.ofNat 32 n.val) 0#32)) 0#32) = 1#1 ↔ n.val = 0 := by
  decide +kernel
theorem cond2 : ∀ n : Fin 66, (Scalar.cmpi .ne (Scalar.extui (Scalar.cmpi .eq (lit1 n) 0#32)) 0#32) = 1#1 ↔ kj n = 0 := by decide +kernel
theorem cond3 : ∀ n : Fin 66, k0_cond3 (lit0 n) (lit1 n) = 1#1 ↔ (kj n = qi n ∨ kj n = 0) := by decide +kernel
theorem cond4 : ∀ n : Fin 66, k0_cond4 (lit0 n) (lit1 n) = 1#1 ↔ ¬(kj n = qi n ∨ kj n = 0) := by decide +kernel
theorem cond5 : ∀ n : Fin 66, k0_cond5 (lit0 n) (lit1 n) = 1#1 ↔ kj n = qi n := by decide +kernel
theorem cond6 : ∀ i : grid0.Coords, k0_cond6 i = 1#1 ↔ (i 1).val = 65 := by decide +kernel

end Cert.Fox

end
-- ==== Proof.FoxBody.lean ====
/- The body of the forgetting attention's gradient as six stages, each with the condition it runs under, and what every stage leaves
   in the buffers. -/
module

public import proofs.«01_k».proof.Proof.FoxGrid
public import proofs.«01_k».proof.Proof.Gen.FoxBwdIdeal.Skeleton
public import Idealize.ShloMosaic.Lib.Pipeline.FrameBody
public import Idealize.ShloMosaic.Lib.Pipeline.TableIdle
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option synthInstance.maxSize 4096
set_option Elab.async false

noncomputable section

namespace Cert.Fox

open Cert.FoxBwdIdeal Cert.FoxBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! The tables and the scratch buffers. -/

abbrev tb0 : Memref sig .tc .smem S66 .i32 := Memref.whole main_c
abbrev tb1 : Memref sig .tc .smem S66 .i32 := Memref.whole main_c_0
abbrev sc0 : Memref sig .tc .vmem S2x384x128 .f32 := Memref.whole cc0_scratch0
abbrev sc1 : Memref sig .tc .vmem S2x384x128 .f32 := Memref.whole cc0_scratch1
abbrev sc2 : Memref sig .tc .vmem S2x384x128 .f32 := Memref.whole cc0_scratch2
abbrev sc3 : Memref sig .tc .vmem S384x128 .f32 := Memref.whole cc0_scratch3
abbrev sc4 : Memref sig .tc .vmem S2x384x128 .f32 := Memref.whole cc0_scratch4
abbrev sc5 : Memref sig .tc .vmem S11x128x384 .f32 := Memref.whole cc0_scratch5
abbrev sc6 : Memref sig .tc .vmem S11x128x384 .f32 := Memref.whole cc0_scratch6
abbrev sc7 : Memref sig .tc .vmem S11x128x384 .f32 := Memref.whole cc0_scratch7

/-- A staged block held at its contents. -/
abbrev blkB (c : Dev nD) {sp : Space} {sh : Shape} {e : EltTy} (M : Memref sig .tc sp sh e) (x : sh.Idx → Elt F e) : sProp 𝕄 :=
  iprop(M.view.loc (c : Thread nD τ) ↦[M.view.set]{fullShare} M.view.rep x)
/-- A scratch buffer held whole. -/
abbrev scrB (c : Dev nD) {sp : Space} {sh : Shape} {e : EltTy} (M : Memref sig .tc sp sh e)
    (a : Buf (Elt F) (M.view.loc (c : Thread nD τ))) : sProp 𝕄 :=
  iprop(M.view.loc (c : Thread nD τ) ↦{fullShare} a)
/-- An output block held at a buffer's contents. -/
abbrev outB (c : Dev nD) {sp : Space} {sh : Shape} {e : EltTy} (M : Memref sig .tc sp sh e)
    (f : Buf (Elt F) (M.view.loc (c : Thread nD τ))) : sProp 𝕄 :=
  iprop(M.view.loc (c : Thread nD τ) ↦[M.view.set]{fullShare} f)

/-! ### The stages -/

section
variable (i : grid0.Coords) (arg4 : Memref sig .tc .vmem S384x128 .bf16) (harg4 : arg4.IsWhole)
  (arg5 : Memref sig .tc .vmem S128x384 .bf16) (harg5 : arg5.IsWhole)
  (arg6 : Memref sig .tc .vmem S384x128 .bf16) (harg6 : arg6.IsWhole)
  (arg7 : Memref sig .tc .vmem S384x128 .bf16) (harg7 : arg7.IsWhole)
  (arg8 : Memref sig .tc .vmem S384x128 .f32) (harg8 : arg8.IsWhole)
  (arg9 : Memref sig .tc .vmem S8x384 .f32) (harg9 : arg9.IsWhole)
  (arg10 : Memref sig .tc .vmem S384x128 .bf16) (harg10 : arg10.IsWhole)
  (arg11 : Memref sig .tc .vmem S384x128 .f32) (harg11 : arg11.IsWhole)
  (arg12 : Memref sig .tc .vmem S384x128 .f32) (harg12 : arg12.IsWhole)
  (arg13 : Memref sig .tc .vmem S128x384 .bf16) (harg13 : arg13.IsWhole)
  (arg14 : Memref sig .tc .vmem S384x128 .f32) (harg14 : arg14.IsWhole)
  (arg15 : Memref sig .tc .vmem S384x128 .f32) (harg15 : arg15.IsWhole)
  (arg16 : Memref sig .tc .vmem S4224x128 .f32) (harg16 : arg16.IsWhole)
  (arg17 : Memref sig .tc .vmem S4224x128 .f32) (harg17 : arg17.IsWhole)
  (arg18 : Memref sig .tc .vmem S4224x128 .f32) (harg18 : arg18.IsWhole)

set_option cleanup.letToHave false in
/-- At a pair's first step: the column accumulators are cleared. -/
def zero (jp : PUnit.{1} → Prog (TpuEff nD τ sig (Elt F) Λ₀ .tc) PUnit.{1}) : Prog (TpuEff nD τ sig (Elt F) Λ₀ .tc) PUnit.{1} := do
  let v31 : Vec F S11x128x384 .f32 ← Prog.lift (.load sc5 (Rect.unit (s := S11x128x384) ![0, 0, 0] S11x128x384.size inb_S11x128x384_S11x128x384_0_0_0).toLoadRect (View.loadsAt_vmem h_S11x128x384))
  Prog.lift (.store sc5 (Rect.unit (s := S11x128x384) ![0, 0, 0] S11x128x384.size inb_S11x128x384_S11x128x384_0_0_0) (k0_pay3 (F := F)) Finset.univ (View.stores_vmem_bits_univ h_S11x128x384 rfl) (.inl rfl))
  let v35 : Vec F S11x128x384 .f32 ← Prog.lift (.load sc6 (Rect.unit (s := S11x128x384) ![0, 0, 0] S11x128x384.size inb_S11x128x384_S11x128x384_0_0_0).toLoadRect (View.loadsAt_vmem h_S11x128x384))
  Prog.lift (.store sc6 (Rect.unit (s := S11x128x384) ![0, 0, 0] S11x128x384.size inb_S11x128x384_S11x128x384_0_0_0) (k0_pay4 (F := F)) Finset.univ (View.stores_vmem_bits_univ h_S11x128x384 rfl) (.inl rfl))
  let v39 : Vec F S11x128x384 .f32 ← Prog.lift (.load sc7 (Rect.unit (s := S11x128x384) ![0, 0, 0] S11x128x384.size inb_S11x128x384_S11x128x384_0_0_0).toLoadRect (View.loadsAt_vmem h_S11x128x384))
  Prog.lift (.store sc7 (Rect.unit (s := S11x128x384) ![0, 0, 0] S11x128x384.size inb_S11x128x384_S11x128x384_0_0_0) (k0_pay5 (F := F)) Finset.univ (View.stores_vmem_bits_univ h_S11x128x384 rfl) (.inl rfl))
  jp ⟨⟩

set_option cleanup.letToHave false in
/-- At a row block's first step: its row accumulators are cleared and its row values laid out. -/
def init (jp : PUnit.{1} → Prog (TpuEff nD τ sig (Elt F) Λ₀ .tc) PUnit.{1}) : Prog (TpuEff nD τ sig (Elt F) Λ₀ .tc) PUnit.{1} := do
  let arg0 : BitVec 32 := BitVec.ofNat 32 (i 0).val
  have v4 : IVec S1x128 32 := iota .tc S1x128 32 [1] iota_S1x128_d1_w32
  let ⟨v43, v45, cst_28, v63⟩ : Σ' (v43 : FVec F S384x128 .f32) (v45 : FVec F S384x128 .f32) (cst_28 : F .f32), IVec S1x128 1 ← k0_part1 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) arg0 v4 k0_pay1
  let v101 : FVec F S384x128 .f32 ← k0_part2 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) arg0 v4 k0_pay1 v43 v45 cst_28 v63
  let v106 : Vec F S1x384x128 .f32 ← Prog.lift (.load sc1 (Rect.unit (s := S2x384x128) ![1, 0, 0] S1x384x128.size inb_S2x384x128_S1x384x128_1_0_0).toLoadRect (View.loadsAt_vmem h_S1x384x128))
  Prog.lift (.store sc1 (Rect.unit (s := S2x384x128) ![1, 0, 0] S1x384x128.size inb_S2x384x128_S1x384x128_1_0_0) (k0_pay6 v101) Finset.univ (View.stores_vmem_bits_univ h_S1x384x128 rfl) (.inl rfl))
  let v112 : Vec F S1x384x128 .f32 ← Prog.lift (.load sc0 (Rect.unit (s := S2x384x128) ![1, 0, 0] S1x384x128.size inb_S2x384x128_S1x384x128_1_0_0).toLoadRect (View.loadsAt_vmem h_S1x384x128))
  Prog.lift (.store sc0 (Rect.unit (s := S2x384x128) ![1, 0, 0] S1x384x128.size inb_S2x384x128_S1x384x128_1_0_0) (k0_pay7 v45) Finset.univ (View.stores_vmem_bits_univ h_S1x384x128 rfl) (.inl rfl))
  jp ⟨⟩

set_option cleanup.letToHave false in
/-- A step on a block that the mask meets. -/
def masked (v1 v3 : BitVec 32) (k0_hw1 : k0_chk1 v1 v3) (k0_h3 : k0_cond3 v1 v3 = 1#1) (jp : PUnit.{1} → Prog (TpuEff nD τ sig (Elt F) Λ₀ .tc) PUnit.{1}) : Prog (TpuEff nD τ sig (Elt F) Λ₀ .tc) PUnit.{1} := do
  let arg0 : BitVec 32 := BitVec.ofNat 32 (i 0).val
  let ⟨v31, v33, v35, v37, v40, v42, v43, v44, v59, v60, v61, v62, v68⟩ : Σ' (v31 : FVec F S384x128 .bf16) (v33 : FVec F S128x384 .bf16) (v35 : FVec F S384x128 .bf16) (v37 : FVec F S384x128 .bf16) (v40 : FVec F S384x128 .bf16) (v42 : FVec F S128x384 .bf16) (v43 : FVec F S384x128 .bf16) (v44 : FVec F S16x384 .bf16) (v59 : IVec S384x384 1) (v60 : IVec S8x1 32) (v61 : IVec S1x128 1) (v62 : IVec S128x1 1), FVec F S384x384 .f32 ← k0_part3 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) v1 v3 k0_pay1 k0_pay2
  let ⟨v74, v80, v86, v98, v110⟩ : Σ' (v74 : FVec F S384x384 .f32) (v80 : FVec F S384x384 .f32) (v86 : FVec F S384x384 .f32) (v98 : FVec F S1x384 .f32), FVec F S1x384 .f32 ← k0_part4 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) arg0 k0_pay1 v31 v35 v37 v40 v60 v61
  let ⟨v116, v127, v131, v142, v146, v156, v157, v158⟩ : Σ' (v116 : FVec F S384x128 .f32) (v127 : FVec F S384x128 .bf16) (v131 : FVec F S384x128 .bf16) (v142 : FVec F S384x128 .bf16) (v146 : FVec F S384x128 .bf16) (v156 : FVec F S384x128 .f32) (v157 : FVec F S384x128 .bf16), FVec F S384x128 .f32 ← k0_part5 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) v59 v68 v80 v98
  let ⟨v162, v163, v167, v169, v180, v184, v195, v199, v204, v205, v206⟩ : Σ' (v162 : FVec F S384x384 .bf16) (v163 : FVec F S384x384 .bf16) (v167 : FVec F S384x128 .f32) (v169 : FVec F S384x128 .f32) (v180 : FVec F S384x128 .bf16) (v184 : FVec F S384x128 .bf16) (v195 : FVec F S384x128 .bf16) (v199 : FVec F S384x128 .bf16) (v204 : FVec F S384x128 .f32) (v205 : IVec S384x128 1), FVec F S384x128 .f32 ← k0_part6 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) v59 v74 v86 v110 v116 v127 v131 v142 v146 v156 v157 v158
  let ⟨v216, v222, v228, v235, v242, v249, v255⟩ : Σ' (v216 : FVec F S384x384 .bf16) (v222 : FVec F S128x384 .f32) (v228 : FVec F S128x384 .f32) (v235 : FVec F S144x384 .f32) (v242 : FVec F S144x384 .f32) (v249 : FVec F S384x256 .f32), FVec F S384x256 .bf16 ← k0_part7 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) k0_pay1 k0_pay2 v33 v35 v42 v43 v44 v61 v62 v86 v162 v163 v167 v169 v180 v184 v195 v199 v204 v205 v206
  let ⟨v256, v297⟩ : Σ' (v256 : FVec F S384x256 .f32), FVec F S1x8x384 .f32 ← k0_part8 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) v1 v3 k0_hw1 k0_h3 v60 v216 v222 v228 v235 v242 v255
  Prog.lift (.store sc7 (Rect.unit (s := S11x128x384) (k0_off3 v3) S1x8x384.size (k0_off3_inb v1 v3 k0_hw1 k0_h3)) v297 Finset.univ (View.stores_vmem_bits_univ h_S1x8x384 rfl) (.inl rfl))
  let v298 : Vec F S384x128 .f32 ← Prog.lift (.load sc3 (Rect.unit (s := S384x128) ![0, 0] S384x128.size inb_S384x128_S384x128_0_0).toLoadRect (View.loadsAt_vmem h_S384x128))
  let v303 : Vec F S384x128 .f32 ← Prog.lift (.load sc3 (Rect.unit (s := S384x128) ![0, 0] S384x128.size inb_S384x128_S384x128_0_0).toLoadRect (View.loadsAt_vmem h_S384x128))
  Prog.lift (.store sc3 (Rect.unit (s := S384x128) ![0, 0] S384x128.size inb_S384x128_S384x128_0_0) (k0_pay8 v249 v256 v298) Finset.univ (View.stores_vmem_bits_univ h_S384x128 rfl) (.inl rfl))
  let v306 : Vec F S1x384x128 .f32 ← Prog.lift (.load sc4 (Rect.unit (s := S2x384x128) ![0, 0, 0] S1x384x128.size inb_S2x384x128_S1x384x128_0_0_0).toLoadRect (View.loadsAt_vmem h_S1x384x128))
  let v310 : Vec F S1x384x128 .f32 ← Prog.lift (.load sc4 (Rect.unit (s := S2x384x128) ![0, 0, 0] S1x384x128.size inb_S2x384x128_S1x384x128_0_0_0).toLoadRect (View.loadsAt_vmem h_S1x384x128))
  Prog.lift (.store sc4 (Rect.unit (s := S2x384x128) ![0, 0, 0] S1x384x128.size inb_S2x384x128_S1x384x128_0_0_0) (k0_pay9 v249 v306) Finset.univ (View.stores_vmem_bits_univ h_S1x384x128 rfl) (.inl rfl))
  let v313 : Vec F S1x384x128 .f32 ← Prog.lift (.load sc4 (Rect.unit (s := S2x384x128) ![1, 0, 0] S1x384x128.size inb_S2x384x128_S1x384x128_1_0_0).toLoadRect (View.loadsAt_vmem h_S1x384x128))
  let v317 : Vec F S1x384x128 .f32 ← Prog.lift (.load sc4 (Rect.unit (s := S2x384x128) ![1, 0, 0] S1x384x128.size inb_S2x384x128_S1x384x128_1_0_0).toLoadRect (View.loadsAt_vmem h_S1x384x128))
  Prog.lift (.store sc4 (Rect.unit (s := S2x384x128) ![1, 0, 0] S1x384x128.size inb_S2x384x128_S1x384x128_1_0_0) (k0_pay10 v256 v313) Finset.univ (View.stores_vmem_bits_univ h_S1x384x128 rfl) (.inl rfl))
  jp ⟨⟩

set_option cleanup.letToHave false in
/-- A step on a block that the mask leaves whole. -/
def plain (v1 v3 : BitVec 32) (k0_hw1 : k0_chk1 v1 v3) (k0_h4 : k0_cond4 v1 v3 = 1#1) (jp : PUnit.{1} → Prog (TpuEff nD τ sig (Elt F) Λ₀ .tc) PUnit.{1}) : Prog (TpuEff nD τ sig (Elt F) Λ₀ .tc) PUnit.{1} := do
  let arg0 : BitVec 32 := BitVec.ofNat 32 (i 0).val
  let ⟨v33, v35, v37, v40, v42, v43, v44, v45, v46, v47, v53, v59, v65, v66⟩ : Σ' (v33 : FVec F S128x384 .bf16) (v35 : FVec F S384x128 .bf16) (v37 : FVec F S384x128 .bf16) (v40 : FVec F S384x128 .bf16) (v42 : FVec F S128x384 .bf16) (v43 : FVec F S384x128 .bf16) (v44 : FVec F S16x384 .bf16) (v45 : IVec S8x1 32) (v46 : IVec S1x128 1) (v47 : IVec S128x1 1) (v53 : FVec F S384x384 .f32) (v59 : FVec F S384x384 .f32) (v65 : FVec F S384x384 .f32), F .bf16 ← k0_part9 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) k0_pay1 k0_pay2
  let ⟨v71, v83, v95, v97, v99, v101, v103, v104⟩ : Σ' (v71 : FVec F S384x384 .f32) (v83 : FVec F S1x384 .f32) (v95 : FVec F S1x384 .f32) (v97 : FVec F S384x128 .f32) (v99 : FVec F S384x128 .f32) (v101 : FVec F S384x128 .f32) (v103 : FVec F S384x128 .f32), FVec F S1x128 .f32 ← k0_part10 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) arg0 v37 v40 v45 v46 v53 v66
  let ⟨v138, v139, v141, v143, v145, v152, v153, v155⟩ : Σ' (v138 : FVec F S384x384 .bf16) (v139 : FVec F S384x384 .bf16) (v141 : FVec F S384x128 .f32) (v143 : FVec F S384x128 .f32) (v145 : FVec F S384x128 .f32) (v152 : FVec F S384x128 .f32) (v153 : FVec F S384x128 .bf16), FVec F S384x128 .f32 ← k0_part11 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) v53 v59 v65 v71 v83 v95 v97 v99 v101 v103 v104
  let ⟨v183, v189, v195, v202, v208⟩ : Σ' (v183 : FVec F S384x384 .bf16) (v189 : FVec F S128x384 .f32) (v195 : FVec F S128x384 .f32) (v202 : FVec F S144x384 .f32), FVec F S144x384 .bf16 ← k0_part12 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) k0_pay2 v33 v42 v44 v47 v59 v71 v95 v138 v139 v141 v143 v145 v152 v153 v155
  let ⟨v209, v216, v223, v246, v248, v249, c1_i32_81⟩ : Σ' (v209 : FVec F S144x384 .f32) (v216 : FVec F S384x256 .f32) (v223 : FVec F S384x256 .f32) (v246 : FVec F S8x384 .f32) (v248 : IVec S8x1 1) (v249 : FVec F S8x384 .f32), BitVec 32 ← k0_part13 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) v1 v3 k0_hw1 k0_pay1 k0_h4 v35 v43 v45 v46 v139 v183 v189 v195 v202 v208
  k0_part14 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) v1 v3 k0_hw1 k0_h4 v45 v209 v216 v223 v246 v248 v249 c1_i32_81
  jp ⟨⟩

set_option cleanup.letToHave false in
/-- At a row block's last step: its gradients go out. -/
def out (jp : PUnit.{1} → Prog (TpuEff nD τ sig (Elt F) Λ₀ .tc) PUnit.{1}) : Prog (TpuEff nD τ sig (Elt F) Λ₀ .tc) PUnit.{1} := do
  let v30 : Vec F S384x128 .f32 ← Prog.lift (.load sc3 (Rect.unit (s := S384x128) ![0, 0] S384x128.size inb_S384x128_S384x128_0_0).toLoadRect (View.loadsAt_vmem h_S384x128))
  let v31 : Vec F S384x128 .f32 ← Prog.lift (.load arg14 (Rect.unit (s := S384x128) ![0, 0] S384x128.size inb_S384x128_S384x128_0_0).toLoadRect (View.loadsAt_vmem h_S384x128))
  Prog.lift (.store arg14 (Rect.unit (s := S384x128) ![0, 0] S384x128.size inb_S384x128_S384x128_0_0) v30 Finset.univ (View.stores_vmem_bits_univ h_S384x128 rfl) (.inl rfl))
  let v32 : Vec F S1x384x128 .f32 ← Prog.lift (.load sc4 (Rect.unit (s := S2x384x128) ![0, 0, 0] S1x384x128.size inb_S2x384x128_S1x384x128_0_0_0).toLoadRect (View.loadsAt_vmem h_S1x384x128))
  let v34 : Vec F S1x384x128 .f32 ← Prog.lift (.load sc4 (Rect.unit (s := S2x384x128) ![1, 0, 0] S1x384x128.size inb_S2x384x128_S1x384x128_1_0_0).toLoadRect (View.loadsAt_vmem h_S1x384x128))
  let v39 : Vec F S384x128 .f32 ← Prog.lift (.load arg15 (Rect.unit (s := S384x128) ![0, 0] S384x128.size inb_S384x128_S384x128_0_0).toLoadRect (View.loadsAt_vmem h_S384x128))
  Prog.lift (.store arg15 (Rect.unit (s := S384x128) ![0, 0] S384x128.size inb_S384x128_S384x128_0_0) (k0_pay11 v32 v34) Finset.univ (View.stores_vmem_bits_univ h_S384x128 rfl) (.inl rfl))
  jp ⟨⟩

set_option cleanup.letToHave false in
/-- At a pair's last step: the column accumulators go out, transposed. -/
def fin (jp : PUnit.{1} → Prog (TpuEff nD τ sig (Elt F) Λ₀ .tc) PUnit.{1}) : Prog (TpuEff nD τ sig (Elt F) Λ₀ .tc) PUnit.{1} := do
  let ⟨v58, v67⟩ : Σ' (v58 : FVec F S128x128 .f32), Vec F S1x128x384 .f32 ← k0_part15 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _)
  k0_part16 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) v58 v67
  let v117 : FVec F S384x128 .f32 ← k0_part17 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) v58
  k0_part18 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) v58 v117
  let v165 : FVec F S384x128 .f32 ← k0_part19 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) v58
  let v189 : Vec F S1x128x384 .f32 ← k0_part20 i tb0 (Memref.isWhole_whole _) tb1 (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) v58 v165
  let v192 : Vec F S384x128 .f32 ← Prog.lift (.load arg16 (Rect.unit (s := S4224x128) ![3840, 0] S384x128.size inb_S4224x128_S384x128_3840_0).toLoadRect (View.loadsAt_vmem h_S384x128))
  Prog.lift (.store arg16 (Rect.unit (s := S4224x128) ![3840, 0] S384x128.size inb_S4224x128_S384x128_3840_0) (k0_pay12 v189) Finset.univ (View.stores_vmem_bits_univ h_S384x128 rfl) (.inl rfl))
  let v193 : Vec F S1x128x384 .f32 ← Prog.lift (.load sc6 (Rect.unit (s := S11x128x384) ![10, 0, 0] S1x128x384.size inb_S11x128x384_S1x128x384_10_0_0).toLoadRect (View.loadsAt_vmem h_S1x128x384))
  let v196 : Vec F S384x128 .f32 ← Prog.lift (.load arg17 (Rect.unit (s := S4224x128) ![3840, 0] S384x128.size inb_S4224x128_S384x128_3840_0).toLoadRect (View.loadsAt_vmem h_S384x128))
  Prog.lift (.store arg17 (Rect.unit (s := S4224x128) ![3840, 0] S384x128.size inb_S4224x128_S384x128_3840_0) (k0_pay13 v193) Finset.univ (View.stores_vmem_bits_univ h_S384x128 rfl) (.inl rfl))
  let v197 : Vec F S1x128x384 .f32 ← Prog.lift (.load sc7 (Rect.unit (s := S11x128x384) ![10, 0, 0] S1x128x384.size inb_S11x128x384_S1x128x384_10_0_0).toLoadRect (View.loadsAt_vmem h_S1x128x384))
  let v201 : Vec F S384x128 .f32 ← Prog.lift (.load arg18 (Rect.unit (s := S4224x128) ![3840, 0] S384x128.size inb_S4224x128_S384x128_3840_0).toLoadRect (View.loadsAt_vmem h_S384x128))
  Prog.lift (.store arg18 (Rect.unit (s := S4224x128) ![3840, 0] S384x128.size inb_S4224x128_S384x128_3840_0) (k0_pay14 v58 v197) Finset.univ (View.stores_vmem_bits_univ h_S384x128 rfl) (.inl rfl))
  jp ⟨⟩

end

end Cert.Fox

end
-- ==== Proof.FoxRun.lean ====
/- What every stage of the body leaves in the buffers, and that it runs to it. -/
module

public import proofs.«01_k».proof.Proof.FoxBody

@[expose] public section

set_option maxRecDepth 16384
set_option synthInstance.maxSize 4096
set_option Elab.async false

noncomputable section

namespace Cert.Fox

open Cert.FoxBwdIdeal Cert.FoxBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg4 : Memref sig .tc .vmem S384x128 .bf16) (harg4 : arg4.IsWhole)
  (arg5 : Memref sig .tc .vmem S128x384 .bf16) (harg5 : arg5.IsWhole)
  (arg6 : Memref sig .tc .vmem S384x128 .bf16) (harg6 : arg6.IsWhole)
  (arg7 : Memref sig .tc .vmem S384x128 .bf16) (harg7 : arg7.IsWhole)
  (arg8 : Memref sig .tc .vmem S384x128 .f32) (harg8 : arg8.IsWhole)
  (arg9 : Memref sig .tc .vmem S8x384 .f32) (harg9 : arg9.IsWhole)
  (arg10 : Memref sig .tc .vmem S384x128 .bf16) (harg10 : arg10.IsWhole)
  (arg11 : Memref sig .tc .vmem S384x128 .f32) (harg11 : arg11.IsWhole)
  (arg12 : Memref sig .tc .vmem S384x128 .f32) (harg12 : arg12.IsWhole)
  (arg13 : Memref sig .tc .vmem S128x384 .bf16) (harg13 : arg13.IsWhole)
  (arg14 : Memref sig .tc .vmem S384x128 .f32) (harg14 : arg14.IsWhole)
  (arg15 : Memref sig .tc .vmem S384x128 .f32) (harg15 : arg15.IsWhole)
  (arg16 : Memref sig .tc .vmem S4224x128 .f32) (harg16 : arg16.IsWhole)
  (arg17 : Memref sig .tc .vmem S4224x128 .f32) (harg17 : arg17.IsWhole)
  (arg18 : Memref sig .tc .vmem S4224x128 .f32) (harg18 : arg18.IsWhole)

set_option backward.proofsInPublic true in
set_option maxHeartbeats 8000000 in
/-- Stage `zero`: the cleared accumulators, with the run to them. -/
def zeroRun  (a5 : Buf (Elt F) (sc5.view.loc (c : Thread nD τ))) (a6 : Buf (Elt F) (sc6.view.loc (c : Thread nD τ))) (a7 : Buf (Elt F) (sc7.view.loc (c : Thread nD τ)))   :
    Σ' (o5 : Buf (Elt F) (sc5.view.loc (c : Thread nD τ))) (o6 : Buf (Elt F) (sc6.view.loc (c : Thread nD τ))) (o7 : Buf (Elt F) (sc7.view.loc (c : Thread nD τ))), ∀ (jp : PUnit.{1} → Prog (TpuEff nD τ sig (Elt F) Λ₀ .tc) PUnit.{1}) (Q : PUnit.{1} → sProp 𝕄),
      iprop(scrB c sc5 a5 ∗ scrB c sc6 a6 ∗ scrB c sc7 a7
        ∗ (iprop(scrB c sc5 o5 ∗ scrB c sc6 o6 ∗ scrB c sc7 o7)
          -∗ wp frame (wpE (defs₀ (F := F)) Variants.none c none) Set.univ (jp ⟨⟩) Q))
      ⊢ wp frame (wpE (defs₀ (F := F)) Variants.none c none) Set.univ (zero jp) Q :=
  ⟨_, _, _, fun jp Q => by
    unfold zero
    iintro ⟨HS5, HS6, HS7, Hk⟩
    have hS5 : sc5.IsWhole := Memref.isWhole_whole _
    have hS6 : sc6.IsWhole := Memref.isWhole_whole _
    have hS7 : sc7.IsWhole := Memref.isWhole_whole _
    sl_exec!
    iapply Hk
    isplitl [HS5]; · iexact HS5
    isplitl [HS6]; · iexact HS6
    iexact HS7⟩

set_option backward.proofsInPublic true in
set_option maxHeartbeats 8000000 in
/-- Stage `init`: the row accumulators and the row values, with the run to them. -/
def initRun (x4 : S384x128.Idx → Elt F .f32) (x6 : S384x128.Idx → Elt F .bf16) (x7 : S384x128.Idx → Elt F .f32) (x8 : S384x128.Idx → Elt F .f32) (a0 : Buf (Elt F) (sc0.view.loc (c : Thread nD τ))) (a1 : Buf (Elt F) (sc1.view.loc (c : Thread nD τ))) (a2 : Buf (Elt F) (sc2.view.loc (c : Thread nD τ))) (a3 : Buf (Elt F) (sc3.view.loc (c : Thread nD τ))) (a4 : Buf (Elt F) (sc4.view.loc (c : Thread nD τ)))   :
    Σ' (o0 : Buf (Elt F) (sc0.view.loc (c : Thread nD τ))) (o1 : Buf (Elt F) (sc1.view.loc (c : Thread nD τ))) (o2 : Buf (Elt F) (sc2.view.loc (c : Thread nD τ))) (o3 : Buf (Elt F) (sc3.view.loc (c : Thread nD τ))) (o4 : Buf (Elt F) (sc4.view.loc (c : Thread nD τ))), ∀ (jp : PUnit.{1} → Prog (TpuEff nD τ sig (Elt F) Λ₀ .tc) PUnit.{1}) (Q : PUnit.{1} → sProp 𝕄),
      iprop(blkB c arg8 x4 ∗ blkB c arg10 x6 ∗ blkB c arg11 x7 ∗ blkB c arg12 x8 ∗ scrB c sc0 a0 ∗ scrB c sc1 a1 ∗ scrB c sc2 a2 ∗ scrB c sc3 a3 ∗ scrB c sc4 a4
        ∗ (iprop(blkB c arg8 x4 ∗ blkB c arg10 x6 ∗ blkB c arg11 x7 ∗ blkB c arg12 x8 ∗ scrB c sc0 o0 ∗ scrB c sc1 o1 ∗ scrB c sc2 o2 ∗ scrB c sc3 o3 ∗ scrB c sc4 o4)
          -∗ wp frame (wpE (defs₀ (F := F)) Variants.none c none) Set.univ (jp ⟨⟩) Q))
      ⊢ wp frame (wpE (defs₀ (F := F)) Variants.none c none) Set.univ (init i arg4 harg4 arg5 harg5 arg6 harg6 arg7 harg7 arg8 harg8 arg9 harg9 arg10 harg10 arg11 harg11 arg12 harg12 arg13 harg13 arg14 harg14 arg15 harg15 arg16 harg16 arg17 harg17 arg18 harg18 jp) Q :=
  ⟨_, _, _, _, _, fun jp Q => by
    unfold init
    iintro ⟨HI8, HI10, HI11, HI12, HS0, HS1, HS2, HS3, HS4, Hk⟩
    have hS0 : sc0.IsWhole := Memref.isWhole_whole _
    have hS1 : sc1.IsWhole := Memref.isWhole_whole _
    have hS2 : sc2.IsWhole := Memref.isWhole_whole _
    have hS3 : sc3.IsWhole := Memref.isWhole_whole _
    have hS4 : sc4.IsWhole := Memref.isWhole_whole _
    sl_exec!
    iapply Hk
    isplitl [HI8]; · iexact HI8
    isplitl [HI10]; · iexact HI10
    isplitl [HI11]; · iexact HI11
    isplitl [HI12]; · iexact HI12
    isplitl [HS0]; · iexact HS0
    isplitl [HS1]; · iexact HS1
    isplitl [HS2]; · iexact HS2
    isplitl [HS3]; · iexact HS3
    iexact HS4⟩

set_option backward.proofsInPublic true in
set_option maxHeartbeats 8000000 in
/-- Stage `masked`: the accumulators after a masked step, with the run to them. -/
def maskedRun (x0 : S384x128.Idx → Elt F .bf16) (x1 : S128x384.Idx → Elt F .bf16) (x2 : S384x128.Idx → Elt F .bf16) (x3 : S384x128.Idx → Elt F .bf16) (x5 : S8x384.Idx → Elt F .f32) (x8 : S384x128.Idx → Elt F .f32) (x9 : S128x384.Idx → Elt F .bf16) (a0 : Buf (Elt F) (sc0.view.loc (c : Thread nD τ))) (a1 : Buf (Elt F) (sc1.view.loc (c : Thread nD τ))) (a2 : Buf (Elt F) (sc2.view.loc (c : Thread nD τ))) (a3 : Buf (Elt F) (sc3.view.loc (c : Thread nD τ))) (a4 : Buf (Elt F) (sc4.view.loc (c : Thread nD τ))) (a5 : Buf (Elt F) (sc5.view.loc (c : Thread nD τ))) (a6 : Buf (Elt F) (sc6.view.loc (c : Thread nD τ))) (a7 : Buf (Elt F) (sc7.view.loc (c : Thread nD τ)))  (v1 v3 : BitVec 32) (k0_hw1 : k0_chk1 v1 v3) (k0_h3 : k0_cond3 v1 v3 = 1#1) :
    Σ' (o3 : Buf (Elt F) (sc3.view.loc (c : Thread nD τ))) (o4 : Buf (Elt F) (sc4.view.loc (c : Thread nD τ))) (o5 : Buf (Elt F) (sc5.view.loc (c : Thread nD τ))) (o6 : Buf (Elt F) (sc6.view.loc (c : Thread nD τ))) (o7 : Buf (Elt F) (sc7.view.loc (c : Thread nD τ))), ∀ (jp : PUnit.{1} → Prog (TpuEff nD τ sig (Elt F) Λ₀ .tc) PUnit.{1}) (Q : PUnit.{1} → sProp 𝕄),
      iprop(blkB c arg4 x0 ∗ blkB c arg5 x1 ∗ blkB c arg6 x2 ∗ blkB c arg7 x3 ∗ blkB c arg9 x5 ∗ blkB c arg12 x8 ∗ blkB c arg13 x9 ∗ scrB c sc0 a0 ∗ scrB c sc1 a1 ∗ scrB c sc2 a2 ∗ scrB c sc3 a3 ∗ scrB c sc4 a4 ∗ scrB c sc5 a5 ∗ scrB c sc6 a6 ∗ scrB c sc7 a7
        ∗ (iprop(blkB c arg4 x0 ∗ blkB c arg5 x1 ∗ blkB c arg6 x2 ∗ blkB c arg7 x3 ∗ blkB c arg9 x5 ∗ blkB c arg12 x8 ∗ blkB c arg13 x9 ∗ scrB c sc0 a0 ∗ scrB c sc1 a1 ∗ scrB c sc2 a2 ∗ scrB c sc3 o3 ∗ scrB c sc4 o4 ∗ scrB c sc5 o5 ∗ scrB c sc6 o6 ∗ scrB c sc7 o7)
          -∗ wp frame (wpE (defs₀ (F := F)) Variants.none c none) Set.univ (jp ⟨⟩) Q))
      ⊢ wp frame (wpE (defs₀ (F := F)) Variants.none c none) Set.univ (masked i arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 k0_hw1 k0_h3 jp) Q :=
  ⟨_, _, _, _, _, fun jp Q => by
    unfold masked
    iintro ⟨HI4, HI5, HI6, HI7, HI9, HI12, HI13, HS0, HS1, HS2, HS3, HS4, HS5, HS6, HS7, Hk⟩
    have hS0 : sc0.IsWhole := Memref.isWhole_whole _
    have hS1 : sc1.IsWhole := Memref.isWhole_whole _
    have hS2 : sc2.IsWhole := Memref.isWhole_whole _
    have hS3 : sc3.IsWhole := Memref.isWhole_whole _
    have hS4 : sc4.IsWhole := Memref.isWhole_whole _
    have hS5 : sc5.IsWhole := Memref.isWhole_whole _
    have hS6 : sc6.IsWhole := Memref.isWhole_whole _
    have hS7 : sc7.IsWhole := Memref.isWhole_whole _
    sl_exec!
    iapply Hk
    isplitl [HI4]; · iexact HI4
    isplitl [HI5]; · iexact HI5
    isplitl [HI6]; · iexact HI6
    isplitl [HI7]; · iexact HI7
    isplitl [HI9]; · iexact HI9
    isplitl [HI12]; · iexact HI12
    isplitl [HI13]; · iexact HI13
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7⟩

set_option backward.proofsInPublic true in
set_option maxHeartbeats 8000000 in
/-- Stage `plain`: the accumulators after an unmasked step, with the run to them. -/
def plainRun (x0 : S384x128.Idx → Elt F .bf16) (x1 : S128x384.Idx → Elt F .bf16) (x2 : S384x128.Idx → Elt F .bf16) (x3 : S384x128.Idx → Elt F .bf16) (x5 : S8x384.Idx → Elt F .f32) (x8 : S384x128.Idx → Elt F .f32) (x9 : S128x384.Idx → Elt F .bf16) (a0 : Buf (Elt F) (sc0.view.loc (c : Thread nD τ))) (a1 : Buf (Elt F) (sc1.view.loc (c : Thread nD τ))) (a2 : Buf (Elt F) (sc2.view.loc (c : Thread nD τ))) (a3 : Buf (Elt F) (sc3.view.loc (c : Thread nD τ))) (a4 : Buf (Elt F) (sc4.view.loc (c : Thread nD τ))) (a5 : Buf (Elt F) (sc5.view.loc (c : Thread nD τ))) (a6 : Buf (Elt F) (sc6.view.loc (c : Thread nD τ))) (a7 : Buf (Elt F) (sc7.view.loc (c : Thread nD τ)))  (v1 v3 : BitVec 32) (k0_hw1 : k0_chk1 v1 v3) (k0_h4 : k0_cond4 v1 v3 = 1#1) :
    Σ' (o3 : Buf (Elt F) (sc3.view.loc (c : Thread nD τ))) (o4 : Buf (Elt F) (sc4.view.loc (c : Thread nD τ))) (o5 : Buf (Elt F) (sc5.view.loc (c : Thread nD τ))) (o6 : Buf (Elt F) (sc6.view.loc (c : Thread nD τ))) (o7 : Buf (Elt F) (sc7.view.loc (c : Thread nD τ))), ∀ (jp : PUnit.{1} → Prog (TpuEff nD τ sig (Elt F) Λ₀ .tc) PUnit.{1}) (Q : PUnit.{1} → sProp 𝕄),
      iprop(blkB c arg4 x0 ∗ blkB c arg5 x1 ∗ blkB c arg6 x2 ∗ blkB c arg7 x3 ∗ blkB c arg9 x5 ∗ blkB c arg12 x8 ∗ blkB c arg13 x9 ∗ scrB c sc0 a0 ∗ scrB c sc1 a1 ∗ scrB c sc2 a2 ∗ scrB c sc3 a3 ∗ scrB c sc4 a4 ∗ scrB c sc5 a5 ∗ scrB c sc6 a6 ∗ scrB c sc7 a7
        ∗ (iprop(blkB c arg4 x0 ∗ blkB c arg5 x1 ∗ blkB c arg6 x2 ∗ blkB c arg7 x3 ∗ blkB c arg9 x5 ∗ blkB c arg12 x8 ∗ blkB c arg13 x9 ∗ scrB c sc0 a0 ∗ scrB c sc1 a1 ∗ scrB c sc2 a2 ∗ scrB c sc3 o3 ∗ scrB c sc4 o4 ∗ scrB c sc5 o5 ∗ scrB c sc6 o6 ∗ scrB c sc7 o7)
          -∗ wp frame (wpE (defs₀ (F := F)) Variants.none c none) Set.univ (jp ⟨⟩) Q))
      ⊢ wp frame (wpE (defs₀ (F := F)) Variants.none c none) Set.univ (plain i arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 k0_hw1 k0_h4 jp) Q :=
  ⟨_, _, _, _, _, fun jp Q => by
    unfold plain
    iintro ⟨HI4, HI5, HI6, HI7, HI9, HI12, HI13, HS0, HS1, HS2, HS3, HS4, HS5, HS6, HS7, Hk⟩
    have hS0 : sc0.IsWhole := Memref.isWhole_whole _
    have hS1 : sc1.IsWhole := Memref.isWhole_whole _
    have hS2 : sc2.IsWhole := Memref.isWhole_whole _
    have hS3 : sc3.IsWhole := Memref.isWhole_whole _
    have hS4 : sc4.IsWhole := Memref.isWhole_whole _
    have hS5 : sc5.IsWhole := Memref.isWhole_whole _
    have hS6 : sc6.IsWhole := Memref.isWhole_whole _
    have hS7 : sc7.IsWhole := Memref.isWhole_whole _
    sl_exec!
    iapply Hk
    isplitl [HI4]; · iexact HI4
    isplitl [HI5]; · iexact HI5
    isplitl [HI6]; · iexact HI6
    isplitl [HI7]; · iexact HI7
    isplitl [HI9]; · iexact HI9
    isplitl [HI12]; · iexact HI12
    isplitl [HI13]; · iexact HI13
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7⟩

set_option backward.proofsInPublic true in
set_option maxHeartbeats 8000000 in
/-- Stage `out`: the row block's gradients, with the run to them. -/
def outRun  (a3 : Buf (Elt F) (sc3.view.loc (c : Thread nD τ))) (a4 : Buf (Elt F) (sc4.view.loc (c : Thread nD τ))) (f14 : Buf (Elt F) (arg14.view.loc (c : Thread nD τ))) (f15 : Buf (Elt F) (arg15.view.loc (c : Thread nD τ)))  :
    Σ' (z14 : Buf (Elt F) (arg14.view.loc (c : Thread nD τ))) (z15 : Buf (Elt F) (arg15.view.loc (c : Thread nD τ))), ∀ (jp : PUnit.{1} → Prog (TpuEff nD τ sig (Elt F) Λ₀ .tc) PUnit.{1}) (Q : PUnit.{1} → sProp 𝕄),
      iprop(outB c arg14 f14 ∗ outB c arg15 f15 ∗ scrB c sc3 a3 ∗ scrB c sc4 a4
        ∗ (iprop(outB c arg14 z14 ∗ outB c arg15 z15 ∗ scrB c sc3 a3 ∗ scrB c sc4 a4)
          -∗ wp frame (wpE (defs₀ (F := F)) Variants.none c none) Set.univ (jp ⟨⟩) Q))
      ⊢ wp frame (wpE (defs₀ (F := F)) Variants.none c none) Set.univ (out arg14 arg15 jp) Q :=
  ⟨_, _, fun jp Q => by
    unfold out
    iintro ⟨HO14, HO15, HS3, HS4, Hk⟩
    have hS3 : sc3.IsWhole := Memref.isWhole_whole _
    have hS4 : sc4.IsWhole := Memref.isWhole_whole _
    sl_exec!
    iapply Hk
    isplitl [HO14]; · iexact HO14
    isplitl [HO15]; · iexact HO15
    isplitl [HS3]; · iexact HS3
    iexact HS4⟩

set_option backward.proofsInPublic true in
set_option maxHeartbeats 8000000 in
/-- Stage `fin`: the pair's column gradients, with the run to them. -/
def finRun  (a5 : Buf (Elt F) (sc5.view.loc (c : Thread nD τ))) (a6 : Buf (Elt F) (sc6.view.loc (c : Thread nD τ))) (a7 : Buf (Elt F) (sc7.view.loc (c : Thread nD τ))) (f16 : Buf (Elt F) (arg16.view.loc (c : Thread nD τ))) (f17 : Buf (Elt F) (arg17.view.loc (c : Thread nD τ))) (f18 : Buf (Elt F) (arg18.view.loc (c : Thread nD τ)))  :
    Σ' (z16 : Buf (Elt F) (arg16.view.loc (c : Thread nD τ))) (z17 : Buf (Elt F) (arg17.view.loc (c : Thread nD τ))) (z18 : Buf (Elt F) (arg18.view.loc (c : Thread nD τ))), ∀ (jp : PUnit.{1} → Prog (TpuEff nD τ sig (Elt F) Λ₀ .tc) PUnit.{1}) (Q : PUnit.{1} → sProp 𝕄),
      iprop(outB c arg16 f16 ∗ outB c arg17 f17 ∗ outB c arg18 f18 ∗ scrB c sc5 a5 ∗ scrB c sc6 a6 ∗ scrB c sc7 a7
        ∗ (iprop(outB c arg16 z16 ∗ outB c arg17 z17 ∗ outB c arg18 z18 ∗ scrB c sc5 a5 ∗ scrB c sc6 a6 ∗ scrB c sc7 a7)
          -∗ wp frame (wpE (defs₀ (F := F)) Variants.none c none) Set.univ (jp ⟨⟩) Q))
      ⊢ wp frame (wpE (defs₀ (F := F)) Variants.none c none) Set.univ (fin i arg4 harg4 arg5 harg5 arg6 harg6 arg7 harg7 arg8 harg8 arg9 harg9 arg10 harg10 arg11 harg11 arg12 harg12 arg13 harg13 arg14 harg14 arg15 harg15 arg16 harg16 arg17 harg17 arg18 harg18 jp) Q :=
  ⟨_, _, _, fun jp Q => by
    unfold fin
    iintro ⟨HO16, HO17, HO18, HS5, HS6, HS7, Hk⟩
    have hS5 : sc5.IsWhole := Memref.isWhole_whole _
    have hS6 : sc6.IsWhole := Memref.isWhole_whole _
    have hS7 : sc7.IsWhole := Memref.isWhole_whole _
    sl_exec!
    iapply Hk
    isplitl [HO16]; · iexact HO16
    isplitl [HO17]; · iexact HO17
    isplitl [HO18]; · iexact HO18
    isplitl [HS5]; · iexact HS5
    isplitl [HS6]; · iexact HS6
    iexact HS7⟩

end Cert.Fox

end
-- ==== Proof.FoxStep.lean ====
/- One run of the body: its six stages one after the other, as functions of what the buffers hold. -/
module

public import proofs.«01_k».proof.Proof.FoxRun

@[expose] public section

set_option maxRecDepth 16384
set_option synthInstance.maxSize 4096
set_option Elab.async false

noncomputable section

namespace Cert.Fox

open Cert.FoxBwdIdeal Cert.FoxBwdIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The blocks a step is handed, where they are staged. -/
structure Mems where
  a4 : Memref sig .tc .vmem S384x128 .bf16
  h4 : a4.IsWhole
  a5 : Memref sig .tc .vmem S128x384 .bf16
  h5 : a5.IsWhole
  a6 : Memref sig .tc .vmem S384x128 .bf16
  h6 : a6.IsWhole
  a7 : Memref sig .tc .vmem S384x128 .bf16
  h7 : a7.IsWhole
  a8 : Memref sig .tc .vmem S384x128 .f32
  h8 : a8.IsWhole
  a9 : Memref sig .tc .vmem S8x384 .f32
  h9 : a9.IsWhole
  a10 : Memref sig .tc .vmem S384x128 .bf16
  h10 : a10.IsWhole
  a11 : Memref sig .tc .vmem S384x128 .f32
  h11 : a11.IsWhole
  a12 : Memref sig .tc .vmem S384x128 .f32
  h12 : a12.IsWhole
  a13 : Memref sig .tc .vmem S128x384 .bf16
  h13 : a13.IsWhole
  a14 : Memref sig .tc .vmem S384x128 .f32
  h14 : a14.IsWhole
  a15 : Memref sig .tc .vmem S384x128 .f32
  h15 : a15.IsWhole
  a16 : Memref sig .tc .vmem S4224x128 .f32
  h16 : a16.IsWhole
  a17 : Memref sig .tc .vmem S4224x128 .f32
  h17 : a17.IsWhole
  a18 : Memref sig .tc .vmem S4224x128 .f32
  h18 : a18.IsWhole

/-- The contents of the input blocks. -/
structure Blk (F : FTy → Type) where
  x0 : S384x128.Idx → Elt F .bf16
  x1 : S128x384.Idx → Elt F .bf16
  x2 : S384x128.Idx → Elt F .bf16
  x3 : S384x128.Idx → Elt F .bf16
  x4 : S384x128.Idx → Elt F .f32
  x5 : S8x384.Idx → Elt F .f32
  x6 : S384x128.Idx → Elt F .bf16
  x7 : S384x128.Idx → Elt F .f32
  x8 : S384x128.Idx → Elt F .f32
  x9 : S128x384.Idx → Elt F .bf16

/-- The contents of the scratch buffers. -/
def Scr (F : FTy → Type) (c : Dev nD) : Type := Buf (Elt F) (sc0.view.loc (c : Thread nD τ)) × Buf (Elt F) (sc1.view.loc (c : Thread nD τ)) × Buf (Elt F) (sc2.view.loc (c : Thread nD τ)) × Buf (Elt F) (sc3.view.loc (c : Thread nD τ)) × Buf (Elt F) (sc4.view.loc (c : Thread nD τ)) × Buf (Elt F) (sc5.view.loc (c : Thread nD τ)) × Buf (Elt F) (sc6.view.loc (c : Thread nD τ)) × Buf (Elt F) (sc7.view.loc (c : Thread nD τ))
def Scr.s0 {c : Dev nD} (s : Scr F c) : Buf (Elt F) (sc0.view.loc (c : Thread nD τ)) := s.1
def Scr.s1 {c : Dev nD} (s : Scr F c) : Buf (Elt F) (sc1.view.loc (c : Thread nD τ)) := s.2.1
def Scr.s2 {c : Dev nD} (s : Scr F c) : Buf (Elt F) (sc2.view.loc (c : Thread nD τ)) := s.2.2.1
def Scr.s3 {c : Dev nD} (s : Scr F c) : Buf (Elt F) (sc3.view.loc (c : Thread nD τ)) := s.2.2.2.1
def Scr.s4 {c : Dev nD} (s : Scr F c) : Buf (Elt F) (sc4.view.loc (c : Thread nD τ)) := s.2.2.2.2.1
def Scr.s5 {c : Dev nD} (s : Scr F c) : Buf (Elt F) (sc5.view.loc (c : Thread nD τ)) := s.2.2.2.2.2.1
def Scr.s6 {c : Dev nD} (s : Scr F c) : Buf (Elt F) (sc6.view.loc (c : Thread nD τ)) := s.2.2.2.2.2.2.1
def Scr.s7 {c : Dev nD} (s : Scr F c) : Buf (Elt F) (sc7.view.loc (c : Thread nD τ)) := s.2.2.2.2.2.2.2

/-- The contents of the output blocks. -/
def Outs (F : FTy → Type) (c : Dev nD) (M : Mems) : Type := Buf (Elt F) (M.a14.view.loc (c : Thread nD τ)) × Buf (Elt F) (M.a15.view.loc (c : Thread nD τ)) × Buf (Elt F) (M.a16.view.loc (c : Thread nD τ)) × Buf (Elt F) (M.a17.view.loc (c : Thread nD τ)) × Buf (Elt F) (M.a18.view.loc (c : Thread nD τ))
def Outs.f14 {c : Dev nD} {M : Mems} (f : Outs F c M) : Buf (Elt F) (M.a14.view.loc (c : Thread nD τ)) := f.1
def Outs.f15 {c : Dev nD} {M : Mems} (f : Outs F c M) : Buf (Elt F) (M.a15.view.loc (c : Thread nD τ)) := f.2.1
def Outs.f16 {c : Dev nD} {M : Mems} (f : Outs F c M) : Buf (Elt F) (M.a16.view.loc (c : Thread nD τ)) := f.2.2.1
def Outs.f17 {c : Dev nD} {M : Mems} (f : Outs F c M) : Buf (Elt F) (M.a17.view.loc (c : Thread nD τ)) := f.2.2.2.1
def Outs.f18 {c : Dev nD} {M : Mems} (f : Outs F c M) : Buf (Elt F) (M.a18.view.loc (c : Thread nD τ)) := f.2.2.2.2

variable (c : Dev nD) (i : grid0.Coords) (M : Mems) (v1 v3 : BitVec 32) (hw : k0_chk1 v1 v3)

/-- Every block and buffer of a step held at its contents. -/
def Held (x : Blk F) (f : Outs F c M) (s : Scr F c) : sProp 𝕄 :=
  iprop(blkB c M.a4 x.x0 ∗ blkB c M.a5 x.x1 ∗ blkB c M.a6 x.x2 ∗ blkB c M.a7 x.x3 ∗ blkB c M.a8 x.x4 ∗ blkB c M.a9 x.x5 ∗ blkB c M.a10 x.x6 ∗ blkB c M.a11 x.x7 ∗ blkB c M.a12 x.x8 ∗ blkB c M.a13 x.x9 ∗ outB c M.a14 f.f14 ∗ outB c M.a15 f.f15 ∗ outB c M.a16 f.f16 ∗ outB c M.a17 f.f17 ∗ outB c M.a18 f.f18 ∗ scrB c sc0 s.s0 ∗ scrB c sc1 s.s1 ∗ scrB c sc2 s.s2 ∗ scrB c sc3 s.s3 ∗ scrB c sc4 s.s4 ∗ scrB c sc5 s.s5 ∗ scrB c sc6 s.s6 ∗ scrB c sc7 s.s7)

/-! ### The stages as functions -/

open Classical in
/-- Stage `zero` on the scratch buffers. -/
def zeroS (s : Scr F c) : Scr F c :=
  if h : (Scalar.cmpi .ne (Scalar.extui (Scalar.cmpi .eq (BitVec.ofNat 32 (i 1).val) 0#32)) 0#32) = 1#1 then ⟨s.s0, s.s1, s.s2, s.s3, s.s4, (zeroRun c s.s5 s.s6 s.s7).1, (zeroRun c s.s5 s.s6 s.s7).2.1, (zeroRun c s.s5 s.s6 s.s7).2.2.1⟩ else s

open Classical in
/-- Stage `init` on the scratch buffers. -/
def initS (x : Blk F) (s : Scr F c) : Scr F c :=
  if h : (Scalar.cmpi .ne (Scalar.extui (Scalar.cmpi .eq v3 0#32)) 0#32) = 1#1 then ⟨(initRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x4 x.x6 x.x7 x.x8 s.s0 s.s1 s.s2 s.s3 s.s4).1, (initRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x4 x.x6 x.x7 x.x8 s.s0 s.s1 s.s2 s.s3 s.s4).2.1, (initRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x4 x.x6 x.x7 x.x8 s.s0 s.s1 s.s2 s.s3 s.s4).2.2.1, (initRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x4 x.x6 x.x7 x.x8 s.s0 s.s1 s.s2 s.s3 s.s4).2.2.2.1, (initRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x4 x.x6 x.x7 x.x8 s.s0 s.s1 s.s2 s.s3 s.s4).2.2.2.2.1, s.s5, s.s6, s.s7⟩ else s

open Classical in
/-- Stage `masked` on the scratch buffers. -/
def maskedS (x : Blk F) (s : Scr F c) : Scr F c :=
  if h : k0_cond3 v1 v3 = 1#1 then ⟨s.s0, s.s1, s.s2, (maskedRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).1, (maskedRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).2.1, (maskedRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).2.2.1, (maskedRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).2.2.2.1, (maskedRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).2.2.2.2.1⟩ else s

open Classical in
/-- Stage `plain` on the scratch buffers. -/
def plainS (x : Blk F) (s : Scr F c) : Scr F c :=
  if h : k0_cond4 v1 v3 = 1#1 then ⟨s.s0, s.s1, s.s2, (plainRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).1, (plainRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).2.1, (plainRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).2.2.1, (plainRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).2.2.2.1, (plainRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).2.2.2.2.1⟩ else s

open Classical in
/-- Stage `out` on the output blocks. -/
def outS (f : Outs F c M) (s : Scr F c) : Outs F c M :=
  if h : k0_cond5 v1 v3 = 1#1 then ⟨(outRun c M.a14 M.h14 M.a15 M.h15 s.s3 s.s4 f.f14 f.f15).1, (outRun c M.a14 M.h14 M.a15 M.h15 s.s3 s.s4 f.f14 f.f15).2.1, f.f16, f.f17, f.f18⟩ else f

open Classical in
/-- Stage `fin` on the output blocks. -/
def finS (f : Outs F c M) (s : Scr F c) : Outs F c M :=
  if h : k0_cond6 i = 1#1 then ⟨f.f14, f.f15, (finRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 s.s5 s.s6 s.s7 f.f16 f.f17 f.f18).1, (finRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 s.s5 s.s6 s.s7 f.f16 f.f17 f.f18).2.1, (finRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 s.s5 s.s6 s.s7 f.f16 f.f17 f.f18).2.2.1⟩ else f

/-! ### The body as its stages -/

def st6 (_ : PUnit.{1}) : Prog (TpuEff nD τ sig (Elt F) Λ₀ .tc) PUnit.{1} :=
  if k0_h6 : k0_cond6 i = 1#1 then fin i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 (fun _ : PUnit.{1} => pure ⟨⟩) else pure ⟨⟩
def st5 (_ : PUnit.{1}) : Prog (TpuEff nD τ sig (Elt F) Λ₀ .tc) PUnit.{1} :=
  if k0_cond5 v1 v3 = 1#1 then out M.a14 M.a15 (st6 i M) else st6 i M ⟨⟩
def st4 (_ : PUnit.{1}) : Prog (TpuEff nD τ sig (Elt F) Λ₀ .tc) PUnit.{1} :=
  if h : k0_cond4 v1 v3 = 1#1 then plain i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 v1 v3 hw h (st5 i M v1 v3) else st5 i M v1 v3 ⟨⟩
def st3 (_ : PUnit.{1}) : Prog (TpuEff nD τ sig (Elt F) Λ₀ .tc) PUnit.{1} :=
  if h : k0_cond3 v1 v3 = 1#1 then masked i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 v1 v3 hw h (st4 i M v1 v3 hw) else st4 i M v1 v3 hw ⟨⟩
def st2 (_ : PUnit.{1}) : Prog (TpuEff nD τ sig (Elt F) Λ₀ .tc) PUnit.{1} :=
  if (Scalar.cmpi .ne (Scalar.extui (Scalar.cmpi .eq v3 0#32)) 0#32) = 1#1 then init i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 (st3 i M v1 v3 hw) else st3 i M v1 v3 hw ⟨⟩
def st1 (_ : PUnit.{1}) : Prog (TpuEff nD τ sig (Elt F) Λ₀ .tc) PUnit.{1} :=
  if h : (Scalar.cmpi .ne (Scalar.extui (Scalar.cmpi .eq (BitVec.ofNat 32 (i 1).val) 0#32)) 0#32) = 1#1 then zero (st2 i M v1 v3 hw) else st2 i M v1 v3 hw ⟨⟩

/-- The words read, their check, and the stages. -/
def staged : Prog (TpuEff nD τ sig (Elt F) Λ₀ .tc) PUnit.{1} := do
  let v1 : Elt F .i32 ← smemLoad tb0 (Rect.unit (s := S66) (k0_off1 i) S1.size (k0_off1_inb i)) numel1_S1 rfl
  let v3 : Elt F .i32 ← smemLoad tb1 (Rect.unit (s := S66) (k0_off1 i) S1.size (k0_off1_inb i)) numel1_S1 rfl
  have k0_hw1 : k0_chk1 v1 v3 := (← Prog.lift (TpuEff.assume (k0_chk1 v1 v3) (k0_chk1.dec v1 v3))).down
  st1 i M v1 v3 k0_hw1 ⟨⟩

theorem body_eq : cc0_fox_bwd (F := F) i tb0 (Memref.isWhole_whole _) tb1 (Memref.isWhole_whole _) M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18
    sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) = staged i M := by
  rw [cc0_fox_bwd_eq_skeleton]; rfl

/-! ### The run -/

variable (x : Blk F) (f : Outs F c M) (s : Scr F c)

set_option maxHeartbeats 4000000 in
theorem st1_run (Q : PUnit.{1} → sProp 𝕄) : iprop(Held c M x f s ∗ (Held c M x f (zeroS c i s) -∗ wp frame (wpE (defs₀ (F := F)) Variants.none c none) Set.univ (st2 i M v1 v3 hw ⟨⟩) Q))
    ⊢ wp frame (wpE (defs₀ (F := F)) Variants.none c none) Set.univ (st1 i M v1 v3 hw ⟨⟩) Q := by
  by_cases h : (Scalar.cmpi .ne (Scalar.extui (Scalar.cmpi .eq (BitVec.ofNat 32 (i 1).val) 0#32)) 0#32) = 1#1
  · rw [show st1 i M v1 v3 hw ⟨⟩ = zero (st2 i M v1 v3 hw) from by unfold st1; exact dif_pos h,
      show (zeroS c i s) = ⟨s.s0, s.s1, s.s2, s.s3, s.s4, (zeroRun c s.s5 s.s6 s.s7).1, (zeroRun c s.s5 s.s6 s.s7).2.1, (zeroRun c s.s5 s.s6 s.s7).2.2.1⟩ from by unfold zeroS; exact dif_pos h]
    obtain ⟨s0, s1, s2, s3, s4, s5, s6, s7⟩ := s
    obtain ⟨f14, f15, f16, f17, f18⟩ := f
    dsimp only [Held, Scr.s0, Scr.s1, Scr.s2, Scr.s3, Scr.s4, Scr.s5, Scr.s6, Scr.s7, Outs.f14, Outs.f15, Outs.f16, Outs.f17, Outs.f18]
    generalize zeroRun c s5 s6 s7 = R
    obtain ⟨o0, o1, o2, hR⟩ := R
    dsimp only
    iintro ⟨⟨HI4, HI5, HI6, HI7, HI8, HI9, HI10, HI11, HI12, HI13, HO14, HO15, HO16, HO17, HO18, HS0, HS1, HS2, HS3, HS4, HS5, HS6, HS7⟩, Hk⟩
    iapply (hR _ Q)
    isplitl [HS5]; · iexact HS5
    isplitl [HS6]; · iexact HS6
    isplitl [HS7]; · iexact HS7
    iintro ⟨HS5, HS6, HS7⟩
    iapply Hk
    isplitl [HI4]; · iexact HI4
    isplitl [HI5]; · iexact HI5
    isplitl [HI6]; · iexact HI6
    isplitl [HI7]; · iexact HI7
    isplitl [HI8]; · iexact HI8
    isplitl [HI9]; · iexact HI9
    isplitl [HI10]; · iexact HI10
    isplitl [HI11]; · iexact HI11
    isplitl [HI12]; · iexact HI12
    isplitl [HI13]; · iexact HI13
    isplitl [HO14]; · iexact HO14
    isplitl [HO15]; · iexact HO15
    isplitl [HO16]; · iexact HO16
    isplitl [HO17]; · iexact HO17
    isplitl [HO18]; · iexact HO18
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  · rw [show st1 i M v1 v3 hw ⟨⟩ = st2 i M v1 v3 hw ⟨⟩ from by unfold st1; exact dif_neg h,
      show (zeroS c i s) = s from by unfold zeroS; exact dif_neg h]
    iintro ⟨H, Hk⟩
    iapply Hk; iexact H

set_option maxHeartbeats 4000000 in
theorem st2_run (Q : PUnit.{1} → sProp 𝕄) : iprop(Held c M x f s ∗ (Held c M x f (initS c i M v3 x s) -∗ wp frame (wpE (defs₀ (F := F)) Variants.none c none) Set.univ (st3 i M v1 v3 hw ⟨⟩) Q))
    ⊢ wp frame (wpE (defs₀ (F := F)) Variants.none c none) Set.univ (st2 i M v1 v3 hw ⟨⟩) Q := by
  by_cases h : (Scalar.cmpi .ne (Scalar.extui (Scalar.cmpi .eq v3 0#32)) 0#32) = 1#1
  · rw [show st2 i M v1 v3 hw ⟨⟩ = init i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 (st3 i M v1 v3 hw) from by unfold st2; exact if_pos h,
      show (initS c i M v3 x s) = ⟨(initRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x4 x.x6 x.x7 x.x8 s.s0 s.s1 s.s2 s.s3 s.s4).1, (initRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x4 x.x6 x.x7 x.x8 s.s0 s.s1 s.s2 s.s3 s.s4).2.1, (initRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x4 x.x6 x.x7 x.x8 s.s0 s.s1 s.s2 s.s3 s.s4).2.2.1, (initRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x4 x.x6 x.x7 x.x8 s.s0 s.s1 s.s2 s.s3 s.s4).2.2.2.1, (initRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x4 x.x6 x.x7 x.x8 s.s0 s.s1 s.s2 s.s3 s.s4).2.2.2.2.1, s.s5, s.s6, s.s7⟩ from by unfold initS; exact dif_pos h]
    obtain ⟨s0, s1, s2, s3, s4, s5, s6, s7⟩ := s
    obtain ⟨f14, f15, f16, f17, f18⟩ := f
    dsimp only [Held, Scr.s0, Scr.s1, Scr.s2, Scr.s3, Scr.s4, Scr.s5, Scr.s6, Scr.s7, Outs.f14, Outs.f15, Outs.f16, Outs.f17, Outs.f18]
    generalize initRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x4 x.x6 x.x7 x.x8 s0 s1 s2 s3 s4 = R
    obtain ⟨o0, o1, o2, o3, o4, hR⟩ := R
    dsimp only
    iintro ⟨⟨HI4, HI5, HI6, HI7, HI8, HI9, HI10, HI11, HI12, HI13, HO14, HO15, HO16, HO17, HO18, HS0, HS1, HS2, HS3, HS4, HS5, HS6, HS7⟩, Hk⟩
    iapply (hR _ Q)
    isplitl [HI8]; · iexact HI8
    isplitl [HI10]; · iexact HI10
    isplitl [HI11]; · iexact HI11
    isplitl [HI12]; · iexact HI12
    isplitl [HS0]; · iexact HS0
    isplitl [HS1]; · iexact HS1
    isplitl [HS2]; · iexact HS2
    isplitl [HS3]; · iexact HS3
    isplitl [HS4]; · iexact HS4
    iintro ⟨HI8, HI10, HI11, HI12, HS0, HS1, HS2, HS3, HS4⟩
    iapply Hk
    isplitl [HI4]; · iexact HI4
    isplitl [HI5]; · iexact HI5
    isplitl [HI6]; · iexact HI6
    isplitl [HI7]; · iexact HI7
    isplitl [HI8]; · iexact HI8
    isplitl [HI9]; · iexact HI9
    isplitl [HI10]; · iexact HI10
    isplitl [HI11]; · iexact HI11
    isplitl [HI12]; · iexact HI12
    isplitl [HI13]; · iexact HI13
    isplitl [HO14]; · iexact HO14
    isplitl [HO15]; · iexact HO15
    isplitl [HO16]; · iexact HO16
    isplitl [HO17]; · iexact HO17
    isplitl [HO18]; · iexact HO18
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  · rw [show st2 i M v1 v3 hw ⟨⟩ = st3 i M v1 v3 hw ⟨⟩ from by unfold st2; exact if_neg h,
      show (initS c i M v3 x s) = s from by unfold initS; exact dif_neg h]
    iintro ⟨H, Hk⟩
    iapply Hk; iexact H

set_option maxHeartbeats 4000000 in
theorem st3_run (Q : PUnit.{1} → sProp 𝕄) : iprop(Held c M x f s ∗ (Held c M x f (maskedS c i M v1 v3 hw x s) -∗ wp frame (wpE (defs₀ (F := F)) Variants.none c none) Set.univ (st4 i M v1 v3 hw ⟨⟩) Q))
    ⊢ wp frame (wpE (defs₀ (F := F)) Variants.none c none) Set.univ (st3 i M v1 v3 hw ⟨⟩) Q := by
  by_cases h : k0_cond3 v1 v3 = 1#1
  · rw [show st3 i M v1 v3 hw ⟨⟩ = masked i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 v1 v3 hw h (st4 i M v1 v3 hw) from by unfold st3; exact dif_pos h,
      show (maskedS c i M v1 v3 hw x s) = ⟨s.s0, s.s1, s.s2, (maskedRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).1, (maskedRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).2.1, (maskedRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).2.2.1, (maskedRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).2.2.2.1, (maskedRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).2.2.2.2.1⟩ from by unfold maskedS; exact dif_pos h]
    obtain ⟨s0, s1, s2, s3, s4, s5, s6, s7⟩ := s
    obtain ⟨f14, f15, f16, f17, f18⟩ := f
    dsimp only [Held, Scr.s0, Scr.s1, Scr.s2, Scr.s3, Scr.s4, Scr.s5, Scr.s6, Scr.s7, Outs.f14, Outs.f15, Outs.f16, Outs.f17, Outs.f18]
    generalize maskedRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s0 s1 s2 s3 s4 s5 s6 s7 v1 v3 hw h = R
    obtain ⟨o0, o1, o2, o3, o4, hR⟩ := R
    dsimp only
    iintro ⟨⟨HI4, HI5, HI6, HI7, HI8, HI9, HI10, HI11, HI12, HI13, HO14, HO15, HO16, HO17, HO18, HS0, HS1, HS2, HS3, HS4, HS5, HS6, HS7⟩, Hk⟩
    iapply (hR _ Q)
    isplitl [HI4]; · iexact HI4
    isplitl [HI5]; · iexact HI5
    isplitl [HI6]; · iexact HI6
    isplitl [HI7]; · iexact HI7
    isplitl [HI9]; · iexact HI9
    isplitl [HI12]; · iexact HI12
    isplitl [HI13]; · iexact HI13
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨HI4, HI5, HI6, HI7, HI9, HI12, HI13, HS0, HS1, HS2, HS3, HS4, HS5, HS6, HS7⟩
    iapply Hk
    isplitl [HI4]; · iexact HI4
    isplitl [HI5]; · iexact HI5
    isplitl [HI6]; · iexact HI6
    isplitl [HI7]; · iexact HI7
    isplitl [HI8]; · iexact HI8
    isplitl [HI9]; · iexact HI9
    isplitl [HI10]; · iexact HI10
    isplitl [HI11]; · iexact HI11
    isplitl [HI12]; · iexact HI12
    isplitl [HI13]; · iexact HI13
    isplitl [HO14]; · iexact HO14
    isplitl [HO15]; · iexact HO15
    isplitl [HO16]; · iexact HO16
    isplitl [HO17]; · iexact HO17
    isplitl [HO18]; · iexact HO18
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  · rw [show st3 i M v1 v3 hw ⟨⟩ = st4 i M v1 v3 hw ⟨⟩ from by unfold st3; exact dif_neg h,
      show (maskedS c i M v1 v3 hw x s) = s from by unfold maskedS; exact dif_neg h]
    iintro ⟨H, Hk⟩
    iapply Hk; iexact H

set_option maxHeartbeats 4000000 in
theorem st4_run (Q : PUnit.{1} → sProp 𝕄) : iprop(Held c M x f s ∗ (Held c M x f (plainS c i M v1 v3 hw x s) -∗ wp frame (wpE (defs₀ (F := F)) Variants.none c none) Set.univ (st5 i M v1 v3 ⟨⟩) Q))
    ⊢ wp frame (wpE (defs₀ (F := F)) Variants.none c none) Set.univ (st4 i M v1 v3 hw ⟨⟩) Q := by
  by_cases h : k0_cond4 v1 v3 = 1#1
  · rw [show st4 i M v1 v3 hw ⟨⟩ = plain i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 v1 v3 hw h (st5 i M v1 v3) from by unfold st4; exact dif_pos h,
      show (plainS c i M v1 v3 hw x s) = ⟨s.s0, s.s1, s.s2, (plainRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).1, (plainRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).2.1, (plainRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).2.2.1, (plainRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).2.2.2.1, (plainRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s.s0 s.s1 s.s2 s.s3 s.s4 s.s5 s.s6 s.s7 v1 v3 hw h).2.2.2.2.1⟩ from by unfold plainS; exact dif_pos h]
    obtain ⟨s0, s1, s2, s3, s4, s5, s6, s7⟩ := s
    obtain ⟨f14, f15, f16, f17, f18⟩ := f
    dsimp only [Held, Scr.s0, Scr.s1, Scr.s2, Scr.s3, Scr.s4, Scr.s5, Scr.s6, Scr.s7, Outs.f14, Outs.f15, Outs.f16, Outs.f17, Outs.f18]
    generalize plainRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 x.x0 x.x1 x.x2 x.x3 x.x5 x.x8 x.x9 s0 s1 s2 s3 s4 s5 s6 s7 v1 v3 hw h = R
    obtain ⟨o0, o1, o2, o3, o4, hR⟩ := R
    dsimp only
    iintro ⟨⟨HI4, HI5, HI6, HI7, HI8, HI9, HI10, HI11, HI12, HI13, HO14, HO15, HO16, HO17, HO18, HS0, HS1, HS2, HS3, HS4, HS5, HS6, HS7⟩, Hk⟩
    iapply (hR _ Q)
    isplitl [HI4]; · iexact HI4
    isplitl [HI5]; · iexact HI5
    isplitl [HI6]; · iexact HI6
    isplitl [HI7]; · iexact HI7
    isplitl [HI9]; · iexact HI9
    isplitl [HI12]; · iexact HI12
    isplitl [HI13]; · iexact HI13
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨HI4, HI5, HI6, HI7, HI9, HI12, HI13, HS0, HS1, HS2, HS3, HS4, HS5, HS6, HS7⟩
    iapply Hk
    isplitl [HI4]; · iexact HI4
    isplitl [HI5]; · iexact HI5
    isplitl [HI6]; · iexact HI6
    isplitl [HI7]; · iexact HI7
    isplitl [HI8]; · iexact HI8
    isplitl [HI9]; · iexact HI9
    isplitl [HI10]; · iexact HI10
    isplitl [HI11]; · iexact HI11
    isplitl [HI12]; · iexact HI12
    isplitl [HI13]; · iexact HI13
    isplitl [HO14]; · iexact HO14
    isplitl [HO15]; · iexact HO15
    isplitl [HO16]; · iexact HO16
    isplitl [HO17]; · iexact HO17
    isplitl [HO18]; · iexact HO18
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  · rw [show st4 i M v1 v3 hw ⟨⟩ = st5 i M v1 v3 ⟨⟩ from by unfold st4; exact dif_neg h,
      show (plainS c i M v1 v3 hw x s) = s from by unfold plainS; exact dif_neg h]
    iintro ⟨H, Hk⟩
    iapply Hk; iexact H

set_option maxHeartbeats 4000000 in
theorem st5_run (Q : PUnit.{1} → sProp 𝕄) : iprop(Held c M x f s ∗ (Held c M x (outS c M v1 v3 f s) s -∗ wp frame (wpE (defs₀ (F := F)) Variants.none c none) Set.univ (st6 i M ⟨⟩) Q))
    ⊢ wp frame (wpE (defs₀ (F := F)) Variants.none c none) Set.univ (st5 i M v1 v3 ⟨⟩) Q := by
  by_cases h : k0_cond5 v1 v3 = 1#1
  · rw [show st5 i M v1 v3 ⟨⟩ = out M.a14 M.a15 (st6 i M) from by unfold st5; exact if_pos h,
      show (outS c M v1 v3 f s) = ⟨(outRun c M.a14 M.h14 M.a15 M.h15 s.s3 s.s4 f.f14 f.f15).1, (outRun c M.a14 M.h14 M.a15 M.h15 s.s3 s.s4 f.f14 f.f15).2.1, f.f16, f.f17, f.f18⟩ from by unfold outS; exact dif_pos h]
    obtain ⟨s0, s1, s2, s3, s4, s5, s6, s7⟩ := s
    obtain ⟨f14, f15, f16, f17, f18⟩ := f
    dsimp only [Held, Scr.s0, Scr.s1, Scr.s2, Scr.s3, Scr.s4, Scr.s5, Scr.s6, Scr.s7, Outs.f14, Outs.f15, Outs.f16, Outs.f17, Outs.f18]
    generalize outRun c M.a14 M.h14 M.a15 M.h15 s3 s4 f14 f15 = R
    obtain ⟨o0, o1, hR⟩ := R
    dsimp only
    iintro ⟨⟨HI4, HI5, HI6, HI7, HI8, HI9, HI10, HI11, HI12, HI13, HO14, HO15, HO16, HO17, HO18, HS0, HS1, HS2, HS3, HS4, HS5, HS6, HS7⟩, Hk⟩
    iapply (hR _ Q)
    isplitl [HO14]; · iexact HO14
    isplitl [HO15]; · iexact HO15
    isplitl [HS3]; · iexact HS3
    isplitl [HS4]; · iexact HS4
    iintro ⟨HO14, HO15, HS3, HS4⟩
    iapply Hk
    isplitl [HI4]; · iexact HI4
    isplitl [HI5]; · iexact HI5
    isplitl [HI6]; · iexact HI6
    isplitl [HI7]; · iexact HI7
    isplitl [HI8]; · iexact HI8
    isplitl [HI9]; · iexact HI9
    isplitl [HI10]; · iexact HI10
    isplitl [HI11]; · iexact HI11
    isplitl [HI12]; · iexact HI12
    isplitl [HI13]; · iexact HI13
    isplitl [HO14]; · iexact HO14
    isplitl [HO15]; · iexact HO15
    isplitl [HO16]; · iexact HO16
    isplitl [HO17]; · iexact HO17
    isplitl [HO18]; · iexact HO18
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  · rw [show st5 i M v1 v3 ⟨⟩ = st6 i M ⟨⟩ from by unfold st5; exact if_neg h,
      show (outS c M v1 v3 f s) = f from by unfold outS; exact dif_neg h]
    iintro ⟨H, Hk⟩
    iapply Hk; iexact H

set_option maxHeartbeats 4000000 in
theorem st6_run (Q : PUnit.{1} → sProp 𝕄) : iprop(Held c M x f s ∗ (Held c M x (finS c i M f s) s -∗ Q ⟨⟩))
    ⊢ wp frame (wpE (defs₀ (F := F)) Variants.none c none) Set.univ (st6 i M ⟨⟩) Q := by
  by_cases h : k0_cond6 i = 1#1
  · rw [show st6 i M ⟨⟩ = fin i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 (fun _ => pure ⟨⟩) from by unfold st6; exact dif_pos h,
      show (finS c i M f s) = ⟨f.f14, f.f15, (finRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 s.s5 s.s6 s.s7 f.f16 f.f17 f.f18).1, (finRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 s.s5 s.s6 s.s7 f.f16 f.f17 f.f18).2.1, (finRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 s.s5 s.s6 s.s7 f.f16 f.f17 f.f18).2.2.1⟩ from by unfold finS; exact dif_pos h]
    obtain ⟨s0, s1, s2, s3, s4, s5, s6, s7⟩ := s
    obtain ⟨f14, f15, f16, f17, f18⟩ := f
    dsimp only [Held, Scr.s0, Scr.s1, Scr.s2, Scr.s3, Scr.s4, Scr.s5, Scr.s6, Scr.s7, Outs.f14, Outs.f15, Outs.f16, Outs.f17, Outs.f18]
    generalize finRun c i M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 s5 s6 s7 f16 f17 f18 = R
    obtain ⟨o0, o1, o2, hR⟩ := R
    dsimp only
    iintro ⟨⟨HI4, HI5, HI6, HI7, HI8, HI9, HI10, HI11, HI12, HI13, HO14, HO15, HO16, HO17, HO18, HS0, HS1, HS2, HS3, HS4, HS5, HS6, HS7⟩, Hk⟩
    iapply (hR _ Q)
    isplitl [HO16]; · iexact HO16
    isplitl [HO17]; · iexact HO17
    isplitl [HO18]; · iexact HO18
    isplitl [HS5]; · iexact HS5
    isplitl [HS6]; · iexact HS6
    isplitl [HS7]; · iexact HS7
    iintro ⟨HO16, HO17, HO18, HS5, HS6, HS7⟩
    sl_step
    iapply Hk
    isplitl [HI4]; · iexact HI4
    isplitl [HI5]; · iexact HI5
    isplitl [HI6]; · iexact HI6
    isplitl [HI7]; · iexact HI7
    isplitl [HI8]; · iexact HI8
    isplitl [HI9]; · iexact HI9
    isplitl [HI10]; · iexact HI10
    isplitl [HI11]; · iexact HI11
    isplitl [HI12]; · iexact HI12
    isplitl [HI13]; · iexact HI13
    isplitl [HO14]; · iexact HO14
    isplitl [HO15]; · iexact HO15
    isplitl [HO16]; · iexact HO16
    isplitl [HO17]; · iexact HO17
    isplitl [HO18]; · iexact HO18
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  · rw [show st6 i M ⟨⟩ = pure ⟨⟩ from by unfold st6; exact dif_neg h,
      show (finS c i M f s) = f from by unfold finS; exact dif_neg h]
    iintro ⟨H, Hk⟩
    sl_step
    iapply Hk; iexact H

/-- The scratch buffers after a step. -/
def nextS (x : Blk F) (s : Scr F c) : Scr F c :=
  (plainS c i M v1 v3 hw x (maskedS c i M v1 v3 hw x (initS c i M v3 x (zeroS c i s))))
/-- The output blocks after a step. -/
def nextF (x : Blk F) (f : Outs F c M) (s : Scr F c) : Outs F c M :=
  (finS c i M (outS c M v1 v3 f (nextS c i M v1 v3 hw x s)) (nextS c i M v1 v3 hw x s))

theorem stages_run (Q : PUnit.{1} → sProp 𝕄) : iprop(Held c M x f s ∗ (Held c M x (nextF c i M v1 v3 hw x f s) (nextS c i M v1 v3 hw x s) -∗ Q ⟨⟩))
    ⊢ wp frame (wpE (defs₀ (F := F)) Variants.none c none) Set.univ (st1 i M v1 v3 hw ⟨⟩) Q := by
  iintro ⟨H, Hk⟩
  iapply (st1_run c i M v1 v3 hw x f s Q); isplitl [H]; · iexact H
  iintro H
  iapply (st2_run c i M v1 v3 hw x f _ Q); isplitl [H]; · iexact H
  iintro H
  iapply (st3_run c i M v1 v3 hw x f _ Q); isplitl [H]; · iexact H
  iintro H
  iapply (st4_run c i M v1 v3 hw x f _ Q); isplitl [H]; · iexact H
  iintro H
  iapply (st5_run c i M v1 v3 x f _ Q); isplitl [H]; · iexact H
  iintro H
  iapply (st6_run c i M x _ _ Q); isplitl [H]; · iexact H
  iexact Hk

/-- The body at a point of the grid, from the tables. -/
theorem body_run (Q : PUnit.{1} → sProp 𝕄) (q0 q1 : PosShare TreeShare) :
    iprop((tb0.view.loc (c : Thread nD τ) ↦{q0} tab0) ∗ (tb1.view.loc (c : Thread nD τ) ↦{q1} tab1) ∗ Held c M x f s
      ∗ (iprop((tb0.view.loc (c : Thread nD τ) ↦{q0} tab0) ∗ (tb1.view.loc (c : Thread nD τ) ↦{q1} tab1)
          ∗ Held c M x (nextF c i M (wordAt tab0 i) (wordAt tab1 i) (chk_ok i) x f s)
              (nextS c i M (wordAt tab0 i) (wordAt tab1 i) (chk_ok i) x s)) -∗ Q ⟨⟩))
    ⊢ wp frame (wpE (defs₀ (F := F)) Variants.none c none) Set.univ (staged i M) Q := by
  unfold staged
  have hT0 : tb0.IsWhole := Memref.isWhole_whole _
  have hT1 : tb1.IsWhole := Memref.isWhole_whole _
  have hw := chk_ok i
  iintro ⟨HT0, HT1, H, Hk⟩
  sl_exec! (disch := first | (guard_target = k0_chk1 _ _; exact hw))
  iapply (stages_run c i M (wordAt tab0 i) (wordAt tab1 i) (chk_ok i) x f s Q)
  isplitl [H]; · iexact H
  iintro H
  iapply Hk
  isplitl [HT0]; · iexact HT0
  isplitl [HT1]; · iexact HT1
  iexact H

end Cert.Fox

end
-- ==== Proof.FoxData.lean ====
/- The call's data: what a step is handed, what every run of the body may rely on and what it must leave. -/
module

public import proofs.«01_k».proof.Proof.FoxStep
public import Idealize.ShloMosaic.Lib.Pipeline.DatRel
public import Idealize.ShloMosaic.Lib.Pipeline.Frame
public import Idealize.ShloMosaic.Lib.Pipeline.TableIdle
public import Idealize.ShloMosaic.Lib.StableHlo.RunRead

@[expose] public section

set_option maxRecDepth 16384
set_option synthInstance.maxSize 4096
set_option Elab.async false

noncomputable section

namespace Cert.Fox

open Cert.FoxBwdIdeal Cert.FoxBwdIdeal.Gen
open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The host's operations before the call, in their stretches and in one line. -/
abbrev stretches : List (List (HloOp τ sig (Elt F))) := [hostOps0, hostOps0_1, hostOps0_2, hostOps0_3, hostOps0_4, hostOps0_5, hostOps0_6, hostOps0_7, hostOps0_8, hostOps0_9, hostOps0_10]
def ops : List (HloOp τ sig (Elt F)) := hostOps0 ++ hostOps0_1 ++ hostOps0_2 ++ hostOps0_3 ++ hostOps0_4 ++ hostOps0_5 ++ hostOps0_6 ++ hostOps0_7 ++ hostOps0_8 ++ hostOps0_9 ++ hostOps0_10
theorem ops_eq : (stretches (F := F)).flatten = ops := by simp [stretches, ops]

variable (m : (ℓ : Loc nD τ sig) → Buf (Elt F) ℓ) (ρ : Dev nD → PrngReg) (c : Dev nD)

/-- The buffers' contents where the call begins. -/
def V (c : Dev nD) (b : Ref sig .tc) : Buf (Elt F) ((c.tc : Thread nD τ).loc b) :=
  StableHlo.after (stretches (F := F)).flatten (fun b => m (c, b)) b

/-- The block of window `w` at a point. -/
def iblk (w : Fin (cfg (F := F)).W) (t : Fin (cfg (F := F)).N) :
    (((cfg (F := F)).win w).xblock ((cfg (F := F)).grid.coords t)).Idx → Elt F ((cfg (F := F)).win w).elt :=
  (((cfg (F := F)).win w).blk t).view.read (Elt F) (V m c (arrRef (cfg (F := F)).spec w))

/-- The blocks a step is handed. -/
def mems (t : Fin (cfg (F := F)).N) : Mems where
  a4 := spec0_0.stage ((cfg (F := F)).slots t (0 : Fin 15))
  h4 := hstage0_0 (((cfg (F := F)).slots t (0 : Fin 15)).cast nbuf0_0)
  a5 := spec0_1.stage ((cfg (F := F)).slots t (1 : Fin 15))
  h5 := hstage0_1 (((cfg (F := F)).slots t (1 : Fin 15)).cast nbuf0_1)
  a6 := spec0_2.stage ((cfg (F := F)).slots t (2 : Fin 15))
  h6 := hstage0_2 (((cfg (F := F)).slots t (2 : Fin 15)).cast nbuf0_2)
  a7 := spec0_3.stage ((cfg (F := F)).slots t (3 : Fin 15))
  h7 := hstage0_3 (((cfg (F := F)).slots t (3 : Fin 15)).cast nbuf0_3)
  a8 := spec0_4.stage ((cfg (F := F)).slots t (4 : Fin 15))
  h8 := hstage0_4 (((cfg (F := F)).slots t (4 : Fin 15)).cast nbuf0_4)
  a9 := spec0_5.stage ((cfg (F := F)).slots t (5 : Fin 15))
  h9 := hstage0_5 (((cfg (F := F)).slots t (5 : Fin 15)).cast nbuf0_5)
  a10 := spec0_6.stage ((cfg (F := F)).slots t (6 : Fin 15))
  h10 := hstage0_6 (((cfg (F := F)).slots t (6 : Fin 15)).cast nbuf0_6)
  a11 := spec0_7.stage ((cfg (F := F)).slots t (7 : Fin 15))
  h11 := hstage0_7 (((cfg (F := F)).slots t (7 : Fin 15)).cast nbuf0_7)
  a12 := spec0_8.stage ((cfg (F := F)).slots t (8 : Fin 15))
  h12 := hstage0_8 (((cfg (F := F)).slots t (8 : Fin 15)).cast nbuf0_8)
  a13 := spec0_9.stage ((cfg (F := F)).slots t (9 : Fin 15))
  h13 := hstage0_9 (((cfg (F := F)).slots t (9 : Fin 15)).cast nbuf0_9)
  a14 := spec0_10.stage ((cfg (F := F)).slots t (10 : Fin 15))
  h14 := hstage0_10 (((cfg (F := F)).slots t (10 : Fin 15)).cast nbuf0_10)
  a15 := spec0_11.stage ((cfg (F := F)).slots t (11 : Fin 15))
  h15 := hstage0_11 (((cfg (F := F)).slots t (11 : Fin 15)).cast nbuf0_11)
  a16 := spec0_12.stage ((cfg (F := F)).slots t (12 : Fin 15))
  h16 := hstage0_12 (((cfg (F := F)).slots t (12 : Fin 15)).cast nbuf0_12)
  a17 := spec0_13.stage ((cfg (F := F)).slots t (13 : Fin 15))
  h17 := hstage0_13 (((cfg (F := F)).slots t (13 : Fin 15)).cast nbuf0_13)
  a18 := spec0_14.stage ((cfg (F := F)).slots t (14 : Fin 15))
  h18 := hstage0_14 (((cfg (F := F)).slots t (14 : Fin 15)).cast nbuf0_14)

def blk (t : Fin (cfg (F := F)).N) : Blk F where
  x0 := iblk m c (0 : Fin 15) t
  x1 := iblk m c (1 : Fin 15) t
  x2 := iblk m c (2 : Fin 15) t
  x3 := iblk m c (3 : Fin 15) t
  x4 := iblk m c (4 : Fin 15) t
  x5 := iblk m c (5 : Fin 15) t
  x6 := iblk m c (6 : Fin 15) t
  x7 := iblk m c (7 : Fin 15) t
  x8 := iblk m c (8 : Fin 15) t
  x9 := iblk m c (9 : Fin 15) t

/-- The scratch buffers and the outputs after the step at a point. -/
def stepS (t : Fin (cfg (F := F)).N) (s : Scr F c) : Scr F c :=
  nextS c ((cfg (F := F)).grid.coords t) (mems t) (wordAt tab0 ((cfg (F := F)).grid.coords t)) (wordAt tab1 ((cfg (F := F)).grid.coords t))
    (chk_ok _) (blk m c t) s
def stepF (t : Fin (cfg (F := F)).N) (f : Outs F c (mems t)) (s : Scr F c) : Outs F c (mems t) :=
  nextF c ((cfg (F := F)).grid.coords t) (mems t) (wordAt tab0 ((cfg (F := F)).grid.coords t)) (wordAt tab1 ((cfg (F := F)).grid.coords t))
    (chk_ok _) (blk m c t) f s

/-- What the scratch buffers meet before a point, and what the outputs meet after it. -/
structure Spec (F : FTy → Type) [FloatOps F] [Named F] where
  Inv : (c : Dev nD) → ℕ → Scr F c → Prop
  R10 : Dev nD → Fin (cfg (F := F)).N → (S384x128.Idx → Elt F .f32) → Prop
  R11 : Dev nD → Fin (cfg (F := F)).N → (S384x128.Idx → Elt F .f32) → Prop
  R12 : Dev nD → Fin (cfg (F := F)).N → (S4224x128.Idx → Elt F .f32) → Prop
  R13 : Dev nD → Fin (cfg (F := F)).N → (S4224x128.Idx → Elt F .f32) → Prop
  R14 : Dev nD → Fin (cfg (F := F)).N → (S4224x128.Idx → Elt F .f32) → Prop

/-- A step keeps them. -/
structure Spec.Holds (P : Spec F) (m : (ℓ : Loc nD τ sig) → Buf (Elt F) ℓ) : Prop where
  zero : ∀ c s, P.Inv c 0 s
  step : ∀ c (t : Fin (cfg (F := F)).N) s, P.Inv c t.val s → P.Inv c (t.val + 1) (stepS m c t s)
  r10 : ∀ c (t : Fin (cfg (F := F)).N) s (f : Outs F c (mems t)), P.Inv c t.val s → P.R10 c t ((mems t).a14.view.read (Elt F) (stepF m c t f s).f14)
  r11 : ∀ c (t : Fin (cfg (F := F)).N) s (f : Outs F c (mems t)), P.Inv c t.val s → P.R11 c t ((mems t).a15.view.read (Elt F) (stepF m c t f s).f15)
  r12 : ∀ c (t : Fin (cfg (F := F)).N) s (f : Outs F c (mems t)), P.Inv c t.val s → P.R12 c t ((mems t).a16.view.read (Elt F) (stepF m c t f s).f16)
  r13 : ∀ c (t : Fin (cfg (F := F)).N) s (f : Outs F c (mems t)), P.Inv c t.val s → P.R13 c t ((mems t).a17.view.read (Elt F) (stepF m c t f s).f17)
  r14 : ∀ c (t : Fin (cfg (F := F)).N) s (f : Outs F c (mems t)), P.Inv c t.val s → P.R14 c t ((mems t).a18.view.read (Elt F) (stepF m c t f s).f18)

/-- Nothing said. -/
def noSpec : Spec F := ⟨fun _ _ _ => True, fun _ _ _ => True, fun _ _ _ => True, fun _ _ _ => True, fun _ _ _ => True, fun _ _ _ => True⟩
theorem noSpec_holds : (noSpec (F := F)).Holds m where
  zero _ _ := trivial
  step _ _ _ _ := trivial
  r10 _ _ _ _ _ := trivial
  r11 _ _ _ _ _ := trivial
  r12 _ _ _ _ _ := trivial
  r13 _ _ _ _ _ := trivial
  r14 _ _ _ _ _ := trivial

variable (P : Spec F)

/-- The outputs are the marked windows. -/
def fgt (w : Fin (cfg (F := F)).W) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true

def Rl (c : Dev nD) (w : Fin (cfg (F := F)).W) (t : Fin (cfg (F := F)).N) (X : ((cfg (F := F)).win w).block.Idx → Elt F ((cfg (F := F)).win w).elt) : Prop :=
  match w, X with
  | ⟨0, _⟩, _ => True
  | ⟨1, _⟩, _ => True
  | ⟨2, _⟩, _ => True
  | ⟨3, _⟩, _ => True
  | ⟨4, _⟩, _ => True
  | ⟨5, _⟩, _ => True
  | ⟨6, _⟩, _ => True
  | ⟨7, _⟩, _ => True
  | ⟨8, _⟩, _ => True
  | ⟨9, _⟩, _ => True
  | ⟨10, _⟩, X => P.R10 c t X
  | ⟨11, _⟩, X => P.R11 c t X
  | ⟨12, _⟩, X => P.R12 c t X
  | ⟨13, _⟩, X => P.R13 c t X
  | ⟨14, _⟩, X => P.R14 c t X

/-- Between points: the scratch buffers, the tables and the generator's register. -/
def Phi (c : Dev nD) (n : ℕ) : sProp 𝕄 :=
  iprop((∃ s : Scr F c, ⌜P.Inv c n s⌝ ∗ scrB c sc0 s.s0 ∗ scrB c sc1 s.s1 ∗ scrB c sc2 s.s2 ∗ scrB c sc3 s.s3 ∗ scrB c sc4 s.s4 ∗ scrB c sc5 s.s5 ∗ scrB c sc6 s.s6 ∗ scrB c sc7 s.s7)
    ∗ (tb0.view.loc (c : Thread nD τ) ↦{fullShare.right} (tab0 : Buf (Elt F) (tb0.view.loc (c : Thread nD τ))))
    ∗ (tb1.view.loc (c : Thread nD τ) ↦{fullShare.right} (tab1 : Buf (Elt F) (tb1.view.loc (c : Thread nD τ)))) ∗ ∃ r, prngReg c r)

/-- The call's data: the inputs exact, the outputs' entries placeholders under their marks. -/
def dat (c : Dev nD) : Dat τ (Elt F) Unit ℕ (UR sig nD τ) ℕ (cfg (F := F)) c where
  A w := V m c (arrRef (cfg (F := F)).spec w)
  after w t := match w with
    | ⟨0, _⟩ => iblk m c (0 : Fin 15) t
    | ⟨1, _⟩ => iblk m c (1 : Fin 15) t
    | ⟨2, _⟩ => iblk m c (2 : Fin 15) t
    | ⟨3, _⟩ => iblk m c (3 : Fin 15) t
    | ⟨4, _⟩ => iblk m c (4 : Fin 15) t
    | ⟨5, _⟩ => iblk m c (5 : Fin 15) t
    | ⟨6, _⟩ => iblk m c (6 : Fin 15) t
    | ⟨7, _⟩ => iblk m c (7 : Fin 15) t
    | ⟨8, _⟩ => iblk m c (8 : Fin 15) t
    | ⟨9, _⟩ => iblk m c (9 : Fin 15) t
    | ⟨10, _⟩ => iblk m c (10 : Fin 15) t
    | ⟨11, _⟩ => iblk m c (11 : Fin 15) t
    | ⟨12, _⟩ => iblk m c (12 : Fin 15) t
    | ⟨13, _⟩ => iblk m c (13 : Fin 15) t
    | ⟨14, _⟩ => iblk m c (14 : Fin 15) t
  Φ t := Phi P c t.val
  q _ := fullShare
  owed _ := 0

theorem after0_0 (t : Fin (cfg (F := F)).N) : (dat m P c).after (0 : Fin 15) t = iblk m c (0 : Fin 15) t := rfl
theorem before0_0 (t : Fin (cfg (F := F)).N) (d) : (dat m P c).before (0 : Fin 15) t d = iblk m c (0 : Fin 15) t :=
  ((dat m P c).before_in_eq_fetched (0 : Fin 15) rfl (fun _ => rfl) (fun _ _ _ => rfl) (fun t => by rw [after0_0]; unfold Dat.blockOf iblk; rfl) t d).trans
    (by unfold Dat.fetched Dat.blockOf iblk; rfl)
theorem after0_1 (t : Fin (cfg (F := F)).N) : (dat m P c).after (1 : Fin 15) t = iblk m c (1 : Fin 15) t := rfl
theorem before0_1 (t : Fin (cfg (F := F)).N) (d) : (dat m P c).before (1 : Fin 15) t d = iblk m c (1 : Fin 15) t :=
  ((dat m P c).before_in_eq_fetched (1 : Fin 15) rfl (fun _ => rfl) (fun _ _ _ => rfl) (fun t => by rw [after0_1]; unfold Dat.blockOf iblk; rfl) t d).trans
    (by unfold Dat.fetched Dat.blockOf iblk; rfl)
theorem after0_2 (t : Fin (cfg (F := F)).N) : (dat m P c).after (2 : Fin 15) t = iblk m c (2 : Fin 15) t := rfl
theorem before0_2 (t : Fin (cfg (F := F)).N) (d) : (dat m P c).before (2 : Fin 15) t d = iblk m c (2 : Fin 15) t :=
  ((dat m P c).before_in_eq_fetched (2 : Fin 15) rfl (fun _ => rfl) (fun _ _ _ => rfl) (fun t => by rw [after0_2]; unfold Dat.blockOf iblk; rfl) t d).trans
    (by unfold Dat.fetched Dat.blockOf iblk; rfl)
theorem after0_3 (t : Fin (cfg (F := F)).N) : (dat m P c).after (3 : Fin 15) t = iblk m c (3 : Fin 15) t := rfl
theorem before0_3 (t : Fin (cfg (F := F)).N) (d) : (dat m P c).before (3 : Fin 15) t d = iblk m c (3 : Fin 15) t :=
  ((dat m P c).before_in_eq_fetched (3 : Fin 15) rfl (fun _ => rfl) (fun _ _ _ => rfl) (fun t => by rw [after0_3]; unfold Dat.blockOf iblk; rfl) t d).trans
    (by unfold Dat.fetched Dat.blockOf iblk; rfl)
theorem after0_4 (t : Fin (cfg (F := F)).N) : (dat m P c).after (4 : Fin 15) t = iblk m c (4 : Fin 15) t := rfl
theorem before0_4 (t : Fin (cfg (F := F)).N) (d) : (dat m P c).before (4 : Fin 15) t d = iblk m c (4 : Fin 15) t :=
  ((dat m P c).before_in_eq_fetched (4 : Fin 15) rfl (fun _ => rfl) (fun _ _ _ => rfl) (fun t => by rw [after0_4]; unfold Dat.blockOf iblk; rfl) t d).trans
    (by unfold Dat.fetched Dat.blockOf iblk; rfl)
theorem after0_5 (t : Fin (cfg (F := F)).N) : (dat m P c).after (5 : Fin 15) t = iblk m c (5 : Fin 15) t := rfl
theorem before0_5 (t : Fin (cfg (F := F)).N) (d) : (dat m P c).before (5 : Fin 15) t d = iblk m c (5 : Fin 15) t :=
  ((dat m P c).before_in_eq_fetched (5 : Fin 15) rfl (fun _ => rfl) (fun _ _ _ => rfl) (fun t => by rw [after0_5]; unfold Dat.blockOf iblk; rfl) t d).trans
    (by unfold Dat.fetched Dat.blockOf iblk; rfl)
theorem after0_6 (t : Fin (cfg (F := F)).N) : (dat m P c).after (6 : Fin 15) t = iblk m c (6 : Fin 15) t := rfl
theorem before0_6 (t : Fin (cfg (F := F)).N) (d) : (dat m P c).before (6 : Fin 15) t d = iblk m c (6 : Fin 15) t :=
  ((dat m P c).before_in_eq_fetched (6 : Fin 15) rfl (fun _ => rfl) (fun _ _ _ => rfl) (fun t => by rw [after0_6]; unfold Dat.blockOf iblk; rfl) t d).trans
    (by unfold Dat.fetched Dat.blockOf iblk; rfl)
theorem after0_7 (t : Fin (cfg (F := F)).N) : (dat m P c).after (7 : Fin 15) t = iblk m c (7 : Fin 15) t := rfl
theorem before0_7 (t : Fin (cfg (F := F)).N) (d) : (dat m P c).before (7 : Fin 15) t d = iblk m c (7 : Fin 15) t :=
  ((dat m P c).before_in_eq_fetched (7 : Fin 15) rfl (fun _ => rfl) (fun _ _ _ => rfl) (fun t => by rw [after0_7]; unfold Dat.blockOf iblk; rfl) t d).trans
    (by unfold Dat.fetched Dat.blockOf iblk; rfl)
theorem after0_8 (t : Fin (cfg (F := F)).N) : (dat m P c).after (8 : Fin 15) t = iblk m c (8 : Fin 15) t := rfl
theorem before0_8 (t : Fin (cfg (F := F)).N) (d) : (dat m P c).before (8 : Fin 15) t d = iblk m c (8 : Fin 15) t :=
  ((dat m P c).before_in_eq_fetched (8 : Fin 15) rfl (fun _ => rfl) (fun _ _ _ => rfl) (fun t => by rw [after0_8]; unfold Dat.blockOf iblk; rfl) t d).trans
    (by unfold Dat.fetched Dat.blockOf iblk; rfl)
theorem after0_9 (t : Fin (cfg (F := F)).N) : (dat m P c).after (9 : Fin 15) t = iblk m c (9 : Fin 15) t := rfl
theorem before0_9 (t : Fin (cfg (F := F)).N) (d) : (dat m P c).before (9 : Fin 15) t d = iblk m c (9 : Fin 15) t :=
  ((dat m P c).before_in_eq_fetched (9 : Fin 15) rfl (fun _ => rfl) (fun _ _ _ => rfl) (fun t => by rw [after0_9]; unfold Dat.blockOf iblk; rfl) t d).trans
    (by unfold Dat.fetched Dat.blockOf iblk; rfl)

end Cert.Fox

end
-- ==== Proof.FoxSound.lean ====
/- One run of the body from the call's data, to the same data at the next point. -/
module

public import proofs.«01_k».proof.Proof.FoxData

@[expose] public section

set_option maxRecDepth 16384
set_option synthInstance.maxSize 4096
set_option Elab.async false

noncomputable section

namespace Cert.Fox

open Cert.FoxBwdIdeal Cert.FoxBwdIdeal.Gen
open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD) (P : Spec F)

set_option maxHeartbeats 8000000 in
theorem sound_body (hP : P.Holds m) (t : Fin (cfg (F := F)).N) :
    iprop(Phi P c t.val ∗ (dat m P c).owesAt () t.castSucc ∗ (∃ d, owns (c : Thread nD τ) (mems t).a4 fullShare ((dat m P c).before (0 : Fin 15) t d)) ∗ (∃ d, owns (c : Thread nD τ) (mems t).a5 fullShare ((dat m P c).before (1 : Fin 15) t d)) ∗ (∃ d, owns (c : Thread nD τ) (mems t).a6 fullShare ((dat m P c).before (2 : Fin 15) t d)) ∗ (∃ d, owns (c : Thread nD τ) (mems t).a7 fullShare ((dat m P c).before (3 : Fin 15) t d)) ∗ (∃ d, owns (c : Thread nD τ) (mems t).a8 fullShare ((dat m P c).before (4 : Fin 15) t d)) ∗ (∃ d, owns (c : Thread nD τ) (mems t).a9 fullShare ((dat m P c).before (5 : Fin 15) t d)) ∗ (∃ d, owns (c : Thread nD τ) (mems t).a10 fullShare ((dat m P c).before (6 : Fin 15) t d)) ∗ (∃ d, owns (c : Thread nD τ) (mems t).a11 fullShare ((dat m P c).before (7 : Fin 15) t d)) ∗ (∃ d, owns (c : Thread nD τ) (mems t).a12 fullShare ((dat m P c).before (8 : Fin 15) t d)) ∗ (∃ d, owns (c : Thread nD τ) (mems t).a13 fullShare ((dat m P c).before (9 : Fin 15) t d)) ∗ (∃ Y, ⌜((dat m P c).toRRel fgt (Rl P c)).Finds (10 : Fin 15) t Y⌝ ∗ owns (c : Thread nD τ) (mems t).a14 fullShare Y) ∗ (∃ Y, ⌜((dat m P c).toRRel fgt (Rl P c)).Finds (11 : Fin 15) t Y⌝ ∗ owns (c : Thread nD τ) (mems t).a15 fullShare Y) ∗ (∃ Y, ⌜((dat m P c).toRRel fgt (Rl P c)).Finds (12 : Fin 15) t Y⌝ ∗ owns (c : Thread nD τ) (mems t).a16 fullShare Y) ∗ (∃ Y, ⌜((dat m P c).toRRel fgt (Rl P c)).Finds (13 : Fin 15) t Y⌝ ∗ owns (c : Thread nD τ) (mems t).a17 fullShare Y) ∗ (∃ Y, ⌜((dat m P c).toRRel fgt (Rl P c)).Finds (14 : Fin 15) t Y⌝ ∗ owns (c : Thread nD τ) (mems t).a18 fullShare Y))
      ⊢ wp frame (wpE (defs₀ (F := F)) Variants.none c none) Set.univ (staged ((cfg (F := F)).grid.coords t) (mems t)) fun _ =>
          iprop(Phi P c (t.val + 1) ∗ (dat m P c).owesAt () t.castSucc ∗ owns (c : Thread nD τ) (mems t).a4 fullShare (iblk m c (0 : Fin 15) t) ∗ owns (c : Thread nD τ) (mems t).a5 fullShare (iblk m c (1 : Fin 15) t) ∗ owns (c : Thread nD τ) (mems t).a6 fullShare (iblk m c (2 : Fin 15) t) ∗ owns (c : Thread nD τ) (mems t).a7 fullShare (iblk m c (3 : Fin 15) t) ∗ owns (c : Thread nD τ) (mems t).a8 fullShare (iblk m c (4 : Fin 15) t) ∗ owns (c : Thread nD τ) (mems t).a9 fullShare (iblk m c (5 : Fin 15) t) ∗ owns (c : Thread nD τ) (mems t).a10 fullShare (iblk m c (6 : Fin 15) t) ∗ owns (c : Thread nD τ) (mems t).a11 fullShare (iblk m c (7 : Fin 15) t) ∗ owns (c : Thread nD τ) (mems t).a12 fullShare (iblk m c (8 : Fin 15) t) ∗ owns (c : Thread nD τ) (mems t).a13 fullShare (iblk m c (9 : Fin 15) t) ∗ (∃ X, ⌜P.R10 c t X⌝ ∗ owns (c : Thread nD τ) (mems t).a14 fullShare X) ∗ (∃ X, ⌜P.R11 c t X⌝ ∗ owns (c : Thread nD τ) (mems t).a15 fullShare X) ∗ (∃ X, ⌜P.R12 c t X⌝ ∗ owns (c : Thread nD τ) (mems t).a16 fullShare X) ∗ (∃ X, ⌜P.R13 c t X⌝ ∗ owns (c : Thread nD τ) (mems t).a17 fullShare X) ∗ (∃ X, ⌜P.R14 c t X⌝ ∗ owns (c : Thread nD τ) (mems t).a18 fullShare X)) := by
  simp only [before0_0, before0_1, before0_2, before0_3, before0_4, before0_5, before0_6, before0_7, before0_8, before0_9]
  unfold Phi
  iintro ⟨⟨⟨%s, %hs, HS0, HS1, HS2, HS3, HS4, HS5, HS6, HS7⟩, HT0, HT1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y10, -, H10⟩, ⟨%Y11, -, H11⟩, ⟨%Y12, -, H12⟩, ⟨%Y13, -, H13⟩, ⟨%Y14, -, H14⟩⟩
  have e10 : ∀ X, owns (c : Thread nD τ) (mems t).a14 fullShare X = (iprop(∃ f, ⌜(mems t).a14.view.read (Elt F) f = X⌝ ∗ ((mems t).a14.view.loc (c : Thread nD τ) ↦[(mems t).a14.view.set]{fullShare} f)) : sProp 𝕄) := fun _ => rfl
  have e11 : ∀ X, owns (c : Thread nD τ) (mems t).a15 fullShare X = (iprop(∃ f, ⌜(mems t).a15.view.read (Elt F) f = X⌝ ∗ ((mems t).a15.view.loc (c : Thread nD τ) ↦[(mems t).a15.view.set]{fullShare} f)) : sProp 𝕄) := fun _ => rfl
  have e12 : ∀ X, owns (c : Thread nD τ) (mems t).a16 fullShare X = (iprop(∃ f, ⌜(mems t).a16.view.read (Elt F) f = X⌝ ∗ ((mems t).a16.view.loc (c : Thread nD τ) ↦[(mems t).a16.view.set]{fullShare} f)) : sProp 𝕄) := fun _ => rfl
  have e13 : ∀ X, owns (c : Thread nD τ) (mems t).a17 fullShare X = (iprop(∃ f, ⌜(mems t).a17.view.read (Elt F) f = X⌝ ∗ ((mems t).a17.view.loc (c : Thread nD τ) ↦[(mems t).a17.view.set]{fullShare} f)) : sProp 𝕄) := fun _ => rfl
  have e14 : ∀ X, owns (c : Thread nD τ) (mems t).a18 fullShare X = (iprop(∃ f, ⌜(mems t).a18.view.read (Elt F) f = X⌝ ∗ ((mems t).a18.view.loc (c : Thread nD τ) ↦[(mems t).a18.view.set]{fullShare} f)) : sProp 𝕄) := fun _ => rfl
  simp only [e10, e11, e12, e13, e14]
  icases H10 with ⟨%f10, -, H10⟩
  icases H11 with ⟨%f11, -, H11⟩
  icases H12 with ⟨%f12, -, H12⟩
  icases H13 with ⟨%f13, -, H13⟩
  icases H14 with ⟨%f14, -, H14⟩
  have hI := hP.step c t s hs
  have h10 := hP.r10 c t s (⟨f10, f11, f12, f13, f14⟩ : Outs F c (mems t)) hs
  have h11 := hP.r11 c t s (⟨f10, f11, f12, f13, f14⟩ : Outs F c (mems t)) hs
  have h12 := hP.r12 c t s (⟨f10, f11, f12, f13, f14⟩ : Outs F c (mems t)) hs
  have h13 := hP.r13 c t s (⟨f10, f11, f12, f13, f14⟩ : Outs F c (mems t)) hs
  have h14 := hP.r14 c t s (⟨f10, f11, f12, f13, f14⟩ : Outs F c (mems t)) hs
  unfold stepS at hI
  unfold stepF at h10 h11 h12 h13 h14
  iapply (body_run c ((cfg (F := F)).grid.coords t) (mems t) (blk m c t) (⟨f10, f11, f12, f13, f14⟩ : Outs F c (mems t)) s _ fullShare.right fullShare.right)
  isplitl [HT0]; · iexact HT0
  isplitl [HT1]; · iexact HT1
  generalize nextS c ((cfg (F := F)).grid.coords t) (mems t) (wordAt tab0 ((cfg (F := F)).grid.coords t)) (wordAt tab1 ((cfg (F := F)).grid.coords t))
    (chk_ok _) (blk m c t) s = s' at *
  generalize nextF c ((cfg (F := F)).grid.coords t) (mems t) (wordAt tab0 ((cfg (F := F)).grid.coords t)) (wordAt tab1 ((cfg (F := F)).grid.coords t))
    (chk_ok _) (blk m c t) (⟨f10, f11, f12, f13, f14⟩ : Outs F c (mems t)) s = f' at *
  unfold Held
  isplitl [H0 H1 H2 H3 H4 H5 H6 H7 H8 H9 H10 H11 H12 H13 H14 HS0 HS1 HS2 HS3 HS4 HS5 HS6 HS7]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iapply rep_of_owns; iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  iintro ⟨HT0, HT1, H0, H1, H2, H3, H4, H5, H6, H7, H8, H9, H10, H11, H12, H13, H14, HS0, HS1, HS2, HS3, HS4, HS5, HS6, HS7⟩
  isplitl [HS0 HS1 HS2 HS3 HS4 HS5 HS6 HS7 HT0 HT1 Hr]
  · isplitl [HS0 HS1 HS2 HS3 HS4 HS5 HS6 HS7]
    · iexists s'; isplitr; · ipureintro; exact hI
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    isplitl [HT0]; · iexact HT0
    isplitl [HT1]; · iexact HT1
    iexact Hr
  isplitl [Ho]; · iexact Ho
  isplitl [H0]; · iapply owns_of_rep (c : Thread nD τ); iexact H0
  isplitl [H1]; · iapply owns_of_rep (c : Thread nD τ); iexact H1
  isplitl [H2]; · iapply owns_of_rep (c : Thread nD τ); iexact H2
  isplitl [H3]; · iapply owns_of_rep (c : Thread nD τ); iexact H3
  isplitl [H4]; · iapply owns_of_rep (c : Thread nD τ); iexact H4
  isplitl [H5]; · iapply owns_of_rep (c : Thread nD τ); iexact H5
  isplitl [H6]; · iapply owns_of_rep (c : Thread nD τ); iexact H6
  isplitl [H7]; · iapply owns_of_rep (c : Thread nD τ); iexact H7
  isplitl [H8]; · iapply owns_of_rep (c : Thread nD τ); iexact H8
  isplitl [H9]; · iapply owns_of_rep (c : Thread nD τ); iexact H9
  isplitl [H10]; · iexists _; isplitr; (ipureintro; exact h10); iexists _; isplitr; (ipureintro; rfl); iexact H10
  isplitl [H11]; · iexists _; isplitr; (ipureintro; exact h11); iexists _; isplitr; (ipureintro; rfl); iexact H11
  isplitl [H12]; · iexists _; isplitr; (ipureintro; exact h12); iexists _; isplitr; (ipureintro; rfl); iexact H12
  isplitl [H13]; · iexists _; isplitr; (ipureintro; exact h13); iexists _; isplitr; (ipureintro; rfl); iexact H13
  iexists _; isplitr; (ipureintro; exact h14); iexists _; isplitr; (ipureintro; rfl); iexact H14

end Cert.Fox

end
-- ==== Proof.FoxLaunch.lean ====
/- The call's launch: the body at every point, and the run of the whole program from it. -/
module

public import proofs.«01_k».proof.Proof.FoxSound
public import Idealize.ShloMosaic.Lib.StableHlo.RunRead

@[expose] public section

set_option maxRecDepth 16384
set_option synthInstance.maxSize 4096
set_option Elab.async false

noncomputable section

namespace Cert.Fox

open Cert.FoxBwdIdeal Cert.FoxBwdIdeal.Gen
open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD) (P : Spec F)

section
attribute [local irreducible] Phi
theorem dat_Phi (t : Fin ((cfg (F := F)).N + 1)) : (dat m P c).Φ t = Phi P c t.val := by unfold dat; rfl
end
theorem dat_Phi_at (t : Fin (cfg (F := F)).N) : (dat m P c).Φ t.castSucc = Phi P c t.val :=
  (dat_Phi m c P _).trans (congrArg (Phi P c) (Fin.val_castSucc t))
theorem dat_Phi_succ (t : Fin (cfg (F := F)).N) : (dat m P c).Φ t.succ = Phi P c (t.val + 1) :=
  (dat_Phi m c P _).trans (congrArg (Phi P c) (Fin.val_succ t))
theorem dat_owes (t : Fin (cfg (F := F)).N) : (dat m P c).owesAt () t.succ = (dat m P c).owesAt () t.castSucc := by rfl

set_option maxHeartbeats 4000000 in
theorem body_ob (hP : P.Holds m) (c : Dev nD) : BodyObligationRel (dat m P c) (defs₀ (F := F)) Variants.none () Set.univ fgt (Rl P c) := by
  intro t
  have e : (defs₀ (F := F)) .tc (cfg (F := F)).body ((cfg (F := F)).bodyArgs t ((cfg (F := F)).slots t)) = staged ((cfg (F := F)).grid.coords t) (mems t) :=
    body_eq ((cfg (F := F)).grid.coords t) (mems t)
  have h := sound_body m c P hP t
  rw [e, bigSep_W0, bigSep_W0, dat_Phi_at, dat_Phi_succ, dat_owes]
  refine BI.BIBase.Entails.trans ?_ (h.trans ?_)
  · refine sep_mono BIBase.Entails.refl (sep_mono BIBase.Entails.refl ?_)
    exact BIBase.Entails.refl
  · refine wp_mono frame _ _ (fun _ => ?_)
    refine sep_mono BIBase.Entails.refl (sep_mono BIBase.Entails.refl ?_)
    exact BIBase.Entails.refl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

/-- The scratch buffers at the region's entry, and back at its end. -/
theorem phi_in (hP : P.Holds m) (c : Dev nD) :
    iprop(Pipeline.ΦA (Val := Elt F) (cfg (F := F)).spec c ∗ Pipeline.ΦT pre0 (adm (F := F)).1 c) ⊢ (dat m P c).Φ 0 := by
  show _ ⊢ Phi P c 0
  unfold Pipeline.ΦA Pipeline.ΦT Phi
  rw [prefHeld_eq, scopedRest0_eq]
  iintro ⟨⟨⟨⟨%a0, HS0⟩, ⟨%a1, HS1⟩, ⟨%a2, HS2⟩, ⟨%a3, HS3⟩, ⟨%a4, HS4⟩, ⟨%a5, HS5⟩, ⟨%a6, HS6⟩, ⟨%a7, HS7⟩⟩, Hr⟩, HT0, HT1⟩
  isplitl [HS0 HS1 HS2 HS3 HS4 HS5 HS6 HS7]
  · iexists (⟨a0, a1, a2, a3, a4, a5, a6, a7⟩ : Scr F c); isplitr; · ipureintro; exact hP.zero c _
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iexact HS7
  isplitl [HT0]; · iexact HT0
  isplitl [HT1]; · iexact HT1
  iexact Hr

theorem phi_out (c : Dev nD) : (dat m P c).Φ (Fin.last (cfg (F := F)).N) ⊢ Pipeline.ΦA (cfg (F := F)).spec c := by
  show Phi P c _ ⊢ _
  unfold Pipeline.ΦA Phi
  rw [scopedRest0_eq]
  iintro ⟨⟨%s, -, HS0, HS1, HS2, HS3, HS4, HS5, HS6, HS7⟩, -, -, Hr⟩
  isplitr [Hr]
  · isplitl [HS0]; · iexists s.s0; iexact HS0
    isplitl [HS1]; · iexists s.s1; iexact HS1
    isplitl [HS2]; · iexists s.s2; iexact HS2
    isplitl [HS3]; · iexists s.s3; iexact HS3
    isplitl [HS4]; · iexists s.s4; iexact HS4
    isplitl [HS5]; · iexists s.s5; iexact HS5
    isplitl [HS6]; · iexists s.s6; iexact HS6
    iexists s.s7; iexact HS7
  iexact Hr

theorem share_eq (c : Dev nD) (w) : ((dat m P c).toRRel fgt (Rl P c)).share w = fullShare := by
  show (dat m P c).share w = fullShare
  unfold Dat.share; split <;> rfl

theorem V_pre (c : Dev nD) (k : Fin 2) : V m c (pre0.ref k) = (adm (F := F)).1 k := by
  unfold V; rw [ops_eq]
  fin_cases k
  · show StableHlo.after (ops (F := F)) (fun b => m (c, b)) (Proc.devRef .tc main_c) = (tab0 : Buf (Elt F) (tb0.view.loc (c : Thread nD τ)))
    unfold ops; after_reads_simp; rfl
  · show StableHlo.after (ops (F := F)) (fun b => m (c, b)) (Proc.devRef .tc main_c_0) = (tab1 : Buf (Elt F) (tb1.view.loc (c : Thread nD τ)))
    unfold ops; after_reads_simp; rfl

set_option backward.isDefEq.respectTransparency.types false in
set_option maxHeartbeats 4000000 in
/-- The whole program's run. -/
theorem run_main (hP : P.Holds m) : θ_run (defs (F := F)) (onTc (τ := τ) (main (F := F))) (s₀ m ρ)
    (fun r => RDat.FramePost (cfg (F := F)) (fun c => (dat m P c).toRRel fgt (Rl P c)) (V m) r ∧ r.2.sem = fun _ => 0) :=
  RDat.θ_run_frameP_track (pcfgs (F := F)) (fun _ => adm) (0 : Fin 1) (launch0 (F := F)) defs₀ Variants.none
    (fun c => (dat m P c).toRRel fgt (Rl P c)) m ρ main
    (fun c => (body_ob m P hP c).toRRel) (share_eq m P) (fun _ _ => rfl) (V m)
    (Pipeline.hmainP_prefixes (pcfgs (F := F)) 0 defs₀ Variants.none m main stretches
      ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩
      (by refine ⟨?_, ?_, ?_, ?_, ?_, ?_, ?_, ?_, ?_, ?_, ?_⟩ <;> exact StableHlo.forall_fresh_of_map rfl)
      main_chain)
    (fun _ _ => rfl) (V_pre m) (phi_in m P hP) (phi_out m P) (Q' := _)

end Cert.Fox

end
-- ==== Proof.FoxFrame.lean ====
/- The frames of the attention's backward call: from the run of the whole program the arguments end unchanged, and the program with
   the mask's literal for the named one is the same text at words. -/
module

public import proofs.«01_k».proof.Defs
public import proofs.«01_k».proof.Proof.FoxLaunch
public import proofs.«01_k».proof.Proof.Gen.FoxBwd
public import Idealize.ShloMosaic.Lib.Quiescent

@[expose] public section

set_option maxRecDepth 16384
set_option synthInstance.maxSize 4096
set_option Elab.async false

noncomputable section

namespace Cert.Fox

open Cert.FoxBwdIdeal Cert.FoxBwdIdeal.Gen
open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-- The arguments end as they began. -/
def Unchanged (m : (ℓ : Loc nD τ sig) → Buf (Elt F) ℓ) (μ : (ℓ : Loc nD τ sig) → Buf (Elt F) ℓ) : Prop := ∀ c : Dev nD,
  μ ((c.tc : Thread nD τ).loc main_arg0) = m ((c.tc : Thread nD τ).loc main_arg0)
    ∧   μ ((c.tc : Thread nD τ).loc main_arg1) = m ((c.tc : Thread nD τ).loc main_arg1)
    ∧   μ ((c.tc : Thread nD τ).loc main_arg2) = m ((c.tc : Thread nD τ).loc main_arg2)
    ∧   μ ((c.tc : Thread nD τ).loc main_arg3) = m ((c.tc : Thread nD τ).loc main_arg3)
    ∧   μ ((c.tc : Thread nD τ).loc main_arg4) = m ((c.tc : Thread nD τ).loc main_arg4)
    ∧   μ ((c.tc : Thread nD τ).loc main_arg5) = m ((c.tc : Thread nD τ).loc main_arg5)

theorem V_arg0 : V m c main_arg0 = m ((c.tc : Thread nD τ).loc main_arg0) := by
  unfold V; rw [ops_eq]
  show StableHlo.after (ops (F := F)) (fun b => m (c, b)) (Proc.devRef .tc main_arg0) = m ((c.tc : Thread nD τ).loc main_arg0)
  unfold ops; after_reads_simp; try rfl
theorem V_arg1 : V m c main_arg1 = m ((c.tc : Thread nD τ).loc main_arg1) := by
  unfold V; rw [ops_eq]
  show StableHlo.after (ops (F := F)) (fun b => m (c, b)) (Proc.devRef .tc main_arg1) = m ((c.tc : Thread nD τ).loc main_arg1)
  unfold ops; after_reads_simp; try rfl
theorem V_arg2 : V m c main_arg2 = m ((c.tc : Thread nD τ).loc main_arg2) := by
  unfold V; rw [ops_eq]
  show StableHlo.after (ops (F := F)) (fun b => m (c, b)) (Proc.devRef .tc main_arg2) = m ((c.tc : Thread nD τ).loc main_arg2)
  unfold ops; after_reads_simp; try rfl
theorem V_arg3 : V m c main_arg3 = m ((c.tc : Thread nD τ).loc main_arg3) := by
  unfold V; rw [ops_eq]
  show StableHlo.after (ops (F := F)) (fun b => m (c, b)) (Proc.devRef .tc main_arg3) = m ((c.tc : Thread nD τ).loc main_arg3)
  unfold ops; after_reads_simp; try rfl
theorem V_arg4 : V m c main_arg4 = m ((c.tc : Thread nD τ).loc main_arg4) := by
  unfold V; rw [ops_eq]
  show StableHlo.after (ops (F := F)) (fun b => m (c, b)) (Proc.devRef .tc main_arg4) = m ((c.tc : Thread nD τ).loc main_arg4)
  unfold ops; after_reads_simp; try rfl
theorem V_arg5 : V m c main_arg5 = m ((c.tc : Thread nD τ).loc main_arg5) := by
  unfold V; rw [ops_eq]
  show StableHlo.after (ops (F := F)) (fun b => m (c, b)) (Proc.devRef .tc main_arg5) = m ((c.tc : Thread nD τ).loc main_arg5)
  unfold ops; after_reads_simp; try rfl

theorem unchanged_of (P : Spec F) {r}
    (h : RDat.FramePost (cfg (F := F)) (fun c => (dat m P c).toRRel fgt (Rl P c)) (V m) r) : Unchanged m r.2.mem := fun c =>
  ⟨((h c).2 main_arg0 (mem_restRefs_of main_arg0 (by decide) (show ∀ w : Fin 15, (spec0 w).arr.view.ref ≠ main_arg0 by decide))).trans (V_arg0 m c),
   ((h c).2 main_arg1 (mem_restRefs_of main_arg1 (by decide) (show ∀ w : Fin 15, (spec0 w).arr.view.ref ≠ main_arg1 by decide))).trans (V_arg1 m c),
   ((h c).2 main_arg2 (mem_restRefs_of main_arg2 (by decide) (show ∀ w : Fin 15, (spec0 w).arr.view.ref ≠ main_arg2 by decide))).trans (V_arg2 m c),
   ((h c).2 main_arg3 (mem_restRefs_of main_arg3 (by decide) (show ∀ w : Fin 15, (spec0 w).arr.view.ref ≠ main_arg3 by decide))).trans (V_arg3 m c),
   ((h c).2 main_arg4 (mem_restRefs_of main_arg4 (by decide) (show ∀ w : Fin 15, (spec0 w).arr.view.ref ≠ main_arg4 by decide))).trans (V_arg4 m c),
   ((h c).2 main_arg5 (mem_restRefs_of main_arg5 (by decide) (show ∀ w : Fin 15, (spec0 w).arr.view.ref ≠ main_arg5 by decide))).trans (V_arg5 m c)⟩

/-- The frame, at any reading of the floats. -/
theorem frame_any : θ_run (defs (F := F)) (onTc (τ := τ) (main (F := F))) ⟨m, fun _ => 0, ρ⟩
    (fun r => Unchanged m r.2.mem ∧ r.2.sem = fun _ => 0) :=
  (θ_run (defs (F := F)) _ _).mono (fun r h => ⟨unchanged_of m noSpec h.1, h.2⟩) (run_main m ρ noSpec (noSpec_holds m))

theorem frame_ideal : Cert.quiescent_FoxBwdIdeal := fun m ρ _ => frame_any m ρ

/-- The frame's text at words, over the arrays of the program that names the mask. -/
def FrameBits [Named Bits] : Prop := ∀ (m : (ℓ : Loc nD τ sig) → Buf (Elt Bits) ℓ) (ρ : Dev nD → PrngReg),
  θ_run (defs (F := Bits)) (onTc (τ := τ) (main (F := Bits))) ⟨m, fun _ => 0, ρ⟩ (fun r => Unchanged m r.2.mem ∧ r.2.sem = fun _ => 0)

/-- The frame of the program itself, without its premise. -/
def FrameWords : Prop := ∀ (m : (ℓ : Loc Cert.FoxBwd.nD Cert.FoxBwd.τ Cert.FoxBwd.sig) → Buf (Elt Bits) ℓ) (ρ : Dev Cert.FoxBwd.nD → PrngReg),
  θ_run (Cert.FoxBwd.defs (F := Bits)) (onTc (τ := Cert.FoxBwd.τ) (Cert.FoxBwd.main (F := Bits))) ⟨m, fun _ => 0, ρ⟩
    (fun r => (∀ c : Dev Cert.FoxBwd.nD,
      r.2.mem ((c.tc : Thread Cert.FoxBwd.nD Cert.FoxBwd.τ).loc Cert.FoxBwd.main_arg0) = m ((c.tc : Thread Cert.FoxBwd.nD Cert.FoxBwd.τ).loc Cert.FoxBwd.main_arg0)
      ∧       r.2.mem ((c.tc : Thread Cert.FoxBwd.nD Cert.FoxBwd.τ).loc Cert.FoxBwd.main_arg1) = m ((c.tc : Thread Cert.FoxBwd.nD Cert.FoxBwd.τ).loc Cert.FoxBwd.main_arg1)
      ∧       r.2.mem ((c.tc : Thread Cert.FoxBwd.nD Cert.FoxBwd.τ).loc Cert.FoxBwd.main_arg2) = m ((c.tc : Thread Cert.FoxBwd.nD Cert.FoxBwd.τ).loc Cert.FoxBwd.main_arg2)
      ∧       r.2.mem ((c.tc : Thread Cert.FoxBwd.nD Cert.FoxBwd.τ).loc Cert.FoxBwd.main_arg3) = m ((c.tc : Thread Cert.FoxBwd.nD Cert.FoxBwd.τ).loc Cert.FoxBwd.main_arg3)
      ∧       r.2.mem ((c.tc : Thread Cert.FoxBwd.nD Cert.FoxBwd.τ).loc Cert.FoxBwd.main_arg4) = m ((c.tc : Thread Cert.FoxBwd.nD Cert.FoxBwd.τ).loc Cert.FoxBwd.main_arg4)
      ∧       r.2.mem ((c.tc : Thread Cert.FoxBwd.nD Cert.FoxBwd.τ).loc Cert.FoxBwd.main_arg5) = m ((c.tc : Thread Cert.FoxBwd.nD Cert.FoxBwd.τ).loc Cert.FoxBwd.main_arg5))
      ∧ r.2.sem = fun _ => 0)

/-- The named constant at words is its literal. -/
@[instance_reducible] def namedBits : Named Bits := ⟨fun _ _ _ b => FloatOps.ofBits _ b⟩

theorem same_text : @FrameBits namedBits = FrameWords := by sl_kernel_rfl

theorem frame_words : FrameWords := by
  rw [← same_text]
  exact fun m ρ => @frame_any Bits _ namedBits m ρ

theorem frame_bits : Cert.quiescent_FoxBwd := fun m ρ _ => frame_words m ρ

end Cert.Fox

end
-- ==== Proof.FoxTile.lean ====
/- A step of the attention's backward call on one tile: what it computes, as formulas over the blocks and scratch rows it is handed. -/
module

public import proofs.«01_k».proof.Proof.FoxRun
public import proofs.«01_k».proof.Proof.Common
public import proofs.«01_k».proof.Proof.FoxGrid

@[expose] public section

set_option maxRecDepth 16384
set_option synthInstance.maxSize 4096

noncomputable section

namespace Cert.Fox

open Cert.FoxBwdIdeal Cert.FoxBwdIdeal.Gen
open Idealize.ShloMosaic
open Idealize.ShloMosaic.TcCoe Idealize.ShloMosaic.Tactic

/-- The blocks and scratch rows of a step: the pair of heads, the mask, the blocks of queries, keys, values, decays and cotangent, and the row statistics. -/
structure Tile where
  p : ℕ
  mask : Fin 384 → Fin 384 → Bool
  q : S384x128.Idx → EReal
  qt : S128x384.Idx → EReal
  k : S384x128.Idx → EReal
  v : S384x128.Idx → EReal
  ct : S8x384.Idx → EReal
  g : S384x128.Idx → EReal
  gt : S128x384.Idx → EReal
  lse : S2x384x128.Idx → EReal
  dl : S2x384x128.Idx → EReal
  cq : S2x384x128.Idx → EReal

namespace Tile

variable (T : Tile)

/-- A score before its mask; the row statistics are read in lane `l`. -/
def sc (e : Fin 2) (a b : Fin 384) (l : Fin 128) : EReal :=
  (∑ d : Fin 128, (if d.val / 64 = e.val then T.q (ix2 a d) else 0) * T.k (ix2 b d)) + T.cq (ix3 e a l)
    - ∑ r : Fin 8, if r.val = 2 * T.p + e.val then T.ct (ix2 r b) else 0
/-- A probability. -/
def prL (e : Fin 2) (a b : Fin 384) (l : Fin 128) : EReal :=
  Ideal.exp ((if T.mask a b then T.sc e a b l else ⊥) - T.lse (ix3 e a l))
/-- A score's gradient. -/
def dsL (e : Fin 2) (a b : Fin 384) (l : Fin 128) : EReal :=
  T.prL e a b l * ((∑ d : Fin 128, (if d.val / 64 = e.val then T.g (ix2 a d) else 0) * T.v (ix2 b d)) - T.dl (ix3 e a l))
/-- A column's lane. -/
def lane (b : Fin 384) : Fin 128 := ⟨b.val % 128, Nat.mod_lt _ (by decide)⟩
def pr (e : Fin 2) (a b : Fin 384) : EReal := T.prL e a b (lane b)
def ds (e : Fin 2) (a b : Fin 384) : EReal := T.dsL e a b (lane b)
/-- What the step adds to the gradients of the values, the keys, the keys' decays, the queries and the queries' decays. -/
def dv (d : Fin 128) (b : Fin 384) : EReal :=
  (∑ a : Fin 384, (if d.val / 64 = 0 then T.gt (ix2 d a) else 0) * T.pr 0 a b) + ∑ a : Fin 384, (if d.val / 64 = 1 then T.gt (ix2 d a) else 0) * T.pr 1 a b
def dk (d : Fin 128) (b : Fin 384) : EReal :=
  (∑ a : Fin 384, (if d.val / 64 = 0 then T.qt (ix2 d a) else 0) * T.ds 0 a b) + ∑ a : Fin 384, (if d.val / 64 = 1 then T.qt (ix2 d a) else 0) * T.ds 1 a b
def dck (r : Fin 8) (b : Fin 384) : EReal :=
  if r.val = 0 then ∑ a : Fin 384, T.ds 0 a b else if r.val = 1 then ∑ a : Fin 384, T.ds 1 a b else 0
def dq (a : Fin 384) (d : Fin 128) : EReal :=
  (∑ b : Fin 384, T.ds 0 a b * (if d.val / 64 = 0 then T.k (ix2 b d) else 0)) + ∑ b : Fin 384, T.ds 1 a b * (if d.val / 64 = 1 then T.k (ix2 b d) else 0)
def dcq (e : Fin 2) (a : Fin 384) : EReal := ∑ b : Fin 384, T.ds e a b

end Tile

/-- Three blocks of lanes side by side. -/
theorem cat3 (f : Fin 384 → Fin 128 → EReal) (u v w : Fin 128 → EReal) (hu : ∀ l : Fin 128, u l = f ⟨0 + l.val, by omega⟩ l)
    (hv : ∀ l : Fin 128, v l = f ⟨128 + l.val, by omega⟩ l) (hw : ∀ l : Fin 128, w l = f ⟨256 + l.val, by omega⟩ l) (b : Fin 384) :
    (if h : b.val < 128 then u ⟨b.val, h⟩ else if h : b.val - 128 < 128 then v ⟨b.val - 128, h⟩ else w ⟨b.val - 128 - 128, by omega⟩) = f b (Tile.lane b) := by
  unfold Tile.lane
  split_ifs with h1 h2
  · rw [hu]; exact congrArg₂ f (Fin.ext (by simp)) (Fin.ext (by simp; omega))
  · rw [hv]; exact congrArg₂ f (Fin.ext (by simp; omega)) (Fin.ext (by simp; omega))
  · rw [hw]; exact congrArg₂ f (Fin.ext (by simp; omega)) (Fin.ext (by simp; omega))

/-! ### Words and loads -/

theorem sel_lo (x : Fin 128) : IntOp.cmpi .slt (BitVec.ofNat 32 x.val) 64#32 = if x.val / 64 = 0 then 1#1 else 0#1 := by
  revert x; decide
theorem sel_hi (x : Fin 128) : IntOp.xori (IntOp.cmpi .slt (BitVec.ofNat 32 x.val) 64#32) 1#1 = if x.val / 64 = 1 then 1#1 else 0#1 := by
  revert x; decide
theorem sel_hi' (x : Fin 128) : IntOp.xori (if x.val / 64 = 0 then 1#1 else 0#1) 1#1 = if x.val / 64 = 1 then 1#1 else 0#1 := by
  revert x; decide
theorem sel_row0 (x : Fin 8) (p : Fin 4) : IntOp.cmpi .eq (BitVec.ofNat 32 x.val) (Scalar.addi (Scalar.muli (2#32) (BitVec.ofNat 32 p.val)) 0#32)
    = if x.val = 2 * p.val + 0 then 1#1 else 0#1 := by
  revert x p; decide
theorem sel_row1 (x : Fin 8) (p : Fin 4) : IntOp.cmpi .eq (BitVec.ofNat 32 x.val) (Scalar.addi (Scalar.muli (2#32) (BitVec.ofNat 32 p.val)) 1#32)
    = if x.val = 2 * p.val + 1 then 1#1 else 0#1 := by
  revert x p; decide
theorem sel_sub0 (x : Fin 8) : IntOp.cmpi .eq (BitVec.ofNat 32 x.val) 0#32 = if x.val = 0 then 1#1 else 0#1 := by revert x; decide
theorem sel_sub1 (x : Fin 8) : IntOp.cmpi .eq (BitVec.ofNat 32 x.val) 1#32 = if x.val = 1 then 1#1 else 0#1 := by revert x; decide
theorem select_ite {α : Type} (P : Prop) [Decidable P] (u w : α) : Scalar.select (if P then 1#1 else 0#1) u w = if P then u else w := by
  by_cases h : P <;> simp [h, Scalar.select]
theorem zero_word : (((0#32 : BitVec 32).toInt : ℝ) : EReal) = 0 := by simp

section Loads

variable {sig : RefSig} {κ : Kind} {sp : Space} {e : EltTy} {Val : EltTy → Type}

theorem ld_rep [∀ e, Nonempty (Val e)] {n0 n1 : ℕ} (v : View sig κ sp (⟨2, ![n0, n1]⟩ : Shape) e) (x : (⟨2, ![n0, n1]⟩ : Shape).Idx → Val e)
    (inb : ∀ a, (![0, 0] : Fin 2 → ℕ) a + (![n0, n1] : Fin 2 → ℕ) a ≤ (⟨2, ![n0, n1]⟩ : Shape).size a) (a : Fin n0) (b : Fin n1) :
    v.readAt Val (Rect.unit (s := ⟨2, ![n0, n1]⟩) ![0, 0] ![n0, n1] inb).toLoadRect (v.rep x) (ix2 a b) = x (ix2 a b) := by
  rw [View.readAt_eq_ld]
  refine (View.ld_unit_apply_of _ _ _ _ _ (ix2 a b) (by intro a; fin_cases a <;> simp)).trans ?_
  rw [View.read_rep]

theorem ld_full {n0 n1 : ℕ} (v : View sig κ sp (⟨2, ![n0, n1]⟩ : Shape) e) (f : v.ty.Contents Val)
    (inb : ∀ a, (![0, 0] : Fin 2 → ℕ) a + (![n0, n1] : Fin 2 → ℕ) a ≤ (⟨2, ![n0, n1]⟩ : Shape).size a) (a : Fin n0) (b : Fin n1) :
    v.readAt Val (Rect.unit (s := ⟨2, ![n0, n1]⟩) ![0, 0] ![n0, n1] inb).toLoadRect f (ix2 a b) = v.read Val f (ix2 a b) := by
  rw [View.readAt_eq_ld]
  exact View.ld_unit_apply_of _ _ _ _ _ (ix2 a b) (by intro a; fin_cases a <;> simp)

theorem ld_slot {N n0 n1 : ℕ} (v : View sig κ sp (⟨3, ![N, n0, n1]⟩ : Shape) e) (f : v.ty.Contents Val) (j : ℕ)
    (inb : ∀ a, (![j, 0, 0] : Fin 3 → ℕ) a + (![1, n0, n1] : Fin 3 → ℕ) a ≤ (⟨3, ![N, n0, n1]⟩ : Shape).size a) (a : Fin n0) (b : Fin n1) :
    v.readAt Val (Rect.unit (s := ⟨3, ![N, n0, n1]⟩) ![j, 0, 0] ![1, n0, n1] inb).toLoadRect f (ix3 0 a b)
      = v.read Val f (ix3 ⟨j, by have := inb 0; simp at this; omega⟩ a b) := by
  rw [View.readAt_eq_ld]
  exact View.ld_unit_apply_of _ _ _ _ _ (ix3 ⟨j, _⟩ a b) (by intro a; fin_cases a <;> simp)

theorem ld_off {N n0 m n1 : ℕ} (v : View sig κ sp (⟨3, ![N, n0, n1]⟩ : Shape) e) (f : v.ty.Contents Val) (j : Fin N) (hm : m ≤ n0) {off : Fin 3 → ℕ} (h : off = ![j.val, 0, 0])
    (inb : ∀ a, off a + (![1, m, n1] : Fin 3 → ℕ) a ≤ (⟨3, ![N, n0, n1]⟩ : Shape).size a) (a : Fin m) (b : Fin n1) :
    v.readAt Val (Rect.unit (s := ⟨3, ![N, n0, n1]⟩) off ![1, m, n1] inb).toLoadRect f (ix3 0 a b) = v.read Val f (ix3 j ⟨a.val, a.isLt.trans_le hm⟩ b) := by
  subst h
  rw [View.readAt_eq_ld]
  exact View.ld_unit_apply_of _ _ _ _ _ (ix3 j ⟨a.val, _⟩ b) (by intro a; fin_cases a <;> simp)

end Loads

end Cert.Fox
end
-- ==== Proof.FoxPlain.lean ====
/- The step inside the band, its payloads entry by entry. -/
module

public import proofs.«01_k».proof.Proof.FoxTile

@[expose] public section

set_option maxRecDepth 16384
set_option synthInstance.maxSize 4096

noncomputable section

namespace Cert.Fox

open Cert.FoxBwdIdeal Cert.FoxBwdIdeal.Gen
open Idealize.ShloMosaic
open Idealize.ShloMosaic.TcCoe Idealize.ShloMosaic.Tactic

variable (c : Dev nD) (i : grid0.Coords)
variable (arg4 arg6 arg7 : Memref sig .tc .vmem S384x128 .bf16) (arg5 arg13 : Memref sig .tc .vmem S128x384 .bf16)
variable (arg9 : Memref sig .tc .vmem S8x384 .f32) (arg12 : Memref sig .tc .vmem S384x128 .f32)
variable (x0 x2 x3 : S384x128.Idx → Elt Ideal .bf16) (x1 x9 : S128x384.Idx → Elt Ideal .bf16) (x5 : S8x384.Idx → Elt Ideal .f32) (x8 : S384x128.Idx → Elt Ideal .f32)
variable (a0 : Buf (Elt Ideal) (sc0.view.loc (c : Thread nD τ))) (a1 : Buf (Elt Ideal) (sc1.view.loc (c : Thread nD τ))) (a2 : Buf (Elt Ideal) (sc2.view.loc (c : Thread nD τ)))
variable (a3 : Buf (Elt Ideal) (sc3.view.loc (c : Thread nD τ))) (a4 : Buf (Elt Ideal) (sc4.view.loc (c : Thread nD τ)))
variable (a5 : Buf (Elt Ideal) (sc5.view.loc (c : Thread nD τ))) (a6 : Buf (Elt Ideal) (sc6.view.loc (c : Thread nD τ))) (a7 : Buf (Elt Ideal) (sc7.view.loc (c : Thread nD τ)))
variable (v1 v3 : BitVec 32) (k0_hw1 : k0_chk1 v1 v3)
variable (k0_h4 : k0_cond4 v1 v3 = 1#1)

/-- The step's tile. -/
@[reducible] def tile (i : grid0.Coords) (x0 : S384x128.Idx → EReal) (x1 : S128x384.Idx → EReal) (x2 x3 : S384x128.Idx → EReal) (x5 : S8x384.Idx → EReal) (x8 : S384x128.Idx → EReal)
    (x9 : S128x384.Idx → EReal) (mask : Fin 384 → Fin 384 → Bool) (l0 l1 l2 : S2x384x128.Idx → EReal) : Tile :=
  ⟨(i 0).val, mask, x0, x1, x2, x3, x5, x8, x9, l0, l1, l2⟩

theorem pl_v109 (a : Fin 384) (b : Fin 128) : plainRun.sl.v109 c i arg4 arg6 arg9 x0 x2 x5 a0 a2 (ix2 a b) = (tile i x0 x1 x2 x3 x5 x8 x9 (fun _ _ => true) (sc0.view.read (Elt Ideal) a0) (sc1.view.read (Elt Ideal) a1) (sc2.view.read (Elt Ideal) a2)).prL 0 a ⟨0 + b.val, by omega⟩ b := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v53, plainRun.sl.v55, plainRun.sl.v58, plainRun.sl.v59, plainRun.sl.v64, plainRun.sl.v65, plainRun.sl.v70, plainRun.sl.v71, plainRun.sl.v73, plainRun.sl.v74, plainRun.sl.v75, plainRun.sl.v76, plainRun.sl.v77, plainRun.sl.v78, plainRun.sl.v79, plainRun.sl.v80, plainRun.sl.v81, plainRun.sl.v82, plainRun.sl.v83, plainRun.sl.v87, plainRun.sl.v88, plainRun.sl.v89, plainRun.sl.v90, plainRun.sl.v91, plainRun.sl.v93, plainRun.sl.v94, plainRun.sl.v95, plainRun.sl.v97, plainRun.sl.v99, plainRun.sl.v101, plainRun.sl.v102, plainRun.sl.v103, plainRun.sl.v104, plainRun.sl.v105, plainRun.sl.v106, plainRun.sl.v107, plainRun.sl.v108, plainRun.sl.v109, plainRun.sl.cst, plainRun.sl.cst_21, plainRun.sl.cst_22, plainRun.sl.cst_24, plainRun.sl.cst_34, plainRun.sl.cst_35, plainRun.sl.cst_59, plainRun.sl.cst_63, plainRun.sl.cst_67, k0_pay1]
  simp only [sel_lo, sel_hi, sel_hi', (fun x => sel_row0 x (i 0)), (fun x => sel_row1 x (i 0)), select_ite, zero_word, ld_rep, ld_slot]
  rfl

theorem pl_v121 (a : Fin 384) (b : Fin 128) : plainRun.sl.v121 c i arg4 arg6 arg9 x0 x2 x5 a0 a2 (ix2 a b) = (tile i x0 x1 x2 x3 x5 x8 x9 (fun _ _ => true) (sc0.view.read (Elt Ideal) a0) (sc1.view.read (Elt Ideal) a1) (sc2.view.read (Elt Ideal) a2)).prL 0 a ⟨128 + b.val, by omega⟩ b := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v53, plainRun.sl.v55, plainRun.sl.v58, plainRun.sl.v59, plainRun.sl.v64, plainRun.sl.v65, plainRun.sl.v70, plainRun.sl.v71, plainRun.sl.v73, plainRun.sl.v74, plainRun.sl.v75, plainRun.sl.v76, plainRun.sl.v77, plainRun.sl.v78, plainRun.sl.v79, plainRun.sl.v80, plainRun.sl.v81, plainRun.sl.v82, plainRun.sl.v83, plainRun.sl.v87, plainRun.sl.v88, plainRun.sl.v89, plainRun.sl.v90, plainRun.sl.v91, plainRun.sl.v93, plainRun.sl.v94, plainRun.sl.v95, plainRun.sl.v97, plainRun.sl.v99, plainRun.sl.v101, plainRun.sl.v102, plainRun.sl.v103, plainRun.sl.v104, plainRun.sl.v105, plainRun.sl.v106, plainRun.sl.v107, plainRun.sl.v108, plainRun.sl.v109, plainRun.sl.v110, plainRun.sl.v111, plainRun.sl.v112, plainRun.sl.v113, plainRun.sl.v114, plainRun.sl.v115, plainRun.sl.v116, plainRun.sl.v117, plainRun.sl.v118, plainRun.sl.v119, plainRun.sl.v120, plainRun.sl.v121, plainRun.sl.cst, plainRun.sl.cst_21, plainRun.sl.cst_22, plainRun.sl.cst_24, plainRun.sl.cst_34, plainRun.sl.cst_35, plainRun.sl.cst_59, plainRun.sl.cst_63, plainRun.sl.cst_67, k0_pay1]
  simp only [sel_lo, sel_hi, sel_hi', (fun x => sel_row0 x (i 0)), (fun x => sel_row1 x (i 0)), select_ite, zero_word, ld_rep, ld_slot]
  rfl

theorem pl_v133 (a : Fin 384) (b : Fin 128) : plainRun.sl.v133 c i arg4 arg6 arg9 x0 x2 x5 a0 a2 (ix2 a b) = (tile i x0 x1 x2 x3 x5 x8 x9 (fun _ _ => true) (sc0.view.read (Elt Ideal) a0) (sc1.view.read (Elt Ideal) a1) (sc2.view.read (Elt Ideal) a2)).prL 0 a ⟨256 + b.val, by omega⟩ b := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v53, plainRun.sl.v55, plainRun.sl.v58, plainRun.sl.v59, plainRun.sl.v64, plainRun.sl.v65, plainRun.sl.v70, plainRun.sl.v71, plainRun.sl.v73, plainRun.sl.v74, plainRun.sl.v75, plainRun.sl.v76, plainRun.sl.v77, plainRun.sl.v78, plainRun.sl.v79, plainRun.sl.v80, plainRun.sl.v81, plainRun.sl.v82, plainRun.sl.v83, plainRun.sl.v87, plainRun.sl.v88, plainRun.sl.v89, plainRun.sl.v90, plainRun.sl.v91, plainRun.sl.v93, plainRun.sl.v94, plainRun.sl.v95, plainRun.sl.v97, plainRun.sl.v99, plainRun.sl.v101, plainRun.sl.v102, plainRun.sl.v103, plainRun.sl.v104, plainRun.sl.v105, plainRun.sl.v106, plainRun.sl.v107, plainRun.sl.v108, plainRun.sl.v109, plainRun.sl.v110, plainRun.sl.v111, plainRun.sl.v112, plainRun.sl.v113, plainRun.sl.v114, plainRun.sl.v115, plainRun.sl.v116, plainRun.sl.v117, plainRun.sl.v118, plainRun.sl.v119, plainRun.sl.v120, plainRun.sl.v121, plainRun.sl.v122, plainRun.sl.v123, plainRun.sl.v124, plainRun.sl.v125, plainRun.sl.v126, plainRun.sl.v127, plainRun.sl.v128, plainRun.sl.v129, plainRun.sl.v130, plainRun.sl.v131, plainRun.sl.v132, plainRun.sl.v133, plainRun.sl.cst, plainRun.sl.cst_21, plainRun.sl.cst_22, plainRun.sl.cst_24, plainRun.sl.cst_34, plainRun.sl.cst_35, plainRun.sl.cst_59, plainRun.sl.cst_63, plainRun.sl.cst_67, k0_pay1]
  simp only [sel_lo, sel_hi, sel_hi', (fun x => sel_row0 x (i 0)), (fun x => sel_row1 x (i 0)), select_ite, zero_word, ld_rep, ld_slot]
  rfl

theorem pl_v153 (a : Fin 384) (b : Fin 128) : plainRun.sl.v153 c i arg4 arg6 arg9 x0 x2 x5 a0 a2 (ix2 a b) = (tile i x0 x1 x2 x3 x5 x8 x9 (fun _ _ => true) (sc0.view.read (Elt Ideal) a0) (sc1.view.read (Elt Ideal) a1) (sc2.view.read (Elt Ideal) a2)).prL 1 a ⟨0 + b.val, by omega⟩ b := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v53, plainRun.sl.v55, plainRun.sl.v58, plainRun.sl.v59, plainRun.sl.v64, plainRun.sl.v65, plainRun.sl.v70, plainRun.sl.v71, plainRun.sl.v73, plainRun.sl.v74, plainRun.sl.v75, plainRun.sl.v76, plainRun.sl.v77, plainRun.sl.v78, plainRun.sl.v79, plainRun.sl.v80, plainRun.sl.v81, plainRun.sl.v82, plainRun.sl.v83, plainRun.sl.v87, plainRun.sl.v88, plainRun.sl.v89, plainRun.sl.v90, plainRun.sl.v91, plainRun.sl.v93, plainRun.sl.v94, plainRun.sl.v95, plainRun.sl.v97, plainRun.sl.v99, plainRun.sl.v101, plainRun.sl.v102, plainRun.sl.v103, plainRun.sl.v104, plainRun.sl.v105, plainRun.sl.v106, plainRun.sl.v107, plainRun.sl.v108, plainRun.sl.v109, plainRun.sl.v110, plainRun.sl.v111, plainRun.sl.v112, plainRun.sl.v113, plainRun.sl.v114, plainRun.sl.v115, plainRun.sl.v116, plainRun.sl.v117, plainRun.sl.v118, plainRun.sl.v119, plainRun.sl.v120, plainRun.sl.v121, plainRun.sl.v122, plainRun.sl.v123, plainRun.sl.v124, plainRun.sl.v125, plainRun.sl.v126, plainRun.sl.v127, plainRun.sl.v128, plainRun.sl.v129, plainRun.sl.v130, plainRun.sl.v131, plainRun.sl.v132, plainRun.sl.v133, plainRun.sl.v134, plainRun.sl.v135, plainRun.sl.v136, plainRun.sl.v137, plainRun.sl.v138, plainRun.sl.v139, plainRun.sl.v141, plainRun.sl.v143, plainRun.sl.v145, plainRun.sl.v146, plainRun.sl.v147, plainRun.sl.v148, plainRun.sl.v149, plainRun.sl.v150, plainRun.sl.v151, plainRun.sl.v152, plainRun.sl.v153, plainRun.sl.cst, plainRun.sl.cst_21, plainRun.sl.cst_22, plainRun.sl.cst_24, plainRun.sl.cst_34, plainRun.sl.cst_35, plainRun.sl.cst_59, plainRun.sl.cst_63, plainRun.sl.cst_67, k0_pay1]
  simp only [sel_lo, sel_hi, sel_hi', (fun x => sel_row0 x (i 0)), (fun x => sel_row1 x (i 0)), select_ite, zero_word, ld_rep, ld_slot]
  rfl

theorem pl_v165 (a : Fin 384) (b : Fin 128) : plainRun.sl.v165 c i arg4 arg6 arg9 x0 x2 x5 a0 a2 (ix2 a b) = (tile i x0 x1 x2 x3 x5 x8 x9 (fun _ _ => true) (sc0.view.read (Elt Ideal) a0) (sc1.view.read (Elt Ideal) a1) (sc2.view.read (Elt Ideal) a2)).prL 1 a ⟨128 + b.val, by omega⟩ b := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v53, plainRun.sl.v55, plainRun.sl.v58, plainRun.sl.v59, plainRun.sl.v64, plainRun.sl.v65, plainRun.sl.v70, plainRun.sl.v71, plainRun.sl.v73, plainRun.sl.v74, plainRun.sl.v75, plainRun.sl.v76, plainRun.sl.v77, plainRun.sl.v78, plainRun.sl.v79, plainRun.sl.v80, plainRun.sl.v81, plainRun.sl.v82, plainRun.sl.v83, plainRun.sl.v87, plainRun.sl.v88, plainRun.sl.v89, plainRun.sl.v90, plainRun.sl.v91, plainRun.sl.v93, plainRun.sl.v94, plainRun.sl.v95, plainRun.sl.v97, plainRun.sl.v99, plainRun.sl.v101, plainRun.sl.v102, plainRun.sl.v103, plainRun.sl.v104, plainRun.sl.v105, plainRun.sl.v106, plainRun.sl.v107, plainRun.sl.v108, plainRun.sl.v109, plainRun.sl.v110, plainRun.sl.v111, plainRun.sl.v112, plainRun.sl.v113, plainRun.sl.v114, plainRun.sl.v115, plainRun.sl.v116, plainRun.sl.v117, plainRun.sl.v118, plainRun.sl.v119, plainRun.sl.v120, plainRun.sl.v121, plainRun.sl.v122, plainRun.sl.v123, plainRun.sl.v124, plainRun.sl.v125, plainRun.sl.v126, plainRun.sl.v127, plainRun.sl.v128, plainRun.sl.v129, plainRun.sl.v130, plainRun.sl.v131, plainRun.sl.v132, plainRun.sl.v133, plainRun.sl.v134, plainRun.sl.v135, plainRun.sl.v136, plainRun.sl.v137, plainRun.sl.v138, plainRun.sl.v139, plainRun.sl.v141, plainRun.sl.v143, plainRun.sl.v145, plainRun.sl.v146, plainRun.sl.v147, plainRun.sl.v148, plainRun.sl.v149, plainRun.sl.v150, plainRun.sl.v151, plainRun.sl.v152, plainRun.sl.v153, plainRun.sl.v154, plainRun.sl.v155, plainRun.sl.v156, plainRun.sl.v157, plainRun.sl.v158, plainRun.sl.v159, plainRun.sl.v160, plainRun.sl.v161, plainRun.sl.v162, plainRun.sl.v163, plainRun.sl.v164, plainRun.sl.v165, plainRun.sl.cst, plainRun.sl.cst_21, plainRun.sl.cst_22, plainRun.sl.cst_24, plainRun.sl.cst_34, plainRun.sl.cst_35, plainRun.sl.cst_59, plainRun.sl.cst_63, plainRun.sl.cst_67, k0_pay1]
  simp only [sel_lo, sel_hi, sel_hi', (fun x => sel_row0 x (i 0)), (fun x => sel_row1 x (i 0)), select_ite, zero_word, ld_rep, ld_slot]
  rfl

theorem pl_v177 (a : Fin 384) (b : Fin 128) : plainRun.sl.v177 c i arg4 arg6 arg9 x0 x2 x5 a0 a2 (ix2 a b) = (tile i x0 x1 x2 x3 x5 x8 x9 (fun _ _ => true) (sc0.view.read (Elt Ideal) a0) (sc1.view.read (Elt Ideal) a1) (sc2.view.read (Elt Ideal) a2)).prL 1 a ⟨256 + b.val, by omega⟩ b := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v53, plainRun.sl.v55, plainRun.sl.v58, plainRun.sl.v59, plainRun.sl.v64, plainRun.sl.v65, plainRun.sl.v70, plainRun.sl.v71, plainRun.sl.v73, plainRun.sl.v74, plainRun.sl.v75, plainRun.sl.v76, plainRun.sl.v77, plainRun.sl.v78, plainRun.sl.v79, plainRun.sl.v80, plainRun.sl.v81, plainRun.sl.v82, plainRun.sl.v83, plainRun.sl.v87, plainRun.sl.v88, plainRun.sl.v89, plainRun.sl.v90, plainRun.sl.v91, plainRun.sl.v93, plainRun.sl.v94, plainRun.sl.v95, plainRun.sl.v97, plainRun.sl.v99, plainRun.sl.v101, plainRun.sl.v102, plainRun.sl.v103, plainRun.sl.v104, plainRun.sl.v105, plainRun.sl.v106, plainRun.sl.v107, plainRun.sl.v108, plainRun.sl.v109, plainRun.sl.v110, plainRun.sl.v111, plainRun.sl.v112, plainRun.sl.v113, plainRun.sl.v114, plainRun.sl.v115, plainRun.sl.v116, plainRun.sl.v117, plainRun.sl.v118, plainRun.sl.v119, plainRun.sl.v120, plainRun.sl.v121, plainRun.sl.v122, plainRun.sl.v123, plainRun.sl.v124, plainRun.sl.v125, plainRun.sl.v126, plainRun.sl.v127, plainRun.sl.v128, plainRun.sl.v129, plainRun.sl.v130, plainRun.sl.v131, plainRun.sl.v132, plainRun.sl.v133, plainRun.sl.v134, plainRun.sl.v135, plainRun.sl.v136, plainRun.sl.v137, plainRun.sl.v138, plainRun.sl.v139, plainRun.sl.v141, plainRun.sl.v143, plainRun.sl.v145, plainRun.sl.v146, plainRun.sl.v147, plainRun.sl.v148, plainRun.sl.v149, plainRun.sl.v150, plainRun.sl.v151, plainRun.sl.v152, plainRun.sl.v153, plainRun.sl.v154, plainRun.sl.v155, plainRun.sl.v156, plainRun.sl.v157, plainRun.sl.v158, plainRun.sl.v159, plainRun.sl.v160, plainRun.sl.v161, plainRun.sl.v162, plainRun.sl.v163, plainRun.sl.v164, plainRun.sl.v165, plainRun.sl.v166, plainRun.sl.v167, plainRun.sl.v168, plainRun.sl.v169, plainRun.sl.v170, plainRun.sl.v171, plainRun.sl.v172, plainRun.sl.v173, plainRun.sl.v174, plainRun.sl.v175, plainRun.sl.v176, plainRun.sl.v177, plainRun.sl.cst, plainRun.sl.cst_21, plainRun.sl.cst_22, plainRun.sl.cst_24, plainRun.sl.cst_34, plainRun.sl.cst_35, plainRun.sl.cst_59, plainRun.sl.cst_63, plainRun.sl.cst_67, k0_pay1]
  simp only [sel_lo, sel_hi, sel_hi', (fun x => sel_row0 x (i 0)), (fun x => sel_row1 x (i 0)), select_ite, zero_word, ld_rep, ld_slot]
  rfl

theorem pl_v113 (a : Fin 384) (b : Fin 128) : plainRun.sl.v113 c i arg4 arg6 arg7 arg9 arg12 x0 x2 x3 x5 x8 a0 a1 a2 (ix2 a b) = (tile i x0 x1 x2 x3 x5 x8 x9 (fun _ _ => true) (sc0.view.read (Elt Ideal) a0) (sc1.view.read (Elt Ideal) a1) (sc2.view.read (Elt Ideal) a2)).dsL 0 a ⟨0 + b.val, by omega⟩ b := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v53, plainRun.sl.v55, plainRun.sl.v58, plainRun.sl.v59, plainRun.sl.v64, plainRun.sl.v65, plainRun.sl.v70, plainRun.sl.v71, plainRun.sl.v73, plainRun.sl.v74, plainRun.sl.v75, plainRun.sl.v76, plainRun.sl.v77, plainRun.sl.v78, plainRun.sl.v79, plainRun.sl.v80, plainRun.sl.v81, plainRun.sl.v82, plainRun.sl.v83, plainRun.sl.v87, plainRun.sl.v88, plainRun.sl.v89, plainRun.sl.v90, plainRun.sl.v91, plainRun.sl.v93, plainRun.sl.v94, plainRun.sl.v95, plainRun.sl.v97, plainRun.sl.v99, plainRun.sl.v101, plainRun.sl.v102, plainRun.sl.v103, plainRun.sl.v104, plainRun.sl.v105, plainRun.sl.v106, plainRun.sl.v107, plainRun.sl.v108, plainRun.sl.v109, plainRun.sl.v110, plainRun.sl.v111, plainRun.sl.v112, plainRun.sl.v113, plainRun.sl.cst, plainRun.sl.cst_21, plainRun.sl.cst_22, plainRun.sl.cst_24, plainRun.sl.cst_34, plainRun.sl.cst_35, plainRun.sl.cst_59, plainRun.sl.cst_63, plainRun.sl.cst_67, k0_pay1]
  simp only [sel_lo, sel_hi, sel_hi', (fun x => sel_row0 x (i 0)), (fun x => sel_row1 x (i 0)), select_ite, zero_word, ld_rep, ld_slot]
  rfl

theorem pl_v125 (a : Fin 384) (b : Fin 128) : plainRun.sl.v125 c i arg4 arg6 arg7 arg9 arg12 x0 x2 x3 x5 x8 a0 a1 a2 (ix2 a b) = (tile i x0 x1 x2 x3 x5 x8 x9 (fun _ _ => true) (sc0.view.read (Elt Ideal) a0) (sc1.view.read (Elt Ideal) a1) (sc2.view.read (Elt Ideal) a2)).dsL 0 a ⟨128 + b.val, by omega⟩ b := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v53, plainRun.sl.v55, plainRun.sl.v58, plainRun.sl.v59, plainRun.sl.v64, plainRun.sl.v65, plainRun.sl.v70, plainRun.sl.v71, plainRun.sl.v73, plainRun.sl.v74, plainRun.sl.v75, plainRun.sl.v76, plainRun.sl.v77, plainRun.sl.v78, plainRun.sl.v79, plainRun.sl.v80, plainRun.sl.v81, plainRun.sl.v82, plainRun.sl.v83, plainRun.sl.v87, plainRun.sl.v88, plainRun.sl.v89, plainRun.sl.v90, plainRun.sl.v91, plainRun.sl.v93, plainRun.sl.v94, plainRun.sl.v95, plainRun.sl.v97, plainRun.sl.v99, plainRun.sl.v101, plainRun.sl.v102, plainRun.sl.v103, plainRun.sl.v104, plainRun.sl.v105, plainRun.sl.v106, plainRun.sl.v107, plainRun.sl.v108, plainRun.sl.v109, plainRun.sl.v110, plainRun.sl.v111, plainRun.sl.v112, plainRun.sl.v113, plainRun.sl.v114, plainRun.sl.v115, plainRun.sl.v116, plainRun.sl.v117, plainRun.sl.v118, plainRun.sl.v119, plainRun.sl.v120, plainRun.sl.v121, plainRun.sl.v122, plainRun.sl.v123, plainRun.sl.v124, plainRun.sl.v125, plainRun.sl.cst, plainRun.sl.cst_21, plainRun.sl.cst_22, plainRun.sl.cst_24, plainRun.sl.cst_34, plainRun.sl.cst_35, plainRun.sl.cst_59, plainRun.sl.cst_63, plainRun.sl.cst_67, k0_pay1]
  simp only [sel_lo, sel_hi, sel_hi', (fun x => sel_row0 x (i 0)), (fun x => sel_row1 x (i 0)), select_ite, zero_word, ld_rep, ld_slot]
  rfl

theorem pl_v137 (a : Fin 384) (b : Fin 128) : plainRun.sl.v137 c i arg4 arg6 arg7 arg9 arg12 x0 x2 x3 x5 x8 a0 a1 a2 (ix2 a b) = (tile i x0 x1 x2 x3 x5 x8 x9 (fun _ _ => true) (sc0.view.read (Elt Ideal) a0) (sc1.view.read (Elt Ideal) a1) (sc2.view.read (Elt Ideal) a2)).dsL 0 a ⟨256 + b.val, by omega⟩ b := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v53, plainRun.sl.v55, plainRun.sl.v58, plainRun.sl.v59, plainRun.sl.v64, plainRun.sl.v65, plainRun.sl.v70, plainRun.sl.v71, plainRun.sl.v73, plainRun.sl.v74, plainRun.sl.v75, plainRun.sl.v76, plainRun.sl.v77, plainRun.sl.v78, plainRun.sl.v79, plainRun.sl.v80, plainRun.sl.v81, plainRun.sl.v82, plainRun.sl.v83, plainRun.sl.v87, plainRun.sl.v88, plainRun.sl.v89, plainRun.sl.v90, plainRun.sl.v91, plainRun.sl.v93, plainRun.sl.v94, plainRun.sl.v95, plainRun.sl.v97, plainRun.sl.v99, plainRun.sl.v101, plainRun.sl.v102, plainRun.sl.v103, plainRun.sl.v104, plainRun.sl.v105, plainRun.sl.v106, plainRun.sl.v107, plainRun.sl.v108, plainRun.sl.v109, plainRun.sl.v110, plainRun.sl.v111, plainRun.sl.v112, plainRun.sl.v113, plainRun.sl.v114, plainRun.sl.v115, plainRun.sl.v116, plainRun.sl.v117, plainRun.sl.v118, plainRun.sl.v119, plainRun.sl.v120, plainRun.sl.v121, plainRun.sl.v122, plainRun.sl.v123, plainRun.sl.v124, plainRun.sl.v125, plainRun.sl.v126, plainRun.sl.v127, plainRun.sl.v128, plainRun.sl.v129, plainRun.sl.v130, plainRun.sl.v131, plainRun.sl.v132, plainRun.sl.v133, plainRun.sl.v134, plainRun.sl.v135, plainRun.sl.v136, plainRun.sl.v137, plainRun.sl.cst, plainRun.sl.cst_21, plainRun.sl.cst_22, plainRun.sl.cst_24, plainRun.sl.cst_34, plainRun.sl.cst_35, plainRun.sl.cst_59, plainRun.sl.cst_63, plainRun.sl.cst_67, k0_pay1]
  simp only [sel_lo, sel_hi, sel_hi', (fun x => sel_row0 x (i 0)), (fun x => sel_row1 x (i 0)), select_ite, zero_word, ld_rep, ld_slot]
  rfl

theorem pl_v157 (a : Fin 384) (b : Fin 128) : plainRun.sl.v157 c i arg4 arg6 arg7 arg9 arg12 x0 x2 x3 x5 x8 a0 a1 a2 (ix2 a b) = (tile i x0 x1 x2 x3 x5 x8 x9 (fun _ _ => true) (sc0.view.read (Elt Ideal) a0) (sc1.view.read (Elt Ideal) a1) (sc2.view.read (Elt Ideal) a2)).dsL 1 a ⟨0 + b.val, by omega⟩ b := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v53, plainRun.sl.v55, plainRun.sl.v58, plainRun.sl.v59, plainRun.sl.v64, plainRun.sl.v65, plainRun.sl.v70, plainRun.sl.v71, plainRun.sl.v73, plainRun.sl.v74, plainRun.sl.v75, plainRun.sl.v76, plainRun.sl.v77, plainRun.sl.v78, plainRun.sl.v79, plainRun.sl.v80, plainRun.sl.v81, plainRun.sl.v82, plainRun.sl.v83, plainRun.sl.v87, plainRun.sl.v88, plainRun.sl.v89, plainRun.sl.v90, plainRun.sl.v91, plainRun.sl.v93, plainRun.sl.v94, plainRun.sl.v95, plainRun.sl.v97, plainRun.sl.v99, plainRun.sl.v101, plainRun.sl.v102, plainRun.sl.v103, plainRun.sl.v104, plainRun.sl.v105, plainRun.sl.v106, plainRun.sl.v107, plainRun.sl.v108, plainRun.sl.v109, plainRun.sl.v110, plainRun.sl.v111, plainRun.sl.v112, plainRun.sl.v113, plainRun.sl.v114, plainRun.sl.v115, plainRun.sl.v116, plainRun.sl.v117, plainRun.sl.v118, plainRun.sl.v119, plainRun.sl.v120, plainRun.sl.v121, plainRun.sl.v122, plainRun.sl.v123, plainRun.sl.v124, plainRun.sl.v125, plainRun.sl.v126, plainRun.sl.v127, plainRun.sl.v128, plainRun.sl.v129, plainRun.sl.v130, plainRun.sl.v131, plainRun.sl.v132, plainRun.sl.v133, plainRun.sl.v134, plainRun.sl.v135, plainRun.sl.v136, plainRun.sl.v137, plainRun.sl.v138, plainRun.sl.v139, plainRun.sl.v141, plainRun.sl.v143, plainRun.sl.v145, plainRun.sl.v146, plainRun.sl.v147, plainRun.sl.v148, plainRun.sl.v149, plainRun.sl.v150, plainRun.sl.v151, plainRun.sl.v152, plainRun.sl.v153, plainRun.sl.v154, plainRun.sl.v155, plainRun.sl.v156, plainRun.sl.v157, plainRun.sl.cst, plainRun.sl.cst_21, plainRun.sl.cst_22, plainRun.sl.cst_24, plainRun.sl.cst_34, plainRun.sl.cst_35, plainRun.sl.cst_59, plainRun.sl.cst_63, plainRun.sl.cst_67, k0_pay1]
  simp only [sel_lo, sel_hi, sel_hi', (fun x => sel_row0 x (i 0)), (fun x => sel_row1 x (i 0)), select_ite, zero_word, ld_rep, ld_slot]
  rfl

theorem pl_v169 (a : Fin 384) (b : Fin 128) : plainRun.sl.v169 c i arg4 arg6 arg7 arg9 arg12 x0 x2 x3 x5 x8 a0 a1 a2 (ix2 a b) = (tile i x0 x1 x2 x3 x5 x8 x9 (fun _ _ => true) (sc0.view.read (Elt Ideal) a0) (sc1.view.read (Elt Ideal) a1) (sc2.view.read (Elt Ideal) a2)).dsL 1 a ⟨128 + b.val, by omega⟩ b := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v53, plainRun.sl.v55, plainRun.sl.v58, plainRun.sl.v59, plainRun.sl.v64, plainRun.sl.v65, plainRun.sl.v70, plainRun.sl.v71, plainRun.sl.v73, plainRun.sl.v74, plainRun.sl.v75, plainRun.sl.v76, plainRun.sl.v77, plainRun.sl.v78, plainRun.sl.v79, plainRun.sl.v80, plainRun.sl.v81, plainRun.sl.v82, plainRun.sl.v83, plainRun.sl.v87, plainRun.sl.v88, plainRun.sl.v89, plainRun.sl.v90, plainRun.sl.v91, plainRun.sl.v93, plainRun.sl.v94, plainRun.sl.v95, plainRun.sl.v97, plainRun.sl.v99, plainRun.sl.v101, plainRun.sl.v102, plainRun.sl.v103, plainRun.sl.v104, plainRun.sl.v105, plainRun.sl.v106, plainRun.sl.v107, plainRun.sl.v108, plainRun.sl.v109, plainRun.sl.v110, plainRun.sl.v111, plainRun.sl.v112, plainRun.sl.v113, plainRun.sl.v114, plainRun.sl.v115, plainRun.sl.v116, plainRun.sl.v117, plainRun.sl.v118, plainRun.sl.v119, plainRun.sl.v120, plainRun.sl.v121, plainRun.sl.v122, plainRun.sl.v123, plainRun.sl.v124, plainRun.sl.v125, plainRun.sl.v126, plainRun.sl.v127, plainRun.sl.v128, plainRun.sl.v129, plainRun.sl.v130, plainRun.sl.v131, plainRun.sl.v132, plainRun.sl.v133, plainRun.sl.v134, plainRun.sl.v135, plainRun.sl.v136, plainRun.sl.v137, plainRun.sl.v138, plainRun.sl.v139, plainRun.sl.v141, plainRun.sl.v143, plainRun.sl.v145, plainRun.sl.v146, plainRun.sl.v147, plainRun.sl.v148, plainRun.sl.v149, plainRun.sl.v150, plainRun.sl.v151, plainRun.sl.v152, plainRun.sl.v153, plainRun.sl.v154, plainRun.sl.v155, plainRun.sl.v156, plainRun.sl.v157, plainRun.sl.v158, plainRun.sl.v159, plainRun.sl.v160, plainRun.sl.v161, plainRun.sl.v162, plainRun.sl.v163, plainRun.sl.v164, plainRun.sl.v165, plainRun.sl.v166, plainRun.sl.v167, plainRun.sl.v168, plainRun.sl.v169, plainRun.sl.cst, plainRun.sl.cst_21, plainRun.sl.cst_22, plainRun.sl.cst_24, plainRun.sl.cst_34, plainRun.sl.cst_35, plainRun.sl.cst_59, plainRun.sl.cst_63, plainRun.sl.cst_67, k0_pay1]
  simp only [sel_lo, sel_hi, sel_hi', (fun x => sel_row0 x (i 0)), (fun x => sel_row1 x (i 0)), select_ite, zero_word, ld_rep, ld_slot]
  rfl

theorem pl_v181 (a : Fin 384) (b : Fin 128) : plainRun.sl.v181 c i arg4 arg6 arg7 arg9 arg12 x0 x2 x3 x5 x8 a0 a1 a2 (ix2 a b) = (tile i x0 x1 x2 x3 x5 x8 x9 (fun _ _ => true) (sc0.view.read (Elt Ideal) a0) (sc1.view.read (Elt Ideal) a1) (sc2.view.read (Elt Ideal) a2)).dsL 1 a ⟨256 + b.val, by omega⟩ b := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v53, plainRun.sl.v55, plainRun.sl.v58, plainRun.sl.v59, plainRun.sl.v64, plainRun.sl.v65, plainRun.sl.v70, plainRun.sl.v71, plainRun.sl.v73, plainRun.sl.v74, plainRun.sl.v75, plainRun.sl.v76, plainRun.sl.v77, plainRun.sl.v78, plainRun.sl.v79, plainRun.sl.v80, plainRun.sl.v81, plainRun.sl.v82, plainRun.sl.v83, plainRun.sl.v87, plainRun.sl.v88, plainRun.sl.v89, plainRun.sl.v90, plainRun.sl.v91, plainRun.sl.v93, plainRun.sl.v94, plainRun.sl.v95, plainRun.sl.v97, plainRun.sl.v99, plainRun.sl.v101, plainRun.sl.v102, plainRun.sl.v103, plainRun.sl.v104, plainRun.sl.v105, plainRun.sl.v106, plainRun.sl.v107, plainRun.sl.v108, plainRun.sl.v109, plainRun.sl.v110, plainRun.sl.v111, plainRun.sl.v112, plainRun.sl.v113, plainRun.sl.v114, plainRun.sl.v115, plainRun.sl.v116, plainRun.sl.v117, plainRun.sl.v118, plainRun.sl.v119, plainRun.sl.v120, plainRun.sl.v121, plainRun.sl.v122, plainRun.sl.v123, plainRun.sl.v124, plainRun.sl.v125, plainRun.sl.v126, plainRun.sl.v127, plainRun.sl.v128, plainRun.sl.v129, plainRun.sl.v130, plainRun.sl.v131, plainRun.sl.v132, plainRun.sl.v133, plainRun.sl.v134, plainRun.sl.v135, plainRun.sl.v136, plainRun.sl.v137, plainRun.sl.v138, plainRun.sl.v139, plainRun.sl.v141, plainRun.sl.v143, plainRun.sl.v145, plainRun.sl.v146, plainRun.sl.v147, plainRun.sl.v148, plainRun.sl.v149, plainRun.sl.v150, plainRun.sl.v151, plainRun.sl.v152, plainRun.sl.v153, plainRun.sl.v154, plainRun.sl.v155, plainRun.sl.v156, plainRun.sl.v157, plainRun.sl.v158, plainRun.sl.v159, plainRun.sl.v160, plainRun.sl.v161, plainRun.sl.v162, plainRun.sl.v163, plainRun.sl.v164, plainRun.sl.v165, plainRun.sl.v166, plainRun.sl.v167, plainRun.sl.v168, plainRun.sl.v169, plainRun.sl.v170, plainRun.sl.v171, plainRun.sl.v172, plainRun.sl.v173, plainRun.sl.v174, plainRun.sl.v175, plainRun.sl.v176, plainRun.sl.v177, plainRun.sl.v178, plainRun.sl.v179, plainRun.sl.v180, plainRun.sl.v181, plainRun.sl.cst, plainRun.sl.cst_21, plainRun.sl.cst_22, plainRun.sl.cst_24, plainRun.sl.cst_34, plainRun.sl.cst_35, plainRun.sl.cst_59, plainRun.sl.cst_63, plainRun.sl.cst_67, k0_pay1]
  simp only [sel_lo, sel_hi, sel_hi', (fun x => sel_row0 x (i 0)), (fun x => sel_row1 x (i 0)), select_ite, zero_word, ld_rep, ld_slot]
  rfl

end Cert.Fox
end
-- ==== Proof.FoxEdge.lean ====
/- A row block's first and last step and a pair of heads' last step, entry by entry. -/
module

public import proofs.«01_k».proof.Proof.FoxPlain

@[expose] public section

set_option maxRecDepth 16384
set_option synthInstance.maxSize 4096

noncomputable section

namespace Cert.Fox

open Cert.FoxBwdIdeal Cert.FoxBwdIdeal.Gen
open Idealize.ShloMosaic
open Idealize.ShloMosaic.TcCoe Idealize.ShloMosaic.Tactic

variable (c : Dev nD) (i : grid0.Coords)
variable (arg8 arg11 arg12 : Memref sig .tc .vmem S384x128 .f32) (arg10 : Memref sig .tc .vmem S384x128 .bf16)
variable (x4 x7 x8 : S384x128.Idx → Elt Ideal .f32) (x6 : S384x128.Idx → Elt Ideal .bf16)
variable (a3 : Buf (Elt Ideal) (sc3.view.loc (c : Thread nD τ))) (a4 : Buf (Elt Ideal) (sc4.view.loc (c : Thread nD τ)))
variable (a5 : Buf (Elt Ideal) (sc5.view.loc (c : Thread nD τ))) (a6 : Buf (Elt Ideal) (sc6.view.loc (c : Thread nD τ))) (a7 : Buf (Elt Ideal) (sc7.view.loc (c : Thread nD τ)))

theorem sel_col0 (x : Fin 128) (p : Fin 4) : IntOp.cmpi .eq (BitVec.ofNat 32 x.val) (Scalar.addi (Scalar.muli (2#32) (BitVec.ofNat 32 p.val)) 0#32)
    = if x.val = 2 * p.val + 0 then 1#1 else 0#1 := by
  revert x p; decide
theorem sel_col1 (x : Fin 128) (p : Fin 4) : IntOp.cmpi .eq (BitVec.ofNat 32 x.val) (Scalar.addi (Scalar.muli (2#32) (BitVec.ofNat 32 p.val)) 1#32)
    = if x.val = 2 * p.val + 1 then 1#1 else 0#1 := by
  revert x p; decide

theorem in_lse0 (a : Fin 384) (l : Fin 128) : initRun.sl.v79 arg11 x7 (ix3 0 a l) = x7 (ix2 a 0) := by
  pointwise [initRun.sl.v4, initRun.sl.v30, initRun.sl.v32, initRun.sl.v33, initRun.sl.v34, initRun.sl.v36, initRun.sl.v37, initRun.sl.v39, initRun.sl.v41, initRun.sl.v42, initRun.sl.v43, initRun.sl.v45, initRun.sl.v47, initRun.sl.v48, initRun.sl.v49, initRun.sl.v50, initRun.sl.v51, initRun.sl.v52, initRun.sl.v53, initRun.sl.v55, initRun.sl.v56, initRun.sl.v57, initRun.sl.v58, initRun.sl.v59, initRun.sl.v61, initRun.sl.v62, initRun.sl.v64, initRun.sl.v66, initRun.sl.v67, initRun.sl.v68, initRun.sl.v69, initRun.sl.v70, initRun.sl.v72, initRun.sl.v73, initRun.sl.v74, initRun.sl.v75, initRun.sl.v76, initRun.sl.v78, initRun.sl.v79, initRun.sl.v84, initRun.sl.v85, initRun.sl.v86, initRun.sl.v87, initRun.sl.v88, initRun.sl.v90, initRun.sl.v91, initRun.sl.v92, initRun.sl.v93, initRun.sl.v94, initRun.sl.v95, initRun.sl.v96, initRun.sl.v97, initRun.sl.v98, initRun.sl.v101, initRun.sl.cst, initRun.sl.cst_24, initRun.sl.cst_36, k0_pay1, k0_pay6, k0_pay7]
  simp only [sel_lo, sel_hi, sel_hi', select_ite, zero_word, ld_rep, ld_slot, ld_full, View.read_rep, Nat.add_zero]

theorem in_lse1 (a : Fin 384) (l : Fin 128) : k0_pay7 (initRun.sl.v45 arg11 x7) (ix3 0 a l) = x7 (ix2 a 64) := by
  pointwise [initRun.sl.v4, initRun.sl.v30, initRun.sl.v32, initRun.sl.v33, initRun.sl.v34, initRun.sl.v36, initRun.sl.v37, initRun.sl.v39, initRun.sl.v41, initRun.sl.v42, initRun.sl.v43, initRun.sl.v45, initRun.sl.v47, initRun.sl.v48, initRun.sl.v49, initRun.sl.v50, initRun.sl.v51, initRun.sl.v52, initRun.sl.v53, initRun.sl.v55, initRun.sl.v56, initRun.sl.v57, initRun.sl.v58, initRun.sl.v59, initRun.sl.v61, initRun.sl.v62, initRun.sl.v64, initRun.sl.v66, initRun.sl.v67, initRun.sl.v68, initRun.sl.v69, initRun.sl.v70, initRun.sl.v72, initRun.sl.v73, initRun.sl.v74, initRun.sl.v75, initRun.sl.v76, initRun.sl.v78, initRun.sl.v79, initRun.sl.v84, initRun.sl.v85, initRun.sl.v86, initRun.sl.v87, initRun.sl.v88, initRun.sl.v90, initRun.sl.v91, initRun.sl.v92, initRun.sl.v93, initRun.sl.v94, initRun.sl.v95, initRun.sl.v96, initRun.sl.v97, initRun.sl.v98, initRun.sl.v101, initRun.sl.cst, initRun.sl.cst_24, initRun.sl.cst_36, k0_pay1, k0_pay6, k0_pay7]
  simp only [sel_lo, sel_hi, sel_hi', select_ite, zero_word, ld_rep, ld_slot, ld_full, View.read_rep, Nat.add_zero]

theorem in_dl0 (a : Fin 384) (l : Fin 128) : initRun.sl.v73 arg10 arg12 x6 x8 (ix3 0 a l) = ∑ d : Fin 128, if d.val / 64 = 0 then x8 (ix2 a d) * x6 (ix2 a d) else 0 := by
  pointwise [initRun.sl.v4, initRun.sl.v30, initRun.sl.v32, initRun.sl.v33, initRun.sl.v34, initRun.sl.v36, initRun.sl.v37, initRun.sl.v39, initRun.sl.v41, initRun.sl.v42, initRun.sl.v43, initRun.sl.v45, initRun.sl.v47, initRun.sl.v48, initRun.sl.v49, initRun.sl.v50, initRun.sl.v51, initRun.sl.v52, initRun.sl.v53, initRun.sl.v55, initRun.sl.v56, initRun.sl.v57, initRun.sl.v58, initRun.sl.v59, initRun.sl.v61, initRun.sl.v62, initRun.sl.v64, initRun.sl.v66, initRun.sl.v67, initRun.sl.v68, initRun.sl.v69, initRun.sl.v70, initRun.sl.v72, initRun.sl.v73, initRun.sl.v74, initRun.sl.v75, initRun.sl.v76, initRun.sl.v78, initRun.sl.v79, initRun.sl.v84, initRun.sl.v85, initRun.sl.v86, initRun.sl.v87, initRun.sl.v88, initRun.sl.v90, initRun.sl.v91, initRun.sl.v92, initRun.sl.v93, initRun.sl.v94, initRun.sl.v95, initRun.sl.v96, initRun.sl.v97, initRun.sl.v98, initRun.sl.v101, initRun.sl.cst, initRun.sl.cst_24, initRun.sl.cst_36, k0_pay1, k0_pay6, k0_pay7]
  simp only [sel_lo, sel_hi, sel_hi', select_ite, zero_word, ld_rep, ld_slot, ld_full, View.read_rep, Nat.add_zero]

set_option maxHeartbeats 2000000 in
theorem in_dl1 (a : Fin 384) (l : Fin 128) : k0_pay6 (initRun.sl.v101 arg10 arg12 x6 x8) (ix3 0 a l) = ∑ d : Fin 128, if d.val / 64 = 1 then x8 (ix2 a d) * x6 (ix2 a d) else 0 := by
  pointwise [initRun.sl.v4, initRun.sl.v30, initRun.sl.v32, initRun.sl.v33, initRun.sl.v34, initRun.sl.v36, initRun.sl.v37, initRun.sl.v39, initRun.sl.v41, initRun.sl.v42, initRun.sl.v43, initRun.sl.v45, initRun.sl.v47, initRun.sl.v48, initRun.sl.v49, initRun.sl.v50, initRun.sl.v51, initRun.sl.v52, initRun.sl.v53, initRun.sl.v55, initRun.sl.v56, initRun.sl.v57, initRun.sl.v58, initRun.sl.v59, initRun.sl.v61, initRun.sl.v62, initRun.sl.v64, initRun.sl.v66, initRun.sl.v67, initRun.sl.v68, initRun.sl.v69, initRun.sl.v70, initRun.sl.v72, initRun.sl.v73, initRun.sl.v74, initRun.sl.v75, initRun.sl.v76, initRun.sl.v78, initRun.sl.v79, initRun.sl.v84, initRun.sl.v85, initRun.sl.v86, initRun.sl.v87, initRun.sl.v88, initRun.sl.v90, initRun.sl.v91, initRun.sl.v92, initRun.sl.v93, initRun.sl.v94, initRun.sl.v95, initRun.sl.v96, initRun.sl.v97, initRun.sl.v98, initRun.sl.v101, initRun.sl.cst, initRun.sl.cst_24, initRun.sl.cst_36, k0_pay1, k0_pay6, k0_pay7]
  simp only [sel_lo, sel_hi, sel_hi', select_ite, zero_word, ld_rep, ld_slot, ld_full, View.read_rep, Nat.add_zero]

theorem in_cq0 (a : Fin 384) (l : Fin 128) : initRun.sl.v62 i arg8 x4 (ix3 0 a l) = ∑ d : Fin 128, if d.val = 2 * (i 0).val then x4 (ix2 a d) else 0 := by
  pointwise [initRun.sl.v4, initRun.sl.v30, initRun.sl.v32, initRun.sl.v33, initRun.sl.v34, initRun.sl.v36, initRun.sl.v37, initRun.sl.v39, initRun.sl.v41, initRun.sl.v42, initRun.sl.v43, initRun.sl.v45, initRun.sl.v47, initRun.sl.v48, initRun.sl.v49, initRun.sl.v50, initRun.sl.v51, initRun.sl.v52, initRun.sl.v53, initRun.sl.v55, initRun.sl.v56, initRun.sl.v57, initRun.sl.v58, initRun.sl.v59, initRun.sl.v61, initRun.sl.v62, initRun.sl.v64, initRun.sl.v66, initRun.sl.v67, initRun.sl.v68, initRun.sl.v69, initRun.sl.v70, initRun.sl.v72, initRun.sl.v73, initRun.sl.v74, initRun.sl.v75, initRun.sl.v76, initRun.sl.v78, initRun.sl.v79, initRun.sl.v84, initRun.sl.v85, initRun.sl.v86, initRun.sl.v87, initRun.sl.v88, initRun.sl.v90, initRun.sl.v91, initRun.sl.v92, initRun.sl.v93, initRun.sl.v94, initRun.sl.v95, initRun.sl.v96, initRun.sl.v97, initRun.sl.v98, initRun.sl.v101, initRun.sl.cst, initRun.sl.cst_24, initRun.sl.cst_36, k0_pay1, k0_pay6, k0_pay7]
  simp only [sel_lo, sel_hi, sel_hi', (fun x => sel_col0 x (i 0)), (fun x => sel_col1 x (i 0)), select_ite, zero_word, ld_rep, ld_slot, ld_full, View.read_rep, Nat.add_zero]

theorem in_cq1 (a : Fin 384) (l : Fin 128) : initRun.sl.v97 i arg8 x4 (ix3 0 a l) = ∑ d : Fin 128, if d.val = 2 * (i 0).val + 1 then x4 (ix2 a d) else 0 := by
  pointwise [initRun.sl.v4, initRun.sl.v30, initRun.sl.v32, initRun.sl.v33, initRun.sl.v34, initRun.sl.v36, initRun.sl.v37, initRun.sl.v39, initRun.sl.v41, initRun.sl.v42, initRun.sl.v43, initRun.sl.v45, initRun.sl.v47, initRun.sl.v48, initRun.sl.v49, initRun.sl.v50, initRun.sl.v51, initRun.sl.v52, initRun.sl.v53, initRun.sl.v55, initRun.sl.v56, initRun.sl.v57, initRun.sl.v58, initRun.sl.v59, initRun.sl.v61, initRun.sl.v62, initRun.sl.v64, initRun.sl.v66, initRun.sl.v67, initRun.sl.v68, initRun.sl.v69, initRun.sl.v70, initRun.sl.v72, initRun.sl.v73, initRun.sl.v74, initRun.sl.v75, initRun.sl.v76, initRun.sl.v78, initRun.sl.v79, initRun.sl.v84, initRun.sl.v85, initRun.sl.v86, initRun.sl.v87, initRun.sl.v88, initRun.sl.v90, initRun.sl.v91, initRun.sl.v92, initRun.sl.v93, initRun.sl.v94, initRun.sl.v95, initRun.sl.v96, initRun.sl.v97, initRun.sl.v98, initRun.sl.v101, initRun.sl.cst, initRun.sl.cst_24, initRun.sl.cst_36, k0_pay1, k0_pay6, k0_pay7]
  simp only [sel_lo, sel_hi, sel_hi', (fun x => sel_col0 x (i 0)), (fun x => sel_col1 x (i 0)), select_ite, zero_word, ld_rep, ld_slot, ld_full, View.read_rep, Nat.add_zero]

theorem in_dq (a : Fin 384) (d : Fin 128) : initRun.sl.v33 (F := Ideal) (ix2 a d) = 0 := by
  pointwise [initRun.sl.v4, initRun.sl.v30, initRun.sl.v32, initRun.sl.v33, initRun.sl.v34, initRun.sl.v36, initRun.sl.v37, initRun.sl.v39, initRun.sl.v41, initRun.sl.v42, initRun.sl.v43, initRun.sl.v45, initRun.sl.v47, initRun.sl.v48, initRun.sl.v49, initRun.sl.v50, initRun.sl.v51, initRun.sl.v52, initRun.sl.v53, initRun.sl.v55, initRun.sl.v56, initRun.sl.v57, initRun.sl.v58, initRun.sl.v59, initRun.sl.v61, initRun.sl.v62, initRun.sl.v64, initRun.sl.v66, initRun.sl.v67, initRun.sl.v68, initRun.sl.v69, initRun.sl.v70, initRun.sl.v72, initRun.sl.v73, initRun.sl.v74, initRun.sl.v75, initRun.sl.v76, initRun.sl.v78, initRun.sl.v79, initRun.sl.v84, initRun.sl.v85, initRun.sl.v86, initRun.sl.v87, initRun.sl.v88, initRun.sl.v90, initRun.sl.v91, initRun.sl.v92, initRun.sl.v93, initRun.sl.v94, initRun.sl.v95, initRun.sl.v96, initRun.sl.v97, initRun.sl.v98, initRun.sl.v101, initRun.sl.cst, initRun.sl.cst_24, initRun.sl.cst_36, k0_pay1, k0_pay6, k0_pay7]

theorem in_dcq (e : Fin 2) (a : Fin 384) (d : Fin 128) : initRun.sl.v37 (F := Ideal) (ix3 e a d) = 0 := by
  pointwise [initRun.sl.v4, initRun.sl.v30, initRun.sl.v32, initRun.sl.v33, initRun.sl.v34, initRun.sl.v36, initRun.sl.v37, initRun.sl.v39, initRun.sl.v41, initRun.sl.v42, initRun.sl.v43, initRun.sl.v45, initRun.sl.v47, initRun.sl.v48, initRun.sl.v49, initRun.sl.v50, initRun.sl.v51, initRun.sl.v52, initRun.sl.v53, initRun.sl.v55, initRun.sl.v56, initRun.sl.v57, initRun.sl.v58, initRun.sl.v59, initRun.sl.v61, initRun.sl.v62, initRun.sl.v64, initRun.sl.v66, initRun.sl.v67, initRun.sl.v68, initRun.sl.v69, initRun.sl.v70, initRun.sl.v72, initRun.sl.v73, initRun.sl.v74, initRun.sl.v75, initRun.sl.v76, initRun.sl.v78, initRun.sl.v79, initRun.sl.v84, initRun.sl.v85, initRun.sl.v86, initRun.sl.v87, initRun.sl.v88, initRun.sl.v90, initRun.sl.v91, initRun.sl.v92, initRun.sl.v93, initRun.sl.v94, initRun.sl.v95, initRun.sl.v96, initRun.sl.v97, initRun.sl.v98, initRun.sl.v101, initRun.sl.cst, initRun.sl.cst_24, initRun.sl.cst_36, k0_pay1, k0_pay6, k0_pay7]

theorem ze_3 (j : Fin 11) (d : Fin 128) (b : Fin 384) : k0_pay3 (F := Ideal) (ix3 j d b) = 0 := by
  pointwise [k0_pay3]

theorem ze_4 (j : Fin 11) (d : Fin 128) (b : Fin 384) : k0_pay4 (F := Ideal) (ix3 j d b) = 0 := by
  pointwise [k0_pay4]

theorem ze_5 (j : Fin 11) (d : Fin 128) (b : Fin 384) : k0_pay5 (F := Ideal) (ix3 j d b) = 0 := by
  pointwise [k0_pay5]

theorem out_dcq (a : Fin 384) (d : Fin 128) : k0_pay11 (sc4.view.readAt (Elt Ideal) (Rect.unit (s := S2x384x128) ![0, 0, 0] S1x384x128.size inb_S2x384x128_S1x384x128_0_0_0).toLoadRect a4) (sc4.view.readAt (Elt Ideal) (Rect.unit (s := S2x384x128) ![1, 0, 0] S1x384x128.size inb_S2x384x128_S1x384x128_1_0_0).toLoadRect a4) (ix2 a d) = if d.val / 64 = 0 then sc4.view.read (Elt Ideal) a4 (ix3 0 a d) else sc4.view.read (Elt Ideal) a4 (ix3 1 a d) := by
  pointwise [k0_pay1, k0_pay11]
  simp only [sel_lo, sel_hi, sel_hi', select_ite, zero_word, ld_rep, ld_slot, ld_full]
  rfl

theorem slot_at (f : S11x128x384.Idx → EReal) (r : Fin 4224) (d d' : Fin 128) (j : Fin 11) (b : Fin 384) (h : r.val = 384 * j.val + b.val) (hd : d = d') :
    f (ix3 j d b) = f (ix3 ⟨r.val / 384, by omega⟩ d' ⟨r.val % 384, Nat.mod_lt _ (by decide)⟩) := by
  subst hd
  exact congrArg₂ (fun j b => f (ix3 j d b)) (Fin.ext (by simp; omega)) (Fin.ext (by simp; omega))

theorem fin_16 (r : Fin 4224) (d : Fin 128) : View.canon (Val := Elt Ideal) (finRun.sl.HO16_11 c a5) (ix2 r d)
    = sc5.view.read (Elt Ideal) a5 (ix3 ⟨r.val / 384, by omega⟩ d ⟨r.val % 384, Nat.mod_lt _ (by decide)⟩) := by
  unfold finRun.sl.HO16_11
  canon_tiles x h
  all_goals rw [eq_ix2 x]
  all_goals pointwise [finRun.sl.r_1, finRun.sl.v30, finRun.sl.v31, finRun.sl.v32, finRun.sl.v34, finRun.sl.v36, finRun.sl.v39, finRun.sl.v46, finRun.sl.v47, finRun.sl.v51, finRun.sl.v54, finRun.sl.v55, finRun.sl.v57, finRun.sl.v58, finRun.sl.v60, finRun.sl.v61, finRun.sl.v64, finRun.sl.v65, finRun.sl.v68, finRun.sl.v69, finRun.sl.v70, finRun.sl.v73, finRun.sl.v74, finRun.sl.v77, finRun.sl.v78, finRun.sl.v81, finRun.sl.v82, finRun.sl.v83, finRun.sl.v86, finRun.sl.v87, finRun.sl.v90, finRun.sl.v91, finRun.sl.v94, finRun.sl.v95, finRun.sl.v96, finRun.sl.v99, finRun.sl.v100, finRun.sl.v103, finRun.sl.v104, finRun.sl.v107, finRun.sl.v108, finRun.sl.v109, finRun.sl.v112, finRun.sl.v113, finRun.sl.v116, finRun.sl.v117, finRun.sl.v120, finRun.sl.v121, finRun.sl.v122, finRun.sl.v125, finRun.sl.v126, finRun.sl.v129, finRun.sl.v130, finRun.sl.v133, finRun.sl.v134, finRun.sl.v135, finRun.sl.v138, finRun.sl.v139, finRun.sl.v142, finRun.sl.v143, finRun.sl.v146, finRun.sl.v147, finRun.sl.v148, finRun.sl.v151, finRun.sl.v152, finRun.sl.v155, finRun.sl.v156, finRun.sl.v159, finRun.sl.v160, finRun.sl.v161, finRun.sl.v164, finRun.sl.v165, finRun.sl.v168, finRun.sl.v169, finRun.sl.v172, finRun.sl.v173, finRun.sl.v174, finRun.sl.v177, finRun.sl.v178, finRun.sl.v181, finRun.sl.v182, finRun.sl.v185, finRun.sl.v186, finRun.sl.v187, finRun.sl.r, finRun.sl.cst, k0_pay12, k0_pay13, k0_pay14]
  all_goals refine (ld_slot _ _ _ _ (x 1) (x 0)).trans ?_
  all_goals have e0 : r.val = _ := h0
  all_goals have e1 : d.val = _ := h1
  all_goals exact slot_at _ _ _ _ _ _ (by first | omega | (simp; omega)) (Fin.ext (by first | omega | (simp; omega)))

theorem fin_17 (r : Fin 4224) (d : Fin 128) : View.canon (Val := Elt Ideal) (finRun.sl.HO17_11 c a6) (ix2 r d)
    = sc6.view.read (Elt Ideal) a6 (ix3 ⟨r.val / 384, by omega⟩ d ⟨r.val % 384, Nat.mod_lt _ (by decide)⟩) := by
  unfold finRun.sl.HO17_11
  canon_tiles x h
  all_goals rw [eq_ix2 x]
  all_goals pointwise [finRun.sl.r_1, finRun.sl.v30, finRun.sl.v31, finRun.sl.v32, finRun.sl.v34, finRun.sl.v36, finRun.sl.v39, finRun.sl.v46, finRun.sl.v47, finRun.sl.v51, finRun.sl.v54, finRun.sl.v55, finRun.sl.v57, finRun.sl.v58, finRun.sl.v60, finRun.sl.v61, finRun.sl.v64, finRun.sl.v65, finRun.sl.v68, finRun.sl.v69, finRun.sl.v70, finRun.sl.v73, finRun.sl.v74, finRun.sl.v77, finRun.sl.v78, finRun.sl.v81, finRun.sl.v82, finRun.sl.v83, finRun.sl.v86, finRun.sl.v87, finRun.sl.v90, finRun.sl.v91, finRun.sl.v94, finRun.sl.v95, finRun.sl.v96, finRun.sl.v99, finRun.sl.v100, finRun.sl.v103, finRun.sl.v104, finRun.sl.v107, finRun.sl.v108, finRun.sl.v109, finRun.sl.v112, finRun.sl.v113, finRun.sl.v116, finRun.sl.v117, finRun.sl.v120, finRun.sl.v121, finRun.sl.v122, finRun.sl.v125, finRun.sl.v126, finRun.sl.v129, finRun.sl.v130, finRun.sl.v133, finRun.sl.v134, finRun.sl.v135, finRun.sl.v138, finRun.sl.v139, finRun.sl.v142, finRun.sl.v143, finRun.sl.v146, finRun.sl.v147, finRun.sl.v148, finRun.sl.v151, finRun.sl.v152, finRun.sl.v155, finRun.sl.v156, finRun.sl.v159, finRun.sl.v160, finRun.sl.v161, finRun.sl.v164, finRun.sl.v165, finRun.sl.v168, finRun.sl.v169, finRun.sl.v172, finRun.sl.v173, finRun.sl.v174, finRun.sl.v177, finRun.sl.v178, finRun.sl.v181, finRun.sl.v182, finRun.sl.v185, finRun.sl.v186, finRun.sl.v187, finRun.sl.r, finRun.sl.cst, k0_pay12, k0_pay13, k0_pay14]
  all_goals refine (ld_slot _ _ _ _ (x 1) (x 0)).trans ?_
  all_goals have e0 : r.val = _ := h0
  all_goals have e1 : d.val = _ := h1
  all_goals exact slot_at _ _ _ _ _ _ (by first | omega | (simp; omega)) (Fin.ext (by first | omega | (simp; omega)))

theorem floor_word (d : Fin 128) : Scalar.select
    (IntOp.andi (IntOp.cmpi .ne (IntOp.subi (BitVec.setWidth 32 (IntOp.cmpi .sgt (BitVec.ofNat 32 d.val) 0#32))
      (BitVec.setWidth 32 (IntOp.cmpi .slt (BitVec.ofNat 32 d.val) 0#32))) 1#32)
      (IntOp.cmpi .ne (IntOp.remsi ArithUnit.vector (BitVec.ofNat 32 d.val) 64#32) 0#32))
    (IntOp.subi (IntOp.divsi ArithUnit.vector (BitVec.ofNat 32 d.val) 64#32) 1#32)
    (IntOp.divsi ArithUnit.vector (BitVec.ofNat 32 d.val) 64#32) = BitVec.ofNat 32 (d.val / 64) := by
  revert d; decide

theorem eq_word (r : Fin 128) (k : Fin 2) : BitVec.setWidth 32 (IntOp.cmpi .eq (BitVec.ofNat 32 r.val) (BitVec.ofNat 32 k.val)) = if r.val = k.val then 1#32 else 0#32 := by
  revert r k; decide

theorem spread_eq (d r : Fin 128) : finRun.sl.v58 (F := Ideal) (ix2 d r) = if r.val = d.val / 64 then 1 else 0 := by
  pointwise [finRun.sl.r_1, finRun.sl.v30, finRun.sl.v31, finRun.sl.v32, finRun.sl.v34, finRun.sl.v36, finRun.sl.v39, finRun.sl.v46, finRun.sl.v47, finRun.sl.v51, finRun.sl.v54, finRun.sl.v55, finRun.sl.v57, finRun.sl.v58, finRun.sl.v60, finRun.sl.v61, finRun.sl.v64, finRun.sl.v65, finRun.sl.v68, finRun.sl.v69, finRun.sl.v70, finRun.sl.v73, finRun.sl.v74, finRun.sl.v77, finRun.sl.v78, finRun.sl.v81, finRun.sl.v82, finRun.sl.v83, finRun.sl.v86, finRun.sl.v87, finRun.sl.v90, finRun.sl.v91, finRun.sl.v94, finRun.sl.v95, finRun.sl.v96, finRun.sl.v99, finRun.sl.v100, finRun.sl.v103, finRun.sl.v104, finRun.sl.v107, finRun.sl.v108, finRun.sl.v109, finRun.sl.v112, finRun.sl.v113, finRun.sl.v116, finRun.sl.v117, finRun.sl.v120, finRun.sl.v121, finRun.sl.v122, finRun.sl.v125, finRun.sl.v126, finRun.sl.v129, finRun.sl.v130, finRun.sl.v133, finRun.sl.v134, finRun.sl.v135, finRun.sl.v138, finRun.sl.v139, finRun.sl.v142, finRun.sl.v143, finRun.sl.v146, finRun.sl.v147, finRun.sl.v148, finRun.sl.v151, finRun.sl.v152, finRun.sl.v155, finRun.sl.v156, finRun.sl.v159, finRun.sl.v160, finRun.sl.v161, finRun.sl.v164, finRun.sl.v165, finRun.sl.v168, finRun.sl.v169, finRun.sl.v172, finRun.sl.v173, finRun.sl.v174, finRun.sl.v177, finRun.sl.v178, finRun.sl.v181, finRun.sl.v182, finRun.sl.v185, finRun.sl.v186, finRun.sl.v187, finRun.sl.r, finRun.sl.cst, k0_pay12, k0_pay13, k0_pay14]
  rw [floor_word, eq_word r ⟨d.val / 64, by omega⟩]
  simp only [FloatOps.sitofp]
  split_ifs <;> simp

/-- The row of a pair's two sums that a lane reads. -/
theorem spread_sum (d : Fin 128) (f : Fin 128 → EReal) : ∑ r : Fin 128, finRun.sl.v58 (F := Ideal) (ix2 d r) * f r = f ⟨d.val / 64, by omega⟩ := by
  rw [Finset.sum_eq_single ⟨d.val / 64, by omega⟩]
  · rw [spread_eq, if_pos rfl, one_mul]
  · intro r _ hr
    rw [spread_eq, if_neg fun h => hr (Fin.ext h), zero_mul]
  · intro h; exact absurd (Finset.mem_univ _) h

theorem fin_18 (r : Fin 4224) (d : Fin 128) : View.canon (Val := Elt Ideal) (finRun.sl.HO18_11 c a7) (ix2 r d)
    = sc7.view.read (Elt Ideal) a7 (ix3 ⟨r.val / 384, by omega⟩ ⟨d.val / 64, by omega⟩ ⟨r.val % 384, Nat.mod_lt _ (by decide)⟩) := by
  unfold finRun.sl.HO18_11
  canon_tiles x h
  all_goals rw [eq_ix2 x]
  all_goals pointwise [finRun.sl.r_1, finRun.sl.v30, finRun.sl.v31, finRun.sl.v32, finRun.sl.v34, finRun.sl.v36, finRun.sl.v39, finRun.sl.v46, finRun.sl.v47, finRun.sl.v51, finRun.sl.v54, finRun.sl.v55, finRun.sl.v57, finRun.sl.v60, finRun.sl.v61, finRun.sl.v64, finRun.sl.v65, finRun.sl.v68, finRun.sl.v69, finRun.sl.v70, finRun.sl.v73, finRun.sl.v74, finRun.sl.v77, finRun.sl.v78, finRun.sl.v81, finRun.sl.v82, finRun.sl.v83, finRun.sl.v86, finRun.sl.v87, finRun.sl.v90, finRun.sl.v91, finRun.sl.v94, finRun.sl.v95, finRun.sl.v96, finRun.sl.v99, finRun.sl.v100, finRun.sl.v103, finRun.sl.v104, finRun.sl.v107, finRun.sl.v108, finRun.sl.v109, finRun.sl.v112, finRun.sl.v113, finRun.sl.v116, finRun.sl.v117, finRun.sl.v120, finRun.sl.v121, finRun.sl.v122, finRun.sl.v125, finRun.sl.v126, finRun.sl.v129, finRun.sl.v130, finRun.sl.v133, finRun.sl.v134, finRun.sl.v135, finRun.sl.v138, finRun.sl.v139, finRun.sl.v142, finRun.sl.v143, finRun.sl.v146, finRun.sl.v147, finRun.sl.v148, finRun.sl.v151, finRun.sl.v152, finRun.sl.v155, finRun.sl.v156, finRun.sl.v159, finRun.sl.v160, finRun.sl.v161, finRun.sl.v164, finRun.sl.v165, finRun.sl.v168, finRun.sl.v169, finRun.sl.v172, finRun.sl.v173, finRun.sl.v174, finRun.sl.v177, finRun.sl.v178, finRun.sl.v181, finRun.sl.v182, finRun.sl.v185, finRun.sl.v186, finRun.sl.v187, finRun.sl.r, finRun.sl.cst, k0_pay12, k0_pay13, k0_pay14]
  all_goals refine (spread_sum (x 1) _).trans ?_
  all_goals refine (ld_slot _ _ _ _ ⟨(x 1).val / 64, _⟩ (x 0)).trans ?_
  all_goals have e0 : r.val = _ := h0
  all_goals have e1 : d.val = _ := h1
  all_goals exact slot_at _ _ _ _ _ _ (by first | omega | (simp; omega)) (Fin.ext (congrArg (· / 64) (by first | omega | (simp; omega))))

end Cert.Fox
end
-- ==== Proof.FoxMasked.lean ====
/- The step at the band's edge, its probabilities and score gradients entry by entry. -/
module

public import proofs.«01_k».proof.Proof.FoxPlain
public import Idealize.ShloMosaic.PureOps.Ideal.Laws

@[expose] public section

set_option maxRecDepth 16384
set_option synthInstance.maxSize 4096

noncomputable section

namespace Cert.Fox

open Cert.FoxBwdIdeal Cert.FoxBwdIdeal.Gen
open Idealize.ShloMosaic
open Idealize.ShloMosaic.TcCoe Idealize.ShloMosaic.Tactic

/-- The mask as the body computes it from the block's two words. -/
def maskW (v1 v3 : BitVec 32) (a b : Fin 384) : Bool := decide (maskedRun.sl.v59 v1 v3 (ix2 a b) = 1#1)

theorem select_dec {α : Type} (w : BitVec 1) (u v : α) : Scalar.select w u v = if decide (w = 1#1) = true then u else v := by
  unfold Scalar.select; by_cases h : w = 1#1 <;> simp [h]

theorem mask_bot : Named.named (F := Ideal) (φ := .f32) κ "mask" 0xF149F2CA#32 = (⊥ : EReal) :=
  IdealRules.named_const.ideal_named_scalar _ _ _ _ rfl

variable (c : Dev nD) (i : grid0.Coords)
variable (arg4 arg6 arg7 : Memref sig .tc .vmem S384x128 .bf16) (arg5 arg13 : Memref sig .tc .vmem S128x384 .bf16)
variable (arg9 : Memref sig .tc .vmem S8x384 .f32) (arg12 : Memref sig .tc .vmem S384x128 .f32)
variable (x0 x2 x3 : S384x128.Idx → Elt Ideal .bf16) (x1 x9 : S128x384.Idx → Elt Ideal .bf16) (x5 : S8x384.Idx → Elt Ideal .f32) (x8 : S384x128.Idx → Elt Ideal .f32)
variable (a0 : Buf (Elt Ideal) (sc0.view.loc (c : Thread nD τ))) (a1 : Buf (Elt Ideal) (sc1.view.loc (c : Thread nD τ))) (a2 : Buf (Elt Ideal) (sc2.view.loc (c : Thread nD τ)))
variable (a3 : Buf (Elt Ideal) (sc3.view.loc (c : Thread nD τ))) (a4 : Buf (Elt Ideal) (sc4.view.loc (c : Thread nD τ)))
variable (a5 : Buf (Elt Ideal) (sc5.view.loc (c : Thread nD τ))) (a6 : Buf (Elt Ideal) (sc6.view.loc (c : Thread nD τ))) (a7 : Buf (Elt Ideal) (sc7.view.loc (c : Thread nD τ)))
variable (v1 v3 : BitVec 32) (k0_hw1 : k0_chk1 v1 v3)
variable (k0_h3 : k0_cond3 v1 v3 = 1#1)

theorem mk_r_1 (a : Fin 384) (b : Fin 128) : maskedRun.sl.r_1 c i arg4 arg6 arg9 x0 x2 x5 a0 a2 v1 v3 (ix2 a b) = (tile i x0 x1 x2 x3 x5 x8 x9 (maskW v1 v3) (sc0.view.read (Elt Ideal) a0) (sc1.view.read (Elt Ideal) a1) (sc2.view.read (Elt Ideal) a2)).prL 0 a ⟨0 + b.val, by omega⟩ b := by
  pointwise [maskedRun.sl.r_1, maskedRun.sl.r_2, maskedRun.sl.r_3, maskedRun.sl.r_4, maskedRun.sl.r_5, maskedRun.sl.r_6, maskedRun.sl.r_7, maskedRun.sl.r_8, maskedRun.sl.r_9, maskedRun.sl.r_10, maskedRun.sl.r_11, maskedRun.sl.r_12, maskedRun.sl.r_13, maskedRun.sl.r_14, maskedRun.sl.r_15, maskedRun.sl.r_16, maskedRun.sl.r_17, maskedRun.sl.v31, maskedRun.sl.v33, maskedRun.sl.v35, maskedRun.sl.v37, maskedRun.sl.v39, maskedRun.sl.v40, maskedRun.sl.v42, maskedRun.sl.v43, maskedRun.sl.v44, maskedRun.sl.v45, maskedRun.sl.v46, maskedRun.sl.v47, maskedRun.sl.v48, maskedRun.sl.v49, maskedRun.sl.v50, maskedRun.sl.v51, maskedRun.sl.v52, maskedRun.sl.v53, maskedRun.sl.v54, maskedRun.sl.v55, maskedRun.sl.v56, maskedRun.sl.v57, maskedRun.sl.v58, maskedRun.sl.v60, maskedRun.sl.v63, maskedRun.sl.v65, maskedRun.sl.v66, maskedRun.sl.v67, maskedRun.sl.v68, maskedRun.sl.v70, maskedRun.sl.v73, maskedRun.sl.v74, maskedRun.sl.v79, maskedRun.sl.v80, maskedRun.sl.v85, maskedRun.sl.v86, maskedRun.sl.v88, maskedRun.sl.v89, maskedRun.sl.v90, maskedRun.sl.v91, maskedRun.sl.v92, maskedRun.sl.v93, maskedRun.sl.v94, maskedRun.sl.v95, maskedRun.sl.v96, maskedRun.sl.v97, maskedRun.sl.v98, maskedRun.sl.v102, maskedRun.sl.v103, maskedRun.sl.v104, maskedRun.sl.v105, maskedRun.sl.v106, maskedRun.sl.v108, maskedRun.sl.v109, maskedRun.sl.v110, maskedRun.sl.v207, maskedRun.sl.v208, maskedRun.sl.v209, maskedRun.sl.v210, maskedRun.sl.v211, maskedRun.sl.v212, maskedRun.sl.v213, maskedRun.sl.v214, maskedRun.sl.v215, maskedRun.sl.v216, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.r, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [sel_lo, sel_hi, sel_hi', (fun x => sel_row0 x (i 0)), (fun x => sel_row1 x (i 0)), select_ite, zero_word, ld_rep, ld_slot, (fun a b (u w : EReal) => select_dec (maskedRun.sl.v59 v1 v3 (ix2 a b)) u w), mask_bot]
  rfl

theorem mk_r_3 (a : Fin 384) (b : Fin 128) : maskedRun.sl.r_3 c i arg4 arg6 arg9 x0 x2 x5 a0 a2 v1 v3 (ix2 a b) = (tile i x0 x1 x2 x3 x5 x8 x9 (maskW v1 v3) (sc0.view.read (Elt Ideal) a0) (sc1.view.read (Elt Ideal) a1) (sc2.view.read (Elt Ideal) a2)).prL 0 a ⟨128 + b.val, by omega⟩ b := by
  pointwise [maskedRun.sl.r_1, maskedRun.sl.r_2, maskedRun.sl.r_3, maskedRun.sl.r_4, maskedRun.sl.r_5, maskedRun.sl.r_6, maskedRun.sl.r_7, maskedRun.sl.r_8, maskedRun.sl.r_9, maskedRun.sl.r_10, maskedRun.sl.r_11, maskedRun.sl.r_12, maskedRun.sl.r_13, maskedRun.sl.r_14, maskedRun.sl.r_15, maskedRun.sl.r_16, maskedRun.sl.r_17, maskedRun.sl.v31, maskedRun.sl.v33, maskedRun.sl.v35, maskedRun.sl.v37, maskedRun.sl.v39, maskedRun.sl.v40, maskedRun.sl.v42, maskedRun.sl.v43, maskedRun.sl.v44, maskedRun.sl.v45, maskedRun.sl.v46, maskedRun.sl.v47, maskedRun.sl.v48, maskedRun.sl.v49, maskedRun.sl.v50, maskedRun.sl.v51, maskedRun.sl.v52, maskedRun.sl.v53, maskedRun.sl.v54, maskedRun.sl.v55, maskedRun.sl.v56, maskedRun.sl.v57, maskedRun.sl.v58, maskedRun.sl.v60, maskedRun.sl.v63, maskedRun.sl.v65, maskedRun.sl.v66, maskedRun.sl.v67, maskedRun.sl.v68, maskedRun.sl.v70, maskedRun.sl.v73, maskedRun.sl.v74, maskedRun.sl.v79, maskedRun.sl.v80, maskedRun.sl.v85, maskedRun.sl.v86, maskedRun.sl.v88, maskedRun.sl.v89, maskedRun.sl.v90, maskedRun.sl.v91, maskedRun.sl.v92, maskedRun.sl.v93, maskedRun.sl.v94, maskedRun.sl.v95, maskedRun.sl.v96, maskedRun.sl.v97, maskedRun.sl.v98, maskedRun.sl.v102, maskedRun.sl.v103, maskedRun.sl.v104, maskedRun.sl.v105, maskedRun.sl.v106, maskedRun.sl.v108, maskedRun.sl.v109, maskedRun.sl.v110, maskedRun.sl.v207, maskedRun.sl.v208, maskedRun.sl.v209, maskedRun.sl.v210, maskedRun.sl.v211, maskedRun.sl.v212, maskedRun.sl.v213, maskedRun.sl.v214, maskedRun.sl.v215, maskedRun.sl.v216, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.r, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [sel_lo, sel_hi, sel_hi', (fun x => sel_row0 x (i 0)), (fun x => sel_row1 x (i 0)), select_ite, zero_word, ld_rep, ld_slot, (fun a b (u w : EReal) => select_dec (maskedRun.sl.v59 v1 v3 (ix2 a b)) u w), mask_bot]
  rfl

theorem mk_r_6 (a : Fin 384) (b : Fin 128) : maskedRun.sl.r_6 c i arg4 arg6 arg9 x0 x2 x5 a0 a2 v1 v3 (ix2 a b) = (tile i x0 x1 x2 x3 x5 x8 x9 (maskW v1 v3) (sc0.view.read (Elt Ideal) a0) (sc1.view.read (Elt Ideal) a1) (sc2.view.read (Elt Ideal) a2)).prL 0 a ⟨256 + b.val, by omega⟩ b := by
  pointwise [maskedRun.sl.r_1, maskedRun.sl.r_2, maskedRun.sl.r_3, maskedRun.sl.r_4, maskedRun.sl.r_5, maskedRun.sl.r_6, maskedRun.sl.r_7, maskedRun.sl.r_8, maskedRun.sl.r_9, maskedRun.sl.r_10, maskedRun.sl.r_11, maskedRun.sl.r_12, maskedRun.sl.r_13, maskedRun.sl.r_14, maskedRun.sl.r_15, maskedRun.sl.r_16, maskedRun.sl.r_17, maskedRun.sl.v31, maskedRun.sl.v33, maskedRun.sl.v35, maskedRun.sl.v37, maskedRun.sl.v39, maskedRun.sl.v40, maskedRun.sl.v42, maskedRun.sl.v43, maskedRun.sl.v44, maskedRun.sl.v45, maskedRun.sl.v46, maskedRun.sl.v47, maskedRun.sl.v48, maskedRun.sl.v49, maskedRun.sl.v50, maskedRun.sl.v51, maskedRun.sl.v52, maskedRun.sl.v53, maskedRun.sl.v54, maskedRun.sl.v55, maskedRun.sl.v56, maskedRun.sl.v57, maskedRun.sl.v58, maskedRun.sl.v60, maskedRun.sl.v63, maskedRun.sl.v65, maskedRun.sl.v66, maskedRun.sl.v67, maskedRun.sl.v68, maskedRun.sl.v70, maskedRun.sl.v73, maskedRun.sl.v74, maskedRun.sl.v79, maskedRun.sl.v80, maskedRun.sl.v85, maskedRun.sl.v86, maskedRun.sl.v88, maskedRun.sl.v89, maskedRun.sl.v90, maskedRun.sl.v91, maskedRun.sl.v92, maskedRun.sl.v93, maskedRun.sl.v94, maskedRun.sl.v95, maskedRun.sl.v96, maskedRun.sl.v97, maskedRun.sl.v98, maskedRun.sl.v102, maskedRun.sl.v103, maskedRun.sl.v104, maskedRun.sl.v105, maskedRun.sl.v106, maskedRun.sl.v108, maskedRun.sl.v109, maskedRun.sl.v110, maskedRun.sl.v207, maskedRun.sl.v208, maskedRun.sl.v209, maskedRun.sl.v210, maskedRun.sl.v211, maskedRun.sl.v212, maskedRun.sl.v213, maskedRun.sl.v214, maskedRun.sl.v215, maskedRun.sl.v216, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.r, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [sel_lo, sel_hi, sel_hi', (fun x => sel_row0 x (i 0)), (fun x => sel_row1 x (i 0)), select_ite, zero_word, ld_rep, ld_slot, (fun a b (u w : EReal) => select_dec (maskedRun.sl.v59 v1 v3 (ix2 a b)) u w), mask_bot]
  rfl

theorem mk_r_12 (a : Fin 384) (b : Fin 128) : maskedRun.sl.r_12 c i arg4 arg6 arg9 x0 x2 x5 a0 a2 v1 v3 (ix2 a b) = (tile i x0 x1 x2 x3 x5 x8 x9 (maskW v1 v3) (sc0.view.read (Elt Ideal) a0) (sc1.view.read (Elt Ideal) a1) (sc2.view.read (Elt Ideal) a2)).prL 1 a ⟨0 + b.val, by omega⟩ b := by
  pointwise [maskedRun.sl.r_1, maskedRun.sl.r_2, maskedRun.sl.r_3, maskedRun.sl.r_4, maskedRun.sl.r_5, maskedRun.sl.r_6, maskedRun.sl.r_7, maskedRun.sl.r_8, maskedRun.sl.r_9, maskedRun.sl.r_10, maskedRun.sl.r_11, maskedRun.sl.r_12, maskedRun.sl.r_13, maskedRun.sl.r_14, maskedRun.sl.r_15, maskedRun.sl.r_16, maskedRun.sl.r_17, maskedRun.sl.v31, maskedRun.sl.v33, maskedRun.sl.v35, maskedRun.sl.v37, maskedRun.sl.v39, maskedRun.sl.v40, maskedRun.sl.v42, maskedRun.sl.v43, maskedRun.sl.v44, maskedRun.sl.v45, maskedRun.sl.v46, maskedRun.sl.v47, maskedRun.sl.v48, maskedRun.sl.v49, maskedRun.sl.v50, maskedRun.sl.v51, maskedRun.sl.v52, maskedRun.sl.v53, maskedRun.sl.v54, maskedRun.sl.v55, maskedRun.sl.v56, maskedRun.sl.v57, maskedRun.sl.v58, maskedRun.sl.v60, maskedRun.sl.v63, maskedRun.sl.v65, maskedRun.sl.v66, maskedRun.sl.v67, maskedRun.sl.v68, maskedRun.sl.v70, maskedRun.sl.v73, maskedRun.sl.v74, maskedRun.sl.v79, maskedRun.sl.v80, maskedRun.sl.v85, maskedRun.sl.v86, maskedRun.sl.v88, maskedRun.sl.v89, maskedRun.sl.v90, maskedRun.sl.v91, maskedRun.sl.v92, maskedRun.sl.v93, maskedRun.sl.v94, maskedRun.sl.v95, maskedRun.sl.v96, maskedRun.sl.v97, maskedRun.sl.v98, maskedRun.sl.v102, maskedRun.sl.v103, maskedRun.sl.v104, maskedRun.sl.v105, maskedRun.sl.v106, maskedRun.sl.v108, maskedRun.sl.v109, maskedRun.sl.v110, maskedRun.sl.v207, maskedRun.sl.v208, maskedRun.sl.v209, maskedRun.sl.v210, maskedRun.sl.v211, maskedRun.sl.v212, maskedRun.sl.v213, maskedRun.sl.v214, maskedRun.sl.v215, maskedRun.sl.v216, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.r, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [sel_lo, sel_hi, sel_hi', (fun x => sel_row0 x (i 0)), (fun x => sel_row1 x (i 0)), select_ite, zero_word, ld_rep, ld_slot, (fun a b (u w : EReal) => select_dec (maskedRun.sl.v59 v1 v3 (ix2 a b)) u w), mask_bot]
  rfl

theorem mk_r_14 (a : Fin 384) (b : Fin 128) : maskedRun.sl.r_14 c i arg4 arg6 arg9 x0 x2 x5 a0 a2 v1 v3 (ix2 a b) = (tile i x0 x1 x2 x3 x5 x8 x9 (maskW v1 v3) (sc0.view.read (Elt Ideal) a0) (sc1.view.read (Elt Ideal) a1) (sc2.view.read (Elt Ideal) a2)).prL 1 a ⟨128 + b.val, by omega⟩ b := by
  pointwise [maskedRun.sl.r_1, maskedRun.sl.r_2, maskedRun.sl.r_3, maskedRun.sl.r_4, maskedRun.sl.r_5, maskedRun.sl.r_6, maskedRun.sl.r_7, maskedRun.sl.r_8, maskedRun.sl.r_9, maskedRun.sl.r_10, maskedRun.sl.r_11, maskedRun.sl.r_12, maskedRun.sl.r_13, maskedRun.sl.r_14, maskedRun.sl.r_15, maskedRun.sl.r_16, maskedRun.sl.r_17, maskedRun.sl.v31, maskedRun.sl.v33, maskedRun.sl.v35, maskedRun.sl.v37, maskedRun.sl.v39, maskedRun.sl.v40, maskedRun.sl.v42, maskedRun.sl.v43, maskedRun.sl.v44, maskedRun.sl.v45, maskedRun.sl.v46, maskedRun.sl.v47, maskedRun.sl.v48, maskedRun.sl.v49, maskedRun.sl.v50, maskedRun.sl.v51, maskedRun.sl.v52, maskedRun.sl.v53, maskedRun.sl.v54, maskedRun.sl.v55, maskedRun.sl.v56, maskedRun.sl.v57, maskedRun.sl.v58, maskedRun.sl.v60, maskedRun.sl.v63, maskedRun.sl.v65, maskedRun.sl.v66, maskedRun.sl.v67, maskedRun.sl.v68, maskedRun.sl.v70, maskedRun.sl.v73, maskedRun.sl.v74, maskedRun.sl.v79, maskedRun.sl.v80, maskedRun.sl.v85, maskedRun.sl.v86, maskedRun.sl.v88, maskedRun.sl.v89, maskedRun.sl.v90, maskedRun.sl.v91, maskedRun.sl.v92, maskedRun.sl.v93, maskedRun.sl.v94, maskedRun.sl.v95, maskedRun.sl.v96, maskedRun.sl.v97, maskedRun.sl.v98, maskedRun.sl.v102, maskedRun.sl.v103, maskedRun.sl.v104, maskedRun.sl.v105, maskedRun.sl.v106, maskedRun.sl.v108, maskedRun.sl.v109, maskedRun.sl.v110, maskedRun.sl.v207, maskedRun.sl.v208, maskedRun.sl.v209, maskedRun.sl.v210, maskedRun.sl.v211, maskedRun.sl.v212, maskedRun.sl.v213, maskedRun.sl.v214, maskedRun.sl.v215, maskedRun.sl.v216, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.r, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [sel_lo, sel_hi, sel_hi', (fun x => sel_row0 x (i 0)), (fun x => sel_row1 x (i 0)), select_ite, zero_word, ld_rep, ld_slot, (fun a b (u w : EReal) => select_dec (maskedRun.sl.v59 v1 v3 (ix2 a b)) u w), mask_bot]
  rfl

theorem mk_v210 (a : Fin 384) (b : Fin 128) : maskedRun.sl.v210 c i arg4 arg6 arg9 x0 x2 x5 a0 a2 v1 v3 (ix2 a b) = (tile i x0 x1 x2 x3 x5 x8 x9 (maskW v1 v3) (sc0.view.read (Elt Ideal) a0) (sc1.view.read (Elt Ideal) a1) (sc2.view.read (Elt Ideal) a2)).prL 1 a ⟨256 + b.val, by omega⟩ b := by
  pointwise [maskedRun.sl.r_1, maskedRun.sl.r_2, maskedRun.sl.r_3, maskedRun.sl.r_4, maskedRun.sl.r_5, maskedRun.sl.r_6, maskedRun.sl.r_7, maskedRun.sl.r_8, maskedRun.sl.r_9, maskedRun.sl.r_10, maskedRun.sl.r_11, maskedRun.sl.r_12, maskedRun.sl.r_13, maskedRun.sl.r_14, maskedRun.sl.r_15, maskedRun.sl.r_16, maskedRun.sl.r_17, maskedRun.sl.v31, maskedRun.sl.v33, maskedRun.sl.v35, maskedRun.sl.v37, maskedRun.sl.v39, maskedRun.sl.v40, maskedRun.sl.v42, maskedRun.sl.v43, maskedRun.sl.v44, maskedRun.sl.v45, maskedRun.sl.v46, maskedRun.sl.v47, maskedRun.sl.v48, maskedRun.sl.v49, maskedRun.sl.v50, maskedRun.sl.v51, maskedRun.sl.v52, maskedRun.sl.v53, maskedRun.sl.v54, maskedRun.sl.v55, maskedRun.sl.v56, maskedRun.sl.v57, maskedRun.sl.v58, maskedRun.sl.v60, maskedRun.sl.v63, maskedRun.sl.v65, maskedRun.sl.v66, maskedRun.sl.v67, maskedRun.sl.v68, maskedRun.sl.v70, maskedRun.sl.v73, maskedRun.sl.v74, maskedRun.sl.v79, maskedRun.sl.v80, maskedRun.sl.v85, maskedRun.sl.v86, maskedRun.sl.v88, maskedRun.sl.v89, maskedRun.sl.v90, maskedRun.sl.v91, maskedRun.sl.v92, maskedRun.sl.v93, maskedRun.sl.v94, maskedRun.sl.v95, maskedRun.sl.v96, maskedRun.sl.v97, maskedRun.sl.v98, maskedRun.sl.v102, maskedRun.sl.v103, maskedRun.sl.v104, maskedRun.sl.v105, maskedRun.sl.v106, maskedRun.sl.v108, maskedRun.sl.v109, maskedRun.sl.v110, maskedRun.sl.v207, maskedRun.sl.v208, maskedRun.sl.v209, maskedRun.sl.v210, maskedRun.sl.v211, maskedRun.sl.v212, maskedRun.sl.v213, maskedRun.sl.v214, maskedRun.sl.v215, maskedRun.sl.v216, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.r, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [sel_lo, sel_hi, sel_hi', (fun x => sel_row0 x (i 0)), (fun x => sel_row1 x (i 0)), select_ite, zero_word, ld_rep, ld_slot, (fun a b (u w : EReal) => select_dec (maskedRun.sl.v59 v1 v3 (ix2 a b)) u w), mask_bot]
  rfl

theorem mk_r_2 (a : Fin 384) (b : Fin 128) : maskedRun.sl.r_2 c i arg4 arg6 arg7 arg9 arg12 x0 x2 x3 x5 x8 a0 a1 a2 v1 v3 (ix2 a b) = (tile i x0 x1 x2 x3 x5 x8 x9 (maskW v1 v3) (sc0.view.read (Elt Ideal) a0) (sc1.view.read (Elt Ideal) a1) (sc2.view.read (Elt Ideal) a2)).dsL 0 a ⟨0 + b.val, by omega⟩ b := by
  pointwise [maskedRun.sl.r_1, maskedRun.sl.r_2, maskedRun.sl.r_3, maskedRun.sl.r_4, maskedRun.sl.r_5, maskedRun.sl.r_6, maskedRun.sl.r_7, maskedRun.sl.r_8, maskedRun.sl.r_9, maskedRun.sl.r_10, maskedRun.sl.r_11, maskedRun.sl.r_12, maskedRun.sl.r_13, maskedRun.sl.r_14, maskedRun.sl.r_15, maskedRun.sl.r_16, maskedRun.sl.r_17, maskedRun.sl.v31, maskedRun.sl.v33, maskedRun.sl.v35, maskedRun.sl.v37, maskedRun.sl.v39, maskedRun.sl.v40, maskedRun.sl.v42, maskedRun.sl.v43, maskedRun.sl.v44, maskedRun.sl.v45, maskedRun.sl.v46, maskedRun.sl.v47, maskedRun.sl.v48, maskedRun.sl.v49, maskedRun.sl.v50, maskedRun.sl.v51, maskedRun.sl.v52, maskedRun.sl.v53, maskedRun.sl.v54, maskedRun.sl.v55, maskedRun.sl.v56, maskedRun.sl.v57, maskedRun.sl.v58, maskedRun.sl.v60, maskedRun.sl.v63, maskedRun.sl.v65, maskedRun.sl.v66, maskedRun.sl.v67, maskedRun.sl.v68, maskedRun.sl.v70, maskedRun.sl.v73, maskedRun.sl.v74, maskedRun.sl.v79, maskedRun.sl.v80, maskedRun.sl.v85, maskedRun.sl.v86, maskedRun.sl.v88, maskedRun.sl.v89, maskedRun.sl.v90, maskedRun.sl.v91, maskedRun.sl.v92, maskedRun.sl.v93, maskedRun.sl.v94, maskedRun.sl.v95, maskedRun.sl.v96, maskedRun.sl.v97, maskedRun.sl.v98, maskedRun.sl.v102, maskedRun.sl.v103, maskedRun.sl.v104, maskedRun.sl.v105, maskedRun.sl.v106, maskedRun.sl.v108, maskedRun.sl.v109, maskedRun.sl.v110, maskedRun.sl.v207, maskedRun.sl.v208, maskedRun.sl.v209, maskedRun.sl.v210, maskedRun.sl.v211, maskedRun.sl.v212, maskedRun.sl.v213, maskedRun.sl.v214, maskedRun.sl.v215, maskedRun.sl.v216, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.r, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [sel_lo, sel_hi, sel_hi', (fun x => sel_row0 x (i 0)), (fun x => sel_row1 x (i 0)), select_ite, zero_word, ld_rep, ld_slot, (fun a b (u w : EReal) => select_dec (maskedRun.sl.v59 v1 v3 (ix2 a b)) u w), mask_bot]
  rfl

theorem mk_r_4 (a : Fin 384) (b : Fin 128) : maskedRun.sl.r_4 c i arg4 arg6 arg7 arg9 arg12 x0 x2 x3 x5 x8 a0 a1 a2 v1 v3 (ix2 a b) = (tile i x0 x1 x2 x3 x5 x8 x9 (maskW v1 v3) (sc0.view.read (Elt Ideal) a0) (sc1.view.read (Elt Ideal) a1) (sc2.view.read (Elt Ideal) a2)).dsL 0 a ⟨128 + b.val, by omega⟩ b := by
  pointwise [maskedRun.sl.r_1, maskedRun.sl.r_2, maskedRun.sl.r_3, maskedRun.sl.r_4, maskedRun.sl.r_5, maskedRun.sl.r_6, maskedRun.sl.r_7, maskedRun.sl.r_8, maskedRun.sl.r_9, maskedRun.sl.r_10, maskedRun.sl.r_11, maskedRun.sl.r_12, maskedRun.sl.r_13, maskedRun.sl.r_14, maskedRun.sl.r_15, maskedRun.sl.r_16, maskedRun.sl.r_17, maskedRun.sl.v31, maskedRun.sl.v33, maskedRun.sl.v35, maskedRun.sl.v37, maskedRun.sl.v39, maskedRun.sl.v40, maskedRun.sl.v42, maskedRun.sl.v43, maskedRun.sl.v44, maskedRun.sl.v45, maskedRun.sl.v46, maskedRun.sl.v47, maskedRun.sl.v48, maskedRun.sl.v49, maskedRun.sl.v50, maskedRun.sl.v51, maskedRun.sl.v52, maskedRun.sl.v53, maskedRun.sl.v54, maskedRun.sl.v55, maskedRun.sl.v56, maskedRun.sl.v57, maskedRun.sl.v58, maskedRun.sl.v60, maskedRun.sl.v63, maskedRun.sl.v65, maskedRun.sl.v66, maskedRun.sl.v67, maskedRun.sl.v68, maskedRun.sl.v70, maskedRun.sl.v73, maskedRun.sl.v74, maskedRun.sl.v79, maskedRun.sl.v80, maskedRun.sl.v85, maskedRun.sl.v86, maskedRun.sl.v88, maskedRun.sl.v89, maskedRun.sl.v90, maskedRun.sl.v91, maskedRun.sl.v92, maskedRun.sl.v93, maskedRun.sl.v94, maskedRun.sl.v95, maskedRun.sl.v96, maskedRun.sl.v97, maskedRun.sl.v98, maskedRun.sl.v102, maskedRun.sl.v103, maskedRun.sl.v104, maskedRun.sl.v105, maskedRun.sl.v106, maskedRun.sl.v108, maskedRun.sl.v109, maskedRun.sl.v110, maskedRun.sl.v207, maskedRun.sl.v208, maskedRun.sl.v209, maskedRun.sl.v210, maskedRun.sl.v211, maskedRun.sl.v212, maskedRun.sl.v213, maskedRun.sl.v214, maskedRun.sl.v215, maskedRun.sl.v216, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.r, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [sel_lo, sel_hi, sel_hi', (fun x => sel_row0 x (i 0)), (fun x => sel_row1 x (i 0)), select_ite, zero_word, ld_rep, ld_slot, (fun a b (u w : EReal) => select_dec (maskedRun.sl.v59 v1 v3 (ix2 a b)) u w), mask_bot]
  rfl

theorem mk_r_13 (a : Fin 384) (b : Fin 128) : maskedRun.sl.r_13 c i arg4 arg6 arg7 arg9 arg12 x0 x2 x3 x5 x8 a0 a1 a2 v1 v3 (ix2 a b) = (tile i x0 x1 x2 x3 x5 x8 x9 (maskW v1 v3) (sc0.view.read (Elt Ideal) a0) (sc1.view.read (Elt Ideal) a1) (sc2.view.read (Elt Ideal) a2)).dsL 1 a ⟨0 + b.val, by omega⟩ b := by
  pointwise [maskedRun.sl.r_1, maskedRun.sl.r_2, maskedRun.sl.r_3, maskedRun.sl.r_4, maskedRun.sl.r_5, maskedRun.sl.r_6, maskedRun.sl.r_7, maskedRun.sl.r_8, maskedRun.sl.r_9, maskedRun.sl.r_10, maskedRun.sl.r_11, maskedRun.sl.r_12, maskedRun.sl.r_13, maskedRun.sl.r_14, maskedRun.sl.r_15, maskedRun.sl.r_16, maskedRun.sl.r_17, maskedRun.sl.v31, maskedRun.sl.v33, maskedRun.sl.v35, maskedRun.sl.v37, maskedRun.sl.v39, maskedRun.sl.v40, maskedRun.sl.v42, maskedRun.sl.v43, maskedRun.sl.v44, maskedRun.sl.v45, maskedRun.sl.v46, maskedRun.sl.v47, maskedRun.sl.v48, maskedRun.sl.v49, maskedRun.sl.v50, maskedRun.sl.v51, maskedRun.sl.v52, maskedRun.sl.v53, maskedRun.sl.v54, maskedRun.sl.v55, maskedRun.sl.v56, maskedRun.sl.v57, maskedRun.sl.v58, maskedRun.sl.v60, maskedRun.sl.v63, maskedRun.sl.v65, maskedRun.sl.v66, maskedRun.sl.v67, maskedRun.sl.v68, maskedRun.sl.v70, maskedRun.sl.v73, maskedRun.sl.v74, maskedRun.sl.v79, maskedRun.sl.v80, maskedRun.sl.v85, maskedRun.sl.v86, maskedRun.sl.v88, maskedRun.sl.v89, maskedRun.sl.v90, maskedRun.sl.v91, maskedRun.sl.v92, maskedRun.sl.v93, maskedRun.sl.v94, maskedRun.sl.v95, maskedRun.sl.v96, maskedRun.sl.v97, maskedRun.sl.v98, maskedRun.sl.v102, maskedRun.sl.v103, maskedRun.sl.v104, maskedRun.sl.v105, maskedRun.sl.v106, maskedRun.sl.v108, maskedRun.sl.v109, maskedRun.sl.v110, maskedRun.sl.v207, maskedRun.sl.v208, maskedRun.sl.v209, maskedRun.sl.v210, maskedRun.sl.v211, maskedRun.sl.v212, maskedRun.sl.v213, maskedRun.sl.v214, maskedRun.sl.v215, maskedRun.sl.v216, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.r, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [sel_lo, sel_hi, sel_hi', (fun x => sel_row0 x (i 0)), (fun x => sel_row1 x (i 0)), select_ite, zero_word, ld_rep, ld_slot, (fun a b (u w : EReal) => select_dec (maskedRun.sl.v59 v1 v3 (ix2 a b)) u w), mask_bot]
  rfl

theorem mk_r_15 (a : Fin 384) (b : Fin 128) : maskedRun.sl.r_15 c i arg4 arg6 arg7 arg9 arg12 x0 x2 x3 x5 x8 a0 a1 a2 v1 v3 (ix2 a b) = (tile i x0 x1 x2 x3 x5 x8 x9 (maskW v1 v3) (sc0.view.read (Elt Ideal) a0) (sc1.view.read (Elt Ideal) a1) (sc2.view.read (Elt Ideal) a2)).dsL 1 a ⟨128 + b.val, by omega⟩ b := by
  pointwise [maskedRun.sl.r_1, maskedRun.sl.r_2, maskedRun.sl.r_3, maskedRun.sl.r_4, maskedRun.sl.r_5, maskedRun.sl.r_6, maskedRun.sl.r_7, maskedRun.sl.r_8, maskedRun.sl.r_9, maskedRun.sl.r_10, maskedRun.sl.r_11, maskedRun.sl.r_12, maskedRun.sl.r_13, maskedRun.sl.r_14, maskedRun.sl.r_15, maskedRun.sl.r_16, maskedRun.sl.r_17, maskedRun.sl.v31, maskedRun.sl.v33, maskedRun.sl.v35, maskedRun.sl.v37, maskedRun.sl.v39, maskedRun.sl.v40, maskedRun.sl.v42, maskedRun.sl.v43, maskedRun.sl.v44, maskedRun.sl.v45, maskedRun.sl.v46, maskedRun.sl.v47, maskedRun.sl.v48, maskedRun.sl.v49, maskedRun.sl.v50, maskedRun.sl.v51, maskedRun.sl.v52, maskedRun.sl.v53, maskedRun.sl.v54, maskedRun.sl.v55, maskedRun.sl.v56, maskedRun.sl.v57, maskedRun.sl.v58, maskedRun.sl.v60, maskedRun.sl.v63, maskedRun.sl.v65, maskedRun.sl.v66, maskedRun.sl.v67, maskedRun.sl.v68, maskedRun.sl.v70, maskedRun.sl.v73, maskedRun.sl.v74, maskedRun.sl.v79, maskedRun.sl.v80, maskedRun.sl.v85, maskedRun.sl.v86, maskedRun.sl.v88, maskedRun.sl.v89, maskedRun.sl.v90, maskedRun.sl.v91, maskedRun.sl.v92, maskedRun.sl.v93, maskedRun.sl.v94, maskedRun.sl.v95, maskedRun.sl.v96, maskedRun.sl.v97, maskedRun.sl.v98, maskedRun.sl.v102, maskedRun.sl.v103, maskedRun.sl.v104, maskedRun.sl.v105, maskedRun.sl.v106, maskedRun.sl.v108, maskedRun.sl.v109, maskedRun.sl.v110, maskedRun.sl.v207, maskedRun.sl.v208, maskedRun.sl.v209, maskedRun.sl.v210, maskedRun.sl.v211, maskedRun.sl.v212, maskedRun.sl.v213, maskedRun.sl.v214, maskedRun.sl.v215, maskedRun.sl.v216, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.r, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [sel_lo, sel_hi, sel_hi', (fun x => sel_row0 x (i 0)), (fun x => sel_row1 x (i 0)), select_ite, zero_word, ld_rep, ld_slot, (fun a b (u w : EReal) => select_dec (maskedRun.sl.v59 v1 v3 (ix2 a b)) u w), mask_bot]
  rfl

theorem mk_v214 (a : Fin 384) (b : Fin 128) : maskedRun.sl.v214 c i arg4 arg6 arg7 arg9 arg12 x0 x2 x3 x5 x8 a0 a1 a2 v1 v3 (ix2 a b) = (tile i x0 x1 x2 x3 x5 x8 x9 (maskW v1 v3) (sc0.view.read (Elt Ideal) a0) (sc1.view.read (Elt Ideal) a1) (sc2.view.read (Elt Ideal) a2)).dsL 1 a ⟨256 + b.val, by omega⟩ b := by
  pointwise [maskedRun.sl.r_1, maskedRun.sl.r_2, maskedRun.sl.r_3, maskedRun.sl.r_4, maskedRun.sl.r_5, maskedRun.sl.r_6, maskedRun.sl.r_7, maskedRun.sl.r_8, maskedRun.sl.r_9, maskedRun.sl.r_10, maskedRun.sl.r_11, maskedRun.sl.r_12, maskedRun.sl.r_13, maskedRun.sl.r_14, maskedRun.sl.r_15, maskedRun.sl.r_16, maskedRun.sl.r_17, maskedRun.sl.v31, maskedRun.sl.v33, maskedRun.sl.v35, maskedRun.sl.v37, maskedRun.sl.v39, maskedRun.sl.v40, maskedRun.sl.v42, maskedRun.sl.v43, maskedRun.sl.v44, maskedRun.sl.v45, maskedRun.sl.v46, maskedRun.sl.v47, maskedRun.sl.v48, maskedRun.sl.v49, maskedRun.sl.v50, maskedRun.sl.v51, maskedRun.sl.v52, maskedRun.sl.v53, maskedRun.sl.v54, maskedRun.sl.v55, maskedRun.sl.v56, maskedRun.sl.v57, maskedRun.sl.v58, maskedRun.sl.v60, maskedRun.sl.v63, maskedRun.sl.v65, maskedRun.sl.v66, maskedRun.sl.v67, maskedRun.sl.v68, maskedRun.sl.v70, maskedRun.sl.v73, maskedRun.sl.v74, maskedRun.sl.v79, maskedRun.sl.v80, maskedRun.sl.v85, maskedRun.sl.v86, maskedRun.sl.v88, maskedRun.sl.v89, maskedRun.sl.v90, maskedRun.sl.v91, maskedRun.sl.v92, maskedRun.sl.v93, maskedRun.sl.v94, maskedRun.sl.v95, maskedRun.sl.v96, maskedRun.sl.v97, maskedRun.sl.v98, maskedRun.sl.v102, maskedRun.sl.v103, maskedRun.sl.v104, maskedRun.sl.v105, maskedRun.sl.v106, maskedRun.sl.v108, maskedRun.sl.v109, maskedRun.sl.v110, maskedRun.sl.v207, maskedRun.sl.v208, maskedRun.sl.v209, maskedRun.sl.v210, maskedRun.sl.v211, maskedRun.sl.v212, maskedRun.sl.v213, maskedRun.sl.v214, maskedRun.sl.v215, maskedRun.sl.v216, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.r, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [sel_lo, sel_hi, sel_hi', (fun x => sel_row0 x (i 0)), (fun x => sel_row1 x (i 0)), select_ite, zero_word, ld_rep, ld_slot, (fun a b (u w : EReal) => select_dec (maskedRun.sl.v59 v1 v3 (ix2 a b)) u w), mask_bot]
  rfl

theorem mk_last (a : Fin 384) (b : Fin 128) :
    maskedRun.sl.r_5 c i arg4 arg6 arg9 x0 x2 x5 a0 a2 v1 v3 (ix2 a b) * (maskedRun.sl.r_7 arg7 arg12 x3 x8 (ix2 a b) - maskedRun.sl.r c a1 (ix2 a b)) = (tile i x0 x1 x2 x3 x5 x8 x9 (maskW v1 v3) (sc0.view.read (Elt Ideal) a0) (sc1.view.read (Elt Ideal) a1) (sc2.view.read (Elt Ideal) a2)).dsL 0 a ⟨256 + b.val, by omega⟩ b := by
  pointwise [maskedRun.sl.r_1, maskedRun.sl.r_2, maskedRun.sl.r_3, maskedRun.sl.r_4, maskedRun.sl.r_5, maskedRun.sl.r_6, maskedRun.sl.r_7, maskedRun.sl.r_8, maskedRun.sl.r_9, maskedRun.sl.r_10, maskedRun.sl.r_11, maskedRun.sl.r_12, maskedRun.sl.r_13, maskedRun.sl.r_14, maskedRun.sl.r_15, maskedRun.sl.r_16, maskedRun.sl.r_17, maskedRun.sl.v31, maskedRun.sl.v33, maskedRun.sl.v35, maskedRun.sl.v37, maskedRun.sl.v39, maskedRun.sl.v40, maskedRun.sl.v42, maskedRun.sl.v43, maskedRun.sl.v44, maskedRun.sl.v45, maskedRun.sl.v46, maskedRun.sl.v47, maskedRun.sl.v48, maskedRun.sl.v49, maskedRun.sl.v50, maskedRun.sl.v51, maskedRun.sl.v52, maskedRun.sl.v53, maskedRun.sl.v54, maskedRun.sl.v55, maskedRun.sl.v56, maskedRun.sl.v57, maskedRun.sl.v58, maskedRun.sl.v60, maskedRun.sl.v63, maskedRun.sl.v65, maskedRun.sl.v66, maskedRun.sl.v67, maskedRun.sl.v68, maskedRun.sl.v70, maskedRun.sl.v73, maskedRun.sl.v74, maskedRun.sl.v79, maskedRun.sl.v80, maskedRun.sl.v85, maskedRun.sl.v86, maskedRun.sl.v88, maskedRun.sl.v89, maskedRun.sl.v90, maskedRun.sl.v91, maskedRun.sl.v92, maskedRun.sl.v93, maskedRun.sl.v94, maskedRun.sl.v95, maskedRun.sl.v96, maskedRun.sl.v97, maskedRun.sl.v98, maskedRun.sl.v102, maskedRun.sl.v103, maskedRun.sl.v104, maskedRun.sl.v105, maskedRun.sl.v106, maskedRun.sl.v108, maskedRun.sl.v109, maskedRun.sl.v110, maskedRun.sl.v207, maskedRun.sl.v208, maskedRun.sl.v209, maskedRun.sl.v210, maskedRun.sl.v211, maskedRun.sl.v212, maskedRun.sl.v213, maskedRun.sl.v214, maskedRun.sl.v215, maskedRun.sl.v216, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.r, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67]
  simp only [sel_lo, sel_hi, sel_hi', (fun x => sel_row0 x (i 0)), (fun x => sel_row1 x (i 0)), select_ite, zero_word, ld_rep, ld_slot, (fun a b (u w : EReal) => select_dec (maskedRun.sl.v59 v1 v3 (ix2 a b)) u w), mask_bot]
  rfl

theorem mk_r_8 (a b : Fin 384) : maskedRun.sl.r_8 c i arg4 arg6 arg9 x0 x2 x5 a0 a2 v1 v3 (ix2 a b) = (tile i x0 x1 x2 x3 x5 x8 x9 (maskW v1 v3) (sc0.view.read (Elt Ideal) a0) (sc1.view.read (Elt Ideal) a1) (sc2.view.read (Elt Ideal) a2)).pr 0 a b := by
  pointwise [maskedRun.sl.r_8, k0_pay54]
  have h := cat3 ((tile i x0 x1 x2 x3 x5 x8 x9 (maskW v1 v3) (sc0.view.read (Elt Ideal) a0) (sc1.view.read (Elt Ideal) a1) (sc2.view.read (Elt Ideal) a2)).prL 0 a) _ _ _ (mk_r_1 c i arg4 arg6 arg9 x0 x2 x3 x1 x9 x5 x8 a0 a1 a2 v1 v3 a) (mk_r_3 c i arg4 arg6 arg9 x0 x2 x3 x1 x9 x5 x8 a0 a1 a2 v1 v3 a) (mk_r_6 c i arg4 arg6 arg9 x0 x2 x3 x1 x9 x5 x8 a0 a1 a2 v1 v3 a) b
  exact h

theorem mk_v215 (a b : Fin 384) : maskedRun.sl.v215 c i arg4 arg6 arg9 x0 x2 x5 a0 a2 v1 v3 (ix2 a b) = (tile i x0 x1 x2 x3 x5 x8 x9 (maskW v1 v3) (sc0.view.read (Elt Ideal) a0) (sc1.view.read (Elt Ideal) a1) (sc2.view.read (Elt Ideal) a2)).pr 1 a b := by
  pointwise [maskedRun.sl.v215]
  have h := cat3 ((tile i x0 x1 x2 x3 x5 x8 x9 (maskW v1 v3) (sc0.view.read (Elt Ideal) a0) (sc1.view.read (Elt Ideal) a1) (sc2.view.read (Elt Ideal) a2)).prL 1 a) _ _ _ (mk_r_12 c i arg4 arg6 arg9 x0 x2 x3 x1 x9 x5 x8 a0 a1 a2 v1 v3 a) (mk_r_14 c i arg4 arg6 arg9 x0 x2 x3 x1 x9 x5 x8 a0 a1 a2 v1 v3 a) (mk_v210 c i arg4 arg6 arg9 x0 x2 x3 x1 x9 x5 x8 a0 a1 a2 v1 v3 a) b
  exact h

theorem mk_r_9 (a b : Fin 384) : maskedRun.sl.r_9 c i arg4 arg6 arg7 arg9 arg12 x0 x2 x3 x5 x8 a0 a1 a2 v1 v3 (ix2 a b) = (tile i x0 x1 x2 x3 x5 x8 x9 (maskW v1 v3) (sc0.view.read (Elt Ideal) a0) (sc1.view.read (Elt Ideal) a1) (sc2.view.read (Elt Ideal) a2)).ds 0 a b := by
  pointwise [maskedRun.sl.r_9, k0_pay55]
  have h := cat3 ((tile i x0 x1 x2 x3 x5 x8 x9 (maskW v1 v3) (sc0.view.read (Elt Ideal) a0) (sc1.view.read (Elt Ideal) a1) (sc2.view.read (Elt Ideal) a2)).dsL 0 a) _ _ _ (mk_r_2 c i arg4 arg6 arg7 arg9 arg12 x0 x2 x3 x1 x9 x5 x8 a0 a1 a2 v1 v3 a) (mk_r_4 c i arg4 arg6 arg7 arg9 arg12 x0 x2 x3 x1 x9 x5 x8 a0 a1 a2 v1 v3 a) (mk_last c i arg4 arg6 arg7 arg9 arg12 x0 x2 x3 x1 x9 x5 x8 a0 a1 a2 v1 v3 a) b
  exact h

theorem mk_v216 (a b : Fin 384) : maskedRun.sl.v216 c i arg4 arg6 arg7 arg9 arg12 x0 x2 x3 x5 x8 a0 a1 a2 v1 v3 (ix2 a b) = (tile i x0 x1 x2 x3 x5 x8 x9 (maskW v1 v3) (sc0.view.read (Elt Ideal) a0) (sc1.view.read (Elt Ideal) a1) (sc2.view.read (Elt Ideal) a2)).ds 1 a b := by
  pointwise [maskedRun.sl.v216]
  have h := cat3 ((tile i x0 x1 x2 x3 x5 x8 x9 (maskW v1 v3) (sc0.view.read (Elt Ideal) a0) (sc1.view.read (Elt Ideal) a1) (sc2.view.read (Elt Ideal) a2)).dsL 1 a) _ _ _ (mk_r_13 c i arg4 arg6 arg7 arg9 arg12 x0 x2 x3 x1 x9 x5 x8 a0 a1 a2 v1 v3 a) (mk_r_15 c i arg4 arg6 arg7 arg9 arg12 x0 x2 x3 x1 x9 x5 x8 a0 a1 a2 v1 v3 a) (mk_v214 c i arg4 arg6 arg7 arg9 arg12 x0 x2 x3 x1 x9 x5 x8 a0 a1 a2 v1 v3 a) b
  exact h

end Cert.Fox
end
-- ==== Proof.FoxPlainOut.lean ====
/- The step inside the band: what it adds to each buffer. -/
module

public import proofs.«01_k».proof.Proof.FoxPlain

@[expose] public section

set_option maxRecDepth 16384
set_option synthInstance.maxSize 4096

noncomputable section

namespace Cert.Fox

open Cert.FoxBwdIdeal Cert.FoxBwdIdeal.Gen
open Idealize.ShloMosaic
open Idealize.ShloMosaic.TcCoe Idealize.ShloMosaic.Tactic

variable (c : Dev nD) (i : grid0.Coords)
variable (arg4 arg6 arg7 : Memref sig .tc .vmem S384x128 .bf16) (arg5 arg13 : Memref sig .tc .vmem S128x384 .bf16)
variable (arg9 : Memref sig .tc .vmem S8x384 .f32) (arg12 : Memref sig .tc .vmem S384x128 .f32)
variable (x0 x2 x3 : S384x128.Idx → Elt Ideal .bf16) (x1 x9 : S128x384.Idx → Elt Ideal .bf16) (x5 : S8x384.Idx → Elt Ideal .f32) (x8 : S384x128.Idx → Elt Ideal .f32)
variable (a0 : Buf (Elt Ideal) (sc0.view.loc (c : Thread nD τ))) (a1 : Buf (Elt Ideal) (sc1.view.loc (c : Thread nD τ))) (a2 : Buf (Elt Ideal) (sc2.view.loc (c : Thread nD τ)))
variable (a3 : Buf (Elt Ideal) (sc3.view.loc (c : Thread nD τ))) (a4 : Buf (Elt Ideal) (sc4.view.loc (c : Thread nD τ)))
variable (a5 : Buf (Elt Ideal) (sc5.view.loc (c : Thread nD τ))) (a6 : Buf (Elt Ideal) (sc6.view.loc (c : Thread nD τ))) (a7 : Buf (Elt Ideal) (sc7.view.loc (c : Thread nD τ)))
variable (v1 v3 : BitVec 32) (k0_hw1 : k0_chk1 v1 v3)
variable (k0_h4 : k0_cond4 v1 v3 = 1#1)

theorem pl_v138 (a b : Fin 384) : plainRun.sl.v138 c i arg4 arg6 arg9 x0 x2 x5 a0 a2 (ix2 a b) = (tile i x0 x1 x2 x3 x5 x8 x9 (fun _ _ => true) (sc0.view.read (Elt Ideal) a0) (sc1.view.read (Elt Ideal) a1) (sc2.view.read (Elt Ideal) a2)).pr 0 a b := by
  pointwise [plainRun.sl.v138]
  have h := cat3 ((tile i x0 x1 x2 x3 x5 x8 x9 (fun _ _ => true) (sc0.view.read (Elt Ideal) a0) (sc1.view.read (Elt Ideal) a1) (sc2.view.read (Elt Ideal) a2)).prL 0 a) _ _ _ (pl_v109 c i arg4 arg6 arg9 x0 x2 x3 x1 x9 x5 x8 a0 a1 a2 a) (pl_v121 c i arg4 arg6 arg9 x0 x2 x3 x1 x9 x5 x8 a0 a1 a2 a) (pl_v133 c i arg4 arg6 arg9 x0 x2 x3 x1 x9 x5 x8 a0 a1 a2 a) b
  exact h

theorem pl_v182 (a b : Fin 384) : plainRun.sl.v182 c i arg4 arg6 arg9 x0 x2 x5 a0 a2 (ix2 a b) = (tile i x0 x1 x2 x3 x5 x8 x9 (fun _ _ => true) (sc0.view.read (Elt Ideal) a0) (sc1.view.read (Elt Ideal) a1) (sc2.view.read (Elt Ideal) a2)).pr 1 a b := by
  pointwise [plainRun.sl.v182]
  have h := cat3 ((tile i x0 x1 x2 x3 x5 x8 x9 (fun _ _ => true) (sc0.view.read (Elt Ideal) a0) (sc1.view.read (Elt Ideal) a1) (sc2.view.read (Elt Ideal) a2)).prL 1 a) _ _ _ (pl_v153 c i arg4 arg6 arg9 x0 x2 x3 x1 x9 x5 x8 a0 a1 a2 a) (pl_v165 c i arg4 arg6 arg9 x0 x2 x3 x1 x9 x5 x8 a0 a1 a2 a) (pl_v177 c i arg4 arg6 arg9 x0 x2 x3 x1 x9 x5 x8 a0 a1 a2 a) b
  exact h

theorem pl_v139 (a b : Fin 384) : plainRun.sl.v139 c i arg4 arg6 arg7 arg9 arg12 x0 x2 x3 x5 x8 a0 a1 a2 (ix2 a b) = (tile i x0 x1 x2 x3 x5 x8 x9 (fun _ _ => true) (sc0.view.read (Elt Ideal) a0) (sc1.view.read (Elt Ideal) a1) (sc2.view.read (Elt Ideal) a2)).ds 0 a b := by
  pointwise [plainRun.sl.v139]
  have h := cat3 ((tile i x0 x1 x2 x3 x5 x8 x9 (fun _ _ => true) (sc0.view.read (Elt Ideal) a0) (sc1.view.read (Elt Ideal) a1) (sc2.view.read (Elt Ideal) a2)).dsL 0 a) _ _ _ (pl_v113 c i arg4 arg6 arg7 arg9 arg12 x0 x2 x3 x1 x9 x5 x8 a0 a1 a2 a) (pl_v125 c i arg4 arg6 arg7 arg9 arg12 x0 x2 x3 x1 x9 x5 x8 a0 a1 a2 a) (pl_v137 c i arg4 arg6 arg7 arg9 arg12 x0 x2 x3 x1 x9 x5 x8 a0 a1 a2 a) b
  exact h

theorem pl_v183 (a b : Fin 384) : plainRun.sl.v183 c i arg4 arg6 arg7 arg9 arg12 x0 x2 x3 x5 x8 a0 a1 a2 (ix2 a b) = (tile i x0 x1 x2 x3 x5 x8 x9 (fun _ _ => true) (sc0.view.read (Elt Ideal) a0) (sc1.view.read (Elt Ideal) a1) (sc2.view.read (Elt Ideal) a2)).ds 1 a b := by
  pointwise [plainRun.sl.v183]
  have h := cat3 ((tile i x0 x1 x2 x3 x5 x8 x9 (fun _ _ => true) (sc0.view.read (Elt Ideal) a0) (sc1.view.read (Elt Ideal) a1) (sc2.view.read (Elt Ideal) a2)).dsL 1 a) _ _ _ (pl_v157 c i arg4 arg6 arg7 arg9 arg12 x0 x2 x3 x1 x9 x5 x8 a0 a1 a2 a) (pl_v169 c i arg4 arg6 arg7 arg9 arg12 x0 x2 x3 x1 x9 x5 x8 a0 a1 a2 a) (pl_v181 c i arg4 arg6 arg7 arg9 arg12 x0 x2 x3 x1 x9 x5 x8 a0 a1 a2 a) b
  exact h

theorem pl_v232 (j : Fin 11) (hj : k0_off4 v3 = ![j.val, 0, 0]) (d : Fin 128) (b : Fin 384) : plainRun.sl.v232 c i arg4 arg6 arg9 arg13 x0 x2 x5 x9 a0 a2 a6 v1 v3 k0_hw1 k0_h4 (ix3 0 d b) = sc6.view.read (Elt Ideal) a6 (ix3 j d b) + (tile i x0 x1 x2 x3 x5 x8 x9 (fun _ _ => true) (sc0.view.read (Elt Ideal) a0) (sc1.view.read (Elt Ideal) a1) (sc2.view.read (Elt Ideal) a2)).dv d b := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v55, plainRun.sl.v58, plainRun.sl.v80, plainRun.sl.v186, plainRun.sl.v187, plainRun.sl.v188, plainRun.sl.v189, plainRun.sl.v191, plainRun.sl.v194, plainRun.sl.v195, plainRun.sl.v200, plainRun.sl.v201, plainRun.sl.v202, plainRun.sl.v207, plainRun.sl.v208, plainRun.sl.v209, plainRun.sl.v214, plainRun.sl.v215, plainRun.sl.v216, plainRun.sl.v221, plainRun.sl.v222, plainRun.sl.v223, plainRun.sl.v226, plainRun.sl.v227, plainRun.sl.v228, plainRun.sl.v232, plainRun.sl.v235, plainRun.sl.v236, plainRun.sl.v237, plainRun.sl.v238, plainRun.sl.v239, plainRun.sl.v243, plainRun.sl.v246, plainRun.sl.v247, plainRun.sl.v249, plainRun.sl.v250, plainRun.sl.v252, plainRun.sl.v253, plainRun.sl.v256, plainRun.sl.v257, plainRun.sl.v259, plainRun.sl.v260, plainRun.sl.v264, plainRun.sl.v266, plainRun.sl.v267, plainRun.sl.v268, plainRun.sl.v269, plainRun.sl.v271, plainRun.sl.v272, plainRun.sl.v274, plainRun.sl.v275, plainRun.sl.v276, plainRun.sl.v279, plainRun.sl.v280, plainRun.sl.v281, plainRun.sl.v282, plainRun.sl.v283, plainRun.sl.v286, plainRun.sl.cst, plainRun.sl.cst_21, plainRun.sl.cst_22, plainRun.sl.cst_24, plainRun.sl.cst_34, plainRun.sl.cst_35, plainRun.sl.cst_59, plainRun.sl.cst_63, plainRun.sl.cst_67, k0_pay1, k0_pay2]
  simp only [sel_lo, sel_hi, sel_hi', (fun x => sel_row0 x (i 0)), (fun x => sel_row1 x (i 0)), select_ite, zero_word, ld_rep, ld_slot, (pl_v138 c i arg4 arg6 arg9 x0 x2 x3 x1 x9 x5 x8 a0 a1 a2), (pl_v182 c i arg4 arg6 arg9 x0 x2 x3 x1 x9 x5 x8 a0 a1 a2)]
  rw [ld_off _ _ j (le_refl 128) hj]
  rfl

theorem pl_v243 (j : Fin 11) (hj : k0_off4 v3 = ![j.val, 0, 0]) (d : Fin 128) (b : Fin 384) : plainRun.sl.v243 c i arg4 arg5 arg6 arg7 arg9 arg12 x0 x1 x2 x3 x5 x8 a0 a1 a2 a5 v1 v3 k0_hw1 k0_h4 (ix3 0 d b) = sc5.view.read (Elt Ideal) a5 (ix3 j d b) + (tile i x0 x1 x2 x3 x5 x8 x9 (fun _ _ => true) (sc0.view.read (Elt Ideal) a0) (sc1.view.read (Elt Ideal) a1) (sc2.view.read (Elt Ideal) a2)).dk d b := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v55, plainRun.sl.v58, plainRun.sl.v80, plainRun.sl.v186, plainRun.sl.v187, plainRun.sl.v188, plainRun.sl.v189, plainRun.sl.v191, plainRun.sl.v194, plainRun.sl.v195, plainRun.sl.v200, plainRun.sl.v201, plainRun.sl.v202, plainRun.sl.v207, plainRun.sl.v208, plainRun.sl.v209, plainRun.sl.v214, plainRun.sl.v215, plainRun.sl.v216, plainRun.sl.v221, plainRun.sl.v222, plainRun.sl.v223, plainRun.sl.v226, plainRun.sl.v227, plainRun.sl.v228, plainRun.sl.v232, plainRun.sl.v235, plainRun.sl.v236, plainRun.sl.v237, plainRun.sl.v238, plainRun.sl.v239, plainRun.sl.v243, plainRun.sl.v246, plainRun.sl.v247, plainRun.sl.v249, plainRun.sl.v250, plainRun.sl.v252, plainRun.sl.v253, plainRun.sl.v256, plainRun.sl.v257, plainRun.sl.v259, plainRun.sl.v260, plainRun.sl.v264, plainRun.sl.v266, plainRun.sl.v267, plainRun.sl.v268, plainRun.sl.v269, plainRun.sl.v271, plainRun.sl.v272, plainRun.sl.v274, plainRun.sl.v275, plainRun.sl.v276, plainRun.sl.v279, plainRun.sl.v280, plainRun.sl.v281, plainRun.sl.v282, plainRun.sl.v283, plainRun.sl.v286, plainRun.sl.cst, plainRun.sl.cst_21, plainRun.sl.cst_22, plainRun.sl.cst_24, plainRun.sl.cst_34, plainRun.sl.cst_35, plainRun.sl.cst_59, plainRun.sl.cst_63, plainRun.sl.cst_67, k0_pay1, k0_pay2]
  simp only [sel_lo, sel_hi, sel_hi', (fun x => sel_row0 x (i 0)), (fun x => sel_row1 x (i 0)), select_ite, zero_word, ld_rep, ld_slot, (pl_v139 c i arg4 arg6 arg7 arg9 arg12 x0 x2 x3 x1 x9 x5 x8 a0 a1 a2), (pl_v183 c i arg4 arg6 arg7 arg9 arg12 x0 x2 x3 x1 x9 x5 x8 a0 a1 a2)]
  rw [ld_off _ _ j (le_refl 128) hj]
  rfl

theorem pl_v264 (j : Fin 11) (hj : k0_off5 v3 = ![j.val, 0, 0]) (r : Fin 8) (b : Fin 384) : plainRun.sl.v264 c i arg4 arg5 arg6 arg7 arg9 arg12 x0 x1 x2 x3 x5 x8 a0 a1 a2 a7 v1 v3 k0_hw1 k0_h4 (ix3 0 r b) = sc7.view.read (Elt Ideal) a7 (ix3 j ⟨r.val, by omega⟩ b) + (tile i x0 x1 x2 x3 x5 x8 x9 (fun _ _ => true) (sc0.view.read (Elt Ideal) a0) (sc1.view.read (Elt Ideal) a1) (sc2.view.read (Elt Ideal) a2)).dck r b := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v55, plainRun.sl.v58, plainRun.sl.v80, plainRun.sl.v186, plainRun.sl.v187, plainRun.sl.v188, plainRun.sl.v189, plainRun.sl.v191, plainRun.sl.v194, plainRun.sl.v195, plainRun.sl.v200, plainRun.sl.v201, plainRun.sl.v202, plainRun.sl.v207, plainRun.sl.v208, plainRun.sl.v209, plainRun.sl.v214, plainRun.sl.v215, plainRun.sl.v216, plainRun.sl.v221, plainRun.sl.v222, plainRun.sl.v223, plainRun.sl.v226, plainRun.sl.v227, plainRun.sl.v228, plainRun.sl.v232, plainRun.sl.v235, plainRun.sl.v236, plainRun.sl.v237, plainRun.sl.v238, plainRun.sl.v239, plainRun.sl.v243, plainRun.sl.v246, plainRun.sl.v247, plainRun.sl.v249, plainRun.sl.v250, plainRun.sl.v252, plainRun.sl.v253, plainRun.sl.v256, plainRun.sl.v257, plainRun.sl.v259, plainRun.sl.v260, plainRun.sl.v264, plainRun.sl.v266, plainRun.sl.v267, plainRun.sl.v268, plainRun.sl.v269, plainRun.sl.v271, plainRun.sl.v272, plainRun.sl.v274, plainRun.sl.v275, plainRun.sl.v276, plainRun.sl.v279, plainRun.sl.v280, plainRun.sl.v281, plainRun.sl.v282, plainRun.sl.v283, plainRun.sl.v286, plainRun.sl.cst, plainRun.sl.cst_21, plainRun.sl.cst_22, plainRun.sl.cst_24, plainRun.sl.cst_34, plainRun.sl.cst_35, plainRun.sl.cst_59, plainRun.sl.cst_63, plainRun.sl.cst_67, k0_pay1, k0_pay2]
  simp only [sel_sub0, sel_sub1, sel_lo, sel_hi, sel_hi', (fun x => sel_row0 x (i 0)), (fun x => sel_row1 x (i 0)), select_ite, zero_word, ld_rep, ld_slot, (pl_v139 c i arg4 arg6 arg7 arg9 arg12 x0 x2 x3 x1 x9 x5 x8 a0 a1 a2), (pl_v183 c i arg4 arg6 arg7 arg9 arg12 x0 x2 x3 x1 x9 x5 x8 a0 a1 a2)]
  rw [ld_off _ _ j (by decide : 8 ≤ 128) hj]
  rfl

theorem pl_v272 (a : Fin 384) (d : Fin 128) : plainRun.sl.v272 c i arg4 arg6 arg7 arg9 arg12 x0 x2 x3 x5 x8 a0 a1 a2 a3 (ix2 a d) = sc3.view.read (Elt Ideal) a3 (ix2 a d) + (tile i x0 x1 x2 x3 x5 x8 x9 (fun _ _ => true) (sc0.view.read (Elt Ideal) a0) (sc1.view.read (Elt Ideal) a1) (sc2.view.read (Elt Ideal) a2)).dq a d := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v55, plainRun.sl.v58, plainRun.sl.v80, plainRun.sl.v186, plainRun.sl.v187, plainRun.sl.v188, plainRun.sl.v189, plainRun.sl.v191, plainRun.sl.v194, plainRun.sl.v195, plainRun.sl.v200, plainRun.sl.v201, plainRun.sl.v202, plainRun.sl.v207, plainRun.sl.v208, plainRun.sl.v209, plainRun.sl.v214, plainRun.sl.v215, plainRun.sl.v216, plainRun.sl.v221, plainRun.sl.v222, plainRun.sl.v223, plainRun.sl.v226, plainRun.sl.v227, plainRun.sl.v228, plainRun.sl.v232, plainRun.sl.v235, plainRun.sl.v236, plainRun.sl.v237, plainRun.sl.v238, plainRun.sl.v239, plainRun.sl.v243, plainRun.sl.v246, plainRun.sl.v247, plainRun.sl.v249, plainRun.sl.v250, plainRun.sl.v252, plainRun.sl.v253, plainRun.sl.v256, plainRun.sl.v257, plainRun.sl.v259, plainRun.sl.v260, plainRun.sl.v264, plainRun.sl.v266, plainRun.sl.v267, plainRun.sl.v268, plainRun.sl.v269, plainRun.sl.v271, plainRun.sl.v272, plainRun.sl.v274, plainRun.sl.v275, plainRun.sl.v276, plainRun.sl.v279, plainRun.sl.v280, plainRun.sl.v281, plainRun.sl.v282, plainRun.sl.v283, plainRun.sl.v286, plainRun.sl.cst, plainRun.sl.cst_21, plainRun.sl.cst_22, plainRun.sl.cst_24, plainRun.sl.cst_34, plainRun.sl.cst_35, plainRun.sl.cst_59, plainRun.sl.cst_63, plainRun.sl.cst_67, k0_pay1, k0_pay2]
  simp only [sel_lo, sel_hi, sel_hi', (fun x => sel_row0 x (i 0)), (fun x => sel_row1 x (i 0)), select_ite, zero_word, ld_rep, ld_slot, (pl_v139 c i arg4 arg6 arg7 arg9 arg12 x0 x2 x3 x1 x9 x5 x8 a0 a1 a2), (pl_v183 c i arg4 arg6 arg7 arg9 arg12 x0 x2 x3 x1 x9 x5 x8 a0 a1 a2)]
  rw [ld_full]
  rfl

theorem pl_v279 (a : Fin 384) (d : Fin 128) : plainRun.sl.v279 c i arg4 arg6 arg7 arg9 arg12 x0 x2 x3 x5 x8 a0 a1 a2 a4 (ix3 0 a d) = sc4.view.read (Elt Ideal) a4 (ix3 0 a d) + (tile i x0 x1 x2 x3 x5 x8 x9 (fun _ _ => true) (sc0.view.read (Elt Ideal) a0) (sc1.view.read (Elt Ideal) a1) (sc2.view.read (Elt Ideal) a2)).dcq 0 a := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v55, plainRun.sl.v58, plainRun.sl.v80, plainRun.sl.v186, plainRun.sl.v187, plainRun.sl.v188, plainRun.sl.v189, plainRun.sl.v191, plainRun.sl.v194, plainRun.sl.v195, plainRun.sl.v200, plainRun.sl.v201, plainRun.sl.v202, plainRun.sl.v207, plainRun.sl.v208, plainRun.sl.v209, plainRun.sl.v214, plainRun.sl.v215, plainRun.sl.v216, plainRun.sl.v221, plainRun.sl.v222, plainRun.sl.v223, plainRun.sl.v226, plainRun.sl.v227, plainRun.sl.v228, plainRun.sl.v232, plainRun.sl.v235, plainRun.sl.v236, plainRun.sl.v237, plainRun.sl.v238, plainRun.sl.v239, plainRun.sl.v243, plainRun.sl.v246, plainRun.sl.v247, plainRun.sl.v249, plainRun.sl.v250, plainRun.sl.v252, plainRun.sl.v253, plainRun.sl.v256, plainRun.sl.v257, plainRun.sl.v259, plainRun.sl.v260, plainRun.sl.v264, plainRun.sl.v266, plainRun.sl.v267, plainRun.sl.v268, plainRun.sl.v269, plainRun.sl.v271, plainRun.sl.v272, plainRun.sl.v274, plainRun.sl.v275, plainRun.sl.v276, plainRun.sl.v279, plainRun.sl.v280, plainRun.sl.v281, plainRun.sl.v282, plainRun.sl.v283, plainRun.sl.v286, plainRun.sl.cst, plainRun.sl.cst_21, plainRun.sl.cst_22, plainRun.sl.cst_24, plainRun.sl.cst_34, plainRun.sl.cst_35, plainRun.sl.cst_59, plainRun.sl.cst_63, plainRun.sl.cst_67, k0_pay1, k0_pay2]
  simp only [sel_lo, sel_hi, sel_hi', (fun x => sel_row0 x (i 0)), (fun x => sel_row1 x (i 0)), select_ite, zero_word, ld_rep, ld_slot, (pl_v139 c i arg4 arg6 arg7 arg9 arg12 x0 x2 x3 x1 x9 x5 x8 a0 a1 a2), (pl_v183 c i arg4 arg6 arg7 arg9 arg12 x0 x2 x3 x1 x9 x5 x8 a0 a1 a2)]

  rfl

theorem pl_v286 (a : Fin 384) (d : Fin 128) : plainRun.sl.v286 c i arg4 arg6 arg7 arg9 arg12 x0 x2 x3 x5 x8 a0 a1 a2 a4 (ix3 0 a d) = sc4.view.read (Elt Ideal) a4 (ix3 1 a d) + (tile i x0 x1 x2 x3 x5 x8 x9 (fun _ _ => true) (sc0.view.read (Elt Ideal) a0) (sc1.view.read (Elt Ideal) a1) (sc2.view.read (Elt Ideal) a2)).dcq 1 a := by
  pointwise [plainRun.sl.v31, plainRun.sl.v33, plainRun.sl.v35, plainRun.sl.v37, plainRun.sl.v39, plainRun.sl.v40, plainRun.sl.v42, plainRun.sl.v43, plainRun.sl.v44, plainRun.sl.v45, plainRun.sl.v48, plainRun.sl.v50, plainRun.sl.v51, plainRun.sl.v52, plainRun.sl.v55, plainRun.sl.v58, plainRun.sl.v80, plainRun.sl.v186, plainRun.sl.v187, plainRun.sl.v188, plainRun.sl.v189, plainRun.sl.v191, plainRun.sl.v194, plainRun.sl.v195, plainRun.sl.v200, plainRun.sl.v201, plainRun.sl.v202, plainRun.sl.v207, plainRun.sl.v208, plainRun.sl.v209, plainRun.sl.v214, plainRun.sl.v215, plainRun.sl.v216, plainRun.sl.v221, plainRun.sl.v222, plainRun.sl.v223, plainRun.sl.v226, plainRun.sl.v227, plainRun.sl.v228, plainRun.sl.v232, plainRun.sl.v235, plainRun.sl.v236, plainRun.sl.v237, plainRun.sl.v238, plainRun.sl.v239, plainRun.sl.v243, plainRun.sl.v246, plainRun.sl.v247, plainRun.sl.v249, plainRun.sl.v250, plainRun.sl.v252, plainRun.sl.v253, plainRun.sl.v256, plainRun.sl.v257, plainRun.sl.v259, plainRun.sl.v260, plainRun.sl.v264, plainRun.sl.v266, plainRun.sl.v267, plainRun.sl.v268, plainRun.sl.v269, plainRun.sl.v271, plainRun.sl.v272, plainRun.sl.v274, plainRun.sl.v275, plainRun.sl.v276, plainRun.sl.v279, plainRun.sl.v280, plainRun.sl.v281, plainRun.sl.v282, plainRun.sl.v283, plainRun.sl.v286, plainRun.sl.cst, plainRun.sl.cst_21, plainRun.sl.cst_22, plainRun.sl.cst_24, plainRun.sl.cst_34, plainRun.sl.cst_35, plainRun.sl.cst_59, plainRun.sl.cst_63, plainRun.sl.cst_67, k0_pay1, k0_pay2]
  simp only [sel_lo, sel_hi, sel_hi', (fun x => sel_row0 x (i 0)), (fun x => sel_row1 x (i 0)), select_ite, zero_word, ld_rep, ld_slot, (pl_v139 c i arg4 arg6 arg7 arg9 arg12 x0 x2 x3 x1 x9 x5 x8 a0 a1 a2), (pl_v183 c i arg4 arg6 arg7 arg9 arg12 x0 x2 x3 x1 x9 x5 x8 a0 a1 a2)]

  rfl

end Cert.Fox
end
-- ==== Proof.FoxMaskedOut.lean ====
/- The step at the band's edge: what it adds to each buffer. -/
module

public import proofs.«01_k».proof.Proof.FoxMasked
public import proofs.«01_k».proof.Proof.FoxPlainOut

@[expose] public section

set_option maxRecDepth 16384
set_option synthInstance.maxSize 4096

noncomputable section

namespace Cert.Fox

open Cert.FoxBwdIdeal Cert.FoxBwdIdeal.Gen
open Idealize.ShloMosaic
open Idealize.ShloMosaic.TcCoe Idealize.ShloMosaic.Tactic

variable (c : Dev nD) (i : grid0.Coords)
variable (arg4 arg6 arg7 : Memref sig .tc .vmem S384x128 .bf16) (arg5 arg13 : Memref sig .tc .vmem S128x384 .bf16)
variable (arg9 : Memref sig .tc .vmem S8x384 .f32) (arg12 : Memref sig .tc .vmem S384x128 .f32)
variable (x0 x2 x3 : S384x128.Idx → Elt Ideal .bf16) (x1 x9 : S128x384.Idx → Elt Ideal .bf16) (x5 : S8x384.Idx → Elt Ideal .f32) (x8 : S384x128.Idx → Elt Ideal .f32)
variable (a0 : Buf (Elt Ideal) (sc0.view.loc (c : Thread nD τ))) (a1 : Buf (Elt Ideal) (sc1.view.loc (c : Thread nD τ))) (a2 : Buf (Elt Ideal) (sc2.view.loc (c : Thread nD τ)))
variable (a3 : Buf (Elt Ideal) (sc3.view.loc (c : Thread nD τ))) (a4 : Buf (Elt Ideal) (sc4.view.loc (c : Thread nD τ)))
variable (a5 : Buf (Elt Ideal) (sc5.view.loc (c : Thread nD τ))) (a6 : Buf (Elt Ideal) (sc6.view.loc (c : Thread nD τ))) (a7 : Buf (Elt Ideal) (sc7.view.loc (c : Thread nD τ)))
variable (v1 v3 : BitVec 32) (k0_hw1 : k0_chk1 v1 v3)
variable (k0_h3 : k0_cond3 v1 v3 = 1#1)

theorem mk_v265 (j : Fin 11) (hj : k0_off2 v3 = ![j.val, 0, 0]) (d : Fin 128) (b : Fin 384) : maskedRun.sl.v265 c i arg4 arg6 arg9 arg13 x0 x2 x5 x9 a0 a2 a6 v1 v3 k0_hw1 k0_h3 (ix3 0 d b) = sc6.view.read (Elt Ideal) a6 (ix3 j d b) + (tile i x0 x1 x2 x3 x5 x8 x9 (maskW v1 v3) (sc0.view.read (Elt Ideal) a0) (sc1.view.read (Elt Ideal) a1) (sc2.view.read (Elt Ideal) a2)).dv d b := by
  pointwise [maskedRun.sl.v31, maskedRun.sl.v33, maskedRun.sl.v35, maskedRun.sl.v37, maskedRun.sl.v39, maskedRun.sl.v40, maskedRun.sl.v42, maskedRun.sl.v43, maskedRun.sl.v44, maskedRun.sl.v60, maskedRun.sl.v63, maskedRun.sl.v65, maskedRun.sl.v66, maskedRun.sl.v70, maskedRun.sl.v88, maskedRun.sl.v95, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10]
  simp only [sel_lo, sel_hi, sel_hi', (fun x => sel_row0 x (i 0)), (fun x => sel_row1 x (i 0)), select_ite, zero_word, ld_rep, ld_slot, (mk_r_8 c i arg4 arg6 arg9 x0 x2 x3 x1 x9 x5 x8 a0 a1 a2 v1 v3), (mk_v215 c i arg4 arg6 arg9 x0 x2 x3 x1 x9 x5 x8 a0 a1 a2 v1 v3)]
  rw [ld_off _ _ j (le_refl 128) hj]
  rfl

theorem mk_v276 (j : Fin 11) (hj : k0_off2 v3 = ![j.val, 0, 0]) (d : Fin 128) (b : Fin 384) : maskedRun.sl.v276 c i arg4 arg5 arg6 arg7 arg9 arg12 x0 x1 x2 x3 x5 x8 a0 a1 a2 a5 v1 v3 k0_hw1 k0_h3 (ix3 0 d b) = sc5.view.read (Elt Ideal) a5 (ix3 j d b) + (tile i x0 x1 x2 x3 x5 x8 x9 (maskW v1 v3) (sc0.view.read (Elt Ideal) a0) (sc1.view.read (Elt Ideal) a1) (sc2.view.read (Elt Ideal) a2)).dk d b := by
  pointwise [maskedRun.sl.v31, maskedRun.sl.v33, maskedRun.sl.v35, maskedRun.sl.v37, maskedRun.sl.v39, maskedRun.sl.v40, maskedRun.sl.v42, maskedRun.sl.v43, maskedRun.sl.v44, maskedRun.sl.v60, maskedRun.sl.v63, maskedRun.sl.v65, maskedRun.sl.v66, maskedRun.sl.v70, maskedRun.sl.v88, maskedRun.sl.v95, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10]
  simp only [sel_lo, sel_hi, sel_hi', (fun x => sel_row0 x (i 0)), (fun x => sel_row1 x (i 0)), select_ite, zero_word, ld_rep, ld_slot, (mk_r_9 c i arg4 arg6 arg7 arg9 arg12 x0 x2 x3 x1 x9 x5 x8 a0 a1 a2 v1 v3), (mk_v216 c i arg4 arg6 arg7 arg9 arg12 x0 x2 x3 x1 x9 x5 x8 a0 a1 a2 v1 v3)]
  rw [ld_off _ _ j (le_refl 128) hj]
  rfl

theorem mk_v297 (j : Fin 11) (hj : k0_off3 v3 = ![j.val, 0, 0]) (r : Fin 8) (b : Fin 384) : maskedRun.sl.v297 c i arg4 arg5 arg6 arg7 arg9 arg12 x0 x1 x2 x3 x5 x8 a0 a1 a2 a7 v1 v3 k0_hw1 k0_h3 (ix3 0 r b) = sc7.view.read (Elt Ideal) a7 (ix3 j ⟨r.val, by omega⟩ b) + (tile i x0 x1 x2 x3 x5 x8 x9 (maskW v1 v3) (sc0.view.read (Elt Ideal) a0) (sc1.view.read (Elt Ideal) a1) (sc2.view.read (Elt Ideal) a2)).dck r b := by
  pointwise [maskedRun.sl.v31, maskedRun.sl.v33, maskedRun.sl.v35, maskedRun.sl.v37, maskedRun.sl.v39, maskedRun.sl.v40, maskedRun.sl.v42, maskedRun.sl.v43, maskedRun.sl.v44, maskedRun.sl.v60, maskedRun.sl.v63, maskedRun.sl.v65, maskedRun.sl.v66, maskedRun.sl.v70, maskedRun.sl.v88, maskedRun.sl.v95, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10]
  simp only [sel_sub0, sel_sub1, sel_lo, sel_hi, sel_hi', (fun x => sel_row0 x (i 0)), (fun x => sel_row1 x (i 0)), select_ite, zero_word, ld_rep, ld_slot, (mk_r_9 c i arg4 arg6 arg7 arg9 arg12 x0 x2 x3 x1 x9 x5 x8 a0 a1 a2 v1 v3), (mk_v216 c i arg4 arg6 arg7 arg9 arg12 x0 x2 x3 x1 x9 x5 x8 a0 a1 a2 v1 v3)]
  rw [ld_off _ _ j (by decide : 8 ≤ 128) hj]
  rfl

theorem mk_pay8 (a : Fin 384) (d : Fin 128) : k0_pay8 (maskedRun.sl.v249 c i arg4 arg6 arg7 arg9 arg12 x0 x2 x3 x5 x8 a0 a1 a2 v1 v3) (maskedRun.sl.v256 c i arg4 arg6 arg7 arg9 arg12 x0 x2 x3 x5 x8 a0 a1 a2 v1 v3) (sc3.view.readAt (Elt Ideal) (Rect.unit (s := S384x128) ![0, 0] S384x128.size inb_S384x128_S384x128_0_0).toLoadRect a3) (ix2 a d) = sc3.view.read (Elt Ideal) a3 (ix2 a d) + (tile i x0 x1 x2 x3 x5 x8 x9 (maskW v1 v3) (sc0.view.read (Elt Ideal) a0) (sc1.view.read (Elt Ideal) a1) (sc2.view.read (Elt Ideal) a2)).dq a d := by
  pointwise [maskedRun.sl.v31, maskedRun.sl.v33, maskedRun.sl.v35, maskedRun.sl.v37, maskedRun.sl.v39, maskedRun.sl.v40, maskedRun.sl.v42, maskedRun.sl.v43, maskedRun.sl.v44, maskedRun.sl.v60, maskedRun.sl.v63, maskedRun.sl.v65, maskedRun.sl.v66, maskedRun.sl.v70, maskedRun.sl.v88, maskedRun.sl.v95, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10]
  simp only [sel_lo, sel_hi, sel_hi', (fun x => sel_row0 x (i 0)), (fun x => sel_row1 x (i 0)), select_ite, zero_word, ld_rep, ld_slot, (mk_r_9 c i arg4 arg6 arg7 arg9 arg12 x0 x2 x3 x1 x9 x5 x8 a0 a1 a2 v1 v3), (mk_v216 c i arg4 arg6 arg7 arg9 arg12 x0 x2 x3 x1 x9 x5 x8 a0 a1 a2 v1 v3)]
  rw [ld_full]
  rfl

theorem mk_pay9 (a : Fin 384) (d : Fin 128) : k0_pay9 (maskedRun.sl.v249 c i arg4 arg6 arg7 arg9 arg12 x0 x2 x3 x5 x8 a0 a1 a2 v1 v3) (sc4.view.readAt (Elt Ideal) (Rect.unit (s := S2x384x128) ![0, 0, 0] S1x384x128.size inb_S2x384x128_S1x384x128_0_0_0).toLoadRect a4) (ix3 0 a d) = sc4.view.read (Elt Ideal) a4 (ix3 0 a d) + (tile i x0 x1 x2 x3 x5 x8 x9 (maskW v1 v3) (sc0.view.read (Elt Ideal) a0) (sc1.view.read (Elt Ideal) a1) (sc2.view.read (Elt Ideal) a2)).dcq 0 a := by
  pointwise [maskedRun.sl.v31, maskedRun.sl.v33, maskedRun.sl.v35, maskedRun.sl.v37, maskedRun.sl.v39, maskedRun.sl.v40, maskedRun.sl.v42, maskedRun.sl.v43, maskedRun.sl.v44, maskedRun.sl.v60, maskedRun.sl.v63, maskedRun.sl.v65, maskedRun.sl.v66, maskedRun.sl.v70, maskedRun.sl.v88, maskedRun.sl.v95, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10]
  simp only [sel_lo, sel_hi, sel_hi', (fun x => sel_row0 x (i 0)), (fun x => sel_row1 x (i 0)), select_ite, zero_word, ld_rep, ld_slot, (mk_r_9 c i arg4 arg6 arg7 arg9 arg12 x0 x2 x3 x1 x9 x5 x8 a0 a1 a2 v1 v3), (mk_v216 c i arg4 arg6 arg7 arg9 arg12 x0 x2 x3 x1 x9 x5 x8 a0 a1 a2 v1 v3)]

  rfl

theorem mk_pay10 (a : Fin 384) (d : Fin 128) : k0_pay10 (maskedRun.sl.v256 c i arg4 arg6 arg7 arg9 arg12 x0 x2 x3 x5 x8 a0 a1 a2 v1 v3) (maskedRun.sl.v313 c a4) (ix3 0 a d) = sc4.view.read (Elt Ideal) a4 (ix3 1 a d) + (tile i x0 x1 x2 x3 x5 x8 x9 (maskW v1 v3) (sc0.view.read (Elt Ideal) a0) (sc1.view.read (Elt Ideal) a1) (sc2.view.read (Elt Ideal) a2)).dcq 1 a := by
  pointwise [maskedRun.sl.v31, maskedRun.sl.v33, maskedRun.sl.v35, maskedRun.sl.v37, maskedRun.sl.v39, maskedRun.sl.v40, maskedRun.sl.v42, maskedRun.sl.v43, maskedRun.sl.v44, maskedRun.sl.v60, maskedRun.sl.v63, maskedRun.sl.v65, maskedRun.sl.v66, maskedRun.sl.v70, maskedRun.sl.v88, maskedRun.sl.v95, maskedRun.sl.v219, maskedRun.sl.v220, maskedRun.sl.v221, maskedRun.sl.v222, maskedRun.sl.v224, maskedRun.sl.v227, maskedRun.sl.v228, maskedRun.sl.v233, maskedRun.sl.v234, maskedRun.sl.v235, maskedRun.sl.v240, maskedRun.sl.v241, maskedRun.sl.v242, maskedRun.sl.v247, maskedRun.sl.v248, maskedRun.sl.v249, maskedRun.sl.v254, maskedRun.sl.v255, maskedRun.sl.v256, maskedRun.sl.v259, maskedRun.sl.v260, maskedRun.sl.v261, maskedRun.sl.v265, maskedRun.sl.v268, maskedRun.sl.v269, maskedRun.sl.v270, maskedRun.sl.v271, maskedRun.sl.v272, maskedRun.sl.v276, maskedRun.sl.v279, maskedRun.sl.v280, maskedRun.sl.v282, maskedRun.sl.v283, maskedRun.sl.v285, maskedRun.sl.v286, maskedRun.sl.v289, maskedRun.sl.v290, maskedRun.sl.v292, maskedRun.sl.v293, maskedRun.sl.v297, maskedRun.sl.v313, maskedRun.sl.cst, maskedRun.sl.cst_22, maskedRun.sl.cst_23, maskedRun.sl.cst_25, maskedRun.sl.cst_35, maskedRun.sl.cst_36, maskedRun.sl.cst_66, maskedRun.sl.cst_70, maskedRun.sl.cst_74, k0_pay1, k0_pay2, k0_pay8, k0_pay9, k0_pay10]
  simp only [sel_lo, sel_hi, sel_hi', (fun x => sel_row0 x (i 0)), (fun x => sel_row1 x (i 0)), select_ite, zero_word, ld_rep, ld_slot, (mk_r_9 c i arg4 arg6 arg7 arg9 arg12 x0 x2 x3 x1 x9 x5 x8 a0 a1 a2 v1 v3), (mk_v216 c i arg4 arg6 arg7 arg9 arg12 x0 x2 x3 x1 x9 x5 x8 a0 a1 a2 v1 v3)]

  rfl

end Cert.Fox
end
-- ==== Proof.FoxWhole.lean ====
/- The gradient over whole arrays: a step's contributions are tiles of it, and blocks right of the diagonal contribute nothing. -/
module

public import proofs.«01_k».proof.Proof.FoxTile

@[expose] public section

set_option maxRecDepth 16384

noncomputable section

namespace Cert.Fox

open Cert.FoxBwdIdeal Cert.FoxBwdIdeal.Gen
open Idealize.ShloMosaic
open Idealize.ShloMosaic.TcCoe Idealize.ShloMosaic.Tactic

/-- The call's operands. -/
structure Whole where
  q : S4224x512.Idx → EReal
  qt : S512x4224.Idx → EReal
  k : S4224x512.Idx → EReal
  v : S4224x512.Idx → EReal
  cq : S4224x128.Idx → EReal
  ct : S8x4224.Idx → EReal
  o : S4224x512.Idx → EReal
  lse : S4224x512.Idx → EReal
  g : S4224x512.Idx → EReal
  gt : S512x4224.Idx → EReal

/-- Row `a` of block `i`, head `e` of pair `p`, lane `d` of pair `p`, lane `x` of head `h`. -/
def row (i : Fin 11) (a : Fin 384) : Fin 4224 := ⟨384 * i.val + a.val, by omega⟩
def hd (p : Fin 4) (e : Fin 2) : Fin 8 := ⟨2 * p.val + e.val, by omega⟩
def pl (p : Fin 4) (d : Fin 128) : Fin 512 := ⟨128 * p.val + d.val, by omega⟩
def hl (h : Fin 8) (x : Fin 64) : Fin 512 := ⟨64 * h.val + x.val, by omega⟩
def wide (h : Fin 8) : Fin 128 := ⟨h.val, by omega⟩

/-- The pairs a row attends to. -/
def sees (r s : Fin 4224) : Bool := decide (s.val ≤ r.val ∧ 112 ≤ s.val)

namespace Whole

variable (W : Whole)

/-- Scores, probabilities, the sum a softmax's gradient takes away, and the scores' gradient. -/
def sc (h : Fin 8) (r s : Fin 4224) : EReal :=
  (∑ x : Fin 64, W.q (ix2 r (hl h x)) * W.k (ix2 s (hl h x))) + W.cq (ix2 r (wide h)) - W.ct (ix2 h s)
def pr (h : Fin 8) (r s : Fin 4224) : EReal :=
  Ideal.exp ((if sees r s then W.sc h r s else ⊥) - W.lse (ix2 r (hl h 0)))
def dl (h : Fin 8) (r : Fin 4224) : EReal := ∑ x : Fin 64, W.g (ix2 r (hl h x)) * W.o (ix2 r (hl h x))
def ds (h : Fin 8) (r s : Fin 4224) : EReal :=
  W.pr h r s * ((∑ x : Fin 64, W.g (ix2 r (hl h x)) * W.v (ix2 s (hl h x))) - W.dl h r)

/-- The tile of a step. -/
def tile (p : Fin 4) (i j : Fin 11) : Tile where
  p := p.val
  mask a b := sees (row i a) (row j b)
  q y := W.q (ix2 (row i (y 0)) (pl p (y 1)))
  qt y := W.qt (ix2 (pl p (y 0)) (row i (y 1)))
  k y := W.k (ix2 (row j (y 0)) (pl p (y 1)))
  v y := W.v (ix2 (row j (y 0)) (pl p (y 1)))
  ct y := W.ct (ix2 (y 0) (row j (y 1)))
  g y := W.g (ix2 (row i (y 0)) (pl p (y 1)))
  gt y := W.gt (ix2 (pl p (y 0)) (row i (y 1)))
  lse y := W.lse (ix2 (row i (y 1)) (hl (hd p (y 0)) 0))
  dl y := W.dl (hd p (y 0)) (row i (y 1))
  cq y := W.cq (ix2 (row i (y 1)) (wide (hd p (y 0))))

end Whole

/-- Half of a pair's lanes. -/
theorem half_sum (e : Fin 2) (f : Fin 128 → EReal) :
    (∑ d : Fin 128, if d.val / 64 = e.val then f d else 0) = ∑ x : Fin 64, f ⟨64 * e.val + x.val, by omega⟩ := by
  refine (Fin.sum_univ_add (a := 64) (b := 64) _).trans ?_
  have h0 : ∀ x : Fin 64, (Fin.castAdd 64 x).val / 64 = 0 := fun x => by simp
  have h1 : ∀ x : Fin 64, (Fin.natAdd 64 x).val / 64 = 1 := fun x => by simp only [Fin.val_natAdd]; omega
  simp only [h0, h1]
  fin_cases e
  · simp only [Nat.zero_ne_one, one_ne_zero, if_true, if_false, Finset.sum_const_zero, add_zero]
    exact Finset.sum_congr rfl fun x _ => congrArg f (Fin.ext (by simp))
  · simp only [Nat.zero_ne_one, one_ne_zero, if_true, if_false, Finset.sum_const_zero, zero_add]
    exact Finset.sum_congr rfl fun x _ => congrArg f (Fin.ext (by simp [Nat.add_comm]))

/-- A sum with one term. -/
theorem pick_sum {n : ℕ} (k : ℕ) (hk : k < n) (f : Fin n → EReal) : (∑ d : Fin n, if d.val = k then f d else 0) = f ⟨k, hk⟩ := by
  rw [Finset.sum_eq_single ⟨k, hk⟩]
  · rw [if_pos rfl]
  · intro d _ hd; rw [if_neg fun h => hd (Fin.ext h)]
  · intro h; exact absurd (Finset.mem_univ _) h

namespace Whole

variable (W : Whole) (p : Fin 4) (i j : Fin 11) (e : Fin 2) (a b : Fin 384)

theorem pl_half (x : Fin 64) : pl p ⟨64 * e.val + x.val, by omega⟩ = hl (hd p e) x :=
  Fin.ext (by simp only [pl, hl, hd]; omega)

theorem tile_sc (l : Fin 128) : (W.tile p i j).sc e a b l = W.sc (hd p e) (row i a) (row j b) := by
  unfold Tile.sc Whole.sc Whole.tile
  simp only [ite_mul, zero_mul]
  rw [half_sum e, pick_sum _ (by omega)]
  show (∑ x : Fin 64, W.q (ix2 (row i a) (pl p ⟨64 * e.val + x.val, _⟩)) * W.k (ix2 (row j b) (pl p ⟨64 * e.val + x.val, _⟩))) + _ - _ = _
  simp only [pl_half]
  rfl

theorem tile_pr : (W.tile p i j).pr e a b = W.pr (hd p e) (row i a) (row j b) := by
  unfold Tile.pr Tile.prL Whole.pr
  rw [tile_sc]
  rfl

theorem tile_ds : (W.tile p i j).ds e a b = W.ds (hd p e) (row i a) (row j b) := by
  have h := W.tile_pr p i j e a b
  unfold Tile.pr at h
  unfold Tile.ds Tile.dsL Whole.ds
  rw [h]
  simp only [Whole.tile, ite_mul, zero_mul]
  rw [half_sum e]
  show _ * ((∑ x : Fin 64, W.g (ix2 (row i a) (pl p ⟨64 * e.val + x.val, _⟩)) * W.v (ix2 (row j b) (pl p ⟨64 * e.val + x.val, _⟩))) - _) = _
  simp only [pl_half]
  rfl

/-- The head a lane of a pair belongs to. -/
def side (d : Fin 128) : Fin 2 := ⟨d.val / 64, by omega⟩

theorem two (d : Fin 128) (f : Fin 2 → EReal) (h : Fin 2 → EReal) (h0 : ∀ e : Fin 2, h e = if d.val / 64 = e.val then f e else 0) :
    h 0 + h 1 = f (side d) := by
  rw [h0, h0]
  by_cases hd : d.val / 64 = 0
  · rw [if_pos (by exact hd), if_neg (by rw [hd]; decide), add_zero]
    exact congrArg f (Fin.ext hd.symm)
  · have h1 : d.val / 64 = 1 := by omega
    rw [if_neg (by exact hd), if_pos (by exact h1), zero_add]
    exact congrArg f (Fin.ext h1.symm)

theorem side_sum {n : ℕ} (d : Fin 128) (e : Fin 2) (f : Fin n → EReal) (P : Fin n → EReal) :
    (∑ a, (if d.val / 64 = e.val then f a else 0) * P a) = if d.val / 64 = e.val then ∑ a, f a * P a else 0 := by
  split_ifs <;> simp

theorem tile_dv (d : Fin 128) : (W.tile p i j).dv d b
    = ∑ a, W.gt (ix2 (pl p d) (row i a)) * W.pr (hd p (side d)) (row i a) (row j b) := by
  unfold Tile.dv
  simp only [tile_pr]
  exact two d (fun e => ∑ a, W.gt (ix2 (pl p d) (row i a)) * W.pr (hd p e) (row i a) (row j b))
    (fun e => ∑ a, (if d.val / 64 = e.val then W.gt (ix2 (pl p d) (row i a)) else 0) * W.pr (hd p e) (row i a) (row j b))
    (fun e => side_sum d e _ _)

theorem tile_dk (d : Fin 128) : (W.tile p i j).dk d b
    = ∑ a, W.qt (ix2 (pl p d) (row i a)) * W.ds (hd p (side d)) (row i a) (row j b) := by
  unfold Tile.dk
  simp only [tile_ds]
  exact two d (fun e => ∑ a, W.qt (ix2 (pl p d) (row i a)) * W.ds (hd p e) (row i a) (row j b))
    (fun e => ∑ a, (if d.val / 64 = e.val then W.qt (ix2 (pl p d) (row i a)) else 0) * W.ds (hd p e) (row i a) (row j b))
    (fun e => side_sum d e _ _)

theorem tile_dq (d : Fin 128) : (W.tile p i j).dq a d
    = ∑ b, W.ds (hd p (side d)) (row i a) (row j b) * W.k (ix2 (row j b) (pl p d)) := by
  unfold Tile.dq
  simp only [tile_ds]
  exact two d (fun e => ∑ b, W.ds (hd p e) (row i a) (row j b) * W.k (ix2 (row j b) (pl p d)))
    (fun e => ∑ b, W.ds (hd p e) (row i a) (row j b) * (if d.val / 64 = e.val then W.k (ix2 (row j b) (pl p d)) else 0))
    (fun e => by split_ifs <;> simp)

theorem tile_dcq : (W.tile p i j).dcq e a = ∑ b, W.ds (hd p e) (row i a) (row j b) := by
  unfold Tile.dcq
  simp only [tile_ds]

theorem tile_dck (d : Fin 128) : (W.tile p i j).dck ⟨d.val / 64, by omega⟩ b = ∑ a, W.ds (hd p (side d)) (row i a) (row j b) := by
  unfold Tile.dck
  simp only [tile_ds]
  by_cases hd : d.val / 64 = 0
  · rw [if_pos hd, show side d = 0 from Fin.ext hd]
  · have h1 : d.val / 64 = 1 := by omega
    rw [if_neg hd, if_pos h1, show side d = 1 from Fin.ext h1]

/-! Nothing right of the diagonal. -/

theorem pr_unseen {h : Fin 8} {r s : Fin 4224} (hs : sees r s = false) : W.pr h r s = 0 := by
  unfold Whole.pr
  rw [hs]
  show Ideal.exp (⊥ - _) = 0
  rw [EReal.bot_sub]
  rfl

theorem ds_unseen {h : Fin 8} {r s : Fin 4224} (hs : sees r s = false) : W.ds h r s = 0 := by
  unfold Whole.ds
  rw [W.pr_unseen hs, zero_mul]

theorem sees_right (hij : i < j) : sees (row i a) (row j b) = false := by
  unfold sees row
  have : i.val + 1 ≤ j.val := hij
  simp only [decide_eq_false_iff_not]
  omega

end Whole

/-- Rows block by block. -/
theorem rows_sum (f : Fin 4224 → EReal) : (∑ i : Fin 11, ∑ a : Fin 384, f (row i a)) = ∑ r, f r := by
  rw [← Finset.sum_product', ← (finProdFinEquiv (m := 11) (n := 384)).sum_comp]
  refine Finset.sum_congr (by simp) fun y _ => congrArg f (Fin.ext ?_)
  simp [row, finProdFinEquiv]
  omega

end Cert.Fox
end
-- ==== Proof.FoxNext.lean ====
/- What a step's stages leave in the scratch buffers. -/
module

public import proofs.«01_k».proof.Proof.FoxStep
public import proofs.«01_k».proof.Proof.FoxEdge
public import proofs.«01_k».proof.Proof.FoxMaskedOut
public import proofs.«01_k».proof.Proof.FoxPlainOut
public import proofs.«01_k».proof.Proof.FoxWhole
public import Idealize.ShloMosaic.Lib.WritesUnit

@[expose] public section

set_option maxRecDepth 16384
set_option synthInstance.maxSize 4096

noncomputable section

namespace Cert.Fox

open Cert.FoxBwdIdeal Cert.FoxBwdIdeal.Gen
open Idealize.ShloMosaic
open Idealize.ShloMosaic.TcCoe Idealize.ShloMosaic.Tactic

/-! ### Words -/

theorem off4 : ∀ j : Fin 11, k0_off4 (BitVec.ofNat 32 j.val) = ![j.val, 0, 0] := by decide
theorem off5 : ∀ j : Fin 11, k0_off5 (BitVec.ofNat 32 j.val) = ![j.val, 0, 0] := by decide
theorem off2 : ∀ j : Fin 11, k0_off2 (BitVec.ofNat 32 j.val) = ![j.val, 0, 0] := by decide
theorem off3 : ∀ j : Fin 11, k0_off3 (BitVec.ofNat 32 j.val) = ![j.val, 0, 0] := by decide

variable {c : Dev nD}

def rd0 (s : Scr Ideal c) : S2x384x128.Idx → EReal := sc0.view.read (Elt Ideal) s.s0
def rd1 (s : Scr Ideal c) : S2x384x128.Idx → EReal := sc1.view.read (Elt Ideal) s.s1
def rd2 (s : Scr Ideal c) : S2x384x128.Idx → EReal := sc2.view.read (Elt Ideal) s.s2
def rd3 (s : Scr Ideal c) : S384x128.Idx → EReal := sc3.view.read (Elt Ideal) s.s3
def rd4 (s : Scr Ideal c) : S2x384x128.Idx → EReal := sc4.view.read (Elt Ideal) s.s4
def rd5 (s : Scr Ideal c) : S11x128x384.Idx → EReal := sc5.view.read (Elt Ideal) s.s5
def rd6 (s : Scr Ideal c) : S11x128x384.Idx → EReal := sc6.view.read (Elt Ideal) s.s6
def rd7 (s : Scr Ideal c) : S11x128x384.Idx → EReal := sc7.view.read (Elt Ideal) s.s7

/-! ### A whole store, two halves, one slot -/

section Reads
variable {sig : RefSig} {κ : Kind} {sp : Space} {e : EltTy} {Val : EltTy → Type} [∀ e, Nonempty (Val e)]

theorem wr_full2 {n0 n1 : ℕ} (v : View sig κ sp (⟨2, ![n0, n1]⟩ : Shape) e) (f : v.ty.Contents Val)
    (inb : ∀ a, (![0, 0] : Fin 2 → ℕ) a + (![n0, n1] : Fin 2 → ℕ) a ≤ (⟨2, ![n0, n1]⟩ : Shape).size a) (w : (⟨2, ![n0, n1]⟩ : Shape).Idx → Val e) (a : Fin n0) (b : Fin n1) :
    v.read Val (v.writes Val f [⟨Rect.unit (s := ⟨2, ![n0, n1]⟩) ![0, 0] ![n0, n1] inb, w⟩]) (ix2 a b) = w (ix2 a b) :=
  View.read_writes_cons_unit_of_mem v f inb w [] (ix2 a b) (ix2 a b) rfl (by intro x; fin_cases x <;> simp)

theorem wr_full3 {n0 n1 n2 : ℕ} (v : View sig κ sp (⟨3, ![n0, n1, n2]⟩ : Shape) e) (f : v.ty.Contents Val)
    (inb : ∀ a, (![0, 0, 0] : Fin 3 → ℕ) a + (![n0, n1, n2] : Fin 3 → ℕ) a ≤ (⟨3, ![n0, n1, n2]⟩ : Shape).size a) (w : (⟨3, ![n0, n1, n2]⟩ : Shape).Idx → Val e) (a : Fin n0) (b : Fin n1) (d : Fin n2) :
    v.read Val (v.writes Val f [⟨Rect.unit (s := ⟨3, ![n0, n1, n2]⟩) ![0, 0, 0] ![n0, n1, n2] inb, w⟩]) (ix3 a b d) = w (ix3 a b d) :=
  View.read_writes_cons_unit_of_mem v f inb w [] (ix3 a b d) (ix3 a b d) rfl (by intro x; fin_cases x <;> simp)

theorem wr_two {n1 n2 : ℕ} (v : View sig κ sp (⟨3, ![2, n1, n2]⟩ : Shape) e) (f : v.ty.Contents Val)
    (inb0 : ∀ a, (![0, 0, 0] : Fin 3 → ℕ) a + (![1, n1, n2] : Fin 3 → ℕ) a ≤ (⟨3, ![2, n1, n2]⟩ : Shape).size a)
    (inb1 : ∀ a, (![1, 0, 0] : Fin 3 → ℕ) a + (![1, n1, n2] : Fin 3 → ℕ) a ≤ (⟨3, ![2, n1, n2]⟩ : Shape).size a)
    (w0 w1 : (⟨3, ![1, n1, n2]⟩ : Shape).Idx → Val e) (g : Fin 2 → Fin n1 → Fin n2 → Val e)
    (h0 : ∀ a b, w0 (ix3 0 a b) = g 0 a b) (h1 : ∀ a b, w1 (ix3 0 a b) = g 1 a b) (k : Fin 2) (a : Fin n1) (b : Fin n2) :
    v.read Val (v.writes Val f [⟨Rect.unit (s := ⟨3, ![2, n1, n2]⟩) ![1, 0, 0] ![1, n1, n2] inb1, w1⟩,
      ⟨Rect.unit (s := ⟨3, ![2, n1, n2]⟩) ![0, 0, 0] ![1, n1, n2] inb0, w0⟩]) (ix3 k a b) = g k a b := by
  match k with
  | ⟨0, _⟩ =>
    refine (View.read_writes_cons_unit_of_not_mem v f inb1 w1 _ (ix3 _ a b) rfl (0 : Fin 3) (Or.inl (by simp))).trans ?_
    exact (View.read_writes_cons_unit_of_mem v f inb0 w0 [] (ix3 _ a b) (ix3 0 a b) rfl (by intro x; fin_cases x <;> simp)).trans (h0 a b)
  | ⟨1, _⟩ =>
    exact (View.read_writes_cons_unit_of_mem v f inb1 w1 _ (ix3 _ a b) (ix3 0 a b) rfl (by intro x; fin_cases x <;> simp)).trans (h1 a b)

theorem wr_slot {n0 n1 n2 m : ℕ} (v : View sig κ sp (⟨3, ![n0, n1, n2]⟩ : Shape) e) (f : v.ty.Contents Val) {off : Fin 3 → ℕ} (j : Fin n0) (hoff : off = ![j.val, 0, 0])
    (inb : ∀ a, off a + (![1, m, n2] : Fin 3 → ℕ) a ≤ (⟨3, ![n0, n1, n2]⟩ : Shape).size a) (w : (⟨3, ![1, m, n2]⟩ : Shape).Idx → Val e) (hm : m ≤ n1)
    (j' : Fin n0) (r : Fin m) (b : Fin n2) :
    v.read Val (v.writes Val f [⟨Rect.unit (s := ⟨3, ![n0, n1, n2]⟩) off ![1, m, n2] inb, w⟩]) (ix3 j' ⟨r.val, r.isLt.trans_le hm⟩ b)
      = if j' = j then w (ix3 0 r b) else v.read Val f (ix3 j' ⟨r.val, r.isLt.trans_le hm⟩ b) := by
  split_ifs with h
  · subst h
    exact View.read_writes_cons_unit_of_mem v f inb w [] _ (ix3 0 r b) hoff (by intro x; fin_cases x <;> simp)
  · have h' : j'.val ≠ j.val := fun e => h (Fin.ext e)
    refine (View.read_writes_cons_unit_of_not_mem v f inb w [] _ hoff (0 : Fin 3) ?_).trans rfl
    simp
    omega

end Reads

variable (i : grid0.Coords) (M : Mems) (x : Blk Ideal) (s : Scr Ideal c)

/-! ### Clearing the columns' accumulators -/

/-- The columns' accumulators are clear where a pair begins. -/
structure Cleared (s s' : Scr Ideal c) : Prop where
  h5 : ∀ j d b, rd5 s' (ix3 j d b) = 0
  h6 : ∀ j d b, rd6 s' (ix3 j d b) = 0
  h7 : ∀ j d b, rd7 s' (ix3 j d b) = 0

theorem zero_eq (h : (Scalar.cmpi .ne (Scalar.extui (Scalar.cmpi .eq (BitVec.ofNat 32 (i 1).val) 0#32)) 0#32) = 1#1) : zeroS c i s
    = (s.s0, s.s1, s.s2, s.s3, s.s4, sc5.view.writes (Elt Ideal) sc5.view.junk zeroRun.sl.HS5_1,
      sc6.view.writes (Elt Ideal) sc6.view.junk zeroRun.sl.HS6_1, sc7.view.writes (Elt Ideal) sc7.view.junk zeroRun.sl.HS7_1) := by
  unfold zeroS
  refine (dif_pos h).trans ?_
  unfold zeroRun
  rfl

theorem zero_pos (h : (i 1).val = 0) : Cleared s (zeroS c i s) := by
  have h' := (cond1 (i 1)).mpr h
  rw [zero_eq i s h']
  exact ⟨fun j d b => (wr_full3 _ _ _ _ j d b).trans (ze_3 j d b), fun j d b => (wr_full3 _ _ _ _ j d b).trans (ze_4 j d b),
    fun j d b => (wr_full3 _ _ _ _ j d b).trans (ze_5 j d b)⟩

theorem zero_neg (h : (i 1).val ≠ 0) : zeroS c i s = s := by
  have h' := mt (cond1 (i 1)).mp h
  unfold zeroS
  exact dif_neg h'

/-! ### Opening a row block -/

/-- A row block's statistics, and its accumulators clear. -/
structure Opened (p : ℕ) (x : Blk Ideal) (s s' : Scr Ideal c) : Prop where
  h0 : ∀ (e : Fin 2) a l, rd0 s' (ix3 e a l) = x.x7 (ix2 a ⟨64 * e.val, by omega⟩)
  h1 : ∀ (e : Fin 2) a l, rd1 s' (ix3 e a l) = ∑ d : Fin 128, if d.val / 64 = e.val then x.x8 (ix2 a d) * x.x6 (ix2 a d) else 0
  h2 : ∀ (e : Fin 2) a l, rd2 s' (ix3 e a l) = ∑ d : Fin 128, if d.val = 2 * p + e.val then x.x4 (ix2 a d) else 0
  h3 : ∀ a d, rd3 s' (ix2 a d) = 0
  h4 : ∀ e a d, rd4 s' (ix3 e a d) = 0
  h5 : rd5 s' = rd5 s
  h6 : rd6 s' = rd6 s
  h7 : rd7 s' = rd7 s

theorem init_eq {v3 : BitVec 32} (h : (Scalar.cmpi .ne (Scalar.extui (Scalar.cmpi .eq v3 0#32)) 0#32) = 1#1) : initS c i M v3 x s
    = (sc0.view.writes (Elt Ideal) sc0.view.junk (initRun.sl.HS0_2 M.a11 x.x7), sc1.view.writes (Elt Ideal) sc1.view.junk (initRun.sl.HS1_2 M.a10 M.a12 x.x6 x.x8),
      sc2.view.writes (Elt Ideal) sc2.view.junk (initRun.sl.HS2_2 i M.a8 x.x4), sc3.view.writes (Elt Ideal) sc3.view.junk initRun.sl.HS3_1,
      sc4.view.writes (Elt Ideal) sc4.view.junk initRun.sl.HS4_1, s.s5, s.s6, s.s7) := by
  unfold initS
  refine (dif_pos h).trans ?_
  unfold initRun
  dsimp only

theorem init_pos {v3 : BitVec 32} (h : (Scalar.cmpi .ne (Scalar.extui (Scalar.cmpi .eq v3 0#32)) 0#32) = 1#1) :
    Opened (i 0).val x s (initS c i M v3 x s) := by
  rw [init_eq i M x s h]
  refine ⟨fun e a l => ?_, fun e a l => ?_, fun e a l => ?_, fun a d => ?_, fun e a d => ?_, by dsimp only [rd5, Scr.s5], by dsimp only [rd6, Scr.s6], by dsimp only [rd7, Scr.s7]⟩
  · dsimp only [rd0, Scr.s0, initRun.sl.HS0_2]
    exact wr_two _ _ _ _ _ _ (fun e a l => x.x7 (ix2 a ⟨64 * e.val, by omega⟩)) (fun a l => in_lse0 _ _ a l) (fun a l => in_lse1 _ _ a l) e a l
  · dsimp only [rd1, Scr.s1, initRun.sl.HS1_2]
    exact wr_two _ _ _ _ _ _ (fun e a l => ∑ d : Fin 128, if d.val / 64 = e.val then x.x8 (ix2 a d) * x.x6 (ix2 a d) else 0)
      (fun a l => in_dl0 _ _ _ _ a l) (fun a l => in_dl1 _ _ _ _ a l) e a l
  · dsimp only [rd2, Scr.s2, initRun.sl.HS2_2]
    exact wr_two _ _ _ _ _ _ (fun e a l => ∑ d : Fin 128, if d.val = 2 * (i 0).val + e.val then x.x4 (ix2 a d) else 0)
      (fun a l => in_cq0 _ _ _ a l) (fun a l => in_cq1 _ _ _ a l) e a l
  · dsimp only [rd3, Scr.s3, initRun.sl.HS3_1]
    exact (wr_full2 _ _ _ _ a d).trans (in_dq a d)
  · dsimp only [rd4, Scr.s4, initRun.sl.HS4_1]
    exact (wr_full3 _ _ _ _ e a d).trans (in_dcq e a d)

theorem init_neg {v3 : BitVec 32} (h : ¬(Scalar.cmpi .ne (Scalar.extui (Scalar.cmpi .eq v3 0#32)) 0#32) = 1#1) : initS c i M v3 x s = s := by
  unfold initS
  exact dif_neg h

/-! ### Adding a tile -/

/-- A tile added to the accumulators, the columns' in slot `j`. -/
structure Added (T : Tile) (j : Fin 11) (s s' : Scr Ideal c) : Prop where
  h0 : rd0 s' = rd0 s
  h1 : rd1 s' = rd1 s
  h2 : rd2 s' = rd2 s
  h3 : ∀ a d, rd3 s' (ix2 a d) = rd3 s (ix2 a d) + T.dq a d
  h4 : ∀ e a d, rd4 s' (ix3 e a d) = rd4 s (ix3 e a d) + T.dcq e a
  h5 : ∀ j' d b, rd5 s' (ix3 j' d b) = if j' = j then rd5 s (ix3 j d b) + T.dk d b else rd5 s (ix3 j' d b)
  h6 : ∀ j' d b, rd6 s' (ix3 j' d b) = if j' = j then rd6 s (ix3 j d b) + T.dv d b else rd6 s (ix3 j' d b)
  h7 : ∀ j' (r : Fin 8) b, rd7 s' (ix3 j' ⟨r.val, by omega⟩ b)
    = if j' = j then rd7 s (ix3 j ⟨r.val, by omega⟩ b) + T.dck r b else rd7 s (ix3 j' ⟨r.val, by omega⟩ b)

/-- The tile of a state's statistics and a step's blocks. -/
abbrev tileOf (mask : Fin 384 → Fin 384 → Bool) : Tile := tile i x.x0 x.x1 x.x2 x.x3 x.x5 x.x8 x.x9 mask (rd0 s) (rd1 s) (rd2 s)

variable (v1 : BitVec 32) (j : Fin 11)

theorem masked_eq (v3 : BitVec 32) (hw : k0_chk1 v1 v3) (h : k0_cond3 v1 v3 = 1#1) : maskedS c i M v1 v3 hw x s
    = (s.s0, s.s1, s.s2, sc3.view.writes (Elt Ideal) sc3.view.junk (maskedRun.sl.HS3_1 c i M.a4 M.a6 M.a7 M.a9 M.a12 x.x0 x.x2 x.x3 x.x5 x.x8 s.s0 s.s1 s.s2 s.s3 v1 v3),
        sc4.view.writes (Elt Ideal) sc4.view.junk (maskedRun.sl.HS4_2 c i M.a4 M.a6 M.a7 M.a9 M.a12 x.x0 x.x2 x.x3 x.x5 x.x8 s.s0 s.s1 s.s2 s.s4 v1 v3),
        sc5.view.writes (Elt Ideal) s.s5 [⟨Rect.unit (s := S11x128x384) (k0_off2 v3) S1x128x384.size (k0_off2_inb v1 v3 hw h), maskedRun.sl.v276 c i M.a4 M.a5 M.a6 M.a7 M.a9 M.a12 x.x0 x.x1 x.x2 x.x3 x.x5 x.x8 s.s0 s.s1 s.s2 s.s5 v1 v3 hw h⟩],
        sc6.view.writes (Elt Ideal) s.s6 [⟨Rect.unit (s := S11x128x384) (k0_off2 v3) S1x128x384.size (k0_off2_inb v1 v3 hw h), maskedRun.sl.v265 c i M.a4 M.a6 M.a9 M.a13 x.x0 x.x2 x.x5 x.x9 s.s0 s.s2 s.s6 v1 v3 hw h⟩],
        sc7.view.writes (Elt Ideal) s.s7 [⟨Rect.unit (s := S11x128x384) (k0_off3 v3) S1x8x384.size (k0_off3_inb v1 v3 hw h), maskedRun.sl.v297 c i M.a4 M.a5 M.a6 M.a7 M.a9 M.a12 x.x0 x.x1 x.x2 x.x3 x.x5 x.x8 s.s0 s.s1 s.s2 s.s7 v1 v3 hw h⟩]) := by
  unfold maskedS
  refine (dif_pos h).trans ?_
  unfold maskedRun
  dsimp only

theorem masked_pos (hw : k0_chk1 v1 (BitVec.ofNat 32 j.val)) (h : k0_cond3 v1 (BitVec.ofNat 32 j.val) = 1#1) :
    Added (tileOf i x s (maskW v1 (BitVec.ofNat 32 j.val))) j s (maskedS c i M v1 (BitVec.ofNat 32 j.val) hw x s) := by
  rw [masked_eq i M x s v1 _ hw h]
  refine ⟨by dsimp only [rd0, Scr.s0], by dsimp only [rd1, Scr.s1], by dsimp only [rd2, Scr.s2], fun a d => ?_, fun e a d => ?_, fun j' d b => ?_, fun j' d b => ?_, fun j' r b => ?_⟩
  · have key := mk_pay8 (c := c) (i := i) (arg4 := M.a4) (arg6 := M.a6) (arg7 := M.a7) (arg9 := M.a9) (arg12 := M.a12) (x0 := x.x0) (x2 := x.x2) (x3 := x.x3) (x5 := x.x5) (x8 := x.x8) (a0 := s.s0) (a1 := s.s1) (a2 := s.s2) (a3 := s.s3) (v1 := v1) (v3 := (BitVec.ofNat 32 j.val)) (x1 := x.x1) (x9 := x.x9) a d
    dsimp only [rd3, Scr.s3, maskedRun.sl.HS3_1]
    exact (wr_full2 _ _ _ _ a d).trans key
  · have k0 := mk_pay9 (c := c) (i := i) (arg4 := M.a4) (arg6 := M.a6) (arg7 := M.a7) (arg9 := M.a9) (arg12 := M.a12) (x0 := x.x0) (x2 := x.x2) (x3 := x.x3) (x5 := x.x5) (x8 := x.x8) (a0 := s.s0) (a1 := s.s1) (a2 := s.s2) (a4 := s.s4) (v1 := v1) (v3 := (BitVec.ofNat 32 j.val)) (x1 := x.x1) (x9 := x.x9)
    have k1 := mk_pay10 (c := c) (i := i) (arg4 := M.a4) (arg6 := M.a6) (arg7 := M.a7) (arg9 := M.a9) (arg12 := M.a12) (x0 := x.x0) (x2 := x.x2) (x3 := x.x3) (x5 := x.x5) (x8 := x.x8) (a0 := s.s0) (a1 := s.s1) (a2 := s.s2) (a4 := s.s4) (v1 := v1) (v3 := (BitVec.ofNat 32 j.val)) (x1 := x.x1) (x9 := x.x9)
    dsimp only [rd4, Scr.s4, maskedRun.sl.HS4_2]
    refine wr_two (Val := Elt Ideal) (e := .f32) _ _ _ _ _ _ (fun e a d => rd4 s (ix3 e a d) + (tileOf i x s (maskW v1 (BitVec.ofNat 32 j.val))).dcq e a) ?_ ?_ e a d
    · exact k0
    · exact k1
  · have key := mk_v276 (c := c) (i := i) (arg4 := M.a4) (arg5 := M.a5) (arg6 := M.a6) (arg7 := M.a7) (arg9 := M.a9) (arg12 := M.a12) (x0 := x.x0) (x1 := x.x1) (x2 := x.x2) (x3 := x.x3) (x5 := x.x5) (x8 := x.x8) (a0 := s.s0) (a1 := s.s1) (a2 := s.s2) (a5 := s.s5) (v1 := v1) (v3 := (BitVec.ofNat 32 j.val)) (k0_hw1 := hw) (k0_h3 := h) (x9 := x.x9) j (off2 j) d b
    dsimp only [rd5, Scr.s5]
    refine (wr_slot _ _ j (off2 j) _ _ (le_refl 128) j' d b).trans ?_
    split_ifs with hj
    · exact key
    · rfl
  · have key := mk_v265 (c := c) (i := i) (arg4 := M.a4) (arg6 := M.a6) (arg9 := M.a9) (arg13 := M.a13) (x0 := x.x0) (x2 := x.x2) (x5 := x.x5) (x9 := x.x9) (a0 := s.s0) (a2 := s.s2) (a6 := s.s6) (v1 := v1) (v3 := (BitVec.ofNat 32 j.val)) (k0_hw1 := hw) (k0_h3 := h) (x1 := x.x1) (x3 := x.x3) (x8 := x.x8) (a1 := s.s1) j (off2 j) d b
    dsimp only [rd6, Scr.s6]
    refine (wr_slot _ _ j (off2 j) _ _ (le_refl 128) j' d b).trans ?_
    split_ifs with hj
    · exact key
    · rfl
  · have key := mk_v297 (c := c) (i := i) (arg4 := M.a4) (arg5 := M.a5) (arg6 := M.a6) (arg7 := M.a7) (arg9 := M.a9) (arg12 := M.a12) (x0 := x.x0) (x1 := x.x1) (x2 := x.x2) (x3 := x.x3) (x5 := x.x5) (x8 := x.x8) (a0 := s.s0) (a1 := s.s1) (a2 := s.s2) (a7 := s.s7) (v1 := v1) (v3 := (BitVec.ofNat 32 j.val)) (k0_hw1 := hw) (k0_h3 := h) (x9 := x.x9) j (off3 j) r b
    dsimp only [rd7, Scr.s7]
    refine (wr_slot _ _ j (off3 j) _ _ (by decide : 8 ≤ 128) j' r b).trans ?_
    split_ifs with hj
    · exact key
    · rfl

theorem masked_neg (v3 : BitVec 32) (hw : k0_chk1 v1 v3) (h : ¬k0_cond3 v1 v3 = 1#1) : maskedS c i M v1 v3 hw x s = s := by
  unfold maskedS
  exact dif_neg h

theorem plain_eq (v3 : BitVec 32) (hw : k0_chk1 v1 v3) (h : k0_cond4 v1 v3 = 1#1) : plainS c i M v1 v3 hw x s
    = (s.s0, s.s1, s.s2, sc3.view.writes (Elt Ideal) sc3.view.junk (plainRun.sl.HS3_1 c i M.a4 M.a6 M.a7 M.a9 M.a12 x.x0 x.x2 x.x3 x.x5 x.x8 s.s0 s.s1 s.s2 s.s3),
        sc4.view.writes (Elt Ideal) sc4.view.junk (plainRun.sl.HS4_2 c i M.a4 M.a6 M.a7 M.a9 M.a12 x.x0 x.x2 x.x3 x.x5 x.x8 s.s0 s.s1 s.s2 s.s4),
        sc5.view.writes (Elt Ideal) s.s5 [⟨Rect.unit (s := S11x128x384) (k0_off4 v3) S1x128x384.size (k0_off4_inb v1 v3 hw h), plainRun.sl.v243 c i M.a4 M.a5 M.a6 M.a7 M.a9 M.a12 x.x0 x.x1 x.x2 x.x3 x.x5 x.x8 s.s0 s.s1 s.s2 s.s5 v1 v3 hw h⟩],
        sc6.view.writes (Elt Ideal) s.s6 [⟨Rect.unit (s := S11x128x384) (k0_off4 v3) S1x128x384.size (k0_off4_inb v1 v3 hw h), plainRun.sl.v232 c i M.a4 M.a6 M.a9 M.a13 x.x0 x.x2 x.x5 x.x9 s.s0 s.s2 s.s6 v1 v3 hw h⟩],
        sc7.view.writes (Elt Ideal) s.s7 [⟨Rect.unit (s := S11x128x384) (k0_off5 v3) S1x8x384.size (k0_off5_inb v1 v3 hw h), plainRun.sl.v264 c i M.a4 M.a5 M.a6 M.a7 M.a9 M.a12 x.x0 x.x1 x.x2 x.x3 x.x5 x.x8 s.s0 s.s1 s.s2 s.s7 v1 v3 hw h⟩]) := by
  unfold plainS
  refine (dif_pos h).trans ?_
  unfold plainRun
  dsimp only

theorem plain_pos (hw : k0_chk1 v1 (BitVec.ofNat 32 j.val)) (h : k0_cond4 v1 (BitVec.ofNat 32 j.val) = 1#1) :
    Added (tileOf i x s (fun _ _ => true)) j s (plainS c i M v1 (BitVec.ofNat 32 j.val) hw x s) := by
  rw [plain_eq i M x s v1 _ hw h]
  refine ⟨by dsimp only [rd0, Scr.s0], by dsimp only [rd1, Scr.s1], by dsimp only [rd2, Scr.s2], fun a d => ?_, fun e a d => ?_, fun j' d b => ?_, fun j' d b => ?_, fun j' r b => ?_⟩
  · have key := pl_v272 (c := c) (i := i) (arg4 := M.a4) (arg6 := M.a6) (arg7 := M.a7) (arg9 := M.a9) (arg12 := M.a12) (x0 := x.x0) (x2 := x.x2) (x3 := x.x3) (x5 := x.x5) (x8 := x.x8) (a0 := s.s0) (a1 := s.s1) (a2 := s.s2) (a3 := s.s3) (x1 := x.x1) (x9 := x.x9) a d
    dsimp only [rd3, Scr.s3, plainRun.sl.HS3_1]
    exact (wr_full2 _ _ _ _ a d).trans key
  · have k0 := pl_v279 (c := c) (i := i) (arg4 := M.a4) (arg6 := M.a6) (arg7 := M.a7) (arg9 := M.a9) (arg12 := M.a12) (x0 := x.x0) (x2 := x.x2) (x3 := x.x3) (x5 := x.x5) (x8 := x.x8) (a0 := s.s0) (a1 := s.s1) (a2 := s.s2) (a4 := s.s4) (x1 := x.x1) (x9 := x.x9)
    have k1 := pl_v286 (c := c) (i := i) (arg4 := M.a4) (arg6 := M.a6) (arg7 := M.a7) (arg9 := M.a9) (arg12 := M.a12) (x0 := x.x0) (x2 := x.x2) (x3 := x.x3) (x5 := x.x5) (x8 := x.x8) (a0 := s.s0) (a1 := s.s1) (a2 := s.s2) (a4 := s.s4) (x1 := x.x1) (x9 := x.x9)
    dsimp only [rd4, Scr.s4, plainRun.sl.HS4_2]
    refine wr_two (Val := Elt Ideal) (e := .f32) _ _ _ _ _ _ (fun e a d => rd4 s (ix3 e a d) + (tileOf i x s (fun _ _ => true)).dcq e a) ?_ ?_ e a d
    · exact k0
    · exact k1
  · have key := pl_v243 (c := c) (i := i) (arg4 := M.a4) (arg5 := M.a5) (arg6 := M.a6) (arg7 := M.a7) (arg9 := M.a9) (arg12 := M.a12) (x0 := x.x0) (x1 := x.x1) (x2 := x.x2) (x3 := x.x3) (x5 := x.x5) (x8 := x.x8) (a0 := s.s0) (a1 := s.s1) (a2 := s.s2) (a5 := s.s5) (v1 := v1) (v3 := (BitVec.ofNat 32 j.val)) (k0_hw1 := hw) (k0_h4 := h) (x9 := x.x9) j (off4 j) d b
    dsimp only [rd5, Scr.s5]
    refine (wr_slot _ _ j (off4 j) _ _ (le_refl 128) j' d b).trans ?_
    split_ifs with hj
    · exact key
    · rfl
  · have key := pl_v232 (c := c) (i := i) (arg4 := M.a4) (arg6 := M.a6) (arg9 := M.a9) (arg13 := M.a13) (x0 := x.x0) (x2 := x.x2) (x5 := x.x5) (x9 := x.x9) (a0 := s.s0) (a2 := s.s2) (a6 := s.s6) (v1 := v1) (v3 := (BitVec.ofNat 32 j.val)) (k0_hw1 := hw) (k0_h4 := h) (x1 := x.x1) (x3 := x.x3) (x8 := x.x8) (a1 := s.s1) j (off4 j) d b
    dsimp only [rd6, Scr.s6]
    refine (wr_slot _ _ j (off4 j) _ _ (le_refl 128) j' d b).trans ?_
    split_ifs with hj
    · exact key
    · rfl
  · have key := pl_v264 (c := c) (i := i) (arg4 := M.a4) (arg5 := M.a5) (arg6 := M.a6) (arg7 := M.a7) (arg9 := M.a9) (arg12 := M.a12) (x0 := x.x0) (x1 := x.x1) (x2 := x.x2) (x3 := x.x3) (x5 := x.x5) (x8 := x.x8) (a0 := s.s0) (a1 := s.s1) (a2 := s.s2) (a7 := s.s7) (v1 := v1) (v3 := (BitVec.ofNat 32 j.val)) (k0_hw1 := hw) (k0_h4 := h) (x9 := x.x9) j (off5 j) r b
    dsimp only [rd7, Scr.s7]
    refine (wr_slot _ _ j (off5 j) _ _ (by decide : 8 ≤ 128) j' r b).trans ?_
    split_ifs with hj
    · exact key
    · rfl

theorem plain_neg (v3 : BitVec 32) (hw : k0_chk1 v1 v3) (h : ¬k0_cond4 v1 v3 = 1#1) : plainS c i M v1 v3 hw x s = s := by
  unfold plainS
  exact dif_neg h

/-! ### The mask -/

theorem place_word (j : Fin 11) (b : Fin 384) :
    IntOp.addi (Scalar.muli (BitVec.ofNat 32 j.val) 384#32) (BitVec.ofNat 32 b.val) = BitVec.ofNat 32 (384 * j.val + b.val) := by
  apply BitVec.eq_of_toNat_eq
  simp [IntOp.addi, Scalar.muli, IntOp.muli, BitVec.toNat_add, BitVec.toNat_mul]
  omega

theorem place_int (j : Fin 11) (b : Fin 384) : (BitVec.ofNat 32 (384 * j.val + b.val)).toInt = ((384 * j.val + b.val : ℕ) : ℤ) := by
  have h : (BitVec.ofNat 32 (384 * j.val + b.val)).toNat = 384 * j.val + b.val := by
    rw [BitVec.toNat_ofNat, Nat.mod_eq_of_lt (by omega)]
  rw [BitVec.toInt_eq_toNat_of_lt (by rw [h]; omega), h]

theorem both (u w : BitVec 1) : IntOp.andi u w = 1#1 ↔ u = 1#1 ∧ w = 1#1 := by
  revert u w; decide

theorem maskW_eq (q : Fin 11) (a b : Fin 384) : maskW (BitVec.ofNat 32 q.val) (BitVec.ofNat 32 j.val) a b = sees (row q a) (row j b) := by
  unfold maskW sees row
  refine decide_eq_decide.mpr ?_
  pointwise [maskedRun.sl.v45, maskedRun.sl.v46, maskedRun.sl.v47, maskedRun.sl.v48, maskedRun.sl.v49, maskedRun.sl.v50, maskedRun.sl.v51, maskedRun.sl.v52, maskedRun.sl.v53, maskedRun.sl.v54, maskedRun.sl.v55, maskedRun.sl.v56, maskedRun.sl.v57, maskedRun.sl.v58, maskedRun.sl.v59]
  rw [both, place_word, place_word, IntOp.cmpi_sle, IntOp.cmpi_sge, place_int, place_int, show (112#32 : BitVec 32).toInt = 112 from by decide]
  omega

end Cert.Fox
end
-- ==== Proof.FoxWin.lean ====
/- The blocks a step is handed, as tiles of the call's operands. -/
module

public import proofs.«01_k».proof.Proof.FoxData
public import proofs.«01_k».proof.Proof.FoxWhole

@[expose] public section

set_option maxRecDepth 16384

noncomputable section

namespace Cert.Fox

open Cert.FoxBwdIdeal Cert.FoxBwdIdeal.Gen
open Idealize.ShloMosaic Idealize.ShloMosaic.Pipeline
open Idealize.ShloMosaic.TcCoe Idealize.ShloMosaic.Tactic

variable (m : (ℓ : Loc nD τ sig) → Buf (Elt Ideal) ℓ) (c : Dev nD) (t : Fin (cfg (F := Ideal)).N)

/-- A point's pair, row block and column block. -/
abbrev ip (i : grid0.Coords) : Fin 4 := i 0
abbrev iq (i : grid0.Coords) : Fin 11 := ⟨qi (i 1), qi_lt _⟩
abbrev ik (i : grid0.Coords) : Fin 11 := ⟨kj (i 1), kj_lt _⟩
abbrev pt : grid0.Coords := (cfg (F := Ideal)).grid.coords t

/-- The call's operands. -/
def whole : Whole := ⟨V m c main_v53, V m c main_v58, V m c main_v55, V m c main_v57, V m c main_v59, V m c main_v60, V m c main_v61,
  V m c main_v48, V m c main_v49, V m c main_v63⟩

theorem x0_at (a : Fin 384) (d : Fin 128) : (blk m c t).x0 (ix2 a d) = V m c main_v53 (ix2 (row (iq (pt t)) a) (pl (ip (pt t)) d)) := by
  refine congrArg (V m c main_v53) (funext fun x => Fin.ext ?_)
  have h := tr0 (F := Ideal) (pt t)
  fin_cases x
  · show cc0_transform_0 k0_off1_inb numel1_S1 (pfT (F := Ideal)) (pt t) 0 * 384 + 1 * a.val = 384 * qi (pt t 1) + a.val
    rw [h]
    show qi (pt t 1) * 384 + 1 * a.val = _
    omega
  · show cc0_transform_0 k0_off1_inb numel1_S1 (pfT (F := Ideal)) (pt t) 1 * 128 + 1 * d.val = 128 * (pt t 0).val + d.val
    rw [h]
    show (pt t 0).val * 128 + 1 * d.val = _
    omega

theorem x1_at (d : Fin 128) (a : Fin 384) : (blk m c t).x1 (ix2 d a) = V m c main_v58 (ix2 (pl (ip (pt t)) d) (row (iq (pt t)) a)) := by
  refine congrArg (V m c main_v58) (funext fun x => Fin.ext ?_)
  have h := tr1 (F := Ideal) (pt t)
  fin_cases x
  · show cc0_transform_1 k0_off1_inb numel1_S1 (pfT (F := Ideal)) (pt t) 0 * 128 + 1 * d.val = 128 * (pt t 0).val + d.val
    rw [h]
    show (pt t 0).val * 128 + 1 * d.val = _
    omega
  · show cc0_transform_1 k0_off1_inb numel1_S1 (pfT (F := Ideal)) (pt t) 1 * 384 + 1 * a.val = 384 * qi (pt t 1) + a.val
    rw [h]
    show qi (pt t 1) * 384 + 1 * a.val = _
    omega

theorem x2_at (a : Fin 384) (d : Fin 128) : (blk m c t).x2 (ix2 a d) = V m c main_v55 (ix2 (row (ik (pt t)) a) (pl (ip (pt t)) d)) := by
  refine congrArg (V m c main_v55) (funext fun x => Fin.ext ?_)
  have h := tr2 (F := Ideal) (pt t)
  fin_cases x
  · show cc0_transform_2 k0_off1_inb numel1_S1 (pfT (F := Ideal)) (pt t) 0 * 384 + 1 * a.val = 384 * kj (pt t 1) + a.val
    rw [h]
    show kj (pt t 1) * 384 + 1 * a.val = _
    omega
  · show cc0_transform_2 k0_off1_inb numel1_S1 (pfT (F := Ideal)) (pt t) 1 * 128 + 1 * d.val = 128 * (pt t 0).val + d.val
    rw [h]
    show (pt t 0).val * 128 + 1 * d.val = _
    omega

theorem x3_at (a : Fin 384) (d : Fin 128) : (blk m c t).x3 (ix2 a d) = V m c main_v57 (ix2 (row (ik (pt t)) a) (pl (ip (pt t)) d)) := by
  refine congrArg (V m c main_v57) (funext fun x => Fin.ext ?_)
  have h := tr3 (F := Ideal) (pt t)
  fin_cases x
  · show cc0_transform_3 k0_off1_inb numel1_S1 (pfT (F := Ideal)) (pt t) 0 * 384 + 1 * a.val = 384 * kj (pt t 1) + a.val
    rw [h]
    show kj (pt t 1) * 384 + 1 * a.val = _
    omega
  · show cc0_transform_3 k0_off1_inb numel1_S1 (pfT (F := Ideal)) (pt t) 1 * 128 + 1 * d.val = 128 * (pt t 0).val + d.val
    rw [h]
    show (pt t 0).val * 128 + 1 * d.val = _
    omega

theorem x4_at (a : Fin 384) (d : Fin 128) : (blk m c t).x4 (ix2 a d) = V m c main_v59 (ix2 (row (iq (pt t)) a) (d)) := by
  refine congrArg (V m c main_v59) (funext fun x => Fin.ext ?_)
  have h := tr4 (F := Ideal) (pt t)
  fin_cases x
  · show cc0_transform_4 k0_off1_inb numel1_S1 (pfT (F := Ideal)) (pt t) 0 * 384 + 1 * a.val = 384 * qi (pt t 1) + a.val
    rw [h]
    show qi (pt t 1) * 384 + 1 * a.val = _
    omega
  · show cc0_transform_4 k0_off1_inb numel1_S1 (pfT (F := Ideal)) (pt t) 1 * 128 + 1 * d.val = d.val
    rw [h]
    show 0 * 128 + 1 * d.val = _
    omega

theorem x5_at (r : Fin 8) (a : Fin 384) : (blk m c t).x5 (ix2 r a) = V m c main_v60 (ix2 (r) (row (ik (pt t)) a)) := by
  refine congrArg (V m c main_v60) (funext fun x => Fin.ext ?_)
  have h := tr5 (F := Ideal) (pt t)
  fin_cases x
  · show cc0_transform_5 k0_off1_inb numel1_S1 (pfT (F := Ideal)) (pt t) 0 * 8 + 1 * r.val = r.val
    rw [h]
    show 0 * 8 + 1 * r.val = _
    omega
  · show cc0_transform_5 k0_off1_inb numel1_S1 (pfT (F := Ideal)) (pt t) 1 * 384 + 1 * a.val = 384 * kj (pt t 1) + a.val
    rw [h]
    show kj (pt t 1) * 384 + 1 * a.val = _
    omega

theorem x6_at (a : Fin 384) (d : Fin 128) : (blk m c t).x6 (ix2 a d) = V m c main_v61 (ix2 (row (iq (pt t)) a) (pl (ip (pt t)) d)) := by
  refine congrArg (V m c main_v61) (funext fun x => Fin.ext ?_)
  have h := tr6 (F := Ideal) (pt t)
  fin_cases x
  · show cc0_transform_6 k0_off1_inb numel1_S1 (pfT (F := Ideal)) (pt t) 0 * 384 + 1 * a.val = 384 * qi (pt t 1) + a.val
    rw [h]
    show qi (pt t 1) * 384 + 1 * a.val = _
    omega
  · show cc0_transform_6 k0_off1_inb numel1_S1 (pfT (F := Ideal)) (pt t) 1 * 128 + 1 * d.val = 128 * (pt t 0).val + d.val
    rw [h]
    show (pt t 0).val * 128 + 1 * d.val = _
    omega

theorem x7_at (a : Fin 384) (d : Fin 128) : (blk m c t).x7 (ix2 a d) = V m c main_v48 (ix2 (row (iq (pt t)) a) (pl (ip (pt t)) d)) := by
  refine congrArg (V m c main_v48) (funext fun x => Fin.ext ?_)
  have h := tr7 (F := Ideal) (pt t)
  fin_cases x
  · show cc0_transform_7 k0_off1_inb numel1_S1 (pfT (F := Ideal)) (pt t) 0 * 384 + 1 * a.val = 384 * qi (pt t 1) + a.val
    rw [h]
    show qi (pt t 1) * 384 + 1 * a.val = _
    omega
  · show cc0_transform_7 k0_off1_inb numel1_S1 (pfT (F := Ideal)) (pt t) 1 * 128 + 1 * d.val = 128 * (pt t 0).val + d.val
    rw [h]
    show (pt t 0).val * 128 + 1 * d.val = _
    omega

theorem x8_at (a : Fin 384) (d : Fin 128) : (blk m c t).x8 (ix2 a d) = V m c main_v49 (ix2 (row (iq (pt t)) a) (pl (ip (pt t)) d)) := by
  refine congrArg (V m c main_v49) (funext fun x => Fin.ext ?_)
  have h := tr8 (F := Ideal) (pt t)
  fin_cases x
  · show cc0_transform_8 k0_off1_inb numel1_S1 (pfT (F := Ideal)) (pt t) 0 * 384 + 1 * a.val = 384 * qi (pt t 1) + a.val
    rw [h]
    show qi (pt t 1) * 384 + 1 * a.val = _
    omega
  · show cc0_transform_8 k0_off1_inb numel1_S1 (pfT (F := Ideal)) (pt t) 1 * 128 + 1 * d.val = 128 * (pt t 0).val + d.val
    rw [h]
    show (pt t 0).val * 128 + 1 * d.val = _
    omega

theorem x9_at (d : Fin 128) (a : Fin 384) : (blk m c t).x9 (ix2 d a) = V m c main_v63 (ix2 (pl (ip (pt t)) d) (row (iq (pt t)) a)) := by
  refine congrArg (V m c main_v63) (funext fun x => Fin.ext ?_)
  have h := tr9 (F := Ideal) (pt t)
  fin_cases x
  · show cc0_transform_9 k0_off1_inb numel1_S1 (pfT (F := Ideal)) (pt t) 0 * 128 + 1 * d.val = 128 * (pt t 0).val + d.val
    rw [h]
    show (pt t 0).val * 128 + 1 * d.val = _
    omega
  · show cc0_transform_9 k0_off1_inb numel1_S1 (pfT (F := Ideal)) (pt t) 1 * 384 + 1 * a.val = 384 * qi (pt t 1) + a.val
    rw [h]
    show qi (pt t 1) * 384 + 1 * a.val = _
    omega

end Cert.Fox
end
-- ==== Proof.FoxInv.lean ====
/- The sums the scratch buffers hold along a pair's steps. -/
module

public import proofs.«01_k».proof.Proof.FoxNext
public import proofs.«01_k».proof.Proof.FoxWin

@[expose] public section

set_option maxRecDepth 16384
set_option synthInstance.maxSize 4096

noncomputable section

namespace Cert.Fox

open Cert.FoxBwdIdeal Cert.FoxBwdIdeal.Gen
open Idealize.ShloMosaic
open Idealize.ShloMosaic.TcCoe Idealize.ShloMosaic.Tactic

/-! ### Partial sums -/

theorem upto_succ {N : ℕ} (n : Fin N) (P : Fin N → Prop) [DecidablePred P] (f : Fin N → EReal) :
    (∑ k : Fin N, if k.val < n.val + 1 ∧ P k then f k else 0)
      = (∑ k : Fin N, if k.val < n.val ∧ P k then f k else 0) + if P n then f n else 0 := by
  have e : ∀ k : Fin N, (if k.val < n.val + 1 ∧ P k then f k else 0)
      = (if k.val < n.val ∧ P k then f k else 0) + if k = n then (if P n then f n else 0) else 0 := fun k => by
    by_cases hk : k = n
    · subst hk; simp
    · have hk' : k.val ≠ n.val := fun h => hk (Fin.ext h)
      have : k.val < n.val + 1 ↔ k.val < n.val := by omega
      simp [hk, this]
  rw [Finset.sum_congr rfl fun k _ => e k, Finset.sum_add_distrib]
  simp

theorem upto_zero {N : ℕ} (P : Fin N → Prop) [DecidablePred P] (f : Fin N → EReal) :
    (∑ k : Fin N, if k.val < 0 ∧ P k then f k else 0) = 0 :=
  Finset.sum_eq_zero fun k _ => if_neg fun h => absurd h.1 (Nat.not_lt_zero _)

variable {c : Dev nD} (W : Whole) (p : Fin 4)

def qf (n : Fin 66) : Fin 11 := ⟨qi n, qi_lt n⟩
def kf (n : Fin 66) : Fin 11 := ⟨kj n, kj_lt n⟩

/-- The columns' accumulators after `n` steps of a pair. -/
structure Cols (n : ℕ) (s : Scr Ideal c) : Prop where
  h5 : ∀ j d b, rd5 s (ix3 j d b) = ∑ n' : Fin 66, if n'.val < n ∧ kf n' = j then (W.tile p (qf n') j).dk d b else 0
  h6 : ∀ j d b, rd6 s (ix3 j d b) = ∑ n' : Fin 66, if n'.val < n ∧ kf n' = j then (W.tile p (qf n') j).dv d b else 0
  h7 : ∀ j (r : Fin 8) b, rd7 s (ix3 j ⟨r.val, by omega⟩ b) = ∑ n' : Fin 66, if n'.val < n ∧ kf n' = j then (W.tile p (qf n') j).dck r b else 0

/-- A row block's statistics and accumulators after `k` of its column blocks. -/
structure Rows (q : Fin 11) (k : ℕ) (s : Scr Ideal c) : Prop where
  h0 : ∀ e a l, rd0 s (ix3 e a l) = W.lse (ix2 (row q a) (hl (hd p e) 0))
  h1 : ∀ e a l, rd1 s (ix3 e a l) = W.dl (hd p e) (row q a)
  h2 : ∀ e a l, rd2 s (ix3 e a l) = W.cq (ix2 (row q a) (wide (hd p e)))
  h3 : ∀ a d, rd3 s (ix2 a d) = ∑ j : Fin 11, if j.val < k ∧ True then (W.tile p q j).dq a d else 0
  h4 : ∀ e a d, rd4 s (ix3 e a d) = ∑ j : Fin 11, if j.val < k ∧ True then (W.tile p q j).dcq e a else 0

/-- A step's blocks are the operands' at its pair, row block and column block. -/
structure Blocks (q k : Fin 11) (x : Blk Ideal) : Prop where
  h0 : ∀ a d, x.x0 (ix2 a d) = W.q (ix2 (row q a) (pl p d))
  h1 : ∀ d a, x.x1 (ix2 d a) = W.qt (ix2 (pl p d) (row q a))
  h2 : ∀ a d, x.x2 (ix2 a d) = W.k (ix2 (row k a) (pl p d))
  h3 : ∀ a d, x.x3 (ix2 a d) = W.v (ix2 (row k a) (pl p d))
  h4 : ∀ a d, x.x4 (ix2 a d) = W.cq (ix2 (row q a) d)
  h5 : ∀ r a, x.x5 (ix2 r a) = W.ct (ix2 r (row k a))
  h6 : ∀ a d, x.x6 (ix2 a d) = W.o (ix2 (row q a) (pl p d))
  h7 : ∀ a d, x.x7 (ix2 a d) = W.lse (ix2 (row q a) (pl p d))
  h8 : ∀ a d, x.x8 (ix2 a d) = W.g (ix2 (row q a) (pl p d))
  h9 : ∀ d a, x.x9 (ix2 d a) = W.gt (ix2 (pl p d) (row q a))

variable {W p}
variable {i : grid0.Coords} (M : Mems) {x : Blk Ideal} {s s' : Scr Ideal c} {q k : Fin 11}

theorem Opened.rows (hb : Blocks W p q k x) (h : Opened p.val x s s') : Rows W p q 0 s' where
  h0 e a l := (h.h0 e a l).trans ((hb.h7 _ _).trans (congrArg W.lse (congrArg (ix2 (row q a)) (Fin.ext (by simp [pl, hl, hd]; omega)))))
  h1 e a l := by
    rw [h.h1, half_sum e]
    unfold Whole.dl
    refine Finset.sum_congr rfl fun x' _ => ?_
    rw [hb.h8, hb.h6, Whole.pl_half]
  h2 e a l := by
    rw [h.h2, pick_sum _ (by omega), hb.h4]
    rfl
  h3 a d := (h.h3 a d).trans (upto_zero (fun _ => True) _).symm
  h4 e a d := (h.h4 e a d).trans (upto_zero (fun _ => True) _).symm

theorem Rows.tile_eq {n : ℕ} (hb : Blocks W p q k x) (h : Rows W p q n s) (hi : i 0 = p) :
    tileOf i x s (fun a b => sees (row q a) (row k b)) = W.tile p q k := by
  unfold tileOf tile Whole.tile
  refine Tile.mk.injEq .. |>.mpr ⟨congrArg Fin.val hi, rfl, ?_, ?_, ?_, ?_, ?_, ?_, ?_, ?_, ?_, ?_⟩
  · exact funext fun y => (congrArg x.x0 (eq_ix2 y)).trans (hb.h0 _ _)
  · exact funext fun y => (congrArg x.x1 (eq_ix2 y)).trans (hb.h1 _ _)
  · exact funext fun y => (congrArg x.x2 (eq_ix2 y)).trans (hb.h2 _ _)
  · exact funext fun y => (congrArg x.x3 (eq_ix2 y)).trans (hb.h3 _ _)
  · exact funext fun y => (congrArg x.x5 (eq_ix2 y)).trans (hb.h5 _ _)
  · exact funext fun y => (congrArg x.x8 (eq_ix2 y)).trans (hb.h8 _ _)
  · exact funext fun y => (congrArg x.x9 (eq_ix2 y)).trans (hb.h9 _ _)
  · exact funext fun y => (congrArg (rd0 s) (eq_ix3 y)).trans (h.h0 _ _ _)
  · exact funext fun y => (congrArg (rd1 s) (eq_ix3 y)).trans (h.h1 _ _ _)
  · exact funext fun y => (congrArg (rd2 s) (eq_ix3 y)).trans (h.h2 _ _ _)

theorem Added.rows (h : Added (W.tile p q k) k s s') (hr : Rows W p q k.val s) : Rows W p q (k.val + 1) s' where
  h0 e a l := (congrFun h.h0 _).trans (hr.h0 e a l)
  h1 e a l := (congrFun h.h1 _).trans (hr.h1 e a l)
  h2 e a l := (congrFun h.h2 _).trans (hr.h2 e a l)
  h3 a d := by
    rw [h.h3, hr.h3]
    exact (upto_succ k (fun _ => True) (fun j => (W.tile p q j).dq a d)).symm
  h4 e a d := by
    rw [h.h4, hr.h4]
    exact (upto_succ k (fun _ => True) (fun j => (W.tile p q j).dcq e a)).symm

theorem slot_step (n : Fin 66) (f : Fin 66 → EReal) (j : Fin 11) (A B : EReal)
    (hA : A = if j = kf n then (∑ n' : Fin 66, if n'.val < n.val ∧ kf n' = kf n then f n' else 0) + f n else B)
    (hB : B = ∑ n' : Fin 66, if n'.val < n.val ∧ kf n' = j then f n' else 0) :
    A = ∑ n' : Fin 66, if n'.val < n.val + 1 ∧ kf n' = j then f n' else 0 := by
  rw [upto_succ n (fun n' => kf n' = j) f, hA]
  by_cases h : j = kf n
  · subst h; simp
  · rw [if_neg h, if_neg (fun e => h e.symm), add_zero, hB]

theorem Added.cols (n : Fin 66) (h : Added (W.tile p (qf n) (kf n)) (kf n) s s') (hc : Cols W p n.val s) : Cols W p (n.val + 1) s' where
  h5 j d b := slot_step n _ j _ _ (by
      rw [h.h5]
      by_cases hj : j = kf n
      · subst hj; rw [if_pos rfl, if_pos rfl, hc.h5]
      · rw [if_neg hj, if_neg hj]) (hc.h5 j d b)
  h6 j d b := slot_step n _ j _ _ (by
      rw [h.h6]
      by_cases hj : j = kf n
      · subst hj; rw [if_pos rfl, if_pos rfl, hc.h6]
      · rw [if_neg hj, if_neg hj]) (hc.h6 j d b)
  h7 j r b := slot_step n _ j _ _ (by
      rw [h.h7]
      by_cases hj : j = kf n
      · subst hj; rw [if_pos rfl, if_pos rfl, hc.h7]
      · rw [if_neg hj, if_neg hj]) (hc.h7 j r b)

theorem Cleared.cols (h : Cleared s s') : Cols W p 0 s' where
  h5 j d b := (h.h5 j d b).trans (upto_zero _ _).symm
  h6 j d b := (h.h6 j d b).trans (upto_zero _ _).symm
  h7 j r b := (h.h7 j _ b).trans (upto_zero _ _).symm

theorem Opened.cols {n : ℕ} {P : ℕ} (h : Opened P x s s') (hc : Cols W p n s) : Cols W p n s' where
  h5 j d b := (congrFun h.h5 _).trans (hc.h5 j d b)
  h6 j d b := (congrFun h.h6 _).trans (hc.h6 j d b)
  h7 j r b := (congrFun h.h7 _).trans (hc.h7 j r b)

/-! ### One step -/

theorem lit0_eq : ∀ n : Fin 66, lit0 n = BitVec.ofNat 32 (qf n).val := by decide +kernel
theorem lit1_eq : ∀ n : Fin 66, lit1 n = BitVec.ofNat 32 (kf n).val := by decide +kernel

theorem acc_words (v1 v3 : BitVec 32) (hv1 : v1 = BitVec.ofNat 32 q.val) (hv3 : v3 = BitVec.ofNat 32 k.val) (hk : k.val ≤ q.val)
    (c3 : k0_cond3 v1 v3 = 1#1 ↔ k.val = q.val ∨ k.val = 0) (c4 : k0_cond4 v1 v3 = 1#1 ↔ ¬(k.val = q.val ∨ k.val = 0))
    (hw : k0_chk1 v1 v3) :
    Added (tileOf i x s (fun a b => sees (row q a) (row k b))) k s (plainS c i M v1 v3 hw x (maskedS c i M v1 v3 hw x s)) := by
  subst hv1 hv3
  by_cases h : k.val = q.val ∨ k.val = 0
  · rw [plain_neg i M x _ _ _ hw (mt c4.mp (not_not.mpr h))]
    have key := masked_pos i M x s _ _ hw (c3.mpr h)
    rwa [show maskW _ _ = fun a b => sees (row q a) (row k b) from funext fun a => funext fun b => maskW_eq _ _ a b] at key
  · rw [masked_neg i M x s _ _ hw (mt c3.mp h)]
    have key := plain_pos i M x s _ _ hw (c4.mpr h)
    rwa [show (fun _ _ => true : Fin 384 → Fin 384 → Bool) = fun a b => sees (row q a) (row k b) from
      funext fun a => funext fun b => by
        unfold sees row
        symm
        rw [decide_eq_true_iff]
        simp only
        omega] at key

theorem acc_pos (hw : k0_chk1 (lit0 (i 1)) (lit1 (i 1))) :
    Added (tileOf i x s (fun a b => sees (row (qf (i 1)) a) (row (kf (i 1)) b))) (kf (i 1)) s
      (plainS c i M (lit0 (i 1)) (lit1 (i 1)) hw x (maskedS c i M (lit0 (i 1)) (lit1 (i 1)) hw x s)) :=
  acc_words M _ _ (lit0_eq (i 1)) (lit1_eq (i 1)) (kj_le (i 1)) (cond3 (i 1)) (cond4 (i 1)) hw

/-- What a step relies on. -/
def Before (W : Whole) (i : grid0.Coords) (s : Scr Ideal c) : Prop :=
  ((i 1).val ≠ 0 → Cols W (i 0) (i 1).val s) ∧ (kj (i 1) ≠ 0 → Rows W (i 0) (qf (i 1)) (kj (i 1)) s)

theorem step_all (hw : k0_chk1 (lit0 (i 1)) (lit1 (i 1))) (hb : Blocks W (i 0) (qf (i 1)) (kf (i 1)) x) (h : Before W i s) :
    Cols W (i 0) ((i 1).val + 1) (nextS c i M (lit0 (i 1)) (lit1 (i 1)) hw x s)
      ∧ Rows W (i 0) (qf (i 1)) (kj (i 1) + 1) (nextS c i M (lit0 (i 1)) (lit1 (i 1)) hw x s) := by
  have c2 := cond2 (i 1)
  have k0 : ∀ n : Fin 66, n.val = 0 → kj n = 0 := by decide +kernel
  have hz : Cols W (i 0) (i 1).val (zeroS c i s) := by
    by_cases h0 : (i 1).val = 0
    · rw [h0]; exact (zero_pos i s h0).cols
    · rw [zero_neg i s h0]; exact h.1 h0
  have hr : Cols W (i 0) (i 1).val (initS c i M (lit1 (i 1)) x (zeroS c i s))
      ∧ Rows W (i 0) (qf (i 1)) (kj (i 1)) (initS c i M (lit1 (i 1)) x (zeroS c i s)) := by
    by_cases hk : kj (i 1) = 0
    · have ho := init_pos i M x (zeroS c i s) (c2.mpr hk)
      refine ⟨ho.cols hz, ?_⟩
      rw [hk]
      exact ho.rows hb
    · rw [init_neg i M x _ (mt c2.mp hk)]
      refine ⟨hz, ?_⟩
      rw [zero_neg i s (mt (k0 _) hk)]
      exact h.2 hk
  have key := acc_pos (i := i) (x := x) (s := initS c i M (lit1 (i 1)) x (zeroS c i s)) M hw
  rw [hr.2.tile_eq hb rfl] at key
  exact ⟨key.cols _ hr.1, key.rows hr.2⟩

end Cert.Fox
end
-- ==== Proof.FoxOuts.lean ====
/- What a step leaves in the output blocks. -/
module

public import proofs.«01_k».proof.Proof.FoxNext

@[expose] public section

set_option maxRecDepth 16384
set_option synthInstance.maxSize 4096

noncomputable section

namespace Cert.Fox

open Cert.FoxBwdIdeal Cert.FoxBwdIdeal.Gen
open Idealize.ShloMosaic
open Idealize.ShloMosaic.TcCoe Idealize.ShloMosaic.Tactic

variable {c : Dev nD} (i : grid0.Coords) (M : Mems) (v1 v3 : BitVec 32) (f : Outs Ideal c M) (s : Scr Ideal c)

theorem out_eq (h : k0_cond5 v1 v3 = 1#1) : outS c M v1 v3 f s
    = (M.a14.view.writes (Elt Ideal) M.a14.view.junk (outRun.sl.HO14_1 c s.s3), M.a15.view.writes (Elt Ideal) M.a15.view.junk (outRun.sl.HO15_1 c s.s4),
      f.f16, f.f17, f.f18) := by
  unfold outS
  refine (dif_pos h).trans ?_
  unfold outRun
  dsimp only

theorem fin_eq (h : k0_cond6 i = 1#1) : finS c i M f s
    = (f.f14, f.f15, M.a16.view.writes (Elt Ideal) M.a16.view.junk (finRun.sl.HO16_11 c s.s5), M.a17.view.writes (Elt Ideal) M.a17.view.junk (finRun.sl.HO17_11 c s.s6),
      M.a18.view.writes (Elt Ideal) M.a18.view.junk (finRun.sl.HO18_11 c s.s7)) := by
  unfold finS
  refine (dif_pos h).trans ?_
  unfold finRun
  dsimp only

theorem fin_14 : (finS c i M f s).f14 = f.f14 := by
  by_cases h : k0_cond6 i = 1#1
  · rw [fin_eq i M f s h]; dsimp only [Outs.f14]
  · rw [show finS c i M f s = f from by unfold finS; exact dif_neg h]

theorem fin_15 : (finS c i M f s).f15 = f.f15 := by
  by_cases h : k0_cond6 i = 1#1
  · rw [fin_eq i M f s h]; dsimp only [Outs.f15]
  · rw [show finS c i M f s = f from by unfold finS; exact dif_neg h]

theorem out_r14 (h : k0_cond5 v1 v3 = 1#1) (a : Fin 384) (d : Fin 128) :
    M.a14.view.read (Elt Ideal) (outS c M v1 v3 f s).f14 (ix2 a d) = rd3 s (ix2 a d) := by
  rw [out_eq M v1 v3 f s h]
  dsimp only [Outs.f14, outRun.sl.HO14_1]
  exact (wr_full2 _ _ _ _ a d).trans (ld_full _ _ _ a d)

theorem out_r15 (h : k0_cond5 v1 v3 = 1#1) (a : Fin 384) (d : Fin 128) :
    M.a15.view.read (Elt Ideal) (outS c M v1 v3 f s).f15 (ix2 a d) = if d.val / 64 = 0 then rd4 s (ix3 0 a d) else rd4 s (ix3 1 a d) := by
  rw [out_eq M v1 v3 f s h]
  dsimp only [Outs.f15, outRun.sl.HO15_1]
  exact (wr_full2 _ _ _ _ a d).trans (out_dcq c s.s4 a d)

theorem fin_r16 (h : k0_cond6 i = 1#1) (r : Fin 4224) (d : Fin 128) : M.a16.view.read (Elt Ideal) (finS c i M f s).f16 (ix2 r d)
    = rd5 s (ix3 ⟨r.val / 384, by omega⟩ d ⟨r.val % 384, Nat.mod_lt _ (by decide)⟩) := by
  rw [fin_eq i M f s h]
  dsimp only [Outs.f16]
  exact (congrFun (View.read_writes_junk_eq_canon _ _) _).trans (fin_16 c s.s5 r d)

theorem fin_r17 (h : k0_cond6 i = 1#1) (r : Fin 4224) (d : Fin 128) : M.a17.view.read (Elt Ideal) (finS c i M f s).f17 (ix2 r d)
    = rd6 s (ix3 ⟨r.val / 384, by omega⟩ d ⟨r.val % 384, Nat.mod_lt _ (by decide)⟩) := by
  rw [fin_eq i M f s h]
  dsimp only [Outs.f17]
  exact (congrFun (View.read_writes_junk_eq_canon _ _) _).trans (fin_17 c s.s6 r d)

theorem fin_r18 (h : k0_cond6 i = 1#1) (r : Fin 4224) (d : Fin 128) : M.a18.view.read (Elt Ideal) (finS c i M f s).f18 (ix2 r d)
    = rd7 s (ix3 ⟨r.val / 384, by omega⟩ ⟨d.val / 64, by omega⟩ ⟨r.val % 384, Nat.mod_lt _ (by decide)⟩) := by
  rw [fin_eq i M f s h]
  dsimp only [Outs.f18]
  exact (congrFun (View.read_writes_junk_eq_canon _ _) _).trans (fin_18 c s.s7 r d)

end Cert.Fox
end
-- ==== Proof.FoxValue.lean ====
/- What the attention's backward call leaves in its five results. -/
module

public import proofs.«01_k».proof.Proof.FoxInv
public import proofs.«01_k».proof.Proof.FoxOuts
public import proofs.«01_k».proof.Proof.FoxLaunch
public import Idealize.ShloMosaic.Lib.Pipeline.ArrRel

@[expose] public section

set_option maxRecDepth 16384
set_option synthInstance.maxSize 4096

noncomputable section

namespace Cert.Fox

open Cert.FoxBwdIdeal Cert.FoxBwdIdeal.Gen
open Idealize.ShloMosaic Idealize.ShloMosaic.Pipeline
open Idealize.ShloMosaic.TcCoe Idealize.ShloMosaic.Tactic

/-! ### The whole sums -/

/-- The head a lane belongs to. -/
def hof (D : Fin 512) : Fin 8 := ⟨D.val / 64, by omega⟩
theorem hof_pl (p : Fin 4) (d : Fin 128) : hd p (Whole.side d) = hof (pl p d) := Fin.ext (by simp only [hd, Whole.side, hof, pl]; omega)

namespace Whole
variable (W : Whole)
def DQ (r : Fin 4224) (D : Fin 512) : EReal := ∑ s : Fin 4224, W.ds (hof D) r s * W.k (ix2 s D)
def DCQ (r : Fin 4224) (D : Fin 512) : EReal := ∑ s : Fin 4224, W.ds (hof D) r s
def DK (s : Fin 4224) (D : Fin 512) : EReal := ∑ r : Fin 4224, W.qt (ix2 D r) * W.ds (hof D) r s
def DV (s : Fin 4224) (D : Fin 512) : EReal := ∑ r : Fin 4224, W.gt (ix2 D r) * W.pr (hof D) r s
def DCK (s : Fin 4224) (D : Fin 512) : EReal := ∑ r : Fin 4224, W.ds (hof D) r s
end Whole

variable {c : Dev nD} {W : Whole} {p : Fin 4} {q : Fin 11} {s : Scr Ideal c}

/-- A sum over the column blocks up to the row's own is over every column, where the ones after it count nothing. -/
theorem sum_left (q : Fin 11) (F : Fin 4224 → EReal) (G : Fin 11 → EReal) (hG : ∀ j, G j = ∑ b : Fin 384, F (row j b))
    (h0 : ∀ j b, q < j → F (row j b) = 0) : (∑ j : Fin 11, if j.val < q.val + 1 ∧ True then G j else 0) = ∑ s, F s := by
  rw [← rows_sum F]
  refine Finset.sum_congr rfl fun j _ => ?_
  by_cases h : j.val < q.val + 1
  · rw [if_pos ⟨h, trivial⟩, hG]
  · rw [if_neg fun h' => h h'.1]
    exact (Finset.sum_eq_zero fun b _ => h0 j b (show q.val < j.val by omega)).symm

/-- The step of a row block and a column block. -/
def at' (i j : Fin 11) : Fin 66 := ⟨(i.val * (i.val + 1) / 2 + j.val) % 66, Nat.mod_lt _ (by decide)⟩

theorem sum_down (j : Fin 11) (F : Fin 4224 → EReal) (G : Fin 11 → EReal) (hG : ∀ i, G i = ∑ a : Fin 384, F (row i a))
    (h0 : ∀ i a, i < j → F (row i a) = 0) : (∑ n : Fin 66, if n.val < 66 ∧ kf n = j then G (qf n) else 0) = ∑ r, F r := by
  have hz : ∀ i, i < j → G i = 0 := fun i h => (hG i).trans (Finset.sum_eq_zero fun a _ => h0 i a h)
  rw [← rows_sum F, ← Finset.sum_congr rfl fun i _ => hG i]
  rw [Finset.sum_congr rfl fun (n : Fin 66) _ => show (if n.val < 66 ∧ kf n = j then G (qf n) else 0) = if kf n = j then G (qf n) else 0 from
    if_congr ⟨fun h => h.2, fun h => ⟨n.isLt, h⟩⟩ rfl rfl]
  rw [← Finset.sum_filter]
  have e : (∑ i : Fin 11, G i) = ∑ i ∈ Finset.univ.filter (fun i : Fin 11 => j ≤ i), G i := by
    rw [Finset.sum_filter]
    refine Finset.sum_congr rfl fun i _ => ?_
    by_cases h : j ≤ i
    · rw [if_pos h]
    · rw [if_neg h, hz i (not_le.mp h)]
  rw [e]
  have k1 : ∀ n : Fin 66, kf n ≤ qf n ∧ at' (qf n) (kf n) = n := by decide +kernel
  have k2 : ∀ i j : Fin 11, j ≤ i → kf (at' i j) = j ∧ qf (at' i j) = i := by decide +kernel
  refine Finset.sum_bij' (fun n _ => qf n) (fun i _ => at' i j) ?_ ?_ ?_ ?_ ?_
  · intro n hn
    have h := (Finset.mem_filter.mp hn).2
    exact Finset.mem_filter.mpr ⟨Finset.mem_univ _, h ▸ (k1 n).1⟩
  · intro i hi
    exact Finset.mem_filter.mpr ⟨Finset.mem_univ _, (k2 i j (Finset.mem_filter.mp hi).2).1⟩
  · intro n hn
    have h := (Finset.mem_filter.mp hn).2
    subst h
    exact (k1 n).2
  · intro i hi
    exact (k2 i j (Finset.mem_filter.mp hi).2).2
  · intro n _; rfl

theorem Rows.dq (h : Rows W p q (q.val + 1) s) (a : Fin 384) (d : Fin 128) : rd3 s (ix2 a d) = W.DQ (row q a) (pl p d) := by
  rw [h.h3]
  unfold Whole.DQ
  rw [← hof_pl]
  exact sum_left q (fun s => W.ds (hd p (Whole.side d)) (row q a) s * W.k (ix2 s (pl p d))) _ (fun j => W.tile_dq p q j a d)
    (fun j b hj => by rw [W.ds_unseen (Whole.sees_right _ _ _ _ hj), zero_mul])

theorem Rows.dcq (h : Rows W p q (q.val + 1) s) (a : Fin 384) (d : Fin 128) (l : Fin 128) :
    rd4 s (ix3 (Whole.side d) a l) = W.DCQ (row q a) (pl p d) := by
  rw [h.h4]
  unfold Whole.DCQ
  rw [← hof_pl]
  exact sum_left q (fun s => W.ds (hd p (Whole.side d)) (row q a) s) _ (fun j => W.tile_dcq p q j (Whole.side d) a)
    (fun j b hj => by rw [W.ds_unseen (Whole.sees_right _ _ _ _ hj)])

theorem Cols.dk (h : Cols W p 66 s) (j : Fin 11) (d : Fin 128) (b : Fin 384) : rd5 s (ix3 j d b) = W.DK (row j b) (pl p d) := by
  rw [h.h5]
  unfold Whole.DK
  rw [← hof_pl]
  exact sum_down j (fun r => W.qt (ix2 (pl p d) r) * W.ds (hd p (Whole.side d)) r (row j b)) (fun i => (W.tile p i j).dk d b)
    (fun i => W.tile_dk p i j b d) (fun i a hi => by rw [W.ds_unseen (Whole.sees_right _ _ _ _ hi), mul_zero])

theorem Cols.dv (h : Cols W p 66 s) (j : Fin 11) (d : Fin 128) (b : Fin 384) : rd6 s (ix3 j d b) = W.DV (row j b) (pl p d) := by
  rw [h.h6]
  unfold Whole.DV
  rw [← hof_pl]
  exact sum_down j (fun r => W.gt (ix2 (pl p d) r) * W.pr (hd p (Whole.side d)) r (row j b)) (fun i => (W.tile p i j).dv d b)
    (fun i => W.tile_dv p i j b d) (fun i a hi => by rw [W.pr_unseen (Whole.sees_right _ _ _ _ hi), mul_zero])

theorem Cols.dck (h : Cols W p 66 s) (j : Fin 11) (d : Fin 128) (b : Fin 384) :
    rd7 s (ix3 j ⟨d.val / 64, by omega⟩ b) = W.DCK (row j b) (pl p d) := by
  refine (h.h7 j ⟨d.val / 64, by omega⟩ b).trans ?_
  unfold Whole.DCK
  rw [← hof_pl]
  exact sum_down j (fun r => W.ds (hd p (Whole.side d)) r (row j b)) (fun i => (W.tile p i j).dck ⟨d.val / 64, by omega⟩ b)
    (fun i => W.tile_dck p i j b d) (fun i a hi => by rw [W.ds_unseen (Whole.sees_right _ _ _ _ hi)])

/-! ### The steps of the call -/

theorem Cols.of_eq {p' : Fin 4} {n n' : ℕ} (hp : p = p') (hn : n = n') (h : Cols W p n s) : Cols W p' n' s := by subst hp hn; exact h
theorem Rows.of_eq {p' : Fin 4} {q' : Fin 11} {n n' : ℕ} (hp : p = p') (hq : q = q') (hn : n = n') (h : Rows W p q n s) : Rows W p' q' n' s := by
  subst hp hq hn; exact h

theorem step_words {i : grid0.Coords} (M : Mems) {x : Blk Ideal} (v1 v3 : BitVec 32) (h1 : v1 = lit0 (i 1)) (h3 : v3 = lit1 (i 1))
    (hw : k0_chk1 v1 v3) (hb : Blocks W (i 0) (qf (i 1)) (kf (i 1)) x) (h : Before W i s) :
    Cols W (i 0) ((i 1).val + 1) (nextS c i M v1 v3 hw x s) ∧ Rows W (i 0) (qf (i 1)) (kj (i 1) + 1) (nextS c i M v1 v3 hw x s) := by
  subst h1 h3
  exact step_all M hw hb h

variable (m : (ℓ : Loc nD τ sig) → Buf (Elt Ideal) ℓ)

set_option maxHeartbeats 1000000 in
theorem blocks (c : Dev nD) (t : Fin (cfg (F := Ideal)).N) : Blocks (whole m c) (pt t 0) (qf (pt t 1)) (kf (pt t 1)) (blk m c t) where
  h0 := x0_at m c t
  h1 := x1_at m c t
  h2 := x2_at m c t
  h3 := x3_at m c t
  h4 := x4_at m c t
  h5 := x5_at m c t
  h6 := x6_at m c t
  h7 := x7_at m c t
  h8 := x8_at m c t
  h9 := x9_at m c t

/-- What is known before and after each step. -/
def spec : Spec Ideal where
  Inv c n s := ∀ t : Fin (cfg (F := Ideal)).N, t.val = n → Before (whole m c) (pt t) s
  R10 c t X := kj (pt t 1) = qi (pt t 1) → ∀ a d, X (ix2 a d) = (whole m c).DQ (row (qf (pt t 1)) a) (pl (pt t 0) d)
  R11 c t X := kj (pt t 1) = qi (pt t 1) → ∀ a d, X (ix2 a d) = (whole m c).DCQ (row (qf (pt t 1)) a) (pl (pt t 0) d)
  R12 c t X := (pt t 1).val = 65 → ∀ r d, X (ix2 r d) = (whole m c).DK r (pl (pt t 0) d)
  R13 c t X := (pt t 1).val = 65 → ∀ r d, X (ix2 r d) = (whole m c).DV r (pl (pt t 0) d)
  R14 c t X := (pt t 1).val = 65 → ∀ r d, X (ix2 r d) = (whole m c).DCK r (pl (pt t 0) d)

theorem first_pt : ∀ t : Fin (cfg (F := Ideal)).N, t.val = 0 → (pt t 1).val = 0 ∧ kj (pt t 1) = 0 := by decide +kernel
theorem next_pt : ∀ t : Fin (cfg (F := Ideal)).N, ∀ h : t.val + 1 < (cfg (F := Ideal)).N,
    ((pt ⟨t.val + 1, h⟩ 1).val ≠ 0 → (pt t 0).val = (pt ⟨t.val + 1, h⟩ 0).val ∧ (pt t 1).val + 1 = (pt ⟨t.val + 1, h⟩ 1).val)
      ∧ (kj (pt ⟨t.val + 1, h⟩ 1) ≠ 0 → (pt t 0).val = (pt ⟨t.val + 1, h⟩ 0).val ∧ qi (pt t 1) = qi (pt ⟨t.val + 1, h⟩ 1)
        ∧ kj (pt t 1) + 1 = kj (pt ⟨t.val + 1, h⟩ 1)) := by decide +kernel

theorem row_split (r : Fin 4224) : row ⟨r.val / 384, by omega⟩ ⟨r.val % 384, Nat.mod_lt _ (by decide)⟩ = r :=
  Fin.ext (by simp only [row]; omega)

theorem after_step (c : Dev nD) (t : Fin (cfg (F := Ideal)).N) (s : Scr Ideal c) (h : (spec m).Inv c t.val s) :
    Cols (whole m c) (pt t 0) ((pt t 1).val + 1) (stepS m c t s) ∧ Rows (whole m c) (pt t 0) (qf (pt t 1)) (kj (pt t 1) + 1) (stepS m c t s) :=
  step_words (mems t) _ _ (word0 _) (word1 _) (chk_ok _) (blocks m c t) (h t rfl)

theorem spec_holds : (spec m).Holds m where
  zero c s t ht := ⟨fun h => absurd (first_pt t ht).1 h, fun h => absurd (first_pt t ht).2 h⟩
  step c t s h := by
    have k := after_step m c t s h
    intro t' ht'
    obtain ⟨n', hn'⟩ := t'
    have e : n' = t.val + 1 := ht'
    subst e
    have hp := next_pt t hn'
    exact ⟨fun h0 => k.1.of_eq (Fin.ext (hp.1 h0).1) (hp.1 h0).2,
      fun h0 => k.2.of_eq (Fin.ext (hp.2 h0).1) (Fin.ext (hp.2 h0).2.1) (hp.2 h0).2.2⟩
  r10 c t s f h := fun hk a d => by
    have k := (after_step m c t s h).2.of_eq rfl rfl (show kj (pt t 1) + 1 = (qf (pt t 1)).val + 1 from congrArg (· + 1) hk)
    unfold stepF nextF
    rw [fin_14]
    refine (out_r14 (mems t) _ _ f _ ?_ a d).trans (k.dq a d)
    rw [word0, word1]
    exact (cond5 _).mpr hk
  r11 c t s f h := fun hk a d => by
    have k := (after_step m c t s h).2.of_eq rfl rfl (show kj (pt t 1) + 1 = (qf (pt t 1)).val + 1 from congrArg (· + 1) hk)
    unfold stepF nextF
    rw [fin_15]
    refine (out_r15 (mems t) _ _ f _ ?_ a d).trans (Eq.trans ?_ (k.dcq a d d))
    · rw [word0, word1]
      exact (cond5 _).mpr hk
    · by_cases hd : d.val / 64 = 0
      · rw [if_pos hd, show Whole.side d = 0 from Fin.ext hd]; rfl
      · rw [if_neg hd, show Whole.side d = 1 from Fin.ext (show d.val / 64 = 1 by omega)]; rfl
  r12 c t s f h := fun hk r d => by
    have k := (after_step m c t s h).1.of_eq rfl (congrArg (· + 1) hk)
    refine (fin_r16 _ (mems t) _ _ ((cond6 _).mpr hk) r d).trans ((k.dk _ d _).trans ?_)
    rw [row_split]
  r13 c t s f h := fun hk r d => by
    have k := (after_step m c t s h).1.of_eq rfl (congrArg (· + 1) hk)
    refine (fin_r17 _ (mems t) _ _ ((cond6 _).mpr hk) r d).trans ((k.dv _ d _).trans ?_)
    rw [row_split]
  r14 c t s f h := fun hk r d => by
    have k := (after_step m c t s h).1.of_eq rfl (congrArg (· + 1) hk)
    refine (fin_r18 _ (mems t) _ _ ((cond6 _).mpr hk) r d).trans ((k.dck _ d _).trans ?_)
    rw [row_split]

end Cert.Fox
end
-- ==== Proof.FoxFinal.lean ====
/- The five results of the attention's backward call, as sums over the call's operands. -/
module

public import proofs.«01_k».proof.Proof.FoxValue
public import proofs.«01_k».proof.Proof.FoxFrame

@[expose] public section

set_option maxRecDepth 16384
set_option synthInstance.maxSize 4096

noncomputable section

namespace Cert.Fox

open Cert.FoxBwdIdeal Cert.FoxBwdIdeal.Gen
open Idealize.ShloMosaic Idealize.ShloMosaic.Pipeline
open Idealize.ShloMosaic.TcCoe Idealize.ShloMosaic.Tactic

variable (m : (ℓ : Loc nD τ sig) → Buf (Elt Ideal) ℓ) (ρ : Dev nD → PrngReg) (c : Dev nD)

theorem flush_row : ∀ t : Fin (cfg (F := Ideal)).N, (((cfg (F := Ideal)).win (10 : Fin 15)).flush t = true → kj (pt t 1) = qi (pt t 1))
    ∧ (((cfg (F := Ideal)).win (11 : Fin 15)).flush t = true → kj (pt t 1) = qi (pt t 1)) := by decide +kernel
theorem flush_col : ∀ t : Fin (cfg (F := Ideal)).N, (((cfg (F := Ideal)).win (12 : Fin 15)).flush t = true → (pt t 1).val = 65)
    ∧ (((cfg (F := Ideal)).win (13 : Fin 15)).flush t = true → (pt t 1).val = 65)
    ∧ (((cfg (F := Ideal)).win (14 : Fin 15)).flush t = true → (pt t 1).val = 65) := by decide +kernel

theorem covers : ((cfg (F := Ideal)).win (10 : Fin 15)).Covers ∧ ((cfg (F := Ideal)).win (11 : Fin 15)).Covers
    ∧ ((cfg (F := Ideal)).win (12 : Fin 15)).Covers ∧ ((cfg (F := Ideal)).win (13 : Fin 15)).Covers ∧ ((cfg (F := Ideal)).win (14 : Fin 15)).Covers := by
  refine ⟨?_, ?_, ?_, ?_, ?_⟩ <;> decide +kernel

variable (after : (w : Fin (cfg (F := Ideal)).W) → Fin (cfg (F := Ideal)).N → ((cfg (F := Ideal)).win w).block.Idx → Elt Ideal ((cfg (F := Ideal)).win w).elt)

theorem arr10 (h10 : ∀ t, ((cfg (F := Ideal)).win (10 : Fin 15)).flush t = true → (spec m).R10 c t (after (10 : Fin 15) t)) :
    ((((dat m (spec m) c).toRRel fgt (Rl (spec m) c)).withAfter after).arrAt (10 : Fin 15) (cfg (F := Ideal)).N : S4224x512.Idx → EReal)
      = fun x => (whole m c).DQ (x 0) (x 1) := by
  refine (((dat m (spec m) c).toRRel fgt (Rl (spec m) c)).withAfter after).arrAt_eq_of_covers (10 : Fin 15) (fun x : S4224x512.Idx => (whole m c).DQ (x 0) (x 1)) (covers.1) fun t hf y => ?_
  refine Eq.trans (Eq.trans (congrArg (after (10 : Fin 15) t) (eq_ix2 _)) (h10 t hf ((flush_row t).1 hf) _ _)) ?_
  have h := tr10 (F := Ideal) (pt t)
  refine congrArg₂ (whole m c).DQ ?_ ?_
  · show row (qf (pt t 1)) _ = _
    refine Fin.ext ?_
    show 384 * qi (pt t 1) + (y 0).val = cc0_transform_10 k0_off1_inb numel1_S1 (pfT (F := Ideal)) (pt t) 0 * 384 + 1 * (y 0).val
    rw [h]
    show _ = qi (pt t 1) * 384 + 1 * (y 0).val
    omega
  · refine Fin.ext ?_
    show 128 * (pt t 0).val + (y 1).val = cc0_transform_10 k0_off1_inb numel1_S1 (pfT (F := Ideal)) (pt t) 1 * 128 + 1 * (y 1).val
    rw [h]
    show _ = (pt t 0).val * 128 + 1 * (y 1).val
    omega

theorem arr11 (h11 : ∀ t, ((cfg (F := Ideal)).win (11 : Fin 15)).flush t = true → (spec m).R11 c t (after (11 : Fin 15) t)) :
    ((((dat m (spec m) c).toRRel fgt (Rl (spec m) c)).withAfter after).arrAt (11 : Fin 15) (cfg (F := Ideal)).N : S4224x512.Idx → EReal)
      = fun x => (whole m c).DCQ (x 0) (x 1) := by
  refine (((dat m (spec m) c).toRRel fgt (Rl (spec m) c)).withAfter after).arrAt_eq_of_covers (11 : Fin 15) (fun x : S4224x512.Idx => (whole m c).DCQ (x 0) (x 1)) (covers.2.1) fun t hf y => ?_
  refine Eq.trans (Eq.trans (congrArg (after (11 : Fin 15) t) (eq_ix2 _)) (h11 t hf ((flush_row t).2 hf) _ _)) ?_
  have h := tr11 (F := Ideal) (pt t)
  refine congrArg₂ (whole m c).DCQ ?_ ?_
  · show row (qf (pt t 1)) _ = _
    refine Fin.ext ?_
    show 384 * qi (pt t 1) + (y 0).val = cc0_transform_11 k0_off1_inb numel1_S1 (pfT (F := Ideal)) (pt t) 0 * 384 + 1 * (y 0).val
    rw [h]
    show _ = qi (pt t 1) * 384 + 1 * (y 0).val
    omega
  · refine Fin.ext ?_
    show 128 * (pt t 0).val + (y 1).val = cc0_transform_11 k0_off1_inb numel1_S1 (pfT (F := Ideal)) (pt t) 1 * 128 + 1 * (y 1).val
    rw [h]
    show _ = (pt t 0).val * 128 + 1 * (y 1).val
    omega

theorem arr12 (h12 : ∀ t, ((cfg (F := Ideal)).win (12 : Fin 15)).flush t = true → (spec m).R12 c t (after (12 : Fin 15) t)) :
    ((((dat m (spec m) c).toRRel fgt (Rl (spec m) c)).withAfter after).arrAt (12 : Fin 15) (cfg (F := Ideal)).N : S4224x512.Idx → EReal)
      = fun x => (whole m c).DK (x 0) (x 1) := by
  refine (((dat m (spec m) c).toRRel fgt (Rl (spec m) c)).withAfter after).arrAt_eq_of_covers (12 : Fin 15) (fun x : S4224x512.Idx => (whole m c).DK (x 0) (x 1)) (covers.2.2.1) fun t hf y => ?_
  refine Eq.trans (Eq.trans (congrArg (after (12 : Fin 15) t) (eq_ix2 _)) (h12 t hf ((flush_col t).1 hf) _ _)) ?_
  refine congrArg₂ (whole m c).DK ?_ ?_
  · refine Fin.ext ?_
    show (y 0).val = 0 * 4224 + 1 * (y 0).val
    omega
  · refine Fin.ext ?_
    show 128 * (pt t 0).val + (y 1).val = (BitVec.ofNat 32 (pt t 0).val).toNat * 128 + 1 * (y 1).val
    rw [coord0]
    omega

theorem arr13 (h13 : ∀ t, ((cfg (F := Ideal)).win (13 : Fin 15)).flush t = true → (spec m).R13 c t (after (13 : Fin 15) t)) :
    ((((dat m (spec m) c).toRRel fgt (Rl (spec m) c)).withAfter after).arrAt (13 : Fin 15) (cfg (F := Ideal)).N : S4224x512.Idx → EReal)
      = fun x => (whole m c).DV (x 0) (x 1) := by
  refine (((dat m (spec m) c).toRRel fgt (Rl (spec m) c)).withAfter after).arrAt_eq_of_covers (13 : Fin 15) (fun x : S4224x512.Idx => (whole m c).DV (x 0) (x 1)) (covers.2.2.2.1) fun t hf y => ?_
  refine Eq.trans (Eq.trans (congrArg (after (13 : Fin 15) t) (eq_ix2 _)) (h13 t hf ((flush_col t).2.1 hf) _ _)) ?_
  refine congrArg₂ (whole m c).DV ?_ ?_
  · refine Fin.ext ?_
    show (y 0).val = 0 * 4224 + 1 * (y 0).val
    omega
  · refine Fin.ext ?_
    show 128 * (pt t 0).val + (y 1).val = (BitVec.ofNat 32 (pt t 0).val).toNat * 128 + 1 * (y 1).val
    rw [coord0]
    omega

theorem arr14 (h14 : ∀ t, ((cfg (F := Ideal)).win (14 : Fin 15)).flush t = true → (spec m).R14 c t (after (14 : Fin 15) t)) :
    ((((dat m (spec m) c).toRRel fgt (Rl (spec m) c)).withAfter after).arrAt (14 : Fin 15) (cfg (F := Ideal)).N : S4224x512.Idx → EReal)
      = fun x => (whole m c).DCK (x 0) (x 1) := by
  refine (((dat m (spec m) c).toRRel fgt (Rl (spec m) c)).withAfter after).arrAt_eq_of_covers (14 : Fin 15) (fun x : S4224x512.Idx => (whole m c).DCK (x 0) (x 1)) (covers.2.2.2.2) fun t hf y => ?_
  refine Eq.trans (Eq.trans (congrArg (after (14 : Fin 15) t) (eq_ix2 _)) (h14 t hf ((flush_col t).2.2 hf) _ _)) ?_
  refine congrArg₂ (whole m c).DCK ?_ ?_
  · refine Fin.ext ?_
    show (y 0).val = 0 * 4224 + 1 * (y 0).val
    omega
  · refine Fin.ext ?_
    show 128 * (pt t 0).val + (y 1).val = (BitVec.ofNat 32 (pt t 0).val).toNat * 128 + 1 * (y 1).val
    rw [coord0]
    omega

set_option maxHeartbeats 4000000 in
/-- The whole program's run: the five results, and the arguments as they began. -/
theorem run_values : θ_run (defs (F := Ideal)) (onTc (τ := τ) (main (F := Ideal))) ⟨m, fun _ => 0, ρ⟩ (fun r =>
    ((∀ c : Dev nD, r.2.mem ((c.tc : Thread nD τ).loc main_v64_0) = (fun x : S4224x512.Idx => (whole m c).DQ (x 0) (x 1))
      ∧ r.2.mem ((c.tc : Thread nD τ).loc main_v64_1) = (fun x : S4224x512.Idx => (whole m c).DCQ (x 0) (x 1))
      ∧ r.2.mem ((c.tc : Thread nD τ).loc main_v64_2) = (fun x : S4224x512.Idx => (whole m c).DK (x 0) (x 1))
      ∧ r.2.mem ((c.tc : Thread nD τ).loc main_v64_3) = (fun x : S4224x512.Idx => (whole m c).DV (x 0) (x 1))
      ∧ r.2.mem ((c.tc : Thread nD τ).loc main_v64_4) = (fun x : S4224x512.Idx => (whole m c).DCK (x 0) (x 1)))
      ∧ Unchanged m r.2.mem) ∧ r.2.sem = fun _ => 0) := by
  refine (θ_run (defs (F := Ideal)) _ _).mono (fun r h => ⟨⟨fun c => ?_, unchanged_of m (spec m) h.1⟩, h.2⟩) (run_main m ρ (spec m) (spec_holds m))
  obtain ⟨after, hl, ha⟩ := RDat.FramePost.exists_exact h.1 c
  have k10 := fun t ht => (dat m (spec m) c).toRRel_leaves (fgt := fgt) (Rl := Rl (spec m) c) (w := (10 : Fin 15)) (show fgt (10 : Fin 15) = true from rfl) (hl (10 : Fin 15) t ht)
  have k11 := fun t ht => (dat m (spec m) c).toRRel_leaves (fgt := fgt) (Rl := Rl (spec m) c) (w := (11 : Fin 15)) (show fgt (11 : Fin 15) = true from rfl) (hl (11 : Fin 15) t ht)
  have k12 := fun t ht => (dat m (spec m) c).toRRel_leaves (fgt := fgt) (Rl := Rl (spec m) c) (w := (12 : Fin 15)) (show fgt (12 : Fin 15) = true from rfl) (hl (12 : Fin 15) t ht)
  have k13 := fun t ht => (dat m (spec m) c).toRRel_leaves (fgt := fgt) (Rl := Rl (spec m) c) (w := (13 : Fin 15)) (show fgt (13 : Fin 15) = true from rfl) (hl (13 : Fin 15) t ht)
  have k14 := fun t ht => (dat m (spec m) c).toRRel_leaves (fgt := fgt) (Rl := Rl (spec m) c) (w := (14 : Fin 15)) (show fgt (14 : Fin 15) = true from rfl) (hl (14 : Fin 15) t ht)
  have e10 := (ha (10 : Fin 15)).trans (arr10 m c after k10)
  have e11 := (ha (11 : Fin 15)).trans (arr11 m c after k11)
  have e12 := (ha (12 : Fin 15)).trans (arr12 m c after k12)
  have e13 := (ha (13 : Fin 15)).trans (arr13 m c after k13)
  have e14 := (ha (14 : Fin 15)).trans (arr14 m c after k14)
  exact ⟨e10, e11, e12, e13, e14⟩

end Cert.Fox
end
-- ==== Proof.FoxReal.lean ====
/- The attention and its derivative over the real numbers: the words the two programs' values are compared in. -/
module

public import proofs.«01_k».proof.Proof.FoxWhole

@[expose] public section

noncomputable section

namespace Cert.Fox

open Idealize.ShloMosaic Idealize.ShloMosaic.TcCoe

/-- The attention's row number `r`, counted from the first row that is not padding. -/
def up (r : Fin 4112) : Fin 4224 := ⟨112 + r.val, by omega⟩

theorem up_val (r : Fin 4112) : (up r).val = 112 + r.val := rfl

theorem sees_self (r : Fin 4112) : sees (up r) (up r) = true := by simp [sees, up]

theorem sees_pad (R s : Fin 4224) (h : R.val < 112) : sees R s = false := by
  simp only [sees, decide_eq_false_iff_not]; omega

/-- The arguments as real numbers: queries, keys, values, the two running gates and the cotangent. -/
structure Given where
  q : Fin 4224 → Fin 8 → Fin 64 → ℝ
  k : Fin 4224 → Fin 8 → Fin 64 → ℝ
  v : Fin 4224 → Fin 8 → Fin 64 → ℝ
  cq : Fin 4224 → Fin 8 → ℝ
  ck : Fin 4224 → Fin 8 → ℝ
  ct : Fin 4112 → Fin 8 → Fin 64 → ℝ

namespace Given

variable (D : Given) (h : Fin 8) (r : Fin 4112) (s : Fin 4224)

/-- The score of a row and a column. -/
def sc : ℝ := (∑ x : Fin 64, D.q (up r) h x * D.k s h x) * (1 / 8) + D.cq (up r) h - D.ck s h

/-- The score where the row sees the column, minus infinity elsewhere. -/
def masked : EReal := if sees (up r) s then ((D.sc h r s : ℝ) : EReal) else ⊥

/-- The row's greatest score. -/
def top : EReal := Finset.univ.fold max ⊥ fun s => D.masked h r s

/-- The same as a real number. -/
def m : ℝ := (D.top h r).toReal

/-- The exponential of a score less its row's greatest. -/
def e : ℝ := if sees (up r) s then Real.exp (D.sc h r s - D.m h r) else 0

/-- The row's sum. -/
def l : ℝ := ∑ s, D.e h r s

/-- The probability. -/
def p : ℝ := D.e h r s / D.l h r

/-- The cotangent of the probability. -/
def g : ℝ := ∑ x : Fin 64, D.ct r h x * D.v s h x

/-- The row's mean of the cotangents. -/
def d : ℝ := ∑ s, D.g h r s * D.p h r s

/-- The cotangent of the score. -/
def ds : ℝ := D.p h r s * (D.g h r s - D.d h r)

end Given

/-- The greatest of finitely many values, each a real number or minus infinity and one of them real, is real. -/
theorem fold_max_real {n : ℕ} (f : Fin n → EReal) (h : ∀ i, f i ≠ ⊤) (i0 : Fin n) (h0 : f i0 ≠ ⊥) :
    ∃ x : ℝ, Finset.univ.fold max ⊥ f = (x : EReal) := by
  have hs : Finset.univ.fold max ⊥ f = Finset.univ.sup f := rfl
  obtain ⟨j, -, hj⟩ := Finset.exists_mem_eq_sup (Finset.univ : Finset (Fin n)) ⟨i0, Finset.mem_univ _⟩ f
  have ht : Finset.univ.sup f ≠ ⊤ := by rw [hj]; exact h j
  have hb : Finset.univ.sup f ≠ ⊥ := by
    have := Finset.le_sup (f := f) (Finset.mem_univ i0)
    intro hh; rw [hh] at this; exact h0 (le_bot_iff.mp this)
  exact ⟨(Finset.univ.sup f).toReal, by rw [hs, EReal.coe_toReal ht hb]⟩

theorem coe_sum {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

namespace Given

variable (D : Given) (h : Fin 8) (r : Fin 4112) (s : Fin 4224)

theorem top_eq : D.top h r = ((D.m h r : ℝ) : EReal) := by
  obtain ⟨x, hx⟩ := fold_max_real (fun s => D.masked h r s)
    (fun i => by simp only [masked]; split_ifs <;> simp) (up r) (by simp [masked, sees_self])
  have ht : D.top h r = (x : EReal) := hx
  rw [m, ht, EReal.toReal_coe]

theorem exp_masked : Ideal.exp (D.masked h r s - (D.m h r : ℝ)) = ((D.e h r s : ℝ) : EReal) := by
  simp only [masked, e]
  split_ifs with hh
  · rw [← EReal.coe_sub, Ideal.exp_coe]
  · rw [EReal.bot_sub]; rfl

theorem e_nonneg : 0 ≤ D.e h r s := by
  simp only [e]; split_ifs
  · exact (Real.exp_pos _).le
  · exact le_rfl

theorem l_pos : 0 < D.l h r := by
  refine Finset.sum_pos' (fun s _ => D.e_nonneg h r s) ⟨up r, Finset.mem_univ _, ?_⟩
  simp only [e, sees_self, if_true]; exact Real.exp_pos _

theorem l_ne : D.l h r ≠ 0 := (D.l_pos h r).ne'

/-- The probability, from the row's saved logarithm of its sum. -/
theorem exp_lse : Ideal.exp (D.masked h r s - ((D.m h r + Real.log (D.l h r) : ℝ) : EReal)) = ((D.p h r s : ℝ) : EReal) := by
  simp only [masked, p, e]
  split_ifs with hh
  · rw [← EReal.coe_sub, Ideal.exp_coe, ← sub_sub, Real.exp_sub, Real.exp_log (D.l_pos h r)]
  · rw [EReal.bot_sub, zero_div]; rfl

theorem p_unseen (hh : sees (up r) s = false) : D.p h r s = 0 := by simp [p, e, hh]
theorem ds_unseen (hh : sees (up r) s = false) : D.ds h r s = 0 := by simp [ds, D.p_unseen h r s hh]

/-- The row's mean, from the saved output. -/
theorem mean_out : ∑ x : Fin 64, D.ct r h x * (∑ s, D.v s h x * D.p h r s) = D.d h r := by
  simp only [d, g, Finset.mul_sum, Finset.sum_mul]
  rw [Finset.sum_comm]
  exact Finset.sum_congr rfl fun s _ => Finset.sum_congr rfl fun x _ => by ring

/-- The derivative of the quotient of the exponential and its row's sum, as the reference writes it. -/
theorem quot : (D.g h r s / D.l h r + -(∑ s, D.g h r s * (1 / (D.l h r * D.l h r)) * D.e h r s)) * D.e h r s = D.ds h r s := by
  have hl := D.l_ne h r
  have e1 : ∑ s, D.g h r s * (1 / (D.l h r * D.l h r)) * D.e h r s = D.d h r / D.l h r := by
    simp only [d, p, Finset.sum_div]
    exact Finset.sum_congr rfl fun s _ => by field_simp
  rw [e1, ds, p]; field_simp; ring

end Given

/-- A sum over all rows of values that vanish on the padding is the sum over the other rows. -/
theorem sum_up {M : Type} [AddCommMonoid M] (f : Fin 4224 → M) (h : ∀ R, R.val < 112 → f R = 0) : ∑ R, f R = ∑ r : Fin 4112, f (up r) := by
  have e := Fin.sum_univ_add (a := 112) (b := 4112) f
  refine e.trans ?_
  rw [Finset.sum_eq_zero (fun i _ => h _ (by simp [Fin.castAdd])), zero_add]
  exact Finset.sum_congr rfl fun r _ => congrArg f (Fin.ext rfl)

/-- A value for each row that is not padding, nought on the padding. -/
def atRow (f : Fin 4112 → ℝ) (R : Fin 4224) : ℝ := if h : 112 ≤ R.val then f ⟨R.val - 112, by omega⟩ else 0

theorem atRow_up (f : Fin 4112 → ℝ) (r : Fin 4112) : atRow f (up r) = f r := by
  unfold atRow
  rw [dif_pos (by simp only [up_val]; omega)]
  exact congrArg f (Fin.ext (by simp only [up_val]; omega))

theorem atRow_pad (f : Fin 4112 → ℝ) (R : Fin 4224) (h : R.val < 112) : atRow f R = 0 := dif_neg (by omega)

theorem rows_cases (R : Fin 4224) : (∃ r, R = up r) ∨ R.val < 112 := by
  by_cases h : R.val < 112
  · exact Or.inr h
  · exact Or.inl ⟨⟨R.val - 112, by omega⟩, Fin.ext (by simp only [up_val]; omega)⟩

end Cert.Fox

end
-- ==== Proof.FoxHost.lean ====
/- The host's own lines of the attention's backward call, read at an index. -/
module

public import proofs.«01_k».proof.Proof.FoxFinal
public import proofs.«01_k».proof.Proof.FoxReal
public import Idealize.ShloMosaic.Lib.StableHlo.ReadAt

@[expose] public section

set_option maxRecDepth 65536

noncomputable section

namespace Cert.Fox

open Cert.FoxBwdIdeal Cert.FoxBwdIdeal.Gen
open Idealize.ShloMosaic Idealize.ShloMosaic.Pipeline
open Idealize.ShloMosaic.TcCoe Idealize.ShloMosaic.Tactic

variable (m : (ℓ : Loc nD τ sig) → Buf (Elt Ideal) ℓ) (c : Dev nD)

theorem V_def (b : Ref sig .tc) : V m c b = StableHlo.after (ops (F := Ideal)) (fun b => m (c, b)) (Proc.devRef .tc b) := by
  unfold V; rw [ops_eq]

set_option maxHeartbeats 4000000 in
theorem stage_v29 : (V m c main_v29 : S8x4112.Idx → EReal) = Host.reduce (FloatOps.maximumf (F := Ideal) (φ := .f32)) (V m c main_v28) (constant (F := Ideal) S_ .f32 0xFF800000#32) reducesTo_S8x4112x4224_S8x4112_d2 h_S_ := by
  simp only [V_def]; unfold ops; after_reads_simp
  all_goals try simp -implicitDefEqProofs only [StableHlo.TRef.toBuf, StableHlo.TRef.ofBuf, cast_cast, cast_eq]
  all_goals rfl

set_option maxHeartbeats 4000000 in
theorem stage_v33 : (V m c main_v33 : S8x4112x4224.Idx → EReal) = Host.exp (F := Ideal) (φ := .f32) (subf (F := Ideal) (φ := .f32) (V m c main_v28) (broadcastInDim S8x4112x4224 ![0, 1, 2] bcast_S8x4112x1_S8x4112x4224_0_1_2 (broadcastInDim S8x4112x1 ![0, 1] bcast_S8x4112_S8x4112x1_0_1 (V m c main_v29)))) := by
  simp only [V_def]; unfold ops; after_reads_simp
  all_goals try simp -implicitDefEqProofs only [StableHlo.TRef.toBuf, StableHlo.TRef.ofBuf, cast_cast, cast_eq]
  all_goals rfl

set_option maxHeartbeats 4000000 in
theorem stage_v34 : (V m c main_v34 : S8x4112.Idx → EReal) = Host.reduceAdd (F := Ideal) (φ := .f32) (V m c main_v33) (constant S_ .f32 0x00000000#32) reducesTo_S8x4112x4224_S8x4112_d2 h_S_ := by
  simp only [V_def]; unfold ops; after_reads_simp
  all_goals try simp -implicitDefEqProofs only [StableHlo.TRef.toBuf, StableHlo.TRef.ofBuf, cast_cast, cast_eq]
  all_goals rfl

set_option maxHeartbeats 4000000 in
theorem stage_v38 : (V m c main_v38 : S8x64x4112.Idx → EReal) = Host.dotGeneral (F := Ideal) (φ₁ := .f32) (φ₂ := .f32) dot_S4224x8x64_S8x4112x4224_S8x64x4112_0_2_2_1_1_0 none (V m c main_arg2) (Host.divf (F := Ideal) (φ := .f32) (V m c main_v33) (broadcastInDim S8x4112x4224 ![0, 1, 2] bcast_S8x4112x1_S8x4112x4224_0_1_2 (broadcastInDim S8x4112x1 ![0, 1] bcast_S8x4112_S8x4112x1_0_1 (V m c main_v34)))) := by
  simp only [V_def]; unfold ops; after_reads_simp
  all_goals try simp -implicitDefEqProofs only [StableHlo.TRef.toBuf, StableHlo.TRef.ofBuf, cast_cast, cast_eq]
  all_goals rfl

set_option maxHeartbeats 4000000 in
theorem stage_v40 : (V m c main_v40 : S4112x512.Idx → EReal) = shapeCast S4112x512 (transpose S4112x8x64 [2, 0, 1] (V m c main_v38 : S8x64x4112.Idx → EReal) transposes_S8x64x4112_S4112x8x64_2_0_1) shapeCasts_S4112x8x64_S4112x512 := by
  simp only [V_def]; unfold ops; after_reads_simp
  all_goals try simp -implicitDefEqProofs only [StableHlo.TRef.toBuf, StableHlo.TRef.ofBuf, cast_cast, cast_eq]
  all_goals rfl

set_option maxHeartbeats 4000000 in
theorem stage_v61 : (V m c main_v61 : S4224x512.Idx → EReal) = truncf (F := Ideal) .bf16 (pad S4224x512 ![112, 0] ![0, 0] ![0, 0] (V m c main_v40 : S4112x512.Idx → EReal) (V m c main_call1_v0) pads_S4112x512_S4224x512_11200_000 h_S_) bitsLt_bf16_f32 := by
  simp only [V_def]; unfold ops; after_reads_simp
  all_goals try simp -implicitDefEqProofs only [StableHlo.TRef.toBuf, StableHlo.TRef.ofBuf, cast_cast, cast_eq]
  all_goals rfl

set_option maxHeartbeats 4000000 in
theorem stage_v42 : (V m c main_v42 : S8x4112x1.Idx → EReal) = addf (F := Ideal) (φ := .f32) (broadcastInDim S8x4112x1 ![0, 1] bcast_S8x4112_S8x4112x1_0_1 (V m c main_v29)) (Host.log (F := Ideal) (φ := .f32) (broadcastInDim S8x4112x1 ![0, 1] bcast_S8x4112_S8x4112x1_0_1 (V m c main_v34))) := by
  simp only [V_def]; unfold ops; after_reads_simp
  all_goals try simp -implicitDefEqProofs only [StableHlo.TRef.toBuf, StableHlo.TRef.ofBuf, cast_cast, cast_eq]
  all_goals rfl

set_option maxHeartbeats 4000000 in
theorem stage_v46 : (V m c main_v46 : S4112x512.Idx → EReal) = shapeCast S4112x512 (broadcastInDim S4112x8x64 ![0, 1] bcast_S4112x8_S4112x8x64_0_1 (transpose S4112x8 [1, 0] (shapeCast S8x4112 (V m c main_v42 : S8x4112x1.Idx → EReal) shapeCasts_S8x4112x1_S8x4112) transposes_S8x4112_S4112x8_1_0)) shapeCasts_S4112x8x64_S4112x512 := by
  simp only [V_def]; unfold ops; after_reads_simp
  all_goals try simp -implicitDefEqProofs only [StableHlo.TRef.toBuf, StableHlo.TRef.ofBuf, cast_cast, cast_eq]
  all_goals rfl

set_option maxHeartbeats 4000000 in
theorem stage_v48 : (V m c main_v48 : S4224x512.Idx → EReal) = pad S4224x512 ![112, 0] ![0, 0] ![0, 0] (V m c main_v46 : S4112x512.Idx → EReal) (V m c main_call2_v0) pads_S4112x512_S4224x512_11200_000 h_S_ := by
  simp only [V_def]; unfold ops; after_reads_simp
  all_goals try simp -implicitDefEqProofs only [StableHlo.TRef.toBuf, StableHlo.TRef.ofBuf, cast_cast, cast_eq]
  all_goals rfl

/-- The program's six arguments are these real numbers. -/
structure Holds (a0 a1 a2 : S4224x8x64.Idx → EReal) (a3 a4 : S4224x8.Idx → EReal) (a5 : S4112x512.Idx → EReal) (D : Given) : Prop where
  q : ∀ R h x, a0 (ix3 R h x) = ((D.q R h x : ℝ) : EReal)
  k : ∀ R h x, a1 (ix3 R h x) = ((D.k R h x : ℝ) : EReal)
  v : ∀ R h x, a2 (ix3 R h x) = ((D.v R h x : ℝ) : EReal)
  cq : ∀ R h, a3 (ix2 R h) = ((D.cq R h : ℝ) : EReal)
  ck : ∀ R h, a4 (ix2 R h) = ((D.ck R h : ℝ) : EReal)
  ct : ∀ r h x, a5 (ix2 r (hl h x)) = ((D.ct r h x : ℝ) : EReal)

theorem eighth : Ideal.ofBits .f32 1040187392#32 = ((1 / 8 : ℝ) : EReal) := by
  simp [Ideal.ofBits, Ideal.ieee, -EReal.coe_mul]; norm_num

theorem minus_inf : Ideal.ofBits .f32 4286578688#32 = ⊥ := by simp [Ideal.ofBits, Ideal.ieee]

theorem no_word : FloatOps.sitofp (F := Ideal) .f32 (0#32) = (0 : EReal) := by simp [FloatOps.sitofp]

theorem word_int (n : ℕ) (hn : n < 2 ^ 31) : (BitVec.ofNat 32 n).toInt = n := by
  rw [BitVec.toInt_eq_toNat_of_lt (by rw [BitVec.toNat_ofNat]; omega), BitVec.toNat_ofNat, Nat.mod_eq_of_lt (by omega)]

/-- The mask's two comparisons of words, as comparisons of positions. -/
theorem mask_word {α : Type} (r : Fin 4112) (s : Fin 4224) (u w : α) : Scalar.select (IntOp.andi (IntOp.cmpi .sle (BitVec.ofNat 32 s.val) (IntOp.addi (112#32) (BitVec.ofNat 32 r.val)))
    (IntOp.cmpi .sge (BitVec.ofNat 32 s.val) 112#32)) u w = if sees (up r) s then u else w := by
  rw [select_dec]
  have e : IntOp.addi (112#32) (BitVec.ofNat 32 r.val) = BitVec.ofNat 32 (112 + r.val) := (BitVec.ofNat_add 112 r.val).symm
  have hd : decide (IntOp.andi (IntOp.cmpi .sle (BitVec.ofNat 32 s.val) (IntOp.addi (112#32) (BitVec.ofNat 32 r.val))) (IntOp.cmpi .sge (BitVec.ofNat 32 s.val) 112#32) = 1#1) = sees (up r) s := by
    refine decide_eq_decide.mpr ?_
    rw [both, IntOp.cmpi_sle, IntOp.cmpi_sge, e, word_int _ (by omega), word_int _ (by omega), show (112#32 : BitVec 32).toInt = 112 from by decide, up_val]
    omega
  rw [hd]

theorem at_head {a : S4224x8x64.Idx → EReal} (R : Fin 4224) (h : Fin 8) (x : Fin 64) (p : (hl h x).val / 64 < 8) (p' : (hl h x).val % 64 < 64) :
    a (ix3 R ⟨(hl h x).val / 64, p⟩ ⟨(hl h x).val % 64, p'⟩) = a (ix3 R h x) := by
  have e1 : (⟨(hl h x).val / 64, p⟩ : Fin 8) = h := Fin.ext (by show (64 * h.val + x.val) / 64 = h.val; omega)
  have e2 : (⟨(hl h x).val % 64, p'⟩ : Fin 64) = x := Fin.ext (by show (64 * h.val + x.val) % 64 = x.val; omega)
  rw [e1, e2]

/-- The arguments as the call's memory holds them. -/
abbrev HoldsK (D : Given) : Prop := Holds (m (c, Proc.tc.devRef main_arg0)) (m (c, Proc.tc.devRef main_arg1)) (m (c, Proc.tc.devRef main_arg2))
  (m (c, Proc.tc.devRef main_arg3)) (m (c, Proc.tc.devRef main_arg4)) (m (c, Proc.tc.devRef main_arg5)) D

variable {m c} {D : Given} (H : HoldsK m c D)
include H

set_option maxHeartbeats 4000000 in
theorem read_v28 (h : Fin 8) (r : Fin 4112) (s : Fin 4224) : (V m c main_v28 : S8x4112x4224.Idx → EReal) (ix3 h r s) = D.masked h r s := by
  rw [V_def]; unfold ops; after_reads_at
  rw [mask_word]
  refine (if_congr Iff.rfl ?_ minus_inf)
  rw [H.cq, H.ck, eighth, Given.sc]
  simp only [H.q, H.k, ← EReal.coe_mul, coe_sum, ← EReal.coe_add, ← EReal.coe_sub]
  rfl

set_option maxHeartbeats 4000000 in
theorem read_q (R : Fin 4224) (h : Fin 8) (x : Fin 64) : (V m c main_v53 : S4224x512.Idx → EReal) (ix2 R (hl h x)) = ((D.q R h x * (1 / 8) : ℝ) : EReal) := by
  rw [V_def]; unfold ops; after_reads_at
  refine (congrArg (fun z : EReal => z * Ideal.ofBits .f32 1040187392#32) ((at_head R h x _ _).trans (H.q R h x))).trans ?_
  rw [eighth, EReal.coe_mul]

set_option maxHeartbeats 4000000 in
theorem read_qt (R : Fin 4224) (h : Fin 8) (x : Fin 64) : (V m c main_v58 : S512x4224.Idx → EReal) (ix2 (hl h x) R) = ((D.q R h x * (1 / 8) : ℝ) : EReal) := by
  rw [V_def]; unfold ops; after_reads_at
  refine (congrArg (fun z : EReal => z * Ideal.ofBits .f32 1040187392#32) ((at_head R h x _ _).trans (H.q R h x))).trans ?_
  rw [eighth, EReal.coe_mul]

set_option maxHeartbeats 4000000 in
theorem read_k (R : Fin 4224) (h : Fin 8) (x : Fin 64) : (V m c main_v55 : S4224x512.Idx → EReal) (ix2 R (hl h x)) = ((D.k R h x : ℝ) : EReal) := by
  rw [V_def]; unfold ops; after_reads_at
  exact (at_head R h x _ _).trans (H.k R h x)

set_option maxHeartbeats 4000000 in
theorem read_v (R : Fin 4224) (h : Fin 8) (x : Fin 64) : (V m c main_v57 : S4224x512.Idx → EReal) (ix2 R (hl h x)) = ((D.v R h x : ℝ) : EReal) := by
  rw [V_def]; unfold ops; after_reads_at
  exact (at_head R h x _ _).trans (H.v R h x)

set_option maxHeartbeats 4000000 in
theorem read_cq (R : Fin 4224) (h : Fin 8) : (V m c main_v59 : S4224x128.Idx → EReal) (ix2 R (wide h)) = ((D.cq R h : ℝ) : EReal) := by
  rw [V_def]; unfold ops; after_reads_at
  exact (dif_pos h.isLt).trans (H.cq R h)

set_option maxHeartbeats 4000000 in
theorem read_ck (R : Fin 4224) (h : Fin 8) : (V m c main_v60 : S8x4224.Idx → EReal) (ix2 h R) = ((D.ck R h : ℝ) : EReal) := by
  rw [V_def]; unfold ops; after_reads_at
  exact H.ck R h

set_option maxHeartbeats 4000000 in
theorem read_g (r : Fin 4112) (h : Fin 8) (x : Fin 64) : (V m c main_v49 : S4224x512.Idx → EReal) (ix2 (up r) (hl h x)) = ((D.ct r h x : ℝ) : EReal) := by
  rw [V_def]; unfold ops; after_reads_at
  refine (dif_pos (by simp only [up_val]; omega)).trans ?_
  have e : (⟨(up r).val - 112, by simp only [up_val]; omega⟩ : Fin 4112) = r := Fin.ext (by simp only [up_val]; omega)
  rw [e, H.ct]

set_option maxHeartbeats 4000000 in
omit H in
theorem pad_g (R : Fin 4224) (hR : R.val < 112) (h : Fin 8) (x : Fin 64) : (V m c main_v49 : S4224x512.Idx → EReal) (ix2 R (hl h x)) = (0 : EReal) := by
  rw [V_def]; unfold ops; after_reads_at
  exact (dif_neg (by omega)).trans no_word

set_option maxHeartbeats 4000000 in
theorem read_gt (r : Fin 4112) (h : Fin 8) (x : Fin 64) : (V m c main_v63 : S512x4224.Idx → EReal) (ix2 (hl h x) (up r)) = ((D.ct r h x : ℝ) : EReal) := by
  rw [V_def]; unfold ops; after_reads_at
  refine (dif_pos (by simp only [up_val]; omega)).trans ?_
  have e : (⟨(up r).val - 112, by simp only [up_val]; omega⟩ : Fin 4112) = r := Fin.ext (by simp only [up_val]; omega)
  rw [e, H.ct]

set_option maxHeartbeats 4000000 in
omit H in
theorem pad_gt (R : Fin 4224) (hR : R.val < 112) (h : Fin 8) (x : Fin 64) : (V m c main_v63 : S512x4224.Idx → EReal) (ix2 (hl h x) R) = (0 : EReal) := by
  rw [V_def]; unfold ops; after_reads_at
  exact (dif_neg (by omega)).trans no_word

end Cert.Fox

end
-- ==== Proof.FoxSaved.lean ====
/- What the forward pass saves for the attention's backward call: the output and the logarithm of each row's sum, as real numbers. -/
module

public import proofs.«01_k».proof.Proof.FoxHost

@[expose] public section

set_option maxRecDepth 65536

noncomputable section

namespace Cert.Fox

open Cert.FoxBwdIdeal Cert.FoxBwdIdeal.Gen
open Idealize.ShloMosaic Idealize.ShloMosaic.Pipeline
open Idealize.ShloMosaic.TcCoe Idealize.ShloMosaic.Tactic

theorem max_row (y : FVec Ideal S8x4112x4224 .f32) (h : Fin 8) (r : Fin 4112) :
    Host.reduce (FloatOps.maximumf (F := Ideal) (φ := .f32)) y (constant (F := Ideal) S_ .f32 0xFF800000#32) reducesTo_S8x4112x4224_S8x4112_d2 h_S_ (ix2 h r)
      = Finset.univ.fold max (⊥ : EReal) fun s => y (ix3 h r s) := by
  pointwise; rw [minus_inf]

theorem pad_rows (y : FVec Ideal S4112x512 .f32) (z : FVec Ideal S_ .f32) (r : Fin 4112) (d : Fin 512) :
    pad S4224x512 ![112, 0] ![0, 0] ![0, 0] y z pads_S4112x512_S4224x512_11200_000 h_S_ (ix2 (up r) d) = y (ix2 r d) := by
  pointwise
  have hc : 112 ≤ (up r).val ∧ (up r).val - 112 < 4112 := by simp only [up_val]; omega
  refine (dif_pos hc).trans ?_
  have e : (⟨(up r).val - 112, by simp only [up_val]; omega⟩ : Fin 4112) = r := Fin.ext (by simp only [up_val]; omega)
  rw [e]

variable {m : (ℓ : Loc nD τ sig) → Buf (Elt Ideal) ℓ} {c : Dev nD} {D : Given} (H : HoldsK m c D)
include H

theorem arr_v28 : (V m c main_v28 : S8x4112x4224.Idx → EReal) = fun i => D.masked (i 0) (i 1) (i 2) := funext fun i => by
  rw [eq_ix3 i]; exact read_v28 H _ _ _

theorem arr_v29 : (V m c main_v29 : S8x4112.Idx → EReal) = fun i => ((D.m (i 0) (i 1) : ℝ) : EReal) := funext fun i => by
  obtain ⟨h, r, rfl⟩ : ∃ h r, i = ix2 h r := ⟨i 0, i 1, eq_ix2 i⟩
  rw [stage_v29, max_row, arr_v28 H]
  exact D.top_eq h r

theorem arr_v33 : (V m c main_v33 : S8x4112x4224.Idx → EReal) = fun i => ((D.e (i 0) (i 1) (i 2) : ℝ) : EReal) := funext fun i => by
  obtain ⟨h, r, s, rfl⟩ : ∃ h r s, i = ix3 h r s := ⟨i 0, i 1, i 2, eq_ix3 i⟩
  rw [stage_v33, arr_v28 H, arr_v29 H]; pointwise
  exact D.exp_masked h r s

theorem arr_v34 : (V m c main_v34 : S8x4112.Idx → EReal) = fun i => ((D.l (i 0) (i 1) : ℝ) : EReal) := funext fun i => by
  obtain ⟨h, r, rfl⟩ : ∃ h r, i = ix2 h r := ⟨i 0, i 1, eq_ix2 i⟩
  rw [stage_v34, arr_v33 H]; pointwise
  first | rw [Ideal.ofBits_zero, zero_add, Given.l, ← coe_sum] | (rw [Given.l, ← coe_sum])

theorem arr_v38 : (V m c main_v38 : S8x64x4112.Idx → EReal) = fun i => ((∑ s, D.v s (i 0) (i 1) * D.p (i 0) (i 2) s : ℝ) : EReal) := funext fun i => by
  obtain ⟨h, x, r, rfl⟩ : ∃ h x r, i = ix3 h x r := ⟨i 0, i 1, i 2, eq_ix3 i⟩
  have ea : (V m c main_arg2 : S4224x8x64.Idx → EReal) = m (c, Proc.tc.devRef main_arg2) := V_arg2 m c
  rw [stage_v38, ea, arr_v33 H, arr_v34 H]; pointwise
  show @Eq EReal _ _
  refine Eq.trans ?_ (coe_sum _)
  refine Finset.sum_congr rfl fun s _ => ?_
  rw [EReal.coe_mul, Given.p]
  refine congrArg₂ (fun a b : EReal => a * b) (H.v s h x) ?_
  rw [Ideal.div_coe (D.l_ne h r), ← EReal.coe_mul, mul_one_div]

theorem read_o (R : Fin 4112) (h : Fin 8) (x : Fin 64) : (V m c main_v40 : S4112x512.Idx → EReal) (ix2 R (hl h x)) = ((∑ s, D.v s h x * D.p h R s : ℝ) : EReal) := by
  rw [stage_v40, arr_v38 H]; pointwise
  have e1 : (⟨(hl h x).val / 64, by omega⟩ : Fin 8) = h := Fin.ext (by show (64 * h.val + x.val) / 64 = h.val; omega)
  have e2 : (⟨(hl h x).val % 64, by omega⟩ : Fin 64) = x := Fin.ext (by show (64 * h.val + x.val) % 64 = x.val; omega)
  rw [e1, e2]

theorem read_saved (r : Fin 4112) (h : Fin 8) (x : Fin 64) : (V m c main_v61 : S4224x512.Idx → EReal) (ix2 (up r) (hl h x)) = ((∑ s, D.v s h x * D.p h r s : ℝ) : EReal) := by
  rw [stage_v61]
  exact (pad_rows _ _ r (hl h x)).trans <| read_o H r h x

theorem arr_v42 : (V m c main_v42 : S8x4112x1.Idx → EReal) = fun i => ((D.m (i 0) (i 1) + Real.log (D.l (i 0) (i 1)) : ℝ) : EReal) := funext fun i => by
  obtain ⟨h, r, z, rfl⟩ : ∃ h r z, i = ix3 h r z := ⟨i 0, i 1, i 2, eq_ix3 i⟩
  rw [stage_v42, arr_v29 H, arr_v34 H]; pointwise
  rw [Ideal.log_coe, if_neg (not_le.mpr (D.l_pos h r)), EReal.coe_add]

theorem read_sum (R : Fin 4112) (h : Fin 8) (x : Fin 64) : (V m c main_v46 : S4112x512.Idx → EReal) (ix2 R (hl h x)) = ((D.m h R + Real.log (D.l h R) : ℝ) : EReal) := by
  rw [stage_v46, arr_v42 H]; pointwise
  have e1 : (⟨(hl h x).val / 64, by omega⟩ : Fin 8) = h := Fin.ext (by show (64 * h.val + x.val) / 64 = h.val; omega)
  rw [e1]

theorem read_lse (r : Fin 4112) (h : Fin 8) (x : Fin 64) : (V m c main_v48 : S4224x512.Idx → EReal) (ix2 (up r) (hl h x)) = ((D.m h r + Real.log (D.l h r) : ℝ) : EReal) := by
  rw [stage_v48]
  exact (pad_rows _ _ r (hl h x)).trans <| read_sum H r h x

end Cert.Fox

end
-- ==== Proof.FoxMeans.lean ====
/- The attention's backward call's five results as real numbers. -/
module

public import proofs.«01_k».proof.Proof.FoxSaved

@[expose] public section

set_option maxRecDepth 65536

noncomputable section

namespace Cert.Fox

open Cert.FoxBwdIdeal Cert.FoxBwdIdeal.Gen
open Idealize.ShloMosaic Idealize.ShloMosaic.Pipeline
open Idealize.ShloMosaic.TcCoe Idealize.ShloMosaic.Tactic

theorem hof_hl (h : Fin 8) (x : Fin 64) : hof (hl h x) = h := Fin.ext (by show (64 * h.val + x.val) / 64 = h.val; omega)

variable {m : (ℓ : Loc nD τ sig) → Buf (Elt Ideal) ℓ} {c : Dev nD} {D : Given} (H : HoldsK m c D)
include H

theorem w_q (R : Fin 4224) (h : Fin 8) (x : Fin 64) : (whole m c).q (ix2 R (hl h x)) = ((D.q R h x * (1 / 8) : ℝ) : EReal) := read_q H R h x
theorem w_qt (R : Fin 4224) (h : Fin 8) (x : Fin 64) : (whole m c).qt (ix2 (hl h x) R) = ((D.q R h x * (1 / 8) : ℝ) : EReal) := read_qt H R h x
theorem w_k (R : Fin 4224) (h : Fin 8) (x : Fin 64) : (whole m c).k (ix2 R (hl h x)) = ((D.k R h x : ℝ) : EReal) := read_k H R h x
theorem w_v (R : Fin 4224) (h : Fin 8) (x : Fin 64) : (whole m c).v (ix2 R (hl h x)) = ((D.v R h x : ℝ) : EReal) := read_v H R h x
theorem w_cq (R : Fin 4224) (h : Fin 8) : (whole m c).cq (ix2 R (wide h)) = ((D.cq R h : ℝ) : EReal) := read_cq H R h
theorem w_ct (R : Fin 4224) (h : Fin 8) : (whole m c).ct (ix2 h R) = ((D.ck R h : ℝ) : EReal) := read_ck H R h
theorem w_o (r : Fin 4112) (h : Fin 8) (x : Fin 64) : (whole m c).o (ix2 (up r) (hl h x)) = ((∑ s, D.v s h x * D.p h r s : ℝ) : EReal) := read_saved H r h x
theorem w_lse (r : Fin 4112) (h : Fin 8) (x : Fin 64) : (whole m c).lse (ix2 (up r) (hl h x)) = ((D.m h r + Real.log (D.l h r) : ℝ) : EReal) := read_lse H r h x
theorem w_g (r : Fin 4112) (h : Fin 8) (x : Fin 64) : (whole m c).g (ix2 (up r) (hl h x)) = ((D.ct r h x : ℝ) : EReal) := read_g H r h x
theorem w_gt (r : Fin 4112) (h : Fin 8) (x : Fin 64) : (whole m c).gt (ix2 (hl h x) (up r)) = ((D.ct r h x : ℝ) : EReal) := read_gt H r h x

theorem sc_real (h : Fin 8) (r : Fin 4112) (s : Fin 4224) : (whole m c).sc h (up r) s = ((D.sc h r s : ℝ) : EReal) := by
  unfold Whole.sc
  simp only [w_cq H, w_ct H, w_q H, w_k H, ← EReal.coe_mul, coe_sum, ← EReal.coe_add, ← EReal.coe_sub]
  refine congrArg (fun z : ℝ => (z : EReal)) ?_
  rw [Given.sc, Finset.sum_mul]
  exact congrArg (fun a : ℝ => a + D.cq (up r) h - D.ck s h) (Finset.sum_congr rfl fun x _ => by ring)

theorem pr_real (h : Fin 8) (r : Fin 4112) (s : Fin 4224) : (whole m c).pr h (up r) s = ((D.p h r s : ℝ) : EReal) := by
  unfold Whole.pr
  rw [sc_real H, w_lse H]
  exact D.exp_lse h r s

theorem dl_real (h : Fin 8) (r : Fin 4112) : (whole m c).dl h (up r) = ((D.d h r : ℝ) : EReal) := by
  unfold Whole.dl
  simp only [w_g H, w_o H, ← EReal.coe_mul, coe_sum]
  rw [D.mean_out h r]

theorem ds_real (h : Fin 8) (r : Fin 4112) (s : Fin 4224) : (whole m c).ds h (up r) s = ((D.ds h r s : ℝ) : EReal) := by
  unfold Whole.ds
  rw [pr_real H, dl_real H]
  simp only [w_g H, w_v H, ← EReal.coe_mul, coe_sum, ← EReal.coe_sub]
  rfl

omit H in
theorem pr_pad (h : Fin 8) (R s : Fin 4224) (hR : R.val < 112) : (whole m c).pr h R s = 0 := Whole.pr_unseen _ (sees_pad R s hR)
omit H in
theorem ds_pad (h : Fin 8) (R s : Fin 4224) (hR : R.val < 112) : (whole m c).ds h R s = 0 := Whole.ds_unseen _ (sees_pad R s hR)

theorem dq_real (R : Fin 4224) (h : Fin 8) (x : Fin 64) :
    (whole m c).DQ R (hl h x) = ((atRow (fun r => ∑ s, D.ds h r s * D.k s h x) R : ℝ) : EReal) := by
  unfold Whole.DQ
  rw [hof_hl]
  rcases rows_cases R with ⟨r, rfl⟩ | hR
  · rw [atRow_up]
    simp only [ds_real H, w_k H, ← EReal.coe_mul, coe_sum]
  · rw [atRow_pad _ _ hR]
    exact Finset.sum_eq_zero fun s _ => by rw [ds_pad h R s hR, zero_mul]

theorem dcq_real (R : Fin 4224) (h : Fin 8) (x : Fin 64) :
    (whole m c).DCQ R (hl h x) = ((atRow (fun r => ∑ s, D.ds h r s) R : ℝ) : EReal) := by
  unfold Whole.DCQ
  rw [hof_hl]
  rcases rows_cases R with ⟨r, rfl⟩ | hR
  · rw [atRow_up]
    simp only [ds_real H, coe_sum]
  · rw [atRow_pad _ _ hR]
    exact Finset.sum_eq_zero fun s _ => ds_pad h R s hR

theorem dk_real (s : Fin 4224) (h : Fin 8) (x : Fin 64) :
    (whole m c).DK s (hl h x) = ((∑ r : Fin 4112, D.ds h r s * (1 / 8) * D.q (up r) h x : ℝ) : EReal) := by
  unfold Whole.DK
  rw [hof_hl, sum_up _ (fun R hR => by rw [ds_pad h R s hR, mul_zero])]
  simp only [ds_real H, w_qt H, ← EReal.coe_mul, coe_sum]
  exact congrArg (fun z : ℝ => (z : EReal)) (Finset.sum_congr rfl fun r _ => by ring)

theorem dv_real (s : Fin 4224) (h : Fin 8) (x : Fin 64) :
    (whole m c).DV s (hl h x) = ((∑ r : Fin 4112, D.ct r h x * D.p h r s : ℝ) : EReal) := by
  unfold Whole.DV
  rw [hof_hl, sum_up _ (fun R hR => by rw [pr_pad h R s hR, mul_zero])]
  simp only [pr_real H, w_gt H, ← EReal.coe_mul, coe_sum]

theorem dck_real (s : Fin 4224) (h : Fin 8) (x : Fin 64) :
    (whole m c).DCK s (hl h x) = ((∑ r : Fin 4112, D.ds h r s : ℝ) : EReal) := by
  unfold Whole.DCK
  rw [hof_hl, sum_up _ (fun R hR => ds_pad h R s hR)]
  simp only [ds_real H, coe_sum]

end Cert.Fox

end
-- ==== Proof.FoxRef.lean ====
/- The reference of the attention's backward call, line by line, as real numbers. -/
module

public import proofs.«01_k».proof.Proof.FoxHost
public import proofs.«01_k».proof.Proof.Gen.FoxBwdRefIdeal.Read

@[expose] public section

set_option maxRecDepth 65536

noncomputable section

namespace Cert.FoxRef

open Cert.Fox Cert.FoxBwdRefIdeal Cert.FoxBwdRefIdeal.Gen Cert.FoxBwdRefIdeal.Read
open Idealize.ShloMosaic
open Idealize.ShloMosaic.TcCoe Idealize.ShloMosaic.Tactic

theorem max_row (y : FVec Ideal S8x4112x4224 .f32) (h : Fin 8) (r : Fin 4112) :
    Host.reduce (FloatOps.maximumf (F := Ideal) (φ := .f32)) y (constant (F := Ideal) S_ .f32 0xFF800000#32) reducesTo_S8x4112x4224_S8x4112_d2 h_S_ (ix2 h r)
      = Finset.univ.fold max (⊥ : EReal) fun s => y (ix3 h r s) := by
  pointwise; rw [minus_inf]

theorem div_real (a b : ℝ) (hb : b ≠ 0) : Ideal.div (a : EReal) (b : EReal) = ((a / b : ℝ) : EReal) := by
  rw [Ideal.div_coe hb, ← EReal.coe_mul, mul_one_div]

theorem rows_ite (g : Fin 4112 → ℝ) (R : Fin 4224) (n : ℕ) (hn : n < 8) :
    (if h : (112 ≤ R.val ∧ R.val - 112 < 4112) ∧ n < 8 then ((g ⟨R.val - 112, h.1.2⟩ : ℝ) : EReal) else 0) = ((atRow g R : ℝ) : EReal) := by
  unfold atRow
  by_cases h : 112 ≤ R.val
  · rw [dif_pos ⟨⟨h, by omega⟩, hn⟩, dif_pos h]
  · rw [dif_neg (fun hh => h hh.1.1), dif_neg h, EReal.coe_zero]

variable {x0 x1 x2 : S4224x8x64.Idx → EReal} {x3 x4 : S4224x8.Idx → EReal} {x5 : S4112x512.Idx → EReal} {D : Given} (H : Holds x0 x1 x2 x3 x4 x5 D)
include H

/-- The masked scores. -/
theorem arr_v28_0 : (val_main_v28_0 (F := Ideal) x0 x1 x3 x4 : S8x4112x4224.Idx → EReal) = fun i => D.masked (i 0) (i 1) (i 2) := funext fun i => by
  obtain ⟨h, r, s, rfl⟩ : ∃ h r s, i = ix3 h r s := ⟨i 0, i 1, i 2, eq_ix3 i⟩
  pointwise [val_main_v28_0, val_main_v28_1, val_main_v27, val_main_v26, val_main_v25, val_main_v24, val_main_v23, val_main_v22, val_main_c_0, val_main_v21, val_main_v20, val_main_v19, val_main_v18, val_main_v17, val_main_v16, val_main_v15, val_main_v14, val_main_c, val_main_v13, val_main_v12, val_main_v11, val_main_v10, val_main_v9, val_main_v8, val_main_v7, val_main_v6, val_main_v5, val_main_v4, val_main_v3, val_main_cst, val_main_v2, val_main_v1, val_main_v0, val_main_call0_v2, val_main_call0_v0, val_main_cst_1]
  rw [mask_word]
  refine (if_congr Iff.rfl ?_ minus_inf)
  show @Eq EReal _ _
  rw [H.cq, H.ck, eighth, Given.sc]
  simp only [H.q, H.k, ← EReal.coe_mul, coe_sum, ← EReal.coe_add, ← EReal.coe_sub]
  rfl

theorem arr_v29 : (val_main_v29 (F := Ideal) x0 x1 x3 x4 : S8x4112.Idx → EReal) = fun i => ((D.m (i 0) (i 1) : ℝ) : EReal) := funext fun i => by
  obtain ⟨h, r, rfl⟩ : ∃ h r, i = ix2 h r := ⟨i 0, i 1, eq_ix2 i⟩
  unfold val_main_v29 val_main_cst_2
  rw [arr_v28_0 H]
  exact (max_row _ h r).trans (D.top_eq h r)

theorem arr_v36 : (val_main_v36 (F := Ideal) x0 x1 x3 x4 : S8x4112.Idx → EReal) = fun i => ((D.m (i 0) (i 1) : ℝ) : EReal) := funext fun i => by
  obtain ⟨h, r, rfl⟩ : ∃ h r, i = ix2 h r := ⟨i 0, i 1, eq_ix2 i⟩
  unfold val_main_v36 val_main_v35 val_main_cst_4
  rw [arr_v29 H]; pointwise
  rw [minus_inf]; exact max_bot_left _

theorem arr_v49 : (val_main_v49 (F := Ideal) x0 x1 x3 x4 : S8x4112x4224.Idx → EReal) = fun i => ((D.e (i 0) (i 1) (i 2) : ℝ) : EReal) := funext fun i => by
  obtain ⟨h, r, s, rfl⟩ : ∃ h r s, i = ix3 h r s := ⟨i 0, i 1, i 2, eq_ix3 i⟩
  unfold val_main_v49 val_main_v48 val_main_v47 val_main_v46
  rw [arr_v28_0 H, arr_v36 H]; pointwise
  exact D.exp_masked h r s

theorem arr_v50 : (val_main_v50 (F := Ideal) x0 x1 x3 x4 : S8x4112.Idx → EReal) = fun i => ((D.l (i 0) (i 1) : ℝ) : EReal) := funext fun i => by
  obtain ⟨h, r, rfl⟩ : ∃ h r, i = ix2 h r := ⟨i 0, i 1, eq_ix2 i⟩
  unfold val_main_v50 val_main_cst_10
  rw [arr_v49 H]; pointwise
  show @Eq EReal _ _
  first | rw [Given.l, ← coe_sum] | rw [Ideal.ofBits_zero, zero_add, Given.l, ← coe_sum]

theorem arr_v53 : (val_main_v53 (F := Ideal) x0 x1 x3 x4 : S8x4112x4224.Idx → EReal) = fun i => ((D.p (i 0) (i 1) (i 2) : ℝ) : EReal) := funext fun i => by
  obtain ⟨h, r, s, rfl⟩ : ∃ h r s, i = ix3 h r s := ⟨i 0, i 1, i 2, eq_ix3 i⟩
  unfold val_main_v53 val_main_v52 val_main_v51
  rw [arr_v49 H, arr_v50 H]; pointwise
  exact div_real _ _ (D.l_ne h r)

theorem arr_v56 : (val_main_v56 (F := Ideal) x0 x1 x3 x4 : S8x4112x1.Idx → EReal) = fun i => ((1 / (D.l (i 0) (i 1) * D.l (i 0) (i 1)) : ℝ) : EReal) := funext fun i => by
  obtain ⟨h, r, s, rfl⟩ : ∃ h r s, i = ix3 h r s := ⟨i 0, i 1, i 2, eq_ix3 i⟩
  unfold val_main_v56 val_main_v55 val_main_v54 val_main_v51 val_main_cst_11
  rw [arr_v50 H]; pointwise
  show @Eq EReal _ _
  rw [← EReal.coe_mul, ← EReal.coe_one]
  exact div_real _ _ (mul_ne_zero (D.l_ne h r) (D.l_ne h r))

theorem arr_v61 : (val_main_v61 (F := Ideal) x5 : S8x64x4112.Idx → EReal) = fun i => ((D.ct (i 2) (i 0) (i 1) : ℝ) : EReal) := funext fun i => by
  obtain ⟨h, r, s, rfl⟩ : ∃ h r s, i = ix3 h r s := ⟨i 0, i 1, i 2, eq_ix3 i⟩
  pointwise [val_main_v61, val_main_v60]
  refine Eq.trans (congrArg x5 ?_) (H.ct s h r)
  exact congrArg (ix2 s) (Fin.ext (by simp [hl]; try omega))

theorem arr_v62 : (val_main_v62 (F := Ideal) x2 x5 : S8x4112x4224.Idx → EReal) = fun i => ((D.g (i 0) (i 1) (i 2) : ℝ) : EReal) := funext fun i => by
  obtain ⟨h, r, s, rfl⟩ : ∃ h r s, i = ix3 h r s := ⟨i 0, i 1, i 2, eq_ix3 i⟩
  unfold val_main_v62
  rw [arr_v61 H]; pointwise
  show @Eq EReal _ _
  rw [Given.g, ← coe_sum]
  exact Finset.sum_congr rfl fun x _ => (congrArg (fun z : EReal => _ * z) (H.v s h x)).trans (EReal.coe_mul _ _).symm

theorem arr_v68 : (val_main_v68 (F := Ideal) x0 x1 x2 x3 x4 x5 : S8x4112.Idx → EReal) = fun i => ((∑ s, D.g (i 0) (i 1) s * (1 / (D.l (i 0) (i 1) * D.l (i 0) (i 1))) * D.e (i 0) (i 1) s : ℝ) : EReal) := funext fun i => by
  obtain ⟨h, r, rfl⟩ : ∃ h r, i = ix2 h r := ⟨i 0, i 1, eq_ix2 i⟩
  unfold val_main_v68 val_main_v67 val_main_v66 val_main_v65 val_main_cst_12
  rw [arr_v49 H, arr_v56 H, arr_v62 H]; pointwise
  show @Eq EReal _ _
  try rw [Ideal.ofBits_zero, zero_add]
  rw [← coe_sum]
  exact Finset.sum_congr rfl fun s _ => by rw [EReal.coe_mul, EReal.coe_mul]

theorem arr_v73 : (val_main_v73 (F := Ideal) x0 x1 x2 x3 x4 x5 : S8x4112.Idx → EReal) = fun i => ((-(∑ s, D.g (i 0) (i 1) s * (1 / (D.l (i 0) (i 1) * D.l (i 0) (i 1))) * D.e (i 0) (i 1) s) : ℝ) : EReal) := funext fun i => by
  obtain ⟨h, r, rfl⟩ : ∃ h r, i = ix2 h r := ⟨i 0, i 1, eq_ix2 i⟩
  unfold val_main_v73 val_main_v70 val_main_v69 val_main_cst_13
  rw [arr_v68 H]; pointwise
  show @Eq EReal _ _
  try rw [Ideal.ofBits_zero, zero_add]
  simp only [Fin.sum_univ_one, EReal.coe_neg]

/-- The cotangent of the scores. -/
theorem arr_v77 : (val_main_v77 (F := Ideal) x0 x1 x2 x3 x4 x5 : S8x4112x4224.Idx → EReal) = fun i => ((D.ds (i 0) (i 1) (i 2) : ℝ) : EReal) := funext fun i => by
  obtain ⟨h, r, s, rfl⟩ : ∃ h r s, i = ix3 h r s := ⟨i 0, i 1, i 2, eq_ix3 i⟩
  unfold val_main_v77 val_main_v76 val_main_v75 val_main_v74 val_main_v72 val_main_v71 val_main_v51 val_main_call1_v0 val_main_call1_cst
  rw [arr_v49 H, arr_v50 H, arr_v62 H, arr_v73 H]
  pointwise [val_main_v28_1, val_main_v27, val_main_v26, val_main_v25, val_main_v24, val_main_v23, val_main_v22, val_main_c_0, val_main_v21, val_main_v20, val_main_v19, val_main_v18, val_main_v17, val_main_v16, val_main_v15, val_main_v14, val_main_c, val_main_v13]
  rw [mask_word]
  by_cases hs : sees (up r) s = true
  · rw [if_pos hs]
    show @Eq EReal _ _
    rw [div_real _ _ (D.l_ne h r), ← EReal.coe_add, ← EReal.coe_mul, D.quot h r s]
  · rw [if_neg hs, D.ds_unseen h r s (by simpa using hs)]
    exact EReal.coe_zero.symm

theorem out_v97 (R : Fin 4224) (h : Fin 8) (x : Fin 64) :
    (val_main_v97 (F := Ideal) x0 x1 x2 x3 x4 x5 : S4224x512.Idx → EReal) (ix2 R (hl h x)) = ((atRow (fun r => ∑ s, D.ds h r s * D.k s h x) R : ℝ) : EReal) := by
  unfold val_main_v97 val_main_v96 val_main_v95 val_main_v94 val_main_v92 val_main_v91 val_main_v88 val_main_v87 val_main_cst_18 val_main_cst_20 val_main_cst_21
  rw [arr_v77 H]; pointwise
  have e1 : (⟨(hl h x).val / 64, by omega⟩ : Fin 8) = h := Fin.ext (by show (64 * h.val + x.val) / 64 = h.val; omega)
  have e2 : (⟨(hl h x).val % 64, by omega⟩ : Fin 64) = x := Fin.ext (by show (64 * h.val + x.val) % 64 = x.val; omega)
  have e3 : (hl h x).val / 64 < 8 ∧ (hl h x).val % 64 < 64 := by omega
  simp only [e1, e2, H.k, eighth, ← EReal.coe_mul, coe_sum]
  rcases rows_cases R with ⟨r, rfl⟩ | hR
  · have e4 : (⟨(up r).val - 112, by simp only [up_val]; omega⟩ : Fin 4112) = r := Fin.ext (by simp only [up_val]; omega)
    rw [dif_pos ⟨by simp only [up_val]; omega, e3⟩, e4, atRow_up]
    rw [div_real _ _ (by norm_num : (1 / 8 : ℝ) ≠ 0), Finset.sum_div]
    refine congrArg Real.toEReal (Finset.sum_congr rfl fun s _ => ?_)
    ring
  · rw [dif_neg (by omega), atRow_pad _ _ hR, ← EReal.coe_zero]
    rw [div_real _ _ (by norm_num : (1 / 8 : ℝ) ≠ 0), zero_div]

theorem out_v99 (R : Fin 4224) (h : Fin 8) (x : Fin 64) :
    (val_main_v99 (F := Ideal) x0 x1 x2 x3 x4 x5 : S4224x512.Idx → EReal) (ix2 R (hl h x)) = ((atRow (fun r => ∑ s, D.ds h r s) R : ℝ) : EReal) := by
  have e86 : (val_main_v86 (F := Ideal) x0 x1 x2 x3 x4 x5 : S4112x8.Idx → EReal) = fun i => ((∑ s, D.ds (i 1) (i 0) s : ℝ) : EReal) := funext fun i => by
    obtain ⟨r, h, rfl⟩ : ∃ r h, i = ix2 r h := ⟨i 0, i 1, eq_ix2 i⟩
    unfold val_main_v86 val_main_v85 val_main_v84 val_main_v83 val_main_cst_16 val_main_cst_17
    rw [arr_v77 H]; pointwise
    simp only [coe_sum, Fin.sum_univ_one]
  unfold val_main_v99 val_main_v98 val_main_v93 val_main_cst_19
  rw [e86]
  generalize hg : (fun r => ∑ s, D.ds h r s) = g
  have e1 : (⟨(hl h x).val / 64, by omega⟩ : Fin 8) = h := Fin.ext (by show (64 * h.val + x.val) / 64 = h.val; omega)
  have e3 : (hl h x).val / 64 < 8 := by omega
  pointwise
  simp only [e1]
  refine Eq.trans ?_ (rows_ite g R _ e3)
  rw [← hg]

theorem out_v100 (R : Fin 4224) (h : Fin 8) (x : Fin 64) :
    (val_main_v100 (F := Ideal) x0 x1 x2 x3 x4 x5 : S4224x512.Idx → EReal) (ix2 R (hl h x)) = ((∑ r : Fin 4112, D.ds h r R * (1 / 8) * D.q (up r) h x : ℝ) : EReal) := by
  unfold val_main_v100 val_main_v90 val_main_v89 val_main_v88 val_main_v87 val_main_cst_18 val_main_v0
  rw [arr_v77 H]; pointwise
  have e1 : (⟨(hl h x).val / 64, by omega⟩ : Fin 8) = h := Fin.ext (by show (64 * h.val + x.val) / 64 = h.val; omega)
  have e2 : (⟨(hl h x).val % 64, by omega⟩ : Fin 64) = x := Fin.ext (by show (64 * h.val + x.val) % 64 = x.val; omega)
  simp only [e1, e2, eighth]
  show @Eq EReal _ _
  refine Eq.trans (Finset.sum_congr rfl fun r _ => ?_) (coe_sum _)
  rw [EReal.coe_mul, EReal.coe_mul]
  exact congrArg (fun z : EReal => _ * z) (H.q (up r) h x)

theorem out_v101 (R : Fin 4224) (h : Fin 8) (x : Fin 64) :
    (val_main_v101 (F := Ideal) x0 x1 x3 x4 x5 : S4224x512.Idx → EReal) (ix2 R (hl h x)) = ((∑ r : Fin 4112, D.ct r h x * D.p h r R : ℝ) : EReal) := by
  unfold val_main_v101 val_main_v64 val_main_v63
  rw [arr_v61 H, arr_v53 H]; pointwise
  have e1 : (⟨(hl h x).val / 64, by omega⟩ : Fin 8) = h := Fin.ext (by show (64 * h.val + x.val) / 64 = h.val; omega)
  have e2 : (⟨(hl h x).val % 64, by omega⟩ : Fin 64) = x := Fin.ext (by show (64 * h.val + x.val) % 64 = x.val; omega)
  simp only [e1, e2, ← EReal.coe_mul, coe_sum]

theorem out_v104 (R : Fin 4224) (h : Fin 8) (x : Fin 64) :
    (val_main_v104 (F := Ideal) x0 x1 x2 x3 x4 x5 : S4224x512.Idx → EReal) (ix2 R (hl h x)) = ((∑ r : Fin 4112, D.ds h r R : ℝ) : EReal) := by
  unfold val_main_v104 val_main_v103 val_main_v102 val_main_v82 val_main_v81 val_main_v80 val_main_v79 val_main_v78 val_main_cst_14 val_main_cst_15
  rw [arr_v77 H]; pointwise
  have e1 : (⟨(hl h x).val / 64, by omega⟩ : Fin 8) = h := Fin.ext (by show (64 * h.val + x.val) / 64 = h.val; omega)
  have e2 : (⟨(hl h x).val % 64, by omega⟩ : Fin 64) = x := Fin.ext (by show (64 * h.val + x.val) % 64 = x.val; omega)
  simp only [e1, ← EReal.coe_neg, coe_sum]
  simp only [Fin.sum_univ_one, Finset.sum_neg_distrib, neg_neg]

end Cert.FoxRef

end
-- ==== Proof.FoxMatch.lean ====
/- The attention's backward call and the derivative of the attention: the same five results. -/
module

public import proofs.«01_k».proof.Proof.FoxMeans
public import proofs.«01_k».proof.Proof.FoxRef
public import proofs.«01_k».proof.Proof.Finite
public import proofs.«01_k».proof.Proof.Gen.FoxBwdRefIdeal.Run
public import proofs.«01_k».proof.Proof.Gen.Pre_finite_foxbwd
public import proofs.«01_k».proof.Defs
public import Idealize.ShloMosaic.Lib.Claim

@[expose] public section

set_option maxRecDepth 65536

noncomputable section

namespace Cert.FoxMatch

open Cert.Fox Cert.FoxRef Cert.Finite
open Idealize.ShloMosaic
open Idealize.ShloMosaic.TcCoe Idealize.ShloMosaic.Tactic

theorem frame_ref : Cert.quiescent_FoxBwdRefIdeal := fun m ρ _ =>
  (θ_run Cert.FoxBwdRefIdeal.defs _ _).mono (fun _ h => ⟨fun c => (h c).2.2.2.2.2, sem_eq_zero_of_no_sems (by decide) _⟩)
    (Cert.FoxBwdRefIdeal.Value.run m ρ)

theorem frame_ref_pre : Cert.quiescent_FoxBwdRefIdeal_pre_finite_foxbwd := fun m ρ _ => frame_ref m ρ trivial
theorem frame_pre : Cert.quiescent_FoxBwdIdeal_pre_finite_foxbwd := fun m ρ _ => frame_ideal m ρ trivial

/-- The name of the mask's constant stands for minus infinity. -/
theorem preserves : Cert.preserves_FoxBwd_FoxBwdIdeal := IdealRules.named_const.statement Cert.FoxBwdIdeal.κ "mask" .f32 0xF149F2CA#32 ⊥ rfl

/-- Each column of the cotangent belongs to a head. -/
theorem hl_split (d : Fin 512) : ∃ h x, d = hl h x := ⟨⟨d.val / 64, by omega⟩, ⟨d.val % 64, by omega⟩, Fin.ext (by show d.val = 64 * (d.val / 64) + d.val % 64; omega)⟩

/-- Arrays of real numbers are six arrays of reals. -/
theorem given_of {a0 a1 a2 : Cert.FoxBwdIdeal.S4224x8x64.Idx → EReal} {a3 a4 : Cert.FoxBwdIdeal.S4224x8.Idx → EReal} {a5 : Cert.FoxBwdIdeal.S4112x512.Idx → EReal}
    (h0 : ∀ i, ∃ r : ℝ, a0 i = r) (h1 : ∀ i, ∃ r : ℝ, a1 i = r) (h2 : ∀ i, ∃ r : ℝ, a2 i = r) (h3 : ∀ i, ∃ r : ℝ, a3 i = r) (h4 : ∀ i, ∃ r : ℝ, a4 i = r)
    (h5 : ∀ i, ∃ r : ℝ, a5 i = r) : ∃ D : Given, Holds a0 a1 a2 a3 a4 a5 D := by
  choose q hq using h0
  choose k hk using h1
  choose v hv using h2
  choose cq hcq using h3
  choose ck hck using h4
  choose ct hct using h5
  exact ⟨⟨fun R h x => q (ix3 R h x), fun R h x => k (ix3 R h x), fun R h x => v (ix3 R h x), fun R h => cq (ix2 R h), fun R h => ck (ix2 R h),
    fun r h x => ct (ix2 r (hl h x))⟩, ⟨fun R h x => hq _, fun R h x => hk _, fun R h x => hv _, fun R h => hcq _, fun R h => hck _, fun r h x => hct _⟩⟩

/-- The precondition: every argument is a real number. -/
theorem real_of_pre (m : (ℓ : Loc Cert.FoxBwdIdeal.nD Cert.FoxBwdIdeal.τ Cert.FoxBwdIdeal.sig) → Buf (Elt Ideal) ℓ) (hp : Cert.Pre_FoxBwdIdeal_finite_foxbwd m)
    (c : Dev Cert.FoxBwdIdeal.nD) : ∃ D : Given, HoldsK m c D := by
  have h := congrFun (hp c) (fun a => a.elim0)
  dsimp only [Cert.Pre_finite_foxbwd.fn, Cert.Pre_finite_foxbwd.fn_part1] at h
  obtain ⟨h, h6⟩ := and_one _ _ h
  obtain ⟨h, h5⟩ := and_one _ _ h
  obtain ⟨h, h4⟩ := and_one _ _ h
  obtain ⟨h, h3⟩ := and_one _ _ h
  obtain ⟨h1, h2⟩ := and_one _ _ h
  haveI : Subsingleton Cert.Pre_finite_foxbwd.S_.Idx := ⟨fun a b => funext fun i => i.elim0⟩
  exact given_of (real_of_all _ _ (fun _ => rfl) _ _ _ _ h1) (real_of_all _ _ (fun _ => rfl) _ _ _ _ h2) (real_of_all _ _ (fun _ => rfl) _ _ _ _ h3)
    (real_of_all _ _ (fun _ => rfl) _ _ _ _ h4) (real_of_all _ _ (fun _ => rfl) _ _ _ _ h5) (real_of_all _ _ (fun _ => rfl) _ _ _ _ h6)

section Values
open Cert.FoxBwdRefIdeal Cert.FoxBwdRefIdeal.Read

variable {m : (ℓ : Loc Cert.FoxBwdIdeal.nD Cert.FoxBwdIdeal.τ Cert.FoxBwdIdeal.sig) → Buf (Elt Ideal) ℓ} {c : Dev Cert.FoxBwdIdeal.nD}
variable {x0 x1 x2 : S4224x8x64.Idx → EReal} {x3 x4 : S4224x8.Idx → EReal} {x5 : S4112x512.Idx → EReal} {D : Given} (H : HoldsK m c D) (H' : Holds x0 x1 x2 x3 x4 x5 D)
include H H'

theorem val_dq : (val_main_v97 (F := Ideal) x0 x1 x2 x3 x4 x5 : S4224x512.Idx → EReal) = fun i => (whole m c).DQ (i 0) (i 1) := funext fun i => by
  obtain ⟨R, d, rfl⟩ : ∃ R d, i = ix2 R d := ⟨i 0, i 1, eq_ix2 i⟩
  obtain ⟨h, x, rfl⟩ := hl_split d
  exact (out_v97 H' R h x).trans (dq_real H R h x).symm

theorem val_dcq : (val_main_v99 (F := Ideal) x0 x1 x2 x3 x4 x5 : S4224x512.Idx → EReal) = fun i => (whole m c).DCQ (i 0) (i 1) := funext fun i => by
  obtain ⟨R, d, rfl⟩ : ∃ R d, i = ix2 R d := ⟨i 0, i 1, eq_ix2 i⟩
  obtain ⟨h, x, rfl⟩ := hl_split d
  exact (out_v99 H' R h x).trans (dcq_real H R h x).symm

theorem val_dk : (val_main_v100 (F := Ideal) x0 x1 x2 x3 x4 x5 : S4224x512.Idx → EReal) = fun i => (whole m c).DK (i 0) (i 1) := funext fun i => by
  obtain ⟨R, d, rfl⟩ : ∃ R d, i = ix2 R d := ⟨i 0, i 1, eq_ix2 i⟩
  obtain ⟨h, x, rfl⟩ := hl_split d
  exact (out_v100 H' R h x).trans (dk_real H R h x).symm

theorem val_dv : (val_main_v101 (F := Ideal) x0 x1 x3 x4 x5 : S4224x512.Idx → EReal) = fun i => (whole m c).DV (i 0) (i 1) := funext fun i => by
  obtain ⟨R, d, rfl⟩ : ∃ R d, i = ix2 R d := ⟨i 0, i 1, eq_ix2 i⟩
  obtain ⟨h, x, rfl⟩ := hl_split d
  exact (out_v101 H' R h x).trans (dv_real H R h x).symm

theorem val_dck : (val_main_v104 (F := Ideal) x0 x1 x2 x3 x4 x5 : S4224x512.Idx → EReal) = fun i => (whole m c).DCK (i 0) (i 1) := funext fun i => by
  obtain ⟨R, d, rfl⟩ : ∃ R d, i = ix2 R d := ⟨i 0, i 1, eq_ix2 i⟩
  obtain ⟨h, x, rfl⟩ := hl_split d
  exact (out_v104 H' R h x).trans (dck_real H R h x).symm

end Values

/-- The call's results as functions of its memory. -/
def dq (m : (ℓ : Loc Cert.FoxBwdIdeal.nD Cert.FoxBwdIdeal.τ Cert.FoxBwdIdeal.sig) → Buf (Elt Ideal) ℓ) (c : Dev Cert.FoxBwdIdeal.nD) : Cert.FoxBwdIdeal.S4224x512.Idx → EReal :=
  fun i => (whole m c).DQ (i 0) (i 1)
def dcq (m : (ℓ : Loc Cert.FoxBwdIdeal.nD Cert.FoxBwdIdeal.τ Cert.FoxBwdIdeal.sig) → Buf (Elt Ideal) ℓ) (c : Dev Cert.FoxBwdIdeal.nD) : Cert.FoxBwdIdeal.S4224x512.Idx → EReal :=
  fun i => (whole m c).DCQ (i 0) (i 1)
def dk (m : (ℓ : Loc Cert.FoxBwdIdeal.nD Cert.FoxBwdIdeal.τ Cert.FoxBwdIdeal.sig) → Buf (Elt Ideal) ℓ) (c : Dev Cert.FoxBwdIdeal.nD) : Cert.FoxBwdIdeal.S4224x512.Idx → EReal :=
  fun i => (whole m c).DK (i 0) (i 1)
def dv (m : (ℓ : Loc Cert.FoxBwdIdeal.nD Cert.FoxBwdIdeal.τ Cert.FoxBwdIdeal.sig) → Buf (Elt Ideal) ℓ) (c : Dev Cert.FoxBwdIdeal.nD) : Cert.FoxBwdIdeal.S4224x512.Idx → EReal :=
  fun i => (whole m c).DV (i 0) (i 1)
def dck (m : (ℓ : Loc Cert.FoxBwdIdeal.nD Cert.FoxBwdIdeal.τ Cert.FoxBwdIdeal.sig) → Buf (Elt Ideal) ℓ) (c : Dev Cert.FoxBwdIdeal.nD) : Cert.FoxBwdIdeal.S4224x512.Idx → EReal :=
  fun i => (whole m c).DCK (i 0) (i 1)

set_option maxHeartbeats 1000000 in
open Cert.FoxBwdRefIdeal.Read in
theorem algebraic : Cert.algebraic_FoxBwdIdeal_FoxBwdRefIdeal_pre_finite_foxbwd := by
  intro m g m' g' hp hagree
  refine ⟨fun c => dq m c, fun c => dcq m c, fun c => dk m c, fun c => dv m c, fun c => dck m c,
    (θ_run Cert.FoxBwdIdeal.defs _ _).mono (fun r h c => ?_) (run_values m g),
    (θ_run Cert.FoxBwdRefIdeal.defs _ _).mono (fun r h c => ?_) (Cert.FoxBwdRefIdeal.Value.run m' g')⟩
  · obtain ⟨h0, h1, h2, h3, h4⟩ := h.1.1 c
    exact ⟨h0, h1, h2, h3, h4, h.1.2 c⟩
  · obtain ⟨h0, h1, h2, h3, h4, ha⟩ := h c
    obtain ⟨e0, e1, e2, e3, e4, e5⟩ := hagree c
    obtain ⟨D, H⟩ := real_of_pre m hp c
    refine ⟨h0.trans ((val_main_v97_eq m' c).trans ?_), h1.trans ((val_main_v99_eq m' c).trans ?_), h2.trans ((val_main_v100_eq m' c).trans ?_),
      h3.trans ((val_main_v101_eq m' c).trans ?_), h4.trans ((val_main_v104_eq m' c).trans ?_), ha⟩
    · rw [e0, e1, e2, e3, e4, e5]; exact val_dq H H
    · rw [e0, e1, e2, e3, e4, e5]; exact val_dcq H H
    · rw [e0, e1, e2, e3, e4, e5]; exact val_dk H H
    · rw [e0, e1, e3, e4, e5]; exact val_dv H H
    · rw [e0, e1, e2, e3, e4, e5]; exact val_dck H H

end Cert.FoxMatch

end
-- ==== Proof.Sigmoid.lean ====
/- The sigmoid as the kernels write it, with a hyperbolic tangent, and as the derivative of the forward lines has it, with an exponential;
   the gradients of a gate and of a gated unit in the two forms. -/
module

public import proofs.«01_k».proof.Proof.Common
public import Mathlib.Analysis.SpecialFunctions.Trigonometric.DerivHyp

@[expose] public section

set_option maxRecDepth 16384

noncomputable section

namespace Cert.Sigmoid

open Idealize.ShloMosaic Cert.Common

theorem half_narrow : Ideal.ofBits .bf16 0x3F00#16 = ((1 / 2 : ℝ) : EReal) := by
  simp [Ideal.ofBits, Ideal.ieee, -EReal.coe_mul]; norm_num

/-- The sigmoid of a real number. -/
def sig (x : ℝ) : ℝ := 1 / (1 + Real.exp (-x))

/-- The kernels' form. -/
def sigK (x : EReal) : EReal := Ideal.ofBits .f32 0x3F000000#32 * Ideal.tanh (Ideal.ofBits .f32 0x3F000000#32 * x) + Ideal.ofBits .f32 0x3F000000#32

/-- The forward lines' form. -/
def sigR (x : EReal) : EReal := Ideal.div 1 (1 + Ideal.exp (-x))

theorem sigK_coe (x : ℝ) : sigK x = ((sig x : ℝ) : EReal) := by
  unfold sigK sig
  rw [half, ← EReal.coe_mul, Ideal.tanh_coe, ← EReal.coe_mul, ← EReal.coe_add]
  congr 1
  have hp := Real.exp_pos (1 / 2 * x)
  have hn := Real.exp_pos (-(1 / 2 * x))
  have he : Real.exp (-x) = Real.exp (-(1 / 2 * x)) / Real.exp (1 / 2 * x) := by
    rw [← Real.exp_sub]; congr 1; ring
  rw [Real.tanh_eq_sinh_div_cosh, Real.sinh_eq, Real.cosh_eq, he]
  field_simp
  ring

theorem sigR_coe (x : ℝ) : sigR x = ((sig x : ℝ) : EReal) := by
  have hp := Real.exp_pos (-x)
  unfold sigR sig
  rw [← EReal.coe_neg, Ideal.exp_coe, ← EReal.coe_one, ← EReal.coe_add, Ideal.div_coe (by positivity), ← EReal.coe_mul, one_mul]

/-- The gate side's gradient of `silu g * u`, the cotangent `d`. -/
def gateGrad (g u d : EReal) : EReal := d * u * (sigK g * (1 + g * (1 - sigK g)))

/-- The other side's. -/
def upGrad (g d : EReal) : EReal := d * (g * sigK g)

theorem gateGrad_eq {g u d : EReal} (hg : ∃ r : ℝ, g = r) (hu : ∃ r : ℝ, u = r) (hd : ∃ r : ℝ, d = r) :
    d * u * sigR g + g * (d * u) * (sigR g * (1 - sigR g)) = gateGrad g u d := by
  obtain ⟨g, rfl⟩ := hg
  obtain ⟨u, rfl⟩ := hu
  obtain ⟨d, rfl⟩ := hd
  unfold gateGrad
  rw [sigK_coe, sigR_coe, ← EReal.coe_one]
  simp only [← EReal.coe_mul, ← EReal.coe_sub, ← EReal.coe_add]
  congr 1
  ring

theorem upGrad_eq {g d : EReal} (hg : ∃ r : ℝ, g = r) : g * sigR g * d = upGrad g d := by
  obtain ⟨g, rfl⟩ := hg
  unfold upGrad
  rw [sigK_coe, sigR_coe, mul_comm]

/-- The two forms agree at the infinities too. -/
theorem sig_eq (g : EReal) : sigR g = sigK g := by
  induction g with
  | bot =>
    unfold sigR sigK
    rw [half, EReal.coe_mul_bot_of_pos (by norm_num), EReal.neg_bot]
    show Ideal.div 1 (1 + (⊤ : EReal)) = ((1 / 2 : ℝ) : EReal) * (-1 : EReal) + ((1 / 2 : ℝ) : EReal)
    rw [show (-1 : EReal) = ((-1 : ℝ) : EReal) by norm_num, ← EReal.coe_mul, ← EReal.coe_add]
    rw [show (1 : EReal) + ⊤ = ⊤ from rfl]
    simp [Ideal.div]
  | top =>
    unfold sigR sigK
    rw [half, EReal.coe_mul_top_of_pos (by norm_num), EReal.neg_top]
    show Ideal.div 1 (1 + (0 : EReal)) = ((1 / 2 : ℝ) : EReal) * (1 : EReal) + ((1 / 2 : ℝ) : EReal)
    rw [add_zero, mul_one, ← EReal.coe_add, ← EReal.coe_one, Ideal.div_coe (by norm_num), ← EReal.coe_mul]
    norm_num
  | coe x => rw [sigK_coe, sigR_coe]

/-! ### Two slabs stored one after the other -/

/-- A block of two slabs, each stored whole. -/
theorem slabs {e : EltTy} {Val : EltTy → Type} [∀ e, Nonempty (Val e)] {n1 n2 : ℕ}
    (inb1 : ∀ a, (![1, 0, 0] : Fin 3 → ℕ) a + (![1, n1, n2] : Fin 3 → ℕ) a ≤ (⟨3, ![2, n1, n2]⟩ : Shape).size a)
    (inb0 : ∀ a, (![0, 0, 0] : Fin 3 → ℕ) a + (![1, n1, n2] : Fin 3 → ℕ) a ≤ (⟨3, ![2, n1, n2]⟩ : Shape).size a)
    (z1 z0 : (⟨3, ![1, n1, n2]⟩ : Shape).Idx → Val e) (s : Fin 2) (p : Fin n1) (l : Fin n2) :
    View.canon (Val := Val) [⟨Rect.unit (s := ⟨3, ![2, n1, n2]⟩) ![1, 0, 0] ![1, n1, n2] inb1, z1⟩,
        ⟨Rect.unit (s := ⟨3, ![2, n1, n2]⟩) ![0, 0, 0] ![1, n1, n2] inb0, z0⟩] (ix3 s p l)
      = if s.val = 0 then z0 (ix3 0 p l) else z1 (ix3 0 p l) := by
  have h0 : ix3 (0 : Fin 2) p l = (Rect.unit (s := ⟨3, ![2, n1, n2]⟩) ![0, 0, 0] ![1, n1, n2] inb0).emb (ix3 (0 : Fin 1) p l) := by
    funext a; fin_cases a <;> exact Fin.ext (by simp [Rect.emb, Rect.unit])
  have h1 : ix3 (1 : Fin 2) p l = (Rect.unit (s := ⟨3, ![2, n1, n2]⟩) ![1, 0, 0] ![1, n1, n2] inb1).emb (ix3 (0 : Fin 1) p l) := by
    funext a; fin_cases a <;> exact Fin.ext (by simp [Rect.emb, Rect.unit])
  fin_cases s
  · show View.canon _ (ix3 (0 : Fin 2) p l) = z0 _
    refine (View.canon_cons_of_not_mem _ _ ?_).trans ?_
    · rw [Rect.mem_set_unit]
      intro hall
      exact absurd (hall 0).1 (by simp)
    · rw [h0]
      exact View.canon_cons_emb _ _ _ _
  · show View.canon _ (ix3 (1 : Fin 2) p l) = z1 _
    rw [h1]
    exact View.canon_cons_emb _ _ _ _

end Cert.Sigmoid
end
-- ==== Proof.FfnMidValue.lean ====
/- The gradient of the feed-forward's gated unit: what the kernel's result holds. -/
module

public import proofs.«01_k».proof.Proof.Gen.FfnMidIdeal.Value
public import proofs.«01_k».proof.Proof.Sigmoid
public import Idealize.ShloMosaic.Lib.Claim

@[expose] public section

set_option maxRecDepth 2000

noncomputable section

namespace Cert.FfnMidIdeal.Value

open Cert.FfnMidIdeal Cert.FfnMidIdeal.Gen Cert.Common Cert.Sigmoid Idealize.ShloMosaic Idealize.ShloMosaic.TcCoe Idealize.SL.Sem

variable (m : (ℓ : Loc nD τ sig) → Buf (Elt Ideal) ℓ) (ρ : Dev nD → PrngReg)

theorem pt (t : Fin cfg0.N) : t.val < 22 := Nat.lt_of_lt_of_eq t.isLt N_0

/-- A point's rows, and its columns. -/
def row (t : Fin cfg0.N) (q : Fin 384) : Fin 4224 := ⟨384 * (t.val % 11) + q.val, by omega⟩
def col (t : Fin cfg0.N) (l : Fin 1408) : Fin 2816 := ⟨1408 * (t.val / 11) + l.val, by have := pt t; omega⟩

theorem idx0 : ∀ t : Fin cfg0.N, win0_0.index t = ![t.val % 11, 0] := (by decide +kernel : ∀ t : Fin grid0.N, _)
theorem idx1 : ∀ t : Fin cfg0.N, win0_1.index t = ![t.val / 11, 0] := (by decide +kernel : ∀ t : Fin grid0.N, _)
theorem idx2 : ∀ t : Fin cfg0.N, win0_2.index t = ![0, t.val % 11, t.val / 11] := (by decide +kernel : ∀ t : Fin grid0.N, _)
theorem idx3 : ∀ t : Fin cfg0.N, win0_3.index t = ![0, t.val % 11, t.val / 11] := (by decide +kernel : ∀ t : Fin grid0.N, _)

variable (c : Dev nD) (t : Fin cfg0.N)

/-! ### The payloads at an index -/

theorem pay2_apply (x : Vec Ideal S384x1024 .bf16) (w : Vec Ideal S1408x1024 .bf16) (p : Fin 384) (l : Fin 1408) :
    k0_pay2 (F := Ideal) x w (ix2 p l) = ∑ k : Fin 1024, x (ix2 p k) * Ideal.ofBits .bf16 0x3F00#16 * w (ix2 l k) := by
  pointwise [k0_pay2]

theorem pay3_apply (x : Vec Ideal S1x384x1408 .bf16) (p : Fin 384) (l : Fin 1408) : k0_pay3 (F := Ideal) x (ix2 p l) = x (ix3 0 p l) := by
  pointwise [k0_pay3]

theorem pay4_apply (x : Vec Ideal S1x384x1408 .bf16) (p : Fin 384) (l : Fin 1408) : k0_pay4 (F := Ideal) x (ix2 p l) = sigK (x (ix3 0 p l)) := by
  pointwise [k0_pay4]
  rw [pay3_apply]
  rfl

theorem pay5_apply (x : Vec Ideal S384x1024 .bf16) (w : Vec Ideal S1408x1024 .bf16) (g u : Vec Ideal S1x384x1408 .bf16) (p : Fin 384) (l : Fin 1408) :
    k0_pay5 (F := Ideal) x w g u (ix3 0 p l) = gateGrad (g (ix3 0 p l)) (u (ix3 0 p l)) (k0_pay2 (F := Ideal) x w (ix2 p l)) := by
  pointwise [k0_pay5]
  rw [pay3_apply, pay4_apply]
  rfl

theorem pay6_apply (x : Vec Ideal S384x1024 .bf16) (w : Vec Ideal S1408x1024 .bf16) (g : Vec Ideal S1x384x1408 .bf16) (p : Fin 384) (l : Fin 1408) :
    k0_pay1 (F := Ideal) (k0_pay6 (F := Ideal) x w g) (ix3 0 p l) = upGrad (g (ix3 0 p l)) (k0_pay2 (F := Ideal) x w (ix2 p l)) := by
  pointwise [k0_pay1, k0_pay6]
  rw [pay3_apply, pay4_apply]
  rfl

/-! ### The blocks a point reads -/

abbrev argA : S4224x1024.Idx → EReal := m ((c : Thread nD τ).loc main_arg0)
abbrev argW : S1024x5632.Idx → EReal := m ((c : Thread nD τ).loc main_arg1)
abbrev argO : S2816x1024.Idx → EReal := m ((c : Thread nD τ).loc main_arg2)
abbrev argD : S4224x1024.Idx → EReal := m ((c : Thread nD τ).loc main_arg3)

/-- The first product: its two halves are the gate and the other side. -/
def unit (r : Fin 4224) (l : Fin 5632) : EReal := ∑ k : Fin 1024, argA m c (ix2 r k) * argW m c (ix2 k l)

/-- The cotangent of the gated unit. -/
def cot (r : Fin 4224) (l : Fin 2816) : EReal := ∑ k : Fin 1024, argD m c (ix2 r k) * Ideal.ofBits .bf16 0x3F00#16 * argO m c (ix2 l k)

theorem V6_apply (s : Fin 2) (r : Fin 4224) (l : Fin 2816) : V m c main_v6 (ix3 s r l) = unit m c r ⟨s.val * 2816 + l.val, by omega⟩ := by
  entry_read
  pointwise
  have hs : s.val < 2 := s.isLt
  split
  · exact congrArg (unit m c r) (Fin.ext (by show l.val = s.val * 2816 + l.val; omega))
  · exact congrArg (unit m c r) (Fin.ext (by show 2816 + l.val = s.val * 2816 + l.val; omega))

theorem V7_apply (r : Fin 4224) (k : Fin 1024) : V m c main_v7 (ix2 r k) = argD m c (ix2 r k) := by
  entry_read
  rfl

theorem V8_apply (l : Fin 2816) (k : Fin 1024) : V m c main_v8 (ix2 l k) = argO m c (ix2 l k) := by
  entry_read
  rfl

theorem b0 (p : Fin 384) (k : Fin 1024) : iblk m c 0 t (ix2 p k) = argD m c (ix2 (row t p) k) :=
  (congrArg (V m c main_v7) (by blk_ext [idx0, row] : ((cfg0.win 0).blk t).view.emb (ix2 p k) = ix2 (row t p) k)).trans (V7_apply m c _ k)

theorem b1 (l : Fin 1408) (k : Fin 1024) : iblk m c 1 t (ix2 l k) = argO m c (ix2 (col t l) k) :=
  (congrArg (V m c main_v8) (by blk_ext [idx1, col] : ((cfg0.win 1).blk t).view.emb (ix2 l k) = ix2 (col t l) k)).trans (V8_apply m c _ k)

theorem b2 (s : Fin 2) (p : Fin 384) (l : Fin 1408) :
    iblk m c 2 t (ix3 s p l) = unit m c (row t p) ⟨s.val * 2816 + (col t l).val, by omega⟩ :=
  (congrArg (V m c main_v6) (by blk_ext [idx2, row, col] : ((cfg0.win 2).blk t).view.emb (ix3 s p l) = ix3 s (row t p) (col t l))).trans (V6_apply m c s _ _)

/-! ### The result -/

def gradU : S2x4224x2816.Idx → EReal := fun i =>
  if (i 0).val = 0 then gateGrad (unit m c (i 1) ⟨(i 2).val, by have : (i 2).val < 2816 := (i 2).isLt; omega⟩)
      (unit m c (i 1) ⟨2816 + (i 2).val, by have : (i 2).val < 2816 := (i 2).isLt; omega⟩) (cot m c (i 1) (i 2))
  else upGrad (unit m c (i 1) ⟨(i 2).val, by have : (i 2).val < 2816 := (i 2).isLt; omega⟩) (cot m c (i 1) (i 2))

theorem place3 (y : S2x384x1408.Idx) : ((cfg0.win 3).blk t).view.emb y = ix3 (y 0) (row t (y 1)) (col t (y 2)) := by
  blk_ext [idx3, row, col]

theorem cot_eq (p : Fin 384) (l : Fin 1408) : k0_pay2 (F := Ideal) (View.ld (iblk m c 0 t) r0_0) (View.ld (iblk m c 1 t) r0_1) (ix2 p l)
    = cot m c (row t p) (col t l) := by
  refine (pay2_apply _ _ p l).trans (Finset.sum_congr rfl fun k _ => ?_)
  exact congrArg₂ (fun a b : EReal => a * Ideal.ofBits .bf16 0x3F00#16 * b)
    ((View.ld_unit_apply_of _ _ _ _ _ (ix2 p k) (by intro a; fin_cases a <;> simp)).trans (b0 m c t p k))
    ((View.ld_unit_apply_of _ _ _ _ _ (ix2 l k) (by intro a; fin_cases a <;> simp)).trans (b1 m c t l k))

theorem gate_eq (p : Fin 384) (l : Fin 1408) : View.ld (iblk m c 2 t) r0_2 (ix3 0 p l) = unit m c (row t p) ⟨(col t l).val, by omega⟩ := by
  refine (View.ld_unit_apply_of _ _ _ _ _ (ix3 0 p l) (by intro a; fin_cases a <;> simp)).trans ((b2 m c t 0 p l).trans ?_)
  exact congrArg (unit m c (row t p)) (Fin.ext (by simp))

theorem up_eq (p : Fin 384) (l : Fin 1408) : View.ld (iblk m c 2 t) r0_3 (ix3 0 p l) = unit m c (row t p) ⟨2816 + (col t l).val, by omega⟩ := by
  refine (View.ld_unit_apply_of _ _ _ _ _ (ix3 1 p l) (by intro a; fin_cases a <;> simp)).trans ((b2 m c t 1 p l).trans ?_)
  exact congrArg (unit m c (row t p)) (Fin.ext (by simp))

theorem final3 : (dats m 0 c).arrAt 3 cfg0.N = gradU m c := by
  refine (dats m 0 c).arrAt_eq_of_covers 3 _ (by decide +kernel) fun t hf y => ?_
  rw [place3]
  blk_simp
  rw [after0_3]
  unfold out0_3
  refine (congrArg _ (eq_ix3 y)).trans ((slabs _ _ _ _ (y 0) (y 1) (y 2)).trans ?_)
  show _ = gradU m c (ix3 (y 0) (row t (y 1)) (col t (y 2)))
  unfold gradU
  refine if_congr Iff.rfl ?_ ?_
  · exact (pay5_apply _ _ _ _ (y 1) (y 2)).trans
      (congr (congr (congrArg gateGrad (gate_eq m c t (y 1) (y 2))) (up_eq m c t (y 1) (y 2))) (cot_eq m c t (y 1) (y 2)))
  · exact (pay6_apply _ _ _ (y 1) (y 2)).trans
      (congr (congrArg upGrad (gate_eq m c t (y 1) (y 2))) (cot_eq m c t (y 1) (y 2)))

end Cert.FfnMidIdeal.Value
end
-- ==== Proof.FfnMidMatch.lean ====
/- The gradient of the feed-forward's gated unit: the reference's result is the kernel's. -/
module

public import proofs.«01_k».proof.Proof.FfnMidValue
public import proofs.«01_k».proof.Proof.Finite
public import proofs.«01_k».proof.Proof.Gen.Pre_finite_ffnmid
public import proofs.«01_k».proof.Proof.Gen.FfnMidRefIdeal.Run
public import proofs.«01_k».proof.Proof.Gen.FfnMidRefIdeal.Read
public import proofs.«01_k».proof.Defs
public import Idealize.ShloMosaic.Lib.Claim

@[expose] public section

set_option maxRecDepth 2000

noncomputable section

namespace Cert.FfnMidMatch

open Cert.FfnMidRefIdeal Cert.FfnMidRefIdeal.Gen Cert.FfnMidRefIdeal.Read Cert.Common Cert.Sigmoid Cert.Finite Idealize.ShloMosaic Idealize.ShloMosaic.TcCoe
open Idealize.SL.Sem

variable (a : S4224x1024.Idx → EReal) (w : S1024x5632.Idx → EReal) (o : S2816x1024.Idx → EReal) (d : S4224x1024.Idx → EReal)

def unit (r : Fin 4224) (l : Fin 5632) : EReal := ∑ k : Fin 1024, a (ix2 r k) * w (ix2 k l)
def cot (r : Fin 4224) (l : Fin 2816) : EReal := ∑ k : Fin 1024, Ideal.ofBits .f32 0x3F000000#32 * d (ix2 r k) * o (ix2 l k)

theorem v0_apply (r : Fin 4224) (l : Fin 5632) : val_main_v0 (F := Ideal) a w (ix2 r l) = unit a w r l := by
  pointwise [val_main_v0]
  rfl

theorem v1_apply (r : Fin 4224) (l : Fin 2816) : val_main_v1 (F := Ideal) a w (ix2 r l) = unit a w r ⟨l.val, by omega⟩ := by
  rw [val_main_v1_apply]
  refine (congrArg _ ?_).trans (v0_apply a w r ⟨l.val, by omega⟩)
  funext b; fin_cases b <;> exact Fin.ext (by simp [idx_main_v1])

theorem v2_apply (r : Fin 4224) (l : Fin 2816) : val_main_v2 (F := Ideal) a w (ix2 r l) = unit a w r ⟨2816 + l.val, by omega⟩ := by
  rw [val_main_v2_apply]
  refine (congrArg _ ?_).trans (v0_apply a w r ⟨2816 + l.val, by omega⟩)
  funext b; fin_cases b <;> exact Fin.ext (by simp [idx_main_v2])

theorem v3_2_apply (r : Fin 4224) (l : Fin 2816) : val_main_v3_2 (F := Ideal) a w (ix2 r l) = sigR (unit a w r ⟨l.val, by omega⟩) := by
  pointwise [val_main_v3_2, val_main_call0_v4, val_main_call0_cst_0, val_main_call0_v3, val_main_call0_v2, val_main_call0_cst, val_main_call0_v1, val_main_call0_v0]
  rw [v1_apply]
  rfl

theorem v10_apply (r : Fin 4224) (l : Fin 2816) : val_main_v10 (F := Ideal) o d (ix2 r l) = cot o d r l := by
  pointwise [val_main_v10, val_main_v9, val_main_v8, val_main_cst_0]
  rfl

theorem v11_apply (ha : ∀ i, ∃ r : ℝ, a i = r) (hw : ∀ i, ∃ r : ℝ, w i = r) (r : Fin 4224) (l : Fin 2816) :
    val_main_v11 (F := Ideal) a w o d (ix2 r l) = upGrad (unit a w r ⟨l.val, by omega⟩) (cot o d r l) := by
  rw [val_main_v11_apply, val_main_v3_0_apply, v1_apply, v3_2_apply, v10_apply]
  exact upGrad_eq (real_sum _ _ fun q _ => real_mul (ha _) (hw _))

theorem v13_apply (ha : ∀ i, ∃ r : ℝ, a i = r) (hw : ∀ i, ∃ r : ℝ, w i = r) (ho : ∀ i, ∃ r : ℝ, o i = r) (hd : ∀ i, ∃ r : ℝ, d i = r)
    (r : Fin 4224) (l : Fin 2816) :
    val_main_v13 (F := Ideal) a w o d (ix2 r l) = gateGrad (unit a w r ⟨l.val, by omega⟩) (unit a w r ⟨2816 + l.val, by omega⟩) (cot o d r l) := by
  pointwise [val_main_v13, val_main_call1_v1, val_main_call1_v2, val_main_call1_v0, val_main_v3_1, val_main_call0_v7, val_main_call0_v6, val_main_call0_cst_1,
    val_main_v12]
  rw [v1_apply, v2_apply, v3_2_apply, v10_apply]
  exact gateGrad_eq (real_sum _ _ fun q _ => real_mul (ha _) (hw _)) (real_sum _ _ fun q _ => real_mul (ha _) (hw _))
    (real_sum _ _ fun q _ => real_mul (real_mul ⟨_, half⟩ (hd _)) (ho _))

theorem v20_apply (ha : ∀ i, ∃ r : ℝ, a i = r) (hw : ∀ i, ∃ r : ℝ, w i = r) (ho : ∀ i, ∃ r : ℝ, o i = r) (hd : ∀ i, ∃ r : ℝ, d i = r)
    (s : Fin 2) (r : Fin 4224) (l : Fin 2816) (z : EReal) (hz : cot o d r l = z) : val_main_v20 (F := Ideal) a w o d (ix3 s r l)
      = if s.val = 0 then gateGrad (unit a w r ⟨l.val, by omega⟩) (unit a w r ⟨2816 + l.val, by omega⟩) z
        else upGrad (unit a w r ⟨l.val, by omega⟩) z := by
  pointwise [val_main_v20, val_main_v19, val_main_v18, val_main_v17, val_main_v16, val_main_v15, val_main_v14]
  rw [v11_apply a w o d ha hw, v13_apply a w o d ha hw ho hd, hz]
  by_cases h : s.val < 1
  · rw [dif_pos h, if_pos (by omega)]
  · rw [dif_neg h, if_neg (by omega)]

theorem cot_eq (r : Fin 4224) (l : Fin 2816) : cot o d r l = ∑ k : Fin 1024, d (ix2 r k) * Ideal.ofBits .bf16 0x3F00#16 * o (ix2 l k) := by
  unfold cot
  rw [half, half_narrow]
  exact Finset.sum_congr rfl fun k _ => congrArg (· * o (ix2 l k)) (mul_comm _ _)

/-! ### The claims -/

theorem frame_ref : Cert.quiescent_FfnMidRefIdeal := fun m ρ _ =>
  (θ_run Cert.FfnMidRefIdeal.defs _ _).mono (fun _ h => ⟨fun c => (h c).2, sem_eq_zero_of_no_sems (by decide) _⟩)
    (Cert.FfnMidRefIdeal.Value.run m ρ)

theorem frame_ref_pre : Cert.quiescent_FfnMidRefIdeal_pre_finite_ffnmid := fun m ρ _ => frame_ref m ρ trivial

/-- The precondition: the four arguments are real numbers. -/
theorem real_of_pre (m : (ℓ : Loc Cert.FfnMidIdeal.nD Cert.FfnMidIdeal.τ Cert.FfnMidIdeal.sig) → Buf (Elt Ideal) ℓ) (hp : Cert.Pre_FfnMidIdeal_finite_ffnmid m)
    (c : Dev Cert.FfnMidIdeal.nD) :
    (∀ i, ∃ r : ℝ, Cert.FfnMidIdeal.Value.argA m c i = r) ∧ (∀ i, ∃ r : ℝ, Cert.FfnMidIdeal.Value.argW m c i = r)
      ∧ (∀ i, ∃ r : ℝ, Cert.FfnMidIdeal.Value.argO m c i = r) ∧ (∀ i, ∃ r : ℝ, Cert.FfnMidIdeal.Value.argD m c i = r) := by
  have h := congrFun (hp c) (fun a => a.elim0)
  dsimp only [Cert.Pre_finite_ffnmid.fn, Cert.Pre_finite_ffnmid.fn_part1] at h
  obtain ⟨h, h4⟩ := and_one _ _ h
  obtain ⟨h, h3⟩ := and_one _ _ h
  obtain ⟨h1, h2⟩ := and_one _ _ h
  haveI : Subsingleton Cert.Pre_finite_ffnmid.S_.Idx := ⟨fun a b => funext fun i => i.elim0⟩
  exact ⟨real_of_all _ _ (fun _ => rfl) _ _ _ _ h1, real_of_all _ _ (fun _ => rfl) _ _ _ _ h2, real_of_all _ _ (fun _ => rfl) _ _ _ _ h3,
    real_of_all _ _ (fun _ => rfl) _ _ _ _ h4⟩

set_option maxRecDepth 65536 in
open Cert.FfnMidIdeal.Value in
theorem algebraic : Cert.algebraic_FfnMidIdeal_FfnMidRefIdeal_pre_finite_ffnmid := by
  intro m g m' g' hp hagree
  refine ⟨fun c => gradU m c,
    (θ_run Cert.FfnMidIdeal.defs _ _).mono (fun r h c => ?_) (run_blocks m g),
    (θ_run Cert.FfnMidRefIdeal.defs _ _).mono (fun r h c => ?_) (Cert.FfnMidRefIdeal.Value.run m' g')⟩
  · obtain ⟨h3, ha⟩ := h c
    exact ⟨h3.trans (final3 m c), ha⟩
  · obtain ⟨h3, ha⟩ := h c
    obtain ⟨e0, e1, e2, e3⟩ := hagree c
    obtain ⟨r0, r1, r2, r3⟩ := real_of_pre m hp c
    have q : val_main_v20 (F := Ideal) (argA m c) (argW m c) (argO m c) (argD m c) = gradU m c := by
      funext i
      exact (congrArg _ (eq_ix3 i)).trans (v20_apply _ _ _ _ r0 r1 r2 r3 (i 0) (i 1) (i 2) _ (cot_eq _ _ _ _))
    refine ⟨h3.trans ((val_main_v20_eq _ _).trans ?_), ha⟩
    rw [e0, e1, e2, e3]; exact q

end Cert.FfnMidMatch
end
-- ==== Proof.GateParts.lean ====
/- The two gates and the two branches, as functions of the mixer's arrays. -/
module

public import proofs.«01_k».proof.Proof.Sigmoid
public import proofs.«01_k».proof.Proof.Mixed

@[expose] public section

noncomputable section

namespace Cert.GateParts

open Cert.Common Cert.Sigmoid Cert.Mixed Idealize.ShloMosaic

variable (proj : (⟨2, ![4224, 4360]⟩ : Shape).Idx → EReal) (o : (⟨2, ![4224, 512]⟩ : Shape).Idx → EReal) (w : (⟨2, ![512, 1024]⟩ : Shape).Idx → EReal)

/-- A branch: its attention's result times its matrix. -/
def branch (r : Fin 4224) (l : Fin 1024) : EReal := ∑ k : Fin 512, o (ix2 r k) * w (ix2 k l)

/-- The logits of the gates in the columns from `s` on. -/
def logit (s : Fin 3337) (r : Fin 4224) (l : Fin 1024) : EReal := proj (ix2 r ⟨s.val + l.val, by omega⟩)

/-- The sigmoid of the gates in the columns from `s` on. -/
def gate (s : Fin 3337) (r : Fin 4224) (l : Fin 1024) : EReal := sigK (logit proj s r l)

/-- The columns where the two gates begin. -/
def gF : Fin 3337 := ⟨2312, by decide⟩
def gS : Fin 3337 := ⟨3336, by decide⟩

/-- The gates are the mixed columns' first. -/
theorem mixed_gate (s : Fin 3337) (hs : 2312 ≤ s.val) (r : Fin 4224) (l : Fin 1024) (k : Fin 4480) (hk : k.val = s.val - 2312 + l.val) :
    mixed (fun q => proj (ix2 r q)) k = logit proj s r l := by
  unfold mixed
  rw [dif_pos (by omega)]
  exact congrArg (fun z => proj (ix2 r z)) (Fin.ext (by simp; omega))

end Cert.GateParts
end
-- ==== Proof.GateValue.lean ====
/- The gradient of the two gated branches: what the kernel's seven results hold. -/
module

public import proofs.«01_k».proof.Proof.Gen.GateBwdIdeal.Value
public import proofs.«01_k».proof.Proof.GateParts
public import Idealize.ShloMosaic.Lib.Claim
public import Idealize.ShloMosaic.Lib.StableHlo.RunRead

@[expose] public section

set_option maxRecDepth 2000

noncomputable section

namespace Cert.GateBwdIdeal.Value

open Cert.GateBwdIdeal Cert.GateBwdIdeal.Gen Cert.GateParts Cert.Mixed Cert.Common Cert.Sigmoid Idealize.ShloMosaic Idealize.ShloMosaic.TcCoe Idealize.SL.Sem

/-! ### The results as functions of the arguments -/

section Parts

variable (proj : S4224x4360.Idx → EReal) (o : S4224x512.Idx → EReal) (w : S512x1024.Idx → EReal) (u : S1024x1024.Idx → EReal) (ct : S4224x1024.Idx → EReal)

/-- The cotangent of the gated sum. -/
def dSum (r : Fin 4224) (l : Fin 1024) : EReal := ∑ k : Fin 1024, ct (ix2 r k) * u (ix2 l k)

/-- The gradient of a branch. -/
def dBranch (s : Fin 3337) (r : Fin 4224) (l : Fin 1024) : EReal := dSum u ct r l * gate proj s r l

/-- The gradient of a branch's gate. -/
def dGate (s : Fin 3337) (r : Fin 4224) (l : Fin 1024) : EReal :=
  dSum u ct r l * branch o w r l * (gate proj s r l * (1 - gate proj s r l))

/-- The gradient of a branch's attention's result. -/
def dAtt (s : Fin 3337) (r : Fin 4224) (k : Fin 512) : EReal := ∑ l : Fin 1024, dBranch proj u ct s r l * w (ix2 k l)

end Parts

variable (m : (ℓ : Loc nD τ sig) → Buf (Elt Ideal) ℓ) (ρ : Dev nD → PrngReg)

theorem pt (t : Fin cfg0.N) : t.val < 11 := Nat.lt_of_lt_of_eq t.isLt N_0

def row (t : Fin cfg0.N) (q : Fin 384) : Fin 4224 := ⟨384 * t.val + q.val, by have := pt t; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 1] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![0, t.val] := (by decide +kernel : ∀ t : Fin grid0.N, _)
theorem idx14 : ∀ t : Fin cfg0.N, win0_14.index t = ![t.val, 0] := (by decide +kernel : ∀ t : Fin grid0.N, _)

variable (c : Dev nD) (t : Fin cfg0.N)

/-! ### The payloads at an index -/

theorem pay6_apply (d : Vec Ideal S384x1024 .bf16) (u : Vec Ideal S1024x1024 .bf16) (p : Fin 384) (l : Fin 1024) :
    k0_pay6 (F := Ideal) d u (ix2 p l) = ∑ k : Fin 1024, d (ix2 p k) * u (ix2 l k) := by
  pointwise [k0_pay6]

theorem pay7_apply (g : Vec Ideal S384x1024 .f32) (p : Fin 384) (l : Fin 1024) : k0_pay7 (F := Ideal) g (ix2 p l) = sigK (g (ix2 p l)) := by
  pointwise [k0_pay7]
  rfl

theorem pay8_apply (g : Vec Ideal S384x1024 .f32) (p : Fin 384) (l : Fin 1024) : k0_pay8 (F := Ideal) g (ix2 p l) = sigK (g (ix2 p l)) := by
  pointwise [k0_pay8]
  rfl

theorem pay9_apply (d : Vec Ideal S384x1024 .bf16) (u : Vec Ideal S1024x1024 .bf16) (g : Vec Ideal S384x1024 .f32) (p : Fin 384) (l : Fin 1024) :
    k0_pay9 (F := Ideal) d u g (ix2 p l) = k0_pay6 (F := Ideal) d u (ix2 p l) * sigK (g (ix2 p l)) := by
  pointwise [k0_pay9]
  rw [pay7_apply]

theorem pay10_apply (d : Vec Ideal S384x1024 .bf16) (u : Vec Ideal S1024x1024 .bf16) (g : Vec Ideal S384x1024 .f32) (p : Fin 384) (l : Fin 1024) :
    k0_pay10 (F := Ideal) d u g (ix2 p l) = k0_pay6 (F := Ideal) d u (ix2 p l) * sigK (g (ix2 p l)) := by
  pointwise [k0_pay10]
  rw [pay8_apply]

/-- A gate's gradient from the block's own parts. -/
def gateOf (d b s : EReal) : EReal := d * b * (s * (1 - s))

theorem pay1_apply (d : Vec Ideal S384x1024 .bf16) (u : Vec Ideal S1024x1024 .bf16) (b : Vec Ideal S384x1024 .bf16) (g : Vec Ideal S384x1024 .f32)
    (p : Fin 384) (l : Fin 1024) :
    k0_pay1 (F := Ideal) (k0_pay7 (F := Ideal) g) (k0_pay11 (F := Ideal) d u b) (k0_pay12 (F := Ideal) g) (ix2 p l)
      = gateOf (k0_pay6 (F := Ideal) d u (ix2 p l)) (b (ix2 p l)) (sigK (g (ix2 p l))) := by
  pointwise [k0_pay1, k0_pay11, k0_pay12]
  rw [pay7_apply]
  rfl

theorem pay2_apply (d : Vec Ideal S384x1024 .bf16) (u : Vec Ideal S1024x1024 .bf16) (b : Vec Ideal S384x1024 .bf16) (g : Vec Ideal S384x1024 .f32)
    (p : Fin 384) (l : Fin 1024) :
    k0_pay2 (F := Ideal) (k0_pay6 (F := Ideal) d u) (k0_pay8 (F := Ideal) g) b (ix2 p l)
      = gateOf (k0_pay6 (F := Ideal) d u (ix2 p l)) (b (ix2 p l)) (sigK (g (ix2 p l))) := by
  pointwise [k0_pay2]
  rw [pay8_apply]
  rfl

theorem pay3_apply (d : FVec Ideal S384x1024 .bf16) (w : Vec Ideal S512x1024 .bf16) (p : Fin 384) (k : Fin 512) :
    k0_pay3 (F := Ideal) d w (ix2 p k) = ∑ l : Fin 1024, d (ix2 p l) * w (ix2 k l) := by
  pointwise [k0_pay3]

theorem pay4_apply (d : FVec Ideal S384x1024 .bf16) (w : Vec Ideal S512x1024 .bf16) (k : Fin 512) (p : Fin 384) :
    k0_pay4 (F := Ideal) d w (ix2 k p) = k0_pay3 (F := Ideal) d w (ix2 p k) := by
  pointwise [k0_pay4]

theorem pay5_apply (d : FVec Ideal S384x1024 .bf16) (w : Vec Ideal S512x1024 .bf16) (p : Fin 384) (k : Fin 512) :
    k0_pay5 (F := Ideal) d w (ix2 p k) = ∑ l : Fin 1024, d (ix2 p l) * w (ix2 k l) := by
  pointwise [k0_pay5]

/-! ### The blocks a point reads -/

abbrev argP : S4224x4360.Idx → EReal := m ((c : Thread nD τ).loc main_arg0)
abbrev argF : S4224x512.Idx → EReal := m ((c : Thread nD τ).loc main_arg1)
abbrev argS : S4224x512.Idx → EReal := m ((c : Thread nD τ).loc main_arg2)
abbrev argWF : S512x1024.Idx → EReal := m ((c : Thread nD τ).loc main_arg3)
abbrev argWS : S512x1024.Idx → EReal := m ((c : Thread nD τ).loc main_arg4)
abbrev argU : S1024x1024.Idx → EReal := m ((c : Thread nD τ).loc main_arg5)
abbrev argC : S4224x1024.Idx → EReal := m ((c : Thread nD τ).loc main_arg6)

theorem V1_apply (r : Fin 4224) (l : Fin 1024) : V m c main_v1 (ix2 r l) = branch (argF m c) (argWF m c) r l := by
  entry_read
  pointwise
  rfl

theorem V3_apply (r : Fin 4224) (l : Fin 1024) : V m c main_v3 (ix2 r l) = branch (argS m c) (argWS m c) r l := by
  entry_read
  pointwise
  rfl

theorem V4_apply (r : Fin 4224) (l : Fin 1024) : V m c main_v4 (ix2 r l) = argC m c (ix2 r l) := by
  entry_read
  rfl

theorem V5_apply (r : Fin 1024) (l : Fin 1024) : V m c main_v5 (ix2 r l) = argU m c (ix2 r l) := by
  entry_read
  rfl

theorem V12_apply (k : Fin 512) (l : Fin 1024) : V m c main_v12 (ix2 k l) = argWF m c (ix2 k l) := by
  entry_read
  rfl

theorem V13_apply (k : Fin 512) (l : Fin 1024) : V m c main_v13 (ix2 k l) = argWS m c (ix2 k l) := by
  entry_read
  rfl

theorem V11_apply (r : Fin 4224) (k : Fin 4480) : V m c main_v11 (ix2 r k) = mixed (fun q => argP m c (ix2 r q)) k := by
  unfold V
  after_reads_simp
  refine concat_mixed _ _ _ _ _ concatenates_S4224x2048_S4224x1536_S4224x768_S4224x8_S4224x120_S4224x4480_d1 _ _ ?_ ?_ ?_ ?_ ?_ k <;> intro q
  · show StableHlo.upto hostOps0 (fun b => m (c, b)) 12 (Proc.devRef .tc main_v6) (ix2 r q) = _
    after_reads_simp
    exact congrArg (argP m c) (funext fun a => by fin_cases a <;> exact Fin.ext (by simp))
  · show StableHlo.upto hostOps0 (fun b => m (c, b)) 12 (Proc.devRef .tc main_v7) (ix2 r q) = _
    after_reads_simp
    exact congrArg (argP m c) (funext fun a => by fin_cases a <;> exact Fin.ext (by simp))
  · show StableHlo.upto hostOps0 (fun b => m (c, b)) 12 (Proc.devRef .tc main_v8) (ix2 r q) = _
    after_reads_simp
    exact congrArg (argP m c) (funext fun a => by fin_cases a <;> exact Fin.ext (by simp))
  · show StableHlo.upto hostOps0 (fun b => m (c, b)) 12 (Proc.devRef .tc main_v9) (ix2 r q) = _
    after_reads_simp
    exact congrArg (argP m c) (funext fun a => by fin_cases a <;> exact Fin.ext (by simp))
  · show StableHlo.upto hostOps0 (fun b => m (c, b)) 12 (Proc.devRef .tc main_v10) (ix2 r q) = _
    after_reads_simp
    exact Ideal.ofBits_zero .f32

theorem b0 (p : Fin 384) (k : Fin 1024) : iblk m c 0 t (ix2 p k) = argC m c (ix2 (row t p) k) :=
  (congrArg (V m c main_v4) (by blk_ext [idx0, row] : ((cfg0.win 0).blk t).view.emb (ix2 p k) = ix2 (row t p) k)).trans (V4_apply m c _ k)

theorem b1 (l : Fin 1024) (k : Fin 1024) : iblk m c 1 t (ix2 l k) = argU m c (ix2 l k) :=
  (congrArg (V m c main_v5) (by blk_ext [idx1] : ((cfg0.win 1).blk t).view.emb (ix2 l k) = ix2 l k)).trans (V5_apply m c _ k)

theorem b2 (p : Fin 384) (l : Fin 1024) : iblk m c 2 t (ix2 p l) = branch (argF m c) (argWF m c) (row t p) l :=
  (congrArg (V m c main_v1) (by blk_ext [idx2, row] : ((cfg0.win 2).blk t).view.emb (ix2 p l) = ix2 (row t p) l)).trans (V1_apply m c _ l)

theorem b3 (p : Fin 384) (l : Fin 1024) : iblk m c 3 t (ix2 p l) = branch (argS m c) (argWS m c) (row t p) l :=
  (congrArg (V m c main_v3) (by blk_ext [idx3, row] : ((cfg0.win 3).blk t).view.emb (ix2 p l) = ix2 (row t p) l)).trans (V3_apply m c _ l)

theorem b6 (k : Fin 512) (l : Fin 1024) : iblk m c 6 t (ix2 k l) = argWF m c (ix2 k l) :=
  (congrArg (V m c main_v12) (by blk_ext [idx6] : ((cfg0.win 6).blk t).view.emb (ix2 k l) = ix2 k l)).trans (V12_apply m c k l)

theorem b7 (k : Fin 512) (l : Fin 1024) : iblk m c 7 t (ix2 k l) = argWS m c (ix2 k l) :=
  (congrArg (V m c main_v13) (by blk_ext [idx7] : ((cfg0.win 7).blk t).view.emb (ix2 k l) = ix2 k l)).trans (V13_apply m c k l)

theorem b4 (p : Fin 384) (l : Fin 1024) : X0_4 m c t (ix2 p l) = logit (argP m c) gF (row t p) l := by
  refine (dif_pos (moved0_4 t (ix2 p l))).trans ?_
  refine Eq.trans (congrArg (V m c main_v11) (?_ : _ = ix2 (row t p) ⟨l.val, by omega⟩)) ((V11_apply m c _ _).trans (mixed_gate _ gF (by decide) _ _ _ (by simp [gF])))
  blk_ext [idx4, row]

theorem b5 (p : Fin 384) (l : Fin 1024) : X0_5 m c t (ix2 p l) = logit (argP m c) gS (row t p) l := by
  refine (dif_pos (moved0_5 t (ix2 p l))).trans ?_
  refine Eq.trans (congrArg (V m c main_v11) (?_ : _ = ix2 (row t p) ⟨1024 + l.val, by omega⟩)) ((V11_apply m c _ _).trans (mixed_gate _ gS (by decide) _ _ _ (by simp [gS])))
  blk_ext [idx5, row]

/-! ### The results -/

theorem dSum_eq (p : Fin 384) (l : Fin 1024) : k0_pay6 (F := Ideal) (iblk m c 0 t) (iblk m c 1 t) (ix2 p l) = dSum (argU m c) (argC m c) (row t p) l :=
  (pay6_apply _ _ p l).trans (Finset.sum_congr rfl fun k _ => congrArg₂ (fun a b : EReal => a * b) (b0 m c t p k) (b1 m c t l k))

theorem dBranchF (p : Fin 384) (l : Fin 1024) : k0_pay9 (F := Ideal) (iblk m c 0 t) (iblk m c 1 t) (X0_4 m c t) (ix2 p l)
    = dBranch (argP m c) (argU m c) (argC m c) gF (row t p) l :=
  (pay9_apply _ _ _ p l).trans (congrArg₂ (fun a b : EReal => a * b) (dSum_eq m c t p l) (congrArg sigK (b4 m c t p l)))

theorem dBranchS (p : Fin 384) (l : Fin 1024) : k0_pay10 (F := Ideal) (iblk m c 0 t) (iblk m c 1 t) (X0_5 m c t) (ix2 p l)
    = dBranch (argP m c) (argU m c) (argC m c) gS (row t p) l :=
  (pay10_apply _ _ _ p l).trans (congrArg₂ (fun a b : EReal => a * b) (dSum_eq m c t p l) (congrArg sigK (b5 m c t p l)))

theorem dAttF (p : Fin 384) (k : Fin 512) : k0_pay3 (F := Ideal) (k0_pay9 (F := Ideal) (iblk m c 0 t) (iblk m c 1 t) (X0_4 m c t)) (iblk m c 6 t) (ix2 p k)
    = dAtt (argP m c) (argWF m c) (argU m c) (argC m c) gF (row t p) k :=
  (pay3_apply _ _ p k).trans (Finset.sum_congr rfl fun l _ => congrArg₂ (fun a b : EReal => a * b) (dBranchF m c t p l) (b6 m c t k l))

def place (y : S384x1024.Idx) : S4224x1024.Idx := ix2 (row t (y 0)) (y 1)
theorem place8 (y : S384x1024.Idx) : ((cfg0.win 8).blk t).view.emb y = place t y := by blk_ext [idx8, place, row]
theorem place9 (y : S384x1024.Idx) : ((cfg0.win 9).blk t).view.emb y = place t y := by blk_ext [idx9, place, row]
theorem place10 (y : S384x1024.Idx) : ((cfg0.win 10).blk t).view.emb y = place t y := by blk_ext [idx10, place, row]
theorem place11 (y : S384x1024.Idx) : ((cfg0.win 11).blk t).view.emb y = place t y := by blk_ext [idx11, place, row]

def thin (y : S384x512.Idx) : S4224x512.Idx := ix2 (row t (y 0)) (y 1)
theorem place12 (y : S384x512.Idx) : ((cfg0.win 12).blk t).view.emb y = thin t y := by blk_ext [idx12, thin, row]
theorem place14 (y : S384x512.Idx) : ((cfg0.win 14).blk t).view.emb y = thin t y := by blk_ext [idx14, thin, row]

def flat (y : S512x384.Idx) : S512x4224.Idx := ix2 (y 0) (row t (y 1))
theorem place13 (y : S512x384.Idx) : ((cfg0.win 13).blk t).view.emb y = flat t y := by blk_ext [idx13, flat, row]

theorem final8 : (dats m 0 c).arrAt 8 cfg0.N = fun i => dBranch (argP m c) (argU m c) (argC m c) gF (i 0) (i 1) := by
  refine (dats m 0 c).arrAt_eq_of_covers 8 _ (by decide +kernel) fun t hf y => ?_
  rw [place8]
  blk_simp
  rw [after0_8]
  unfold outsAt0
  frame_out
  exact (congrArg _ (eq_ix2 y)).trans (dBranchF m c t (y 0) (y 1))

theorem final9 : (dats m 0 c).arrAt 9 cfg0.N = fun i => dBranch (argP m c) (argU m c) (argC m c) gS (i 0) (i 1) := by
  refine (dats m 0 c).arrAt_eq_of_covers 9 _ (by decide +kernel) fun t hf y => ?_
  rw [place9]
  blk_simp
  rw [after0_9]
  unfold outsAt0
  frame_out
  exact (congrArg _ (eq_ix2 y)).trans (dBranchS m c t (y 0) (y 1))

theorem final10 : (dats m 0 c).arrAt 10 cfg0.N = fun i => dGate (argP m c) (argF m c) (argWF m c) (argU m c) (argC m c) gF (i 0) (i 1) := by
  refine (dats m 0 c).arrAt_eq_of_covers 10 _ (by decide +kernel) fun t hf y => ?_
  rw [place10]
  blk_simp
  rw [after0_10]
  unfold outsAt0
  frame_out
  have q := congr (congr (congrArg gateOf (dSum_eq m c t (y 0) (y 1))) (b2 m c t (y 0) (y 1))) (congrArg sigK (b4 m c t (y 0) (y 1)))
  exact (congrArg _ (eq_ix2 y)).trans ((pay1_apply _ _ _ _ (y 0) (y 1)).trans q)

theorem final11 : (dats m 0 c).arrAt 11 cfg0.N = fun i => dGate (argP m c) (argS m c) (argWS m c) (argU m c) (argC m c) gS (i 0) (i 1) := by
  refine (dats m 0 c).arrAt_eq_of_covers 11 _ (by decide +kernel) fun t hf y => ?_
  rw [place11]
  blk_simp
  rw [after0_11]
  unfold outsAt0
  frame_out
  have q := congr (congr (congrArg gateOf (dSum_eq m c t (y 0) (y 1))) (b3 m c t (y 0) (y 1))) (congrArg sigK (b5 m c t (y 0) (y 1)))
  exact (congrArg _ (eq_ix2 y)).trans ((pay2_apply _ _ _ _ (y 0) (y 1)).trans q)

theorem final12 : (dats m 0 c).arrAt 12 cfg0.N = fun i => dAtt (argP m c) (argWF m c) (argU m c) (argC m c) gF (i 0) (i 1) := by
  refine (dats m 0 c).arrAt_eq_of_covers 12 _ (by decide +kernel) fun t hf y => ?_
  rw [place12]
  blk_simp
  rw [after0_12]
  unfold outsAt0
  frame_out
  exact (congrArg _ (eq_ix2 y)).trans (dAttF m c t (y 0) (y 1))

theorem final13 : (dats m 0 c).arrAt 13 cfg0.N = fun i => dAtt (argP m c) (argWF m c) (argU m c) (argC m c) gF (i 1) (i 0) := by
  refine (dats m 0 c).arrAt_eq_of_covers 13 _ (by decide +kernel) fun t hf y => ?_
  rw [place13]
  blk_simp
  rw [after0_13]
  unfold outsAt0
  frame_out
  exact (congrArg _ (eq_ix2 y)).trans ((pay4_apply _ _ (y 0) (y 1)).trans (dAttF m c t (y 1) (y 0)))

theorem final14 : (dats m 0 c).arrAt 14 cfg0.N = fun i => dAtt (argP m c) (argWS m c) (argU m c) (argC m c) gS (i 0) (i 1) := by
  refine (dats m 0 c).arrAt_eq_of_covers 14 _ (by decide +kernel) fun t hf y => ?_
  rw [place14]
  blk_simp
  rw [after0_14]
  unfold outsAt0
  frame_out
  exact (congrArg _ (eq_ix2 y)).trans ((pay5_apply _ _ (y 0) (y 1)).trans
    (Finset.sum_congr rfl fun l _ => congrArg₂ (fun a b : EReal => a * b) (dBranchS m c t (y 0) l) (b7 m c t (y 1) l)))

end Cert.GateBwdIdeal.Value
end
-- ==== Proof.GateMatch.lean ====
/- The gradient of the two gated branches: the reference's results are the kernel's. -/
module

public import proofs.«01_k».proof.Proof.GateValue
public import proofs.«01_k».proof.Proof.Gen.GateBwdRefIdeal.Run
public import proofs.«01_k».proof.Proof.Gen.GateBwdRefIdeal.Read
public import proofs.«01_k».proof.Defs
public import Idealize.ShloMosaic.Lib.Claim

@[expose] public section

set_option maxRecDepth 2000

noncomputable section

namespace Cert.GateMatch

open Cert.GateBwdRefIdeal Cert.GateBwdRefIdeal.Gen Cert.GateBwdRefIdeal.Read Cert.Common Cert.Sigmoid Cert.GateParts Idealize.ShloMosaic Idealize.ShloMosaic.TcCoe
open Idealize.SL.Sem
open Cert.GateBwdIdeal.Value (dSum dBranch dGate dAtt)

variable (x0 : S4224x4360.Idx → EReal) (x1 x2 : S4224x512.Idx → EReal) (x3 x4 : S512x1024.Idx → EReal) (x5 : S1024x1024.Idx → EReal) (x6 : S4224x1024.Idx → EReal)

theorem v0_apply (r : Fin 4224) (l : Fin 1024) : val_main_v0 (F := Ideal) x1 x3 (ix2 r l) = branch x1 x3 r l := by
  pointwise [val_main_v0]
  rfl

theorem v1_apply (r : Fin 4224) (l : Fin 1024) : val_main_v1 (F := Ideal) x2 x4 (ix2 r l) = branch x2 x4 r l := by
  pointwise [val_main_v1]
  rfl

theorem v27_apply (r : Fin 4224) (l : Fin 1024) : val_main_v27 (F := Ideal) x5 x6 (ix2 r l) = dSum x5 x6 r l := by
  pointwise [val_main_v27]
  rfl

theorem v3_apply (r : Fin 4224) (l : Fin 1024) : val_main_v3 (F := Ideal) x0 (ix2 r l) = logit x0 gF r l := by
  rw [val_main_v3_apply, val_main_v2_apply]
  refine congrArg x0 ?_
  funext b; fin_cases b <;> exact Fin.ext (by simp [idx_main_v3, idx_main_v2, gF])

theorem v4_apply (r : Fin 4224) (l : Fin 1024) : val_main_v4 (F := Ideal) x0 (ix2 r l) = logit x0 gS r l := by
  rw [val_main_v4_apply, val_main_v2_apply]
  refine congrArg x0 ?_
  funext b; fin_cases b <;> exact Fin.ext (by simp [idx_main_v4, idx_main_v2, gS] <;> omega)

theorem v10_apply (r : Fin 4224) (l : Fin 1024) : val_main_v10 (F := Ideal) x0 (ix2 r l) = gate x0 gF r l := by
  unfold gate
  rw [← sig_eq]
  pointwise [val_main_v10, val_main_v9, val_main_cst_0, val_main_v8, val_main_v7, val_main_cst, val_main_v6, val_main_v5]
  rw [v3_apply]
  rfl

theorem v20_apply (r : Fin 4224) (l : Fin 1024) : val_main_v20 (F := Ideal) x0 (ix2 r l) = gate x0 gS r l := by
  unfold gate
  rw [← sig_eq]
  pointwise [val_main_v20, val_main_v19, val_main_cst_3, val_main_v18, val_main_v17, val_main_cst_2, val_main_v16, val_main_v15]
  rw [v4_apply]
  rfl

theorem v31_apply (r : Fin 4224) (l : Fin 1024) : val_main_v31 (F := Ideal) x0 x5 x6 (ix2 r l) = dBranch x0 x5 x6 gF r l := by
  rw [val_main_v31_apply, v10_apply, v27_apply]
  exact mul_comm _ _

theorem v28_apply (r : Fin 4224) (l : Fin 1024) : val_main_v28 (F := Ideal) x0 x5 x6 (ix2 r l) = dBranch x0 x5 x6 gS r l := by
  rw [val_main_v28_apply, v20_apply, v27_apply]
  exact mul_comm _ _

theorem v33_apply (r : Fin 4224) (l : Fin 1024) : val_main_v33 (F := Ideal) x0 x1 x3 x5 x6 (ix2 r l) = dGate x0 x1 x3 x5 x6 gF r l := by
  pointwise [val_main_v33, val_main_v32, val_main_v13, val_main_v12, val_main_v11, val_main_cst_1]
  rw [v10_apply, v27_apply, v0_apply]
  rfl

theorem v30_apply (r : Fin 4224) (l : Fin 1024) : val_main_v30 (F := Ideal) x0 x2 x4 x5 x6 (ix2 r l) = dGate x0 x2 x4 x5 x6 gS r l := by
  pointwise [val_main_v30, val_main_v29, val_main_v23, val_main_v22, val_main_v21, val_main_cst_4]
  rw [v20_apply, v27_apply, v1_apply]
  rfl

theorem v35_apply (r : Fin 4224) (k : Fin 512) : val_main_v35 (F := Ideal) x0 x3 x5 x6 (ix2 r k) = dAtt x0 x3 x5 x6 gF r k := by
  pointwise [val_main_v35]
  exact Finset.sum_congr rfl fun l _ => congrArg (· * x3 (ix2 k l)) (v31_apply x0 x5 x6 r l)

theorem v34_apply (r : Fin 4224) (k : Fin 512) : val_main_v34 (F := Ideal) x0 x4 x5 x6 (ix2 r k) = dAtt x0 x4 x5 x6 gS r k := by
  pointwise [val_main_v34]
  exact Finset.sum_congr rfl fun l _ => congrArg (· * x4 (ix2 k l)) (v28_apply x0 x5 x6 r l)

/-! ### The results -/

theorem v36_fun : val_main_v36 (F := Ideal) x0 x5 x6 = fun i => dBranch x0 x5 x6 gF (i 0) (i 1) := by
  funext i
  exact (congrArg _ (eq_ix2 i)).trans (v31_apply x0 x5 x6 (i 0) (i 1))

theorem v37_fun : val_main_v37 (F := Ideal) x0 x5 x6 = fun i => dBranch x0 x5 x6 gS (i 0) (i 1) := by
  funext i
  exact (congrArg _ (eq_ix2 i)).trans (v28_apply x0 x5 x6 (i 0) (i 1))

theorem v38_fun : val_main_v38 (F := Ideal) x0 x1 x3 x5 x6 = fun i => dGate x0 x1 x3 x5 x6 gF (i 0) (i 1) := by
  funext i
  exact (congrArg _ (eq_ix2 i)).trans (v33_apply x0 x1 x3 x5 x6 (i 0) (i 1))

theorem v39_fun : val_main_v39 (F := Ideal) x0 x2 x4 x5 x6 = fun i => dGate x0 x2 x4 x5 x6 gS (i 0) (i 1) := by
  funext i
  exact (congrArg _ (eq_ix2 i)).trans (v30_apply x0 x2 x4 x5 x6 (i 0) (i 1))

theorem v35_fun : val_main_v35 (F := Ideal) x0 x3 x5 x6 = fun i => dAtt x0 x3 x5 x6 gF (i 0) (i 1) := by
  funext i
  exact (congrArg _ (eq_ix2 i)).trans (v35_apply x0 x3 x5 x6 (i 0) (i 1))

theorem v41_apply (k : Fin 512) (r : Fin 4224) : val_main_v41 (F := Ideal) x0 x3 x5 x6 (ix2 k r) = dAtt x0 x3 x5 x6 gF r k := by
  pointwise [val_main_v41, val_main_v40]
  exact v35_apply x0 x3 x5 x6 r k

theorem v41_fun : val_main_v41 (F := Ideal) x0 x3 x5 x6 = fun i => dAtt x0 x3 x5 x6 gF (i 1) (i 0) := by
  funext i
  exact (congrArg _ (eq_ix2 i)).trans (v41_apply x0 x3 x5 x6 (i 0) (i 1))

theorem v34_fun : val_main_v34 (F := Ideal) x0 x4 x5 x6 = fun i => dAtt x0 x4 x5 x6 gS (i 0) (i 1) := by
  funext i
  exact (congrArg _ (eq_ix2 i)).trans (v34_apply x0 x4 x5 x6 (i 0) (i 1))

/-! ### The claims -/

theorem frame_ref : Cert.quiescent_GateBwdRefIdeal := fun m ρ _ =>
  (θ_run Cert.GateBwdRefIdeal.defs _ _).mono (fun _ h => ⟨fun c => (h c).2.2.2.2.2.2.2, sem_eq_zero_of_no_sems (by decide) _⟩)
    (Cert.GateBwdRefIdeal.Value.run m ρ)

set_option maxRecDepth 65536 in
open Cert.GateBwdIdeal.Value in
theorem algebraic : Cert.algebraic_GateBwdIdeal_GateBwdRefIdeal := by
  intro m g m' g' hp hagree
  refine ⟨fun c i => dBranch (argP m c) (argU m c) (argC m c) gF (i 0) (i 1), fun c i => dBranch (argP m c) (argU m c) (argC m c) gS (i 0) (i 1),
    fun c i => dGate (argP m c) (argF m c) (argWF m c) (argU m c) (argC m c) gF (i 0) (i 1),
    fun c i => dGate (argP m c) (argS m c) (argWS m c) (argU m c) (argC m c) gS (i 0) (i 1),
    fun c i => dAtt (argP m c) (argWF m c) (argU m c) (argC m c) gF (i 0) (i 1), fun c i => dAtt (argP m c) (argWF m c) (argU m c) (argC m c) gF (i 1) (i 0),
    fun c i => dAtt (argP m c) (argWS m c) (argU m c) (argC m c) gS (i 0) (i 1),
    (θ_run Cert.GateBwdIdeal.defs _ _).mono (fun r h c => ?_) (run_blocks m g),
    (θ_run Cert.GateBwdRefIdeal.defs _ _).mono (fun r h c => ?_) (Cert.GateBwdRefIdeal.Value.run m' g')⟩
  · obtain ⟨h8, h9, h10, h11, h12, h13, h14, ha⟩ := h c
    exact ⟨h8.trans (final8 m c), h9.trans (final9 m c), h10.trans (final10 m c), h11.trans (final11 m c), h12.trans (final12 m c),
      h13.trans (final13 m c), h14.trans (final14 m c), ha⟩
  · obtain ⟨h8, h9, h10, h11, h12, h13, h14, ha⟩ := h c
    obtain ⟨e0, e1, e2, e3, e4, e5, e6⟩ := hagree c
    refine ⟨h8.trans ((val_main_v36_eq _ _ _).trans ?_), h9.trans ((val_main_v37_eq _ _ _).trans ?_), h10.trans ((val_main_v38_eq _ _ _ _ _).trans ?_),
      h11.trans ((val_main_v39_eq _ _ _ _ _).trans ?_), h12.trans ((val_main_v35_eq _ _ _ _).trans ?_), h13.trans ((val_main_v41_eq _ _ _ _).trans ?_),
      h14.trans ((val_main_v34_eq _ _ _ _).trans ?_), ha⟩
    · rw [e0, e5, e6]; exact v36_fun _ _ _
    · rw [e0, e5, e6]; exact v37_fun _ _ _
    · rw [e0, e1, e3, e5, e6]; exact v38_fun _ _ _ _ _
    · rw [e0, e2, e4, e5, e6]; exact v39_fun _ _ _ _ _
    · rw [e0, e3, e5, e6]; exact v35_fun _ _ _ _
    · rw [e0, e3, e5, e6]; exact v41_fun _ _ _ _
    · rw [e0, e4, e5, e6]; exact v34_fun _ _ _ _

end Cert.GateMatch
end
-- ==== Proof.RmsFwdValue.lean ====
/- The normalised rows: what the kernel's two results hold. -/
module

public import proofs.«01_k».proof.Proof.Gen.RmsFwdIdeal.Value
public import proofs.«01_k».proof.Proof.Norm
public import proofs.«01_k».proof.Proof.Common
public import Idealize.ShloMosaic.Lib.Claim

@[expose] public section

set_option maxRecDepth 2000

noncomputable section

namespace Cert.RmsFwdIdeal.Value

open Cert.RmsFwdIdeal Cert.RmsFwdIdeal.Gen Cert.Common Cert.Norm Idealize.ShloMosaic Idealize.ShloMosaic.TcCoe Idealize.SL.Sem

/-- A row over its root mean square, times the scale. -/
def normed (x g : Fin 1024 → EReal) (l : Fin 1024) : EReal := x l * inv x * g l

/-- The normalised rows. -/
def rows (h : S4224x1024.Idx → EReal) (g : S1024.Idx → EReal) (r : Fin 4224) (l : Fin 1024) : EReal :=
  normed (fun k => h (ix2 r k)) (fun k => g (ix1 k)) l

variable (m : (ℓ : Loc nD τ sig) → Buf (Elt Ideal) ℓ) (ρ : Dev nD → PrngReg)

theorem pt (t : Fin cfg0.N) : t.val < 11 := Nat.lt_of_lt_of_eq t.isLt N_0

def row (t : Fin cfg0.N) (q : Fin 384) : Fin 4224 := ⟨384 * t.val + q.val, by have := pt t; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, t.val] := (by decide +kernel : ∀ t : Fin grid0.N, _)

variable (c : Dev nD) (t : Fin cfg0.N)

/-! ### The payloads at an index -/

theorem pay2_apply (x : Vec Ideal S384x1024 .f32) (g : Vec Ideal S1x1024 .f32) (p : Fin 384) (l : Fin 1024) :
    k0_pay2 (F := Ideal) x g (ix2 p l) = normed (fun k => x (ix2 p k)) (fun k => g (ix2 0 k)) l := by
  pointwise [k0_pay2, k0_pay1]
  rfl

theorem pay3_apply (x : Vec Ideal S384x1024 .f32) (g : Vec Ideal S1x1024 .f32) (l : Fin 1024) (p : Fin 384) :
    k0_pay3 (F := Ideal) x g (ix2 l p) = k0_pay2 (F := Ideal) x g (ix2 p l) := by
  pointwise [k0_pay3, k0_pay2]

/-! ### The blocks a point reads -/

abbrev argH : S4224x1024.Idx → EReal := m ((c : Thread nD τ).loc main_arg0)
abbrev argG : S1024.Idx → EReal := m ((c : Thread nD τ).loc main_arg1)

theorem V0_apply (l : Fin 1024) : V m c main_v0 (ix2 0 l) = argG m c (ix1 l) := by
  entry_read
  pointwise

theorem i0 (p : Fin 384) (k : Fin 1024) : iblk m c 0 t (ix2 p k) = argH m c (ix2 (row t p) k) := by
  blk_ext! [iblk, V, idx0, row]

theorem b0 (p : Fin 384) (k : Fin 1024) : View.ld (iblk m c 0 t) r0_0 (ix2 p k) = argH m c (ix2 (row t p) k) :=
  (View.ld_unit_apply_of _ _ _ _ _ (ix2 p k) (by intro a; fin_cases a <;> simp)).trans (i0 m c t p k)

theorem b1 (k : Fin 1024) : View.ld (iblk m c 1 t) r0_1 (ix2 0 k) = argG m c (ix1 k) :=
  (View.ld_unit_apply_of _ _ _ _ _ (ix2 0 k) (by intro a; fin_cases a <;> simp)).trans
    ((congrArg (V m c main_v0) (by blk_ext [idx1] : ((cfg0.win 1).blk t).view.emb (ix2 0 k) = ix2 0 k)).trans (V0_apply m c k))

theorem rows_eq (p : Fin 384) (l : Fin 1024) :
    k0_pay2 (F := Ideal) (View.ld (iblk m c 0 t) r0_0) (View.ld (iblk m c 1 t) r0_1) (ix2 p l) = rows (argH m c) (argG m c) (row t p) l := by
  have q := congr (congr (congrArg normed (funext fun k => b0 m c t p k)) (funext fun k => b1 m c t k)) (rfl : l = l)
  exact (pay2_apply _ _ p l).trans q

/-! ### The results -/

def place (y : S384x1024.Idx) : S4224x1024.Idx := ix2 (row t (y 0)) (y 1)
theorem place2 (y : S384x1024.Idx) : ((cfg0.win 2).blk t).view.emb y = place t y := by blk_ext [idx2, place, row]

def flat (y : S1024x384.Idx) : S1024x4224.Idx := ix2 (y 0) (row t (y 1))
theorem place3 (y : S1024x384.Idx) : ((cfg0.win 3).blk t).view.emb y = flat t y := by blk_ext [idx3, flat, row]

theorem final2 : (dats m 0 c).arrAt 2 cfg0.N = fun i => rows (argH m c) (argG m c) (i 0) (i 1) := by
  refine (dats m 0 c).arrAt_eq_of_covers 2 _ (by decide +kernel) fun t hf y => ?_
  rw [place2]
  blk_simp
  rw [after0_2]
  unfold out0_2
  refine (congrFun (View.canon_unit_zero (by funext a; fin_cases a <;> rfl) _ _) y).trans ?_
  exact (congrArg _ (eq_ix2 y)).trans (rows_eq m c t (y 0) (y 1))

theorem final3 : (dats m 0 c).arrAt 3 cfg0.N = fun i => rows (argH m c) (argG m c) (i 1) (i 0) := by
  refine (dats m 0 c).arrAt_eq_of_covers 3 _ (by decide +kernel) fun t hf y => ?_
  rw [place3]
  blk_simp
  rw [after0_3]
  unfold out0_3
  refine (congrFun (View.canon_unit_zero (by funext a; fin_cases a <;> rfl) _ _) y).trans ?_
  exact (congrArg _ (eq_ix2 y)).trans ((pay3_apply _ _ (y 0) (y 1)).trans (rows_eq m c t (y 1) (y 0)))

end Cert.RmsFwdIdeal.Value
end
-- ==== Proof.RmsFwdMatch.lean ====
/- The normalised rows: the reference's two results are the kernel's. -/
module

public import proofs.«01_k».proof.Proof.RmsFwdValue
public import proofs.«01_k».proof.Proof.Gen.RmsFwdRefIdeal.Run
public import proofs.«01_k».proof.Proof.Gen.RmsFwdRefIdeal.Read
public import proofs.«01_k».proof.Defs
public import Idealize.ShloMosaic.Lib.Claim

@[expose] public section

set_option maxRecDepth 2000

noncomputable section

namespace Cert.RmsFwdMatch

open Cert.RmsFwdRefIdeal Cert.RmsFwdRefIdeal.Gen Cert.RmsFwdRefIdeal.Read Cert.Common Cert.Norm Idealize.ShloMosaic Idealize.ShloMosaic.TcCoe
open Idealize.SL.Sem
open Cert.RmsFwdIdeal.Value (normed rows)

variable (h : S4224x1024.Idx → EReal) (g : S1024.Idx → EReal)

theorem v12_apply (r : Fin 4224) (l : Fin 1024) : val_main_v12 (F := Ideal) h g (ix2 r l) = rows h g r l := by
  pointwise [val_main_v12, val_main_v11, val_main_v10, val_main_v9, val_main_v8, val_main_v7, val_main_v6, val_main_v5, val_main_cst_1, val_main_v4, val_main_v3,
    val_main_cst_0, val_main_v2, val_main_v1, val_main_cst, val_main_v0]
  rfl

theorem v15_apply (l : Fin 1024) (r : Fin 4224) : val_main_v15 (F := Ideal) h g (ix2 l r) = rows h g r l := by
  pointwise [val_main_v15, val_main_v14]
  exact v12_apply h g r l

theorem v13_fun : val_main_v13 (F := Ideal) h g = fun i => rows h g (i 0) (i 1) := by
  funext i
  exact (congrArg _ (eq_ix2 i)).trans (v12_apply h g (i 0) (i 1))

theorem v15_fun : val_main_v15 (F := Ideal) h g = fun i => rows h g (i 1) (i 0) := by
  funext i
  exact (congrArg _ (eq_ix2 i)).trans (v15_apply h g (i 0) (i 1))

/-! ### The claims -/

theorem frame_ref : Cert.quiescent_RmsFwdRefIdeal := fun m ρ _ =>
  (θ_run Cert.RmsFwdRefIdeal.defs _ _).mono (fun _ h => ⟨fun c => (h c).2.2, sem_eq_zero_of_no_sems (by decide) _⟩)
    (Cert.RmsFwdRefIdeal.Value.run m ρ)

set_option maxRecDepth 65536 in
open Cert.RmsFwdIdeal.Value in
theorem algebraic : Cert.algebraic_RmsFwdIdeal_RmsFwdRefIdeal := by
  intro m g m' g' hp hagree
  refine ⟨fun c i => rows (argH m c) (argG m c) (i 0) (i 1), fun c i => rows (argH m c) (argG m c) (i 1) (i 0),
    (θ_run Cert.RmsFwdIdeal.defs _ _).mono (fun r h c => ?_) (run_blocks m g),
    (θ_run Cert.RmsFwdRefIdeal.defs _ _).mono (fun r h c => ?_) (Cert.RmsFwdRefIdeal.Value.run m' g')⟩
  · obtain ⟨h2, h3, ha⟩ := h c
    exact ⟨h2.trans (final2 m c), h3.trans (final3 m c), ha⟩
  · obtain ⟨h2, h3, ha⟩ := h c
    obtain ⟨e0, e1⟩ := hagree c
    refine ⟨h2.trans ((val_main_v13_eq _ _).trans ?_), h3.trans ((val_main_v15_eq _ _).trans ?_), ha⟩
    · rw [e0, e1]; exact v13_fun _ _
    · rw [e0, e1]; exact v15_fun _ _

end Cert.RmsFwdMatch
end
-- ==== Proof.FfnFwdValue.lean ====
/- The feed-forward's gated unit: what the kernel's three results hold. -/
module

public import proofs.«01_k».proof.Proof.Gen.FfnFwdIdeal.Value
public import proofs.«01_k».proof.Proof.Sigmoid
public import Idealize.ShloMosaic.Lib.Claim

@[expose] public section

set_option maxRecDepth 2000

noncomputable section

namespace Cert.FfnFwdIdeal.Value

open Cert.FfnFwdIdeal Cert.FfnFwdIdeal.Gen Cert.Common Cert.Sigmoid Idealize.ShloMosaic Idealize.ShloMosaic.TcCoe Idealize.SL.Sem

/-! ### The results as functions of the arguments -/

section Parts

variable (a : S4224x1024.Idx → EReal) (w : S1024x5632.Idx → EReal)

/-- The product: its two halves are the gate and the other side. -/
def unit (r : Fin 4224) (l : Fin 5632) : EReal := ∑ k : Fin 1024, a (ix2 r k) * w (ix2 k l)
def half0 (r : Fin 4224) (l : Fin 2816) : EReal := unit a w r ⟨l.val, by omega⟩
def half1 (r : Fin 4224) (l : Fin 2816) : EReal := unit a w r ⟨2816 + l.val, by omega⟩

/-- The two halves, one slab each. -/
def halves (s : Fin 2) (r : Fin 4224) (l : Fin 2816) : EReal := if s.val = 0 then half0 a w r l else half1 a w r l

/-- The gated unit of the two sides. -/
def swish (g u : EReal) : EReal := g * sigK g * u
def gatedUnit (r : Fin 4224) (l : Fin 2816) : EReal := swish (half0 a w r l) (half1 a w r l)

end Parts

variable (m : (ℓ : Loc nD τ sig) → Buf (Elt Ideal) ℓ) (ρ : Dev nD → PrngReg)

theorem pt (t : Fin cfg0.N) : t.val < 22 := Nat.lt_of_lt_of_eq t.isLt N_0

/-- A point's rows, and its columns. -/
def row (t : Fin cfg0.N) (q : Fin 384) : Fin 4224 := ⟨384 * (t.val % 11) + q.val, by omega⟩
def col (t : Fin cfg0.N) (l : Fin 1408) : Fin 2816 := ⟨1408 * (t.val / 11) + l.val, by have := pt t; omega⟩

theorem idx0 : ∀ t : Fin cfg0.N, win0_0.index t = ![t.val % 11, 0] := (by decide +kernel : ∀ t : Fin grid0.N, _)
theorem idx1 : ∀ t : Fin cfg0.N, win0_1.index t = ![0, t.val / 11] := (by decide +kernel : ∀ t : Fin grid0.N, _)
theorem idx2 : ∀ t : Fin cfg0.N, win0_2.index t = ![0, t.val / 11 + 2] := (by decide +kernel : ∀ t : Fin grid0.N, _)
theorem idx3 : ∀ t : Fin cfg0.N, win0_3.index t = ![0, t.val % 11, t.val / 11] := (by decide +kernel : ∀ t : Fin grid0.N, _)
theorem idx4 : ∀ t : Fin cfg0.N, win0_4.index t = ![t.val % 11, t.val / 11] := (by decide +kernel : ∀ t : Fin grid0.N, _)
theorem idx5 : ∀ t : Fin cfg0.N, win0_5.index t = ![t.val / 11, t.val % 11] := (by decide +kernel : ∀ t : Fin grid0.N, _)

variable (c : Dev nD) (t : Fin cfg0.N)

/-! ### The payloads at an index -/

theorem pay2_apply (x : Vec Ideal S384x1024 .bf16) (w : Vec Ideal S1024x1408 .bf16) (p : Fin 384) (l : Fin 1408) :
    k0_pay2 (F := Ideal) x w (ix2 p l) = ∑ k : Fin 1024, x (ix2 p k) * w (ix2 k l) := by
  pointwise [k0_pay2, k0_pay1]

theorem pay3_apply (x : Vec Ideal S384x1024 .bf16) (w : Vec Ideal S1024x1408 .bf16) (p : Fin 384) (l : Fin 1408) :
    k0_pay3 (F := Ideal) x w (ix2 p l) = ∑ k : Fin 1024, x (ix2 p k) * w (ix2 k l) := by
  pointwise [k0_pay3, k0_pay1]

theorem pay5_apply (x : Vec Ideal S384x1024 .bf16) (w : Vec Ideal S1024x1408 .bf16) (p : Fin 384) (l : Fin 1408) :
    k0_pay5 (F := Ideal) x w (ix3 0 p l) = k0_pay2 (F := Ideal) x w (ix2 p l) := by
  pointwise [k0_pay5]

theorem pay6_apply (x : Vec Ideal S384x1024 .bf16) (w : Vec Ideal S1024x1408 .bf16) (p : Fin 384) (l : Fin 1408) :
    k0_pay6 (F := Ideal) x w (ix3 0 p l) = k0_pay3 (F := Ideal) x w (ix2 p l) := by
  pointwise [k0_pay6]

theorem pay7_apply (x : Vec Ideal S384x1024 .bf16) (w w' : Vec Ideal S1024x1408 .bf16) (p : Fin 384) (l : Fin 1408) :
    k0_pay7 (F := Ideal) x w w' (ix2 p l) = swish (k0_pay2 (F := Ideal) x w (ix2 p l)) (k0_pay3 (F := Ideal) x w' (ix2 p l)) := by
  pointwise [k0_pay7, k0_pay4]
  rfl

theorem pay8_apply (x : Vec Ideal S384x1024 .bf16) (w w' : Vec Ideal S1024x1408 .bf16) (l : Fin 1408) (p : Fin 384) :
    k0_pay8 (F := Ideal) x w w' (ix2 l p) = k0_pay7 (F := Ideal) x w w' (ix2 p l) := by
  pointwise [k0_pay8, k0_pay7]

/-! ### The blocks a point reads -/

abbrev argA : S4224x1024.Idx → EReal := m ((c : Thread nD τ).loc main_arg0)
abbrev argW : S1024x5632.Idx → EReal := m ((c : Thread nD τ).loc main_arg1)

/-- The casts leave the numbers as they are. -/
theorem V0_apply (i : S4224x1024.Idx) : V m c main_v0 i = argA m c i := by
  entry_read
  rfl

theorem V1_apply (i : S1024x5632.Idx) : V m c main_v1 i = argW m c i := by
  entry_read
  rfl

theorem b0 (p : Fin 384) (k : Fin 1024) : View.ld (iblk m c 0 t) r0_0 (ix2 p k) = argA m c (ix2 (row t p) k) :=
  (View.ld_unit_apply_of _ _ _ _ _ (ix2 p k) (by intro a; fin_cases a <;> simp)).trans
    ((V0_apply m c _).trans (congrArg (argA m c) (by blk_ext [idx0, row] : ((cfg0.win 0).blk t).view.emb (ix2 p k) = ix2 (row t p) k)))

theorem b1 (k : Fin 1024) (l : Fin 1408) : View.ld (iblk m c 1 t) r0_1 (ix2 k l) = argW m c (ix2 k ⟨(col t l).val, by omega⟩) :=
  (View.ld_unit_apply_of _ _ _ _ _ (ix2 k l) (by intro a; fin_cases a <;> simp)).trans
    ((V1_apply m c _).trans (congrArg (argW m c) (by blk_ext [idx1, col] : ((cfg0.win 1).blk t).view.emb (ix2 k l) = ix2 k ⟨(col t l).val, by omega⟩)))

theorem b2 (k : Fin 1024) (l : Fin 1408) : View.ld (iblk m c 2 t) r0_1 (ix2 k l) = argW m c (ix2 k ⟨2816 + (col t l).val, by omega⟩) :=
  (View.ld_unit_apply_of _ _ _ _ _ (ix2 k l) (by intro a; fin_cases a <;> simp)).trans
    ((V1_apply m c _).trans (congrArg (argW m c) (by blk_ext [idx2, col] : ((cfg0.win 2).blk t).view.emb (ix2 k l) = ix2 k ⟨2816 + (col t l).val, by omega⟩)))

theorem gate_eq (p : Fin 384) (l : Fin 1408) :
    k0_pay2 (F := Ideal) (View.ld (iblk m c 0 t) r0_0) (View.ld (iblk m c 1 t) r0_1) (ix2 p l) = half0 (argA m c) (argW m c) (row t p) (col t l) :=
  (pay2_apply _ _ p l).trans (Finset.sum_congr rfl fun k _ => congrArg₂ (fun a b : EReal => a * b) (b0 m c t p k) (b1 m c t k l))

theorem up_eq (p : Fin 384) (l : Fin 1408) :
    k0_pay3 (F := Ideal) (View.ld (iblk m c 0 t) r0_0) (View.ld (iblk m c 2 t) r0_1) (ix2 p l) = half1 (argA m c) (argW m c) (row t p) (col t l) :=
  (pay3_apply _ _ p l).trans (Finset.sum_congr rfl fun k _ => congrArg₂ (fun a b : EReal => a * b) (b0 m c t p k) (b2 m c t k l))

theorem unit_eq (p : Fin 384) (l : Fin 1408) :
    k0_pay7 (F := Ideal) (View.ld (iblk m c 0 t) r0_0) (View.ld (iblk m c 1 t) r0_1) (View.ld (iblk m c 2 t) r0_1) (ix2 p l)
      = gatedUnit (argA m c) (argW m c) (row t p) (col t l) := by
  have q := congr (congrArg swish (gate_eq m c t p l)) (up_eq m c t p l)
  exact (pay7_apply _ _ _ p l).trans q

/-! ### The results -/

theorem place3 (y : S2x384x1408.Idx) : ((cfg0.win 3).blk t).view.emb y = ix3 (y 0) (row t (y 1)) (col t (y 2)) := by
  blk_ext [idx3, row, col]

def place (y : S384x1408.Idx) : S4224x2816.Idx := ix2 (row t (y 0)) (col t (y 1))
theorem place4 (y : S384x1408.Idx) : ((cfg0.win 4).blk t).view.emb y = place t y := by blk_ext [idx4, place, row, col]

def flat (y : S1408x384.Idx) : S2816x4224.Idx := ix2 (col t (y 0)) (row t (y 1))
theorem place5 (y : S1408x384.Idx) : ((cfg0.win 5).blk t).view.emb y = flat t y := by blk_ext [idx5, flat, row, col]

theorem final3 : (dats m 0 c).arrAt 3 cfg0.N = fun i => halves (argA m c) (argW m c) (i 0) (i 1) (i 2) := by
  refine (dats m 0 c).arrAt_eq_of_covers 3 _ (by decide +kernel) fun t hf y => ?_
  rw [place3]
  blk_simp
  rw [after0_3]
  unfold out0_3
  refine (congrArg _ (eq_ix3 y)).trans ((slabs _ _ _ _ (y 0) (y 1) (y 2)).trans ?_)
  show _ = halves (argA m c) (argW m c) (y 0) (row t (y 1)) (col t (y 2))
  unfold halves
  refine if_congr Iff.rfl ?_ ?_
  · exact (pay5_apply _ _ (y 1) (y 2)).trans (gate_eq m c t (y 1) (y 2))
  · exact (pay6_apply _ _ (y 1) (y 2)).trans (up_eq m c t (y 1) (y 2))

theorem final4 : (dats m 0 c).arrAt 4 cfg0.N = fun i => gatedUnit (argA m c) (argW m c) (i 0) (i 1) := by
  refine (dats m 0 c).arrAt_eq_of_covers 4 _ (by decide +kernel) fun t hf y => ?_
  rw [place4]
  blk_simp
  rw [after0_4]
  unfold out0_4
  refine (congrFun (View.canon_unit_zero (by funext a; fin_cases a <;> rfl) _ _) y).trans ?_
  exact (congrArg _ (eq_ix2 y)).trans (unit_eq m c t (y 0) (y 1))

theorem final5 : (dats m 0 c).arrAt 5 cfg0.N = fun i => gatedUnit (argA m c) (argW m c) (i 1) (i 0) := by
  refine (dats m 0 c).arrAt_eq_of_covers 5 _ (by decide +kernel) fun t hf y => ?_
  rw [place5]
  blk_simp
  rw [after0_5]
  unfold out0_5
  refine (congrFun (View.canon_unit_zero (by funext a; fin_cases a <;> rfl) _ _) y).trans ?_
  exact (congrArg _ (eq_ix2 y)).trans ((pay8_apply _ _ _ (y 0) (y 1)).trans (unit_eq m c t (y 1) (y 0)))

end Cert.FfnFwdIdeal.Value
end
-- ==== Proof.FfnFwdMatch.lean ====
/- The feed-forward's gated unit: the reference's three results are the kernel's. -/
module

public import proofs.«01_k».proof.Proof.FfnFwdValue
public import proofs.«01_k».proof.Proof.Gen.FfnFwdRefIdeal.Run
public import proofs.«01_k».proof.Proof.Gen.FfnFwdRefIdeal.Read
public import proofs.«01_k».proof.Defs
public import Idealize.ShloMosaic.Lib.Claim

@[expose] public section

set_option maxRecDepth 2000

noncomputable section

namespace Cert.FfnFwdMatch

open Cert.FfnFwdRefIdeal Cert.FfnFwdRefIdeal.Gen Cert.FfnFwdRefIdeal.Read Cert.Common Cert.Sigmoid Idealize.ShloMosaic Idealize.ShloMosaic.TcCoe
open Idealize.SL.Sem
open Cert.FfnFwdIdeal.Value (unit half0 half1 halves swish gatedUnit)

variable (a : S4224x1024.Idx → EReal) (w : S1024x5632.Idx → EReal)

theorem v0_apply (r : Fin 4224) (l : Fin 5632) : val_main_v0 (F := Ideal) a w (ix2 r l) = unit a w r l := by
  pointwise [val_main_v0]
  rfl

theorem v1_apply (r : Fin 4224) (l : Fin 2816) : val_main_v1 (F := Ideal) a w (ix2 r l) = half0 a w r l := by
  rw [val_main_v1_apply]
  refine (congrArg _ ?_).trans (v0_apply a w r ⟨l.val, by omega⟩)
  funext b; fin_cases b <;> exact Fin.ext (by simp [idx_main_v1])

theorem v2_apply (r : Fin 4224) (l : Fin 2816) : val_main_v2 (F := Ideal) a w (ix2 r l) = half1 a w r l := by
  rw [val_main_v2_apply]
  refine (congrArg _ ?_).trans (v0_apply a w r ⟨2816 + l.val, by omega⟩)
  funext b; fin_cases b <;> exact Fin.ext (by simp [idx_main_v2])

theorem v4_apply (r : Fin 4224) (l : Fin 2816) : val_main_v4 (F := Ideal) a w (ix2 r l) = gatedUnit a w r l := by
  unfold gatedUnit swish
  rw [← sig_eq]
  pointwise [val_main_v4, val_main_v3, val_main_call0_v5, val_main_call0_v4, val_main_call0_cst_0, val_main_call0_v3, val_main_call0_v2, val_main_call0_cst,
    val_main_call0_v1, val_main_call0_v0]
  rw [v1_apply, v2_apply]
  rfl

theorem v8_apply (s : Fin 2) (r : Fin 4224) (l : Fin 2816) : val_main_v8 (F := Ideal) a w (ix3 s r l) = halves a w s r l := by
  pointwise [val_main_v8, val_main_v7, val_main_v6, val_main_v5]
  rw [v1_apply, v2_apply]
  unfold halves
  by_cases h : s.val < 1
  · rw [dif_pos h, if_pos (by omega)]
  · rw [dif_neg h, if_neg (by omega)]

theorem v11_apply (l : Fin 2816) (r : Fin 4224) : val_main_v11 (F := Ideal) a w (ix2 l r) = gatedUnit a w r l := by
  pointwise [val_main_v11, val_main_v10]
  exact v4_apply a w r l

/-! ### The results -/

theorem v8_fun : val_main_v8 (F := Ideal) a w = fun i => halves a w (i 0) (i 1) (i 2) := by
  funext i
  exact (congrArg _ (eq_ix3 i)).trans (v8_apply a w (i 0) (i 1) (i 2))

theorem v9_fun : val_main_v9 (F := Ideal) a w = fun i => gatedUnit a w (i 0) (i 1) := by
  funext i
  exact (congrArg _ (eq_ix2 i)).trans (v4_apply a w (i 0) (i 1))

theorem v11_fun : val_main_v11 (F := Ideal) a w = fun i => gatedUnit a w (i 1) (i 0) := by
  funext i
  exact (congrArg _ (eq_ix2 i)).trans (v11_apply a w (i 0) (i 1))

/-! ### The claims -/

theorem frame_ref : Cert.quiescent_FfnFwdRefIdeal := fun m ρ _ =>
  (θ_run Cert.FfnFwdRefIdeal.defs _ _).mono (fun _ h => ⟨fun c => (h c).2.2.2, sem_eq_zero_of_no_sems (by decide) _⟩)
    (Cert.FfnFwdRefIdeal.Value.run m ρ)

set_option maxRecDepth 65536 in
open Cert.FfnFwdIdeal.Value in
theorem algebraic : Cert.algebraic_FfnFwdIdeal_FfnFwdRefIdeal := by
  intro m g m' g' hp hagree
  refine ⟨fun c i => halves (argA m c) (argW m c) (i 0) (i 1) (i 2), fun c i => gatedUnit (argA m c) (argW m c) (i 0) (i 1),
    fun c i => gatedUnit (argA m c) (argW m c) (i 1) (i 0),
    (θ_run Cert.FfnFwdIdeal.defs _ _).mono (fun r h c => ?_) (run_blocks m g),
    (θ_run Cert.FfnFwdRefIdeal.defs _ _).mono (fun r h c => ?_) (Cert.FfnFwdRefIdeal.Value.run m' g')⟩
  · obtain ⟨h3, h4, h5, ha⟩ := h c
    exact ⟨h3.trans (final3 m c), h4.trans (final4 m c), h5.trans (final5 m c), ha⟩
  · obtain ⟨h3, h4, h5, ha⟩ := h c
    obtain ⟨e0, e1⟩ := hagree c
    refine ⟨h3.trans ((val_main_v8_eq _ _).trans ?_), h4.trans ((val_main_v9_eq _ _).trans ?_), h5.trans ((val_main_v11_eq _ _).trans ?_), ha⟩
    · rw [e0, e1]; exact v8_fun _ _
    · rw [e0, e1]; exact v9_fun _ _
    · rw [e0, e1]; exact v11_fun _ _

end Cert.FfnFwdMatch
end
-- ==== Proof.GateFwdValue.lean ====
/- The two mixers' gated sum: what the kernel's six results hold. -/
module

public import proofs.«01_k».proof.Proof.Gen.GateFwdIdeal.Value
public import proofs.«01_k».proof.Proof.GateParts
public import Idealize.ShloMosaic.Lib.Claim
public import Idealize.ShloMosaic.Lib.StableHlo.RunRead

@[expose] public section

set_option maxRecDepth 2000

noncomputable section

namespace Cert.GateFwdIdeal.Value

open Cert.GateFwdIdeal Cert.GateFwdIdeal.Gen Cert.GateParts Cert.Mixed Cert.Common Cert.Sigmoid Idealize.ShloMosaic Idealize.ShloMosaic.TcCoe Idealize.SL.Sem

/-! ### The results as functions of the arguments -/

section Parts

variable (proj : S4224x4360.Idx → EReal) (o o' : S4224x512.Idx → EReal) (w w' : S512x1024.Idx → EReal) (u : S1024x1024.Idx → EReal) (h : S4224x1024.Idx → EReal)

/-- The gated sum of the two branches. -/
def gated (r : Fin 4224) (l : Fin 1024) : EReal := gate proj gF r l * branch o w r l + gate proj gS r l * branch o' w' r l

/-- The residual with the gated sum's product added. -/
def added (r : Fin 4224) (l : Fin 1024) : EReal := h (ix2 r l) + ∑ k : Fin 1024, gated proj o o' w w' r k * u (ix2 k l)

end Parts

variable (m : (ℓ : Loc nD τ sig) → Buf (Elt Ideal) ℓ) (ρ : Dev nD → PrngReg)

theorem pt (t : Fin cfg0.N) : t.val < 11 := Nat.lt_of_lt_of_eq t.isLt N_0

def row (t : Fin cfg0.N) (q : Fin 384) : Fin 4224 := ⟨384 * t.val + q.val, by have := pt t; omega⟩

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 1] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![0, t.val] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![0, t.val] := (by decide +kernel : ∀ t : Fin grid0.N, _)
theorem idx13 : ∀ t : Fin cfg0.N, win0_13.index t = ![0, t.val] := (by decide +kernel : ∀ t : Fin grid0.N, _)

variable (c : Dev nD) (t : Fin cfg0.N)

/-! ### The payloads at an index -/

theorem pay7_apply (o : Vec Ideal S384x512 .bf16) (w : Vec Ideal S512x1024 .bf16) (p : Fin 384) (l : Fin 1024) :
    k0_pay7 (F := Ideal) o w (ix2 p l) = ∑ k : Fin 512, o (ix2 p k) * w (ix2 k l) := by
  pointwise [k0_pay7]

theorem pay8_apply (o : Vec Ideal S384x512 .bf16) (w : Vec Ideal S512x1024 .bf16) (p : Fin 384) (l : Fin 1024) :
    k0_pay8 (F := Ideal) o w (ix2 p l) = ∑ k : Fin 512, o (ix2 p k) * w (ix2 k l) := by
  pointwise [k0_pay8]

/-- The gated sum from the block's own parts. -/
def sumOf (a b a' b' : EReal) : EReal := sigK a * b + sigK a' * b'

theorem pay9_apply (o : Vec Ideal S384x512 .bf16) (w : Vec Ideal S512x1024 .bf16) (o' : Vec Ideal S384x512 .bf16) (w' : Vec Ideal S512x1024 .bf16)
    (g g' : Vec Ideal S384x1024 .f32) (p : Fin 384) (l : Fin 1024) :
    k0_pay9 (F := Ideal) o w o' w' g g' (ix2 p l)
      = sumOf (g (ix2 p l)) (k0_pay7 (F := Ideal) o w (ix2 p l)) (g' (ix2 p l)) (k0_pay8 (F := Ideal) o' w' (ix2 p l)) := by
  pointwise [k0_pay9]
  rfl

theorem pay1_apply (h : Vec Ideal S384x1024 .f32) (y : FVec Ideal S384x1024 .bf16) (u : FVec Ideal S1024x1024 .bf16) (p : Fin 384) (l : Fin 1024) :
    k0_pay1 (F := Ideal) h y (k0_pay11 (F := Ideal) u) (ix2 p l) = h (ix2 p l) + ∑ k : Fin 1024, y (ix2 p k) * u (ix2 k l) := by
  pointwise [k0_pay1, k0_pay11]

theorem pay2_apply (y : FVec Ideal S384x1024 .f32) (l : Fin 1024) (p : Fin 384) : k0_pay2 (F := Ideal) y (ix2 l p) = y (ix2 p l) := by
  pointwise [k0_pay2]

theorem pay5_apply (o : Vec Ideal S384x512 .bf16) (k : Fin 512) (p : Fin 384) : k0_pay5 (F := Ideal) o (ix2 k p) = o (ix2 p k) := by
  pointwise [k0_pay5]

theorem pay6_apply (o : Vec Ideal S384x512 .bf16) (k : Fin 512) (p : Fin 384) : k0_pay6 (F := Ideal) o (ix2 k p) = o (ix2 p k) := by
  pointwise [k0_pay6]

/-! ### The blocks a point reads -/

abbrev argP : S4224x4360.Idx → EReal := m ((c : Thread nD τ).loc main_arg0)
abbrev argF : S4224x512.Idx → EReal := m ((c : Thread nD τ).loc main_arg1)
abbrev argS : S4224x512.Idx → EReal := m ((c : Thread nD τ).loc main_arg2)
abbrev argWF : S512x1024.Idx → EReal := m ((c : Thread nD τ).loc main_arg3)
abbrev argWS : S512x1024.Idx → EReal := m ((c : Thread nD τ).loc main_arg4)
abbrev argU : S1024x1024.Idx → EReal := m ((c : Thread nD τ).loc main_arg5)
abbrev argH : S4224x1024.Idx → EReal := m ((c : Thread nD τ).loc main_arg6)

/-- The casts leave the numbers as they are. -/
theorem V0_apply (i : S4224x512.Idx) : V m c main_v0 i = argF m c i := by
  entry_read
  rfl

theorem V1_apply (i : S4224x512.Idx) : V m c main_v1 i = argS m c i := by
  entry_read
  rfl

theorem V2_apply (i : S512x1024.Idx) : V m c main_v2 i = argWF m c i := by
  entry_read
  rfl

theorem V3_apply (i : S512x1024.Idx) : V m c main_v3 i = argWS m c i := by
  entry_read
  rfl

theorem V10_apply (i : S1024x1024.Idx) : V m c main_v10 i = argU m c i := by
  entry_read
  rfl

theorem V9_apply (r : Fin 4224) (k : Fin 4480) : V m c main_v9 (ix2 r k) = mixed (fun q => argP m c (ix2 r q)) k := by
  unfold V
  after_reads_simp
  refine concat_mixed _ _ _ _ _ concatenates_S4224x2048_S4224x1536_S4224x768_S4224x8_S4224x120_S4224x4480_d1 _ _ ?_ ?_ ?_ ?_ ?_ k <;> intro q
  · show StableHlo.upto hostOps0 (fun b => m (c, b)) 10 (Proc.devRef .tc main_v4) (ix2 r q) = _
    after_reads_simp
    exact congrArg (argP m c) (funext fun a => by fin_cases a <;> exact Fin.ext (by simp))
  · show StableHlo.upto hostOps0 (fun b => m (c, b)) 10 (Proc.devRef .tc main_v5) (ix2 r q) = _
    after_reads_simp
    exact congrArg (argP m c) (funext fun a => by fin_cases a <;> exact Fin.ext (by simp))
  · show StableHlo.upto hostOps0 (fun b => m (c, b)) 10 (Proc.devRef .tc main_v6) (ix2 r q) = _
    after_reads_simp
    exact congrArg (argP m c) (funext fun a => by fin_cases a <;> exact Fin.ext (by simp))
  · show StableHlo.upto hostOps0 (fun b => m (c, b)) 10 (Proc.devRef .tc main_v7) (ix2 r q) = _
    after_reads_simp
    exact congrArg (argP m c) (funext fun a => by fin_cases a <;> exact Fin.ext (by simp))
  · show StableHlo.upto hostOps0 (fun b => m (c, b)) 10 (Proc.devRef .tc main_v8) (ix2 r q) = _
    after_reads_simp
    exact Ideal.ofBits_zero .f32

theorem b0 (p : Fin 384) (k : Fin 512) : iblk m c 0 t (ix2 p k) = argF m c (ix2 (row t p) k) :=
  (V0_apply m c _).trans (congrArg (argF m c) (by blk_ext [idx0, row] : ((cfg0.win 0).blk t).view.emb (ix2 p k) = ix2 (row t p) k))

theorem b1 (p : Fin 384) (k : Fin 512) : iblk m c 1 t (ix2 p k) = argS m c (ix2 (row t p) k) :=
  (V1_apply m c _).trans (congrArg (argS m c) (by blk_ext [idx1, row] : ((cfg0.win 1).blk t).view.emb (ix2 p k) = ix2 (row t p) k))

theorem b2 (k : Fin 512) (l : Fin 1024) : iblk m c 2 t (ix2 k l) = argWF m c (ix2 k l) :=
  (V2_apply m c _).trans (congrArg (argWF m c) (by blk_ext [idx2] : ((cfg0.win 2).blk t).view.emb (ix2 k l) = ix2 k l))

theorem b3 (k : Fin 512) (l : Fin 1024) : iblk m c 3 t (ix2 k l) = argWS m c (ix2 k l) :=
  (V3_apply m c _).trans (congrArg (argWS m c) (by blk_ext [idx3] : ((cfg0.win 3).blk t).view.emb (ix2 k l) = ix2 k l))

theorem b6 (k : Fin 1024) (l : Fin 1024) : iblk m c 6 t (ix2 k l) = argU m c (ix2 k l) :=
  (V10_apply m c _).trans (congrArg (argU m c) (by blk_ext [idx6] : ((cfg0.win 6).blk t).view.emb (ix2 k l) = ix2 k l))

theorem b7 (p : Fin 384) (l : Fin 1024) : iblk m c 7 t (ix2 p l) = argH m c (ix2 (row t p) l) := by
  blk_ext! [iblk, V, idx7, row]

theorem b4 (p : Fin 384) (l : Fin 1024) : X0_4 m c t (ix2 p l) = logit (argP m c) gF (row t p) l := by
  refine (dif_pos (moved0_4 t (ix2 p l))).trans ?_
  refine Eq.trans (congrArg (V m c main_v9) (?_ : _ = ix2 (row t p) ⟨l.val, by omega⟩)) ((V9_apply m c _ _).trans (mixed_gate _ gF (by decide) _ _ _ (by simp [gF])))
  blk_ext [idx4, row]

theorem b5 (p : Fin 384) (l : Fin 1024) : X0_5 m c t (ix2 p l) = logit (argP m c) gS (row t p) l := by
  refine (dif_pos (moved0_5 t (ix2 p l))).trans ?_
  refine Eq.trans (congrArg (V m c main_v9) (?_ : _ = ix2 (row t p) ⟨1024 + l.val, by omega⟩)) ((V9_apply m c _ _).trans (mixed_gate _ gS (by decide) _ _ _ (by simp [gS])))
  blk_ext [idx5, row]

/-! ### The results -/

theorem branchF (p : Fin 384) (l : Fin 1024) : k0_pay7 (F := Ideal) (iblk m c 0 t) (iblk m c 2 t) (ix2 p l) = branch (argF m c) (argWF m c) (row t p) l :=
  (pay7_apply _ _ p l).trans (Finset.sum_congr rfl fun k _ => congrArg₂ (fun a b : EReal => a * b) (b0 m c t p k) (b2 m c t k l))

theorem branchS (p : Fin 384) (l : Fin 1024) : k0_pay8 (F := Ideal) (iblk m c 1 t) (iblk m c 3 t) (ix2 p l) = branch (argS m c) (argWS m c) (row t p) l :=
  (pay8_apply _ _ p l).trans (Finset.sum_congr rfl fun k _ => congrArg₂ (fun a b : EReal => a * b) (b1 m c t p k) (b3 m c t k l))

/-- The gated sum of the arguments. -/
abbrev sumR : Fin 4224 → Fin 1024 → EReal := gated (argP m c) (argF m c) (argS m c) (argWF m c) (argWS m c)

theorem gated_eq (p : Fin 384) (l : Fin 1024) :
    k0_pay9 (F := Ideal) (iblk m c 0 t) (iblk m c 2 t) (iblk m c 1 t) (iblk m c 3 t) (X0_4 m c t) (X0_5 m c t) (ix2 p l) = sumR m c (row t p) l := by
  have q := congr (congr (congr (congrArg sumOf (b4 m c t p l)) (branchF m c t p l)) (b5 m c t p l)) (branchS m c t p l)
  exact (pay9_apply _ _ _ _ _ _ p l).trans q

def place (y : S384x1024.Idx) : S4224x1024.Idx := ix2 (row t (y 0)) (y 1)
theorem place8 (y : S384x1024.Idx) : ((cfg0.win 8).blk t).view.emb y = place t y := by blk_ext [idx8, place, row]
theorem place10 (y : S384x1024.Idx) : ((cfg0.win 10).blk t).view.emb y = place t y := by blk_ext [idx10, place, row]
theorem place11 (y : S384x1024.Idx) : ((cfg0.win 11).blk t).view.emb y = place t y := by blk_ext [idx11, place, row]

def flat (y : S1024x384.Idx) : S1024x4224.Idx := ix2 (y 0) (row t (y 1))
theorem place9 (y : S1024x384.Idx) : ((cfg0.win 9).blk t).view.emb y = flat t y := by blk_ext [idx9, flat, row]

def thin (y : S512x384.Idx) : S512x4224.Idx := ix2 (y 0) (row t (y 1))
theorem place12 (y : S512x384.Idx) : ((cfg0.win 12).blk t).view.emb y = thin t y := by blk_ext [idx12, thin, row]
theorem place13 (y : S512x384.Idx) : ((cfg0.win 13).blk t).view.emb y = thin t y := by blk_ext [idx13, thin, row]

theorem final8 : (dats m 0 c).arrAt 8 cfg0.N
    = fun i => added (argP m c) (argF m c) (argS m c) (argWF m c) (argWS m c) (argU m c) (argH m c) (i 0) (i 1) := by
  refine (dats m 0 c).arrAt_eq_of_covers 8 _ (by decide +kernel) fun t hf y => ?_
  rw [place8]
  blk_simp
  rw [after0_8]
  unfold outsAt0
  frame_out
  have q := congrArg₂ (fun a b : EReal => a + b) (b7 m c t (y 0) (y 1))
    (Finset.sum_congr rfl fun (k : Fin 1024) (_ : k ∈ Finset.univ) => congrArg₂ (fun a b : EReal => a * b) (gated_eq m c t (y 0) k) (b6 m c t k (y 1)))
  exact (congrArg _ (eq_ix2 y)).trans ((pay1_apply _ _ _ (y 0) (y 1)).trans q)

theorem final9 : (dats m 0 c).arrAt 9 cfg0.N = fun i => sumR m c (i 1) (i 0) := by
  refine (dats m 0 c).arrAt_eq_of_covers 9 _ (by decide +kernel) fun t hf y => ?_
  rw [place9]
  blk_simp
  rw [after0_9]
  unfold outsAt0
  frame_out
  exact (congrArg _ (eq_ix2 y)).trans ((pay2_apply _ (y 0) (y 1)).trans (gated_eq m c t (y 1) (y 0)))

theorem final10 : (dats m 0 c).arrAt 10 cfg0.N = fun i => branch (argF m c) (argWF m c) (i 0) (i 1) := by
  refine (dats m 0 c).arrAt_eq_of_covers 10 _ (by decide +kernel) fun t hf y => ?_
  rw [place10]
  blk_simp
  rw [after0_10]
  unfold outsAt0
  frame_out
  exact (congrArg _ (eq_ix2 y)).trans (branchF m c t (y 0) (y 1))

theorem final11 : (dats m 0 c).arrAt 11 cfg0.N = fun i => branch (argS m c) (argWS m c) (i 0) (i 1) := by
  refine (dats m 0 c).arrAt_eq_of_covers 11 _ (by decide +kernel) fun t hf y => ?_
  rw [place11]
  blk_simp
  rw [after0_11]
  unfold outsAt0
  frame_out
  exact (congrArg _ (eq_ix2 y)).trans (branchS m c t (y 0) (y 1))

theorem final12 : (dats m 0 c).arrAt 12 cfg0.N = fun i => argF m c (ix2 (i 1) (i 0)) := by
  refine (dats m 0 c).arrAt_eq_of_covers 12 _ (by decide +kernel) fun t hf y => ?_
  rw [place12]
  blk_simp
  rw [after0_12]
  unfold outsAt0
  frame_out
  exact (congrArg _ (eq_ix2 y)).trans ((pay5_apply _ (y 0) (y 1)).trans (b0 m c t (y 1) (y 0)))

theorem final13 : (dats m 0 c).arrAt 13 cfg0.N = fun i => argS m c (ix2 (i 1) (i 0)) := by
  refine (dats m 0 c).arrAt_eq_of_covers 13 _ (by decide +kernel) fun t hf y => ?_
  rw [place13]
  blk_simp
  rw [after0_13]
  unfold outsAt0
  frame_out
  exact (congrArg _ (eq_ix2 y)).trans ((pay6_apply _ (y 0) (y 1)).trans (b1 m c t (y 1) (y 0)))

end Cert.GateFwdIdeal.Value
end
-- ==== Proof.GateFwdMatch.lean ====
/- The two mixers' gated sum: the reference's results are the kernel's. -/
module

public import proofs.«01_k».proof.Proof.GateFwdValue
public import proofs.«01_k».proof.Proof.Gen.GateFwdRefIdeal.Run
public import proofs.«01_k».proof.Proof.Gen.GateFwdRefIdeal.Read
public import proofs.«01_k».proof.Defs
public import Idealize.ShloMosaic.Lib.Claim

@[expose] public section

set_option maxRecDepth 2000

noncomputable section

namespace Cert.GateFwdMatch

open Cert.GateFwdRefIdeal Cert.GateFwdRefIdeal.Gen Cert.GateFwdRefIdeal.Read Cert.Common Cert.Sigmoid Cert.GateParts Idealize.ShloMosaic Idealize.ShloMosaic.TcCoe
open Idealize.SL.Sem
open Cert.GateFwdIdeal.Value (gated added)

variable (x0 : S4224x4360.Idx → EReal) (x1 x2 : S4224x512.Idx → EReal) (x3 x4 : S512x1024.Idx → EReal) (x5 : S1024x1024.Idx → EReal) (x6 : S4224x1024.Idx → EReal)

theorem v1_apply (r : Fin 4224) (l : Fin 1024) : val_main_v1 (F := Ideal) x0 (ix2 r l) = logit x0 gF r l := by
  rw [val_main_v1_apply, val_main_v0_apply]
  refine congrArg x0 ?_
  funext b; fin_cases b <;> exact Fin.ext (by simp [idx_main_v1, idx_main_v0, gF])

theorem v2_apply (r : Fin 4224) (l : Fin 1024) : val_main_v2 (F := Ideal) x0 (ix2 r l) = logit x0 gS r l := by
  rw [val_main_v2_apply, val_main_v0_apply]
  refine congrArg x0 ?_
  funext b; fin_cases b <;> exact Fin.ext (by simp [idx_main_v2, idx_main_v0, gS] <;> omega)

theorem v10_apply (r : Fin 4224) (l : Fin 1024) : val_main_v10 (F := Ideal) x0 (ix2 r l) = gate x0 gF r l := by
  unfold gate
  rw [← sig_eq]
  pointwise [val_main_v10, val_main_v9, val_main_cst_0, val_main_v8, val_main_v7, val_main_cst, val_main_v6, val_main_v5]
  rw [v1_apply]
  rfl

theorem v17_apply (r : Fin 4224) (l : Fin 1024) : val_main_v17 (F := Ideal) x0 (ix2 r l) = gate x0 gS r l := by
  unfold gate
  rw [← sig_eq]
  pointwise [val_main_v17, val_main_v16, val_main_cst_2, val_main_v15, val_main_v14, val_main_cst_1, val_main_v13, val_main_v12]
  rw [v2_apply]
  rfl

theorem v24_apply (r : Fin 4224) (l : Fin 1024) : val_main_v24 (F := Ideal) x1 x3 (ix2 r l) = branch x1 x3 r l := by
  pointwise [val_main_v24, val_main_v3]
  rfl

theorem v25_apply (r : Fin 4224) (l : Fin 1024) : val_main_v25 (F := Ideal) x2 x4 (ix2 r l) = branch x2 x4 r l := by
  pointwise [val_main_v25, val_main_v4]
  rfl

theorem v19_apply (r : Fin 4224) (l : Fin 1024) : val_main_v19 (F := Ideal) x0 x1 x2 x3 x4 (ix2 r l) = gated x0 x1 x2 x3 x4 r l := by
  rw [val_main_v19_apply, val_main_v11_apply, val_main_v18_apply, v10_apply, v17_apply]
  exact congrArg₂ (fun a b : EReal => gate x0 gF r l * a + gate x0 gS r l * b) (v24_apply x1 x3 r l) (v25_apply x2 x4 r l)

theorem v21_apply (r : Fin 4224) (l : Fin 1024) : val_main_v21 (F := Ideal) x0 x1 x2 x3 x4 x5 x6 (ix2 r l) = added x0 x1 x2 x3 x4 x5 x6 r l := by
  pointwise [val_main_v21, val_main_v20]
  exact congrArg (x6 (ix2 r l) + ·) (Finset.sum_congr rfl fun k _ => congrArg (· * x5 (ix2 k l)) (v19_apply x0 x1 x2 x3 x4 r k))

theorem v23_apply (l : Fin 1024) (r : Fin 4224) : val_main_v23 (F := Ideal) x0 x1 x2 x3 x4 (ix2 l r) = gated x0 x1 x2 x3 x4 r l := by
  pointwise [val_main_v23, val_main_v22]
  exact v19_apply x0 x1 x2 x3 x4 r l

theorem v27_apply (k : Fin 512) (r : Fin 4224) : val_main_v27 (F := Ideal) x1 (ix2 k r) = x1 (ix2 r k) := by
  pointwise [val_main_v27, val_main_v26]

theorem v29_apply (k : Fin 512) (r : Fin 4224) : val_main_v29 (F := Ideal) x2 (ix2 k r) = x2 (ix2 r k) := by
  pointwise [val_main_v29, val_main_v28]

/-! ### The results -/

theorem v21_fun : val_main_v21 (F := Ideal) x0 x1 x2 x3 x4 x5 x6 = fun i => added x0 x1 x2 x3 x4 x5 x6 (i 0) (i 1) := by
  funext i
  exact (congrArg _ (eq_ix2 i)).trans (v21_apply x0 x1 x2 x3 x4 x5 x6 (i 0) (i 1))

theorem v23_fun : val_main_v23 (F := Ideal) x0 x1 x2 x3 x4 = fun i => gated x0 x1 x2 x3 x4 (i 1) (i 0) := by
  funext i
  exact (congrArg _ (eq_ix2 i)).trans (v23_apply x0 x1 x2 x3 x4 (i 0) (i 1))

theorem v24_fun : val_main_v24 (F := Ideal) x1 x3 = fun i => branch x1 x3 (i 0) (i 1) := by
  funext i
  exact (congrArg _ (eq_ix2 i)).trans (v24_apply x1 x3 (i 0) (i 1))

theorem v25_fun : val_main_v25 (F := Ideal) x2 x4 = fun i => branch x2 x4 (i 0) (i 1) := by
  funext i
  exact (congrArg _ (eq_ix2 i)).trans (v25_apply x2 x4 (i 0) (i 1))

theorem v27_fun : val_main_v27 (F := Ideal) x1 = fun i => x1 (ix2 (i 1) (i 0)) := by
  funext i
  exact (congrArg _ (eq_ix2 i)).trans (v27_apply x1 (i 0) (i 1))

theorem v29_fun : val_main_v29 (F := Ideal) x2 = fun i => x2 (ix2 (i 1) (i 0)) := by
  funext i
  exact (congrArg _ (eq_ix2 i)).trans (v29_apply x2 (i 0) (i 1))

/-! ### The claims -/

theorem frame_ref : Cert.quiescent_GateFwdRefIdeal := fun m ρ _ =>
  (θ_run Cert.GateFwdRefIdeal.defs _ _).mono (fun _ h => ⟨fun c => (h c).2.2.2.2.2.2, sem_eq_zero_of_no_sems (by decide) _⟩)
    (Cert.GateFwdRefIdeal.Value.run m ρ)

set_option maxRecDepth 65536 in
open Cert.GateFwdIdeal.Value in
theorem algebraic : Cert.algebraic_GateFwdIdeal_GateFwdRefIdeal := by
  intro m g m' g' hp hagree
  refine ⟨fun c i => added (argP m c) (argF m c) (argS m c) (argWF m c) (argWS m c) (argU m c) (argH m c) (i 0) (i 1), fun c i => sumR m c (i 1) (i 0),
    fun c i => branch (argF m c) (argWF m c) (i 0) (i 1), fun c i => branch (argS m c) (argWS m c) (i 0) (i 1),
    fun c i => argF m c (ix2 (i 1) (i 0)), fun c i => argS m c (ix2 (i 1) (i 0)),
    (θ_run Cert.GateFwdIdeal.defs _ _).mono (fun r h c => ?_) (run_blocks m g),
    (θ_run Cert.GateFwdRefIdeal.defs _ _).mono (fun r h c => ?_) (Cert.GateFwdRefIdeal.Value.run m' g')⟩
  · obtain ⟨h8, h9, h10, h11, h12, h13, ha⟩ := h c
    exact ⟨h8.trans (final8 m c), h9.trans (final9 m c), h10.trans (final10 m c), h11.trans (final11 m c), h12.trans (final12 m c),
      h13.trans (final13 m c), ha⟩
  · obtain ⟨h8, h9, h10, h11, h12, h13, ha⟩ := h c
    obtain ⟨e0, e1, e2, e3, e4, e5, e6⟩ := hagree c
    refine ⟨h8.trans ((val_main_v21_eq _ _ _ _ _ _ _).trans ?_), h9.trans ((val_main_v23_eq _ _ _ _ _).trans ?_), h10.trans ((val_main_v24_eq _ _).trans ?_),
      h11.trans ((val_main_v25_eq _ _).trans ?_), h12.trans ((val_main_v27_eq _).trans ?_), h13.trans ((val_main_v29_eq _).trans ?_), ha⟩
    · rw [e0, e1, e2, e3, e4, e5, e6]; exact v21_fun _ _ _ _ _ _ _
    · rw [e0, e1, e2, e3, e4]; exact v23_fun _ _ _ _ _
    · rw [e1, e3]; exact v24_fun _ _
    · rw [e2, e4]; exact v25_fun _ _
    · rw [e1]; exact v27_fun _
    · rw [e2]; exact v29_fun _

end Cert.GateFwdMatch
end
-- ==== Proof.MmResValue.lean ====
/- The feed-forward's second product added to the residual: what the kernel's result holds. -/
module

public import proofs.«01_k».proof.Proof.Gen.MmResIdeal.Value
public import proofs.«01_k».proof.Proof.Common
public import Idealize.ShloMosaic.Lib.Claim

@[expose] public section

set_option maxRecDepth 2000

noncomputable section

namespace Cert.MmResIdeal.Value

open Cert.MmResIdeal Cert.MmResIdeal.Gen Cert.Common Idealize.ShloMosaic Idealize.ShloMosaic.TcCoe Idealize.SL.Sem

/-- The residual and half the product. -/
def added (s : S4224x2816.Idx → EReal) (w : S2816x1024.Idx → EReal) (h : S4224x1024.Idx → EReal) (r : Fin 4224) (l : Fin 1024) : EReal :=
  h (ix2 r l) + Ideal.ofBits .f32 0x3F000000#32 * ∑ k : Fin 2816, s (ix2 r k) * w (ix2 k l)

variable (m : (ℓ : Loc nD τ sig) → Buf (Elt Ideal) ℓ) (ρ : Dev nD → PrngReg)

theorem pt (t : Fin cfg0.N) : t.val < 11 := Nat.lt_of_lt_of_eq t.isLt N_0

def row (t : Fin cfg0.N) (q : Fin 384) : Fin 4224 := ⟨384 * t.val + q.val, by have := pt t; omega⟩

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

variable (c : Dev nD) (t : Fin cfg0.N)

theorem pay1_apply (h : Vec Ideal S384x1024 .f32) (s : Vec Ideal S384x2816 .bf16) (w : Vec Ideal S2816x1024 .bf16) (p : Fin 384) (l : Fin 1024) :
    k0_pay1 (F := Ideal) h s w (ix2 p l) = h (ix2 p l) + Ideal.ofBits .f32 0x3F000000#32 * ∑ k : Fin 2816, s (ix2 p k) * w (ix2 k l) := by
  pointwise [k0_pay1]

/-! ### The blocks a point reads -/

abbrev argS : S4224x2816.Idx → EReal := m ((c : Thread nD τ).loc main_arg0)
abbrev argW : S2816x1024.Idx → EReal := m ((c : Thread nD τ).loc main_arg1)
abbrev argH : S4224x1024.Idx → EReal := m ((c : Thread nD τ).loc main_arg2)

theorem V0_apply (i : S4224x2816.Idx) : V m c main_v0 i = argS m c i := by
  entry_read
  rfl

theorem V1_apply (i : S2816x1024.Idx) : V m c main_v1 i = argW m c i := by
  entry_read
  rfl

theorem b0 (p : Fin 384) (k : Fin 2816) : View.ld (iblk m c 0 t) r0_1 (ix2 p k) = argS m c (ix2 (row t p) k) :=
  (View.ld_unit_apply_of _ _ _ _ _ (ix2 p k) (by intro a; fin_cases a <;> simp)).trans
    ((V0_apply m c _).trans (congrArg (argS m c) (by blk_ext [idx0, row] : ((cfg0.win 0).blk t).view.emb (ix2 p k) = ix2 (row t p) k)))

theorem b1 (k : Fin 2816) (l : Fin 1024) : View.ld (iblk m c 1 t) r0_2 (ix2 k l) = argW m c (ix2 k l) :=
  (View.ld_unit_apply_of _ _ _ _ _ (ix2 k l) (by intro a; fin_cases a <;> simp)).trans
    ((V1_apply m c _).trans (congrArg (argW m c) (by blk_ext [idx1] : ((cfg0.win 1).blk t).view.emb (ix2 k l) = ix2 k l)))

theorem b2 (p : Fin 384) (l : Fin 1024) : View.ld (iblk m c 2 t) r0_0 (ix2 p l) = argH m c (ix2 (row t p) l) :=
  (View.ld_unit_apply_of _ _ _ _ _ (ix2 p l) (by intro a; fin_cases a <;> simp)).trans (by blk_ext! [iblk, V, idx2, row])

/-! ### The result -/

def place (y : S384x1024.Idx) : S4224x1024.Idx := ix2 (row t (y 0)) (y 1)
theorem place3 (y : S384x1024.Idx) : ((cfg0.win 3).blk t).view.emb y = place t y := by blk_ext [idx3, place, row]

theorem final3 : (dats m 0 c).arrAt 3 cfg0.N = fun i => added (argS m c) (argW m c) (argH m c) (i 0) (i 1) := by
  refine (dats m 0 c).arrAt_eq_of_covers 3 _ (by decide +kernel) fun t hf y => ?_
  rw [place3]
  blk_simp
  rw [after0_3]
  unfold out0_3
  refine (congrFun (View.canon_unit_zero (by funext a; fin_cases a <;> rfl) _ _) y).trans ?_
  have q := congrArg₂ (fun a b : EReal => a + Ideal.ofBits .f32 0x3F000000#32 * b) (b2 m c t (y 0) (y 1))
    (Finset.sum_congr rfl fun (k : Fin 2816) (_ : k ∈ Finset.univ) => congrArg₂ (fun a b : EReal => a * b) (b0 m c t (y 0) k) (b1 m c t k (y 1)))
  exact (congrArg _ (eq_ix2 y)).trans ((pay1_apply _ _ _ (y 0) (y 1)).trans q)

end Cert.MmResIdeal.Value
end
-- ==== Proof.MmResMatch.lean ====
/- The feed-forward's second product added to the residual: the reference's result is the kernel's. -/
module

public import proofs.«01_k».proof.Proof.MmResValue
public import proofs.«01_k».proof.Proof.Gen.MmResRefIdeal.Run
public import proofs.«01_k».proof.Proof.Gen.MmResRefIdeal.Read
public import proofs.«01_k».proof.Defs
public import Idealize.ShloMosaic.Lib.Claim

@[expose] public section

set_option maxRecDepth 2000

noncomputable section

namespace Cert.MmResMatch

open Cert.MmResRefIdeal Cert.MmResRefIdeal.Gen Cert.MmResRefIdeal.Read Cert.Common Idealize.ShloMosaic Idealize.ShloMosaic.TcCoe Idealize.SL.Sem
open Cert.MmResIdeal.Value (added)

variable (s : S4224x2816.Idx → EReal) (w : S2816x1024.Idx → EReal) (h : S4224x1024.Idx → EReal)

theorem v3_apply (r : Fin 4224) (l : Fin 1024) : val_main_v3 (F := Ideal) s w h (ix2 r l) = added s w h r l := by
  pointwise [val_main_v3, val_main_v2, val_main_v1, val_main_cst, val_main_v0]
  rfl

theorem v3_fun : val_main_v3 (F := Ideal) s w h = fun i => added s w h (i 0) (i 1) := by
  funext i
  exact (congrArg _ (eq_ix2 i)).trans (v3_apply s w h (i 0) (i 1))

/-! ### The claims -/

theorem frame_ref : Cert.quiescent_MmResRefIdeal := fun m ρ _ =>
  (θ_run Cert.MmResRefIdeal.defs _ _).mono (fun _ h => ⟨fun c => (h c).2, sem_eq_zero_of_no_sems (by decide) _⟩)
    (Cert.MmResRefIdeal.Value.run m ρ)

set_option maxRecDepth 65536 in
open Cert.MmResIdeal.Value in
theorem algebraic : Cert.algebraic_MmResIdeal_MmResRefIdeal := by
  intro m g m' g' hp hagree
  refine ⟨fun c i => added (argS m c) (argW m c) (argH m c) (i 0) (i 1),
    (θ_run Cert.MmResIdeal.defs _ _).mono (fun r h c => ?_) (run_blocks m g),
    (θ_run Cert.MmResRefIdeal.defs _ _).mono (fun r h c => ?_) (Cert.MmResRefIdeal.Value.run m' g')⟩
  · obtain ⟨h3, ha⟩ := h c
    exact ⟨h3.trans (final3 m c), ha⟩
  · obtain ⟨h3, ha⟩ := h c
    obtain ⟨e0, e1, e2⟩ := hagree c
    refine ⟨h3.trans ((val_main_v3_eq _ _ _).trans ?_), ha⟩
    rw [e0, e1, e2]; exact v3_fun _ _ _

end Cert.MmResMatch
end
-- ==== Proof.MmValue.lean ====
/- The gradient of the feed-forward's first weight: what the kernel's result holds. -/
module

public import proofs.«01_k».proof.Proof.Gen.MmIdeal.Value
public import proofs.«01_k».proof.Proof.Common
public import Idealize.ShloMosaic.Lib.Claim

@[expose] public section

set_option maxRecDepth 2000

noncomputable section

namespace Cert.MmIdeal.Value

open Cert.MmIdeal Cert.MmIdeal.Gen Cert.Common Idealize.ShloMosaic Idealize.ShloMosaic.TcCoe Idealize.SL.Sem

/-- The sum over the tokens of the input's entry times the cotangent's. -/
def grad (a : S4224x1024.Idx → EReal) (d : S4224x5632.Idx → EReal) (l : Fin 1024) (k : Fin 5632) : EReal :=
  ∑ r : Fin 4224, a (ix2 r l) * d (ix2 r k)

variable (m : (ℓ : Loc nD τ sig) → Buf (Elt Ideal) ℓ) (ρ : Dev nD → PrngReg)

theorem pt (t : Fin cfg0.N) : t.val < 22 := Nat.lt_of_lt_of_eq t.isLt N_0

def col (t : Fin cfg0.N) (q : Fin 256) : Fin 5632 := ⟨256 * t.val + q.val, by have := pt t; omega⟩

theorem idx0 : ∀ t : Fin cfg0.N, win0_0.index t = ![0, 0] := (by decide +kernel : ∀ t : Fin grid0.N, _)
theorem idx1 : ∀ t : Fin cfg0.N, win0_1.index t = ![t.val / 11, 0, t.val % 11] := (by decide +kernel : ∀ t : Fin grid0.N, _)
theorem idx2 : ∀ t : Fin cfg0.N, win0_2.index t = ![0, t.val] := (by decide +kernel : ∀ t : Fin grid0.N, _)

variable (c : Dev nD) (t : Fin cfg0.N)

theorem pay1_apply (x : Vec Ideal S1024x4224 .bf16) (d : Vec Ideal S1x4224x256 .bf16) (l : Fin 1024) (k : Fin 256) :
    k0_pay1 (F := Ideal) x d (ix2 l k) = ∑ r : Fin 4224, x (ix2 l r) * d (ix3 0 r k) := by
  pointwise [k0_pay1]

/-! ### The blocks a point reads -/

abbrev argA : S4224x1024.Idx → EReal := m ((c : Thread nD τ).loc main_arg0)
abbrev argD : S4224x5632.Idx → EReal := m ((c : Thread nD τ).loc main_arg2)

theorem V1_apply (l : Fin 1024) (r : Fin 4224) : V m c main_v1 (ix2 l r) = argA m c (ix2 r l) := by
  entry_read
  pointwise

theorem V4_apply (s : Fin 2) (r : Fin 4224) (k : Fin 2816) : V m c main_v4 (ix3 s r k) = argD m c (ix2 r ⟨s.val * 2816 + k.val, by omega⟩) := by
  entry_read
  pointwise

theorem b0 (l : Fin 1024) (r : Fin 4224) : View.ld (iblk m c 0 t) r0_0 (ix2 l r) = argA m c (ix2 r l) :=
  (View.ld_unit_apply_of _ _ _ _ _ (ix2 l r) (by intro a; fin_cases a <;> simp)).trans
    ((congrArg (V m c main_v1) (by blk_ext [idx0] : ((cfg0.win 0).blk t).view.emb (ix2 l r) = ix2 l r)).trans (V1_apply m c l r))

theorem b1 (r : Fin 4224) (k : Fin 256) : View.ld (iblk m c 1 t) r0_1 (ix3 0 r k) = argD m c (ix2 r (col t k)) :=
  (View.ld_unit_apply_of _ _ _ _ _ (ix3 0 r k) (by intro a; fin_cases a <;> simp)).trans
    ((congrArg (V m c main_v4) (by blk_ext [idx1] : ((cfg0.win 1).blk t).view.emb (ix3 0 r k)
        = ix3 ⟨t.val / 11, by have := pt t; omega⟩ r ⟨256 * (t.val % 11) + k.val, by omega⟩)).trans
      ((V4_apply m c _ r _).trans (congrArg (fun z => argD m c (ix2 r z))
        (Fin.ext (by show t.val / 11 * 2816 + (256 * (t.val % 11) + k.val) = 256 * t.val + k.val; omega)))))

/-! ### The result -/

def place (y : S1024x256.Idx) : S1024x5632.Idx := ix2 (y 0) (col t (y 1))
theorem place2 (y : S1024x256.Idx) : ((cfg0.win 2).blk t).view.emb y = place t y := by blk_ext [idx2, place, col]

theorem final2 : (dats m 0 c).arrAt 2 cfg0.N = fun i => grad (argA m c) (argD m c) (i 0) (i 1) := by
  refine (dats m 0 c).arrAt_eq_of_covers 2 _ (by decide +kernel) fun t hf y => ?_
  rw [place2]
  blk_simp
  rw [after0_2]
  unfold out0_2
  refine (congrFun (View.canon_unit_zero (by funext a; fin_cases a <;> rfl) _ _) y).trans ?_
  have q := Finset.sum_congr rfl fun (r : Fin 4224) (_ : r ∈ Finset.univ) =>
    congrArg₂ (fun a b : EReal => a * b) (b0 m c t (y 0) r) (b1 m c t r (y 1))
  exact (congrArg _ (eq_ix2 y)).trans ((pay1_apply _ _ (y 0) (y 1)).trans q)

end Cert.MmIdeal.Value
end
-- ==== Proof.MmMatch.lean ====
/- The gradient of the feed-forward's first weight: the reference's result is the kernel's. -/
module

public import proofs.«01_k».proof.Proof.MmValue
public import proofs.«01_k».proof.Proof.Gen.MmRefIdeal.Run
public import proofs.«01_k».proof.Proof.Gen.MmRefIdeal.Read
public import proofs.«01_k».proof.Defs
public import Idealize.ShloMosaic.Lib.Claim

@[expose] public section

set_option maxRecDepth 2000

noncomputable section

namespace Cert.MmMatch

open Cert.MmRefIdeal Cert.MmRefIdeal.Gen Cert.MmRefIdeal.Read Cert.Common Idealize.ShloMosaic Idealize.ShloMosaic.TcCoe Idealize.SL.Sem
open Cert.MmIdeal.Value (grad)

variable (a : S4224x1024.Idx → EReal) (d : S4224x5632.Idx → EReal)

theorem v3_apply (l : Fin 1024) (k : Fin 5632) : val_main_v3 (F := Ideal) a d (ix2 l k) = grad a d l k := by
  pointwise [val_main_v3, val_main_v2, val_main_v1]
  exact Finset.sum_congr rfl fun r _ => mul_comm _ _

theorem v3_fun : val_main_v3 (F := Ideal) a d = fun i => grad a d (i 0) (i 1) := by
  funext i
  exact (congrArg _ (eq_ix2 i)).trans (v3_apply a d (i 0) (i 1))

/-! ### The claims -/

theorem frame_ref : Cert.quiescent_MmRefIdeal := fun m ρ _ =>
  (θ_run Cert.MmRefIdeal.defs _ _).mono (fun _ h => ⟨fun c => (h c).2, sem_eq_zero_of_no_sems (by decide) _⟩)
    (Cert.MmRefIdeal.Value.run m ρ)

set_option maxRecDepth 65536 in
open Cert.MmIdeal.Value in
theorem algebraic : Cert.algebraic_MmIdeal_MmRefIdeal := by
  intro m g m' g' hp hagree
  refine ⟨fun c i => grad (argA m c) (argD m c) (i 0) (i 1),
    (θ_run Cert.MmIdeal.defs _ _).mono (fun r h c => ?_) (run_blocks m g),
    (θ_run Cert.MmRefIdeal.defs _ _).mono (fun r h c => ?_) (Cert.MmRefIdeal.Value.run m' g')⟩
  · obtain ⟨h2, ha⟩ := h c
    exact ⟨h2.trans (final2 m c), ha⟩
  · obtain ⟨h2, ha⟩ := h c
    obtain ⟨e0, e1, e2⟩ := hagree c
    refine ⟨h2.trans ((val_main_v3_eq _ _).trans ?_), ha⟩
    rw [e0, e2]; exact v3_fun _ _

end Cert.MmMatch
end
-- ==== Proof.AdamValue.lean ====
/- The optimiser's step: what the kernel's three results hold. -/
module

public import proofs.«01_k».proof.Proof.Gen.AdamIdeal.Value
public import proofs.«01_k».proof.Proof.Common
public import Idealize.ShloMosaic.Lib.Claim

@[expose] public section

set_option maxRecDepth 2000

noncomputable section

namespace Cert.AdamIdeal.Value

open Cert.AdamIdeal Cert.AdamIdeal.Gen Cert.Common Idealize.ShloMosaic Idealize.ShloMosaic.TcCoe Idealize.SL.Sem

/-! ### One entry's step -/

/-- The first moment's running mean. -/
def mean1 (g m : EReal) : EReal := Ideal.ofBits .f32 0x3F666666#32 * m + Ideal.ofBits .f32 0x3DCCCCCD#32 * g

/-- The second moment's. -/
def mean2 (g v : EReal) : EReal := Ideal.ofBits .f32 0x3F7FBE77#32 * v + Ideal.ofBits .f32 0x3A83126F#32 * (g * g)

/-- What is added to the weight. -/
def step (w g m v : EReal) : EReal :=
  Ideal.ofBits .f32 0xBA83126F#32 * (Ideal.div (Ideal.div (mean1 g m) (Ideal.ofBits .f32 0x3F26BD02#32))
      (Ideal.sqrt (Ideal.div (mean2 g v) (Ideal.ofBits .f32 0x3C231ACC#32)) + Ideal.ofBits .f32 0x322BCC77#32)
    + Ideal.ofBits .f32 0x3C23D70A#32 * w)

variable (m : (ℓ : Loc nD τ sig) → Buf (Elt Ideal) ℓ) (ρ : Dev nD → PrngReg)

theorem pt (t : Fin cfg0.N) : t.val < 8 := Nat.lt_of_lt_of_eq t.isLt N_0

/-- A point's entry: layer, row and column. -/
def at3 (t : Fin cfg0.N) (p : Fin 256) (l : Fin 1408) : S2x1024x1408.Idx :=
  ix3 ⟨t.val / 4, by have := pt t; omega⟩ ⟨256 * (t.val % 4) + p.val, by omega⟩ l

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![t.val / 4, t.val % 4, 0] := (by decide +kernel : ∀ t : Fin grid0.N, _)
theorem idx3 : ∀ t : Fin cfg0.N, win0_3.index t = ![t.val / 4, t.val % 4, 0] := (by decide +kernel : ∀ t : Fin grid0.N, _)
theorem idx4 : ∀ t : Fin cfg0.N, win0_4.index t = ![t.val / 4, t.val % 4, 0] := (by decide +kernel : ∀ t : Fin grid0.N, _)
theorem idx5 : ∀ t : Fin cfg0.N, win0_5.index t = ![t.val / 4, t.val % 4, 0] := (by decide +kernel : ∀ t : Fin grid0.N, _)
theorem idx6 : ∀ t : Fin cfg0.N, win0_6.index t = ![t.val / 4, t.val % 4, 0] := (by decide +kernel : ∀ t : Fin grid0.N, _)

variable (c : Dev nD) (t : Fin cfg0.N)

/-! ### The payloads at an index -/

theorem pay2_apply (g x : Vec Ideal S1x256x1408 .f32) (p : Fin 256) (l : Fin 1408) :
    k0_pay2 (F := Ideal) (k0_pay5 (F := Ideal) g x) (ix3 0 p l) = mean1 (g (ix3 0 p l)) (x (ix3 0 p l)) := by
  pointwise [k0_pay2, k0_pay5, k0_pay4]
  rfl

theorem pay3_apply (g x : Vec Ideal S1x256x1408 .f32) (p : Fin 256) (l : Fin 1408) :
    k0_pay3 (F := Ideal) (k0_pay6 (F := Ideal) g x) (ix3 0 p l) = mean2 (g (ix3 0 p l)) (x (ix3 0 p l)) := by
  pointwise [k0_pay3, k0_pay6, k0_pay4]
  rfl

theorem pay1_apply (g x v w : Vec Ideal S1x256x1408 .f32) (p : Fin 256) (l : Fin 1408) :
    k0_pay1 (F := Ideal) (k0_pay7 (F := Ideal) g x v w) (ix3 0 p l) = step (w (ix3 0 p l)) (g (ix3 0 p l)) (x (ix3 0 p l)) (v (ix3 0 p l)) := by
  pointwise [k0_pay1, k0_pay7, k0_pay6, k0_pay5, k0_pay4]
  rfl

/-! ### The blocks a point reads -/

abbrev argW : S2x1024x1408.Idx → EReal := m ((c : Thread nD τ).loc main_arg0)
abbrev argG : S2x1024x1408.Idx → EReal := m ((c : Thread nD τ).loc main_arg1)
abbrev argM : S2x1024x1408.Idx → EReal := m ((c : Thread nD τ).loc main_arg2)
abbrev argV : S2x1024x1408.Idx → EReal := m ((c : Thread nD τ).loc main_arg3)

theorem b0 (p : Fin 256) (l : Fin 1408) : View.ld (iblk m c 0 t) r0_0 (ix3 0 p l) = argW m c (at3 t p l) :=
  (View.ld_unit_apply_of _ _ _ _ _ (ix3 0 p l) (by intro a; fin_cases a <;> simp)).trans (by blk_ext! [iblk, V, idx0, at3])
theorem b1 (p : Fin 256) (l : Fin 1408) : View.ld (iblk m c 1 t) r0_0 (ix3 0 p l) = argG m c (at3 t p l) :=
  (View.ld_unit_apply_of _ _ _ _ _ (ix3 0 p l) (by intro a; fin_cases a <;> simp)).trans (by blk_ext! [iblk, V, idx1, at3])
theorem b2 (p : Fin 256) (l : Fin 1408) : View.ld (iblk m c 2 t) r0_0 (ix3 0 p l) = argM m c (at3 t p l) :=
  (View.ld_unit_apply_of _ _ _ _ _ (ix3 0 p l) (by intro a; fin_cases a <;> simp)).trans (by blk_ext! [iblk, V, idx2, at3])
theorem b3 (p : Fin 256) (l : Fin 1408) : View.ld (iblk m c 3 t) r0_0 (ix3 0 p l) = argV m c (at3 t p l) :=
  (View.ld_unit_apply_of _ _ _ _ _ (ix3 0 p l) (by intro a; fin_cases a <;> simp)).trans (by blk_ext! [iblk, V, idx3, at3])

/-! ### The results -/

def place (y : S1x256x1408.Idx) : S2x1024x1408.Idx := at3 t (y 1) (y 2)
theorem place4 (y : S1x256x1408.Idx) : ((cfg0.win 4).blk t).view.emb y = place t y := by blk_ext [idx4, place, at3]
theorem place5 (y : S1x256x1408.Idx) : ((cfg0.win 5).blk t).view.emb y = place t y := by blk_ext [idx5, place, at3]
theorem place6 (y : S1x256x1408.Idx) : ((cfg0.win 6).blk t).view.emb y = place t y := by blk_ext [idx6, place, at3]

theorem eq_slab (y : S1x256x1408.Idx) : y = ix3 0 (y 1) (y 2) := by
  funext a
  fin_cases a
  · exact Fin.ext (by have : (y 0).val < 1 := (y 0).isLt; show (y 0).val = 0; omega)
  · rfl
  · rfl

theorem final4 : (dats m 0 c).arrAt 4 cfg0.N = fun i => step (argW m c i) (argG m c i) (argM m c i) (argV m c i) := by
  refine (dats m 0 c).arrAt_eq_of_covers 4 _ (by decide +kernel) fun t hf y => ?_
  rw [place4]
  blk_simp
  rw [after0_4]
  unfold out0_4
  refine (congrFun (View.canon_unit_zero (by funext a; fin_cases a <;> rfl) _ _) y).trans ?_
  have q := congr (congr (congr (congrArg step (b0 m c t (y 1) (y 2))) (b1 m c t (y 1) (y 2))) (b2 m c t (y 1) (y 2))) (b3 m c t (y 1) (y 2))
  exact (congrArg _ (eq_slab y)).trans ((pay1_apply _ _ _ _ (y 1) (y 2)).trans q)

theorem final5 : (dats m 0 c).arrAt 5 cfg0.N = fun i => mean1 (argG m c i) (argM m c i) := by
  refine (dats m 0 c).arrAt_eq_of_covers 5 _ (by decide +kernel) fun t hf y => ?_
  rw [place5]
  blk_simp
  rw [after0_5]
  unfold out0_5
  refine (congrFun (View.canon_unit_zero (by funext a; fin_cases a <;> rfl) _ _) y).trans ?_
  have q := congr (congrArg mean1 (b1 m c t (y 1) (y 2))) (b2 m c t (y 1) (y 2))
  exact (congrArg _ (eq_slab y)).trans ((pay2_apply _ _ (y 1) (y 2)).trans q)

theorem final6 : (dats m 0 c).arrAt 6 cfg0.N = fun i => mean2 (argG m c i) (argV m c i) := by
  refine (dats m 0 c).arrAt_eq_of_covers 6 _ (by decide +kernel) fun t hf y => ?_
  rw [place6]
  blk_simp
  rw [after0_6]
  unfold out0_6
  refine (congrFun (View.canon_unit_zero (by funext a; fin_cases a <;> rfl) _ _) y).trans ?_
  have q := congr (congrArg mean2 (b1 m c t (y 1) (y 2))) (b3 m c t (y 1) (y 2))
  exact (congrArg _ (eq_slab y)).trans ((pay3_apply _ _ (y 1) (y 2)).trans q)

end Cert.AdamIdeal.Value
end
-- ==== Proof.AdamMatch.lean ====
/- The optimiser's step: the reference's three results are the kernel's. -/
module

public import proofs.«01_k».proof.Proof.AdamValue
public import proofs.«01_k».proof.Proof.Gen.AdamRefIdeal.Run
public import proofs.«01_k».proof.Proof.Gen.AdamRefIdeal.Read
public import proofs.«01_k».proof.Defs
public import Idealize.ShloMosaic.Lib.Claim

@[expose] public section

set_option maxRecDepth 2000

noncomputable section

namespace Cert.AdamMatch

open Cert.AdamRefIdeal Cert.AdamRefIdeal.Gen Cert.AdamRefIdeal.Read Cert.Common Idealize.ShloMosaic Idealize.ShloMosaic.TcCoe Idealize.SL.Sem
open Cert.AdamIdeal.Value (mean1 mean2 step)

variable (w g x v : S2x1024x1408.Idx → EReal)

theorem v4_fun : val_main_v4 (F := Ideal) g x = fun i => mean1 (g i) (x i) := by
  funext i
  rw [val_main_v4_apply, val_main_v1_apply, val_main_v0_apply, val_main_v3_apply, val_main_v2_apply]
  rfl

theorem v10_fun : val_main_v10 (F := Ideal) g v = fun i => mean2 (g i) (v i) := by
  funext i
  rw [val_main_v10_apply, val_main_v6_apply, val_main_v5_apply, val_main_v9_apply, val_main_v8_apply, val_main_v7_apply]
  rfl

theorem v23_fun : val_main_v23 (F := Ideal) w g x v = fun i => step (w i) (g i) (x i) (v i) := by
  funext i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, v4_fun, v10_fun]
  rfl

/-! ### The claims -/

theorem frame_ref : Cert.quiescent_AdamRefIdeal := fun m ρ _ =>
  (θ_run Cert.AdamRefIdeal.defs _ _).mono (fun _ h => ⟨fun c => (h c).2.2.2, sem_eq_zero_of_no_sems (by decide) _⟩)
    (Cert.AdamRefIdeal.Value.run m ρ)

set_option maxRecDepth 65536 in
open Cert.AdamIdeal.Value in
theorem algebraic : Cert.algebraic_AdamIdeal_AdamRefIdeal := by
  intro m g m' g' hp hagree
  refine ⟨fun c i => step (argW m c i) (argG m c i) (argM m c i) (argV m c i), fun c i => mean1 (argG m c i) (argM m c i),
    fun c i => mean2 (argG m c i) (argV m c i),
    (θ_run Cert.AdamIdeal.defs _ _).mono (fun r h c => ?_) (run_blocks m g),
    (θ_run Cert.AdamRefIdeal.defs _ _).mono (fun r h c => ?_) (Cert.AdamRefIdeal.Value.run m' g')⟩
  · obtain ⟨h4, h5, h6, ha⟩ := h c
    exact ⟨h4.trans (final4 m c), h5.trans (final5 m c), h6.trans (final6 m c), ha⟩
  · obtain ⟨h4, h5, h6, ha⟩ := h c
    obtain ⟨e0, e1, e2, e3⟩ := hagree c
    refine ⟨h4.trans ((val_main_v23_eq _ _ _ _).trans ?_), h5.trans ((val_main_v4_eq _ _).trans ?_), h6.trans ((val_main_v10_eq _ _).trans ?_), ha⟩
    · rw [e0, e1, e2, e3]; exact v23_fun _ _ _ _
    · rw [e1, e2]; exact v4_fun _ _
    · rw [e1, e3]; exact v10_fun _ _

end Cert.AdamMatch
end
-- ==== Proof.lean ====
module

public import proofs.«01_k».proof.Defs
public import proofs.«01_k».proof.Proof.Gen.Loss.Frame
public import proofs.«01_k».proof.Proof.Gen.LossIdeal.Frame
public import proofs.«01_k».proof.Proof.LossMatch
public import proofs.«01_k».proof.Proof.Gen.FfnIn.Frame
public import proofs.«01_k».proof.Proof.Gen.FfnInIdeal.Frame
public import proofs.«01_k».proof.Proof.FfnInMatch
public import proofs.«01_k».proof.Proof.Gen.Pre_finite_ffnin
public import proofs.«01_k».proof.Proof.Gen.MixIn.Frame
public import proofs.«01_k».proof.Proof.Gen.MixInIdeal.Frame
public import proofs.«01_k».proof.Proof.MixInMatch
public import proofs.«01_k».proof.Proof.Gen.Pre_finite_mixin
public import proofs.«01_k».proof.Proof.FoxFrame
public import proofs.«01_k».proof.Proof.FoxMatch
public import proofs.«01_k».proof.Proof.Gen.Pre_finite_foxbwd
public import proofs.«01_k».proof.Proof.Gen.FfnMid.Frame
public import proofs.«01_k».proof.Proof.Gen.FfnMidIdeal.Frame
public import proofs.«01_k».proof.Proof.FfnMidMatch
public import proofs.«01_k».proof.Proof.Gen.Pre_finite_ffnmid
public import proofs.«01_k».proof.Proof.Gen.GateBwd.Frame
public import proofs.«01_k».proof.Proof.Gen.GateBwdIdeal.Frame
public import proofs.«01_k».proof.Proof.GateMatch
public import proofs.«01_k».proof.Proof.Gen.RmsFwd.Frame
public import proofs.«01_k».proof.Proof.Gen.RmsFwdIdeal.Frame
public import proofs.«01_k».proof.Proof.RmsFwdMatch
public import proofs.«01_k».proof.Proof.Gen.FfnFwd.Frame
public import proofs.«01_k».proof.Proof.Gen.FfnFwdIdeal.Frame
public import proofs.«01_k».proof.Proof.FfnFwdMatch
public import proofs.«01_k».proof.Proof.Gen.GateFwd.Frame
public import proofs.«01_k».proof.Proof.Gen.GateFwdIdeal.Frame
public import proofs.«01_k».proof.Proof.GateFwdMatch
public import proofs.«01_k».proof.Proof.Gen.MmRes.Frame
public import proofs.«01_k».proof.Proof.Gen.MmResIdeal.Frame
public import proofs.«01_k».proof.Proof.MmResMatch
public import proofs.«01_k».proof.Proof.Gen.Mm.Frame
public import proofs.«01_k».proof.Proof.Gen.MmIdeal.Frame
public import proofs.«01_k».proof.Proof.MmMatch
public import proofs.«01_k».proof.Proof.Gen.Adam.Frame
public import proofs.«01_k».proof.Proof.Gen.AdamIdeal.Frame
public import proofs.«01_k».proof.Proof.AdamMatch
public import Idealize.ShloMosaic.Adequacy
public import Idealize.ShloMosaic.Init

@[expose] public section

noncomputable section

namespace Cert.Proof

open Idealize.ShloMosaic Idealize.SL.Sem

theorem claim : Cert.Claim :=
  ⟨Cert.Loss.Gen.facts,
    Cert.LossIdeal.Gen.facts,
    Cert.LossRefIdeal.Gen.facts,
    Cert.FfnIn.Gen.facts,
    Cert.FfnInIdeal.Gen.facts,
    Cert.FfnInRefIdeal.Gen.facts,
    Cert.MixIn.Gen.facts,
    Cert.MixInIdeal.Gen.facts,
    Cert.MixInRefIdeal.Gen.facts,
    Cert.FoxBwd.Gen.facts,
    Cert.FoxBwdIdeal.Gen.facts,
    Cert.FoxBwdRefIdeal.Gen.facts,
    Cert.FfnMid.Gen.facts,
    Cert.FfnMidIdeal.Gen.facts,
    Cert.FfnMidRefIdeal.Gen.facts,
    Cert.GateBwd.Gen.facts,
    Cert.GateBwdIdeal.Gen.facts,
    Cert.GateBwdRefIdeal.Gen.facts,
    Cert.RmsFwd.Gen.facts,
    Cert.RmsFwdIdeal.Gen.facts,
    Cert.RmsFwdRefIdeal.Gen.facts,
    Cert.FfnFwd.Gen.facts,
    Cert.FfnFwdIdeal.Gen.facts,
    Cert.FfnFwdRefIdeal.Gen.facts,
    Cert.GateFwd.Gen.facts,
    Cert.GateFwdIdeal.Gen.facts,
    Cert.GateFwdRefIdeal.Gen.facts,
    Cert.MmRes.Gen.facts,
    Cert.MmResIdeal.Gen.facts,
    Cert.MmResRefIdeal.Gen.facts,
    Cert.Mm.Gen.facts,
    Cert.MmIdeal.Gen.facts,
    Cert.MmRefIdeal.Gen.facts,
    Cert.Adam.Gen.facts,
    Cert.AdamIdeal.Gen.facts,
    Cert.AdamRefIdeal.Gen.facts,
    Cert.Pre_finite_ffnin.Gen.facts,
    Cert.Pre_finite_mixin.Gen.facts,
    Cert.Pre_finite_foxbwd.Gen.facts,
    Cert.Pre_finite_ffnmid.Gen.facts,
    fun m ρ _ => Cert.Loss.Gen.frame m ρ,
    fun m ρ _ => Cert.LossIdeal.Gen.frame m ρ,
    Cert.LossMatch.frame_ref,
    fun m ρ _ => Cert.FfnIn.Gen.frame m ρ,
    fun m ρ _ => Cert.FfnInIdeal.Gen.frame m ρ,
    fun m ρ _ => Cert.FfnInIdeal.Gen.frame m ρ,
    Cert.FfnInMatch.frame_ref,
    Cert.FfnInMatch.frame_ref_pre,
    fun m ρ _ => Cert.MixIn.Gen.frame m ρ,
    fun m ρ _ => Cert.MixInIdeal.Gen.frame m ρ,
    fun m ρ _ => Cert.MixInIdeal.Gen.frame m ρ,
    Cert.MixInMatch.frame_ref,
    Cert.MixInMatch.frame_ref_pre,
    Cert.Fox.frame_bits,
    Cert.Fox.frame_ideal,
    Cert.FoxMatch.frame_pre,
    Cert.FoxMatch.frame_ref,
    Cert.FoxMatch.frame_ref_pre,
    fun m ρ _ => Cert.FfnMid.Gen.frame m ρ,
    fun m ρ _ => Cert.FfnMidIdeal.Gen.frame m ρ,
    fun m ρ _ => Cert.FfnMidIdeal.Gen.frame m ρ,
    Cert.FfnMidMatch.frame_ref,
    Cert.FfnMidMatch.frame_ref_pre,
    fun m ρ _ => Cert.GateBwd.Gen.frame m ρ,
    fun m ρ _ => Cert.GateBwdIdeal.Gen.frame m ρ,
    Cert.GateMatch.frame_ref,
    fun m ρ _ => Cert.RmsFwd.Gen.frame m ρ,
    fun m ρ _ => Cert.RmsFwdIdeal.Gen.frame m ρ,
    Cert.RmsFwdMatch.frame_ref,
    fun m ρ _ => Cert.FfnFwd.Gen.frame m ρ,
    fun m ρ _ => Cert.FfnFwdIdeal.Gen.frame m ρ,
    Cert.FfnFwdMatch.frame_ref,
    fun m ρ _ => Cert.GateFwd.Gen.frame m ρ,
    fun m ρ _ => Cert.GateFwdIdeal.Gen.frame m ρ,
    Cert.GateFwdMatch.frame_ref,
    fun m ρ _ => Cert.MmRes.Gen.frame m ρ,
    fun m ρ _ => Cert.MmResIdeal.Gen.frame m ρ,
    Cert.MmResMatch.frame_ref,
    fun m ρ _ => Cert.Mm.Gen.frame m ρ,
    fun m ρ _ => Cert.MmIdeal.Gen.frame m ρ,
    Cert.MmMatch.frame_ref,
    fun m ρ _ => Cert.Adam.Gen.frame m ρ,
    fun m ρ _ => Cert.AdamIdeal.Gen.frame m ρ,
    Cert.AdamMatch.frame_ref,
    trivial,
    Cert.LossMatch.algebraic,
    trivial,
    Cert.FfnInMatch.algebraic,
    trivial,
    Cert.MixInMatch.algebraic,
    Cert.FoxMatch.preserves,
    Cert.FoxMatch.algebraic,
    trivial,
    Cert.FfnMidMatch.algebraic,
    trivial,
    Cert.GateMatch.algebraic,
    trivial,
    Cert.RmsFwdMatch.algebraic,
    trivial,
    Cert.FfnFwdMatch.algebraic,
    trivial,
    Cert.GateFwdMatch.algebraic,
    trivial,
    Cert.MmResMatch.algebraic,
    trivial,
    Cert.MmMatch.algebraic,
    trivial,
    Cert.AdamMatch.algebraic⟩

end Cert.Proof
end
